-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_ScanConv (m : (ℓ : Loc Cert.ScanConv.nD Cert.ScanConv.τ Cert.ScanConv.sig) → Buf (Elt Bits) ℓ) : Prop :=
  True

def Pre_ScanConvIdeal (m : (ℓ : Loc Cert.ScanConvIdeal.nD Cert.ScanConvIdeal.τ Cert.ScanConvIdeal.sig) → Buf (Elt Ideal) ℓ) : Prop :=
  True

def Pre_ScanConvRefIdeal (m : (ℓ : Loc Cert.ScanConvRefIdeal.nD Cert.ScanConvRefIdeal.τ Cert.ScanConvRefIdeal.sig) → Buf (Elt Ideal) ℓ) : Prop :=
  True

def Pre_FfnConv (m : (ℓ : Loc Cert.FfnConv.nD Cert.FfnConv.τ Cert.FfnConv.sig) → Buf (Elt Bits) ℓ) : Prop :=
  True

def Pre_FfnConvIdeal (m : (ℓ : Loc Cert.FfnConvIdeal.nD Cert.FfnConvIdeal.τ Cert.FfnConvIdeal.sig) → Buf (Elt Ideal) ℓ) : Prop :=
  True

def Pre_FfnConvRefIdeal (m : (ℓ : Loc Cert.FfnConvRefIdeal.nD Cert.FfnConvRefIdeal.τ Cert.FfnConvRefIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownRefIdeal (m : (ℓ : Loc Cert.StepDownRefIdeal.nD Cert.StepDownRefIdeal.τ Cert.StepDownRefIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_ScanConv [hScanConv : Cert.ScanConv.Facts] : Prop :=
  ∀ (m : (ℓ : Loc Cert.ScanConv.nD Cert.ScanConv.τ Cert.ScanConv.sig) → Buf (Elt Bits) ℓ) (g : Dev Cert.ScanConv.nD → PrngReg), Pre_ScanConv m →
    θ_run (Cert.ScanConv.defs (F := Bits)) (onTc (τ := Cert.ScanConv.τ) (Cert.ScanConv.main (F := Bits))) ⟨m, fun _ => 0, g⟩ (fun r => (∀ c : Dev Cert.ScanConv.nD,
      r.2.mem ((c.tc : Thread Cert.ScanConv.nD Cert.ScanConv.τ).loc Cert.ScanConv.main_arg0) = m ((c.tc : Thread Cert.ScanConv.nD Cert.ScanConv.τ).loc Cert.ScanConv.main_arg0)
      ∧ r.2.mem ((c.tc : Thread Cert.ScanConv.nD Cert.ScanConv.τ).loc Cert.ScanConv.main_arg1) = m ((c.tc : Thread Cert.ScanConv.nD Cert.ScanConv.τ).loc Cert.ScanConv.main_arg1)
      ∧ r.2.mem ((c.tc : Thread Cert.ScanConv.nD Cert.ScanConv.τ).loc Cert.ScanConv.main_arg2) = m ((c.tc : Thread Cert.ScanConv.nD Cert.ScanConv.τ).loc Cert.ScanConv.main_arg2)
      ∧ r.2.mem ((c.tc : Thread Cert.ScanConv.nD Cert.ScanConv.τ).loc Cert.ScanConv.main_arg3) = m ((c.tc : Thread Cert.ScanConv.nD Cert.ScanConv.τ).loc Cert.ScanConv.main_arg3))
      ∧ r.2.sem = fun _ => 0)

def quiescent_ScanConvIdeal [hScanConvIdeal : Cert.ScanConvIdeal.Facts] : Prop :=
  ∀ (m : (ℓ : Loc Cert.ScanConvIdeal.nD Cert.ScanConvIdeal.τ Cert.ScanConvIdeal.sig) → Buf (Elt Ideal) ℓ) (g : Dev Cert.ScanConvIdeal.nD → PrngReg), Pre_ScanConvIdeal m →
    θ_run (Cert.ScanConvIdeal.defs (F := Ideal)) (onTc (τ := Cert.ScanConvIdeal.τ) (Cert.ScanConvIdeal.main (F := Ideal))) ⟨m, fun _ => 0, g⟩ (fun r => (∀ c : Dev Cert.ScanConvIdeal.nD,
      r.2.mem ((c.tc : Thread Cert.ScanConvIdeal.nD Cert.ScanConvIdeal.τ).loc Cert.ScanConvIdeal.main_arg0) = m ((c.tc : Thread Cert.ScanConvIdeal.nD Cert.ScanConvIdeal.τ).loc Cert.ScanConvIdeal.main_arg0)
      ∧ r.2.mem ((c.tc : Thread Cert.ScanConvIdeal.nD Cert.ScanConvIdeal.τ).loc Cert.ScanConvIdeal.main_arg1) = m ((c.tc : Thread Cert.ScanConvIdeal.nD Cert.ScanConvIdeal.τ).loc Cert.ScanConvIdeal.main_arg1)
      ∧ r.2.mem ((c.tc : Thread Cert.ScanConvIdeal.nD Cert.ScanConvIdeal.τ).loc Cert.ScanConvIdeal.main_arg2) = m ((c.tc : Thread Cert.ScanConvIdeal.nD Cert.ScanConvIdeal.τ).loc Cert.ScanConvIdeal.main_arg2)
      ∧ r.2.mem ((c.tc : Thread Cert.ScanConvIdeal.nD Cert.ScanConvIdeal.τ).loc Cert.ScanConvIdeal.main_arg3) = m ((c.tc : Thread Cert.ScanConvIdeal.nD Cert.ScanConvIdeal.τ).loc Cert.ScanConvIdeal.main_arg3))
      ∧ r.2.sem = fun _ => 0)

def quiescent_ScanConvRefIdeal [hScanConvRefIdeal : Cert.ScanConvRefIdeal.Facts] : Prop :=
  ∀ (m : (ℓ : Loc Cert.ScanConvRefIdeal.nD Cert.ScanConvRefIdeal.τ Cert.ScanConvRefIdeal.sig) → Buf (Elt Ideal) ℓ) (g : Dev Cert.ScanConvRefIdeal.nD → PrngReg), Pre_ScanConvRefIdeal m →
    θ_run (Cert.ScanConvRefIdeal.defs (F := Ideal)) (onTc (τ := Cert.ScanConvRefIdeal.τ) (Cert.ScanConvRefIdeal.main (F := Ideal))) ⟨m, fun _ => 0, g⟩ (fun r => (∀ c : Dev Cert.ScanConvRefIdeal.nD,
      r.2.mem ((c.tc : Thread Cert.ScanConvRefIdeal.nD Cert.ScanConvRefIdeal.τ).loc Cert.ScanConvRefIdeal.main_arg0) = m ((c.tc : Thread Cert.ScanConvRefIdeal.nD Cert.ScanConvRefIdeal.τ).loc Cert.ScanConvRefIdeal.main_arg0)
      ∧ r.2.mem ((c.tc : Thread Cert.ScanConvRefIdeal.nD Cert.ScanConvRefIdeal.τ).loc Cert.ScanConvRefIdeal.main_arg1) = m ((c.tc : Thread Cert.ScanConvRefIdeal.nD Cert.ScanConvRefIdeal.τ).loc Cert.ScanConvRefIdeal.main_arg1)
      ∧ r.2.mem ((c.tc : Thread Cert.ScanConvRefIdeal.nD Cert.ScanConvRefIdeal.τ).loc Cert.ScanConvRefIdeal.main_arg2) = m ((c.tc : Thread Cert.ScanConvRefIdeal.nD Cert.ScanConvRefIdeal.τ).loc Cert.ScanConvRefIdeal.main_arg2)
      ∧ r.2.mem ((c.tc : Thread Cert.ScanConvRefIdeal.nD Cert.ScanConvRefIdeal.τ).loc Cert.ScanConvRefIdeal.main_arg3) = m ((c.tc : Thread Cert.ScanConvRefIdeal.nD Cert.ScanConvRefIdeal.τ).loc Cert.ScanConvRefIdeal.main_arg3))
      ∧ r.2.sem = fun _ => 0)

def quiescent_FfnConv [hFfnConv : Cert.FfnConv.Facts] : Prop :=
  ∀ (m : (ℓ : Loc Cert.FfnConv.nD Cert.FfnConv.τ Cert.FfnConv.sig) → Buf (Elt Bits) ℓ) (g : Dev Cert.FfnConv.nD → PrngReg), Pre_FfnConv m →
    θ_run (Cert.FfnConv.defs (F := Bits)) (onTc (τ := Cert.FfnConv.τ) (Cert.FfnConv.main (F := Bits))) ⟨m, fun _ => 0, g⟩ (fun r => (∀ c : Dev Cert.FfnConv.nD,
      r.2.mem ((c.tc : Thread Cert.FfnConv.nD Cert.FfnConv.τ).loc Cert.FfnConv.main_arg0) = m ((c.tc : Thread Cert.FfnConv.nD Cert.FfnConv.τ).loc Cert.FfnConv.main_arg0)
      ∧ r.2.mem ((c.tc : Thread Cert.FfnConv.nD Cert.FfnConv.τ).loc Cert.FfnConv.main_arg1) = m ((c.tc : Thread Cert.FfnConv.nD Cert.FfnConv.τ).loc Cert.FfnConv.main_arg1)
      ∧ r.2.mem ((c.tc : Thread Cert.FfnConv.nD Cert.FfnConv.τ).loc Cert.FfnConv.main_arg2) = m ((c.tc : Thread Cert.FfnConv.nD Cert.FfnConv.τ).loc Cert.FfnConv.main_arg2)
      ∧ r.2.mem ((c.tc : Thread Cert.FfnConv.nD Cert.FfnConv.τ).loc Cert.FfnConv.main_arg3) = m ((c.tc : Thread Cert.FfnConv.nD Cert.FfnConv.τ).loc Cert.FfnConv.main_arg3))
      ∧ r.2.sem = fun _ => 0)

def quiescent_FfnConvIdeal [hFfnConvIdeal : Cert.FfnConvIdeal.Facts] : Prop :=
  ∀ (m : (ℓ : Loc Cert.FfnConvIdeal.nD Cert.FfnConvIdeal.τ Cert.FfnConvIdeal.sig) → Buf (Elt Ideal) ℓ) (g : Dev Cert.FfnConvIdeal.nD → PrngReg), Pre_FfnConvIdeal m →
    θ_run (Cert.FfnConvIdeal.defs (F := Ideal)) (onTc (τ := Cert.FfnConvIdeal.τ) (Cert.FfnConvIdeal.main (F := Ideal))) ⟨m, fun _ => 0, g⟩ (fun r => (∀ c : Dev Cert.FfnConvIdeal.nD,
      r.2.mem ((c.tc : Thread Cert.FfnConvIdeal.nD Cert.FfnConvIdeal.τ).loc Cert.FfnConvIdeal.main_arg0) = m ((c.tc : Thread Cert.FfnConvIdeal.nD Cert.FfnConvIdeal.τ).loc Cert.FfnConvIdeal.main_arg0)
      ∧ r.2.mem ((c.tc : Thread Cert.FfnConvIdeal.nD Cert.FfnConvIdeal.τ).loc Cert.FfnConvIdeal.main_arg1) = m ((c.tc : Thread Cert.FfnConvIdeal.nD Cert.FfnConvIdeal.τ).loc Cert.FfnConvIdeal.main_arg1)
      ∧ r.2.mem ((c.tc : Thread Cert.FfnConvIdeal.nD Cert.FfnConvIdeal.τ).loc Cert.FfnConvIdeal.main_arg2) = m ((c.tc : Thread Cert.FfnConvIdeal.nD Cert.FfnConvIdeal.τ).loc Cert.FfnConvIdeal.main_arg2)
      ∧ r.2.mem ((c.tc : Thread Cert.FfnConvIdeal.nD Cert.FfnConvIdeal.τ).loc Cert.FfnConvIdeal.main_arg3) = m ((c.tc : Thread Cert.FfnConvIdeal.nD Cert.FfnConvIdeal.τ).loc Cert.FfnConvIdeal.main_arg3))
      ∧ r.2.sem = fun _ => 0)

def quiescent_FfnConvRefIdeal [hFfnConvRefIdeal : Cert.FfnConvRefIdeal.Facts] : Prop :=
  ∀ (m : (ℓ : Loc Cert.FfnConvRefIdeal.nD Cert.FfnConvRefIdeal.τ Cert.FfnConvRefIdeal.sig) → Buf (Elt Ideal) ℓ) (g : Dev Cert.FfnConvRefIdeal.nD → PrngReg), Pre_FfnConvRefIdeal m →
    θ_run (Cert.FfnConvRefIdeal.defs (F := Ideal)) (onTc (τ := Cert.FfnConvRefIdeal.τ) (Cert.FfnConvRefIdeal.main (F := Ideal))) ⟨m, fun _ => 0, g⟩ (fun r => (∀ c : Dev Cert.FfnConvRefIdeal.nD,
      r.2.mem ((c.tc : Thread Cert.FfnConvRefIdeal.nD Cert.FfnConvRefIdeal.τ).loc Cert.FfnConvRefIdeal.main_arg0) = m ((c.tc : Thread Cert.FfnConvRefIdeal.nD Cert.FfnConvRefIdeal.τ).loc Cert.FfnConvRefIdeal.main_arg0)
      ∧ r.2.mem ((c.tc : Thread Cert.FfnConvRefIdeal.nD Cert.FfnConvRefIdeal.τ).loc Cert.FfnConvRefIdeal.main_arg1) = m ((c.tc : Thread Cert.FfnConvRefIdeal.nD Cert.FfnConvRefIdeal.τ).loc Cert.FfnConvRefIdeal.main_arg1)
      ∧ r.2.mem ((c.tc : Thread Cert.FfnConvRefIdeal.nD Cert.FfnConvRefIdeal.τ).loc Cert.FfnConvRefIdeal.main_arg2) = m ((c.tc : Thread Cert.FfnConvRefIdeal.nD Cert.FfnConvRefIdeal.τ).loc Cert.FfnConvRefIdeal.main_arg2)
      ∧ r.2.mem ((c.tc : Thread Cert.FfnConvRefIdeal.nD Cert.FfnConvRefIdeal.τ).loc Cert.FfnConvRefIdeal.main_arg3) = m ((c.tc : Thread Cert.FfnConvRefIdeal.nD Cert.FfnConvRefIdeal.τ).loc Cert.FfnConvRefIdeal.main_arg3))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1)
      ∧ r.2.mem ((c.tc : Thread Cert.Square.nD Cert.Square.τ).loc Cert.Square.main_arg2) = m ((c.tc : Thread Cert.Square.nD Cert.Square.τ).loc Cert.Square.main_arg2)
      ∧ r.2.mem ((c.tc : Thread Cert.Square.nD Cert.Square.τ).loc Cert.Square.main_arg3) = m ((c.tc : Thread Cert.Square.nD Cert.Square.τ).loc Cert.Square.main_arg3)
      ∧ r.2.mem ((c.tc : Thread Cert.Square.nD Cert.Square.τ).loc Cert.Square.main_arg4) = m ((c.tc : Thread Cert.Square.nD Cert.Square.τ).loc Cert.Square.main_arg4)
      ∧ r.2.mem ((c.tc : Thread Cert.Square.nD Cert.Square.τ).loc Cert.Square.main_arg5) = m ((c.tc : Thread Cert.Square.nD Cert.Square.τ).loc Cert.Square.main_arg5)
      ∧ r.2.mem ((c.tc : Thread Cert.Square.nD Cert.Square.τ).loc Cert.Square.main_arg6) = m ((c.tc : Thread Cert.Square.nD Cert.Square.τ).loc Cert.Square.main_arg6))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1)
      ∧ r.2.mem ((c.tc : Thread Cert.SquareIdeal.nD Cert.SquareIdeal.τ).loc Cert.SquareIdeal.main_arg2) = m ((c.tc : Thread Cert.SquareIdeal.nD Cert.SquareIdeal.τ).loc Cert.SquareIdeal.main_arg2)
      ∧ r.2.mem ((c.tc : Thread Cert.SquareIdeal.nD Cert.SquareIdeal.τ).loc Cert.SquareIdeal.main_arg3) = m ((c.tc : Thread Cert.SquareIdeal.nD Cert.SquareIdeal.τ).loc Cert.SquareIdeal.main_arg3)
      ∧ r.2.mem ((c.tc : Thread Cert.SquareIdeal.nD Cert.SquareIdeal.τ).loc Cert.SquareIdeal.main_arg4) = m ((c.tc : Thread Cert.SquareIdeal.nD Cert.SquareIdeal.τ).loc Cert.SquareIdeal.main_arg4)
      ∧ r.2.mem ((c.tc : Thread Cert.SquareIdeal.nD Cert.SquareIdeal.τ).loc Cert.SquareIdeal.main_arg5) = m ((c.tc : Thread Cert.SquareIdeal.nD Cert.SquareIdeal.τ).loc Cert.SquareIdeal.main_arg5)
      ∧ r.2.mem ((c.tc : Thread Cert.SquareIdeal.nD Cert.SquareIdeal.τ).loc Cert.SquareIdeal.main_arg6) = m ((c.tc : Thread Cert.SquareIdeal.nD Cert.SquareIdeal.τ).loc Cert.SquareIdeal.main_arg6))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1)
      ∧ r.2.mem ((c.tc : Thread Cert.SquareRefIdeal.nD Cert.SquareRefIdeal.τ).loc Cert.SquareRefIdeal.main_arg2) = m ((c.tc : Thread Cert.SquareRefIdeal.nD Cert.SquareRefIdeal.τ).loc Cert.SquareRefIdeal.main_arg2)
      ∧ r.2.mem ((c.tc : Thread Cert.SquareRefIdeal.nD Cert.SquareRefIdeal.τ).loc Cert.SquareRefIdeal.main_arg3) = m ((c.tc : Thread Cert.SquareRefIdeal.nD Cert.SquareRefIdeal.τ).loc Cert.SquareRefIdeal.main_arg3)
      ∧ r.2.mem ((c.tc : Thread Cert.SquareRefIdeal.nD Cert.SquareRefIdeal.τ).loc Cert.SquareRefIdeal.main_arg4) = m ((c.tc : Thread Cert.SquareRefIdeal.nD Cert.SquareRefIdeal.τ).loc Cert.SquareRefIdeal.main_arg4)
      ∧ r.2.mem ((c.tc : Thread Cert.SquareRefIdeal.nD Cert.SquareRefIdeal.τ).loc Cert.SquareRefIdeal.main_arg5) = m ((c.tc : Thread Cert.SquareRefIdeal.nD Cert.SquareRefIdeal.τ).loc Cert.SquareRefIdeal.main_arg5)
      ∧ r.2.mem ((c.tc : Thread Cert.SquareRefIdeal.nD Cert.SquareRefIdeal.τ).loc Cert.SquareRefIdeal.main_arg6) = m ((c.tc : Thread Cert.SquareRefIdeal.nD Cert.SquareRefIdeal.τ).loc Cert.SquareRefIdeal.main_arg6))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3)
      ∧ r.2.mem ((c.tc : Thread Cert.StepDown.nD Cert.StepDown.τ).loc Cert.StepDown.main_arg4) = m ((c.tc : Thread Cert.StepDown.nD Cert.StepDown.τ).loc Cert.StepDown.main_arg4)
      ∧ r.2.mem ((c.tc : Thread Cert.StepDown.nD Cert.StepDown.τ).loc Cert.StepDown.main_arg5) = m ((c.tc : Thread Cert.StepDown.nD Cert.StepDown.τ).loc Cert.StepDown.main_arg5)
      ∧ r.2.mem ((c.tc : Thread Cert.StepDown.nD Cert.StepDown.τ).loc Cert.StepDown.main_arg6) = m ((c.tc : Thread Cert.StepDown.nD Cert.StepDown.τ).loc Cert.StepDown.main_arg6))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
      ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4)
      ∧ r.2.mem ((c.tc : Thread Cert.StepDownIdeal.nD Cert.StepDownIdeal.τ).loc Cert.StepDownIdeal.main_arg5) = m ((c.tc : Thread Cert.StepDownIdeal.nD Cert.StepDownIdeal.τ).loc Cert.StepDownIdeal.main_arg5)
      ∧ r.2.mem ((c.tc : Thread Cert.StepDownIdeal.nD Cert.StepDownIdeal.τ).loc Cert.StepDownIdeal.main_arg6) = m ((c.tc : Thread Cert.StepDownIdeal.nD Cert.StepDownIdeal.τ).loc Cert.StepDownIdeal.main_arg6))
      ∧ r.2.sem = fun _ => 0)

def quiescent_StepDownRefIdeal [hStepDownRefIdeal : Cert.StepDownRefIdeal.Facts] : Prop :=
  ∀ (m : (ℓ : Loc Cert.StepDownRefIdeal.nD Cert.StepDownRefIdeal.τ Cert.StepDownRefIdeal.sig) → Buf (Elt Ideal) ℓ) (g : Dev Cert.StepDownRefIdeal.nD → PrngReg), Pre_StepDownRefIdeal m →
    θ_run (Cert.StepDownRefIdeal.defs (F := Ideal)) (onTc (τ := Cert.StepDownRefIdeal.τ) (Cert.StepDownRefIdeal.main (F := Ideal))) ⟨m, fun _ => 0, g⟩ (fun r => (∀ c : Dev Cert.StepDownRefIdeal.nD,
      r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
      ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
      ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
      ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3)
      ∧ r.2.mem ((c.tc : Thread Cert.StepDownRefIdeal.nD Cert.StepDownRefIdeal.τ).loc Cert.StepDownRefIdeal.main_arg4) = m ((c.tc : Thread Cert.StepDownRefIdeal.nD Cert.StepDownRefIdeal.τ).loc Cert.StepDownRefIdeal.main_arg4)
      ∧ r.2.mem ((c.tc : Thread Cert.StepDownRefIdeal.nD Cert.StepDownRefIdeal.τ).loc Cert.StepDownRefIdeal.main_arg5) = m ((c.tc : Thread Cert.StepDownRefIdeal.nD Cert.StepDownRefIdeal.τ).loc Cert.StepDownRefIdeal.main_arg5)
      ∧ r.2.mem ((c.tc : Thread Cert.StepDownRefIdeal.nD Cert.StepDownRefIdeal.τ).loc Cert.StepDownRefIdeal.main_arg6) = m ((c.tc : Thread Cert.StepDownRefIdeal.nD Cert.StepDownRefIdeal.τ).loc Cert.StepDownRefIdeal.main_arg6))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3)
      ∧ r.2.mem ((c.tc : Thread Cert.StepUp.nD Cert.StepUp.τ).loc Cert.StepUp.main_arg4) = m ((c.tc : Thread Cert.StepUp.nD Cert.StepUp.τ).loc Cert.StepUp.main_arg4)
      ∧ r.2.mem ((c.tc : Thread Cert.StepUp.nD Cert.StepUp.τ).loc Cert.StepUp.main_arg5) = m ((c.tc : Thread Cert.StepUp.nD Cert.StepUp.τ).loc Cert.StepUp.main_arg5)
      ∧ r.2.mem ((c.tc : Thread Cert.StepUp.nD Cert.StepUp.τ).loc Cert.StepUp.main_arg6) = m ((c.tc : Thread Cert.StepUp.nD Cert.StepUp.τ).loc Cert.StepUp.main_arg6))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
      ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4)
      ∧ r.2.mem ((c.tc : Thread Cert.StepUpIdeal.nD Cert.StepUpIdeal.τ).loc Cert.StepUpIdeal.main_arg5) = m ((c.tc : Thread Cert.StepUpIdeal.nD Cert.StepUpIdeal.τ).loc Cert.StepUpIdeal.main_arg5)
      ∧ r.2.mem ((c.tc : Thread Cert.StepUpIdeal.nD Cert.StepUpIdeal.τ).loc Cert.StepUpIdeal.main_arg6) = m ((c.tc : Thread Cert.StepUpIdeal.nD Cert.StepUpIdeal.τ).loc Cert.StepUpIdeal.main_arg6))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3)
      ∧ r.2.mem ((c.tc : Thread Cert.StepUpRefIdeal.nD Cert.StepUpRefIdeal.τ).loc Cert.StepUpRefIdeal.main_arg4) = m ((c.tc : Thread Cert.StepUpRefIdeal.nD Cert.StepUpRefIdeal.τ).loc Cert.StepUpRefIdeal.main_arg4)
      ∧ r.2.mem ((c.tc : Thread Cert.StepUpRefIdeal.nD Cert.StepUpRefIdeal.τ).loc Cert.StepUpRefIdeal.main_arg5) = m ((c.tc : Thread Cert.StepUpRefIdeal.nD Cert.StepUpRefIdeal.τ).loc Cert.StepUpRefIdeal.main_arg5)
      ∧ r.2.mem ((c.tc : Thread Cert.StepUpRefIdeal.nD Cert.StepUpRefIdeal.τ).loc Cert.StepUpRefIdeal.main_arg6) = m ((c.tc : Thread Cert.StepUpRefIdeal.nD Cert.StepUpRefIdeal.τ).loc Cert.StepUpRefIdeal.main_arg6))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3)
      ∧ r.2.mem ((c.tc : Thread Cert.StepIn.nD Cert.StepIn.τ).loc Cert.StepIn.main_arg4) = m ((c.tc : Thread Cert.StepIn.nD Cert.StepIn.τ).loc Cert.StepIn.main_arg4)
      ∧ r.2.mem ((c.tc : Thread Cert.StepIn.nD Cert.StepIn.τ).loc Cert.StepIn.main_arg5) = m ((c.tc : Thread Cert.StepIn.nD Cert.StepIn.τ).loc Cert.StepIn.main_arg5)
      ∧ r.2.mem ((c.tc : Thread Cert.StepIn.nD Cert.StepIn.τ).loc Cert.StepIn.main_arg6) = m ((c.tc : Thread Cert.StepIn.nD Cert.StepIn.τ).loc Cert.StepIn.main_arg6))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
      ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
      ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5)
      ∧ r.2.mem ((c.tc : Thread Cert.StepInIdeal.nD Cert.StepInIdeal.τ).loc Cert.StepInIdeal.main_arg6) = m ((c.tc : Thread Cert.StepInIdeal.nD Cert.StepInIdeal.τ).loc Cert.StepInIdeal.main_arg6))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3)
      ∧ r.2.mem ((c.tc : Thread Cert.StepInRefIdeal.nD Cert.StepInRefIdeal.τ).loc Cert.StepInRefIdeal.main_arg4) = m ((c.tc : Thread Cert.StepInRefIdeal.nD Cert.StepInRefIdeal.τ).loc Cert.StepInRefIdeal.main_arg4)
      ∧ r.2.mem ((c.tc : Thread Cert.StepInRefIdeal.nD Cert.StepInRefIdeal.τ).loc Cert.StepInRefIdeal.main_arg5) = m ((c.tc : Thread Cert.StepInRefIdeal.nD Cert.StepInRefIdeal.τ).loc Cert.StepInRefIdeal.main_arg5)
      ∧ r.2.mem ((c.tc : Thread Cert.StepInRefIdeal.nD Cert.StepInRefIdeal.τ).loc Cert.StepInRefIdeal.main_arg6) = m ((c.tc : Thread Cert.StepInRefIdeal.nD Cert.StepInRefIdeal.τ).loc Cert.StepInRefIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v327) = v0 c
          ∧ r.2.mem ((c.tc : Thread Cert.ReferenceIdeal.nD Cert.ReferenceIdeal.τ).loc Cert.ReferenceIdeal.main_v332) = v1 c
          ∧ r.2.mem ((c.tc : Thread Cert.ReferenceIdeal.nD Cert.ReferenceIdeal.τ).loc Cert.ReferenceIdeal.main_v334) = v2 c
          ∧ r.2.mem ((c.tc : Thread Cert.ReferenceIdeal.nD Cert.ReferenceIdeal.τ).loc Cert.ReferenceIdeal.main_v336) = v3 c
          ∧ r.2.mem ((c.tc : Thread Cert.ReferenceIdeal.nD Cert.ReferenceIdeal.τ).loc Cert.ReferenceIdeal.main_v337) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v4) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v6) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v4) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v6) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v4) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v5) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v24) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v11) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_ScanConv_ScanConvIdeal : Prop :=
  True

def algebraic_ScanConvIdeal_ScanConvRefIdeal [hScanConvIdeal : Cert.ScanConvIdeal.Facts] [hScanConvRefIdeal : Cert.ScanConvRefIdeal.Facts] : Prop :=
  ∀ (m : (ℓ : Loc Cert.ScanConvIdeal.nD Cert.ScanConvIdeal.τ Cert.ScanConvIdeal.sig) → Buf (Elt Ideal) ℓ) (g : Dev Cert.ScanConvIdeal.nD → PrngReg)
    (m' : (ℓ : Loc Cert.ScanConvRefIdeal.nD Cert.ScanConvRefIdeal.τ Cert.ScanConvRefIdeal.sig) → Buf (Elt Ideal) ℓ) (g' : Dev Cert.ScanConvRefIdeal.nD → PrngReg), Pre_ScanConvIdeal m →
    (∀ c : Dev Cert.ScanConvIdeal.nD,
      m' ((c.tc : Thread Cert.ScanConvRefIdeal.nD Cert.ScanConvRefIdeal.τ).loc Cert.ScanConvRefIdeal.main_arg0) = m ((c.tc : Thread Cert.ScanConvIdeal.nD Cert.ScanConvIdeal.τ).loc Cert.ScanConvIdeal.main_arg0)
      ∧ m' ((c.tc : Thread Cert.ScanConvRefIdeal.nD Cert.ScanConvRefIdeal.τ).loc Cert.ScanConvRefIdeal.main_arg1) = m ((c.tc : Thread Cert.ScanConvIdeal.nD Cert.ScanConvIdeal.τ).loc Cert.ScanConvIdeal.main_arg1)
      ∧ m' ((c.tc : Thread Cert.ScanConvRefIdeal.nD Cert.ScanConvRefIdeal.τ).loc Cert.ScanConvRefIdeal.main_arg2) = m ((c.tc : Thread Cert.ScanConvIdeal.nD Cert.ScanConvIdeal.τ).loc Cert.ScanConvIdeal.main_arg2)
      ∧ m' ((c.tc : Thread Cert.ScanConvRefIdeal.nD Cert.ScanConvRefIdeal.τ).loc Cert.ScanConvRefIdeal.main_arg3) = m ((c.tc : Thread Cert.ScanConvIdeal.nD Cert.ScanConvIdeal.τ).loc Cert.ScanConvIdeal.main_arg3)) →
    ∃ (v0 : (c : Dev Cert.ScanConvIdeal.nD) → Buf (Elt Ideal) ((c.tc : Thread Cert.ScanConvIdeal.nD Cert.ScanConvIdeal.τ).loc Cert.ScanConvIdeal.main_v0_0)) (v1 : (c : Dev Cert.ScanConvIdeal.nD) → Buf (Elt Ideal) ((c.tc : Thread Cert.ScanConvIdeal.nD Cert.ScanConvIdeal.τ).loc Cert.ScanConvIdeal.main_v0_1)) (v2 : (c : Dev Cert.ScanConvIdeal.nD) → Buf (Elt Ideal) ((c.tc : Thread Cert.ScanConvIdeal.nD Cert.ScanConvIdeal.τ).loc Cert.ScanConvIdeal.main_v0_2)) (v3 : (c : Dev Cert.ScanConvIdeal.nD) → Buf (Elt Ideal) ((c.tc : Thread Cert.ScanConvIdeal.nD Cert.ScanConvIdeal.τ).loc Cert.ScanConvIdeal.main_v0_3)),
      θ_run (Cert.ScanConvIdeal.defs (F := Ideal)) (onTc (τ := Cert.ScanConvIdeal.τ) (Cert.ScanConvIdeal.main (F := Ideal))) ⟨m, fun _ => 0, g⟩ (fun r => ∀ c : Dev Cert.ScanConvIdeal.nD,
          r.2.mem ((c.tc : Thread Cert.ScanConvIdeal.nD Cert.ScanConvIdeal.τ).loc Cert.ScanConvIdeal.main_v0_0) = v0 c
          ∧ r.2.mem ((c.tc : Thread Cert.ScanConvIdeal.nD Cert.ScanConvIdeal.τ).loc Cert.ScanConvIdeal.main_v0_1) = v1 c
          ∧ r.2.mem ((c.tc : Thread Cert.ScanConvIdeal.nD Cert.ScanConvIdeal.τ).loc Cert.ScanConvIdeal.main_v0_2) = v2 c
          ∧ r.2.mem ((c.tc : Thread Cert.ScanConvIdeal.nD Cert.ScanConvIdeal.τ).loc Cert.ScanConvIdeal.main_v0_3) = v3 c
          ∧ r.2.mem ((c.tc : Thread Cert.ScanConvIdeal.nD Cert.ScanConvIdeal.τ).loc Cert.ScanConvIdeal.main_arg0) = m ((c.tc : Thread Cert.ScanConvIdeal.nD Cert.ScanConvIdeal.τ).loc Cert.ScanConvIdeal.main_arg0)
          ∧ r.2.mem ((c.tc : Thread Cert.ScanConvIdeal.nD Cert.ScanConvIdeal.τ).loc Cert.ScanConvIdeal.main_arg1) = m ((c.tc : Thread Cert.ScanConvIdeal.nD Cert.ScanConvIdeal.τ).loc Cert.ScanConvIdeal.main_arg1)
          ∧ r.2.mem ((c.tc : Thread Cert.ScanConvIdeal.nD Cert.ScanConvIdeal.τ).loc Cert.ScanConvIdeal.main_arg2) = m ((c.tc : Thread Cert.ScanConvIdeal.nD Cert.ScanConvIdeal.τ).loc Cert.ScanConvIdeal.main_arg2)
          ∧ r.2.mem ((c.tc : Thread Cert.ScanConvIdeal.nD Cert.ScanConvIdeal.τ).loc Cert.ScanConvIdeal.main_arg3) = m ((c.tc : Thread Cert.ScanConvIdeal.nD Cert.ScanConvIdeal.τ).loc Cert.ScanConvIdeal.main_arg3))
      ∧ θ_run (Cert.ScanConvRefIdeal.defs (F := Ideal)) (onTc (τ := Cert.ScanConvRefIdeal.τ) (Cert.ScanConvRefIdeal.main (F := Ideal))) ⟨m', fun _ => 0, g'⟩ (fun r => ∀ c : Dev Cert.ScanConvRefIdeal.nD,
          r.2.mem ((c.tc : Thread Cert.ScanConvRefIdeal.nD Cert.ScanConvRefIdeal.τ).loc Cert.ScanConvRefIdeal.main_v1) = v0 c
          ∧ r.2.mem ((c.tc : Thread Cert.ScanConvRefIdeal.nD Cert.ScanConvRefIdeal.τ).loc Cert.ScanConvRefIdeal.main_v25) = v1 c
          ∧ r.2.mem ((c.tc : Thread Cert.ScanConvRefIdeal.nD Cert.ScanConvRefIdeal.τ).loc Cert.ScanConvRefIdeal.main_v6) = v2 c
          ∧ r.2.mem ((c.tc : Thread Cert.ScanConvRefIdeal.nD Cert.ScanConvRefIdeal.τ).loc Cert.ScanConvRefIdeal.main_v12) = v3 c
          ∧ r.2.mem ((c.tc : Thread Cert.ScanConvRefIdeal.nD Cert.ScanConvRefIdeal.τ).loc Cert.ScanConvRefIdeal.main_arg0) = m' ((c.tc : Thread Cert.ScanConvRefIdeal.nD Cert.ScanConvRefIdeal.τ).loc Cert.ScanConvRefIdeal.main_arg0)
          ∧ r.2.mem ((c.tc : Thread Cert.ScanConvRefIdeal.nD Cert.ScanConvRefIdeal.τ).loc Cert.ScanConvRefIdeal.main_arg1) = m' ((c.tc : Thread Cert.ScanConvRefIdeal.nD Cert.ScanConvRefIdeal.τ).loc Cert.ScanConvRefIdeal.main_arg1)
          ∧ r.2.mem ((c.tc : Thread Cert.ScanConvRefIdeal.nD Cert.ScanConvRefIdeal.τ).loc Cert.ScanConvRefIdeal.main_arg2) = m' ((c.tc : Thread Cert.ScanConvRefIdeal.nD Cert.ScanConvRefIdeal.τ).loc Cert.ScanConvRefIdeal.main_arg2)
          ∧ r.2.mem ((c.tc : Thread Cert.ScanConvRefIdeal.nD Cert.ScanConvRefIdeal.τ).loc Cert.ScanConvRefIdeal.main_arg3) = m' ((c.tc : Thread Cert.ScanConvRefIdeal.nD Cert.ScanConvRefIdeal.τ).loc Cert.ScanConvRefIdeal.main_arg3))

def preserves_FfnConv_FfnConvIdeal : Prop :=
  True

def algebraic_FfnConvIdeal_FfnConvRefIdeal [hFfnConvIdeal : Cert.FfnConvIdeal.Facts] [hFfnConvRefIdeal : Cert.FfnConvRefIdeal.Facts] : Prop :=
  ∀ (m : (ℓ : Loc Cert.FfnConvIdeal.nD Cert.FfnConvIdeal.τ Cert.FfnConvIdeal.sig) → Buf (Elt Ideal) ℓ) (g : Dev Cert.FfnConvIdeal.nD → PrngReg)
    (m' : (ℓ : Loc Cert.FfnConvRefIdeal.nD Cert.FfnConvRefIdeal.τ Cert.FfnConvRefIdeal.sig) → Buf (Elt Ideal) ℓ) (g' : Dev Cert.FfnConvRefIdeal.nD → PrngReg), Pre_FfnConvIdeal m →
    (∀ c : Dev Cert.FfnConvIdeal.nD,
      m' ((c.tc : Thread Cert.FfnConvRefIdeal.nD Cert.FfnConvRefIdeal.τ).loc Cert.FfnConvRefIdeal.main_arg0) = m ((c.tc : Thread Cert.FfnConvIdeal.nD Cert.FfnConvIdeal.τ).loc Cert.FfnConvIdeal.main_arg0)
      ∧ m' ((c.tc : Thread Cert.FfnConvRefIdeal.nD Cert.FfnConvRefIdeal.τ).loc Cert.FfnConvRefIdeal.main_arg1) = m ((c.tc : Thread Cert.FfnConvIdeal.nD Cert.FfnConvIdeal.τ).loc Cert.FfnConvIdeal.main_arg1)
      ∧ m' ((c.tc : Thread Cert.FfnConvRefIdeal.nD Cert.FfnConvRefIdeal.τ).loc Cert.FfnConvRefIdeal.main_arg2) = m ((c.tc : Thread Cert.FfnConvIdeal.nD Cert.FfnConvIdeal.τ).loc Cert.FfnConvIdeal.main_arg2)
      ∧ m' ((c.tc : Thread Cert.FfnConvRefIdeal.nD Cert.FfnConvRefIdeal.τ).loc Cert.FfnConvRefIdeal.main_arg3) = m ((c.tc : Thread Cert.FfnConvIdeal.nD Cert.FfnConvIdeal.τ).loc Cert.FfnConvIdeal.main_arg3)) →
    ∃ (v0 : (c : Dev Cert.FfnConvIdeal.nD) → Buf (Elt Ideal) ((c.tc : Thread Cert.FfnConvIdeal.nD Cert.FfnConvIdeal.τ).loc Cert.FfnConvIdeal.main_v0_0)) (v1 : (c : Dev Cert.FfnConvIdeal.nD) → Buf (Elt Ideal) ((c.tc : Thread Cert.FfnConvIdeal.nD Cert.FfnConvIdeal.τ).loc Cert.FfnConvIdeal.main_v0_1)) (v2 : (c : Dev Cert.FfnConvIdeal.nD) → Buf (Elt Ideal) ((c.tc : Thread Cert.FfnConvIdeal.nD Cert.FfnConvIdeal.τ).loc Cert.FfnConvIdeal.main_v0_2)) (v3 : (c : Dev Cert.FfnConvIdeal.nD) → Buf (Elt Ideal) ((c.tc : Thread Cert.FfnConvIdeal.nD Cert.FfnConvIdeal.τ).loc Cert.FfnConvIdeal.main_v0_3)),
      θ_run (Cert.FfnConvIdeal.defs (F := Ideal)) (onTc (τ := Cert.FfnConvIdeal.τ) (Cert.FfnConvIdeal.main (F := Ideal))) ⟨m, fun _ => 0, g⟩ (fun r => ∀ c : Dev Cert.FfnConvIdeal.nD,
          r.2.mem ((c.tc : Thread Cert.FfnConvIdeal.nD Cert.FfnConvIdeal.τ).loc Cert.FfnConvIdeal.main_v0_0) = v0 c
          ∧ r.2.mem ((c.tc : Thread Cert.FfnConvIdeal.nD Cert.FfnConvIdeal.τ).loc Cert.FfnConvIdeal.main_v0_1) = v1 c
          ∧ r.2.mem ((c.tc : Thread Cert.FfnConvIdeal.nD Cert.FfnConvIdeal.τ).loc Cert.FfnConvIdeal.main_v0_2) = v2 c
          ∧ r.2.mem ((c.tc : Thread Cert.FfnConvIdeal.nD Cert.FfnConvIdeal.τ).loc Cert.FfnConvIdeal.main_v0_3) = v3 c
          ∧ r.2.mem ((c.tc : Thread Cert.FfnConvIdeal.nD Cert.FfnConvIdeal.τ).loc Cert.FfnConvIdeal.main_arg0) = m ((c.tc : Thread Cert.FfnConvIdeal.nD Cert.FfnConvIdeal.τ).loc Cert.FfnConvIdeal.main_arg0)
          ∧ r.2.mem ((c.tc : Thread Cert.FfnConvIdeal.nD Cert.FfnConvIdeal.τ).loc Cert.FfnConvIdeal.main_arg1) = m ((c.tc : Thread Cert.FfnConvIdeal.nD Cert.FfnConvIdeal.τ).loc Cert.FfnConvIdeal.main_arg1)
          ∧ r.2.mem ((c.tc : Thread Cert.FfnConvIdeal.nD Cert.FfnConvIdeal.τ).loc Cert.FfnConvIdeal.main_arg2) = m ((c.tc : Thread Cert.FfnConvIdeal.nD Cert.FfnConvIdeal.τ).loc Cert.FfnConvIdeal.main_arg2)
          ∧ r.2.mem ((c.tc : Thread Cert.FfnConvIdeal.nD Cert.FfnConvIdeal.τ).loc Cert.FfnConvIdeal.main_arg3) = m ((c.tc : Thread Cert.FfnConvIdeal.nD Cert.FfnConvIdeal.τ).loc Cert.FfnConvIdeal.main_arg3))
      ∧ θ_run (Cert.FfnConvRefIdeal.defs (F := Ideal)) (onTc (τ := Cert.FfnConvRefIdeal.τ) (Cert.FfnConvRefIdeal.main (F := Ideal))) ⟨m', fun _ => 0, g'⟩ (fun r => ∀ c : Dev Cert.FfnConvRefIdeal.nD,
          r.2.mem ((c.tc : Thread Cert.FfnConvRefIdeal.nD Cert.FfnConvRefIdeal.τ).loc Cert.FfnConvRefIdeal.main_v1) = v0 c
          ∧ r.2.mem ((c.tc : Thread Cert.FfnConvRefIdeal.nD Cert.FfnConvRefIdeal.τ).loc Cert.FfnConvRefIdeal.main_v25) = v1 c
          ∧ r.2.mem ((c.tc : Thread Cert.FfnConvRefIdeal.nD Cert.FfnConvRefIdeal.τ).loc Cert.FfnConvRefIdeal.main_v6) = v2 c
          ∧ r.2.mem ((c.tc : Thread Cert.FfnConvRefIdeal.nD Cert.FfnConvRefIdeal.τ).loc Cert.FfnConvRefIdeal.main_v12) = v3 c
          ∧ r.2.mem ((c.tc : Thread Cert.FfnConvRefIdeal.nD Cert.FfnConvRefIdeal.τ).loc Cert.FfnConvRefIdeal.main_arg0) = m' ((c.tc : Thread Cert.FfnConvRefIdeal.nD Cert.FfnConvRefIdeal.τ).loc Cert.FfnConvRefIdeal.main_arg0)
          ∧ r.2.mem ((c.tc : Thread Cert.FfnConvRefIdeal.nD Cert.FfnConvRefIdeal.τ).loc Cert.FfnConvRefIdeal.main_arg1) = m' ((c.tc : Thread Cert.FfnConvRefIdeal.nD Cert.FfnConvRefIdeal.τ).loc Cert.FfnConvRefIdeal.main_arg1)
          ∧ r.2.mem ((c.tc : Thread Cert.FfnConvRefIdeal.nD Cert.FfnConvRefIdeal.τ).loc Cert.FfnConvRefIdeal.main_arg2) = m' ((c.tc : Thread Cert.FfnConvRefIdeal.nD Cert.FfnConvRefIdeal.τ).loc Cert.FfnConvRefIdeal.main_arg2)
          ∧ r.2.mem ((c.tc : Thread Cert.FfnConvRefIdeal.nD Cert.FfnConvRefIdeal.τ).loc Cert.FfnConvRefIdeal.main_arg3) = m' ((c.tc : Thread Cert.FfnConvRefIdeal.nD Cert.FfnConvRefIdeal.τ).loc Cert.FfnConvRefIdeal.main_arg3))

def preserves_Square_SquareIdeal : Prop :=
  True

def algebraic_SquareIdeal_SquareRefIdeal [hSquareIdeal : Cert.SquareIdeal.Facts] [hSquareRefIdeal : Cert.SquareRefIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareIdeal m →
    (∀ c : Dev Cert.SquareIdeal.nD,
      m' ((c.tc : Thread Cert.SquareRefIdeal.nD Cert.SquareRefIdeal.τ).loc Cert.SquareRefIdeal.main_arg0) = m ((c.tc : Thread Cert.SquareIdeal.nD Cert.SquareIdeal.τ).loc Cert.SquareIdeal.main_arg0)
      ∧ m' ((c.tc : Thread Cert.SquareRefIdeal.nD Cert.SquareRefIdeal.τ).loc Cert.SquareRefIdeal.main_arg1) = m ((c.tc : Thread Cert.SquareIdeal.nD Cert.SquareIdeal.τ).loc Cert.SquareIdeal.main_arg1)
      ∧ m' ((c.tc : Thread Cert.SquareRefIdeal.nD Cert.SquareRefIdeal.τ).loc Cert.SquareRefIdeal.main_arg2) = m ((c.tc : Thread Cert.SquareIdeal.nD Cert.SquareIdeal.τ).loc Cert.SquareIdeal.main_arg2)
      ∧ m' ((c.tc : Thread Cert.SquareRefIdeal.nD Cert.SquareRefIdeal.τ).loc Cert.SquareRefIdeal.main_arg3) = m ((c.tc : Thread Cert.SquareIdeal.nD Cert.SquareIdeal.τ).loc Cert.SquareIdeal.main_arg3)
      ∧ m' ((c.tc : Thread Cert.SquareRefIdeal.nD Cert.SquareRefIdeal.τ).loc Cert.SquareRefIdeal.main_arg4) = m ((c.tc : Thread Cert.SquareIdeal.nD Cert.SquareIdeal.τ).loc Cert.SquareIdeal.main_arg4)
      ∧ m' ((c.tc : Thread Cert.SquareRefIdeal.nD Cert.SquareRefIdeal.τ).loc Cert.SquareRefIdeal.main_arg5) = m ((c.tc : Thread Cert.SquareIdeal.nD Cert.SquareIdeal.τ).loc Cert.SquareIdeal.main_arg5)
      ∧ m' ((c.tc : Thread Cert.SquareRefIdeal.nD Cert.SquareRefIdeal.τ).loc Cert.SquareRefIdeal.main_arg6) = m ((c.tc : Thread Cert.SquareIdeal.nD Cert.SquareIdeal.τ).loc Cert.SquareIdeal.main_arg6)) →
    ∃ (v0 : (c : Dev Cert.SquareIdeal.nD) → Buf (Elt Ideal) ((c.tc : Thread Cert.SquareIdeal.nD Cert.SquareIdeal.τ).loc Cert.SquareIdeal.main_v3_0)) (v1 : (c : Dev Cert.SquareIdeal.nD) → Buf (Elt Ideal) ((c.tc : Thread Cert.SquareIdeal.nD Cert.SquareIdeal.τ).loc Cert.SquareIdeal.main_v3_1)) (v2 : (c : Dev Cert.SquareIdeal.nD) → Buf (Elt Ideal) ((c.tc : Thread Cert.SquareIdeal.nD Cert.SquareIdeal.τ).loc Cert.SquareIdeal.main_v3_2)) (v3 : (c : Dev Cert.SquareIdeal.nD) → Buf (Elt Ideal) ((c.tc : Thread Cert.SquareIdeal.nD Cert.SquareIdeal.τ).loc Cert.SquareIdeal.main_v3_3)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v3_0) = v0 c
          ∧ r.2.mem ((c.tc : Thread Cert.SquareIdeal.nD Cert.SquareIdeal.τ).loc Cert.SquareIdeal.main_v3_1) = v1 c
          ∧ r.2.mem ((c.tc : Thread Cert.SquareIdeal.nD Cert.SquareIdeal.τ).loc Cert.SquareIdeal.main_v3_2) = v2 c
          ∧ r.2.mem ((c.tc : Thread Cert.SquareIdeal.nD Cert.SquareIdeal.τ).loc Cert.SquareIdeal.main_v3_3) = v3 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1)
          ∧ r.2.mem ((c.tc : Thread Cert.SquareIdeal.nD Cert.SquareIdeal.τ).loc Cert.SquareIdeal.main_arg2) = m ((c.tc : Thread Cert.SquareIdeal.nD Cert.SquareIdeal.τ).loc Cert.SquareIdeal.main_arg2)
          ∧ r.2.mem ((c.tc : Thread Cert.SquareIdeal.nD Cert.SquareIdeal.τ).loc Cert.SquareIdeal.main_arg3) = m ((c.tc : Thread Cert.SquareIdeal.nD Cert.SquareIdeal.τ).loc Cert.SquareIdeal.main_arg3)
          ∧ r.2.mem ((c.tc : Thread Cert.SquareIdeal.nD Cert.SquareIdeal.τ).loc Cert.SquareIdeal.main_arg4) = m ((c.tc : Thread Cert.SquareIdeal.nD Cert.SquareIdeal.τ).loc Cert.SquareIdeal.main_arg4)
          ∧ r.2.mem ((c.tc : Thread Cert.SquareIdeal.nD Cert.SquareIdeal.τ).loc Cert.SquareIdeal.main_arg5) = m ((c.tc : Thread Cert.SquareIdeal.nD Cert.SquareIdeal.τ).loc Cert.SquareIdeal.main_arg5)
          ∧ r.2.mem ((c.tc : Thread Cert.SquareIdeal.nD Cert.SquareIdeal.τ).loc Cert.SquareIdeal.main_arg6) = m ((c.tc : Thread Cert.SquareIdeal.nD Cert.SquareIdeal.τ).loc Cert.SquareIdeal.main_arg6))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v2) = v0 c
          ∧ r.2.mem ((c.tc : Thread Cert.SquareRefIdeal.nD Cert.SquareRefIdeal.τ).loc Cert.SquareRefIdeal.main_v26) = v1 c
          ∧ r.2.mem ((c.tc : Thread Cert.SquareRefIdeal.nD Cert.SquareRefIdeal.τ).loc Cert.SquareRefIdeal.main_v7) = v2 c
          ∧ r.2.mem ((c.tc : Thread Cert.SquareRefIdeal.nD Cert.SquareRefIdeal.τ).loc Cert.SquareRefIdeal.main_v13) = v3 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1)
          ∧ r.2.mem ((c.tc : Thread Cert.SquareRefIdeal.nD Cert.SquareRefIdeal.τ).loc Cert.SquareRefIdeal.main_arg2) = m' ((c.tc : Thread Cert.SquareRefIdeal.nD Cert.SquareRefIdeal.τ).loc Cert.SquareRefIdeal.main_arg2)
          ∧ r.2.mem ((c.tc : Thread Cert.SquareRefIdeal.nD Cert.SquareRefIdeal.τ).loc Cert.SquareRefIdeal.main_arg3) = m' ((c.tc : Thread Cert.SquareRefIdeal.nD Cert.SquareRefIdeal.τ).loc Cert.SquareRefIdeal.main_arg3)
          ∧ r.2.mem ((c.tc : Thread Cert.SquareRefIdeal.nD Cert.SquareRefIdeal.τ).loc Cert.SquareRefIdeal.main_arg4) = m' ((c.tc : Thread Cert.SquareRefIdeal.nD Cert.SquareRefIdeal.τ).loc Cert.SquareRefIdeal.main_arg4)
          ∧ r.2.mem ((c.tc : Thread Cert.SquareRefIdeal.nD Cert.SquareRefIdeal.τ).loc Cert.SquareRefIdeal.main_arg5) = m' ((c.tc : Thread Cert.SquareRefIdeal.nD Cert.SquareRefIdeal.τ).loc Cert.SquareRefIdeal.main_arg5)
          ∧ r.2.mem ((c.tc : Thread Cert.SquareRefIdeal.nD Cert.SquareRefIdeal.τ).loc Cert.SquareRefIdeal.main_arg6) = m' ((c.tc : Thread Cert.SquareRefIdeal.nD Cert.SquareRefIdeal.τ).loc Cert.SquareRefIdeal.main_arg6))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)) →
    ∃ (v0 : (c : Dev Cert.PoolIdeal.nD) → Buf (Elt Ideal) ((c.tc : Thread Cert.PoolIdeal.nD Cert.PoolIdeal.τ).loc Cert.PoolIdeal.main_v3_0)) (v1 : (c : Dev Cert.PoolIdeal.nD) → Buf (Elt Ideal) ((c.tc : Thread Cert.PoolIdeal.nD Cert.PoolIdeal.τ).loc Cert.PoolIdeal.main_v3_1)) (v2 : (c : Dev Cert.PoolIdeal.nD) → Buf (Elt Ideal) ((c.tc : Thread Cert.PoolIdeal.nD Cert.PoolIdeal.τ).loc Cert.PoolIdeal.main_v3_2)) (v3 : (c : Dev Cert.PoolIdeal.nD) → Buf (Elt Ideal) ((c.tc : Thread Cert.PoolIdeal.nD Cert.PoolIdeal.τ).loc Cert.PoolIdeal.main_v3_3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3_0) = v0 c
          ∧ r.2.mem ((c.tc : Thread Cert.PoolIdeal.nD Cert.PoolIdeal.τ).loc Cert.PoolIdeal.main_v3_1) = v1 c
          ∧ r.2.mem ((c.tc : Thread Cert.PoolIdeal.nD Cert.PoolIdeal.τ).loc Cert.PoolIdeal.main_v3_2) = v2 c
          ∧ r.2.mem ((c.tc : Thread Cert.PoolIdeal.nD Cert.PoolIdeal.τ).loc Cert.PoolIdeal.main_v3_3) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v2) = v0 c
          ∧ r.2.mem ((c.tc : Thread Cert.PoolRefIdeal.nD Cert.PoolRefIdeal.τ).loc Cert.PoolRefIdeal.main_v26) = v1 c
          ∧ r.2.mem ((c.tc : Thread Cert.PoolRefIdeal.nD Cert.PoolRefIdeal.τ).loc Cert.PoolRefIdeal.main_v7) = v2 c
          ∧ r.2.mem ((c.tc : Thread Cert.PoolRefIdeal.nD Cert.PoolRefIdeal.τ).loc Cert.PoolRefIdeal.main_v13) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v3_0)) (v1 : (c : Dev Cert.MixIdeal.nD) → Buf (Elt Ideal) ((c.tc : Thread Cert.MixIdeal.nD Cert.MixIdeal.τ).loc Cert.MixIdeal.main_v3_1)) (v2 : (c : Dev Cert.MixIdeal.nD) → Buf (Elt Ideal) ((c.tc : Thread Cert.MixIdeal.nD Cert.MixIdeal.τ).loc Cert.MixIdeal.main_v3_2)) (v3 : (c : Dev Cert.MixIdeal.nD) → Buf (Elt Ideal) ((c.tc : Thread Cert.MixIdeal.nD Cert.MixIdeal.τ).loc Cert.MixIdeal.main_v3_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3_0) = v0 c
          ∧ r.2.mem ((c.tc : Thread Cert.MixIdeal.nD Cert.MixIdeal.τ).loc Cert.MixIdeal.main_v3_1) = v1 c
          ∧ r.2.mem ((c.tc : Thread Cert.MixIdeal.nD Cert.MixIdeal.τ).loc Cert.MixIdeal.main_v3_2) = v2 c
          ∧ r.2.mem ((c.tc : Thread Cert.MixIdeal.nD Cert.MixIdeal.τ).loc Cert.MixIdeal.main_v3_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_v26) = v1 c
          ∧ r.2.mem ((c.tc : Thread Cert.MixRefIdeal.nD Cert.MixRefIdeal.τ).loc Cert.MixRefIdeal.main_v7) = v2 c
          ∧ r.2.mem ((c.tc : Thread Cert.MixRefIdeal.nD Cert.MixRefIdeal.τ).loc Cert.MixRefIdeal.main_v13) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_StepDown_StepDownIdeal : Prop :=
  True

def algebraic_StepDownIdeal_StepDownRefIdeal [hStepDownIdeal : Cert.StepDownIdeal.Facts] [hStepDownRefIdeal : Cert.StepDownRefIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownRefIdeal.nD Cert.StepDownRefIdeal.τ Cert.StepDownRefIdeal.sig) → Buf (Elt Ideal) ℓ) (g' : Dev Cert.StepDownRefIdeal.nD → PrngReg), Pre_StepDownIdeal m →
    (∀ c : Dev Cert.StepDownIdeal.nD,
      m' ((c.tc : Thread Cert.StepDownRefIdeal.nD Cert.StepDownRefIdeal.τ).loc Cert.StepDownRefIdeal.main_arg0) = m ((c.tc : Thread Cert.StepDownIdeal.nD Cert.StepDownIdeal.τ).loc Cert.StepDownIdeal.main_arg0)
      ∧ m' ((c.tc : Thread Cert.StepDownRefIdeal.nD Cert.StepDownRefIdeal.τ).loc Cert.StepDownRefIdeal.main_arg1) = m ((c.tc : Thread Cert.StepDownIdeal.nD Cert.StepDownIdeal.τ).loc Cert.StepDownIdeal.main_arg1)
      ∧ m' ((c.tc : Thread Cert.StepDownRefIdeal.nD Cert.StepDownRefIdeal.τ).loc Cert.StepDownRefIdeal.main_arg2) = m ((c.tc : Thread Cert.StepDownIdeal.nD Cert.StepDownIdeal.τ).loc Cert.StepDownIdeal.main_arg2)
      ∧ m' ((c.tc : Thread Cert.StepDownRefIdeal.nD Cert.StepDownRefIdeal.τ).loc Cert.StepDownRefIdeal.main_arg3) = m ((c.tc : Thread Cert.StepDownIdeal.nD Cert.StepDownIdeal.τ).loc Cert.StepDownIdeal.main_arg3)
      ∧ m' ((c.tc : Thread Cert.StepDownRefIdeal.nD Cert.StepDownRefIdeal.τ).loc Cert.StepDownRefIdeal.main_arg4) = m ((c.tc : Thread Cert.StepDownIdeal.nD Cert.StepDownIdeal.τ).loc Cert.StepDownIdeal.main_arg4)
      ∧ m' ((c.tc : Thread Cert.StepDownRefIdeal.nD Cert.StepDownRefIdeal.τ).loc Cert.StepDownRefIdeal.main_arg5) = m ((c.tc : Thread Cert.StepDownIdeal.nD Cert.StepDownIdeal.τ).loc Cert.StepDownIdeal.main_arg5)
      ∧ m' ((c.tc : Thread Cert.StepDownRefIdeal.nD Cert.StepDownRefIdeal.τ).loc Cert.StepDownRefIdeal.main_arg6) = m ((c.tc : Thread Cert.StepDownIdeal.nD Cert.StepDownIdeal.τ).loc Cert.StepDownIdeal.main_arg6)) →
    ∃ (v0 : (c : Dev Cert.StepDownIdeal.nD) → Buf (Elt Ideal) ((c.tc : Thread Cert.StepDownIdeal.nD Cert.StepDownIdeal.τ).loc Cert.StepDownIdeal.main_v3_0)) (v1 : (c : Dev Cert.StepDownIdeal.nD) → Buf (Elt Ideal) ((c.tc : Thread Cert.StepDownIdeal.nD Cert.StepDownIdeal.τ).loc Cert.StepDownIdeal.main_v3_1)) (v2 : (c : Dev Cert.StepDownIdeal.nD) → Buf (Elt Ideal) ((c.tc : Thread Cert.StepDownIdeal.nD Cert.StepDownIdeal.τ).loc Cert.StepDownIdeal.main_v3_2)) (v3 : (c : Dev Cert.StepDownIdeal.nD) → Buf (Elt Ideal) ((c.tc : Thread Cert.StepDownIdeal.nD Cert.StepDownIdeal.τ).loc Cert.StepDownIdeal.main_v3_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v3_0) = v0 c
          ∧ r.2.mem ((c.tc : Thread Cert.StepDownIdeal.nD Cert.StepDownIdeal.τ).loc Cert.StepDownIdeal.main_v3_1) = v1 c
          ∧ r.2.mem ((c.tc : Thread Cert.StepDownIdeal.nD Cert.StepDownIdeal.τ).loc Cert.StepDownIdeal.main_v3_2) = v2 c
          ∧ r.2.mem ((c.tc : Thread Cert.StepDownIdeal.nD Cert.StepDownIdeal.τ).loc Cert.StepDownIdeal.main_v3_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
          ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4)
          ∧ r.2.mem ((c.tc : Thread Cert.StepDownIdeal.nD Cert.StepDownIdeal.τ).loc Cert.StepDownIdeal.main_arg5) = m ((c.tc : Thread Cert.StepDownIdeal.nD Cert.StepDownIdeal.τ).loc Cert.StepDownIdeal.main_arg5)
          ∧ r.2.mem ((c.tc : Thread Cert.StepDownIdeal.nD Cert.StepDownIdeal.τ).loc Cert.StepDownIdeal.main_arg6) = m ((c.tc : Thread Cert.StepDownIdeal.nD Cert.StepDownIdeal.τ).loc Cert.StepDownIdeal.main_arg6))
      ∧ θ_run (Cert.StepDownRefIdeal.defs (F := Ideal)) (onTc (τ := Cert.StepDownRefIdeal.τ) (Cert.StepDownRefIdeal.main (F := Ideal))) ⟨m', fun _ => 0, g'⟩ (fun r => ∀ c : Dev Cert.StepDownRefIdeal.nD,
          r.2.mem ((c.tc : Thread Cert.StepDownRefIdeal.nD Cert.StepDownRefIdeal.τ).loc Cert.StepDownRefIdeal.main_v2) = v0 c
          ∧ r.2.mem ((c.tc : Thread Cert.StepDownRefIdeal.nD Cert.StepDownRefIdeal.τ).loc Cert.StepDownRefIdeal.main_v26) = v1 c
          ∧ r.2.mem ((c.tc : Thread Cert.StepDownRefIdeal.nD Cert.StepDownRefIdeal.τ).loc Cert.StepDownRefIdeal.main_v7) = v2 c
          ∧ r.2.mem ((c.tc : Thread Cert.StepDownRefIdeal.nD Cert.StepDownRefIdeal.τ).loc Cert.StepDownRefIdeal.main_v13) = v3 c
          ∧ r.2.mem ((c.tc : Thread Cert.StepDownRefIdeal.nD Cert.StepDownRefIdeal.τ).loc Cert.StepDownRefIdeal.main_arg0) = m' ((c.tc : Thread Cert.StepDownRefIdeal.nD Cert.StepDownRefIdeal.τ).loc Cert.StepDownRefIdeal.main_arg0)
          ∧ r.2.mem ((c.tc : Thread Cert.StepDownRefIdeal.nD Cert.StepDownRefIdeal.τ).loc Cert.StepDownRefIdeal.main_arg1) = m' ((c.tc : Thread Cert.StepDownRefIdeal.nD Cert.StepDownRefIdeal.τ).loc Cert.StepDownRefIdeal.main_arg1)
          ∧ r.2.mem ((c.tc : Thread Cert.StepDownRefIdeal.nD Cert.StepDownRefIdeal.τ).loc Cert.StepDownRefIdeal.main_arg2) = m' ((c.tc : Thread Cert.StepDownRefIdeal.nD Cert.StepDownRefIdeal.τ).loc Cert.StepDownRefIdeal.main_arg2)
          ∧ r.2.mem ((c.tc : Thread Cert.StepDownRefIdeal.nD Cert.StepDownRefIdeal.τ).loc Cert.StepDownRefIdeal.main_arg3) = m' ((c.tc : Thread Cert.StepDownRefIdeal.nD Cert.StepDownRefIdeal.τ).loc Cert.StepDownRefIdeal.main_arg3)
          ∧ r.2.mem ((c.tc : Thread Cert.StepDownRefIdeal.nD Cert.StepDownRefIdeal.τ).loc Cert.StepDownRefIdeal.main_arg4) = m' ((c.tc : Thread Cert.StepDownRefIdeal.nD Cert.StepDownRefIdeal.τ).loc Cert.StepDownRefIdeal.main_arg4)
          ∧ r.2.mem ((c.tc : Thread Cert.StepDownRefIdeal.nD Cert.StepDownRefIdeal.τ).loc Cert.StepDownRefIdeal.main_arg5) = m' ((c.tc : Thread Cert.StepDownRefIdeal.nD Cert.StepDownRefIdeal.τ).loc Cert.StepDownRefIdeal.main_arg5)
          ∧ r.2.mem ((c.tc : Thread Cert.StepDownRefIdeal.nD Cert.StepDownRefIdeal.τ).loc Cert.StepDownRefIdeal.main_arg6) = m' ((c.tc : Thread Cert.StepDownRefIdeal.nD Cert.StepDownRefIdeal.τ).loc Cert.StepDownRefIdeal.main_arg6))

def preserves_StepUp_StepUpIdeal : Prop :=
  True

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)
      ∧ m' ((c.tc : Thread Cert.StepUpRefIdeal.nD Cert.StepUpRefIdeal.τ).loc Cert.StepUpRefIdeal.main_arg4) = m ((c.tc : Thread Cert.StepUpIdeal.nD Cert.StepUpIdeal.τ).loc Cert.StepUpIdeal.main_arg4)
      ∧ m' ((c.tc : Thread Cert.StepUpRefIdeal.nD Cert.StepUpRefIdeal.τ).loc Cert.StepUpRefIdeal.main_arg5) = m ((c.tc : Thread Cert.StepUpIdeal.nD Cert.StepUpIdeal.τ).loc Cert.StepUpIdeal.main_arg5)
      ∧ m' ((c.tc : Thread Cert.StepUpRefIdeal.nD Cert.StepUpRefIdeal.τ).loc Cert.StepUpRefIdeal.main_arg6) = m ((c.tc : Thread Cert.StepUpIdeal.nD Cert.StepUpIdeal.τ).loc Cert.StepUpIdeal.main_arg6)) →
    ∃ (v0 : (c : Dev Cert.StepUpIdeal.nD) → Buf (Elt Ideal) ((c.tc : Thread Cert.StepUpIdeal.nD Cert.StepUpIdeal.τ).loc Cert.StepUpIdeal.main_v3_0)) (v1 : (c : Dev Cert.StepUpIdeal.nD) → Buf (Elt Ideal) ((c.tc : Thread Cert.StepUpIdeal.nD Cert.StepUpIdeal.τ).loc Cert.StepUpIdeal.main_v3_1)) (v2 : (c : Dev Cert.StepUpIdeal.nD) → Buf (Elt Ideal) ((c.tc : Thread Cert.StepUpIdeal.nD Cert.StepUpIdeal.τ).loc Cert.StepUpIdeal.main_v3_2)) (v3 : (c : Dev Cert.StepUpIdeal.nD) → Buf (Elt Ideal) ((c.tc : Thread Cert.StepUpIdeal.nD Cert.StepUpIdeal.τ).loc Cert.StepUpIdeal.main_v3_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v3_0) = v0 c
          ∧ r.2.mem ((c.tc : Thread Cert.StepUpIdeal.nD Cert.StepUpIdeal.τ).loc Cert.StepUpIdeal.main_v3_1) = v1 c
          ∧ r.2.mem ((c.tc : Thread Cert.StepUpIdeal.nD Cert.StepUpIdeal.τ).loc Cert.StepUpIdeal.main_v3_2) = v2 c
          ∧ r.2.mem ((c.tc : Thread Cert.StepUpIdeal.nD Cert.StepUpIdeal.τ).loc Cert.StepUpIdeal.main_v3_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
          ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4)
          ∧ r.2.mem ((c.tc : Thread Cert.StepUpIdeal.nD Cert.StepUpIdeal.τ).loc Cert.StepUpIdeal.main_arg5) = m ((c.tc : Thread Cert.StepUpIdeal.nD Cert.StepUpIdeal.τ).loc Cert.StepUpIdeal.main_arg5)
          ∧ r.2.mem ((c.tc : Thread Cert.StepUpIdeal.nD Cert.StepUpIdeal.τ).loc Cert.StepUpIdeal.main_arg6) = m ((c.tc : Thread Cert.StepUpIdeal.nD Cert.StepUpIdeal.τ).loc Cert.StepUpIdeal.main_arg6))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_v2) = v0 c
          ∧ r.2.mem ((c.tc : Thread Cert.StepUpRefIdeal.nD Cert.StepUpRefIdeal.τ).loc Cert.StepUpRefIdeal.main_v26) = v1 c
          ∧ r.2.mem ((c.tc : Thread Cert.StepUpRefIdeal.nD Cert.StepUpRefIdeal.τ).loc Cert.StepUpRefIdeal.main_v7) = v2 c
          ∧ r.2.mem ((c.tc : Thread Cert.StepUpRefIdeal.nD Cert.StepUpRefIdeal.τ).loc Cert.StepUpRefIdeal.main_v13) = v3 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3)
          ∧ r.2.mem ((c.tc : Thread Cert.StepUpRefIdeal.nD Cert.StepUpRefIdeal.τ).loc Cert.StepUpRefIdeal.main_arg4) = m' ((c.tc : Thread Cert.StepUpRefIdeal.nD Cert.StepUpRefIdeal.τ).loc Cert.StepUpRefIdeal.main_arg4)
          ∧ r.2.mem ((c.tc : Thread Cert.StepUpRefIdeal.nD Cert.StepUpRefIdeal.τ).loc Cert.StepUpRefIdeal.main_arg5) = m' ((c.tc : Thread Cert.StepUpRefIdeal.nD Cert.StepUpRefIdeal.τ).loc Cert.StepUpRefIdeal.main_arg5)
          ∧ r.2.mem ((c.tc : Thread Cert.StepUpRefIdeal.nD Cert.StepUpRefIdeal.τ).loc Cert.StepUpRefIdeal.main_arg6) = m' ((c.tc : Thread Cert.StepUpRefIdeal.nD Cert.StepUpRefIdeal.τ).loc Cert.StepUpRefIdeal.main_arg6))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)
      ∧ m' ((c.tc : Thread Cert.StepInRefIdeal.nD Cert.StepInRefIdeal.τ).loc Cert.StepInRefIdeal.main_arg4) = m ((c.tc : Thread Cert.StepInIdeal.nD Cert.StepInIdeal.τ).loc Cert.StepInIdeal.main_arg4)
      ∧ m' ((c.tc : Thread Cert.StepInRefIdeal.nD Cert.StepInRefIdeal.τ).loc Cert.StepInRefIdeal.main_arg5) = m ((c.tc : Thread Cert.StepInIdeal.nD Cert.StepInIdeal.τ).loc Cert.StepInIdeal.main_arg5)
      ∧ m' ((c.tc : Thread Cert.StepInRefIdeal.nD Cert.StepInRefIdeal.τ).loc Cert.StepInRefIdeal.main_arg6) = m ((c.tc : Thread Cert.StepInIdeal.nD Cert.StepInIdeal.τ).loc Cert.StepInIdeal.main_arg6)) →
    ∃ (v0 : (c : Dev Cert.StepInIdeal.nD) → Buf (Elt Ideal) ((c.tc : Thread Cert.StepInIdeal.nD Cert.StepInIdeal.τ).loc Cert.StepInIdeal.main_v3_0)) (v1 : (c : Dev Cert.StepInIdeal.nD) → Buf (Elt Ideal) ((c.tc : Thread Cert.StepInIdeal.nD Cert.StepInIdeal.τ).loc Cert.StepInIdeal.main_v3_1)) (v2 : (c : Dev Cert.StepInIdeal.nD) → Buf (Elt Ideal) ((c.tc : Thread Cert.StepInIdeal.nD Cert.StepInIdeal.τ).loc Cert.StepInIdeal.main_v3_2)) (v3 : (c : Dev Cert.StepInIdeal.nD) → Buf (Elt Ideal) ((c.tc : Thread Cert.StepInIdeal.nD Cert.StepInIdeal.τ).loc Cert.StepInIdeal.main_v3_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v3_0) = v0 c
          ∧ r.2.mem ((c.tc : Thread Cert.StepInIdeal.nD Cert.StepInIdeal.τ).loc Cert.StepInIdeal.main_v3_1) = v1 c
          ∧ r.2.mem ((c.tc : Thread Cert.StepInIdeal.nD Cert.StepInIdeal.τ).loc Cert.StepInIdeal.main_v3_2) = v2 c
          ∧ r.2.mem ((c.tc : Thread Cert.StepInIdeal.nD Cert.StepInIdeal.τ).loc Cert.StepInIdeal.main_v3_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
          ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
          ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5)
          ∧ r.2.mem ((c.tc : Thread Cert.StepInIdeal.nD Cert.StepInIdeal.τ).loc Cert.StepInIdeal.main_arg6) = m ((c.tc : Thread Cert.StepInIdeal.nD Cert.StepInIdeal.τ).loc Cert.StepInIdeal.main_arg6))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v2) = v0 c
          ∧ r.2.mem ((c.tc : Thread Cert.StepInRefIdeal.nD Cert.StepInRefIdeal.τ).loc Cert.StepInRefIdeal.main_v26) = v1 c
          ∧ r.2.mem ((c.tc : Thread Cert.StepInRefIdeal.nD Cert.StepInRefIdeal.τ).loc Cert.StepInRefIdeal.main_v7) = v2 c
          ∧ r.2.mem ((c.tc : Thread Cert.StepInRefIdeal.nD Cert.StepInRefIdeal.τ).loc Cert.StepInRefIdeal.main_v13) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3)
          ∧ r.2.mem ((c.tc : Thread Cert.StepInRefIdeal.nD Cert.StepInRefIdeal.τ).loc Cert.StepInRefIdeal.main_arg4) = m' ((c.tc : Thread Cert.StepInRefIdeal.nD Cert.StepInRefIdeal.τ).loc Cert.StepInRefIdeal.main_arg4)
          ∧ r.2.mem ((c.tc : Thread Cert.StepInRefIdeal.nD Cert.StepInRefIdeal.τ).loc Cert.StepInRefIdeal.main_arg5) = m' ((c.tc : Thread Cert.StepInRefIdeal.nD Cert.StepInRefIdeal.τ).loc Cert.StepInRefIdeal.main_arg5)
          ∧ r.2.mem ((c.tc : Thread Cert.StepInRefIdeal.nD Cert.StepInRefIdeal.τ).loc Cert.StepInRefIdeal.main_arg6) = m' ((c.tc : Thread Cert.StepInRefIdeal.nD Cert.StepInRefIdeal.τ).loc Cert.StepInRefIdeal.main_arg6))

def Claim : Prop :=
  ∃ (hKernel : Cert.Kernel.Facts) (hKernelIdeal : Cert.KernelIdeal.Facts) (hReferenceIdeal : Cert.ReferenceIdeal.Facts) (hInX : Cert.InX.Facts) (hInXIdeal : Cert.InXIdeal.Facts) (hInXRefIdeal : Cert.InXRefIdeal.Facts) (hInW : Cert.InW.Facts) (hInWIdeal : Cert.InWIdeal.Facts) (hInWRefIdeal : Cert.InWRefIdeal.Facts) (hUpX : Cert.UpX.Facts) (hUpXIdeal : Cert.UpXIdeal.Facts) (hUpXRefIdeal : Cert.UpXRefIdeal.Facts) (hUpW : Cert.UpW.Facts) (hUpWIdeal : Cert.UpWIdeal.Facts) (hUpWRefIdeal : Cert.UpWRefIdeal.Facts) (hDownX : Cert.DownX.Facts) (hDownXIdeal : Cert.DownXIdeal.Facts) (hDownXRefIdeal : Cert.DownXRefIdeal.Facts) (hDownW : Cert.DownW.Facts) (hDownWIdeal : Cert.DownWIdeal.Facts) (hDownWRefIdeal : Cert.DownWRefIdeal.Facts) (hIn : Cert.In.Facts) (hInIdeal : Cert.InIdeal.Facts) (hInRefIdeal : Cert.InRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hSmall : Cert.Small.Facts) (hSmallIdeal : Cert.SmallIdeal.Facts) (hSmallRefIdeal : Cert.SmallRefIdeal.Facts) (hScanConv : Cert.ScanConv.Facts) (hScanConvIdeal : Cert.ScanConvIdeal.Facts) (hScanConvRefIdeal : Cert.ScanConvRefIdeal.Facts) (hFfnConv : Cert.FfnConv.Facts) (hFfnConvIdeal : Cert.FfnConvIdeal.Facts) (hFfnConvRefIdeal : Cert.FfnConvRefIdeal.Facts) (hSquare : Cert.Square.Facts) (hSquareIdeal : Cert.SquareIdeal.Facts) (hSquareRefIdeal : Cert.SquareRefIdeal.Facts) (hPool : Cert.Pool.Facts) (hPoolIdeal : Cert.PoolIdeal.Facts) (hPoolRefIdeal : Cert.PoolRefIdeal.Facts) (hMix : Cert.Mix.Facts) (hMixIdeal : Cert.MixIdeal.Facts) (hMixRefIdeal : Cert.MixRefIdeal.Facts) (hStepDown : Cert.StepDown.Facts) (hStepDownIdeal : Cert.StepDownIdeal.Facts) (hStepDownRefIdeal : Cert.StepDownRefIdeal.Facts) (hStepUp : Cert.StepUp.Facts) (hStepUpIdeal : Cert.StepUpIdeal.Facts) (hStepUpRefIdeal : Cert.StepUpRefIdeal.Facts) (hStepIn : Cert.StepIn.Facts) (hStepInIdeal : Cert.StepInIdeal.Facts) (hStepInRefIdeal : Cert.StepInRefIdeal.Facts),
    quiescent_Kernel (hKernel := hKernel)
    ∧ quiescent_KernelIdeal (hKernelIdeal := hKernelIdeal)
    ∧ quiescent_ReferenceIdeal (hReferenceIdeal := hReferenceIdeal)
    ∧ quiescent_InX (hInX := hInX)
    ∧ quiescent_InXIdeal (hInXIdeal := hInXIdeal)
    ∧ quiescent_InXRefIdeal (hInXRefIdeal := hInXRefIdeal)
    ∧ quiescent_InW (hInW := hInW)
    ∧ quiescent_InWIdeal (hInWIdeal := hInWIdeal)
    ∧ quiescent_InWRefIdeal (hInWRefIdeal := hInWRefIdeal)
    ∧ quiescent_UpX (hUpX := hUpX)
    ∧ quiescent_UpXIdeal (hUpXIdeal := hUpXIdeal)
    ∧ quiescent_UpXRefIdeal (hUpXRefIdeal := hUpXRefIdeal)
    ∧ quiescent_UpW (hUpW := hUpW)
    ∧ quiescent_UpWIdeal (hUpWIdeal := hUpWIdeal)
    ∧ quiescent_UpWRefIdeal (hUpWRefIdeal := hUpWRefIdeal)
    ∧ quiescent_DownX (hDownX := hDownX)
    ∧ quiescent_DownXIdeal (hDownXIdeal := hDownXIdeal)
    ∧ quiescent_DownXRefIdeal (hDownXRefIdeal := hDownXRefIdeal)
    ∧ quiescent_DownW (hDownW := hDownW)
    ∧ quiescent_DownWIdeal (hDownWIdeal := hDownWIdeal)
    ∧ quiescent_DownWRefIdeal (hDownWRefIdeal := hDownWRefIdeal)
    ∧ quiescent_In (hIn := hIn)
    ∧ quiescent_InIdeal (hInIdeal := hInIdeal)
    ∧ quiescent_InRefIdeal (hInRefIdeal := hInRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Small (hSmall := hSmall)
    ∧ quiescent_SmallIdeal (hSmallIdeal := hSmallIdeal)
    ∧ quiescent_SmallRefIdeal (hSmallRefIdeal := hSmallRefIdeal)
    ∧ quiescent_ScanConv (hScanConv := hScanConv)
    ∧ quiescent_ScanConvIdeal (hScanConvIdeal := hScanConvIdeal)
    ∧ quiescent_ScanConvRefIdeal (hScanConvRefIdeal := hScanConvRefIdeal)
    ∧ quiescent_FfnConv (hFfnConv := hFfnConv)
    ∧ quiescent_FfnConvIdeal (hFfnConvIdeal := hFfnConvIdeal)
    ∧ quiescent_FfnConvRefIdeal (hFfnConvRefIdeal := hFfnConvRefIdeal)
    ∧ quiescent_Square (hSquare := hSquare)
    ∧ quiescent_SquareIdeal (hSquareIdeal := hSquareIdeal)
    ∧ quiescent_SquareRefIdeal (hSquareRefIdeal := hSquareRefIdeal)
    ∧ quiescent_Pool (hPool := hPool)
    ∧ quiescent_PoolIdeal (hPoolIdeal := hPoolIdeal)
    ∧ quiescent_PoolRefIdeal (hPoolRefIdeal := hPoolRefIdeal)
    ∧ quiescent_Mix (hMix := hMix)
    ∧ quiescent_MixIdeal (hMixIdeal := hMixIdeal)
    ∧ quiescent_MixRefIdeal (hMixRefIdeal := hMixRefIdeal)
    ∧ quiescent_StepDown (hStepDown := hStepDown)
    ∧ quiescent_StepDownIdeal (hStepDownIdeal := hStepDownIdeal)
    ∧ quiescent_StepDownRefIdeal (hStepDownRefIdeal := hStepDownRefIdeal)
    ∧ quiescent_StepUp (hStepUp := hStepUp)
    ∧ quiescent_StepUpIdeal (hStepUpIdeal := hStepUpIdeal)
    ∧ quiescent_StepUpRefIdeal (hStepUpRefIdeal := hStepUpRefIdeal)
    ∧ quiescent_StepIn (hStepIn := hStepIn)
    ∧ quiescent_StepInIdeal (hStepInIdeal := hStepInIdeal)
    ∧ quiescent_StepInRefIdeal (hStepInRefIdeal := hStepInRefIdeal)
    ∧ preserves_Kernel_KernelIdeal
    ∧ algebraic_KernelIdeal_ReferenceIdeal (hKernelIdeal := hKernelIdeal) (hReferenceIdeal := hReferenceIdeal)
    ∧ preserves_InX_InXIdeal
    ∧ algebraic_InXIdeal_InXRefIdeal (hInXIdeal := hInXIdeal) (hInXRefIdeal := hInXRefIdeal)
    ∧ preserves_InW_InWIdeal
    ∧ algebraic_InWIdeal_InWRefIdeal (hInWIdeal := hInWIdeal) (hInWRefIdeal := hInWRefIdeal)
    ∧ preserves_UpX_UpXIdeal
    ∧ algebraic_UpXIdeal_UpXRefIdeal (hUpXIdeal := hUpXIdeal) (hUpXRefIdeal := hUpXRefIdeal)
    ∧ preserves_UpW_UpWIdeal
    ∧ algebraic_UpWIdeal_UpWRefIdeal (hUpWIdeal := hUpWIdeal) (hUpWRefIdeal := hUpWRefIdeal)
    ∧ preserves_DownX_DownXIdeal
    ∧ algebraic_DownXIdeal_DownXRefIdeal (hDownXIdeal := hDownXIdeal) (hDownXRefIdeal := hDownXRefIdeal)
    ∧ preserves_DownW_DownWIdeal
    ∧ algebraic_DownWIdeal_DownWRefIdeal (hDownWIdeal := hDownWIdeal) (hDownWRefIdeal := hDownWRefIdeal)
    ∧ preserves_In_InIdeal
    ∧ algebraic_InIdeal_InRefIdeal (hInIdeal := hInIdeal) (hInRefIdeal := hInRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Small_SmallIdeal
    ∧ algebraic_SmallIdeal_SmallRefIdeal (hSmallIdeal := hSmallIdeal) (hSmallRefIdeal := hSmallRefIdeal)
    ∧ preserves_ScanConv_ScanConvIdeal
    ∧ algebraic_ScanConvIdeal_ScanConvRefIdeal (hScanConvIdeal := hScanConvIdeal) (hScanConvRefIdeal := hScanConvRefIdeal)
    ∧ preserves_FfnConv_FfnConvIdeal
    ∧ algebraic_FfnConvIdeal_FfnConvRefIdeal (hFfnConvIdeal := hFfnConvIdeal) (hFfnConvRefIdeal := hFfnConvRefIdeal)
    ∧ preserves_Square_SquareIdeal
    ∧ algebraic_SquareIdeal_SquareRefIdeal (hSquareIdeal := hSquareIdeal) (hSquareRefIdeal := hSquareRefIdeal)
    ∧ preserves_Pool_PoolIdeal
    ∧ algebraic_PoolIdeal_PoolRefIdeal (hPoolIdeal := hPoolIdeal) (hPoolRefIdeal := hPoolRefIdeal)
    ∧ preserves_Mix_MixIdeal
    ∧ algebraic_MixIdeal_MixRefIdeal (hMixIdeal := hMixIdeal) (hMixRefIdeal := hMixRefIdeal)
    ∧ preserves_StepDown_StepDownIdeal
    ∧ algebraic_StepDownIdeal_StepDownRefIdeal (hStepDownIdeal := hStepDownIdeal) (hStepDownRefIdeal := hStepDownRefIdeal)
    ∧ preserves_StepUp_StepUpIdeal
    ∧ algebraic_StepUpIdeal_StepUpRefIdeal (hStepUpIdeal := hStepUpIdeal) (hStepUpRefIdeal := hStepUpRefIdeal)
    ∧ preserves_StepIn_StepInIdeal
    ∧ algebraic_StepInIdeal_StepInRefIdeal (hStepInIdeal := hStepInIdeal) (hStepInRefIdeal := hStepInRefIdeal)
-- ==== Kernel.lean ====
abbrev S4096x1536 : Shape := ⟨2, ![4096, 1536]⟩
abbrev S4096x10368 : Shape := ⟨2, ![4096, 10368]⟩
abbrev S32x8x128x128 : Shape := ⟨4, ![32, 8, 128, 128]⟩
abbrev S4096x1024 : Shape := ⟨2, ![4096, 1024]⟩
abbrev S16 : Shape := ⟨1, ![16]⟩
abbrev S1x16 : Shape := ⟨2, ![1, 16]⟩
abbrev S_ : Shape := ⟨0, ![]⟩
abbrev S1x128 : Shape := ⟨2, ![1, 128]⟩
abbrev S16x64 : Shape := ⟨2, ![16, 64]⟩
abbrev S1024 : Shape := ⟨1, ![1024]⟩
abbrev S1x1024 : Shape := ⟨2, ![1, 1024]⟩
abbrev S128x1536 : Shape := ⟨2, ![128, 1536]⟩
abbrev S128x128 : Shape := ⟨2, ![128, 128]⟩
abbrev S1x8x128x128 : Shape := ⟨4, ![1, 8, 128, 128]⟩
abbrev S128x1024 : Shape := ⟨2, ![128, 1024]⟩
abbrev S128x256 : Shape := ⟨2, ![128, 256]⟩
abbrev S8x128x128 : Shape := ⟨3, ![8, 128, 128]⟩
abbrev S1x1x128x128 : Shape := ⟨4, ![1, 1, 128, 128]⟩
abbrev S128x1 : Shape := ⟨2, ![128, 1]⟩
abbrev S128 : Shape := ⟨1, ![128]⟩
abbrev S1 : Shape := ⟨1, ![1]⟩
abbrev S1x1 : Shape := ⟨2, ![1, 1]⟩
abbrev S1x128x128 : Shape := ⟨3, ![1, 128, 128]⟩
abbrev S1x128x1 : Shape := ⟨3, ![1, 128, 1]⟩
abbrev S1x1x1 : Shape := ⟨3, ![1, 1, 1]⟩

abbrev nBuf : Space → Nat
  | .hbm => 26
  | .vmem => 19
  | .smem => 0
  | _ => 0

abbrev bufTy : (tb : Table) → Fin (tcTables nBuf tb) → BufTy
  | .hbm, ⟨0, _⟩ => ⟨S4096x1536, .f32⟩
  | .hbm, ⟨1, _⟩ => ⟨S4096x10368, .f32⟩
  | .hbm, ⟨2, _⟩ => ⟨S32x8x128x128, .f32⟩
  | .hbm, ⟨3, _⟩ => ⟨S4096x1024, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S4096x10368, .bf16⟩
  | .hbm, ⟨8, _⟩ => ⟨S16, .f32⟩
  | .hbm, ⟨9, _⟩ => ⟨S16, .f32⟩
  | .hbm, ⟨10, _⟩ => ⟨S1x16, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S1x16, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S16x64, .f32⟩
  | .hbm, ⟨19, _⟩ => ⟨S1024, .f32⟩
  | .hbm, ⟨20, _⟩ => ⟨S1x1024, .f32⟩
  | .hbm, ⟨21, _⟩ => ⟨S4096x1536, .f32⟩
  | .hbm, ⟨22, _⟩ => ⟨S4096x10368, .bf16⟩
  | .hbm, ⟨23, _⟩ => ⟨S1x128, .f32⟩
  | .hbm, ⟨24, _⟩ => ⟨S1x128, .f32⟩
  | .hbm, ⟨25, _⟩ => ⟨S1x1024, .f32⟩
  | .local _ .vmem, ⟨0, _⟩ => ⟨S128x1536, .f32⟩
  | .local _ .vmem, ⟨1, _⟩ => ⟨S128x1536, .f32⟩
  | .local _ .vmem, ⟨2, _⟩ => ⟨S128x128, .f32⟩
  | .local _ .vmem, ⟨3, _⟩ => ⟨S128x128, .f32⟩
  | .local _ .vmem, ⟨4, _⟩ => ⟨S1x8x128x128, .f32⟩
  | .local _ .vmem, ⟨5, _⟩ => ⟨S1x8x128x128, .f32⟩
  | .local _ .vmem, ⟨6, _⟩ => ⟨S128x1024, .f32⟩
  | .local _ .vmem, ⟨7, _⟩ => ⟨S128x1024, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S128x1536, .f32⟩
  | .local _ .vmem, ⟨12, _⟩ => ⟨S128x1536, .f32⟩
  | .local _ .vmem, ⟨13, _⟩ => ⟨S128x256, .bf16⟩
  | .local _ .vmem, ⟨14, _⟩ => ⟨S128x256, .bf16⟩
  | .local _ .vmem, ⟨15, _⟩ => ⟨S1x128, .f32⟩
  | .local _ .vmem, ⟨16, _⟩ => ⟨S1x128, .f32⟩
  | .local _ .vmem, ⟨17, _⟩ => ⟨S1x1024, .f32⟩
  | .local _ .vmem, ⟨18, _⟩ => ⟨S8x128x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c52_i32 : BitVec 32 := 52#32
  let c0_i32 : BitVec 32 := 0#32
  ![v0.toNat, c52_i32.toNat]

def cc0_transform_2 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c26_i32 : BitVec 32 := 26#32
  let c0_i32 : BitVec 32 := 0#32
  ![v0.toNat, c26_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x1536 : Shape := ⟨2, ![4096, 1536]⟩
abbrev S4096x10368 : Shape := ⟨2, ![4096, 10368]⟩
abbrev S32x8x128x128 : Shape := ⟨4, ![32, 8, 128, 128]⟩
abbrev S4096x1024 : Shape := ⟨2, ![4096, 1024]⟩
abbrev S16 : Shape := ⟨1, ![16]⟩
abbrev S4096x16 : Shape := ⟨2, ![4096, 16]⟩
abbrev S16x64 : Shape := ⟨2, ![16, 64]⟩
abbrev S1024 : Shape := ⟨1, ![1024]⟩
abbrev S32x2x8x64x128 : Shape := ⟨5, ![32, 2, 8, 64, 128]⟩
abbrev S1x16 : Shape := ⟨2, ![1, 16]⟩
abbrev S_ : Shape := ⟨0, ![]⟩
abbrev S32x128x2x8x64 : Shape := ⟨5, ![32, 128, 2, 8, 64]⟩
abbrev S32x128x2x8 : Shape := ⟨4, ![32, 128, 2, 8]⟩
abbrev S32x128x2x8x1 : Shape := ⟨5, ![32, 128, 2, 8, 1]⟩
abbrev S32x2x8x128 : Shape := ⟨4, ![32, 2, 8, 128]⟩
abbrev S4096x256 : Shape := ⟨2, ![4096, 256]⟩
abbrev S32x128x2x128 : Shape := ⟨4, ![32, 128, 2, 128]⟩
abbrev S128x128 : Shape := ⟨2, ![128, 128]⟩
abbrev S32x2x8x128x1 : Shape := ⟨5, ![32, 2, 8, 128, 1]⟩
abbrev S32x2x8x1x128 : Shape := ⟨5, ![32, 2, 8, 1, 128]⟩
abbrev S32x2x8x128x128 : Shape := ⟨5, ![32, 2, 8, 128, 128]⟩
abbrev S32x2x128x128 : Shape := ⟨4, ![32, 2, 128, 128]⟩
abbrev S32x2x1x128x128 : Shape := ⟨5, ![32, 2, 1, 128, 128]⟩
abbrev S32x2x8x1 : Shape := ⟨4, ![32, 2, 8, 1]⟩
abbrev S32x128x2x1x128 : Shape := ⟨5, ![32, 128, 2, 1, 128]⟩
abbrev S32x128x2x8x128 : Shape := ⟨5, ![32, 128, 2, 8, 128]⟩
abbrev S32x2x8x1x1 : Shape := ⟨5, ![32, 2, 8, 1, 1]⟩
abbrev S1x1024 : Shape := ⟨2, ![1, 1024]⟩
abbrev S1x2x8x64x128 : Shape := ⟨5, ![1, 2, 8, 64, 128]⟩
abbrev S16x2x8x64x128 : Shape := ⟨5, ![16, 2, 8, 64, 128]⟩
abbrev S32x2x8 : Shape := ⟨3, ![32, 2, 8]⟩
abbrev S4096x6656 : Shape := ⟨2, ![4096, 6656]⟩
abbrev S4096x3456 : Shape := ⟨2, ![4096, 3456]⟩
abbrev S128 : Shape := ⟨1, ![128]⟩
abbrev S1x128 : Shape := ⟨2, ![1, 128]⟩

abbrev nBuf : Space → Nat
  | .hbm => 449
  | .vmem => 0
  | .smem => 0
  | _ => 0

abbrev hbmTy0_0 (i : Nat) : BufTy := match i % 128 with
  | 0 => ⟨S4096x1536, .f32⟩
  | 1 => ⟨S4096x10368, .f32⟩
  | 2 => ⟨S32x8x128x128, .f32⟩
  | 3 => ⟨S4096x1024, .f32⟩
  | 4 => ⟨S16, .f32⟩
  | 5 => ⟨S16, .f32⟩
  | 6 => ⟨S16, .f32⟩
  | 7 => ⟨S4096x10368, .bf16⟩
  | 8 => ⟨S4096x16, .f32⟩
  | 9 => ⟨S16, .f32⟩
  | 10 => ⟨S16, .f32⟩
  | 11 => ⟨S16x64, .f32⟩
  | 12 => ⟨S1024, .f32⟩
  | 13 => ⟨S32x2x8x64x128, .f32⟩
  | 14 => ⟨S4096x1024, .f32⟩
  | 15 => ⟨S1x16, .f32⟩
  | 16 => ⟨S4096x16, .f32⟩
  | 17 => ⟨S4096x16, .f32⟩
  | 18 => ⟨S_, .f32⟩
  | 19 => ⟨S4096x16, .f32⟩
  | 20 => ⟨S4096x16, .f32⟩
  | 21 => ⟨S4096x16, .f32⟩
  | 22 => ⟨S4096x16, .f32⟩
  | 23 => ⟨S4096x16, .i1⟩
  | 24 => ⟨S4096x16, .f32⟩
  | 25 => ⟨S4096x16, .f32⟩
  | 26 => ⟨S4096x16, .f32⟩
  | 27 => ⟨S4096x16, .f32⟩
  | 28 => ⟨S4096x16, .f32⟩
  | 29 => ⟨S4096x16, .f32⟩
  | 30 => ⟨S4096x16, .f32⟩
  | 31 => ⟨S4096x16, .f32⟩
  | 32 => ⟨S_, .f32⟩
  | 33 => ⟨S4096x16, .f32⟩
  | 34 => ⟨S4096x16, .i1⟩
  | 35 => ⟨S_, .f32⟩
  | 36 => ⟨S4096x16, .f32⟩
  | 37 => ⟨S4096x16, .f32⟩
  | 38 => ⟨S_, .f32⟩
  | 39 => ⟨S4096x16, .f32⟩
  | 40 => ⟨S4096x16, .i1⟩
  | 41 => ⟨S_, .f32⟩
  | 42 => ⟨S4096x16, .f32⟩
  | 43 => ⟨S4096x16, .f32⟩
  | 44 => ⟨S4096x16, .f32⟩
  | 45 => ⟨S4096x16, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S4096x16, .f32⟩
  | 54 => ⟨S4096x16, .i1⟩
  | 55 => ⟨S_, .f32⟩
  | 56 => ⟨S4096x16, .f32⟩
  | 57 => ⟨S4096x16, .f32⟩
  | 58 => ⟨S4096x16, .f32⟩
  | 59 => ⟨S4096x16, .f32⟩
  | 60 => ⟨S4096x16, .f32⟩
  | 61 => ⟨S_, .f32⟩
  | 62 => ⟨S4096x16, .f32⟩
  | 63 => ⟨S4096x16, .f32⟩
  | 64 => ⟨S32x128x2x8x64, .f32⟩
  | 65 => ⟨S32x128x2x8, .f32⟩
  | 66 => ⟨S32x128x2x8x1, .f32⟩
  | 67 => ⟨S32x128x2x8x64, .f32⟩
  | 68 => ⟨S32x128x2x8x64, .f32⟩
  | 69 => ⟨S1x16, .f32⟩
  | 70 => ⟨S4096x16, .f32⟩
  | 71 => ⟨S4096x16, .f32⟩
  | 72 => ⟨S32x128x2x8, .f32⟩
  | 73 => ⟨S32x2x8x128, .f32⟩
  | 74 => ⟨S_, .f32⟩
  | 75 => ⟨S_, .f32⟩
  | 76 => ⟨S32x2x8x128, .f32⟩
  | 77 => ⟨S4096x256, .f32⟩
  | 78 => ⟨S32x128x2x128, .f32⟩
  | 79 => ⟨S4096x256, .f32⟩
  | 80 => ⟨S32x128x2x128, .f32⟩
  | 81 => ⟨S_, .i1⟩
  | 82 => ⟨S128x128, .i1⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .i1⟩
  | 90 => ⟨S128x128, .i1⟩
  | 91 => ⟨S128x128, .i1⟩
  | 92 => ⟨S32x2x8x128x1, .f32⟩
  | 93 => ⟨S32x2x8x1x128, .f32⟩
  | 94 => ⟨S32x2x8x128x128, .f32⟩
  | 95 => ⟨S32x2x8x128x128, .f32⟩
  | 96 => ⟨S32x2x8x128x128, .f32⟩
  | 97 => ⟨S_, .f32⟩
  | 98 => ⟨S_, .f32⟩
  | 99 => ⟨S32x2x8x128x128, .i1⟩
  | 100 => ⟨S32x2x8x128x128, .f32⟩
  | 101 => ⟨S32x2x8x128x128, .f32⟩
  | 102 => ⟨S_, .f32⟩
  | 103 => ⟨S32x2x8x128x128, .f32⟩
  | 104 => ⟨S32x2x8x128x128, .f32⟩
  | 105 => ⟨S32x2x128x128, .f32⟩
  | 106 => ⟨S32x2x1x128x128, .f32⟩
  | 107 => ⟨S32x2x8x128x128, .f32⟩
  | 108 => ⟨S32x2x8x128x128, .f32⟩
  | 109 => ⟨S32x2x8x64x128, .f32⟩
  | 110 => ⟨S32x128x2x8x64, .f32⟩
  | 111 => ⟨S32x2x8x1, .f32⟩
  | 112 => ⟨S32x2x8x128, .f32⟩
  | 113 => ⟨S32x2x8x128, .f32⟩
  | 114 => ⟨S32x2x8x128, .f32⟩
  | 115 => ⟨S32x128x2x1x128, .f32⟩
  | 116 => ⟨S32x128x2x8x128, .f32⟩
  | 117 => ⟨S32x128x2x8, .f32⟩
  | 118 => ⟨S32x128x2x8x1, .f32⟩
  | 119 => ⟨S32x128x2x8x64, .f32⟩
  | 120 => ⟨S32x128x2x8x64, .f32⟩
  | 121 => ⟨S32x2x8x64x128, .f32⟩
  | 122 => ⟨S32x2x8x1, .f32⟩
  | 123 => ⟨S32x2x8x1, .f32⟩
  | 124 => ⟨S32x2x8x1x1, .f32⟩
  | 125 => ⟨S32x2x8x64x128, .f32⟩
  | 126 => ⟨S32x2x8x64x128, .f32⟩
  | 127 => ⟨S32x2x8x64x128, .f32⟩
  | _ => ⟨S4096x1536, .f32⟩

abbrev hbmTy0_1 (i : Nat) : BufTy := match i % 128 with
  | 0 => ⟨S32x2x8x128, .f32⟩
  | 1 => ⟨S32x128x2x8, .f32⟩
  | 2 => ⟨S32x128x2x8x1, .f32⟩
  | 3 => ⟨S32x128x2x1x128, .f32⟩
  | 4 => ⟨S32x128x2x8x128, .f32⟩
  | 5 => ⟨S32x2x8x64x128, .f32⟩
  | 6 => ⟨S32x128x2x8x64, .f32⟩
  | 7 => ⟨S32x128x2x8x64, .f32⟩
  | 8 => ⟨S32x128x2x8x64, .f32⟩
  | 9 => ⟨S32x128x2x8x64, .f32⟩
  | 10 => ⟨S4096x1024, .f32⟩
  | 11 => ⟨S1x1024, .f32⟩
  | 12 => ⟨S4096x1024, .f32⟩
  | 13 => ⟨S4096x1024, .f32⟩
  | 14 => ⟨S4096x1024, .f32⟩
  | 15 => ⟨S32x128x2x1x128, .f32⟩
  | 16 => ⟨S32x128x2x8x128, .f32⟩
  | 17 => ⟨S32x2x8x64x128, .f32⟩
  | 18 => ⟨S32x128x2x8x64, .f32⟩
  | 19 => ⟨S32x128x2x8x64, .f32⟩
  | 20 => ⟨S32x128x2x8x64, .f32⟩
  | 21 => ⟨S32x128x2x8x64, .f32⟩
  | 22 => ⟨S32x128x2x8x64, .f32⟩
  | 23 => ⟨S32x128x2x8x64, .f32⟩
  | 24 => ⟨S32x2x8x64x128, .f32⟩
  | 25 => ⟨S32x2x8x64x128, .f32⟩
  | 26 => ⟨S32x2x8x1x1, .f32⟩
  | 27 => ⟨S32x2x8x64x128, .f32⟩
  | 28 => ⟨S_, .f32⟩
  | 29 => ⟨S1x2x8x64x128, .f32⟩
  | 30 => ⟨S1x2x8x64x128, .f32⟩
  | 31 => ⟨S1x2x8x64x128, .f32⟩
  | 32 => ⟨S1x2x8x64x128, .f32⟩
  | 33 => ⟨S1x2x8x64x128, .f32⟩
  | 34 => ⟨S1x2x8x64x128, .f32⟩
  | 35 => ⟨S1x2x8x64x128, .f32⟩
  | 36 => ⟨S1x2x8x64x128, .f32⟩
  | 37 => ⟨S1x2x8x64x128, .f32⟩
  | 38 => ⟨S1x2x8x64x128, .f32⟩
  | 39 => ⟨S1x2x8x64x128, .f32⟩
  | 40 => ⟨S1x2x8x64x128, .f32⟩
  | 41 => ⟨S1x2x8x64x128, .f32⟩
  | 42 => ⟨S1x2x8x64x128, .f32⟩
  | 43 => ⟨S1x2x8x64x128, .f32⟩
  | 44 => ⟨S1x2x8x64x128, .f32⟩
  | 45 => ⟨S1x2x8x64x128, .f32⟩
  | 46 => ⟨S1x2x8x64x128, .f32⟩
  | 47 => ⟨S1x2x8x64x128, .f32⟩
  | 48 => ⟨S1x2x8x64x128, .f32⟩
  | 49 => ⟨S1x2x8x64x128, .f32⟩
  | 50 => ⟨S1x2x8x64x128, .f32⟩
  | 51 => ⟨S1x2x8x64x128, .f32⟩
  | 52 => ⟨S1x2x8x64x128, .f32⟩
  | 53 => ⟨S1x2x8x64x128, .f32⟩
  | 54 => ⟨S1x2x8x64x128, .f32⟩
  | 55 => ⟨S1x2x8x64x128, .f32⟩
  | 56 => ⟨S1x2x8x64x128, .f32⟩
  | 57 => ⟨S1x2x8x64x128, .f32⟩
  | 58 => ⟨S1x2x8x64x128, .f32⟩
  | 59 => ⟨S1x2x8x64x128, .f32⟩
  | 60 => ⟨S1x2x8x64x128, .f32⟩
  | 61 => ⟨S1x2x8x64x128, .f32⟩
  | 62 => ⟨S1x2x8x64x128, .f32⟩
  | 63 => ⟨S1x2x8x64x128, .f32⟩
  | 64 => ⟨S1x2x8x64x128, .f32⟩
  | 65 => ⟨S1x2x8x64x128, .f32⟩
  | 66 => ⟨S1x2x8x64x128, .f32⟩
  | 67 => ⟨S1x2x8x64x128, .f32⟩
  | 68 => ⟨S1x2x8x64x128, .f32⟩
  | 69 => ⟨S1x2x8x64x128, .f32⟩
  | 70 => ⟨S1x2x8x64x128, .f32⟩
  | 71 => ⟨S1x2x8x64x128, .f32⟩
  | 72 => ⟨S1x2x8x64x128, .f32⟩
  | 73 => ⟨S1x2x8x64x128, .f32⟩
  | 74 => ⟨S1x2x8x64x128, .f32⟩
  | 75 => ⟨S1x2x8x64x128, .f32⟩
  | 76 => ⟨S1x2x8x64x128, .f32⟩
  | 77 => ⟨S1x2x8x64x128, .f32⟩
  | 78 => ⟨S1x2x8x64x128, .f32⟩
  | 79 => ⟨S1x2x8x64x128, .f32⟩
  | 80 => ⟨S1x2x8x64x128, .f32⟩
  | 81 => ⟨S1x2x8x64x128, .f32⟩
  | 82 => ⟨S1x2x8x64x128, .f32⟩
  | 83 => ⟨S1x2x8x64x128, .f32⟩
  | 84 => ⟨S1x2x8x64x128, .f32⟩
  | 85 => ⟨S1x2x8x64x128, .f32⟩
  | 86 => ⟨S1x2x8x64x128, .f32⟩
  | 87 => ⟨S1x2x8x64x128, .f32⟩
  | 88 => ⟨S1x2x8x64x128, .f32⟩
  | 89 => ⟨S1x2x8x64x128, .f32⟩
  | 90 => ⟨S1x2x8x64x128, .f32⟩
  | 91 => ⟨S1x2x8x64x128, .f32⟩
  | 92 => ⟨S1x2x8x64x128, .f32⟩
  | 93 => ⟨S1x2x8x64x128, .f32⟩
  | 94 => ⟨S1x2x8x64x128, .f32⟩
  | 95 => ⟨S1x2x8x64x128, .f32⟩
  | 96 => ⟨S1x2x8x64x128, .f32⟩
  | 97 => ⟨S1x2x8x64x128, .f32⟩
  | 98 => ⟨S1x2x8x64x128, .f32⟩
  | 99 => ⟨S1x2x8x64x128, .f32⟩
  | 100 => ⟨S1x2x8x64x128, .f32⟩
  | 101 => ⟨S1x2x8x64x128, .f32⟩
  | 102 => ⟨S1x2x8x64x128, .f32⟩
  | 103 => ⟨S1x2x8x64x128, .f32⟩
  | 104 => ⟨S1x2x8x64x128, .f32⟩
  | 105 => ⟨S1x2x8x64x128, .f32⟩
  | 106 => ⟨S1x2x8x64x128, .f32⟩
  | 107 => ⟨S1x2x8x64x128, .f32⟩
  | 108 => ⟨S1x2x8x64x128, .f32⟩
  | 109 => ⟨S1x2x8x64x128, .f32⟩
  | 110 => ⟨S1x2x8x64x128, .f32⟩
  | 111 => ⟨S1x2x8x64x128, .f32⟩
  | 112 => ⟨S1x2x8x64x128, .f32⟩
  | 113 => ⟨S1x2x8x64x128, .f32⟩
  | 114 => ⟨S1x2x8x64x128, .f32⟩
  | 115 => ⟨S1x2x8x64x128, .f32⟩
  | 116 => ⟨S1x2x8x64x128, .f32⟩
  | 117 => ⟨S1x2x8x64x128, .f32⟩
  | 118 => ⟨S1x2x8x64x128, .f32⟩
  | 119 => ⟨S1x2x8x64x128, .f32⟩
  | 120 => ⟨S1x2x8x64x128, .f32⟩
  | 121 => ⟨S1x2x8x64x128, .f32⟩
  | 122 => ⟨S1x2x8x64x128, .f32⟩
  | 123 => ⟨S1x2x8x64x128, .f32⟩
  | 124 => ⟨S1x2x8x64x128, .f32⟩
  | 125 => ⟨S1x2x8x64x128, .f32⟩
  | 126 => ⟨S1x2x8x64x128, .f32⟩
  | 127 => ⟨S1x2x8x64x128, .f32⟩
  | _ => ⟨S4096x1536, .f32⟩

abbrev hbmTy0_2 (i : Nat) : BufTy := match i % 128 with
  | 0 => ⟨S1x2x8x64x128, .f32⟩
  | 1 => ⟨S1x2x8x64x128, .f32⟩
  | 2 => ⟨S1x2x8x64x128, .f32⟩
  | 3 => ⟨S1x2x8x64x128, .f32⟩
  | 4 => ⟨S1x2x8x64x128, .f32⟩
  | 5 => ⟨S1x2x8x64x128, .f32⟩
  | 6 => ⟨S1x2x8x64x128, .f32⟩
  | 7 => ⟨S1x2x8x64x128, .f32⟩
  | 8 => ⟨S1x2x8x64x128, .f32⟩
  | 9 => ⟨S1x2x8x64x128, .f32⟩
  | 10 => ⟨S1x2x8x64x128, .f32⟩
  | 11 => ⟨S1x2x8x64x128, .f32⟩
  | 12 => ⟨S1x2x8x64x128, .f32⟩
  | 13 => ⟨S1x2x8x64x128, .f32⟩
  | 14 => ⟨S1x2x8x64x128, .f32⟩
  | 15 => ⟨S1x2x8x64x128, .f32⟩
  | 16 => ⟨S1x2x8x64x128, .f32⟩
  | 17 => ⟨S1x2x8x64x128, .f32⟩
  | 18 => ⟨S1x2x8x64x128, .f32⟩
  | 19 => ⟨S1x2x8x64x128, .f32⟩
  | 20 => ⟨S1x2x8x64x128, .f32⟩
  | 21 => ⟨S1x2x8x64x128, .f32⟩
  | 22 => ⟨S1x2x8x64x128, .f32⟩
  | 23 => ⟨S1x2x8x64x128, .f32⟩
  | 24 => ⟨S1x2x8x64x128, .f32⟩
  | 25 => ⟨S1x2x8x64x128, .f32⟩
  | 26 => ⟨S16x2x8x64x128, .f32⟩
  | 27 => ⟨S16x2x8x64x128, .f32⟩
  | 28 => ⟨S32x2x8x64x128, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S1024, .f32⟩
  | 36 => ⟨S1x1024, .f32⟩
  | 37 => ⟨S_, .f32⟩
  | 38 => ⟨S1024, .f32⟩
  | 39 => ⟨S32x128x2x8x64, .f32⟩
  | 40 => ⟨S32x128x2x8x64, .f32⟩
  | 41 => ⟨S_, .f32⟩
  | 42 => ⟨S32x128x2x8, .f32⟩
  | 43 => ⟨S32x128x2x8x1, .f32⟩
  | 44 => ⟨S32x128x2x8x64, .f32⟩
  | 45 => ⟨S32x128x2x8x64, .f32⟩
  | 46 => ⟨S32x2x8x64x128, .f32⟩
  | 47 => ⟨S32x2x8x128x128, .f32⟩
  | 48 => ⟨S32x128x2x8x128, .f32⟩
  | 49 => ⟨S32x2x8x64x128, .f32⟩
  | 50 => ⟨S_, .f32⟩
  | 51 => ⟨S32x128x2x128, .f32⟩
  | 52 => ⟨S32x128x2x1x128, .f32⟩
  | 53 => ⟨S_, .f32⟩
  | 54 => ⟨S32x128x2x128, .f32⟩
  | 55 => ⟨S_, .f32⟩
  | 56 => ⟨S32x128x2x8, .f32⟩
  | 57 => ⟨S32x2x8x128, .f32⟩
  | 58 => ⟨S32x2x8x128, .f32⟩
  | 59 => ⟨S32x2x8x64x128, .f32⟩
  | 60 => ⟨S_, .f32⟩
  | 61 => ⟨S32x2x8, .f32⟩
  | 62 => ⟨S32x2x8x1x1, .f32⟩
  | 63 => ⟨S32x2x8x64x128, .f32⟩
  | 64 => ⟨S32x2x8x64x128, .f32⟩
  | 65 => ⟨S32x2x8x64x128, .f32⟩
  | 66 => ⟨S_, .f32⟩
  | 67 => ⟨S32x2x8, .f32⟩
  | 68 => ⟨S32x2x8x1, .f32⟩
  | 69 => ⟨S32x2x8x1, .f32⟩
  | 70 => ⟨S_, .f32⟩
  | 71 => ⟨S32x2x8x128, .f32⟩
  | 72 => ⟨S32x2x8x128, .f32⟩
  | 73 => ⟨S32x2x8x128x128, .f32⟩
  | 74 => ⟨S32x128x2x8x128, .f32⟩
  | 75 => ⟨S32x2x8x64x128, .f32⟩
  | 76 => ⟨S32x128x2x8x64, .f32⟩
  | 77 => ⟨S32x128x2x8x64, .f32⟩
  | 78 => ⟨S32x128x2x8x64, .f32⟩
  | 79 => ⟨S32x128x2x8x64, .f32⟩
  | 80 => ⟨S_, .f32⟩
  | 81 => ⟨S32x128x2x8, .f32⟩
  | 82 => ⟨S32x128x2x8x1, .f32⟩
  | 83 => ⟨S_, .f32⟩
  | 84 => ⟨S32x128x2x8, .f32⟩
  | 85 => ⟨S32x2x8x128, .f32⟩
  | 86 => ⟨S_, .f32⟩
  | 87 => ⟨S32x128x2x128, .f32⟩
  | 88 => ⟨S32x128x2x1x128, .f32⟩
  | 89 => ⟨S_, .f32⟩
  | 90 => ⟨S32x128x2x128, .f32⟩
  | 91 => ⟨S32x2x8x128, .f32⟩
  | 92 => ⟨S_, .f32⟩
  | 93 => ⟨S32x2x8, .f32⟩
  | 94 => ⟨S32x2x8x1, .f32⟩
  | 95 => ⟨S32x2x8x128, .f32⟩
  | 96 => ⟨S32x2x8x128, .f32⟩
  | 97 => ⟨S_, .f32⟩
  | 98 => ⟨S32x2x8x128, .f32⟩
  | 99 => ⟨S32x2x8x128, .f32⟩
  | 100 => ⟨S32x2x8x64x128, .f32⟩
  | 101 => ⟨S32x2x8x128x128, .f32⟩
  | 102 => ⟨S32x2x8x64x128, .f32⟩
  | 103 => ⟨S32x128x2x8x64, .f32⟩
  | 104 => ⟨S32x128x2x8x64, .f32⟩
  | 105 => ⟨S32x2x8x128x128, .f32⟩
  | 106 => ⟨S32x2x8x128x128, .f32⟩
  | 107 => ⟨S32x2x8x128x128, .f32⟩
  | 108 => ⟨S_, .f32⟩
  | 109 => ⟨S32x2x128x128, .f32⟩
  | 110 => ⟨S32x2x1x128x128, .f32⟩
  | 111 => ⟨S_, .f32⟩
  | 112 => ⟨S32x2x128x128, .f32⟩
  | 113 => ⟨S32x2x128x128, .f32⟩
  | 114 => ⟨S32x128x2x128, .f32⟩
  | 115 => ⟨S32x128x2x128, .f32⟩
  | 116 => ⟨S32x2x128x128, .f32⟩
  | 117 => ⟨S32x128x2x128, .f32⟩
  | 118 => ⟨S32x128x2x128, .f32⟩
  | 119 => ⟨S32x2x8x128x128, .f32⟩
  | 120 => ⟨S_, .f32⟩
  | 121 => ⟨S32x2x8x128x128, .f32⟩
  | 122 => ⟨S32x2x8x128x128, .f32⟩
  | 123 => ⟨S_, .f32⟩
  | 124 => ⟨S32x2x8x128, .f32⟩
  | 125 => ⟨S32x2x8x128x1, .f32⟩
  | 126 => ⟨S32x2x8x128x128, .f32⟩
  | 127 => ⟨S_, .f32⟩
  | _ => ⟨S4096x1536, .f32⟩

abbrev hbmTy0_3 (i : Nat) : BufTy := match i % 128 with
  | 0 => ⟨S32x2x8x128, .f32⟩
  | 1 => ⟨S32x2x8x1x128, .f32⟩
  | 2 => ⟨S_, .f32⟩
  | 3 => ⟨S32x2x8x128, .f32⟩
  | 4 => ⟨S32x2x8x128, .f32⟩
  | 5 => ⟨S_, .f32⟩
  | 6 => ⟨S32x2x8x128, .f32⟩
  | 7 => ⟨S32x2x8x128, .f32⟩
  | 8 => ⟨S4096x256, .f32⟩
  | 9 => ⟨S_, .f32⟩
  | 10 => ⟨S4096x1536, .f32⟩
  | 11 => ⟨S4096x256, .f32⟩
  | 12 => ⟨S_, .f32⟩
  | 13 => ⟨S4096x1536, .f32⟩
  | 14 => ⟨S4096x1536, .f32⟩
  | 15 => ⟨S_, .f32⟩
  | 16 => ⟨S_, .f32⟩
  | 17 => ⟨S32x2x8x128, .f32⟩
  | 18 => ⟨S32x128x2x8, .f32⟩
  | 19 => ⟨S4096x16, .f32⟩
  | 20 => ⟨S4096x16, .f32⟩
  | 21 => ⟨S_, .f32⟩
  | 22 => ⟨S16, .f32⟩
  | 23 => ⟨S1x16, .f32⟩
  | 24 => ⟨S4096x16, .f32⟩
  | 25 => ⟨S4096x16, .f32⟩
  | 26 => ⟨S_, .f32⟩
  | 27 => ⟨S16, .f32⟩
  | 28 => ⟨S32x128x2x8x64, .f32⟩
  | 29 => ⟨S_, .f32⟩
  | 30 => ⟨S32x128x2x8, .f32⟩
  | 31 => ⟨S32x128x2x8x1, .f32⟩
  | 32 => ⟨S32x128x2x8x64, .f32⟩
  | 33 => ⟨S32x128x2x8x64, .f32⟩
  | 34 => ⟨S_, .f32⟩
  | 35 => ⟨S32x128x2x8, .f32⟩
  | 36 => ⟨S4096x16, .f32⟩
  | 37 => ⟨S4096x16, .f32⟩
  | 38 => ⟨S4096x1024, .f32⟩
  | 39 => ⟨S4096x1024, .f32⟩
  | 40 => ⟨S4096x16, .f32⟩
  | 41 => ⟨S_, .f32⟩
  | 42 => ⟨S16, .f32⟩
  | 43 => ⟨S1x16, .f32⟩
  | 44 => ⟨S_, .f32⟩
  | 45 => ⟨S16, .f32⟩
  | 46 => ⟨S_, .f32⟩
  | 47 => ⟨S4096x1536, .f32⟩
  | 48 => ⟨S4096x1536, .f32⟩
  | 49 => ⟨S_, .i32⟩
  | 50 => ⟨S_, .f32⟩
  | 51 => ⟨S4096x256, .f32⟩
  | 52 => ⟨S4096x256, .bf16⟩
  | 53 => ⟨S4096x6656, .bf16⟩
  | 54 => ⟨S4096x3456, .bf16⟩
  | 55 => ⟨S4096x10368, .bf16⟩
  | 56 => ⟨S_, .i32⟩
  | 57 => ⟨S_, .f32⟩
  | 58 => ⟨S128, .f32⟩
  | 59 => ⟨S1x128, .f32⟩
  | 60 => ⟨S_, .i32⟩
  | 61 => ⟨S_, .f32⟩
  | 62 => ⟨S128, .f32⟩
  | 63 => ⟨S1x128, .f32⟩
  | 64 => ⟨S1x1024, .f32⟩
  | _ => ⟨S4096x1536, .f32⟩

abbrev hbmTy (i : Nat) : BufTy := match i / 128 with
  | 0 => hbmTy0_0 i
  | 1 => hbmTy0_1 i
  | 2 => hbmTy0_2 i
  | 3 => hbmTy0_3 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v10_0 : Ref sig .tc := ⟨.hbm, 31, rfl⟩
abbrev main_call0_cst_0 : Ref sig .tc := ⟨.hbm, 32, rfl⟩
abbrev main_call0_v13 : Ref sig .tc := ⟨.hbm, 33, rfl⟩
abbrev main_call0_v14 : Ref sig .tc := ⟨.hbm, 34, rfl⟩
abbrev main_call0_cst_1 : Ref sig .tc := ⟨.hbm, 35, rfl⟩
abbrev main_call0_v15 : Ref sig .tc := ⟨.hbm, 36, rfl⟩
abbrev main_call0_v16 : Ref sig .tc := ⟨.hbm, 37, rfl⟩
abbrev main_call0_cst_2 : Ref sig .tc := ⟨.hbm, 38, rfl⟩
abbrev main_call0_v17 : Ref sig .tc := ⟨.hbm, 39, rfl⟩
abbrev main_call0_v18 : Ref sig .tc := ⟨.hbm, 40, rfl⟩
abbrev main_call0_cst_3 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_v10_1 : Ref sig .tc := ⟨.hbm, 45, rfl⟩
abbrev main_call0_cst_4 : Ref sig .tc := ⟨.hbm, 46, rfl⟩
abbrev main_call0_cst_5 : Ref sig .tc := ⟨.hbm, 47, rfl⟩
abbrev main_call0_v23 : Ref sig .tc := ⟨.hbm, 48, rfl⟩
abbrev main_call0_cst_6 : Ref sig .tc := ⟨.hbm, 49, rfl⟩
abbrev main_call0_cst_7 : Ref sig .tc := ⟨.hbm, 50, rfl⟩
abbrev main_call0_v24 : Ref sig .tc := ⟨.hbm, 51, rfl⟩
abbrev main_call0_cst_8 : Ref sig .tc := ⟨.hbm, 52, rfl⟩
abbrev main_call0_v25 : Ref sig .tc := ⟨.hbm, 53, rfl⟩
abbrev main_call0_v26 : Ref sig .tc := ⟨.hbm, 54, rfl⟩
abbrev main_call0_cst_9 : Ref sig .tc := ⟨.hbm, 55, rfl⟩
abbrev main_call0_v27 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_v31 : Ref sig .tc := ⟨.hbm, 60, rfl⟩
abbrev main_call0_cst_10 : Ref sig .tc := ⟨.hbm, 61, rfl⟩
abbrev main_call0_v32 : Ref sig .tc := ⟨.hbm, 62, rfl⟩
abbrev main_v10_2 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_call1_call0_cst : Ref sig .tc := ⟨.hbm, 74, rfl⟩
abbrev main_call1_call0_v0 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_c : Ref sig .tc := ⟨.hbm, 81, rfl⟩
abbrev main_v26 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_c_0 : Ref sig .tc := ⟨.hbm, 89, rfl⟩
abbrev main_call2_v5 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_cst : Ref sig .tc := ⟨.hbm, 97, rfl⟩
abbrev main_call3_v0 : Ref sig .tc := ⟨.hbm, 98, rfl⟩
abbrev main_v33_1 : Ref sig .tc := ⟨.hbm, 99, rfl⟩
abbrev main_call3_v2 : Ref sig .tc := ⟨.hbm, 100, rfl⟩
abbrev main_v33_0 : Ref sig .tc := ⟨.hbm, 101, rfl⟩
abbrev main_call3_cst : Ref sig .tc := ⟨.hbm, 102, rfl⟩
abbrev main_v33_2 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_cst_0 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_cst_1 : Ref sig .tc := ⟨.hbm, 290, rfl⟩
abbrev main_v219 : Ref sig .tc := ⟨.hbm, 291, rfl⟩
abbrev main_v220 : Ref sig .tc := ⟨.hbm, 292, rfl⟩
abbrev main_cst_2 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_cst_3 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_cst_4 : Ref sig .tc := ⟨.hbm, 306, rfl⟩
abbrev main_v232 : Ref sig .tc := ⟨.hbm, 307, rfl⟩
abbrev main_v233 : Ref sig .tc := ⟨.hbm, 308, rfl⟩
abbrev main_cst_5 : Ref sig .tc := ⟨.hbm, 309, rfl⟩
abbrev main_v234 : Ref sig .tc := ⟨.hbm, 310, rfl⟩
abbrev main_cst_6 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_cst_7 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_cst_8 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_cst_9 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_cst_10 : Ref sig .tc := ⟨.hbm, 336, rfl⟩
abbrev main_v256 : Ref sig .tc := ⟨.hbm, 337, rfl⟩
abbrev main_v257 : Ref sig .tc := ⟨.hbm, 338, rfl⟩
abbrev main_cst_11 : Ref sig .tc := ⟨.hbm, 339, rfl⟩
abbrev main_v258 : Ref sig .tc := ⟨.hbm, 340, rfl⟩
abbrev main_v259 : Ref sig .tc := ⟨.hbm, 341, rfl⟩
abbrev main_cst_12 : Ref sig .tc := ⟨.hbm, 342, rfl⟩
abbrev main_v260 : Ref sig .tc := ⟨.hbm, 343, rfl⟩
abbrev main_v261 : Ref sig .tc := ⟨.hbm, 344, rfl⟩
abbrev main_cst_13 : Ref sig .tc := ⟨.hbm, 345, rfl⟩
abbrev main_v262 : Ref sig .tc := ⟨.hbm, 346, rfl⟩
abbrev main_v263 : Ref sig .tc := ⟨.hbm, 347, rfl⟩
abbrev main_cst_14 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_cst_15 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_cst_16 : Ref sig .tc := ⟨.hbm, 364, rfl⟩
abbrev main_v278 : Ref sig .tc := ⟨.hbm, 365, rfl⟩
abbrev main_v279 : Ref sig .tc := ⟨.hbm, 366, rfl⟩
abbrev main_cst_17 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_call4_cst : Ref sig .tc := ⟨.hbm, 376, rfl⟩
abbrev main_call4_v0 : Ref sig .tc := ⟨.hbm, 377, rfl⟩
abbrev main_v288 : Ref sig .tc := ⟨.hbm, 378, rfl⟩
abbrev main_cst_18 : Ref sig .tc := ⟨.hbm, 379, rfl⟩
abbrev main_v289 : Ref sig .tc := ⟨.hbm, 380, rfl⟩
abbrev main_v290 : Ref sig .tc := ⟨.hbm, 381, rfl⟩
abbrev main_v291 : Ref sig .tc := ⟨.hbm, 382, rfl⟩
abbrev main_cst_19 : Ref sig .tc := ⟨.hbm, 383, rfl⟩
abbrev main_v292 : Ref sig .tc := ⟨.hbm, 384, rfl⟩
abbrev main_v293 : Ref sig .tc := ⟨.hbm, 385, rfl⟩
abbrev main_cst_20 : Ref sig .tc := ⟨.hbm, 386, rfl⟩
abbrev main_v294 : Ref sig .tc := ⟨.hbm, 387, rfl⟩
abbrev main_v295 : Ref sig .tc := ⟨.hbm, 388, rfl⟩
abbrev main_cst_21 : Ref sig .tc := ⟨.hbm, 389, rfl⟩
abbrev main_v296 : Ref sig .tc := ⟨.hbm, 390, rfl⟩
abbrev main_v297 : Ref sig .tc := ⟨.hbm, 391, rfl⟩
abbrev main_v298 : Ref sig .tc := ⟨.hbm, 392, rfl⟩
abbrev main_cst_22 : Ref sig .tc := ⟨.hbm, 393, rfl⟩
abbrev main_v299 : Ref sig .tc := ⟨.hbm, 394, rfl⟩
abbrev main_v300 : Ref sig .tc := ⟨.hbm, 395, rfl⟩
abbrev main_cst_23 : Ref sig .tc := ⟨.hbm, 396, rfl⟩
abbrev main_v301 : Ref sig .tc := ⟨.hbm, 397, rfl⟩
abbrev main_v302 : Ref sig .tc := ⟨.hbm, 398, rfl⟩
abbrev main_call5_call0_cst : Ref sig .tc := ⟨.hbm, 399, rfl⟩
abbrev main_call5_call0_v0 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_cst_24 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_v310 : Ref sig .tc := ⟨.hbm, 409, rfl⟩
abbrev main_cst_25 : Ref sig .tc := ⟨.hbm, 410, rfl⟩
abbrev main_v311 : Ref sig .tc := ⟨.hbm, 411, rfl⟩
abbrev main_v312 : Ref sig .tc := ⟨.hbm, 412, rfl⟩
abbrev main_cst_26 : Ref sig .tc := ⟨.hbm, 413, rfl⟩
abbrev main_v313 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_cst_27 : Ref sig .tc := ⟨.hbm, 418, rfl⟩
abbrev main_v317 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_v321 : Ref sig .tc := ⟨.hbm, 423, rfl⟩
abbrev main_v322 : Ref sig .tc := ⟨.hbm, 424, rfl⟩
abbrev main_cst_28 : Ref sig .tc := ⟨.hbm, 425, rfl⟩
abbrev main_v323 : Ref sig .tc := ⟨.hbm, 426, rfl⟩
abbrev main_v324 : Ref sig .tc := ⟨.hbm, 427, rfl⟩
abbrev main_cst_29 : Ref sig .tc := ⟨.hbm, 428, rfl⟩
abbrev main_v325 : Ref sig .tc := ⟨.hbm, 429, rfl⟩
abbrev main_cst_30 : Ref sig .tc := ⟨.hbm, 430, rfl⟩
abbrev main_v326 : Ref sig .tc := ⟨.hbm, 431, rfl⟩
abbrev main_v327 : Ref sig .tc := ⟨.hbm, 432, rfl⟩
abbrev main_c_31 : Ref sig .tc := ⟨.hbm, 433, rfl⟩
abbrev main_call7_v0 : Ref sig .tc := ⟨.hbm, 434, rfl⟩
abbrev main_v328 : Ref sig .tc := ⟨.hbm, 435, rfl⟩
abbrev main_v329 : Ref sig .tc := ⟨.hbm, 436, rfl⟩
abbrev main_v330 : Ref sig .tc := ⟨.hbm, 437, rfl⟩
abbrev main_v331 : Ref sig .tc := ⟨.hbm, 438, rfl⟩
abbrev main_v332 : Ref sig .tc := ⟨.hbm, 439, rfl⟩
abbrev main_c_32 : Ref sig .tc := ⟨.hbm, 440, rfl⟩
abbrev main_call8_v0 : Ref sig .tc := ⟨.hbm, 441, rfl⟩
abbrev main_v333 : Ref sig .tc := ⟨.hbm, 442, rfl⟩
abbrev main_v334 : Ref sig .tc := ⟨.hbm, 443, rfl⟩
abbrev main_c_33 : Ref sig .tc := ⟨.hbm, 444, rfl⟩
abbrev main_call9_v0 : Ref sig .tc := ⟨.hbm, 445, rfl⟩
abbrev main_v335 : Ref sig .tc := ⟨.hbm, 446, rfl⟩
abbrev main_v336 : Ref sig .tc := ⟨.hbm, 447, rfl⟩
abbrev main_v337 : Ref sig .tc := ⟨.hbm, 448, rfl⟩

abbrev nD : Nat := 1
abbrev τ : Topo := Topo.v7x

variable {F : FTy → Type} [FloatOps F]
-- ==== InX.lean ====
abbrev S4096x10368 : Shape := ⟨2, ![4096, 10368]⟩
abbrev S1024x10368 : Shape := ⟨2, ![1024, 10368]⟩
abbrev S4096x1024 : Shape := ⟨2, ![4096, 1024]⟩
abbrev S1024x3456 : Shape := ⟨2, ![1024, 3456]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10368, .bf16⟩
  | .hbm, ⟨1, _⟩ => ⟨S1024x10368, .bf16⟩
  | .hbm, ⟨2, _⟩ => ⟨S4096x1024, .f32⟩
  | .local _ .vmem, ⟨0, _⟩ => ⟨S1024x3456, .bf16⟩
  | .local _ .vmem, ⟨1, _⟩ => ⟨S1024x3456, .bf16⟩
  | .local _ .vmem, ⟨2, _⟩ => ⟨S1024x3456, .bf16⟩
  | .local _ .vmem, ⟨3, _⟩ => ⟨S1024x3456, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXRefIdeal.lean ====
abbrev S4096x10368 : Shape := ⟨2, ![4096, 10368]⟩
abbrev S1024x10368 : Shape := ⟨2, ![1024, 10368]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x10368, .bf16⟩
  | .hbm, ⟨1, _⟩ => ⟨S1024x10368, .bf16⟩
  | .hbm, ⟨2, _⟩ => ⟨S_, .f32⟩
  | .hbm, ⟨3, _⟩ => ⟨S4096x1024, .f32⟩
  | .hbm, ⟨4, _⟩ => ⟨S1024x10368, .f32⟩
  | .hbm, ⟨5, _⟩ => ⟨S4096x10368, .f32⟩
  | .hbm, ⟨6, _⟩ => ⟨S4096x10368, .f32⟩
  | .hbm, ⟨7, _⟩ => ⟨S4096x1024, .f32⟩
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InW.lean ====
abbrev S4096x1024 : Shape := ⟨2, ![4096, 1024]⟩
abbrev S4096x10368 : Shape := ⟨2, ![4096, 10368]⟩
abbrev S1024x10368 : Shape := ⟨2, ![1024, 10368]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x10368, .bf16⟩
  | .hbm, ⟨2, _⟩ => ⟨S1024x10368, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S4096x1024 : Shape := ⟨2, ![4096, 1024]⟩
abbrev S4096x10368 : Shape := ⟨2, ![4096, 10368]⟩
abbrev S_ : Shape := ⟨0, ![]⟩
abbrev S1024x10368 : Shape := ⟨2, ![1024, 10368]⟩
abbrev S10368x1024 : Shape := ⟨2, ![10368, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x10368, .bf16⟩
  | .hbm, ⟨2, _⟩ => ⟨S_, .f32⟩
  | .hbm, ⟨3, _⟩ => ⟨S1024x10368, .f32⟩
  | .hbm, ⟨4, _⟩ => ⟨S4096x1024, .f32⟩
  | .hbm, ⟨5, _⟩ => ⟨S4096x10368, .f32⟩
  | .hbm, ⟨6, _⟩ => ⟨S4096x10368, .f32⟩
  | .hbm, ⟨7, _⟩ => ⟨S10368x1024, .f32⟩
  | .hbm, ⟨8, _⟩ => ⟨S1024x10368, .f32⟩
  | .hbm, ⟨9, _⟩ => ⟨S1024x10368, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpX.lean ====
abbrev S4096x5632 : Shape := ⟨2, ![4096, 5632]⟩
abbrev S1024x5632 : Shape := ⟨2, ![1024, 5632]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXRefIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpW.lean ====
abbrev S4096x1024 : Shape := ⟨2, ![4096, 1024]⟩
abbrev S4096x5632 : Shape := ⟨2, ![4096, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownX.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownW.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== In.lean ====
abbrev S4096x1024 : Shape := ⟨2, ![4096, 1024]⟩
abbrev S1024x10368 : Shape := ⟨2, ![1024, 10368]⟩
abbrev S4096x10368 : Shape := ⟨2, ![4096, 10368]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x10368, .bf16⟩
  | .hbm, ⟨2, _⟩ => ⟨S4096x10368, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x1024 : Shape := ⟨2, ![4096, 1024]⟩
abbrev S1024x10368 : Shape := ⟨2, ![1024, 10368]⟩
abbrev S4096x10368 : Shape := ⟨2, ![4096, 10368]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x10368, .bf16⟩
  | .hbm, ⟨2, _⟩ => ⟨S4096x1024, .f32⟩
  | .hbm, ⟨3, _⟩ => ⟨S1024x10368, .f32⟩
  | .hbm, ⟨4, _⟩ => ⟨S4096x10368, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Small.lean ====
abbrev S8x464x128 : Shape := ⟨3, ![8, 464, 128]⟩
abbrev S464x128 : Shape := ⟨2, ![464, 128]⟩
abbrev S1x232x128 : Shape := ⟨3, ![1, 232, 128]⟩
abbrev S232x128 : Shape := ⟨2, ![232, 128]⟩

abbrev nBuf : Space → Nat
  | .hbm => 8
  | .vmem => 30
  | .smem => 0
  | _ => 0

abbrev bufTy : (tb : Table) → Fin (tcTables nBuf tb) → BufTy
  | .hbm, ⟨0, _⟩ => ⟨S8x464x128, .f32⟩
  | .hbm, ⟨1, _⟩ => ⟨S464x128, .f32⟩
  | .hbm, ⟨2, _⟩ => ⟨S464x128, .f32⟩
  | .hbm, ⟨3, _⟩ => ⟨S464x128, .f32⟩
  | .hbm, ⟨4, _⟩ => ⟨S464x128, .f32⟩
  | .hbm, ⟨5, _⟩ => ⟨S464x128, .f32⟩
  | .hbm, ⟨6, _⟩ => ⟨S464x128, .f32⟩
  | .hbm, ⟨7, _⟩ => ⟨S464x128, .f32⟩
  | .local _ .vmem, ⟨0, _⟩ => ⟨S1x232x128, .f32⟩
  | .local _ .vmem, ⟨1, _⟩ => ⟨S1x232x128, .f32⟩
  | .local _ .vmem, ⟨2, _⟩ => ⟨S1x232x128, .f32⟩
  | .local _ .vmem, ⟨3, _⟩ => ⟨S1x232x128, .f32⟩
  | .local _ .vmem, ⟨4, _⟩ => ⟨S1x232x128, .f32⟩
  | .local _ .vmem, ⟨5, _⟩ => ⟨S1x232x128, .f32⟩
  | .local _ .vmem, ⟨6, _⟩ => ⟨S1x232x128, .f32⟩
  | .local _ .vmem, ⟨7, _⟩ => ⟨S1x232x128, .f32⟩
  | .local _ .vmem, ⟨8, _⟩ => ⟨S1x232x128, .f32⟩
  | .local _ .vmem, ⟨9, _⟩ => ⟨S1x232x128, .f32⟩
  | .local _ .vmem, ⟨10, _⟩ => ⟨S1x232x128, .f32⟩
  | .local _ .vmem, ⟨11, _⟩ => ⟨S1x232x128, .f32⟩
  | .local _ .vmem, ⟨12, _⟩ => ⟨S1x232x128, .f32⟩
  | .local _ .vmem, ⟨13, _⟩ => ⟨S1x232x128, .f32⟩
  | .local _ .vmem, ⟨14, _⟩ => ⟨S1x232x128, .f32⟩
  | .local _ .vmem, ⟨15, _⟩ => ⟨S1x232x128, .f32⟩
  | .local _ .vmem, ⟨16, _⟩ => ⟨S232x128, .f32⟩
  | .local _ .vmem, ⟨17, _⟩ => ⟨S232x128, .f32⟩
  | .local _ .vmem, ⟨18, _⟩ => ⟨S232x128, .f32⟩
  | .local _ .vmem, ⟨19, _⟩ => ⟨S232x128, .f32⟩
  | .local _ .vmem, ⟨20, _⟩ => ⟨S232x128, .f32⟩
  | .local _ .vmem, ⟨21, _⟩ => ⟨S232x128, .f32⟩
  | .local _ .vmem, ⟨22, _⟩ => ⟨S232x128, .f32⟩
  | .local _ .vmem, ⟨23, _⟩ => ⟨S232x128, .f32⟩
  | .local _ .vmem, ⟨24, _⟩ => ⟨S232x128, .f32⟩
  | .local _ .vmem, ⟨25, _⟩ => ⟨S232x128, .f32⟩
  | .local _ .vmem, ⟨26, _⟩ => ⟨S232x128, .f32⟩
  | .local _ .vmem, ⟨27, _⟩ => ⟨S232x128, .f32⟩
  | .local _ .vmem, ⟨28, _⟩ => ⟨S232x128, .f32⟩
  | .local _ .vmem, ⟨29, _⟩ => ⟨S232x128, .f32⟩
  | _, _ => ⟨S8x464x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S1x232x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x232x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x232x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x232x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x232x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x232x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x232x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x232x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S232x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S232x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S232x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S232x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S232x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S232x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S232x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== SmallRefIdeal.lean ====
abbrev S8x464x128 : Shape := ⟨3, ![8, 464, 128]⟩
abbrev S464x128 : Shape := ⟨2, ![464, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x464x128, .f32⟩
  | .hbm, ⟨1, _⟩ => ⟨S464x128, .f32⟩
  | .hbm, ⟨2, _⟩ => ⟨S464x128, .f32⟩
  | .hbm, ⟨3, _⟩ => ⟨S464x128, .f32⟩
  | .hbm, ⟨4, _⟩ => ⟨S_, .f32⟩
  | .hbm, ⟨5, _⟩ => ⟨S464x128, .f32⟩
  | .hbm, ⟨6, _⟩ => ⟨S_, .f32⟩
  | .hbm, ⟨7, _⟩ => ⟨S464x128, .f32⟩
  | .hbm, ⟨8, _⟩ => ⟨S464x128, .f32⟩
  | .hbm, ⟨9, _⟩ => ⟨S_, .f32⟩
  | .hbm, ⟨10, _⟩ => ⟨S464x128, .f32⟩
  | .hbm, ⟨11, _⟩ => ⟨S464x128, .f32⟩
  | .hbm, ⟨12, _⟩ => ⟨S464x128, .f32⟩
  | .hbm, ⟨13, _⟩ => ⟨S_, .f32⟩
  | .hbm, ⟨14, _⟩ => ⟨S464x128, .f32⟩
  | .hbm, ⟨15, _⟩ => ⟨S464x128, .f32⟩
  | .hbm, ⟨16, _⟩ => ⟨S464x128, .f32⟩
  | .hbm, ⟨17, _⟩ => ⟨S_, .f32⟩
  | .hbm, ⟨18, _⟩ => ⟨S464x128, .f32⟩
  | .hbm, ⟨19, _⟩ => ⟨S464x128, .f32⟩
  | .hbm, ⟨20, _⟩ => ⟨S464x128, .f32⟩
  | .hbm, ⟨21, _⟩ => ⟨S_, .f32⟩
  | .hbm, ⟨22, _⟩ => ⟨S464x128, .f32⟩
  | .hbm, ⟨23, _⟩ => ⟨S464x128, .f32⟩
  | .hbm, ⟨24, _⟩ => ⟨S_, .f32⟩
  | .hbm, ⟨25, _⟩ => ⟨S464x128, .f32⟩
  | .hbm, ⟨26, _⟩ => ⟨S464x128, .f32⟩
  | .hbm, ⟨27, _⟩ => ⟨S464x128, .f32⟩
  | .hbm, ⟨28, _⟩ => ⟨S_, .f32⟩
  | .hbm, ⟨29, _⟩ => ⟨S464x128, .f32⟩
  | .hbm, ⟨30, _⟩ => ⟨S464x128, .f32⟩
  | .hbm, ⟨31, _⟩ => ⟨S464x128, .f32⟩
  | .hbm, ⟨32, _⟩ => ⟨S_, .f32⟩
  | .hbm, ⟨33, _⟩ => ⟨S464x128, .f32⟩
  | .hbm, ⟨34, _⟩ => ⟨S464x128, .f32⟩
  | .hbm, ⟨35, _⟩ => ⟨S464x128, .f32⟩
  | .hbm, ⟨36, _⟩ => ⟨S_, .f32⟩
  | .hbm, ⟨37, _⟩ => ⟨S464x128, .f32⟩
  | .hbm, ⟨38, _⟩ => ⟨S464x128, .f32⟩
  | _, _ => ⟨S8x464x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ScanConv.lean ====
abbrev S8x16x192 : Shape := ⟨3, ![8, 16, 192]⟩
abbrev S16x192 : Shape := ⟨2, ![16, 192]⟩
abbrev S1x16x192 : Shape := ⟨3, ![1, 16, 192]⟩

abbrev nBuf : Space → Nat
  | .hbm => 8
  | .vmem => 15
  | .smem => 0
  | _ => 0

abbrev bufTy : (tb : Table) → Fin (tcTables nBuf tb) → BufTy
  | .hbm, ⟨0, _⟩ => ⟨S8x16x192, .bf16⟩
  | .hbm, ⟨1, _⟩ => ⟨S16x192, .f32⟩
  | .hbm, ⟨2, _⟩ => ⟨S16x192, .f32⟩
  | .hbm, ⟨3, _⟩ => ⟨S16x192, .f32⟩
  | .hbm, ⟨4, _⟩ => ⟨S16x192, .f32⟩
  | .hbm, ⟨5, _⟩ => ⟨S16x192, .f32⟩
  | .hbm, ⟨6, _⟩ => ⟨S16x192, .f32⟩
  | .hbm, ⟨7, _⟩ => ⟨S16x192, .f32⟩
  | .local _ .vmem, ⟨0, _⟩ => ⟨S1x16x192, .bf16⟩
  | .local _ .vmem, ⟨1, _⟩ => ⟨S1x16x192, .bf16⟩
  | .local _ .vmem, ⟨2, _⟩ => ⟨S1x16x192, .bf16⟩
  | .local _ .vmem, ⟨3, _⟩ => ⟨S1x16x192, .bf16⟩
  | .local _ .vmem, ⟨4, _⟩ => ⟨S1x16x192, .bf16⟩
  | .local _ .vmem, ⟨5, _⟩ => ⟨S1x16x192, .bf16⟩
  | .local _ .vmem, ⟨6, _⟩ => ⟨S1x16x192, .bf16⟩
  | .local _ .vmem, ⟨7, _⟩ => ⟨S1x16x192, .bf16⟩
  | .local _ .vmem, ⟨8, _⟩ => ⟨S16x192, .f32⟩
  | .local _ .vmem, ⟨9, _⟩ => ⟨S16x192, .f32⟩
  | .local _ .vmem, ⟨10, _⟩ => ⟨S16x192, .f32⟩
  | .local _ .vmem, ⟨11, _⟩ => ⟨S16x192, .f32⟩
  | .local _ .vmem, ⟨12, _⟩ => ⟨S16x192, .f32⟩
  | .local _ .vmem, ⟨13, _⟩ => ⟨S16x192, .f32⟩
  | .local _ .vmem, ⟨14, _⟩ => ⟨S16x192, .f32⟩
  | _, _ => ⟨S8x16x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 1 → Memref sig .tc .vmem S1x16x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S16x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S16x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S16x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S16x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S16x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S16x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S16x192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]
-- ==== ScanConvRefIdeal.lean ====
abbrev S8x16x192 : Shape := ⟨3, ![8, 16, 192]⟩
abbrev S16x192 : Shape := ⟨2, ![16, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x16x192, .bf16⟩
  | .hbm, ⟨1, _⟩ => ⟨S16x192, .f32⟩
  | .hbm, ⟨2, _⟩ => ⟨S16x192, .f32⟩
  | .hbm, ⟨3, _⟩ => ⟨S16x192, .f32⟩
  | .hbm, ⟨4, _⟩ => ⟨S8x16x192, .f32⟩
  | .hbm, ⟨5, _⟩ => ⟨S_, .f32⟩
  | .hbm, ⟨6, _⟩ => ⟨S16x192, .f32⟩
  | .hbm, ⟨7, _⟩ => ⟨S_, .f32⟩
  | .hbm, ⟨8, _⟩ => ⟨S16x192, .f32⟩
  | .hbm, ⟨9, _⟩ => ⟨S16x192, .f32⟩
  | .hbm, ⟨10, _⟩ => ⟨S_, .f32⟩
  | .hbm, ⟨11, _⟩ => ⟨S16x192, .f32⟩
  | .hbm, ⟨12, _⟩ => ⟨S16x192, .f32⟩
  | .hbm, ⟨13, _⟩ => ⟨S16x192, .f32⟩
  | .hbm, ⟨14, _⟩ => ⟨S_, .f32⟩
  | .hbm, ⟨15, _⟩ => ⟨S16x192, .f32⟩
  | .hbm, ⟨16, _⟩ => ⟨S16x192, .f32⟩
  | .hbm, ⟨17, _⟩ => ⟨S16x192, .f32⟩
  | .hbm, ⟨18, _⟩ => ⟨S_, .f32⟩
  | .hbm, ⟨19, _⟩ => ⟨S16x192, .f32⟩
  | .hbm, ⟨20, _⟩ => ⟨S16x192, .f32⟩
  | .hbm, ⟨21, _⟩ => ⟨S16x192, .f32⟩
  | .hbm, ⟨22, _⟩ => ⟨S_, .f32⟩
  | .hbm, ⟨23, _⟩ => ⟨S16x192, .f32⟩
  | .hbm, ⟨24, _⟩ => ⟨S16x192, .f32⟩
  | .hbm, ⟨25, _⟩ => ⟨S_, .f32⟩
  | .hbm, ⟨26, _⟩ => ⟨S16x192, .f32⟩
  | .hbm, ⟨27, _⟩ => ⟨S16x192, .f32⟩
  | .hbm, ⟨28, _⟩ => ⟨S16x192, .f32⟩
  | .hbm, ⟨29, _⟩ => ⟨S_, .f32⟩
  | .hbm, ⟨30, _⟩ => ⟨S16x192, .f32⟩
  | .hbm, ⟨31, _⟩ => ⟨S16x192, .f32⟩
  | .hbm, ⟨32, _⟩ => ⟨S16x192, .f32⟩
  | .hbm, ⟨33, _⟩ => ⟨S_, .f32⟩
  | .hbm, ⟨34, _⟩ => ⟨S16x192, .f32⟩
  | .hbm, ⟨35, _⟩ => ⟨S16x192, .f32⟩
  | .hbm, ⟨36, _⟩ => ⟨S16x192, .f32⟩
  | .hbm, ⟨37, _⟩ => ⟨S_, .f32⟩
  | .hbm, ⟨38, _⟩ => ⟨S16x192, .f32⟩
  | .hbm, ⟨39, _⟩ => ⟨S16x192, .f32⟩
  | _, _ => ⟨S8x16x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== FfnConv.lean ====
abbrev S8x12x704 : Shape := ⟨3, ![8, 12, 704]⟩
abbrev S12x704 : Shape := ⟨2, ![12, 704]⟩
abbrev S1x12x704 : Shape := ⟨3, ![1, 12, 704]⟩

abbrev nBuf : Space → Nat
  | .hbm => 8
  | .vmem => 15
  | .smem => 0
  | _ => 0

abbrev bufTy : (tb : Table) → Fin (tcTables nBuf tb) → BufTy
  | .hbm, ⟨0, _⟩ => ⟨S8x12x704, .bf16⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S12x704, .f32⟩
  | .hbm, ⟨5, _⟩ => ⟨S12x704, .f32⟩
  | .hbm, ⟨6, _⟩ => ⟨S12x704, .f32⟩
  | .hbm, ⟨7, _⟩ => ⟨S12x704, .f32⟩
  | .local _ .vmem, ⟨0, _⟩ => ⟨S1x12x704, .bf16⟩
  | .local _ .vmem, ⟨1, _⟩ => ⟨S1x12x704, .bf16⟩
  | .local _ .vmem, ⟨2, _⟩ => ⟨S1x12x704, .bf16⟩
  | .local _ .vmem, ⟨3, _⟩ => ⟨S1x12x704, .bf16⟩
  | .local _ .vmem, ⟨4, _⟩ => ⟨S1x12x704, .bf16⟩
  | .local _ .vmem, ⟨5, _⟩ => ⟨S1x12x704, .bf16⟩
  | .local _ .vmem, ⟨6, _⟩ => ⟨S1x12x704, .bf16⟩
  | .local _ .vmem, ⟨7, _⟩ => ⟨S1x12x704, .bf16⟩
  | .local _ .vmem, ⟨8, _⟩ => ⟨S12x704, .f32⟩
  | .local _ .vmem, ⟨9, _⟩ => ⟨S12x704, .f32⟩
  | .local _ .vmem, ⟨10, _⟩ => ⟨S12x704, .f32⟩
  | .local _ .vmem, ⟨11, _⟩ => ⟨S12x704, .f32⟩
  | .local _ .vmem, ⟨12, _⟩ => ⟨S12x704, .f32⟩
  | .local _ .vmem, ⟨13, _⟩ => ⟨S12x704, .f32⟩
  | .local _ .vmem, ⟨14, _⟩ => ⟨S12x704, .f32⟩
  | _, _ => ⟨S8x12x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 1 → Memref sig .tc .vmem S1x12x704 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x12x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x12x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x12x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x12x704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x12x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x12x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x12x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S12x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S12x704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S12x704 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S12x704 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S12x704 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S12x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S12x704 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]
-- ==== FfnConvRefIdeal.lean ====
abbrev S8x12x704 : Shape := ⟨3, ![8, 12, 704]⟩
abbrev S12x704 : Shape := ⟨2, ![12, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x12x704, .bf16⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S8x12x704, .f32⟩
  | .hbm, ⟨5, _⟩ => ⟨S_, .f32⟩
  | .hbm, ⟨6, _⟩ => ⟨S12x704, .f32⟩
  | .hbm, ⟨7, _⟩ => ⟨S_, .f32⟩
  | .hbm, ⟨8, _⟩ => ⟨S12x704, .f32⟩
  | .hbm, ⟨9, _⟩ => ⟨S12x704, .f32⟩
  | .hbm, ⟨10, _⟩ => ⟨S_, .f32⟩
  | .hbm, ⟨11, _⟩ => ⟨S12x704, .f32⟩
  | .hbm, ⟨12, _⟩ => ⟨S12x704, .f32⟩
  | .hbm, ⟨13, _⟩ => ⟨S12x704, .f32⟩
  | .hbm, ⟨14, _⟩ => ⟨S_, .f32⟩
  | .hbm, ⟨15, _⟩ => ⟨S12x704, .f32⟩
  | .hbm, ⟨16, _⟩ => ⟨S12x704, .f32⟩
  | .hbm, ⟨17, _⟩ => ⟨S12x704, .f32⟩
  | .hbm, ⟨18, _⟩ => ⟨S_, .f32⟩
  | .hbm, ⟨19, _⟩ => ⟨S12x704, .f32⟩
  | .hbm, ⟨20, _⟩ => ⟨S12x704, .f32⟩
  | .hbm, ⟨21, _⟩ => ⟨S12x704, .f32⟩
  | .hbm, ⟨22, _⟩ => ⟨S_, .f32⟩
  | .hbm, ⟨23, _⟩ => ⟨S12x704, .f32⟩
  | .hbm, ⟨24, _⟩ => ⟨S12x704, .f32⟩
  | .hbm, ⟨25, _⟩ => ⟨S_, .f32⟩
  | .hbm, ⟨26, _⟩ => ⟨S12x704, .f32⟩
  | .hbm, ⟨27, _⟩ => ⟨S12x704, .f32⟩
  | .hbm, ⟨28, _⟩ => ⟨S12x704, .f32⟩
  | .hbm, ⟨29, _⟩ => ⟨S_, .f32⟩
  | .hbm, ⟨30, _⟩ => ⟨S12x704, .f32⟩
  | .hbm, ⟨31, _⟩ => ⟨S12x704, .f32⟩
  | .hbm, ⟨32, _⟩ => ⟨S12x704, .f32⟩
  | .hbm, ⟨33, _⟩ => ⟨S_, .f32⟩
  | .hbm, ⟨34, _⟩ => ⟨S12x704, .f32⟩
  | .hbm, ⟨35, _⟩ => ⟨S12x704, .f32⟩
  | .hbm, ⟨36, _⟩ => ⟨S12x704, .f32⟩
  | .hbm, ⟨37, _⟩ => ⟨S_, .f32⟩
  | .hbm, ⟨38, _⟩ => ⟨S12x704, .f32⟩
  | .hbm, ⟨39, _⟩ => ⟨S12x704, .f32⟩
  | _, _ => ⟨S8x12x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Square.lean ====
abbrev S8x128x1024 : Shape := ⟨3, ![8, 128, 1024]⟩
abbrev S512x1024 : Shape := ⟨2, ![512, 1024]⟩
abbrev S1x128x1024 : Shape := ⟨3, ![1, 128, 1024]⟩
abbrev S128x1024 : Shape := ⟨2, ![128, 1024]⟩

abbrev nBuf : Space → Nat
  | .hbm => 23
  | .vmem => 60
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S512x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S1x128x1024, .bf16⟩
  | .local _ .vmem, ⟨16, _⟩ => ⟨S1x128x1024, .bf16⟩
  | .local _ .vmem, ⟨17, _⟩ => ⟨S1x128x1024, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x128x1024, .bf16⟩
  | .local _ .vmem, ⟨21, _⟩ => ⟨S1x128x1024, .bf16⟩
  | .local _ .vmem, ⟨22, _⟩ => ⟨S1x128x1024, .bf16⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S1x128x1024, .bf16⟩
  | .local _ .vmem, ⟨31, _⟩ => ⟨S1x128x1024, .bf16⟩
  | .local _ .vmem, ⟨32, _⟩ => ⟨S1x128x1024, .bf16⟩
  | .local _ .vmem, ⟨33, _⟩ => ⟨S1x128x1024, .bf16⟩
  | .local _ .vmem, ⟨34, _⟩ => ⟨S1x128x1024, .bf16⟩
  | .local _ .vmem, ⟨35, _⟩ => ⟨S1x128x1024, .bf16⟩
  | .local _ .vmem, ⟨36, _⟩ => ⟨S1x128x1024, .bf16⟩
  | .local _ .vmem, ⟨37, _⟩ => ⟨S1x128x1024, .bf16⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S1x128x1024, .bf16⟩
  | .local _ .vmem, ⟨46, _⟩ => ⟨S1x128x1024, .bf16⟩
  | .local _ .vmem, ⟨47, _⟩ => ⟨S1x128x1024, .bf16⟩
  | .local _ .vmem, ⟨48, _⟩ => ⟨S1x128x1024, .bf16⟩
  | .local _ .vmem, ⟨49, _⟩ => ⟨S1x128x1024, .bf16⟩
  | .local _ .vmem, ⟨50, _⟩ => ⟨S1x128x1024, .bf16⟩
  | .local _ .vmem, ⟨51, _⟩ => ⟨S1x128x1024, .bf16⟩
  | .local _ .vmem, ⟨52, _⟩ => ⟨S1x128x1024, .bf16⟩
  | .local _ .vmem, ⟨53, _⟩ => ⟨S128x1024, .f32⟩
  | .local _ .vmem, ⟨54, _⟩ => ⟨S128x1024, .f32⟩
  | .local _ .vmem, ⟨55, _⟩ => ⟨S128x1024, .f32⟩
  | .local _ .vmem, ⟨56, _⟩ => ⟨S128x1024, .f32⟩
  | .local _ .vmem, ⟨57, _⟩ => ⟨S128x1024, .f32⟩
  | .local _ .vmem, ⟨58, _⟩ => ⟨S128x1024, .f32⟩
  | .local _ .vmem, ⟨59, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc2_stg0_0 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg11_0 : Ref sig .tc := ⟨.vmem, 41, rfl⟩
abbrev cc2_stg12_0 : Ref sig .tc := ⟨.vmem, 42, rfl⟩
abbrev cc2_stg13_0 : Ref sig .tc := ⟨.vmem, 43, rfl⟩
abbrev cc2_stg14_0 : Ref sig .tc := ⟨.vmem, 44, rfl⟩
abbrev cc3_stg0_0 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg11_0 : Ref sig .tc := ⟨.vmem, 56, rfl⟩
abbrev cc3_stg12_0 : Ref sig .tc := ⟨.vmem, 57, rfl⟩
abbrev cc3_stg13_0 : Ref sig .tc := ⟨.vmem, 58, rfl⟩
abbrev cc3_stg14_0 : Ref sig .tc := ⟨.vmem, 59, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc2_sem0_0 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem11_0 : DmaSem sig := 41
abbrev cc2_sem12_0 : DmaSem sig := 42
abbrev cc2_sem13_0 : DmaSem sig := 43
abbrev cc2_sem14_0 : DmaSem sig := 44
abbrev cc3_sem0_0 : DmaSem sig := 45
abbrev cc3_sem1_0 : DmaSem sig := 46
abbrev cc3_sem2_0 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem10_0 : DmaSem sig := 55
abbrev cc3_sem11_0 : DmaSem sig := 56
abbrev cc3_sem12_0 : DmaSem sig := 57
abbrev cc3_sem13_0 : DmaSem sig := 58
abbrev cc3_sem14_0 : DmaSem sig := 59

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

abbrev stage1_0 : Fin 1 → Memref sig .tc .vmem S1x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S128x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]

abbrev stage1_9 : Fin 1 → Memref sig .tc .vmem S128x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, true]

abbrev stage1_10 : Fin 1 → Memref sig .tc .vmem S128x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true, true]

abbrev stage1_11 : Fin 1 → Memref sig .tc .vmem S128x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true, true]

abbrev stage1_12 : Fin 1 → Memref sig .tc .vmem S128x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true, true]

abbrev stage1_13 : Fin 1 → Memref sig .tc .vmem S128x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true, true]

abbrev stage1_14 : Fin 1 → Memref sig .tc .vmem S128x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true, true]

abbrev grid2 : Pipeline.Grid := ⟨2, ![1, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

abbrev stage2_0 : Fin 1 → Memref sig .tc .vmem S1x128x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S1x128x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true]

abbrev stage2_2 : Fin 1 → Memref sig .tc .vmem S1x128x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S1x128x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev stage2_4 : Fin 1 → Memref sig .tc .vmem S1x128x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true]

abbrev stage2_5 : Fin 1 → Memref sig .tc .vmem S1x128x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true]

abbrev stage2_6 : Fin 1 → Memref sig .tc .vmem S1x128x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true]

abbrev stage2_7 : Fin 1 → Memref sig .tc .vmem S1x128x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true, true]

abbrev stage2_8 : Fin 1 → Memref sig .tc .vmem S128x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true, true]

abbrev stage2_9 : Fin 1 → Memref sig .tc .vmem S128x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![true, true]

abbrev stage2_10 : Fin 1 → Memref sig .tc .vmem S128x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![true, true]

abbrev stage2_11 : Fin 1 → Memref sig .tc .vmem S128x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![true, true]

abbrev stage2_12 : Fin 1 → Memref sig .tc .vmem S128x1024 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![true, true]

abbrev stage2_13 : Fin 1 → Memref sig .tc .vmem S128x1024 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![true, true]

abbrev stage2_14 : Fin 1 → Memref sig .tc .vmem S128x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![true, true]

abbrev grid3 : Pipeline.Grid := ⟨2, ![1, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 1 → Memref sig .tc .vmem S1x128x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1x128x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true]

abbrev stage3_2 : Fin 1 → Memref sig .tc .vmem S1x128x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev stage3_3 : Fin 1 → Memref sig .tc .vmem S1x128x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev stage3_4 : Fin 1 → Memref sig .tc .vmem S1x128x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev stage3_5 : Fin 1 → Memref sig .tc .vmem S1x128x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true]

abbrev stage3_6 : Fin 1 → Memref sig .tc .vmem S1x128x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true]

abbrev stage3_7 : Fin 1 → Memref sig .tc .vmem S1x128x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, true]

abbrev stage3_8 : Fin 1 → Memref sig .tc .vmem S128x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![true, true]

abbrev stage3_9 : Fin 1 → Memref sig .tc .vmem S128x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![true, true]

abbrev stage3_10 : Fin 1 → Memref sig .tc .vmem S128x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![true, true]

abbrev stage3_11 : Fin 1 → Memref sig .tc .vmem S128x1024 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![true, true]

abbrev stage3_12 : Fin 1 → Memref sig .tc .vmem S128x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![true, true]

abbrev stage3_13 : Fin 1 → Memref sig .tc .vmem S128x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![true, true]

abbrev stage3_14 : Fin 1 → Memref sig .tc .vmem S128x1024 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![true, true]
-- ==== SquareIdeal.lean ====
abbrev S8x128x1024 : Shape := ⟨3, ![8, 128, 1024]⟩
abbrev S512x1024 : Shape := ⟨2, ![512, 1024]⟩
abbrev S1x128x1024 : Shape := ⟨3, ![1, 128, 1024]⟩
abbrev S128x1024 : Shape := ⟨2, ![128, 1024]⟩

abbrev nBuf : Space → Nat
  | .hbm => 23
  | .vmem => 60
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S512x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S1x128x1024, .bf16⟩
  | .local _ .vmem, ⟨16, _⟩ => ⟨S1x128x1024, .bf16⟩
  | .local _ .vmem, ⟨17, _⟩ => ⟨S1x128x1024, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x128x1024, .bf16⟩
  | .local _ .vmem, ⟨21, _⟩ => ⟨S1x128x1024, .bf16⟩
  | .local _ .vmem, ⟨22, _⟩ => ⟨S1x128x1024, .bf16⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S1x128x1024, .bf16⟩
  | .local _ .vmem, ⟨31, _⟩ => ⟨S1x128x1024, .bf16⟩
  | .local _ .vmem, ⟨32, _⟩ => ⟨S1x128x1024, .bf16⟩
  | .local _ .vmem, ⟨33, _⟩ => ⟨S1x128x1024, .bf16⟩
  | .local _ .vmem, ⟨34, _⟩ => ⟨S1x128x1024, .bf16⟩
  | .local _ .vmem, ⟨35, _⟩ => ⟨S1x128x1024, .bf16⟩
  | .local _ .vmem, ⟨36, _⟩ => ⟨S1x128x1024, .bf16⟩
  | .local _ .vmem, ⟨37, _⟩ => ⟨S1x128x1024, .bf16⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S1x128x1024, .bf16⟩
  | .local _ .vmem, ⟨46, _⟩ => ⟨S1x128x1024, .bf16⟩
  | .local _ .vmem, ⟨47, _⟩ => ⟨S1x128x1024, .bf16⟩
  | .local _ .vmem, ⟨48, _⟩ => ⟨S1x128x1024, .bf16⟩
  | .local _ .vmem, ⟨49, _⟩ => ⟨S1x128x1024, .bf16⟩
  | .local _ .vmem, ⟨50, _⟩ => ⟨S1x128x1024, .bf16⟩
  | .local _ .vmem, ⟨51, _⟩ => ⟨S1x128x1024, .bf16⟩
  | .local _ .vmem, ⟨52, _⟩ => ⟨S1x128x1024, .bf16⟩
  | .local _ .vmem, ⟨53, _⟩ => ⟨S128x1024, .f32⟩
  | .local _ .vmem, ⟨54, _⟩ => ⟨S128x1024, .f32⟩
  | .local _ .vmem, ⟨55, _⟩ => ⟨S128x1024, .f32⟩
  | .local _ .vmem, ⟨56, _⟩ => ⟨S128x1024, .f32⟩
  | .local _ .vmem, ⟨57, _⟩ => ⟨S128x1024, .f32⟩
  | .local _ .vmem, ⟨58, _⟩ => ⟨S128x1024, .f32⟩
  | .local _ .vmem, ⟨59, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc2_stg0_0 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg11_0 : Ref sig .tc := ⟨.vmem, 41, rfl⟩
abbrev cc2_stg12_0 : Ref sig .tc := ⟨.vmem, 42, rfl⟩
abbrev cc2_stg13_0 : Ref sig .tc := ⟨.vmem, 43, rfl⟩
abbrev cc2_stg14_0 : Ref sig .tc := ⟨.vmem, 44, rfl⟩
abbrev cc3_stg0_0 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg11_0 : Ref sig .tc := ⟨.vmem, 56, rfl⟩
abbrev cc3_stg12_0 : Ref sig .tc := ⟨.vmem, 57, rfl⟩
abbrev cc3_stg13_0 : Ref sig .tc := ⟨.vmem, 58, rfl⟩
abbrev cc3_stg14_0 : Ref sig .tc := ⟨.vmem, 59, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc2_sem0_0 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem11_0 : DmaSem sig := 41
abbrev cc2_sem12_0 : DmaSem sig := 42
abbrev cc2_sem13_0 : DmaSem sig := 43
abbrev cc2_sem14_0 : DmaSem sig := 44
abbrev cc3_sem0_0 : DmaSem sig := 45
abbrev cc3_sem1_0 : DmaSem sig := 46
abbrev cc3_sem2_0 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem10_0 : DmaSem sig := 55
abbrev cc3_sem11_0 : DmaSem sig := 56
abbrev cc3_sem12_0 : DmaSem sig := 57
abbrev cc3_sem13_0 : DmaSem sig := 58
abbrev cc3_sem14_0 : DmaSem sig := 59

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

abbrev stage1_0 : Fin 1 → Memref sig .tc .vmem S1x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S128x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]

abbrev stage1_9 : Fin 1 → Memref sig .tc .vmem S128x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, true]

abbrev stage1_10 : Fin 1 → Memref sig .tc .vmem S128x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true, true]

abbrev stage1_11 : Fin 1 → Memref sig .tc .vmem S128x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true, true]

abbrev stage1_12 : Fin 1 → Memref sig .tc .vmem S128x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true, true]

abbrev stage1_13 : Fin 1 → Memref sig .tc .vmem S128x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true, true]

abbrev stage1_14 : Fin 1 → Memref sig .tc .vmem S128x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true, true]

abbrev grid2 : Pipeline.Grid := ⟨2, ![1, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

abbrev stage2_0 : Fin 1 → Memref sig .tc .vmem S1x128x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S1x128x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true]

abbrev stage2_2 : Fin 1 → Memref sig .tc .vmem S1x128x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S1x128x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev stage2_4 : Fin 1 → Memref sig .tc .vmem S1x128x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true]

abbrev stage2_5 : Fin 1 → Memref sig .tc .vmem S1x128x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true]

abbrev stage2_6 : Fin 1 → Memref sig .tc .vmem S1x128x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true]

abbrev stage2_7 : Fin 1 → Memref sig .tc .vmem S1x128x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true, true]

abbrev stage2_8 : Fin 1 → Memref sig .tc .vmem S128x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true, true]

abbrev stage2_9 : Fin 1 → Memref sig .tc .vmem S128x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![true, true]

abbrev stage2_10 : Fin 1 → Memref sig .tc .vmem S128x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![true, true]

abbrev stage2_11 : Fin 1 → Memref sig .tc .vmem S128x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![true, true]

abbrev stage2_12 : Fin 1 → Memref sig .tc .vmem S128x1024 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![true, true]

abbrev stage2_13 : Fin 1 → Memref sig .tc .vmem S128x1024 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![true, true]

abbrev stage2_14 : Fin 1 → Memref sig .tc .vmem S128x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![true, true]

abbrev grid3 : Pipeline.Grid := ⟨2, ![1, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 1 → Memref sig .tc .vmem S1x128x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1x128x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true]

abbrev stage3_2 : Fin 1 → Memref sig .tc .vmem S1x128x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev stage3_3 : Fin 1 → Memref sig .tc .vmem S1x128x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev stage3_4 : Fin 1 → Memref sig .tc .vmem S1x128x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev stage3_5 : Fin 1 → Memref sig .tc .vmem S1x128x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true]

abbrev stage3_6 : Fin 1 → Memref sig .tc .vmem S1x128x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true]

abbrev stage3_7 : Fin 1 → Memref sig .tc .vmem S1x128x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, true]

abbrev stage3_8 : Fin 1 → Memref sig .tc .vmem S128x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![true, true]

abbrev stage3_9 : Fin 1 → Memref sig .tc .vmem S128x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![true, true]

abbrev stage3_10 : Fin 1 → Memref sig .tc .vmem S128x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![true, true]

abbrev stage3_11 : Fin 1 → Memref sig .tc .vmem S128x1024 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![true, true]

abbrev stage3_12 : Fin 1 → Memref sig .tc .vmem S128x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![true, true]

abbrev stage3_13 : Fin 1 → Memref sig .tc .vmem S128x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![true, true]

abbrev stage3_14 : Fin 1 → Memref sig .tc .vmem S128x1024 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![true, true]
-- ==== SquareRefIdeal.lean ====
abbrev S8x128x1024 : Shape := ⟨3, ![8, 128, 1024]⟩
abbrev S512x1024 : Shape := ⟨2, ![512, 1024]⟩
abbrev S8x512x1024 : Shape := ⟨3, ![8, 512, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S8x512x1024, .bf16⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512x1024, .f32⟩
  | .hbm, ⟨43, _⟩ => ⟨S512x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Pool.lean ====
abbrev S8x128x256 : Shape := ⟨3, ![8, 128, 256]⟩
abbrev S512x256 : Shape := ⟨2, ![512, 256]⟩
abbrev S1x128x256 : Shape := ⟨3, ![1, 128, 256]⟩
abbrev S128x256 : Shape := ⟨2, ![128, 256]⟩

abbrev nBuf : Space → Nat
  | .hbm => 23
  | .vmem => 60
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S8x128x256, .bf16⟩
  | .hbm, ⟨3, _⟩ => ⟨S8x128x256, .bf16⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S512x256, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S1x128x256, .bf16⟩
  | .local _ .vmem, ⟨16, _⟩ => ⟨S1x128x256, .bf16⟩
  | .local _ .vmem, ⟨17, _⟩ => ⟨S1x128x256, .bf16⟩
  | .local _ .vmem, ⟨18, _⟩ => ⟨S1x128x256, .bf16⟩
  | .local _ .vmem, ⟨19, _⟩ => ⟨S1x128x256, .bf16⟩
  | .local _ .vmem, ⟨20, _⟩ => ⟨S1x128x256, .bf16⟩
  | .local _ .vmem, ⟨21, _⟩ => ⟨S1x128x256, .bf16⟩
  | .local _ .vmem, ⟨22, _⟩ => ⟨S1x128x256, .bf16⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S1x128x256, .bf16⟩
  | .local _ .vmem, ⟨31, _⟩ => ⟨S1x128x256, .bf16⟩
  | .local _ .vmem, ⟨32, _⟩ => ⟨S1x128x256, .bf16⟩
  | .local _ .vmem, ⟨33, _⟩ => ⟨S1x128x256, .bf16⟩
  | .local _ .vmem, ⟨34, _⟩ => ⟨S1x128x256, .bf16⟩
  | .local _ .vmem, ⟨35, _⟩ => ⟨S1x128x256, .bf16⟩
  | .local _ .vmem, ⟨36, _⟩ => ⟨S1x128x256, .bf16⟩
  | .local _ .vmem, ⟨37, _⟩ => ⟨S1x128x256, .bf16⟩
  | .local _ .vmem, ⟨38, _⟩ => ⟨S128x256, .f32⟩
  | .local _ .vmem, ⟨39, _⟩ => ⟨S128x256, .f32⟩
  | .local _ .vmem, ⟨40, _⟩ => ⟨S128x256, .f32⟩
  | .local _ .vmem, ⟨41, _⟩ => ⟨S128x256, .f32⟩
  | .local _ .vmem, ⟨42, _⟩ => ⟨S128x256, .f32⟩
  | .local _ .vmem, ⟨43, _⟩ => ⟨S128x256, .f32⟩
  | .local _ .vmem, ⟨44, _⟩ => ⟨S128x256, .f32⟩
  | .local _ .vmem, ⟨45, _⟩ => ⟨S1x128x256, .bf16⟩
  | .local _ .vmem, ⟨46, _⟩ => ⟨S1x128x256, .bf16⟩
  | .local _ .vmem, ⟨47, _⟩ => ⟨S1x128x256, .bf16⟩
  | .local _ .vmem, ⟨48, _⟩ => ⟨S1x128x256, .bf16⟩
  | .local _ .vmem, ⟨49, _⟩ => ⟨S1x128x256, .bf16⟩
  | .local _ .vmem, ⟨50, _⟩ => ⟨S1x128x256, .bf16⟩
  | .local _ .vmem, ⟨51, _⟩ => ⟨S1x128x256, .bf16⟩
  | .local _ .vmem, ⟨52, _⟩ => ⟨S1x128x256, .bf16⟩
  | .local _ .vmem, ⟨53, _⟩ => ⟨S128x256, .f32⟩
  | .local _ .vmem, ⟨54, _⟩ => ⟨S128x256, .f32⟩
  | .local _ .vmem, ⟨55, _⟩ => ⟨S128x256, .f32⟩
  | .local _ .vmem, ⟨56, _⟩ => ⟨S128x256, .f32⟩
  | .local _ .vmem, ⟨57, _⟩ => ⟨S128x256, .f32⟩
  | .local _ .vmem, ⟨58, _⟩ => ⟨S128x256, .f32⟩
  | .local _ .vmem, ⟨59, _⟩ => ⟨S128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc2_stg0_0 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg11_0 : Ref sig .tc := ⟨.vmem, 41, rfl⟩
abbrev cc2_stg12_0 : Ref sig .tc := ⟨.vmem, 42, rfl⟩
abbrev cc2_stg13_0 : Ref sig .tc := ⟨.vmem, 43, rfl⟩
abbrev cc2_stg14_0 : Ref sig .tc := ⟨.vmem, 44, rfl⟩
abbrev cc3_stg0_0 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg11_0 : Ref sig .tc := ⟨.vmem, 56, rfl⟩
abbrev cc3_stg12_0 : Ref sig .tc := ⟨.vmem, 57, rfl⟩
abbrev cc3_stg13_0 : Ref sig .tc := ⟨.vmem, 58, rfl⟩
abbrev cc3_stg14_0 : Ref sig .tc := ⟨.vmem, 59, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc2_sem0_0 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem11_0 : DmaSem sig := 41
abbrev cc2_sem12_0 : DmaSem sig := 42
abbrev cc2_sem13_0 : DmaSem sig := 43
abbrev cc2_sem14_0 : DmaSem sig := 44
abbrev cc3_sem0_0 : DmaSem sig := 45
abbrev cc3_sem1_0 : DmaSem sig := 46
abbrev cc3_sem2_0 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem10_0 : DmaSem sig := 55
abbrev cc3_sem11_0 : DmaSem sig := 56
abbrev cc3_sem12_0 : DmaSem sig := 57
abbrev cc3_sem13_0 : DmaSem sig := 58
abbrev cc3_sem14_0 : DmaSem sig := 59

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

abbrev stage0_0 : Fin 1 → Memref sig .tc .vmem S1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

abbrev stage1_0 : Fin 1 → Memref sig .tc .vmem S1x128x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]

abbrev stage1_9 : Fin 1 → Memref sig .tc .vmem S128x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, true]

abbrev stage1_10 : Fin 1 → Memref sig .tc .vmem S128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true, true]

abbrev stage1_11 : Fin 1 → Memref sig .tc .vmem S128x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true, true]

abbrev stage1_12 : Fin 1 → Memref sig .tc .vmem S128x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true, true]

abbrev stage1_13 : Fin 1 → Memref sig .tc .vmem S128x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true, true]

abbrev stage1_14 : Fin 1 → Memref sig .tc .vmem S128x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true, true]

abbrev grid2 : Pipeline.Grid := ⟨2, ![1, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

abbrev stage2_0 : Fin 1 → Memref sig .tc .vmem S1x128x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S1x128x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true]

abbrev stage2_2 : Fin 1 → Memref sig .tc .vmem S1x128x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S1x128x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev stage2_4 : Fin 1 → Memref sig .tc .vmem S1x128x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true]

abbrev stage2_5 : Fin 1 → Memref sig .tc .vmem S1x128x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true]

abbrev stage2_6 : Fin 1 → Memref sig .tc .vmem S1x128x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true]

abbrev stage2_7 : Fin 1 → Memref sig .tc .vmem S1x128x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true, true]

abbrev stage2_8 : Fin 1 → Memref sig .tc .vmem S128x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true, true]

abbrev stage2_9 : Fin 1 → Memref sig .tc .vmem S128x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![true, true]

abbrev stage2_10 : Fin 1 → Memref sig .tc .vmem S128x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![true, true]

abbrev stage2_11 : Fin 1 → Memref sig .tc .vmem S128x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![true, true]

abbrev stage2_12 : Fin 1 → Memref sig .tc .vmem S128x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![true, true]

abbrev stage2_13 : Fin 1 → Memref sig .tc .vmem S128x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![true, true]

abbrev stage2_14 : Fin 1 → Memref sig .tc .vmem S128x256 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![true, true]

abbrev grid3 : Pipeline.Grid := ⟨2, ![1, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 1 → Memref sig .tc .vmem S1x128x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1x128x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true]

abbrev stage3_2 : Fin 1 → Memref sig .tc .vmem S1x128x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev stage3_3 : Fin 1 → Memref sig .tc .vmem S1x128x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev stage3_4 : Fin 1 → Memref sig .tc .vmem S1x128x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev stage3_5 : Fin 1 → Memref sig .tc .vmem S1x128x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true]

abbrev stage3_6 : Fin 1 → Memref sig .tc .vmem S1x128x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true]

abbrev stage3_7 : Fin 1 → Memref sig .tc .vmem S1x128x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, true]

abbrev stage3_8 : Fin 1 → Memref sig .tc .vmem S128x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![true, true]

abbrev stage3_9 : Fin 1 → Memref sig .tc .vmem S128x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![true, true]

abbrev stage3_10 : Fin 1 → Memref sig .tc .vmem S128x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![true, true]

abbrev stage3_11 : Fin 1 → Memref sig .tc .vmem S128x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![true, true]

abbrev stage3_12 : Fin 1 → Memref sig .tc .vmem S128x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![true, true]

abbrev stage3_13 : Fin 1 → Memref sig .tc .vmem S128x256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![true, true]

abbrev stage3_14 : Fin 1 → Memref sig .tc .vmem S128x256 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![true, true]
-- ==== PoolIdeal.lean ====
abbrev S8x128x256 : Shape := ⟨3, ![8, 128, 256]⟩
abbrev S512x256 : Shape := ⟨2, ![512, 256]⟩
abbrev S1x128x256 : Shape := ⟨3, ![1, 128, 256]⟩
abbrev S128x256 : Shape := ⟨2, ![128, 256]⟩

abbrev nBuf : Space → Nat
  | .hbm => 23
  | .vmem => 60
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S8x128x256, .bf16⟩
  | .hbm, ⟨3, _⟩ => ⟨S8x128x256, .bf16⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S512x256, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S1x128x256, .bf16⟩
  | .local _ .vmem, ⟨16, _⟩ => ⟨S1x128x256, .bf16⟩
  | .local _ .vmem, ⟨17, _⟩ => ⟨S1x128x256, .bf16⟩
  | .local _ .vmem, ⟨18, _⟩ => ⟨S1x128x256, .bf16⟩
  | .local _ .vmem, ⟨19, _⟩ => ⟨S1x128x256, .bf16⟩
  | .local _ .vmem, ⟨20, _⟩ => ⟨S1x128x256, .bf16⟩
  | .local _ .vmem, ⟨21, _⟩ => ⟨S1x128x256, .bf16⟩
  | .local _ .vmem, ⟨22, _⟩ => ⟨S1x128x256, .bf16⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S1x128x256, .bf16⟩
  | .local _ .vmem, ⟨31, _⟩ => ⟨S1x128x256, .bf16⟩
  | .local _ .vmem, ⟨32, _⟩ => ⟨S1x128x256, .bf16⟩
  | .local _ .vmem, ⟨33, _⟩ => ⟨S1x128x256, .bf16⟩
  | .local _ .vmem, ⟨34, _⟩ => ⟨S1x128x256, .bf16⟩
  | .local _ .vmem, ⟨35, _⟩ => ⟨S1x128x256, .bf16⟩
  | .local _ .vmem, ⟨36, _⟩ => ⟨S1x128x256, .bf16⟩
  | .local _ .vmem, ⟨37, _⟩ => ⟨S1x128x256, .bf16⟩
  | .local _ .vmem, ⟨38, _⟩ => ⟨S128x256, .f32⟩
  | .local _ .vmem, ⟨39, _⟩ => ⟨S128x256, .f32⟩
  | .local _ .vmem, ⟨40, _⟩ => ⟨S128x256, .f32⟩
  | .local _ .vmem, ⟨41, _⟩ => ⟨S128x256, .f32⟩
  | .local _ .vmem, ⟨42, _⟩ => ⟨S128x256, .f32⟩
  | .local _ .vmem, ⟨43, _⟩ => ⟨S128x256, .f32⟩
  | .local _ .vmem, ⟨44, _⟩ => ⟨S128x256, .f32⟩
  | .local _ .vmem, ⟨45, _⟩ => ⟨S1x128x256, .bf16⟩
  | .local _ .vmem, ⟨46, _⟩ => ⟨S1x128x256, .bf16⟩
  | .local _ .vmem, ⟨47, _⟩ => ⟨S1x128x256, .bf16⟩
  | .local _ .vmem, ⟨48, _⟩ => ⟨S1x128x256, .bf16⟩
  | .local _ .vmem, ⟨49, _⟩ => ⟨S1x128x256, .bf16⟩
  | .local _ .vmem, ⟨50, _⟩ => ⟨S1x128x256, .bf16⟩
  | .local _ .vmem, ⟨51, _⟩ => ⟨S1x128x256, .bf16⟩
  | .local _ .vmem, ⟨52, _⟩ => ⟨S1x128x256, .bf16⟩
  | .local _ .vmem, ⟨53, _⟩ => ⟨S128x256, .f32⟩
  | .local _ .vmem, ⟨54, _⟩ => ⟨S128x256, .f32⟩
  | .local _ .vmem, ⟨55, _⟩ => ⟨S128x256, .f32⟩
  | .local _ .vmem, ⟨56, _⟩ => ⟨S128x256, .f32⟩
  | .local _ .vmem, ⟨57, _⟩ => ⟨S128x256, .f32⟩
  | .local _ .vmem, ⟨58, _⟩ => ⟨S128x256, .f32⟩
  | .local _ .vmem, ⟨59, _⟩ => ⟨S128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc2_stg0_0 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg11_0 : Ref sig .tc := ⟨.vmem, 41, rfl⟩
abbrev cc2_stg12_0 : Ref sig .tc := ⟨.vmem, 42, rfl⟩
abbrev cc2_stg13_0 : Ref sig .tc := ⟨.vmem, 43, rfl⟩
abbrev cc2_stg14_0 : Ref sig .tc := ⟨.vmem, 44, rfl⟩
abbrev cc3_stg0_0 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg11_0 : Ref sig .tc := ⟨.vmem, 56, rfl⟩
abbrev cc3_stg12_0 : Ref sig .tc := ⟨.vmem, 57, rfl⟩
abbrev cc3_stg13_0 : Ref sig .tc := ⟨.vmem, 58, rfl⟩
abbrev cc3_stg14_0 : Ref sig .tc := ⟨.vmem, 59, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc2_sem0_0 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem11_0 : DmaSem sig := 41
abbrev cc2_sem12_0 : DmaSem sig := 42
abbrev cc2_sem13_0 : DmaSem sig := 43
abbrev cc2_sem14_0 : DmaSem sig := 44
abbrev cc3_sem0_0 : DmaSem sig := 45
abbrev cc3_sem1_0 : DmaSem sig := 46
abbrev cc3_sem2_0 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem10_0 : DmaSem sig := 55
abbrev cc3_sem11_0 : DmaSem sig := 56
abbrev cc3_sem12_0 : DmaSem sig := 57
abbrev cc3_sem13_0 : DmaSem sig := 58
abbrev cc3_sem14_0 : DmaSem sig := 59

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let v1 : BitVec 32 := Scalar.addi c0_i32 arg0
  let c0_i32_0 : BitVec 32 := 0#32
  ![v0.toNat, v1.toNat]

abbrev stage0_0 : Fin 1 → Memref sig .tc .vmem S1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

abbrev stage1_0 : Fin 1 → Memref sig .tc .vmem S1x128x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]

abbrev stage1_9 : Fin 1 → Memref sig .tc .vmem S128x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, true]

abbrev stage1_10 : Fin 1 → Memref sig .tc .vmem S128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true, true]

abbrev stage1_11 : Fin 1 → Memref sig .tc .vmem S128x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true, true]

abbrev stage1_12 : Fin 1 → Memref sig .tc .vmem S128x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true, true]

abbrev stage1_13 : Fin 1 → Memref sig .tc .vmem S128x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true, true]

abbrev stage1_14 : Fin 1 → Memref sig .tc .vmem S128x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true, true]

abbrev grid2 : Pipeline.Grid := ⟨2, ![1, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let v1 : BitVec 32 := Scalar.addi c0_i32 arg0
  let c0_i32_0 : BitVec 32 := 0#32
  ![v0.toNat, v1.toNat]

abbrev stage2_0 : Fin 1 → Memref sig .tc .vmem S1x128x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S1x128x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true]

abbrev stage2_2 : Fin 1 → Memref sig .tc .vmem S1x128x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S1x128x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev stage2_4 : Fin 1 → Memref sig .tc .vmem S1x128x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true]

abbrev stage2_5 : Fin 1 → Memref sig .tc .vmem S1x128x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true]

abbrev stage2_6 : Fin 1 → Memref sig .tc .vmem S1x128x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true]

abbrev stage2_7 : Fin 1 → Memref sig .tc .vmem S1x128x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true, true]

abbrev stage2_8 : Fin 1 → Memref sig .tc .vmem S128x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true, true]

abbrev stage2_9 : Fin 1 → Memref sig .tc .vmem S128x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![true, true]

abbrev stage2_10 : Fin 1 → Memref sig .tc .vmem S128x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![true, true]

abbrev stage2_11 : Fin 1 → Memref sig .tc .vmem S128x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![true, true]

abbrev stage2_12 : Fin 1 → Memref sig .tc .vmem S128x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![true, true]

abbrev stage2_13 : Fin 1 → Memref sig .tc .vmem S128x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![true, true]

abbrev stage2_14 : Fin 1 → Memref sig .tc .vmem S128x256 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![true, true]

abbrev grid3 : Pipeline.Grid := ⟨2, ![1, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 1 → Memref sig .tc .vmem S1x128x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1x128x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true]

abbrev stage3_2 : Fin 1 → Memref sig .tc .vmem S1x128x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev stage3_3 : Fin 1 → Memref sig .tc .vmem S1x128x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev stage3_4 : Fin 1 → Memref sig .tc .vmem S1x128x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev stage3_5 : Fin 1 → Memref sig .tc .vmem S1x128x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true]

abbrev stage3_6 : Fin 1 → Memref sig .tc .vmem S1x128x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true]

abbrev stage3_7 : Fin 1 → Memref sig .tc .vmem S1x128x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, true]

abbrev stage3_8 : Fin 1 → Memref sig .tc .vmem S128x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![true, true]

abbrev stage3_9 : Fin 1 → Memref sig .tc .vmem S128x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![true, true]

abbrev stage3_10 : Fin 1 → Memref sig .tc .vmem S128x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![true, true]

abbrev stage3_11 : Fin 1 → Memref sig .tc .vmem S128x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![true, true]

abbrev stage3_12 : Fin 1 → Memref sig .tc .vmem S128x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![true, true]

abbrev stage3_13 : Fin 1 → Memref sig .tc .vmem S128x256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![true, true]

abbrev stage3_14 : Fin 1 → Memref sig .tc .vmem S128x256 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![true, true]
-- ==== PoolRefIdeal.lean ====
abbrev S8x128x256 : Shape := ⟨3, ![8, 128, 256]⟩
abbrev S512x256 : Shape := ⟨2, ![512, 256]⟩
abbrev S8x512x256 : Shape := ⟨3, ![8, 512, 256]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S8x128x256, .bf16⟩
  | .hbm, ⟨3, _⟩ => ⟨S8x128x256, .bf16⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S8x512x256, .bf16⟩
  | .hbm, ⟨8, _⟩ => ⟨S8x512x256, .f32⟩
  | .hbm, ⟨9, _⟩ => ⟨S_, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S512x256, .f32⟩
  | .hbm, ⟨41, _⟩ => ⟨S_, .f32⟩
  | .hbm, ⟨42, _⟩ => ⟨S512x256, .f32⟩
  | .hbm, ⟨43, _⟩ => ⟨S512x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Mix.lean ====
abbrev S8x384x128 : Shape := ⟨3, ![8, 384, 128]⟩
abbrev S1536x128 : Shape := ⟨2, ![1536, 128]⟩
abbrev S1x192x128 : Shape := ⟨3, ![1, 192, 128]⟩
abbrev S192x128 : Shape := ⟨2, ![192, 128]⟩

abbrev nBuf : Space → Nat
  | .hbm => 23
  | .vmem => 120
  | .smem => 0
  | _ => 0

abbrev bufTy : (tb : Table) → Fin (tcTables nBuf tb) → BufTy
  | .hbm, ⟨0, _⟩ => ⟨S8x384x128, .bf16⟩
  | .hbm, ⟨1, _⟩ => ⟨S8x384x128, .bf16⟩
  | .hbm, ⟨2, _⟩ => ⟨S8x384x128, .bf16⟩
  | .hbm, ⟨3, _⟩ => ⟨S8x384x128, .bf16⟩
  | .hbm, ⟨4, _⟩ => ⟨S1536x128, .f32⟩
  | .hbm, ⟨5, _⟩ => ⟨S1536x128, .f32⟩
  | .hbm, ⟨6, _⟩ => ⟨S1536x128, .f32⟩
  | .hbm, ⟨7, _⟩ => ⟨S1536x128, .f32⟩
  | .hbm, ⟨8, _⟩ => ⟨S1536x128, .f32⟩
  | .hbm, ⟨9, _⟩ => ⟨S1536x128, .f32⟩
  | .hbm, ⟨10, _⟩ => ⟨S1536x128, .f32⟩
  | .hbm, ⟨11, _⟩ => ⟨S1536x128, .f32⟩
  | .hbm, ⟨12, _⟩ => ⟨S1536x128, .f32⟩
  | .hbm, ⟨13, _⟩ => ⟨S1536x128, .f32⟩
  | .hbm, ⟨14, _⟩ => ⟨S1536x128, .f32⟩
  | .hbm, ⟨15, _⟩ => ⟨S1536x128, .f32⟩
  | .hbm, ⟨16, _⟩ => ⟨S1536x128, .f32⟩
  | .hbm, ⟨17, _⟩ => ⟨S1536x128, .f32⟩
  | .hbm, ⟨18, _⟩ => ⟨S1536x128, .f32⟩
  | .hbm, ⟨19, _⟩ => ⟨S1536x128, .f32⟩
  | .hbm, ⟨20, _⟩ => ⟨S1536x128, .f32⟩
  | .hbm, ⟨21, _⟩ => ⟨S1536x128, .f32⟩
  | .hbm, ⟨22, _⟩ => ⟨S1536x128, .f32⟩
  | .local _ .vmem, ⟨0, _⟩ => ⟨S1x192x128, .bf16⟩
  | .local _ .vmem, ⟨1, _⟩ => ⟨S1x192x128, .bf16⟩
  | .local _ .vmem, ⟨2, _⟩ => ⟨S1x192x128, .bf16⟩
  | .local _ .vmem, ⟨3, _⟩ => ⟨S1x192x128, .bf16⟩
  | .local _ .vmem, ⟨4, _⟩ => ⟨S1x192x128, .bf16⟩
  | .local _ .vmem, ⟨5, _⟩ => ⟨S1x192x128, .bf16⟩
  | .local _ .vmem, ⟨6, _⟩ => ⟨S1x192x128, .bf16⟩
  | .local _ .vmem, ⟨7, _⟩ => ⟨S1x192x128, .bf16⟩
  | .local _ .vmem, ⟨8, _⟩ => ⟨S1x192x128, .bf16⟩
  | .local _ .vmem, ⟨9, _⟩ => ⟨S1x192x128, .bf16⟩
  | .local _ .vmem, ⟨10, _⟩ => ⟨S1x192x128, .bf16⟩
  | .local _ .vmem, ⟨11, _⟩ => ⟨S1x192x128, .bf16⟩
  | .local _ .vmem, ⟨12, _⟩ => ⟨S1x192x128, .bf16⟩
  | .local _ .vmem, ⟨13, _⟩ => ⟨S1x192x128, .bf16⟩
  | .local _ .vmem, ⟨14, _⟩ => ⟨S1x192x128, .bf16⟩
  | .local _ .vmem, ⟨15, _⟩ => ⟨S1x192x128, .bf16⟩
  | .local _ .vmem, ⟨16, _⟩ => ⟨S192x128, .f32⟩
  | .local _ .vmem, ⟨17, _⟩ => ⟨S192x128, .f32⟩
  | .local _ .vmem, ⟨18, _⟩ => ⟨S192x128, .f32⟩
  | .local _ .vmem, ⟨19, _⟩ => ⟨S192x128, .f32⟩
  | .local _ .vmem, ⟨20, _⟩ => ⟨S192x128, .f32⟩
  | .local _ .vmem, ⟨21, _⟩ => ⟨S192x128, .f32⟩
  | .local _ .vmem, ⟨22, _⟩ => ⟨S192x128, .f32⟩
  | .local _ .vmem, ⟨23, _⟩ => ⟨S192x128, .f32⟩
  | .local _ .vmem, ⟨24, _⟩ => ⟨S192x128, .f32⟩
  | .local _ .vmem, ⟨25, _⟩ => ⟨S192x128, .f32⟩
  | .local _ .vmem, ⟨26, _⟩ => ⟨S192x128, .f32⟩
  | .local _ .vmem, ⟨27, _⟩ => ⟨S192x128, .f32⟩
  | .local _ .vmem, ⟨28, _⟩ => ⟨S192x128, .f32⟩
  | .local _ .vmem, ⟨29, _⟩ => ⟨S192x128, .f32⟩
  | .local _ .vmem, ⟨30, _⟩ => ⟨S1x192x128, .bf16⟩
  | .local _ .vmem, ⟨31, _⟩ => ⟨S1x192x128, .bf16⟩
  | .local _ .vmem, ⟨32, _⟩ => ⟨S1x192x128, .bf16⟩
  | .local _ .vmem, ⟨33, _⟩ => ⟨S1x192x128, .bf16⟩
  | .local _ .vmem, ⟨34, _⟩ => ⟨S1x192x128, .bf16⟩
  | .local _ .vmem, ⟨35, _⟩ => ⟨S1x192x128, .bf16⟩
  | .local _ .vmem, ⟨36, _⟩ => ⟨S1x192x128, .bf16⟩
  | .local _ .vmem, ⟨37, _⟩ => ⟨S1x192x128, .bf16⟩
  | .local _ .vmem, ⟨38, _⟩ => ⟨S1x192x128, .bf16⟩
  | .local _ .vmem, ⟨39, _⟩ => ⟨S1x192x128, .bf16⟩
  | .local _ .vmem, ⟨40, _⟩ => ⟨S1x192x128, .bf16⟩
  | .local _ .vmem, ⟨41, _⟩ => ⟨S1x192x128, .bf16⟩
  | .local _ .vmem, ⟨42, _⟩ => ⟨S1x192x128, .bf16⟩
  | .local _ .vmem, ⟨43, _⟩ => ⟨S1x192x128, .bf16⟩
  | .local _ .vmem, ⟨44, _⟩ => ⟨S1x192x128, .bf16⟩
  | .local _ .vmem, ⟨45, _⟩ => ⟨S1x192x128, .bf16⟩
  | .local _ .vmem, ⟨46, _⟩ => ⟨S192x128, .f32⟩
  | .local _ .vmem, ⟨47, _⟩ => ⟨S192x128, .f32⟩
  | .local _ .vmem, ⟨48, _⟩ => ⟨S192x128, .f32⟩
  | .local _ .vmem, ⟨49, _⟩ => ⟨S192x128, .f32⟩
  | .local _ .vmem, ⟨50, _⟩ => ⟨S192x128, .f32⟩
  | .local _ .vmem, ⟨51, _⟩ => ⟨S192x128, .f32⟩
  | .local _ .vmem, ⟨52, _⟩ => ⟨S192x128, .f32⟩
  | .local _ .vmem, ⟨53, _⟩ => ⟨S192x128, .f32⟩
  | .local _ .vmem, ⟨54, _⟩ => ⟨S192x128, .f32⟩
  | .local _ .vmem, ⟨55, _⟩ => ⟨S192x128, .f32⟩
  | .local _ .vmem, ⟨56, _⟩ => ⟨S192x128, .f32⟩
  | .local _ .vmem, ⟨57, _⟩ => ⟨S192x128, .f32⟩
  | .local _ .vmem, ⟨58, _⟩ => ⟨S192x128, .f32⟩
  | .local _ .vmem, ⟨59, _⟩ => ⟨S192x128, .f32⟩
  | .local _ .vmem, ⟨60, _⟩ => ⟨S1x192x128, .bf16⟩
  | .local _ .vmem, ⟨61, _⟩ => ⟨S1x192x128, .bf16⟩
  | .local _ .vmem, ⟨62, _⟩ => ⟨S1x192x128, .bf16⟩
  | .local _ .vmem, ⟨63, _⟩ => ⟨S1x192x128, .bf16⟩
  | .local _ .vmem, ⟨64, _⟩ => ⟨S1x192x128, .bf16⟩
  | .local _ .vmem, ⟨65, _⟩ => ⟨S1x192x128, .bf16⟩
  | .local _ .vmem, ⟨66, _⟩ => ⟨S1x192x128, .bf16⟩
  | .local _ .vmem, ⟨67, _⟩ => ⟨S1x192x128, .bf16⟩
  | .local _ .vmem, ⟨68, _⟩ => ⟨S1x192x128, .bf16⟩
  | .local _ .vmem, ⟨69, _⟩ => ⟨S1x192x128, .bf16⟩
  | .local _ .vmem, ⟨70, _⟩ => ⟨S1x192x128, .bf16⟩
  | .local _ .vmem, ⟨71, _⟩ => ⟨S1x192x128, .bf16⟩
  | .local _ .vmem, ⟨72, _⟩ => ⟨S1x192x128, .bf16⟩
  | .local _ .vmem, ⟨73, _⟩ => ⟨S1x192x128, .bf16⟩
  | .local _ .vmem, ⟨74, _⟩ => ⟨S1x192x128, .bf16⟩
  | .local _ .vmem, ⟨75, _⟩ => ⟨S1x192x128, .bf16⟩
  | .local _ .vmem, ⟨76, _⟩ => ⟨S192x128, .f32⟩
  | .local _ .vmem, ⟨77, _⟩ => ⟨S192x128, .f32⟩
  | .local _ .vmem, ⟨78, _⟩ => ⟨S192x128, .f32⟩
  | .local _ .vmem, ⟨79, _⟩ => ⟨S192x128, .f32⟩
  | .local _ .vmem, ⟨80, _⟩ => ⟨S192x128, .f32⟩
  | .local _ .vmem, ⟨81, _⟩ => ⟨S192x128, .f32⟩
  | .local _ .vmem, ⟨82, _⟩ => ⟨S192x128, .f32⟩
  | .local _ .vmem, ⟨83, _⟩ => ⟨S192x128, .f32⟩
  | .local _ .vmem, ⟨84, _⟩ => ⟨S192x128, .f32⟩
  | .local _ .vmem, ⟨85, _⟩ => ⟨S192x128, .f32⟩
  | .local _ .vmem, ⟨86, _⟩ => ⟨S192x128, .f32⟩
  | .local _ .vmem, ⟨87, _⟩ => ⟨S192x128, .f32⟩
  | .local _ .vmem, ⟨88, _⟩ => ⟨S192x128, .f32⟩
  | .local _ .vmem, ⟨89, _⟩ => ⟨S192x128, .f32⟩
  | .local _ .vmem, ⟨90, _⟩ => ⟨S1x192x128, .bf16⟩
  | .local _ .vmem, ⟨91, _⟩ => ⟨S1x192x128, .bf16⟩
  | .local _ .vmem, ⟨92, _⟩ => ⟨S1x192x128, .bf16⟩
  | .local _ .vmem, ⟨93, _⟩ => ⟨S1x192x128, .bf16⟩
  | .local _ .vmem, ⟨94, _⟩ => ⟨S1x192x128, .bf16⟩
  | .local _ .vmem, ⟨95, _⟩ => ⟨S1x192x128, .bf16⟩
  | .local _ .vmem, ⟨96, _⟩ => ⟨S1x192x128, .bf16⟩
  | .local _ .vmem, ⟨97, _⟩ => ⟨S1x192x128, .bf16⟩
  | .local _ .vmem, ⟨98, _⟩ => ⟨S1x192x128, .bf16⟩
  | .local _ .vmem, ⟨99, _⟩ => ⟨S1x192x128, .bf16⟩
  | .local _ .vmem, ⟨100, _⟩ => ⟨S1x192x128, .bf16⟩
  | .local _ .vmem, ⟨101, _⟩ => ⟨S1x192x128, .bf16⟩
  | .local _ .vmem, ⟨102, _⟩ => ⟨S1x192x128, .bf16⟩
  | .local _ .vmem, ⟨103, _⟩ => ⟨S1x192x128, .bf16⟩
  | .local _ .vmem, ⟨104, _⟩ => ⟨S1x192x128, .bf16⟩
  | .local _ .vmem, ⟨105, _⟩ => ⟨S1x192x128, .bf16⟩
  | .local _ .vmem, ⟨106, _⟩ => ⟨S192x128, .f32⟩
  | .local _ .vmem, ⟨107, _⟩ => ⟨S192x128, .f32⟩
  | .local _ .vmem, ⟨108, _⟩ => ⟨S192x128, .f32⟩
  | .local _ .vmem, ⟨109, _⟩ => ⟨S192x128, .f32⟩
  | .local _ .vmem, ⟨110, _⟩ => ⟨S192x128, .f32⟩
  | .local _ .vmem, ⟨111, _⟩ => ⟨S192x128, .f32⟩
  | .local _ .vmem, ⟨112, _⟩ => ⟨S192x128, .f32⟩
  | .local _ .vmem, ⟨113, _⟩ => ⟨S192x128, .f32⟩
  | .local _ .vmem, ⟨114, _⟩ => ⟨S192x128, .f32⟩
  | .local _ .vmem, ⟨115, _⟩ => ⟨S192x128, .f32⟩
  | .local _ .vmem, ⟨116, _⟩ => ⟨S192x128, .f32⟩
  | .local _ .vmem, ⟨117, _⟩ => ⟨S192x128, .f32⟩
  | .local _ .vmem, ⟨118, _⟩ => ⟨S192x128, .f32⟩
  | .local _ .vmem, ⟨119, _⟩ => ⟨S192x128, .f32⟩
  | _, _ => ⟨S8x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg4_1 : Ref sig .tc := ⟨.vmem, 39, rfl⟩
abbrev cc1_stg5_0 : Ref sig .tc := ⟨.vmem, 40, rfl⟩
abbrev cc1_stg5_1 : Ref sig .tc := ⟨.vmem, 41, rfl⟩
abbrev cc1_stg6_0 : Ref sig .tc := ⟨.vmem, 42, rfl⟩
abbrev cc1_stg6_1 : Ref sig .tc := ⟨.vmem, 43, rfl⟩
abbrev cc1_stg7_0 : Ref sig .tc := ⟨.vmem, 44, rfl⟩
abbrev cc1_stg7_1 : Ref sig .tc := ⟨.vmem, 45, rfl⟩
abbrev cc1_stg8_0 : Ref sig .tc := ⟨.vmem, 46, rfl⟩
abbrev cc1_stg8_1 : Ref sig .tc := ⟨.vmem, 47, rfl⟩
abbrev cc1_stg9_0 : Ref sig .tc := ⟨.vmem, 48, rfl⟩
abbrev cc1_stg9_1 : Ref sig .tc := ⟨.vmem, 49, rfl⟩
abbrev cc1_stg10_0 : Ref sig .tc := ⟨.vmem, 50, rfl⟩
abbrev cc1_stg10_1 : Ref sig .tc := ⟨.vmem, 51, rfl⟩
abbrev cc1_stg11_0 : Ref sig .tc := ⟨.vmem, 52, rfl⟩
abbrev cc1_stg11_1 : Ref sig .tc := ⟨.vmem, 53, rfl⟩
abbrev cc1_stg12_0 : Ref sig .tc := ⟨.vmem, 54, rfl⟩
abbrev cc1_stg12_1 : Ref sig .tc := ⟨.vmem, 55, rfl⟩
abbrev cc1_stg13_0 : Ref sig .tc := ⟨.vmem, 56, rfl⟩
abbrev cc1_stg13_1 : Ref sig .tc := ⟨.vmem, 57, rfl⟩
abbrev cc1_stg14_0 : Ref sig .tc := ⟨.vmem, 58, rfl⟩
abbrev cc1_stg14_1 : Ref sig .tc := ⟨.vmem, 59, rfl⟩
abbrev cc2_stg0_0 : Ref sig .tc := ⟨.vmem, 60, rfl⟩
abbrev cc2_stg0_1 : Ref sig .tc := ⟨.vmem, 61, rfl⟩
abbrev cc2_stg1_0 : Ref sig .tc := ⟨.vmem, 62, rfl⟩
abbrev cc2_stg1_1 : Ref sig .tc := ⟨.vmem, 63, rfl⟩
abbrev cc2_stg2_0 : Ref sig .tc := ⟨.vmem, 64, rfl⟩
abbrev cc2_stg2_1 : Ref sig .tc := ⟨.vmem, 65, rfl⟩
abbrev cc2_stg3_0 : Ref sig .tc := ⟨.vmem, 66, rfl⟩
abbrev cc2_stg3_1 : Ref sig .tc := ⟨.vmem, 67, rfl⟩
abbrev cc2_stg4_0 : Ref sig .tc := ⟨.vmem, 68, rfl⟩
abbrev cc2_stg4_1 : Ref sig .tc := ⟨.vmem, 69, rfl⟩
abbrev cc2_stg5_0 : Ref sig .tc := ⟨.vmem, 70, rfl⟩
abbrev cc2_stg5_1 : Ref sig .tc := ⟨.vmem, 71, rfl⟩
abbrev cc2_stg6_0 : Ref sig .tc := ⟨.vmem, 72, rfl⟩
abbrev cc2_stg6_1 : Ref sig .tc := ⟨.vmem, 73, rfl⟩
abbrev cc2_stg7_0 : Ref sig .tc := ⟨.vmem, 74, rfl⟩
abbrev cc2_stg7_1 : Ref sig .tc := ⟨.vmem, 75, rfl⟩
abbrev cc2_stg8_0 : Ref sig .tc := ⟨.vmem, 76, rfl⟩
abbrev cc2_stg8_1 : Ref sig .tc := ⟨.vmem, 77, rfl⟩
abbrev cc2_stg9_0 : Ref sig .tc := ⟨.vmem, 78, rfl⟩
abbrev cc2_stg9_1 : Ref sig .tc := ⟨.vmem, 79, rfl⟩
abbrev cc2_stg10_0 : Ref sig .tc := ⟨.vmem, 80, rfl⟩
abbrev cc2_stg10_1 : Ref sig .tc := ⟨.vmem, 81, rfl⟩
abbrev cc2_stg11_0 : Ref sig .tc := ⟨.vmem, 82, rfl⟩
abbrev cc2_stg11_1 : Ref sig .tc := ⟨.vmem, 83, rfl⟩
abbrev cc2_stg12_0 : Ref sig .tc := ⟨.vmem, 84, rfl⟩
abbrev cc2_stg12_1 : Ref sig .tc := ⟨.vmem, 85, rfl⟩
abbrev cc2_stg13_0 : Ref sig .tc := ⟨.vmem, 86, rfl⟩
abbrev cc2_stg13_1 : Ref sig .tc := ⟨.vmem, 87, rfl⟩
abbrev cc2_stg14_0 : Ref sig .tc := ⟨.vmem, 88, rfl⟩
abbrev cc2_stg14_1 : Ref sig .tc := ⟨.vmem, 89, rfl⟩
abbrev cc3_stg0_0 : Ref sig .tc := ⟨.vmem, 90, rfl⟩
abbrev cc3_stg0_1 : Ref sig .tc := ⟨.vmem, 91, rfl⟩
abbrev cc3_stg1_0 : Ref sig .tc := ⟨.vmem, 92, rfl⟩
abbrev cc3_stg1_1 : Ref sig .tc := ⟨.vmem, 93, rfl⟩
abbrev cc3_stg2_0 : Ref sig .tc := ⟨.vmem, 94, rfl⟩
abbrev cc3_stg2_1 : Ref sig .tc := ⟨.vmem, 95, rfl⟩
abbrev cc3_stg3_0 : Ref sig .tc := ⟨.vmem, 96, rfl⟩
abbrev cc3_stg3_1 : Ref sig .tc := ⟨.vmem, 97, rfl⟩
abbrev cc3_stg4_0 : Ref sig .tc := ⟨.vmem, 98, rfl⟩
abbrev cc3_stg4_1 : Ref sig .tc := ⟨.vmem, 99, rfl⟩
abbrev cc3_stg5_0 : Ref sig .tc := ⟨.vmem, 100, rfl⟩
abbrev cc3_stg5_1 : Ref sig .tc := ⟨.vmem, 101, rfl⟩
abbrev cc3_stg6_0 : Ref sig .tc := ⟨.vmem, 102, rfl⟩
abbrev cc3_stg6_1 : Ref sig .tc := ⟨.vmem, 103, rfl⟩
abbrev cc3_stg7_0 : Ref sig .tc := ⟨.vmem, 104, rfl⟩
abbrev cc3_stg7_1 : Ref sig .tc := ⟨.vmem, 105, rfl⟩
abbrev cc3_stg8_0 : Ref sig .tc := ⟨.vmem, 106, rfl⟩
abbrev cc3_stg8_1 : Ref sig .tc := ⟨.vmem, 107, rfl⟩
abbrev cc3_stg9_0 : Ref sig .tc := ⟨.vmem, 108, rfl⟩
abbrev cc3_stg9_1 : Ref sig .tc := ⟨.vmem, 109, rfl⟩
abbrev cc3_stg10_0 : Ref sig .tc := ⟨.vmem, 110, rfl⟩
abbrev cc3_stg10_1 : Ref sig .tc := ⟨.vmem, 111, rfl⟩
abbrev cc3_stg11_0 : Ref sig .tc := ⟨.vmem, 112, rfl⟩
abbrev cc3_stg11_1 : Ref sig .tc := ⟨.vmem, 113, rfl⟩
abbrev cc3_stg12_0 : Ref sig .tc := ⟨.vmem, 114, rfl⟩
abbrev cc3_stg12_1 : Ref sig .tc := ⟨.vmem, 115, rfl⟩
abbrev cc3_stg13_0 : Ref sig .tc := ⟨.vmem, 116, rfl⟩
abbrev cc3_stg13_1 : Ref sig .tc := ⟨.vmem, 117, rfl⟩
abbrev cc3_stg14_0 : Ref sig .tc := ⟨.vmem, 118, rfl⟩
abbrev cc3_stg14_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem5_1 : DmaSem sig := 41
abbrev cc1_sem6_0 : DmaSem sig := 42
abbrev cc1_sem6_1 : DmaSem sig := 43
abbrev cc1_sem7_0 : DmaSem sig := 44
abbrev cc1_sem7_1 : DmaSem sig := 45
abbrev cc1_sem8_0 : DmaSem sig := 46
abbrev cc1_sem8_1 : DmaSem sig := 47
abbrev cc1_sem9_0 : DmaSem sig := 48
abbrev cc1_sem9_1 : DmaSem sig := 49
abbrev cc1_sem10_0 : DmaSem sig := 50
abbrev cc1_sem10_1 : DmaSem sig := 51
abbrev cc1_sem11_0 : DmaSem sig := 52
abbrev cc1_sem11_1 : DmaSem sig := 53
abbrev cc1_sem12_0 : DmaSem sig := 54
abbrev cc1_sem12_1 : DmaSem sig := 55
abbrev cc1_sem13_0 : DmaSem sig := 56
abbrev cc1_sem13_1 : DmaSem sig := 57
abbrev cc1_sem14_0 : DmaSem sig := 58
abbrev cc1_sem14_1 : DmaSem sig := 59
abbrev cc2_sem0_0 : DmaSem sig := 60
abbrev cc2_sem0_1 : DmaSem sig := 61
abbrev cc2_sem1_0 : DmaSem sig := 62
abbrev cc2_sem1_1 : DmaSem sig := 63
abbrev cc2_sem2_0 : DmaSem sig := 64
abbrev cc2_sem2_1 : DmaSem sig := 65
abbrev cc2_sem3_0 : DmaSem sig := 66
abbrev cc2_sem3_1 : DmaSem sig := 67
abbrev cc2_sem4_0 : DmaSem sig := 68
abbrev cc2_sem4_1 : DmaSem sig := 69
abbrev cc2_sem5_0 : DmaSem sig := 70
abbrev cc2_sem5_1 : DmaSem sig := 71
abbrev cc2_sem6_0 : DmaSem sig := 72
abbrev cc2_sem6_1 : DmaSem sig := 73
abbrev cc2_sem7_0 : DmaSem sig := 74
abbrev cc2_sem7_1 : DmaSem sig := 75
abbrev cc2_sem8_0 : DmaSem sig := 76
abbrev cc2_sem8_1 : DmaSem sig := 77
abbrev cc2_sem9_0 : DmaSem sig := 78
abbrev cc2_sem9_1 : DmaSem sig := 79
abbrev cc2_sem10_0 : DmaSem sig := 80
abbrev cc2_sem10_1 : DmaSem sig := 81
abbrev cc2_sem11_0 : DmaSem sig := 82
abbrev cc2_sem11_1 : DmaSem sig := 83
abbrev cc2_sem12_0 : DmaSem sig := 84
abbrev cc2_sem12_1 : DmaSem sig := 85
abbrev cc2_sem13_0 : DmaSem sig := 86
abbrev cc2_sem13_1 : DmaSem sig := 87
abbrev cc2_sem14_0 : DmaSem sig := 88
abbrev cc2_sem14_1 : DmaSem sig := 89
abbrev cc3_sem0_0 : DmaSem sig := 90
abbrev cc3_sem0_1 : DmaSem sig := 91
abbrev cc3_sem1_0 : DmaSem sig := 92
abbrev cc3_sem1_1 : DmaSem sig := 93
abbrev cc3_sem2_0 : DmaSem sig := 94
abbrev cc3_sem2_1 : DmaSem sig := 95
abbrev cc3_sem3_0 : DmaSem sig := 96
abbrev cc3_sem3_1 : DmaSem sig := 97
abbrev cc3_sem4_0 : DmaSem sig := 98
abbrev cc3_sem4_1 : DmaSem sig := 99
abbrev cc3_sem5_0 : DmaSem sig := 100
abbrev cc3_sem5_1 : DmaSem sig := 101
abbrev cc3_sem6_0 : DmaSem sig := 102
abbrev cc3_sem6_1 : DmaSem sig := 103
abbrev cc3_sem7_0 : DmaSem sig := 104
abbrev cc3_sem7_1 : DmaSem sig := 105
abbrev cc3_sem8_0 : DmaSem sig := 106
abbrev cc3_sem8_1 : DmaSem sig := 107
abbrev cc3_sem9_0 : DmaSem sig := 108
abbrev cc3_sem9_1 : DmaSem sig := 109
abbrev cc3_sem10_0 : DmaSem sig := 110
abbrev cc3_sem10_1 : DmaSem sig := 111
abbrev cc3_sem11_0 : DmaSem sig := 112
abbrev cc3_sem11_1 : DmaSem sig := 113
abbrev cc3_sem12_0 : DmaSem sig := 114
abbrev cc3_sem12_1 : DmaSem sig := 115
abbrev cc3_sem13_0 : DmaSem sig := 116
abbrev cc3_sem13_1 : DmaSem sig := 117
abbrev cc3_sem14_0 : DmaSem sig := 118
abbrev cc3_sem14_1 : DmaSem sig := 119

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

abbrev stage0_0 : Fin 2 → Memref sig .tc .vmem S1x192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S192x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S192x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

abbrev stage1_0 : Fin 2 → Memref sig .tc .vmem S1x192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x192x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x192x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x192x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x192x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x192x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S192x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S192x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S192x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S192x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S192x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S192x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S192x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨2, ![1, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

abbrev stage2_0 : Fin 2 → Memref sig .tc .vmem S1x192x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x192x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x192x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x192x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x192x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x192x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x192x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x192x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S192x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S192x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S192x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S192x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S192x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S192x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S192x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev grid3 : Pipeline.Grid := ⟨2, ![1, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 2 → Memref sig .tc .vmem S1x192x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x192x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x192x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x192x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x192x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x192x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x192x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x192x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S192x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S192x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S192x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S192x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S192x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 2 → Memref sig .tc .vmem S192x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true]

abbrev stage3_14 : Fin 2 → Memref sig .tc .vmem S192x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]
-- ==== MixIdeal.lean ====
abbrev S8x384x128 : Shape := ⟨3, ![8, 384, 128]⟩
abbrev S1536x128 : Shape := ⟨2, ![1536, 128]⟩
abbrev S1x192x128 : Shape := ⟨3, ![1, 192, 128]⟩
abbrev S192x128 : Shape := ⟨2, ![192, 128]⟩

abbrev nBuf : Space → Nat
  | .hbm => 23
  | .vmem => 120
  | .smem => 0
  | _ => 0

abbrev bufTy : (tb : Table) → Fin (tcTables nBuf tb) → BufTy
  | .hbm, ⟨0, _⟩ => ⟨S8x384x128, .bf16⟩
  | .hbm, ⟨1, _⟩ => ⟨S8x384x128, .bf16⟩
  | .hbm, ⟨2, _⟩ => ⟨S8x384x128, .bf16⟩
  | .hbm, ⟨3, _⟩ => ⟨S8x384x128, .bf16⟩
  | .hbm, ⟨4, _⟩ => ⟨S1536x128, .f32⟩
  | .hbm, ⟨5, _⟩ => ⟨S1536x128, .f32⟩
  | .hbm, ⟨6, _⟩ => ⟨S1536x128, .f32⟩
  | .hbm, ⟨7, _⟩ => ⟨S1536x128, .f32⟩
  | .hbm, ⟨8, _⟩ => ⟨S1536x128, .f32⟩
  | .hbm, ⟨9, _⟩ => ⟨S1536x128, .f32⟩
  | .hbm, ⟨10, _⟩ => ⟨S1536x128, .f32⟩
  | .hbm, ⟨11, _⟩ => ⟨S1536x128, .f32⟩
  | .hbm, ⟨12, _⟩ => ⟨S1536x128, .f32⟩
  | .hbm, ⟨13, _⟩ => ⟨S1536x128, .f32⟩
  | .hbm, ⟨14, _⟩ => ⟨S1536x128, .f32⟩
  | .hbm, ⟨15, _⟩ => ⟨S1536x128, .f32⟩
  | .hbm, ⟨16, _⟩ => ⟨S1536x128, .f32⟩
  | .hbm, ⟨17, _⟩ => ⟨S1536x128, .f32⟩
  | .hbm, ⟨18, _⟩ => ⟨S1536x128, .f32⟩
  | .hbm, ⟨19, _⟩ => ⟨S1536x128, .f32⟩
  | .hbm, ⟨20, _⟩ => ⟨S1536x128, .f32⟩
  | .hbm, ⟨21, _⟩ => ⟨S1536x128, .f32⟩
  | .hbm, ⟨22, _⟩ => ⟨S1536x128, .f32⟩
  | .local _ .vmem, ⟨0, _⟩ => ⟨S1x192x128, .bf16⟩
  | .local _ .vmem, ⟨1, _⟩ => ⟨S1x192x128, .bf16⟩
  | .local _ .vmem, ⟨2, _⟩ => ⟨S1x192x128, .bf16⟩
  | .local _ .vmem, ⟨3, _⟩ => ⟨S1x192x128, .bf16⟩
  | .local _ .vmem, ⟨4, _⟩ => ⟨S1x192x128, .bf16⟩
  | .local _ .vmem, ⟨5, _⟩ => ⟨S1x192x128, .bf16⟩
  | .local _ .vmem, ⟨6, _⟩ => ⟨S1x192x128, .bf16⟩
  | .local _ .vmem, ⟨7, _⟩ => ⟨S1x192x128, .bf16⟩
  | .local _ .vmem, ⟨8, _⟩ => ⟨S1x192x128, .bf16⟩
  | .local _ .vmem, ⟨9, _⟩ => ⟨S1x192x128, .bf16⟩
  | .local _ .vmem, ⟨10, _⟩ => ⟨S1x192x128, .bf16⟩
  | .local _ .vmem, ⟨11, _⟩ => ⟨S1x192x128, .bf16⟩
  | .local _ .vmem, ⟨12, _⟩ => ⟨S1x192x128, .bf16⟩
  | .local _ .vmem, ⟨13, _⟩ => ⟨S1x192x128, .bf16⟩
  | .local _ .vmem, ⟨14, _⟩ => ⟨S1x192x128, .bf16⟩
  | .local _ .vmem, ⟨15, _⟩ => ⟨S1x192x128, .bf16⟩
  | .local _ .vmem, ⟨16, _⟩ => ⟨S192x128, .f32⟩
  | .local _ .vmem, ⟨17, _⟩ => ⟨S192x128, .f32⟩
  | .local _ .vmem, ⟨18, _⟩ => ⟨S192x128, .f32⟩
  | .local _ .vmem, ⟨19, _⟩ => ⟨S192x128, .f32⟩
  | .local _ .vmem, ⟨20, _⟩ => ⟨S192x128, .f32⟩
  | .local _ .vmem, ⟨21, _⟩ => ⟨S192x128, .f32⟩
  | .local _ .vmem, ⟨22, _⟩ => ⟨S192x128, .f32⟩
  | .local _ .vmem, ⟨23, _⟩ => ⟨S192x128, .f32⟩
  | .local _ .vmem, ⟨24, _⟩ => ⟨S192x128, .f32⟩
  | .local _ .vmem, ⟨25, _⟩ => ⟨S192x128, .f32⟩
  | .local _ .vmem, ⟨26, _⟩ => ⟨S192x128, .f32⟩
  | .local _ .vmem, ⟨27, _⟩ => ⟨S192x128, .f32⟩
  | .local _ .vmem, ⟨28, _⟩ => ⟨S192x128, .f32⟩
  | .local _ .vmem, ⟨29, _⟩ => ⟨S192x128, .f32⟩
  | .local _ .vmem, ⟨30, _⟩ => ⟨S1x192x128, .bf16⟩
  | .local _ .vmem, ⟨31, _⟩ => ⟨S1x192x128, .bf16⟩
  | .local _ .vmem, ⟨32, _⟩ => ⟨S1x192x128, .bf16⟩
  | .local _ .vmem, ⟨33, _⟩ => ⟨S1x192x128, .bf16⟩
  | .local _ .vmem, ⟨34, _⟩ => ⟨S1x192x128, .bf16⟩
  | .local _ .vmem, ⟨35, _⟩ => ⟨S1x192x128, .bf16⟩
  | .local _ .vmem, ⟨36, _⟩ => ⟨S1x192x128, .bf16⟩
  | .local _ .vmem, ⟨37, _⟩ => ⟨S1x192x128, .bf16⟩
  | .local _ .vmem, ⟨38, _⟩ => ⟨S1x192x128, .bf16⟩
  | .local _ .vmem, ⟨39, _⟩ => ⟨S1x192x128, .bf16⟩
  | .local _ .vmem, ⟨40, _⟩ => ⟨S1x192x128, .bf16⟩
  | .local _ .vmem, ⟨41, _⟩ => ⟨S1x192x128, .bf16⟩
  | .local _ .vmem, ⟨42, _⟩ => ⟨S1x192x128, .bf16⟩
  | .local _ .vmem, ⟨43, _⟩ => ⟨S1x192x128, .bf16⟩
  | .local _ .vmem, ⟨44, _⟩ => ⟨S1x192x128, .bf16⟩
  | .local _ .vmem, ⟨45, _⟩ => ⟨S1x192x128, .bf16⟩
  | .local _ .vmem, ⟨46, _⟩ => ⟨S192x128, .f32⟩
  | .local _ .vmem, ⟨47, _⟩ => ⟨S192x128, .f32⟩
  | .local _ .vmem, ⟨48, _⟩ => ⟨S192x128, .f32⟩
  | .local _ .vmem, ⟨49, _⟩ => ⟨S192x128, .f32⟩
  | .local _ .vmem, ⟨50, _⟩ => ⟨S192x128, .f32⟩
  | .local _ .vmem, ⟨51, _⟩ => ⟨S192x128, .f32⟩
  | .local _ .vmem, ⟨52, _⟩ => ⟨S192x128, .f32⟩
  | .local _ .vmem, ⟨53, _⟩ => ⟨S192x128, .f32⟩
  | .local _ .vmem, ⟨54, _⟩ => ⟨S192x128, .f32⟩
  | .local _ .vmem, ⟨55, _⟩ => ⟨S192x128, .f32⟩
  | .local _ .vmem, ⟨56, _⟩ => ⟨S192x128, .f32⟩
  | .local _ .vmem, ⟨57, _⟩ => ⟨S192x128, .f32⟩
  | .local _ .vmem, ⟨58, _⟩ => ⟨S192x128, .f32⟩
  | .local _ .vmem, ⟨59, _⟩ => ⟨S192x128, .f32⟩
  | .local _ .vmem, ⟨60, _⟩ => ⟨S1x192x128, .bf16⟩
  | .local _ .vmem, ⟨61, _⟩ => ⟨S1x192x128, .bf16⟩
  | .local _ .vmem, ⟨62, _⟩ => ⟨S1x192x128, .bf16⟩
  | .local _ .vmem, ⟨63, _⟩ => ⟨S1x192x128, .bf16⟩
  | .local _ .vmem, ⟨64, _⟩ => ⟨S1x192x128, .bf16⟩
  | .local _ .vmem, ⟨65, _⟩ => ⟨S1x192x128, .bf16⟩
  | .local _ .vmem, ⟨66, _⟩ => ⟨S1x192x128, .bf16⟩
  | .local _ .vmem, ⟨67, _⟩ => ⟨S1x192x128, .bf16⟩
  | .local _ .vmem, ⟨68, _⟩ => ⟨S1x192x128, .bf16⟩
  | .local _ .vmem, ⟨69, _⟩ => ⟨S1x192x128, .bf16⟩
  | .local _ .vmem, ⟨70, _⟩ => ⟨S1x192x128, .bf16⟩
  | .local _ .vmem, ⟨71, _⟩ => ⟨S1x192x128, .bf16⟩
  | .local _ .vmem, ⟨72, _⟩ => ⟨S1x192x128, .bf16⟩
  | .local _ .vmem, ⟨73, _⟩ => ⟨S1x192x128, .bf16⟩
  | .local _ .vmem, ⟨74, _⟩ => ⟨S1x192x128, .bf16⟩
  | .local _ .vmem, ⟨75, _⟩ => ⟨S1x192x128, .bf16⟩
  | .local _ .vmem, ⟨76, _⟩ => ⟨S192x128, .f32⟩
  | .local _ .vmem, ⟨77, _⟩ => ⟨S192x128, .f32⟩
  | .local _ .vmem, ⟨78, _⟩ => ⟨S192x128, .f32⟩
  | .local _ .vmem, ⟨79, _⟩ => ⟨S192x128, .f32⟩
  | .local _ .vmem, ⟨80, _⟩ => ⟨S192x128, .f32⟩
  | .local _ .vmem, ⟨81, _⟩ => ⟨S192x128, .f32⟩
  | .local _ .vmem, ⟨82, _⟩ => ⟨S192x128, .f32⟩
  | .local _ .vmem, ⟨83, _⟩ => ⟨S192x128, .f32⟩
  | .local _ .vmem, ⟨84, _⟩ => ⟨S192x128, .f32⟩
  | .local _ .vmem, ⟨85, _⟩ => ⟨S192x128, .f32⟩
  | .local _ .vmem, ⟨86, _⟩ => ⟨S192x128, .f32⟩
  | .local _ .vmem, ⟨87, _⟩ => ⟨S192x128, .f32⟩
  | .local _ .vmem, ⟨88, _⟩ => ⟨S192x128, .f32⟩
  | .local _ .vmem, ⟨89, _⟩ => ⟨S192x128, .f32⟩
  | .local _ .vmem, ⟨90, _⟩ => ⟨S1x192x128, .bf16⟩
  | .local _ .vmem, ⟨91, _⟩ => ⟨S1x192x128, .bf16⟩
  | .local _ .vmem, ⟨92, _⟩ => ⟨S1x192x128, .bf16⟩
  | .local _ .vmem, ⟨93, _⟩ => ⟨S1x192x128, .bf16⟩
  | .local _ .vmem, ⟨94, _⟩ => ⟨S1x192x128, .bf16⟩
  | .local _ .vmem, ⟨95, _⟩ => ⟨S1x192x128, .bf16⟩
  | .local _ .vmem, ⟨96, _⟩ => ⟨S1x192x128, .bf16⟩
  | .local _ .vmem, ⟨97, _⟩ => ⟨S1x192x128, .bf16⟩
  | .local _ .vmem, ⟨98, _⟩ => ⟨S1x192x128, .bf16⟩
  | .local _ .vmem, ⟨99, _⟩ => ⟨S1x192x128, .bf16⟩
  | .local _ .vmem, ⟨100, _⟩ => ⟨S1x192x128, .bf16⟩
  | .local _ .vmem, ⟨101, _⟩ => ⟨S1x192x128, .bf16⟩
  | .local _ .vmem, ⟨102, _⟩ => ⟨S1x192x128, .bf16⟩
  | .local _ .vmem, ⟨103, _⟩ => ⟨S1x192x128, .bf16⟩
  | .local _ .vmem, ⟨104, _⟩ => ⟨S1x192x128, .bf16⟩
  | .local _ .vmem, ⟨105, _⟩ => ⟨S1x192x128, .bf16⟩
  | .local _ .vmem, ⟨106, _⟩ => ⟨S192x128, .f32⟩
  | .local _ .vmem, ⟨107, _⟩ => ⟨S192x128, .f32⟩
  | .local _ .vmem, ⟨108, _⟩ => ⟨S192x128, .f32⟩
  | .local _ .vmem, ⟨109, _⟩ => ⟨S192x128, .f32⟩
  | .local _ .vmem, ⟨110, _⟩ => ⟨S192x128, .f32⟩
  | .local _ .vmem, ⟨111, _⟩ => ⟨S192x128, .f32⟩
  | .local _ .vmem, ⟨112, _⟩ => ⟨S192x128, .f32⟩
  | .local _ .vmem, ⟨113, _⟩ => ⟨S192x128, .f32⟩
  | .local _ .vmem, ⟨114, _⟩ => ⟨S192x128, .f32⟩
  | .local _ .vmem, ⟨115, _⟩ => ⟨S192x128, .f32⟩
  | .local _ .vmem, ⟨116, _⟩ => ⟨S192x128, .f32⟩
  | .local _ .vmem, ⟨117, _⟩ => ⟨S192x128, .f32⟩
  | .local _ .vmem, ⟨118, _⟩ => ⟨S192x128, .f32⟩
  | .local _ .vmem, ⟨119, _⟩ => ⟨S192x128, .f32⟩
  | _, _ => ⟨S8x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg4_1 : Ref sig .tc := ⟨.vmem, 39, rfl⟩
abbrev cc1_stg5_0 : Ref sig .tc := ⟨.vmem, 40, rfl⟩
abbrev cc1_stg5_1 : Ref sig .tc := ⟨.vmem, 41, rfl⟩
abbrev cc1_stg6_0 : Ref sig .tc := ⟨.vmem, 42, rfl⟩
abbrev cc1_stg6_1 : Ref sig .tc := ⟨.vmem, 43, rfl⟩
abbrev cc1_stg7_0 : Ref sig .tc := ⟨.vmem, 44, rfl⟩
abbrev cc1_stg7_1 : Ref sig .tc := ⟨.vmem, 45, rfl⟩
abbrev cc1_stg8_0 : Ref sig .tc := ⟨.vmem, 46, rfl⟩
abbrev cc1_stg8_1 : Ref sig .tc := ⟨.vmem, 47, rfl⟩
abbrev cc1_stg9_0 : Ref sig .tc := ⟨.vmem, 48, rfl⟩
abbrev cc1_stg9_1 : Ref sig .tc := ⟨.vmem, 49, rfl⟩
abbrev cc1_stg10_0 : Ref sig .tc := ⟨.vmem, 50, rfl⟩
abbrev cc1_stg10_1 : Ref sig .tc := ⟨.vmem, 51, rfl⟩
abbrev cc1_stg11_0 : Ref sig .tc := ⟨.vmem, 52, rfl⟩
abbrev cc1_stg11_1 : Ref sig .tc := ⟨.vmem, 53, rfl⟩
abbrev cc1_stg12_0 : Ref sig .tc := ⟨.vmem, 54, rfl⟩
abbrev cc1_stg12_1 : Ref sig .tc := ⟨.vmem, 55, rfl⟩
abbrev cc1_stg13_0 : Ref sig .tc := ⟨.vmem, 56, rfl⟩
abbrev cc1_stg13_1 : Ref sig .tc := ⟨.vmem, 57, rfl⟩
abbrev cc1_stg14_0 : Ref sig .tc := ⟨.vmem, 58, rfl⟩
abbrev cc1_stg14_1 : Ref sig .tc := ⟨.vmem, 59, rfl⟩
abbrev cc2_stg0_0 : Ref sig .tc := ⟨.vmem, 60, rfl⟩
abbrev cc2_stg0_1 : Ref sig .tc := ⟨.vmem, 61, rfl⟩
abbrev cc2_stg1_0 : Ref sig .tc := ⟨.vmem, 62, rfl⟩
abbrev cc2_stg1_1 : Ref sig .tc := ⟨.vmem, 63, rfl⟩
abbrev cc2_stg2_0 : Ref sig .tc := ⟨.vmem, 64, rfl⟩
abbrev cc2_stg2_1 : Ref sig .tc := ⟨.vmem, 65, rfl⟩
abbrev cc2_stg3_0 : Ref sig .tc := ⟨.vmem, 66, rfl⟩
abbrev cc2_stg3_1 : Ref sig .tc := ⟨.vmem, 67, rfl⟩
abbrev cc2_stg4_0 : Ref sig .tc := ⟨.vmem, 68, rfl⟩
abbrev cc2_stg4_1 : Ref sig .tc := ⟨.vmem, 69, rfl⟩
abbrev cc2_stg5_0 : Ref sig .tc := ⟨.vmem, 70, rfl⟩
abbrev cc2_stg5_1 : Ref sig .tc := ⟨.vmem, 71, rfl⟩
abbrev cc2_stg6_0 : Ref sig .tc := ⟨.vmem, 72, rfl⟩
abbrev cc2_stg6_1 : Ref sig .tc := ⟨.vmem, 73, rfl⟩
abbrev cc2_stg7_0 : Ref sig .tc := ⟨.vmem, 74, rfl⟩
abbrev cc2_stg7_1 : Ref sig .tc := ⟨.vmem, 75, rfl⟩
abbrev cc2_stg8_0 : Ref sig .tc := ⟨.vmem, 76, rfl⟩
abbrev cc2_stg8_1 : Ref sig .tc := ⟨.vmem, 77, rfl⟩
abbrev cc2_stg9_0 : Ref sig .tc := ⟨.vmem, 78, rfl⟩
abbrev cc2_stg9_1 : Ref sig .tc := ⟨.vmem, 79, rfl⟩
abbrev cc2_stg10_0 : Ref sig .tc := ⟨.vmem, 80, rfl⟩
abbrev cc2_stg10_1 : Ref sig .tc := ⟨.vmem, 81, rfl⟩
abbrev cc2_stg11_0 : Ref sig .tc := ⟨.vmem, 82, rfl⟩
abbrev cc2_stg11_1 : Ref sig .tc := ⟨.vmem, 83, rfl⟩
abbrev cc2_stg12_0 : Ref sig .tc := ⟨.vmem, 84, rfl⟩
abbrev cc2_stg12_1 : Ref sig .tc := ⟨.vmem, 85, rfl⟩
abbrev cc2_stg13_0 : Ref sig .tc := ⟨.vmem, 86, rfl⟩
abbrev cc2_stg13_1 : Ref sig .tc := ⟨.vmem, 87, rfl⟩
abbrev cc2_stg14_0 : Ref sig .tc := ⟨.vmem, 88, rfl⟩
abbrev cc2_stg14_1 : Ref sig .tc := ⟨.vmem, 89, rfl⟩
abbrev cc3_stg0_0 : Ref sig .tc := ⟨.vmem, 90, rfl⟩
abbrev cc3_stg0_1 : Ref sig .tc := ⟨.vmem, 91, rfl⟩
abbrev cc3_stg1_0 : Ref sig .tc := ⟨.vmem, 92, rfl⟩
abbrev cc3_stg1_1 : Ref sig .tc := ⟨.vmem, 93, rfl⟩
abbrev cc3_stg2_0 : Ref sig .tc := ⟨.vmem, 94, rfl⟩
abbrev cc3_stg2_1 : Ref sig .tc := ⟨.vmem, 95, rfl⟩
abbrev cc3_stg3_0 : Ref sig .tc := ⟨.vmem, 96, rfl⟩
abbrev cc3_stg3_1 : Ref sig .tc := ⟨.vmem, 97, rfl⟩
abbrev cc3_stg4_0 : Ref sig .tc := ⟨.vmem, 98, rfl⟩
abbrev cc3_stg4_1 : Ref sig .tc := ⟨.vmem, 99, rfl⟩
abbrev cc3_stg5_0 : Ref sig .tc := ⟨.vmem, 100, rfl⟩
abbrev cc3_stg5_1 : Ref sig .tc := ⟨.vmem, 101, rfl⟩
abbrev cc3_stg6_0 : Ref sig .tc := ⟨.vmem, 102, rfl⟩
abbrev cc3_stg6_1 : Ref sig .tc := ⟨.vmem, 103, rfl⟩
abbrev cc3_stg7_0 : Ref sig .tc := ⟨.vmem, 104, rfl⟩
abbrev cc3_stg7_1 : Ref sig .tc := ⟨.vmem, 105, rfl⟩
abbrev cc3_stg8_0 : Ref sig .tc := ⟨.vmem, 106, rfl⟩
abbrev cc3_stg8_1 : Ref sig .tc := ⟨.vmem, 107, rfl⟩
abbrev cc3_stg9_0 : Ref sig .tc := ⟨.vmem, 108, rfl⟩
abbrev cc3_stg9_1 : Ref sig .tc := ⟨.vmem, 109, rfl⟩
abbrev cc3_stg10_0 : Ref sig .tc := ⟨.vmem, 110, rfl⟩
abbrev cc3_stg10_1 : Ref sig .tc := ⟨.vmem, 111, rfl⟩
abbrev cc3_stg11_0 : Ref sig .tc := ⟨.vmem, 112, rfl⟩
abbrev cc3_stg11_1 : Ref sig .tc := ⟨.vmem, 113, rfl⟩
abbrev cc3_stg12_0 : Ref sig .tc := ⟨.vmem, 114, rfl⟩
abbrev cc3_stg12_1 : Ref sig .tc := ⟨.vmem, 115, rfl⟩
abbrev cc3_stg13_0 : Ref sig .tc := ⟨.vmem, 116, rfl⟩
abbrev cc3_stg13_1 : Ref sig .tc := ⟨.vmem, 117, rfl⟩
abbrev cc3_stg14_0 : Ref sig .tc := ⟨.vmem, 118, rfl⟩
abbrev cc3_stg14_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem5_1 : DmaSem sig := 41
abbrev cc1_sem6_0 : DmaSem sig := 42
abbrev cc1_sem6_1 : DmaSem sig := 43
abbrev cc1_sem7_0 : DmaSem sig := 44
abbrev cc1_sem7_1 : DmaSem sig := 45
abbrev cc1_sem8_0 : DmaSem sig := 46
abbrev cc1_sem8_1 : DmaSem sig := 47
abbrev cc1_sem9_0 : DmaSem sig := 48
abbrev cc1_sem9_1 : DmaSem sig := 49
abbrev cc1_sem10_0 : DmaSem sig := 50
abbrev cc1_sem10_1 : DmaSem sig := 51
abbrev cc1_sem11_0 : DmaSem sig := 52
abbrev cc1_sem11_1 : DmaSem sig := 53
abbrev cc1_sem12_0 : DmaSem sig := 54
abbrev cc1_sem12_1 : DmaSem sig := 55
abbrev cc1_sem13_0 : DmaSem sig := 56
abbrev cc1_sem13_1 : DmaSem sig := 57
abbrev cc1_sem14_0 : DmaSem sig := 58
abbrev cc1_sem14_1 : DmaSem sig := 59
abbrev cc2_sem0_0 : DmaSem sig := 60
abbrev cc2_sem0_1 : DmaSem sig := 61
abbrev cc2_sem1_0 : DmaSem sig := 62
abbrev cc2_sem1_1 : DmaSem sig := 63
abbrev cc2_sem2_0 : DmaSem sig := 64
abbrev cc2_sem2_1 : DmaSem sig := 65
abbrev cc2_sem3_0 : DmaSem sig := 66
abbrev cc2_sem3_1 : DmaSem sig := 67
abbrev cc2_sem4_0 : DmaSem sig := 68
abbrev cc2_sem4_1 : DmaSem sig := 69
abbrev cc2_sem5_0 : DmaSem sig := 70
abbrev cc2_sem5_1 : DmaSem sig := 71
abbrev cc2_sem6_0 : DmaSem sig := 72
abbrev cc2_sem6_1 : DmaSem sig := 73
abbrev cc2_sem7_0 : DmaSem sig := 74
abbrev cc2_sem7_1 : DmaSem sig := 75
abbrev cc2_sem8_0 : DmaSem sig := 76
abbrev cc2_sem8_1 : DmaSem sig := 77
abbrev cc2_sem9_0 : DmaSem sig := 78
abbrev cc2_sem9_1 : DmaSem sig := 79
abbrev cc2_sem10_0 : DmaSem sig := 80
abbrev cc2_sem10_1 : DmaSem sig := 81
abbrev cc2_sem11_0 : DmaSem sig := 82
abbrev cc2_sem11_1 : DmaSem sig := 83
abbrev cc2_sem12_0 : DmaSem sig := 84
abbrev cc2_sem12_1 : DmaSem sig := 85
abbrev cc2_sem13_0 : DmaSem sig := 86
abbrev cc2_sem13_1 : DmaSem sig := 87
abbrev cc2_sem14_0 : DmaSem sig := 88
abbrev cc2_sem14_1 : DmaSem sig := 89
abbrev cc3_sem0_0 : DmaSem sig := 90
abbrev cc3_sem0_1 : DmaSem sig := 91
abbrev cc3_sem1_0 : DmaSem sig := 92
abbrev cc3_sem1_1 : DmaSem sig := 93
abbrev cc3_sem2_0 : DmaSem sig := 94
abbrev cc3_sem2_1 : DmaSem sig := 95
abbrev cc3_sem3_0 : DmaSem sig := 96
abbrev cc3_sem3_1 : DmaSem sig := 97
abbrev cc3_sem4_0 : DmaSem sig := 98
abbrev cc3_sem4_1 : DmaSem sig := 99
abbrev cc3_sem5_0 : DmaSem sig := 100
abbrev cc3_sem5_1 : DmaSem sig := 101
abbrev cc3_sem6_0 : DmaSem sig := 102
abbrev cc3_sem6_1 : DmaSem sig := 103
abbrev cc3_sem7_0 : DmaSem sig := 104
abbrev cc3_sem7_1 : DmaSem sig := 105
abbrev cc3_sem8_0 : DmaSem sig := 106
abbrev cc3_sem8_1 : DmaSem sig := 107
abbrev cc3_sem9_0 : DmaSem sig := 108
abbrev cc3_sem9_1 : DmaSem sig := 109
abbrev cc3_sem10_0 : DmaSem sig := 110
abbrev cc3_sem10_1 : DmaSem sig := 111
abbrev cc3_sem11_0 : DmaSem sig := 112
abbrev cc3_sem11_1 : DmaSem sig := 113
abbrev cc3_sem12_0 : DmaSem sig := 114
abbrev cc3_sem12_1 : DmaSem sig := 115
abbrev cc3_sem13_0 : DmaSem sig := 116
abbrev cc3_sem13_1 : DmaSem sig := 117
abbrev cc3_sem14_0 : DmaSem sig := 118
abbrev cc3_sem14_1 : DmaSem sig := 119

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

abbrev stage0_0 : Fin 2 → Memref sig .tc .vmem S1x192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S192x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S192x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

abbrev stage1_0 : Fin 2 → Memref sig .tc .vmem S1x192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x192x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x192x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x192x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x192x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x192x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S192x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S192x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S192x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S192x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S192x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S192x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S192x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨2, ![1, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

abbrev stage2_0 : Fin 2 → Memref sig .tc .vmem S1x192x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x192x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x192x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x192x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x192x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x192x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x192x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x192x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S192x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S192x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S192x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S192x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S192x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S192x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S192x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev grid3 : Pipeline.Grid := ⟨2, ![1, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 2 → Memref sig .tc .vmem S1x192x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x192x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x192x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x192x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x192x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x192x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x192x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x192x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S192x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S192x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S192x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S192x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S192x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 2 → Memref sig .tc .vmem S192x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true]

abbrev stage3_14 : Fin 2 → Memref sig .tc .vmem S192x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]
-- ==== MixRefIdeal.lean ====
abbrev S8x384x128 : Shape := ⟨3, ![8, 384, 128]⟩
abbrev S1536x128 : Shape := ⟨2, ![1536, 128]⟩
abbrev S8x1536x128 : Shape := ⟨3, ![8, 1536, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x384x128, .bf16⟩
  | .hbm, ⟨1, _⟩ => ⟨S8x384x128, .bf16⟩
  | .hbm, ⟨2, _⟩ => ⟨S8x384x128, .bf16⟩
  | .hbm, ⟨3, _⟩ => ⟨S8x384x128, .bf16⟩
  | .hbm, ⟨4, _⟩ => ⟨S1536x128, .f32⟩
  | .hbm, ⟨5, _⟩ => ⟨S1536x128, .f32⟩
  | .hbm, ⟨6, _⟩ => ⟨S1536x128, .f32⟩
  | .hbm, ⟨7, _⟩ => ⟨S8x1536x128, .bf16⟩
  | .hbm, ⟨8, _⟩ => ⟨S8x1536x128, .f32⟩
  | .hbm, ⟨9, _⟩ => ⟨S_, .f32⟩
  | .hbm, ⟨10, _⟩ => ⟨S1536x128, .f32⟩
  | .hbm, ⟨11, _⟩ => ⟨S_, .f32⟩
  | .hbm, ⟨12, _⟩ => ⟨S1536x128, .f32⟩
  | .hbm, ⟨13, _⟩ => ⟨S1536x128, .f32⟩
  | .hbm, ⟨14, _⟩ => ⟨S_, .f32⟩
  | .hbm, ⟨15, _⟩ => ⟨S1536x128, .f32⟩
  | .hbm, ⟨16, _⟩ => ⟨S1536x128, .f32⟩
  | .hbm, ⟨17, _⟩ => ⟨S1536x128, .f32⟩
  | .hbm, ⟨18, _⟩ => ⟨S_, .f32⟩
  | .hbm, ⟨19, _⟩ => ⟨S1536x128, .f32⟩
  | .hbm, ⟨20, _⟩ => ⟨S1536x128, .f32⟩
  | .hbm, ⟨21, _⟩ => ⟨S1536x128, .f32⟩
  | .hbm, ⟨22, _⟩ => ⟨S_, .f32⟩
  | .hbm, ⟨23, _⟩ => ⟨S1536x128, .f32⟩
  | .hbm, ⟨24, _⟩ => ⟨S1536x128, .f32⟩
  | .hbm, ⟨25, _⟩ => ⟨S1536x128, .f32⟩
  | .hbm, ⟨26, _⟩ => ⟨S_, .f32⟩
  | .hbm, ⟨27, _⟩ => ⟨S1536x128, .f32⟩
  | .hbm, ⟨28, _⟩ => ⟨S1536x128, .f32⟩
  | .hbm, ⟨29, _⟩ => ⟨S_, .f32⟩
  | .hbm, ⟨30, _⟩ => ⟨S1536x128, .f32⟩
  | .hbm, ⟨31, _⟩ => ⟨S1536x128, .f32⟩
  | .hbm, ⟨32, _⟩ => ⟨S1536x128, .f32⟩
  | .hbm, ⟨33, _⟩ => ⟨S_, .f32⟩
  | .hbm, ⟨34, _⟩ => ⟨S1536x128, .f32⟩
  | .hbm, ⟨35, _⟩ => ⟨S1536x128, .f32⟩
  | .hbm, ⟨36, _⟩ => ⟨S1536x128, .f32⟩
  | .hbm, ⟨37, _⟩ => ⟨S_, .f32⟩
  | .hbm, ⟨38, _⟩ => ⟨S1536x128, .f32⟩
  | .hbm, ⟨39, _⟩ => ⟨S1536x128, .f32⟩
  | .hbm, ⟨40, _⟩ => ⟨S1536x128, .f32⟩
  | .hbm, ⟨41, _⟩ => ⟨S_, .f32⟩
  | .hbm, ⟨42, _⟩ => ⟨S1536x128, .f32⟩
  | .hbm, ⟨43, _⟩ => ⟨S1536x128, .f32⟩
  | _, _ => ⟨S8x384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== StepDown.lean ====
abbrev S8x352x1024 : Shape := ⟨3, ![8, 352, 1024]⟩
abbrev S1408x1024 : Shape := ⟨2, ![1408, 1024]⟩
abbrev S1x176x1024 : Shape := ⟨3, ![1, 176, 1024]⟩
abbrev S176x1024 : Shape := ⟨2, ![176, 1024]⟩

abbrev nBuf : Space → Nat
  | .hbm => 23
  | .vmem => 120
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S1408x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S1x176x1024, .bf16⟩
  | .local _ .vmem, ⟨5, _⟩ => ⟨S1x176x1024, .bf16⟩
  | .local _ .vmem, ⟨6, _⟩ => ⟨S1x176x1024, .bf16⟩
  | .local _ .vmem, ⟨7, _⟩ => ⟨S1x176x1024, .bf16⟩
  | .local _ .vmem, ⟨8, _⟩ => ⟨S1x176x1024, .bf16⟩
  | .local _ .vmem, ⟨9, _⟩ => ⟨S1x176x1024, .bf16⟩
  | .local _ .vmem, ⟨10, _⟩ => ⟨S1x176x1024, .bf16⟩
  | .local _ .vmem, ⟨11, _⟩ => ⟨S1x176x1024, .bf16⟩
  | .local _ .vmem, ⟨12, _⟩ => ⟨S1x176x1024, .bf16⟩
  | .local _ .vmem, ⟨13, _⟩ => ⟨S1x176x1024, .bf16⟩
  | .local _ .vmem, ⟨14, _⟩ => ⟨S1x176x1024, .bf16⟩
  | .local _ .vmem, ⟨15, _⟩ => ⟨S1x176x1024, .bf16⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S1x176x1024, .bf16⟩
  | .local _ .vmem, ⟨31, _⟩ => ⟨S1x176x1024, .bf16⟩
  | .local _ .vmem, ⟨32, _⟩ => ⟨S1x176x1024, .bf16⟩
  | .local _ .vmem, ⟨33, _⟩ => ⟨S1x176x1024, .bf16⟩
  | .local _ .vmem, ⟨34, _⟩ => ⟨S1x176x1024, .bf16⟩
  | .local _ .vmem, ⟨35, _⟩ => ⟨S1x176x1024, .bf16⟩
  | .local _ .vmem, ⟨36, _⟩ => ⟨S1x176x1024, .bf16⟩
  | .local _ .vmem, ⟨37, _⟩ => ⟨S1x176x1024, .bf16⟩
  | .local _ .vmem, ⟨38, _⟩ => ⟨S1x176x1024, .bf16⟩
  | .local _ .vmem, ⟨39, _⟩ => ⟨S1x176x1024, .bf16⟩
  | .local _ .vmem, ⟨40, _⟩ => ⟨S1x176x1024, .bf16⟩
  | .local _ .vmem, ⟨41, _⟩ => ⟨S1x176x1024, .bf16⟩
  | .local _ .vmem, ⟨42, _⟩ => ⟨S1x176x1024, .bf16⟩
  | .local _ .vmem, ⟨43, _⟩ => ⟨S1x176x1024, .bf16⟩
  | .local _ .vmem, ⟨44, _⟩ => ⟨S1x176x1024, .bf16⟩
  | .local _ .vmem, ⟨45, _⟩ => ⟨S1x176x1024, .bf16⟩
  | .local _ .vmem, ⟨46, _⟩ => ⟨S176x1024, .f32⟩
  | .local _ .vmem, ⟨47, _⟩ => ⟨S176x1024, .f32⟩
  | .local _ .vmem, ⟨48, _⟩ => ⟨S176x1024, .f32⟩
  | .local _ .vmem, ⟨49, _⟩ => ⟨S176x1024, .f32⟩
  | .local _ .vmem, ⟨50, _⟩ => ⟨S176x1024, .f32⟩
  | .local _ .vmem, ⟨51, _⟩ => ⟨S176x1024, .f32⟩
  | .local _ .vmem, ⟨52, _⟩ => ⟨S176x1024, .f32⟩
  | .local _ .vmem, ⟨53, _⟩ => ⟨S176x1024, .f32⟩
  | .local _ .vmem, ⟨54, _⟩ => ⟨S176x1024, .f32⟩
  | .local _ .vmem, ⟨55, _⟩ => ⟨S176x1024, .f32⟩
  | .local _ .vmem, ⟨56, _⟩ => ⟨S176x1024, .f32⟩
  | .local _ .vmem, ⟨57, _⟩ => ⟨S176x1024, .f32⟩
  | .local _ .vmem, ⟨58, _⟩ => ⟨S176x1024, .f32⟩
  | .local _ .vmem, ⟨59, _⟩ => ⟨S176x1024, .f32⟩
  | .local _ .vmem, ⟨60, _⟩ => ⟨S1x176x1024, .bf16⟩
  | .local _ .vmem, ⟨61, _⟩ => ⟨S1x176x1024, .bf16⟩
  | .local _ .vmem, ⟨62, _⟩ => ⟨S1x176x1024, .bf16⟩
  | .local _ .vmem, ⟨63, _⟩ => ⟨S1x176x1024, .bf16⟩
  | .local _ .vmem, ⟨64, _⟩ => ⟨S1x176x1024, .bf16⟩
  | .local _ .vmem, ⟨65, _⟩ => ⟨S1x176x1024, .bf16⟩
  | .local _ .vmem, ⟨66, _⟩ => ⟨S1x176x1024, .bf16⟩
  | .local _ .vmem, ⟨67, _⟩ => ⟨S1x176x1024, .bf16⟩
  | .local _ .vmem, ⟨68, _⟩ => ⟨S1x176x1024, .bf16⟩
  | .local _ .vmem, ⟨69, _⟩ => ⟨S1x176x1024, .bf16⟩
  | .local _ .vmem, ⟨70, _⟩ => ⟨S1x176x1024, .bf16⟩
  | .local _ .vmem, ⟨71, _⟩ => ⟨S1x176x1024, .bf16⟩
  | .local _ .vmem, ⟨72, _⟩ => ⟨S1x176x1024, .bf16⟩
  | .local _ .vmem, ⟨73, _⟩ => ⟨S1x176x1024, .bf16⟩
  | .local _ .vmem, ⟨74, _⟩ => ⟨S1x176x1024, .bf16⟩
  | .local _ .vmem, ⟨75, _⟩ => ⟨S1x176x1024, .bf16⟩
  | .local _ .vmem, ⟨76, _⟩ => ⟨S176x1024, .f32⟩
  | .local _ .vmem, ⟨77, _⟩ => ⟨S176x1024, .f32⟩
  | .local _ .vmem, ⟨78, _⟩ => ⟨S176x1024, .f32⟩
  | .local _ .vmem, ⟨79, _⟩ => ⟨S176x1024, .f32⟩
  | .local _ .vmem, ⟨80, _⟩ => ⟨S176x1024, .f32⟩
  | .local _ .vmem, ⟨81, _⟩ => ⟨S176x1024, .f32⟩
  | .local _ .vmem, ⟨82, _⟩ => ⟨S176x1024, .f32⟩
  | .local _ .vmem, ⟨83, _⟩ => ⟨S176x1024, .f32⟩
  | .local _ .vmem, ⟨84, _⟩ => ⟨S176x1024, .f32⟩
  | .local _ .vmem, ⟨85, _⟩ => ⟨S176x1024, .f32⟩
  | .local _ .vmem, ⟨86, _⟩ => ⟨S176x1024, .f32⟩
  | .local _ .vmem, ⟨87, _⟩ => ⟨S176x1024, .f32⟩
  | .local _ .vmem, ⟨88, _⟩ => ⟨S176x1024, .f32⟩
  | .local _ .vmem, ⟨89, _⟩ => ⟨S176x1024, .f32⟩
  | .local _ .vmem, ⟨90, _⟩ => ⟨S1x176x1024, .bf16⟩
  | .local _ .vmem, ⟨91, _⟩ => ⟨S1x176x1024, .bf16⟩
  | .local _ .vmem, ⟨92, _⟩ => ⟨S1x176x1024, .bf16⟩
  | .local _ .vmem, ⟨93, _⟩ => ⟨S1x176x1024, .bf16⟩
  | .local _ .vmem, ⟨94, _⟩ => ⟨S1x176x1024, .bf16⟩
  | .local _ .vmem, ⟨95, _⟩ => ⟨S1x176x1024, .bf16⟩
  | .local _ .vmem, ⟨96, _⟩ => ⟨S1x176x1024, .bf16⟩
  | .local _ .vmem, ⟨97, _⟩ => ⟨S1x176x1024, .bf16⟩
  | .local _ .vmem, ⟨98, _⟩ => ⟨S1x176x1024, .bf16⟩
  | .local _ .vmem, ⟨99, _⟩ => ⟨S1x176x1024, .bf16⟩
  | .local _ .vmem, ⟨100, _⟩ => ⟨S1x176x1024, .bf16⟩
  | .local _ .vmem, ⟨101, _⟩ => ⟨S1x176x1024, .bf16⟩
  | .local _ .vmem, ⟨102, _⟩ => ⟨S1x176x1024, .bf16⟩
  | .local _ .vmem, ⟨103, _⟩ => ⟨S1x176x1024, .bf16⟩
  | .local _ .vmem, ⟨104, _⟩ => ⟨S1x176x1024, .bf16⟩
  | .local _ .vmem, ⟨105, _⟩ => ⟨S1x176x1024, .bf16⟩
  | .local _ .vmem, ⟨106, _⟩ => ⟨S176x1024, .f32⟩
  | .local _ .vmem, ⟨107, _⟩ => ⟨S176x1024, .f32⟩
  | .local _ .vmem, ⟨108, _⟩ => ⟨S176x1024, .f32⟩
  | .local _ .vmem, ⟨109, _⟩ => ⟨S176x1024, .f32⟩
  | .local _ .vmem, ⟨110, _⟩ => ⟨S176x1024, .f32⟩
  | .local _ .vmem, ⟨111, _⟩ => ⟨S176x1024, .f32⟩
  | .local _ .vmem, ⟨112, _⟩ => ⟨S176x1024, .f32⟩
  | .local _ .vmem, ⟨113, _⟩ => ⟨S176x1024, .f32⟩
  | .local _ .vmem, ⟨114, _⟩ => ⟨S176x1024, .f32⟩
  | .local _ .vmem, ⟨115, _⟩ => ⟨S176x1024, .f32⟩
  | .local _ .vmem, ⟨116, _⟩ => ⟨S176x1024, .f32⟩
  | .local _ .vmem, ⟨117, _⟩ => ⟨S176x1024, .f32⟩
  | .local _ .vmem, ⟨118, _⟩ => ⟨S176x1024, .f32⟩
  | .local _ .vmem, ⟨119, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg4_1 : Ref sig .tc := ⟨.vmem, 39, rfl⟩
abbrev cc1_stg5_0 : Ref sig .tc := ⟨.vmem, 40, rfl⟩
abbrev cc1_stg5_1 : Ref sig .tc := ⟨.vmem, 41, rfl⟩
abbrev cc1_stg6_0 : Ref sig .tc := ⟨.vmem, 42, rfl⟩
abbrev cc1_stg6_1 : Ref sig .tc := ⟨.vmem, 43, rfl⟩
abbrev cc1_stg7_0 : Ref sig .tc := ⟨.vmem, 44, rfl⟩
abbrev cc1_stg7_1 : Ref sig .tc := ⟨.vmem, 45, rfl⟩
abbrev cc1_stg8_0 : Ref sig .tc := ⟨.vmem, 46, rfl⟩
abbrev cc1_stg8_1 : Ref sig .tc := ⟨.vmem, 47, rfl⟩
abbrev cc1_stg9_0 : Ref sig .tc := ⟨.vmem, 48, rfl⟩
abbrev cc1_stg9_1 : Ref sig .tc := ⟨.vmem, 49, rfl⟩
abbrev cc1_stg10_0 : Ref sig .tc := ⟨.vmem, 50, rfl⟩
abbrev cc1_stg10_1 : Ref sig .tc := ⟨.vmem, 51, rfl⟩
abbrev cc1_stg11_0 : Ref sig .tc := ⟨.vmem, 52, rfl⟩
abbrev cc1_stg11_1 : Ref sig .tc := ⟨.vmem, 53, rfl⟩
abbrev cc1_stg12_0 : Ref sig .tc := ⟨.vmem, 54, rfl⟩
abbrev cc1_stg12_1 : Ref sig .tc := ⟨.vmem, 55, rfl⟩
abbrev cc1_stg13_0 : Ref sig .tc := ⟨.vmem, 56, rfl⟩
abbrev cc1_stg13_1 : Ref sig .tc := ⟨.vmem, 57, rfl⟩
abbrev cc1_stg14_0 : Ref sig .tc := ⟨.vmem, 58, rfl⟩
abbrev cc1_stg14_1 : Ref sig .tc := ⟨.vmem, 59, rfl⟩
abbrev cc2_stg0_0 : Ref sig .tc := ⟨.vmem, 60, rfl⟩
abbrev cc2_stg0_1 : Ref sig .tc := ⟨.vmem, 61, rfl⟩
abbrev cc2_stg1_0 : Ref sig .tc := ⟨.vmem, 62, rfl⟩
abbrev cc2_stg1_1 : Ref sig .tc := ⟨.vmem, 63, rfl⟩
abbrev cc2_stg2_0 : Ref sig .tc := ⟨.vmem, 64, rfl⟩
abbrev cc2_stg2_1 : Ref sig .tc := ⟨.vmem, 65, rfl⟩
abbrev cc2_stg3_0 : Ref sig .tc := ⟨.vmem, 66, rfl⟩
abbrev cc2_stg3_1 : Ref sig .tc := ⟨.vmem, 67, rfl⟩
abbrev cc2_stg4_0 : Ref sig .tc := ⟨.vmem, 68, rfl⟩
abbrev cc2_stg4_1 : Ref sig .tc := ⟨.vmem, 69, rfl⟩
abbrev cc2_stg5_0 : Ref sig .tc := ⟨.vmem, 70, rfl⟩
abbrev cc2_stg5_1 : Ref sig .tc := ⟨.vmem, 71, rfl⟩
abbrev cc2_stg6_0 : Ref sig .tc := ⟨.vmem, 72, rfl⟩
abbrev cc2_stg6_1 : Ref sig .tc := ⟨.vmem, 73, rfl⟩
abbrev cc2_stg7_0 : Ref sig .tc := ⟨.vmem, 74, rfl⟩
abbrev cc2_stg7_1 : Ref sig .tc := ⟨.vmem, 75, rfl⟩
abbrev cc2_stg8_0 : Ref sig .tc := ⟨.vmem, 76, rfl⟩
abbrev cc2_stg8_1 : Ref sig .tc := ⟨.vmem, 77, rfl⟩
abbrev cc2_stg9_0 : Ref sig .tc := ⟨.vmem, 78, rfl⟩
abbrev cc2_stg9_1 : Ref sig .tc := ⟨.vmem, 79, rfl⟩
abbrev cc2_stg10_0 : Ref sig .tc := ⟨.vmem, 80, rfl⟩
abbrev cc2_stg10_1 : Ref sig .tc := ⟨.vmem, 81, rfl⟩
abbrev cc2_stg11_0 : Ref sig .tc := ⟨.vmem, 82, rfl⟩
abbrev cc2_stg11_1 : Ref sig .tc := ⟨.vmem, 83, rfl⟩
abbrev cc2_stg12_0 : Ref sig .tc := ⟨.vmem, 84, rfl⟩
abbrev cc2_stg12_1 : Ref sig .tc := ⟨.vmem, 85, rfl⟩
abbrev cc2_stg13_0 : Ref sig .tc := ⟨.vmem, 86, rfl⟩
abbrev cc2_stg13_1 : Ref sig .tc := ⟨.vmem, 87, rfl⟩
abbrev cc2_stg14_0 : Ref sig .tc := ⟨.vmem, 88, rfl⟩
abbrev cc2_stg14_1 : Ref sig .tc := ⟨.vmem, 89, rfl⟩
abbrev cc3_stg0_0 : Ref sig .tc := ⟨.vmem, 90, rfl⟩
abbrev cc3_stg0_1 : Ref sig .tc := ⟨.vmem, 91, rfl⟩
abbrev cc3_stg1_0 : Ref sig .tc := ⟨.vmem, 92, rfl⟩
abbrev cc3_stg1_1 : Ref sig .tc := ⟨.vmem, 93, rfl⟩
abbrev cc3_stg2_0 : Ref sig .tc := ⟨.vmem, 94, rfl⟩
abbrev cc3_stg2_1 : Ref sig .tc := ⟨.vmem, 95, rfl⟩
abbrev cc3_stg3_0 : Ref sig .tc := ⟨.vmem, 96, rfl⟩
abbrev cc3_stg3_1 : Ref sig .tc := ⟨.vmem, 97, rfl⟩
abbrev cc3_stg4_0 : Ref sig .tc := ⟨.vmem, 98, rfl⟩
abbrev cc3_stg4_1 : Ref sig .tc := ⟨.vmem, 99, rfl⟩
abbrev cc3_stg5_0 : Ref sig .tc := ⟨.vmem, 100, rfl⟩
abbrev cc3_stg5_1 : Ref sig .tc := ⟨.vmem, 101, rfl⟩
abbrev cc3_stg6_0 : Ref sig .tc := ⟨.vmem, 102, rfl⟩
abbrev cc3_stg6_1 : Ref sig .tc := ⟨.vmem, 103, rfl⟩
abbrev cc3_stg7_0 : Ref sig .tc := ⟨.vmem, 104, rfl⟩
abbrev cc3_stg7_1 : Ref sig .tc := ⟨.vmem, 105, rfl⟩
abbrev cc3_stg8_0 : Ref sig .tc := ⟨.vmem, 106, rfl⟩
abbrev cc3_stg8_1 : Ref sig .tc := ⟨.vmem, 107, rfl⟩
abbrev cc3_stg9_0 : Ref sig .tc := ⟨.vmem, 108, rfl⟩
abbrev cc3_stg9_1 : Ref sig .tc := ⟨.vmem, 109, rfl⟩
abbrev cc3_stg10_0 : Ref sig .tc := ⟨.vmem, 110, rfl⟩
abbrev cc3_stg10_1 : Ref sig .tc := ⟨.vmem, 111, rfl⟩
abbrev cc3_stg11_0 : Ref sig .tc := ⟨.vmem, 112, rfl⟩
abbrev cc3_stg11_1 : Ref sig .tc := ⟨.vmem, 113, rfl⟩
abbrev cc3_stg12_0 : Ref sig .tc := ⟨.vmem, 114, rfl⟩
abbrev cc3_stg12_1 : Ref sig .tc := ⟨.vmem, 115, rfl⟩
abbrev cc3_stg13_0 : Ref sig .tc := ⟨.vmem, 116, rfl⟩
abbrev cc3_stg13_1 : Ref sig .tc := ⟨.vmem, 117, rfl⟩
abbrev cc3_stg14_0 : Ref sig .tc := ⟨.vmem, 118, rfl⟩
abbrev cc3_stg14_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem5_1 : DmaSem sig := 41
abbrev cc1_sem6_0 : DmaSem sig := 42
abbrev cc1_sem6_1 : DmaSem sig := 43
abbrev cc1_sem7_0 : DmaSem sig := 44
abbrev cc1_sem7_1 : DmaSem sig := 45
abbrev cc1_sem8_0 : DmaSem sig := 46
abbrev cc1_sem8_1 : DmaSem sig := 47
abbrev cc1_sem9_0 : DmaSem sig := 48
abbrev cc1_sem9_1 : DmaSem sig := 49
abbrev cc1_sem10_0 : DmaSem sig := 50
abbrev cc1_sem10_1 : DmaSem sig := 51
abbrev cc1_sem11_0 : DmaSem sig := 52
abbrev cc1_sem11_1 : DmaSem sig := 53
abbrev cc1_sem12_0 : DmaSem sig := 54
abbrev cc1_sem12_1 : DmaSem sig := 55
abbrev cc1_sem13_0 : DmaSem sig := 56
abbrev cc1_sem13_1 : DmaSem sig := 57
abbrev cc1_sem14_0 : DmaSem sig := 58
abbrev cc1_sem14_1 : DmaSem sig := 59
abbrev cc2_sem0_0 : DmaSem sig := 60
abbrev cc2_sem0_1 : DmaSem sig := 61
abbrev cc2_sem1_0 : DmaSem sig := 62
abbrev cc2_sem1_1 : DmaSem sig := 63
abbrev cc2_sem2_0 : DmaSem sig := 64
abbrev cc2_sem2_1 : DmaSem sig := 65
abbrev cc2_sem3_0 : DmaSem sig := 66
abbrev cc2_sem3_1 : DmaSem sig := 67
abbrev cc2_sem4_0 : DmaSem sig := 68
abbrev cc2_sem4_1 : DmaSem sig := 69
abbrev cc2_sem5_0 : DmaSem sig := 70
abbrev cc2_sem5_1 : DmaSem sig := 71
abbrev cc2_sem6_0 : DmaSem sig := 72
abbrev cc2_sem6_1 : DmaSem sig := 73
abbrev cc2_sem7_0 : DmaSem sig := 74
abbrev cc2_sem7_1 : DmaSem sig := 75
abbrev cc2_sem8_0 : DmaSem sig := 76
abbrev cc2_sem8_1 : DmaSem sig := 77
abbrev cc2_sem9_0 : DmaSem sig := 78
abbrev cc2_sem9_1 : DmaSem sig := 79
abbrev cc2_sem10_0 : DmaSem sig := 80
abbrev cc2_sem10_1 : DmaSem sig := 81
abbrev cc2_sem11_0 : DmaSem sig := 82
abbrev cc2_sem11_1 : DmaSem sig := 83
abbrev cc2_sem12_0 : DmaSem sig := 84
abbrev cc2_sem12_1 : DmaSem sig := 85
abbrev cc2_sem13_0 : DmaSem sig := 86
abbrev cc2_sem13_1 : DmaSem sig := 87
abbrev cc2_sem14_0 : DmaSem sig := 88
abbrev cc2_sem14_1 : DmaSem sig := 89
abbrev cc3_sem0_0 : DmaSem sig := 90
abbrev cc3_sem0_1 : DmaSem sig := 91
abbrev cc3_sem1_0 : DmaSem sig := 92
abbrev cc3_sem1_1 : DmaSem sig := 93
abbrev cc3_sem2_0 : DmaSem sig := 94
abbrev cc3_sem2_1 : DmaSem sig := 95
abbrev cc3_sem3_0 : DmaSem sig := 96
abbrev cc3_sem3_1 : DmaSem sig := 97
abbrev cc3_sem4_0 : DmaSem sig := 98
abbrev cc3_sem4_1 : DmaSem sig := 99
abbrev cc3_sem5_0 : DmaSem sig := 100
abbrev cc3_sem5_1 : DmaSem sig := 101
abbrev cc3_sem6_0 : DmaSem sig := 102
abbrev cc3_sem6_1 : DmaSem sig := 103
abbrev cc3_sem7_0 : DmaSem sig := 104
abbrev cc3_sem7_1 : DmaSem sig := 105
abbrev cc3_sem8_0 : DmaSem sig := 106
abbrev cc3_sem8_1 : DmaSem sig := 107
abbrev cc3_sem9_0 : DmaSem sig := 108
abbrev cc3_sem9_1 : DmaSem sig := 109
abbrev cc3_sem10_0 : DmaSem sig := 110
abbrev cc3_sem10_1 : DmaSem sig := 111
abbrev cc3_sem11_0 : DmaSem sig := 112
abbrev cc3_sem11_1 : DmaSem sig := 113
abbrev cc3_sem12_0 : DmaSem sig := 114
abbrev cc3_sem12_1 : DmaSem sig := 115
abbrev cc3_sem13_0 : DmaSem sig := 116
abbrev cc3_sem13_1 : DmaSem sig := 117
abbrev cc3_sem14_0 : DmaSem sig := 118
abbrev cc3_sem14_1 : DmaSem sig := 119

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

abbrev stage1_0 : Fin 2 → Memref sig .tc .vmem S1x176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x176x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x176x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x176x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x176x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x176x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x176x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x176x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S176x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S176x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S176x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S176x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S176x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S176x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S176x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨2, ![1, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

abbrev stage2_0 : Fin 2 → Memref sig .tc .vmem S1x176x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x176x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x176x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x176x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x176x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x176x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x176x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x176x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S176x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S176x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S176x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S176x1024 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S176x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S176x1024 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S176x1024 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev grid3 : Pipeline.Grid := ⟨2, ![1, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 2 → Memref sig .tc .vmem S1x176x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x176x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x176x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x176x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x176x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x176x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x176x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x176x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S176x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S176x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S176x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S176x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S176x1024 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 2 → Memref sig .tc .vmem S176x1024 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true]

abbrev stage3_14 : Fin 2 → Memref sig .tc .vmem S176x1024 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]
-- ==== StepDownIdeal.lean ====
abbrev S8x352x1024 : Shape := ⟨3, ![8, 352, 1024]⟩
abbrev S1408x1024 : Shape := ⟨2, ![1408, 1024]⟩
abbrev S1x176x1024 : Shape := ⟨3, ![1, 176, 1024]⟩
abbrev S176x1024 : Shape := ⟨2, ![176, 1024]⟩

abbrev nBuf : Space → Nat
  | .hbm => 23
  | .vmem => 120
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S1408x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S1x176x1024, .bf16⟩
  | .local _ .vmem, ⟨5, _⟩ => ⟨S1x176x1024, .bf16⟩
  | .local _ .vmem, ⟨6, _⟩ => ⟨S1x176x1024, .bf16⟩
  | .local _ .vmem, ⟨7, _⟩ => ⟨S1x176x1024, .bf16⟩
  | .local _ .vmem, ⟨8, _⟩ => ⟨S1x176x1024, .bf16⟩
  | .local _ .vmem, ⟨9, _⟩ => ⟨S1x176x1024, .bf16⟩
  | .local _ .vmem, ⟨10, _⟩ => ⟨S1x176x1024, .bf16⟩
  | .local _ .vmem, ⟨11, _⟩ => ⟨S1x176x1024, .bf16⟩
  | .local _ .vmem, ⟨12, _⟩ => ⟨S1x176x1024, .bf16⟩
  | .local _ .vmem, ⟨13, _⟩ => ⟨S1x176x1024, .bf16⟩
  | .local _ .vmem, ⟨14, _⟩ => ⟨S1x176x1024, .bf16⟩
  | .local _ .vmem, ⟨15, _⟩ => ⟨S1x176x1024, .bf16⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S1x176x1024, .bf16⟩
  | .local _ .vmem, ⟨31, _⟩ => ⟨S1x176x1024, .bf16⟩
  | .local _ .vmem, ⟨32, _⟩ => ⟨S1x176x1024, .bf16⟩
  | .local _ .vmem, ⟨33, _⟩ => ⟨S1x176x1024, .bf16⟩
  | .local _ .vmem, ⟨34, _⟩ => ⟨S1x176x1024, .bf16⟩
  | .local _ .vmem, ⟨35, _⟩ => ⟨S1x176x1024, .bf16⟩
  | .local _ .vmem, ⟨36, _⟩ => ⟨S1x176x1024, .bf16⟩
  | .local _ .vmem, ⟨37, _⟩ => ⟨S1x176x1024, .bf16⟩
  | .local _ .vmem, ⟨38, _⟩ => ⟨S1x176x1024, .bf16⟩
  | .local _ .vmem, ⟨39, _⟩ => ⟨S1x176x1024, .bf16⟩
  | .local _ .vmem, ⟨40, _⟩ => ⟨S1x176x1024, .bf16⟩
  | .local _ .vmem, ⟨41, _⟩ => ⟨S1x176x1024, .bf16⟩
  | .local _ .vmem, ⟨42, _⟩ => ⟨S1x176x1024, .bf16⟩
  | .local _ .vmem, ⟨43, _⟩ => ⟨S1x176x1024, .bf16⟩
  | .local _ .vmem, ⟨44, _⟩ => ⟨S1x176x1024, .bf16⟩
  | .local _ .vmem, ⟨45, _⟩ => ⟨S1x176x1024, .bf16⟩
  | .local _ .vmem, ⟨46, _⟩ => ⟨S176x1024, .f32⟩
  | .local _ .vmem, ⟨47, _⟩ => ⟨S176x1024, .f32⟩
  | .local _ .vmem, ⟨48, _⟩ => ⟨S176x1024, .f32⟩
  | .local _ .vmem, ⟨49, _⟩ => ⟨S176x1024, .f32⟩
  | .local _ .vmem, ⟨50, _⟩ => ⟨S176x1024, .f32⟩
  | .local _ .vmem, ⟨51, _⟩ => ⟨S176x1024, .f32⟩
  | .local _ .vmem, ⟨52, _⟩ => ⟨S176x1024, .f32⟩
  | .local _ .vmem, ⟨53, _⟩ => ⟨S176x1024, .f32⟩
  | .local _ .vmem, ⟨54, _⟩ => ⟨S176x1024, .f32⟩
  | .local _ .vmem, ⟨55, _⟩ => ⟨S176x1024, .f32⟩
  | .local _ .vmem, ⟨56, _⟩ => ⟨S176x1024, .f32⟩
  | .local _ .vmem, ⟨57, _⟩ => ⟨S176x1024, .f32⟩
  | .local _ .vmem, ⟨58, _⟩ => ⟨S176x1024, .f32⟩
  | .local _ .vmem, ⟨59, _⟩ => ⟨S176x1024, .f32⟩
  | .local _ .vmem, ⟨60, _⟩ => ⟨S1x176x1024, .bf16⟩
  | .local _ .vmem, ⟨61, _⟩ => ⟨S1x176x1024, .bf16⟩
  | .local _ .vmem, ⟨62, _⟩ => ⟨S1x176x1024, .bf16⟩
  | .local _ .vmem, ⟨63, _⟩ => ⟨S1x176x1024, .bf16⟩
  | .local _ .vmem, ⟨64, _⟩ => ⟨S1x176x1024, .bf16⟩
  | .local _ .vmem, ⟨65, _⟩ => ⟨S1x176x1024, .bf16⟩
  | .local _ .vmem, ⟨66, _⟩ => ⟨S1x176x1024, .bf16⟩
  | .local _ .vmem, ⟨67, _⟩ => ⟨S1x176x1024, .bf16⟩
  | .local _ .vmem, ⟨68, _⟩ => ⟨S1x176x1024, .bf16⟩
  | .local _ .vmem, ⟨69, _⟩ => ⟨S1x176x1024, .bf16⟩
  | .local _ .vmem, ⟨70, _⟩ => ⟨S1x176x1024, .bf16⟩
  | .local _ .vmem, ⟨71, _⟩ => ⟨S1x176x1024, .bf16⟩
  | .local _ .vmem, ⟨72, _⟩ => ⟨S1x176x1024, .bf16⟩
  | .local _ .vmem, ⟨73, _⟩ => ⟨S1x176x1024, .bf16⟩
  | .local _ .vmem, ⟨74, _⟩ => ⟨S1x176x1024, .bf16⟩
  | .local _ .vmem, ⟨75, _⟩ => ⟨S1x176x1024, .bf16⟩
  | .local _ .vmem, ⟨76, _⟩ => ⟨S176x1024, .f32⟩
  | .local _ .vmem, ⟨77, _⟩ => ⟨S176x1024, .f32⟩
  | .local _ .vmem, ⟨78, _⟩ => ⟨S176x1024, .f32⟩
  | .local _ .vmem, ⟨79, _⟩ => ⟨S176x1024, .f32⟩
  | .local _ .vmem, ⟨80, _⟩ => ⟨S176x1024, .f32⟩
  | .local _ .vmem, ⟨81, _⟩ => ⟨S176x1024, .f32⟩
  | .local _ .vmem, ⟨82, _⟩ => ⟨S176x1024, .f32⟩
  | .local _ .vmem, ⟨83, _⟩ => ⟨S176x1024, .f32⟩
  | .local _ .vmem, ⟨84, _⟩ => ⟨S176x1024, .f32⟩
  | .local _ .vmem, ⟨85, _⟩ => ⟨S176x1024, .f32⟩
  | .local _ .vmem, ⟨86, _⟩ => ⟨S176x1024, .f32⟩
  | .local _ .vmem, ⟨87, _⟩ => ⟨S176x1024, .f32⟩
  | .local _ .vmem, ⟨88, _⟩ => ⟨S176x1024, .f32⟩
  | .local _ .vmem, ⟨89, _⟩ => ⟨S176x1024, .f32⟩
  | .local _ .vmem, ⟨90, _⟩ => ⟨S1x176x1024, .bf16⟩
  | .local _ .vmem, ⟨91, _⟩ => ⟨S1x176x1024, .bf16⟩
  | .local _ .vmem, ⟨92, _⟩ => ⟨S1x176x1024, .bf16⟩
  | .local _ .vmem, ⟨93, _⟩ => ⟨S1x176x1024, .bf16⟩
  | .local _ .vmem, ⟨94, _⟩ => ⟨S1x176x1024, .bf16⟩
  | .local _ .vmem, ⟨95, _⟩ => ⟨S1x176x1024, .bf16⟩
  | .local _ .vmem, ⟨96, _⟩ => ⟨S1x176x1024, .bf16⟩
  | .local _ .vmem, ⟨97, _⟩ => ⟨S1x176x1024, .bf16⟩
  | .local _ .vmem, ⟨98, _⟩ => ⟨S1x176x1024, .bf16⟩
  | .local _ .vmem, ⟨99, _⟩ => ⟨S1x176x1024, .bf16⟩
  | .local _ .vmem, ⟨100, _⟩ => ⟨S1x176x1024, .bf16⟩
  | .local _ .vmem, ⟨101, _⟩ => ⟨S1x176x1024, .bf16⟩
  | .local _ .vmem, ⟨102, _⟩ => ⟨S1x176x1024, .bf16⟩
  | .local _ .vmem, ⟨103, _⟩ => ⟨S1x176x1024, .bf16⟩
  | .local _ .vmem, ⟨104, _⟩ => ⟨S1x176x1024, .bf16⟩
  | .local _ .vmem, ⟨105, _⟩ => ⟨S1x176x1024, .bf16⟩
  | .local _ .vmem, ⟨106, _⟩ => ⟨S176x1024, .f32⟩
  | .local _ .vmem, ⟨107, _⟩ => ⟨S176x1024, .f32⟩
  | .local _ .vmem, ⟨108, _⟩ => ⟨S176x1024, .f32⟩
  | .local _ .vmem, ⟨109, _⟩ => ⟨S176x1024, .f32⟩
  | .local _ .vmem, ⟨110, _⟩ => ⟨S176x1024, .f32⟩
  | .local _ .vmem, ⟨111, _⟩ => ⟨S176x1024, .f32⟩
  | .local _ .vmem, ⟨112, _⟩ => ⟨S176x1024, .f32⟩
  | .local _ .vmem, ⟨113, _⟩ => ⟨S176x1024, .f32⟩
  | .local _ .vmem, ⟨114, _⟩ => ⟨S176x1024, .f32⟩
  | .local _ .vmem, ⟨115, _⟩ => ⟨S176x1024, .f32⟩
  | .local _ .vmem, ⟨116, _⟩ => ⟨S176x1024, .f32⟩
  | .local _ .vmem, ⟨117, _⟩ => ⟨S176x1024, .f32⟩
  | .local _ .vmem, ⟨118, _⟩ => ⟨S176x1024, .f32⟩
  | .local _ .vmem, ⟨119, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg4_1 : Ref sig .tc := ⟨.vmem, 39, rfl⟩
abbrev cc1_stg5_0 : Ref sig .tc := ⟨.vmem, 40, rfl⟩
abbrev cc1_stg5_1 : Ref sig .tc := ⟨.vmem, 41, rfl⟩
abbrev cc1_stg6_0 : Ref sig .tc := ⟨.vmem, 42, rfl⟩
abbrev cc1_stg6_1 : Ref sig .tc := ⟨.vmem, 43, rfl⟩
abbrev cc1_stg7_0 : Ref sig .tc := ⟨.vmem, 44, rfl⟩
abbrev cc1_stg7_1 : Ref sig .tc := ⟨.vmem, 45, rfl⟩
abbrev cc1_stg8_0 : Ref sig .tc := ⟨.vmem, 46, rfl⟩
abbrev cc1_stg8_1 : Ref sig .tc := ⟨.vmem, 47, rfl⟩
abbrev cc1_stg9_0 : Ref sig .tc := ⟨.vmem, 48, rfl⟩
abbrev cc1_stg9_1 : Ref sig .tc := ⟨.vmem, 49, rfl⟩
abbrev cc1_stg10_0 : Ref sig .tc := ⟨.vmem, 50, rfl⟩
abbrev cc1_stg10_1 : Ref sig .tc := ⟨.vmem, 51, rfl⟩
abbrev cc1_stg11_0 : Ref sig .tc := ⟨.vmem, 52, rfl⟩
abbrev cc1_stg11_1 : Ref sig .tc := ⟨.vmem, 53, rfl⟩
abbrev cc1_stg12_0 : Ref sig .tc := ⟨.vmem, 54, rfl⟩
abbrev cc1_stg12_1 : Ref sig .tc := ⟨.vmem, 55, rfl⟩
abbrev cc1_stg13_0 : Ref sig .tc := ⟨.vmem, 56, rfl⟩
abbrev cc1_stg13_1 : Ref sig .tc := ⟨.vmem, 57, rfl⟩
abbrev cc1_stg14_0 : Ref sig .tc := ⟨.vmem, 58, rfl⟩
abbrev cc1_stg14_1 : Ref sig .tc := ⟨.vmem, 59, rfl⟩
abbrev cc2_stg0_0 : Ref sig .tc := ⟨.vmem, 60, rfl⟩
abbrev cc2_stg0_1 : Ref sig .tc := ⟨.vmem, 61, rfl⟩
abbrev cc2_stg1_0 : Ref sig .tc := ⟨.vmem, 62, rfl⟩
abbrev cc2_stg1_1 : Ref sig .tc := ⟨.vmem, 63, rfl⟩
abbrev cc2_stg2_0 : Ref sig .tc := ⟨.vmem, 64, rfl⟩
abbrev cc2_stg2_1 : Ref sig .tc := ⟨.vmem, 65, rfl⟩
abbrev cc2_stg3_0 : Ref sig .tc := ⟨.vmem, 66, rfl⟩
abbrev cc2_stg3_1 : Ref sig .tc := ⟨.vmem, 67, rfl⟩
abbrev cc2_stg4_0 : Ref sig .tc := ⟨.vmem, 68, rfl⟩
abbrev cc2_stg4_1 : Ref sig .tc := ⟨.vmem, 69, rfl⟩
abbrev cc2_stg5_0 : Ref sig .tc := ⟨.vmem, 70, rfl⟩
abbrev cc2_stg5_1 : Ref sig .tc := ⟨.vmem, 71, rfl⟩
abbrev cc2_stg6_0 : Ref sig .tc := ⟨.vmem, 72, rfl⟩
abbrev cc2_stg6_1 : Ref sig .tc := ⟨.vmem, 73, rfl⟩
abbrev cc2_stg7_0 : Ref sig .tc := ⟨.vmem, 74, rfl⟩
abbrev cc2_stg7_1 : Ref sig .tc := ⟨.vmem, 75, rfl⟩
abbrev cc2_stg8_0 : Ref sig .tc := ⟨.vmem, 76, rfl⟩
abbrev cc2_stg8_1 : Ref sig .tc := ⟨.vmem, 77, rfl⟩
abbrev cc2_stg9_0 : Ref sig .tc := ⟨.vmem, 78, rfl⟩
abbrev cc2_stg9_1 : Ref sig .tc := ⟨.vmem, 79, rfl⟩
abbrev cc2_stg10_0 : Ref sig .tc := ⟨.vmem, 80, rfl⟩
abbrev cc2_stg10_1 : Ref sig .tc := ⟨.vmem, 81, rfl⟩
abbrev cc2_stg11_0 : Ref sig .tc := ⟨.vmem, 82, rfl⟩
abbrev cc2_stg11_1 : Ref sig .tc := ⟨.vmem, 83, rfl⟩
abbrev cc2_stg12_0 : Ref sig .tc := ⟨.vmem, 84, rfl⟩
abbrev cc2_stg12_1 : Ref sig .tc := ⟨.vmem, 85, rfl⟩
abbrev cc2_stg13_0 : Ref sig .tc := ⟨.vmem, 86, rfl⟩
abbrev cc2_stg13_1 : Ref sig .tc := ⟨.vmem, 87, rfl⟩
abbrev cc2_stg14_0 : Ref sig .tc := ⟨.vmem, 88, rfl⟩
abbrev cc2_stg14_1 : Ref sig .tc := ⟨.vmem, 89, rfl⟩
abbrev cc3_stg0_0 : Ref sig .tc := ⟨.vmem, 90, rfl⟩
abbrev cc3_stg0_1 : Ref sig .tc := ⟨.vmem, 91, rfl⟩
abbrev cc3_stg1_0 : Ref sig .tc := ⟨.vmem, 92, rfl⟩
abbrev cc3_stg1_1 : Ref sig .tc := ⟨.vmem, 93, rfl⟩
abbrev cc3_stg2_0 : Ref sig .tc := ⟨.vmem, 94, rfl⟩
abbrev cc3_stg2_1 : Ref sig .tc := ⟨.vmem, 95, rfl⟩
abbrev cc3_stg3_0 : Ref sig .tc := ⟨.vmem, 96, rfl⟩
abbrev cc3_stg3_1 : Ref sig .tc := ⟨.vmem, 97, rfl⟩
abbrev cc3_stg4_0 : Ref sig .tc := ⟨.vmem, 98, rfl⟩
abbrev cc3_stg4_1 : Ref sig .tc := ⟨.vmem, 99, rfl⟩
abbrev cc3_stg5_0 : Ref sig .tc := ⟨.vmem, 100, rfl⟩
abbrev cc3_stg5_1 : Ref sig .tc := ⟨.vmem, 101, rfl⟩
abbrev cc3_stg6_0 : Ref sig .tc := ⟨.vmem, 102, rfl⟩
abbrev cc3_stg6_1 : Ref sig .tc := ⟨.vmem, 103, rfl⟩
abbrev cc3_stg7_0 : Ref sig .tc := ⟨.vmem, 104, rfl⟩
abbrev cc3_stg7_1 : Ref sig .tc := ⟨.vmem, 105, rfl⟩
abbrev cc3_stg8_0 : Ref sig .tc := ⟨.vmem, 106, rfl⟩
abbrev cc3_stg8_1 : Ref sig .tc := ⟨.vmem, 107, rfl⟩
abbrev cc3_stg9_0 : Ref sig .tc := ⟨.vmem, 108, rfl⟩
abbrev cc3_stg9_1 : Ref sig .tc := ⟨.vmem, 109, rfl⟩
abbrev cc3_stg10_0 : Ref sig .tc := ⟨.vmem, 110, rfl⟩
abbrev cc3_stg10_1 : Ref sig .tc := ⟨.vmem, 111, rfl⟩
abbrev cc3_stg11_0 : Ref sig .tc := ⟨.vmem, 112, rfl⟩
abbrev cc3_stg11_1 : Ref sig .tc := ⟨.vmem, 113, rfl⟩
abbrev cc3_stg12_0 : Ref sig .tc := ⟨.vmem, 114, rfl⟩
abbrev cc3_stg12_1 : Ref sig .tc := ⟨.vmem, 115, rfl⟩
abbrev cc3_stg13_0 : Ref sig .tc := ⟨.vmem, 116, rfl⟩
abbrev cc3_stg13_1 : Ref sig .tc := ⟨.vmem, 117, rfl⟩
abbrev cc3_stg14_0 : Ref sig .tc := ⟨.vmem, 118, rfl⟩
abbrev cc3_stg14_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem5_1 : DmaSem sig := 41
abbrev cc1_sem6_0 : DmaSem sig := 42
abbrev cc1_sem6_1 : DmaSem sig := 43
abbrev cc1_sem7_0 : DmaSem sig := 44
abbrev cc1_sem7_1 : DmaSem sig := 45
abbrev cc1_sem8_0 : DmaSem sig := 46
abbrev cc1_sem8_1 : DmaSem sig := 47
abbrev cc1_sem9_0 : DmaSem sig := 48
abbrev cc1_sem9_1 : DmaSem sig := 49
abbrev cc1_sem10_0 : DmaSem sig := 50
abbrev cc1_sem10_1 : DmaSem sig := 51
abbrev cc1_sem11_0 : DmaSem sig := 52
abbrev cc1_sem11_1 : DmaSem sig := 53
abbrev cc1_sem12_0 : DmaSem sig := 54
abbrev cc1_sem12_1 : DmaSem sig := 55
abbrev cc1_sem13_0 : DmaSem sig := 56
abbrev cc1_sem13_1 : DmaSem sig := 57
abbrev cc1_sem14_0 : DmaSem sig := 58
abbrev cc1_sem14_1 : DmaSem sig := 59
abbrev cc2_sem0_0 : DmaSem sig := 60
abbrev cc2_sem0_1 : DmaSem sig := 61
abbrev cc2_sem1_0 : DmaSem sig := 62
abbrev cc2_sem1_1 : DmaSem sig := 63
abbrev cc2_sem2_0 : DmaSem sig := 64
abbrev cc2_sem2_1 : DmaSem sig := 65
abbrev cc2_sem3_0 : DmaSem sig := 66
abbrev cc2_sem3_1 : DmaSem sig := 67
abbrev cc2_sem4_0 : DmaSem sig := 68
abbrev cc2_sem4_1 : DmaSem sig := 69
abbrev cc2_sem5_0 : DmaSem sig := 70
abbrev cc2_sem5_1 : DmaSem sig := 71
abbrev cc2_sem6_0 : DmaSem sig := 72
abbrev cc2_sem6_1 : DmaSem sig := 73
abbrev cc2_sem7_0 : DmaSem sig := 74
abbrev cc2_sem7_1 : DmaSem sig := 75
abbrev cc2_sem8_0 : DmaSem sig := 76
abbrev cc2_sem8_1 : DmaSem sig := 77
abbrev cc2_sem9_0 : DmaSem sig := 78
abbrev cc2_sem9_1 : DmaSem sig := 79
abbrev cc2_sem10_0 : DmaSem sig := 80
abbrev cc2_sem10_1 : DmaSem sig := 81
abbrev cc2_sem11_0 : DmaSem sig := 82
abbrev cc2_sem11_1 : DmaSem sig := 83
abbrev cc2_sem12_0 : DmaSem sig := 84
abbrev cc2_sem12_1 : DmaSem sig := 85
abbrev cc2_sem13_0 : DmaSem sig := 86
abbrev cc2_sem13_1 : DmaSem sig := 87
abbrev cc2_sem14_0 : DmaSem sig := 88
abbrev cc2_sem14_1 : DmaSem sig := 89
abbrev cc3_sem0_0 : DmaSem sig := 90
abbrev cc3_sem0_1 : DmaSem sig := 91
abbrev cc3_sem1_0 : DmaSem sig := 92
abbrev cc3_sem1_1 : DmaSem sig := 93
abbrev cc3_sem2_0 : DmaSem sig := 94
abbrev cc3_sem2_1 : DmaSem sig := 95
abbrev cc3_sem3_0 : DmaSem sig := 96
abbrev cc3_sem3_1 : DmaSem sig := 97
abbrev cc3_sem4_0 : DmaSem sig := 98
abbrev cc3_sem4_1 : DmaSem sig := 99
abbrev cc3_sem5_0 : DmaSem sig := 100
abbrev cc3_sem5_1 : DmaSem sig := 101
abbrev cc3_sem6_0 : DmaSem sig := 102
abbrev cc3_sem6_1 : DmaSem sig := 103
abbrev cc3_sem7_0 : DmaSem sig := 104
abbrev cc3_sem7_1 : DmaSem sig := 105
abbrev cc3_sem8_0 : DmaSem sig := 106
abbrev cc3_sem8_1 : DmaSem sig := 107
abbrev cc3_sem9_0 : DmaSem sig := 108
abbrev cc3_sem9_1 : DmaSem sig := 109
abbrev cc3_sem10_0 : DmaSem sig := 110
abbrev cc3_sem10_1 : DmaSem sig := 111
abbrev cc3_sem11_0 : DmaSem sig := 112
abbrev cc3_sem11_1 : DmaSem sig := 113
abbrev cc3_sem12_0 : DmaSem sig := 114
abbrev cc3_sem12_1 : DmaSem sig := 115
abbrev cc3_sem13_0 : DmaSem sig := 116
abbrev cc3_sem13_1 : DmaSem sig := 117
abbrev cc3_sem14_0 : DmaSem sig := 118
abbrev cc3_sem14_1 : DmaSem sig := 119

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let v1 : BitVec 32 := Scalar.addi c0_i32 arg0
  let c0_i32_0 : BitVec 32 := 0#32
  ![v0.toNat, v1.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

abbrev stage1_0 : Fin 2 → Memref sig .tc .vmem S1x176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x176x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x176x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x176x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x176x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x176x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x176x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x176x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S176x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S176x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S176x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S176x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S176x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S176x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S176x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨2, ![1, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let v1 : BitVec 32 := Scalar.addi c0_i32 arg0
  let c0_i32_0 : BitVec 32 := 0#32
  ![v0.toNat, v1.toNat]

abbrev stage2_0 : Fin 2 → Memref sig .tc .vmem S1x176x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x176x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x176x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x176x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x176x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x176x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x176x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x176x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S176x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S176x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S176x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S176x1024 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S176x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S176x1024 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S176x1024 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev grid3 : Pipeline.Grid := ⟨2, ![1, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 2 → Memref sig .tc .vmem S1x176x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x176x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x176x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x176x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x176x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x176x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x176x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x176x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S176x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S176x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S176x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S176x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S176x1024 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 2 → Memref sig .tc .vmem S176x1024 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true]

abbrev stage3_14 : Fin 2 → Memref sig .tc .vmem S176x1024 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]
-- ==== StepDownRefIdeal.lean ====
abbrev S8x352x1024 : Shape := ⟨3, ![8, 352, 1024]⟩
abbrev S1408x1024 : Shape := ⟨2, ![1408, 1024]⟩
abbrev S8x1408x1024 : Shape := ⟨3, ![8, 1408, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S8x1408x1024, .bf16⟩
  | .hbm, ⟨8, _⟩ => ⟨S8x1408x1024, .f32⟩
  | .hbm, ⟨9, _⟩ => ⟨S_, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | .hbm, ⟨40, _⟩ => ⟨S1408x1024, .f32⟩
  | .hbm, ⟨41, _⟩ => ⟨S_, .f32⟩
  | .hbm, ⟨42, _⟩ => ⟨S1408x1024, .f32⟩
  | .hbm, ⟨43, _⟩ => ⟨S1408x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== StepUp.lean ====
abbrev S8x1024x704 : Shape := ⟨3, ![8, 1024, 704]⟩
abbrev S4096x704 : Shape := ⟨2, ![4096, 704]⟩
abbrev S1x256x704 : Shape := ⟨3, ![1, 256, 704]⟩
abbrev S256x704 : Shape := ⟨2, ![256, 704]⟩

abbrev nBuf : Space → Nat
  | .hbm => 23
  | .vmem => 120
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4096x704, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S4096x704, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S4096x704, .f32⟩
  | .local _ .vmem, ⟨0, _⟩ => ⟨S1x256x704, .bf16⟩
  | .local _ .vmem, ⟨1, _⟩ => ⟨S1x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | .local _ .vmem, ⟨6, _⟩ => ⟨S1x256x704, .bf16⟩
  | .local _ .vmem, ⟨7, _⟩ => ⟨S1x256x704, .bf16⟩
  | .local _ .vmem, ⟨8, _⟩ => ⟨S1x256x704, .bf16⟩
  | .local _ .vmem, ⟨9, _⟩ => ⟨S1x256x704, .bf16⟩
  | .local _ .vmem, ⟨10, _⟩ => ⟨S1x256x704, .bf16⟩
  | .local _ .vmem, ⟨11, _⟩ => ⟨S1x256x704, .bf16⟩
  | .local _ .vmem, ⟨12, _⟩ => ⟨S1x256x704, .bf16⟩
  | .local _ .vmem, ⟨13, _⟩ => ⟨S1x256x704, .bf16⟩
  | .local _ .vmem, ⟨14, _⟩ => ⟨S1x256x704, .bf16⟩
  | .local _ .vmem, ⟨15, _⟩ => ⟨S1x256x704, .bf16⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | .local _ .vmem, ⟨20, _⟩ => ⟨S256x704, .f32⟩
  | .local _ .vmem, ⟨21, _⟩ => ⟨S256x704, .f32⟩
  | .local _ .vmem, ⟨22, _⟩ => ⟨S256x704, .f32⟩
  | .local _ .vmem, ⟨23, _⟩ => ⟨S256x704, .f32⟩
  | .local _ .vmem, ⟨24, _⟩ => ⟨S256x704, .f32⟩
  | .local _ .vmem, ⟨25, _⟩ => ⟨S256x704, .f32⟩
  | .local _ .vmem, ⟨26, _⟩ => ⟨S256x704, .f32⟩
  | .local _ .vmem, ⟨27, _⟩ => ⟨S256x704, .f32⟩
  | .local _ .vmem, ⟨28, _⟩ => ⟨S256x704, .f32⟩
  | .local _ .vmem, ⟨29, _⟩ => ⟨S256x704, .f32⟩
  | .local _ .vmem, ⟨30, _⟩ => ⟨S1x256x704, .bf16⟩
  | .local _ .vmem, ⟨31, _⟩ => ⟨S1x256x704, .bf16⟩
  | .local _ .vmem, ⟨32, _⟩ => ⟨S1x256x704, .bf16⟩
  | .local _ .vmem, ⟨33, _⟩ => ⟨S1x256x704, .bf16⟩
  | .local _ .vmem, ⟨34, _⟩ => ⟨S1x256x704, .bf16⟩
  | .local _ .vmem, ⟨35, _⟩ => ⟨S1x256x704, .bf16⟩
  | .local _ .vmem, ⟨36, _⟩ => ⟨S1x256x704, .bf16⟩
  | .local _ .vmem, ⟨37, _⟩ => ⟨S1x256x704, .bf16⟩
  | .local _ .vmem, ⟨38, _⟩ => ⟨S1x256x704, .bf16⟩
  | .local _ .vmem, ⟨39, _⟩ => ⟨S1x256x704, .bf16⟩
  | .local _ .vmem, ⟨40, _⟩ => ⟨S1x256x704, .bf16⟩
  | .local _ .vmem, ⟨41, _⟩ => ⟨S1x256x704, .bf16⟩
  | .local _ .vmem, ⟨42, _⟩ => ⟨S1x256x704, .bf16⟩
  | .local _ .vmem, ⟨43, _⟩ => ⟨S1x256x704, .bf16⟩
  | .local _ .vmem, ⟨44, _⟩ => ⟨S1x256x704, .bf16⟩
  | .local _ .vmem, ⟨45, _⟩ => ⟨S1x256x704, .bf16⟩
  | .local _ .vmem, ⟨46, _⟩ => ⟨S256x704, .f32⟩
  | .local _ .vmem, ⟨47, _⟩ => ⟨S256x704, .f32⟩
  | .local _ .vmem, ⟨48, _⟩ => ⟨S256x704, .f32⟩
  | .local _ .vmem, ⟨49, _⟩ => ⟨S256x704, .f32⟩
  | .local _ .vmem, ⟨50, _⟩ => ⟨S256x704, .f32⟩
  | .local _ .vmem, ⟨51, _⟩ => ⟨S256x704, .f32⟩
  | .local _ .vmem, ⟨52, _⟩ => ⟨S256x704, .f32⟩
  | .local _ .vmem, ⟨53, _⟩ => ⟨S256x704, .f32⟩
  | .local _ .vmem, ⟨54, _⟩ => ⟨S256x704, .f32⟩
  | .local _ .vmem, ⟨55, _⟩ => ⟨S256x704, .f32⟩
  | .local _ .vmem, ⟨56, _⟩ => ⟨S256x704, .f32⟩
  | .local _ .vmem, ⟨57, _⟩ => ⟨S256x704, .f32⟩
  | .local _ .vmem, ⟨58, _⟩ => ⟨S256x704, .f32⟩
  | .local _ .vmem, ⟨59, _⟩ => ⟨S256x704, .f32⟩
  | .local _ .vmem, ⟨60, _⟩ => ⟨S1x256x704, .bf16⟩
  | .local _ .vmem, ⟨61, _⟩ => ⟨S1x256x704, .bf16⟩
  | .local _ .vmem, ⟨62, _⟩ => ⟨S1x256x704, .bf16⟩
  | .local _ .vmem, ⟨63, _⟩ => ⟨S1x256x704, .bf16⟩
  | .local _ .vmem, ⟨64, _⟩ => ⟨S1x256x704, .bf16⟩
  | .local _ .vmem, ⟨65, _⟩ => ⟨S1x256x704, .bf16⟩
  | .local _ .vmem, ⟨66, _⟩ => ⟨S1x256x704, .bf16⟩
  | .local _ .vmem, ⟨67, _⟩ => ⟨S1x256x704, .bf16⟩
  | .local _ .vmem, ⟨68, _⟩ => ⟨S1x256x704, .bf16⟩
  | .local _ .vmem, ⟨69, _⟩ => ⟨S1x256x704, .bf16⟩
  | .local _ .vmem, ⟨70, _⟩ => ⟨S1x256x704, .bf16⟩
  | .local _ .vmem, ⟨71, _⟩ => ⟨S1x256x704, .bf16⟩
  | .local _ .vmem, ⟨72, _⟩ => ⟨S1x256x704, .bf16⟩
  | .local _ .vmem, ⟨73, _⟩ => ⟨S1x256x704, .bf16⟩
  | .local _ .vmem, ⟨74, _⟩ => ⟨S1x256x704, .bf16⟩
  | .local _ .vmem, ⟨75, _⟩ => ⟨S1x256x704, .bf16⟩
  | .local _ .vmem, ⟨76, _⟩ => ⟨S256x704, .f32⟩
  | .local _ .vmem, ⟨77, _⟩ => ⟨S256x704, .f32⟩
  | .local _ .vmem, ⟨78, _⟩ => ⟨S256x704, .f32⟩
  | .local _ .vmem, ⟨79, _⟩ => ⟨S256x704, .f32⟩
  | .local _ .vmem, ⟨80, _⟩ => ⟨S256x704, .f32⟩
  | .local _ .vmem, ⟨81, _⟩ => ⟨S256x704, .f32⟩
  | .local _ .vmem, ⟨82, _⟩ => ⟨S256x704, .f32⟩
  | .local _ .vmem, ⟨83, _⟩ => ⟨S256x704, .f32⟩
  | .local _ .vmem, ⟨84, _⟩ => ⟨S256x704, .f32⟩
  | .local _ .vmem, ⟨85, _⟩ => ⟨S256x704, .f32⟩
  | .local _ .vmem, ⟨86, _⟩ => ⟨S256x704, .f32⟩
  | .local _ .vmem, ⟨87, _⟩ => ⟨S256x704, .f32⟩
  | .local _ .vmem, ⟨88, _⟩ => ⟨S256x704, .f32⟩
  | .local _ .vmem, ⟨89, _⟩ => ⟨S256x704, .f32⟩
  | .local _ .vmem, ⟨90, _⟩ => ⟨S1x256x704, .bf16⟩
  | .local _ .vmem, ⟨91, _⟩ => ⟨S1x256x704, .bf16⟩
  | .local _ .vmem, ⟨92, _⟩ => ⟨S1x256x704, .bf16⟩
  | .local _ .vmem, ⟨93, _⟩ => ⟨S1x256x704, .bf16⟩
  | .local _ .vmem, ⟨94, _⟩ => ⟨S1x256x704, .bf16⟩
  | .local _ .vmem, ⟨95, _⟩ => ⟨S1x256x704, .bf16⟩
  | .local _ .vmem, ⟨96, _⟩ => ⟨S1x256x704, .bf16⟩
  | .local _ .vmem, ⟨97, _⟩ => ⟨S1x256x704, .bf16⟩
  | .local _ .vmem, ⟨98, _⟩ => ⟨S1x256x704, .bf16⟩
  | .local _ .vmem, ⟨99, _⟩ => ⟨S1x256x704, .bf16⟩
  | .local _ .vmem, ⟨100, _⟩ => ⟨S1x256x704, .bf16⟩
  | .local _ .vmem, ⟨101, _⟩ => ⟨S1x256x704, .bf16⟩
  | .local _ .vmem, ⟨102, _⟩ => ⟨S1x256x704, .bf16⟩
  | .local _ .vmem, ⟨103, _⟩ => ⟨S1x256x704, .bf16⟩
  | .local _ .vmem, ⟨104, _⟩ => ⟨S1x256x704, .bf16⟩
  | .local _ .vmem, ⟨105, _⟩ => ⟨S1x256x704, .bf16⟩
  | .local _ .vmem, ⟨106, _⟩ => ⟨S256x704, .f32⟩
  | .local _ .vmem, ⟨107, _⟩ => ⟨S256x704, .f32⟩
  | .local _ .vmem, ⟨108, _⟩ => ⟨S256x704, .f32⟩
  | .local _ .vmem, ⟨109, _⟩ => ⟨S256x704, .f32⟩
  | .local _ .vmem, ⟨110, _⟩ => ⟨S256x704, .f32⟩
  | .local _ .vmem, ⟨111, _⟩ => ⟨S256x704, .f32⟩
  | .local _ .vmem, ⟨112, _⟩ => ⟨S256x704, .f32⟩
  | .local _ .vmem, ⟨113, _⟩ => ⟨S256x704, .f32⟩
  | .local _ .vmem, ⟨114, _⟩ => ⟨S256x704, .f32⟩
  | .local _ .vmem, ⟨115, _⟩ => ⟨S256x704, .f32⟩
  | .local _ .vmem, ⟨116, _⟩ => ⟨S256x704, .f32⟩
  | .local _ .vmem, ⟨117, _⟩ => ⟨S256x704, .f32⟩
  | .local _ .vmem, ⟨118, _⟩ => ⟨S256x704, .f32⟩
  | .local _ .vmem, ⟨119, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg4_1 : Ref sig .tc := ⟨.vmem, 39, rfl⟩
abbrev cc1_stg5_0 : Ref sig .tc := ⟨.vmem, 40, rfl⟩
abbrev cc1_stg5_1 : Ref sig .tc := ⟨.vmem, 41, rfl⟩
abbrev cc1_stg6_0 : Ref sig .tc := ⟨.vmem, 42, rfl⟩
abbrev cc1_stg6_1 : Ref sig .tc := ⟨.vmem, 43, rfl⟩
abbrev cc1_stg7_0 : Ref sig .tc := ⟨.vmem, 44, rfl⟩
abbrev cc1_stg7_1 : Ref sig .tc := ⟨.vmem, 45, rfl⟩
abbrev cc1_stg8_0 : Ref sig .tc := ⟨.vmem, 46, rfl⟩
abbrev cc1_stg8_1 : Ref sig .tc := ⟨.vmem, 47, rfl⟩
abbrev cc1_stg9_0 : Ref sig .tc := ⟨.vmem, 48, rfl⟩
abbrev cc1_stg9_1 : Ref sig .tc := ⟨.vmem, 49, rfl⟩
abbrev cc1_stg10_0 : Ref sig .tc := ⟨.vmem, 50, rfl⟩
abbrev cc1_stg10_1 : Ref sig .tc := ⟨.vmem, 51, rfl⟩
abbrev cc1_stg11_0 : Ref sig .tc := ⟨.vmem, 52, rfl⟩
abbrev cc1_stg11_1 : Ref sig .tc := ⟨.vmem, 53, rfl⟩
abbrev cc1_stg12_0 : Ref sig .tc := ⟨.vmem, 54, rfl⟩
abbrev cc1_stg12_1 : Ref sig .tc := ⟨.vmem, 55, rfl⟩
abbrev cc1_stg13_0 : Ref sig .tc := ⟨.vmem, 56, rfl⟩
abbrev cc1_stg13_1 : Ref sig .tc := ⟨.vmem, 57, rfl⟩
abbrev cc1_stg14_0 : Ref sig .tc := ⟨.vmem, 58, rfl⟩
abbrev cc1_stg14_1 : Ref sig .tc := ⟨.vmem, 59, rfl⟩
abbrev cc2_stg0_0 : Ref sig .tc := ⟨.vmem, 60, rfl⟩
abbrev cc2_stg0_1 : Ref sig .tc := ⟨.vmem, 61, rfl⟩
abbrev cc2_stg1_0 : Ref sig .tc := ⟨.vmem, 62, rfl⟩
abbrev cc2_stg1_1 : Ref sig .tc := ⟨.vmem, 63, rfl⟩
abbrev cc2_stg2_0 : Ref sig .tc := ⟨.vmem, 64, rfl⟩
abbrev cc2_stg2_1 : Ref sig .tc := ⟨.vmem, 65, rfl⟩
abbrev cc2_stg3_0 : Ref sig .tc := ⟨.vmem, 66, rfl⟩
abbrev cc2_stg3_1 : Ref sig .tc := ⟨.vmem, 67, rfl⟩
abbrev cc2_stg4_0 : Ref sig .tc := ⟨.vmem, 68, rfl⟩
abbrev cc2_stg4_1 : Ref sig .tc := ⟨.vmem, 69, rfl⟩
abbrev cc2_stg5_0 : Ref sig .tc := ⟨.vmem, 70, rfl⟩
abbrev cc2_stg5_1 : Ref sig .tc := ⟨.vmem, 71, rfl⟩
abbrev cc2_stg6_0 : Ref sig .tc := ⟨.vmem, 72, rfl⟩
abbrev cc2_stg6_1 : Ref sig .tc := ⟨.vmem, 73, rfl⟩
abbrev cc2_stg7_0 : Ref sig .tc := ⟨.vmem, 74, rfl⟩
abbrev cc2_stg7_1 : Ref sig .tc := ⟨.vmem, 75, rfl⟩
abbrev cc2_stg8_0 : Ref sig .tc := ⟨.vmem, 76, rfl⟩
abbrev cc2_stg8_1 : Ref sig .tc := ⟨.vmem, 77, rfl⟩
abbrev cc2_stg9_0 : Ref sig .tc := ⟨.vmem, 78, rfl⟩
abbrev cc2_stg9_1 : Ref sig .tc := ⟨.vmem, 79, rfl⟩
abbrev cc2_stg10_0 : Ref sig .tc := ⟨.vmem, 80, rfl⟩
abbrev cc2_stg10_1 : Ref sig .tc := ⟨.vmem, 81, rfl⟩
abbrev cc2_stg11_0 : Ref sig .tc := ⟨.vmem, 82, rfl⟩
abbrev cc2_stg11_1 : Ref sig .tc := ⟨.vmem, 83, rfl⟩
abbrev cc2_stg12_0 : Ref sig .tc := ⟨.vmem, 84, rfl⟩
abbrev cc2_stg12_1 : Ref sig .tc := ⟨.vmem, 85, rfl⟩
abbrev cc2_stg13_0 : Ref sig .tc := ⟨.vmem, 86, rfl⟩
abbrev cc2_stg13_1 : Ref sig .tc := ⟨.vmem, 87, rfl⟩
abbrev cc2_stg14_0 : Ref sig .tc := ⟨.vmem, 88, rfl⟩
abbrev cc2_stg14_1 : Ref sig .tc := ⟨.vmem, 89, rfl⟩
abbrev cc3_stg0_0 : Ref sig .tc := ⟨.vmem, 90, rfl⟩
abbrev cc3_stg0_1 : Ref sig .tc := ⟨.vmem, 91, rfl⟩
abbrev cc3_stg1_0 : Ref sig .tc := ⟨.vmem, 92, rfl⟩
abbrev cc3_stg1_1 : Ref sig .tc := ⟨.vmem, 93, rfl⟩
abbrev cc3_stg2_0 : Ref sig .tc := ⟨.vmem, 94, rfl⟩
abbrev cc3_stg2_1 : Ref sig .tc := ⟨.vmem, 95, rfl⟩
abbrev cc3_stg3_0 : Ref sig .tc := ⟨.vmem, 96, rfl⟩
abbrev cc3_stg3_1 : Ref sig .tc := ⟨.vmem, 97, rfl⟩
abbrev cc3_stg4_0 : Ref sig .tc := ⟨.vmem, 98, rfl⟩
abbrev cc3_stg4_1 : Ref sig .tc := ⟨.vmem, 99, rfl⟩
abbrev cc3_stg5_0 : Ref sig .tc := ⟨.vmem, 100, rfl⟩
abbrev cc3_stg5_1 : Ref sig .tc := ⟨.vmem, 101, rfl⟩
abbrev cc3_stg6_0 : Ref sig .tc := ⟨.vmem, 102, rfl⟩
abbrev cc3_stg6_1 : Ref sig .tc := ⟨.vmem, 103, rfl⟩
abbrev cc3_stg7_0 : Ref sig .tc := ⟨.vmem, 104, rfl⟩
abbrev cc3_stg7_1 : Ref sig .tc := ⟨.vmem, 105, rfl⟩
abbrev cc3_stg8_0 : Ref sig .tc := ⟨.vmem, 106, rfl⟩
abbrev cc3_stg8_1 : Ref sig .tc := ⟨.vmem, 107, rfl⟩
abbrev cc3_stg9_0 : Ref sig .tc := ⟨.vmem, 108, rfl⟩
abbrev cc3_stg9_1 : Ref sig .tc := ⟨.vmem, 109, rfl⟩
abbrev cc3_stg10_0 : Ref sig .tc := ⟨.vmem, 110, rfl⟩
abbrev cc3_stg10_1 : Ref sig .tc := ⟨.vmem, 111, rfl⟩
abbrev cc3_stg11_0 : Ref sig .tc := ⟨.vmem, 112, rfl⟩
abbrev cc3_stg11_1 : Ref sig .tc := ⟨.vmem, 113, rfl⟩
abbrev cc3_stg12_0 : Ref sig .tc := ⟨.vmem, 114, rfl⟩
abbrev cc3_stg12_1 : Ref sig .tc := ⟨.vmem, 115, rfl⟩
abbrev cc3_stg13_0 : Ref sig .tc := ⟨.vmem, 116, rfl⟩
abbrev cc3_stg13_1 : Ref sig .tc := ⟨.vmem, 117, rfl⟩
abbrev cc3_stg14_0 : Ref sig .tc := ⟨.vmem, 118, rfl⟩
abbrev cc3_stg14_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem5_1 : DmaSem sig := 41
abbrev cc1_sem6_0 : DmaSem sig := 42
abbrev cc1_sem6_1 : DmaSem sig := 43
abbrev cc1_sem7_0 : DmaSem sig := 44
abbrev cc1_sem7_1 : DmaSem sig := 45
abbrev cc1_sem8_0 : DmaSem sig := 46
abbrev cc1_sem8_1 : DmaSem sig := 47
abbrev cc1_sem9_0 : DmaSem sig := 48
abbrev cc1_sem9_1 : DmaSem sig := 49
abbrev cc1_sem10_0 : DmaSem sig := 50
abbrev cc1_sem10_1 : DmaSem sig := 51
abbrev cc1_sem11_0 : DmaSem sig := 52
abbrev cc1_sem11_1 : DmaSem sig := 53
abbrev cc1_sem12_0 : DmaSem sig := 54
abbrev cc1_sem12_1 : DmaSem sig := 55
abbrev cc1_sem13_0 : DmaSem sig := 56
abbrev cc1_sem13_1 : DmaSem sig := 57
abbrev cc1_sem14_0 : DmaSem sig := 58
abbrev cc1_sem14_1 : DmaSem sig := 59
abbrev cc2_sem0_0 : DmaSem sig := 60
abbrev cc2_sem0_1 : DmaSem sig := 61
abbrev cc2_sem1_0 : DmaSem sig := 62
abbrev cc2_sem1_1 : DmaSem sig := 63
abbrev cc2_sem2_0 : DmaSem sig := 64
abbrev cc2_sem2_1 : DmaSem sig := 65
abbrev cc2_sem3_0 : DmaSem sig := 66
abbrev cc2_sem3_1 : DmaSem sig := 67
abbrev cc2_sem4_0 : DmaSem sig := 68
abbrev cc2_sem4_1 : DmaSem sig := 69
abbrev cc2_sem5_0 : DmaSem sig := 70
abbrev cc2_sem5_1 : DmaSem sig := 71
abbrev cc2_sem6_0 : DmaSem sig := 72
abbrev cc2_sem6_1 : DmaSem sig := 73
abbrev cc2_sem7_0 : DmaSem sig := 74
abbrev cc2_sem7_1 : DmaSem sig := 75
abbrev cc2_sem8_0 : DmaSem sig := 76
abbrev cc2_sem8_1 : DmaSem sig := 77
abbrev cc2_sem9_0 : DmaSem sig := 78
abbrev cc2_sem9_1 : DmaSem sig := 79
abbrev cc2_sem10_0 : DmaSem sig := 80
abbrev cc2_sem10_1 : DmaSem sig := 81
abbrev cc2_sem11_0 : DmaSem sig := 82
abbrev cc2_sem11_1 : DmaSem sig := 83
abbrev cc2_sem12_0 : DmaSem sig := 84
abbrev cc2_sem12_1 : DmaSem sig := 85
abbrev cc2_sem13_0 : DmaSem sig := 86
abbrev cc2_sem13_1 : DmaSem sig := 87
abbrev cc2_sem14_0 : DmaSem sig := 88
abbrev cc2_sem14_1 : DmaSem sig := 89
abbrev cc3_sem0_0 : DmaSem sig := 90
abbrev cc3_sem0_1 : DmaSem sig := 91
abbrev cc3_sem1_0 : DmaSem sig := 92
abbrev cc3_sem1_1 : DmaSem sig := 93
abbrev cc3_sem2_0 : DmaSem sig := 94
abbrev cc3_sem2_1 : DmaSem sig := 95
abbrev cc3_sem3_0 : DmaSem sig := 96
abbrev cc3_sem3_1 : DmaSem sig := 97
abbrev cc3_sem4_0 : DmaSem sig := 98
abbrev cc3_sem4_1 : DmaSem sig := 99
abbrev cc3_sem5_0 : DmaSem sig := 100
abbrev cc3_sem5_1 : DmaSem sig := 101
abbrev cc3_sem6_0 : DmaSem sig := 102
abbrev cc3_sem6_1 : DmaSem sig := 103
abbrev cc3_sem7_0 : DmaSem sig := 104
abbrev cc3_sem7_1 : DmaSem sig := 105
abbrev cc3_sem8_0 : DmaSem sig := 106
abbrev cc3_sem8_1 : DmaSem sig := 107
abbrev cc3_sem9_0 : DmaSem sig := 108
abbrev cc3_sem9_1 : DmaSem sig := 109
abbrev cc3_sem10_0 : DmaSem sig := 110
abbrev cc3_sem10_1 : DmaSem sig := 111
abbrev cc3_sem11_0 : DmaSem sig := 112
abbrev cc3_sem11_1 : DmaSem sig := 113
abbrev cc3_sem12_0 : DmaSem sig := 114
abbrev cc3_sem12_1 : DmaSem sig := 115
abbrev cc3_sem13_0 : DmaSem sig := 116
abbrev cc3_sem13_1 : DmaSem sig := 117
abbrev cc3_sem14_0 : DmaSem sig := 118
abbrev cc3_sem14_1 : DmaSem sig := 119

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

abbrev stage0_0 : Fin 2 → Memref sig .tc .vmem S1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x704 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x704 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x704 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨2, ![1, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

abbrev stage1_0 : Fin 2 → Memref sig .tc .vmem S1x256x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x704 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x704 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x704 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x704 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x704 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x704 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S256x704 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S256x704 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S256x704 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨2, ![1, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

abbrev stage2_0 : Fin 2 → Memref sig .tc .vmem S1x256x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x256x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x256x704 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x704 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x256x704 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S256x704 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S256x704 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S256x704 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S256x704 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S256x704 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S256x704 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S256x704 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev grid3 : Pipeline.Grid := ⟨2, ![1, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 2 → Memref sig .tc .vmem S1x256x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x256x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x256x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x256x704 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x256x704 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x256x704 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S256x704 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S256x704 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S256x704 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S256x704 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S256x704 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 2 → Memref sig .tc .vmem S256x704 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true]

abbrev stage3_14 : Fin 2 → Memref sig .tc .vmem S256x704 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]
-- ==== StepUpIdeal.lean ====
abbrev S8x1024x704 : Shape := ⟨3, ![8, 1024, 704]⟩
abbrev S4096x704 : Shape := ⟨2, ![4096, 704]⟩
abbrev S1x256x704 : Shape := ⟨3, ![1, 256, 704]⟩
abbrev S256x704 : Shape := ⟨2, ![256, 704]⟩

abbrev nBuf : Space → Nat
  | .hbm => 23
  | .vmem => 120
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4096x704, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S4096x704, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S4096x704, .f32⟩
  | .local _ .vmem, ⟨0, _⟩ => ⟨S1x256x704, .bf16⟩
  | .local _ .vmem, ⟨1, _⟩ => ⟨S1x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | .local _ .vmem, ⟨6, _⟩ => ⟨S1x256x704, .bf16⟩
  | .local _ .vmem, ⟨7, _⟩ => ⟨S1x256x704, .bf16⟩
  | .local _ .vmem, ⟨8, _⟩ => ⟨S1x256x704, .bf16⟩
  | .local _ .vmem, ⟨9, _⟩ => ⟨S1x256x704, .bf16⟩
  | .local _ .vmem, ⟨10, _⟩ => ⟨S1x256x704, .bf16⟩
  | .local _ .vmem, ⟨11, _⟩ => ⟨S1x256x704, .bf16⟩
  | .local _ .vmem, ⟨12, _⟩ => ⟨S1x256x704, .bf16⟩
  | .local _ .vmem, ⟨13, _⟩ => ⟨S1x256x704, .bf16⟩
  | .local _ .vmem, ⟨14, _⟩ => ⟨S1x256x704, .bf16⟩
  | .local _ .vmem, ⟨15, _⟩ => ⟨S1x256x704, .bf16⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | .local _ .vmem, ⟨20, _⟩ => ⟨S256x704, .f32⟩
  | .local _ .vmem, ⟨21, _⟩ => ⟨S256x704, .f32⟩
  | .local _ .vmem, ⟨22, _⟩ => ⟨S256x704, .f32⟩
  | .local _ .vmem, ⟨23, _⟩ => ⟨S256x704, .f32⟩
  | .local _ .vmem, ⟨24, _⟩ => ⟨S256x704, .f32⟩
  | .local _ .vmem, ⟨25, _⟩ => ⟨S256x704, .f32⟩
  | .local _ .vmem, ⟨26, _⟩ => ⟨S256x704, .f32⟩
  | .local _ .vmem, ⟨27, _⟩ => ⟨S256x704, .f32⟩
  | .local _ .vmem, ⟨28, _⟩ => ⟨S256x704, .f32⟩
  | .local _ .vmem, ⟨29, _⟩ => ⟨S256x704, .f32⟩
  | .local _ .vmem, ⟨30, _⟩ => ⟨S1x256x704, .bf16⟩
  | .local _ .vmem, ⟨31, _⟩ => ⟨S1x256x704, .bf16⟩
  | .local _ .vmem, ⟨32, _⟩ => ⟨S1x256x704, .bf16⟩
  | .local _ .vmem, ⟨33, _⟩ => ⟨S1x256x704, .bf16⟩
  | .local _ .vmem, ⟨34, _⟩ => ⟨S1x256x704, .bf16⟩
  | .local _ .vmem, ⟨35, _⟩ => ⟨S1x256x704, .bf16⟩
  | .local _ .vmem, ⟨36, _⟩ => ⟨S1x256x704, .bf16⟩
  | .local _ .vmem, ⟨37, _⟩ => ⟨S1x256x704, .bf16⟩
  | .local _ .vmem, ⟨38, _⟩ => ⟨S1x256x704, .bf16⟩
  | .local _ .vmem, ⟨39, _⟩ => ⟨S1x256x704, .bf16⟩
  | .local _ .vmem, ⟨40, _⟩ => ⟨S1x256x704, .bf16⟩
  | .local _ .vmem, ⟨41, _⟩ => ⟨S1x256x704, .bf16⟩
  | .local _ .vmem, ⟨42, _⟩ => ⟨S1x256x704, .bf16⟩
  | .local _ .vmem, ⟨43, _⟩ => ⟨S1x256x704, .bf16⟩
  | .local _ .vmem, ⟨44, _⟩ => ⟨S1x256x704, .bf16⟩
  | .local _ .vmem, ⟨45, _⟩ => ⟨S1x256x704, .bf16⟩
  | .local _ .vmem, ⟨46, _⟩ => ⟨S256x704, .f32⟩
  | .local _ .vmem, ⟨47, _⟩ => ⟨S256x704, .f32⟩
  | .local _ .vmem, ⟨48, _⟩ => ⟨S256x704, .f32⟩
  | .local _ .vmem, ⟨49, _⟩ => ⟨S256x704, .f32⟩
  | .local _ .vmem, ⟨50, _⟩ => ⟨S256x704, .f32⟩
  | .local _ .vmem, ⟨51, _⟩ => ⟨S256x704, .f32⟩
  | .local _ .vmem, ⟨52, _⟩ => ⟨S256x704, .f32⟩
  | .local _ .vmem, ⟨53, _⟩ => ⟨S256x704, .f32⟩
  | .local _ .vmem, ⟨54, _⟩ => ⟨S256x704, .f32⟩
  | .local _ .vmem, ⟨55, _⟩ => ⟨S256x704, .f32⟩
  | .local _ .vmem, ⟨56, _⟩ => ⟨S256x704, .f32⟩
  | .local _ .vmem, ⟨57, _⟩ => ⟨S256x704, .f32⟩
  | .local _ .vmem, ⟨58, _⟩ => ⟨S256x704, .f32⟩
  | .local _ .vmem, ⟨59, _⟩ => ⟨S256x704, .f32⟩
  | .local _ .vmem, ⟨60, _⟩ => ⟨S1x256x704, .bf16⟩
  | .local _ .vmem, ⟨61, _⟩ => ⟨S1x256x704, .bf16⟩
  | .local _ .vmem, ⟨62, _⟩ => ⟨S1x256x704, .bf16⟩
  | .local _ .vmem, ⟨63, _⟩ => ⟨S1x256x704, .bf16⟩
  | .local _ .vmem, ⟨64, _⟩ => ⟨S1x256x704, .bf16⟩
  | .local _ .vmem, ⟨65, _⟩ => ⟨S1x256x704, .bf16⟩
  | .local _ .vmem, ⟨66, _⟩ => ⟨S1x256x704, .bf16⟩
  | .local _ .vmem, ⟨67, _⟩ => ⟨S1x256x704, .bf16⟩
  | .local _ .vmem, ⟨68, _⟩ => ⟨S1x256x704, .bf16⟩
  | .local _ .vmem, ⟨69, _⟩ => ⟨S1x256x704, .bf16⟩
  | .local _ .vmem, ⟨70, _⟩ => ⟨S1x256x704, .bf16⟩
  | .local _ .vmem, ⟨71, _⟩ => ⟨S1x256x704, .bf16⟩
  | .local _ .vmem, ⟨72, _⟩ => ⟨S1x256x704, .bf16⟩
  | .local _ .vmem, ⟨73, _⟩ => ⟨S1x256x704, .bf16⟩
  | .local _ .vmem, ⟨74, _⟩ => ⟨S1x256x704, .bf16⟩
  | .local _ .vmem, ⟨75, _⟩ => ⟨S1x256x704, .bf16⟩
  | .local _ .vmem, ⟨76, _⟩ => ⟨S256x704, .f32⟩
  | .local _ .vmem, ⟨77, _⟩ => ⟨S256x704, .f32⟩
  | .local _ .vmem, ⟨78, _⟩ => ⟨S256x704, .f32⟩
  | .local _ .vmem, ⟨79, _⟩ => ⟨S256x704, .f32⟩
  | .local _ .vmem, ⟨80, _⟩ => ⟨S256x704, .f32⟩
  | .local _ .vmem, ⟨81, _⟩ => ⟨S256x704, .f32⟩
  | .local _ .vmem, ⟨82, _⟩ => ⟨S256x704, .f32⟩
  | .local _ .vmem, ⟨83, _⟩ => ⟨S256x704, .f32⟩
  | .local _ .vmem, ⟨84, _⟩ => ⟨S256x704, .f32⟩
  | .local _ .vmem, ⟨85, _⟩ => ⟨S256x704, .f32⟩
  | .local _ .vmem, ⟨86, _⟩ => ⟨S256x704, .f32⟩
  | .local _ .vmem, ⟨87, _⟩ => ⟨S256x704, .f32⟩
  | .local _ .vmem, ⟨88, _⟩ => ⟨S256x704, .f32⟩
  | .local _ .vmem, ⟨89, _⟩ => ⟨S256x704, .f32⟩
  | .local _ .vmem, ⟨90, _⟩ => ⟨S1x256x704, .bf16⟩
  | .local _ .vmem, ⟨91, _⟩ => ⟨S1x256x704, .bf16⟩
  | .local _ .vmem, ⟨92, _⟩ => ⟨S1x256x704, .bf16⟩
  | .local _ .vmem, ⟨93, _⟩ => ⟨S1x256x704, .bf16⟩
  | .local _ .vmem, ⟨94, _⟩ => ⟨S1x256x704, .bf16⟩
  | .local _ .vmem, ⟨95, _⟩ => ⟨S1x256x704, .bf16⟩
  | .local _ .vmem, ⟨96, _⟩ => ⟨S1x256x704, .bf16⟩
  | .local _ .vmem, ⟨97, _⟩ => ⟨S1x256x704, .bf16⟩
  | .local _ .vmem, ⟨98, _⟩ => ⟨S1x256x704, .bf16⟩
  | .local _ .vmem, ⟨99, _⟩ => ⟨S1x256x704, .bf16⟩
  | .local _ .vmem, ⟨100, _⟩ => ⟨S1x256x704, .bf16⟩
  | .local _ .vmem, ⟨101, _⟩ => ⟨S1x256x704, .bf16⟩
  | .local _ .vmem, ⟨102, _⟩ => ⟨S1x256x704, .bf16⟩
  | .local _ .vmem, ⟨103, _⟩ => ⟨S1x256x704, .bf16⟩
  | .local _ .vmem, ⟨104, _⟩ => ⟨S1x256x704, .bf16⟩
  | .local _ .vmem, ⟨105, _⟩ => ⟨S1x256x704, .bf16⟩
  | .local _ .vmem, ⟨106, _⟩ => ⟨S256x704, .f32⟩
  | .local _ .vmem, ⟨107, _⟩ => ⟨S256x704, .f32⟩
  | .local _ .vmem, ⟨108, _⟩ => ⟨S256x704, .f32⟩
  | .local _ .vmem, ⟨109, _⟩ => ⟨S256x704, .f32⟩
  | .local _ .vmem, ⟨110, _⟩ => ⟨S256x704, .f32⟩
  | .local _ .vmem, ⟨111, _⟩ => ⟨S256x704, .f32⟩
  | .local _ .vmem, ⟨112, _⟩ => ⟨S256x704, .f32⟩
  | .local _ .vmem, ⟨113, _⟩ => ⟨S256x704, .f32⟩
  | .local _ .vmem, ⟨114, _⟩ => ⟨S256x704, .f32⟩
  | .local _ .vmem, ⟨115, _⟩ => ⟨S256x704, .f32⟩
  | .local _ .vmem, ⟨116, _⟩ => ⟨S256x704, .f32⟩
  | .local _ .vmem, ⟨117, _⟩ => ⟨S256x704, .f32⟩
  | .local _ .vmem, ⟨118, _⟩ => ⟨S256x704, .f32⟩
  | .local _ .vmem, ⟨119, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg4_1 : Ref sig .tc := ⟨.vmem, 39, rfl⟩
abbrev cc1_stg5_0 : Ref sig .tc := ⟨.vmem, 40, rfl⟩
abbrev cc1_stg5_1 : Ref sig .tc := ⟨.vmem, 41, rfl⟩
abbrev cc1_stg6_0 : Ref sig .tc := ⟨.vmem, 42, rfl⟩
abbrev cc1_stg6_1 : Ref sig .tc := ⟨.vmem, 43, rfl⟩
abbrev cc1_stg7_0 : Ref sig .tc := ⟨.vmem, 44, rfl⟩
abbrev cc1_stg7_1 : Ref sig .tc := ⟨.vmem, 45, rfl⟩
abbrev cc1_stg8_0 : Ref sig .tc := ⟨.vmem, 46, rfl⟩
abbrev cc1_stg8_1 : Ref sig .tc := ⟨.vmem, 47, rfl⟩
abbrev cc1_stg9_0 : Ref sig .tc := ⟨.vmem, 48, rfl⟩
abbrev cc1_stg9_1 : Ref sig .tc := ⟨.vmem, 49, rfl⟩
abbrev cc1_stg10_0 : Ref sig .tc := ⟨.vmem, 50, rfl⟩
abbrev cc1_stg10_1 : Ref sig .tc := ⟨.vmem, 51, rfl⟩
abbrev cc1_stg11_0 : Ref sig .tc := ⟨.vmem, 52, rfl⟩
abbrev cc1_stg11_1 : Ref sig .tc := ⟨.vmem, 53, rfl⟩
abbrev cc1_stg12_0 : Ref sig .tc := ⟨.vmem, 54, rfl⟩
abbrev cc1_stg12_1 : Ref sig .tc := ⟨.vmem, 55, rfl⟩
abbrev cc1_stg13_0 : Ref sig .tc := ⟨.vmem, 56, rfl⟩
abbrev cc1_stg13_1 : Ref sig .tc := ⟨.vmem, 57, rfl⟩
abbrev cc1_stg14_0 : Ref sig .tc := ⟨.vmem, 58, rfl⟩
abbrev cc1_stg14_1 : Ref sig .tc := ⟨.vmem, 59, rfl⟩
abbrev cc2_stg0_0 : Ref sig .tc := ⟨.vmem, 60, rfl⟩
abbrev cc2_stg0_1 : Ref sig .tc := ⟨.vmem, 61, rfl⟩
abbrev cc2_stg1_0 : Ref sig .tc := ⟨.vmem, 62, rfl⟩
abbrev cc2_stg1_1 : Ref sig .tc := ⟨.vmem, 63, rfl⟩
abbrev cc2_stg2_0 : Ref sig .tc := ⟨.vmem, 64, rfl⟩
abbrev cc2_stg2_1 : Ref sig .tc := ⟨.vmem, 65, rfl⟩
abbrev cc2_stg3_0 : Ref sig .tc := ⟨.vmem, 66, rfl⟩
abbrev cc2_stg3_1 : Ref sig .tc := ⟨.vmem, 67, rfl⟩
abbrev cc2_stg4_0 : Ref sig .tc := ⟨.vmem, 68, rfl⟩
abbrev cc2_stg4_1 : Ref sig .tc := ⟨.vmem, 69, rfl⟩
abbrev cc2_stg5_0 : Ref sig .tc := ⟨.vmem, 70, rfl⟩
abbrev cc2_stg5_1 : Ref sig .tc := ⟨.vmem, 71, rfl⟩
abbrev cc2_stg6_0 : Ref sig .tc := ⟨.vmem, 72, rfl⟩
abbrev cc2_stg6_1 : Ref sig .tc := ⟨.vmem, 73, rfl⟩
abbrev cc2_stg7_0 : Ref sig .tc := ⟨.vmem, 74, rfl⟩
abbrev cc2_stg7_1 : Ref sig .tc := ⟨.vmem, 75, rfl⟩
abbrev cc2_stg8_0 : Ref sig .tc := ⟨.vmem, 76, rfl⟩
abbrev cc2_stg8_1 : Ref sig .tc := ⟨.vmem, 77, rfl⟩
abbrev cc2_stg9_0 : Ref sig .tc := ⟨.vmem, 78, rfl⟩
abbrev cc2_stg9_1 : Ref sig .tc := ⟨.vmem, 79, rfl⟩
abbrev cc2_stg10_0 : Ref sig .tc := ⟨.vmem, 80, rfl⟩
abbrev cc2_stg10_1 : Ref sig .tc := ⟨.vmem, 81, rfl⟩
abbrev cc2_stg11_0 : Ref sig .tc := ⟨.vmem, 82, rfl⟩
abbrev cc2_stg11_1 : Ref sig .tc := ⟨.vmem, 83, rfl⟩
abbrev cc2_stg12_0 : Ref sig .tc := ⟨.vmem, 84, rfl⟩
abbrev cc2_stg12_1 : Ref sig .tc := ⟨.vmem, 85, rfl⟩
abbrev cc2_stg13_0 : Ref sig .tc := ⟨.vmem, 86, rfl⟩
abbrev cc2_stg13_1 : Ref sig .tc := ⟨.vmem, 87, rfl⟩
abbrev cc2_stg14_0 : Ref sig .tc := ⟨.vmem, 88, rfl⟩
abbrev cc2_stg14_1 : Ref sig .tc := ⟨.vmem, 89, rfl⟩
abbrev cc3_stg0_0 : Ref sig .tc := ⟨.vmem, 90, rfl⟩
abbrev cc3_stg0_1 : Ref sig .tc := ⟨.vmem, 91, rfl⟩
abbrev cc3_stg1_0 : Ref sig .tc := ⟨.vmem, 92, rfl⟩
abbrev cc3_stg1_1 : Ref sig .tc := ⟨.vmem, 93, rfl⟩
abbrev cc3_stg2_0 : Ref sig .tc := ⟨.vmem, 94, rfl⟩
abbrev cc3_stg2_1 : Ref sig .tc := ⟨.vmem, 95, rfl⟩
abbrev cc3_stg3_0 : Ref sig .tc := ⟨.vmem, 96, rfl⟩
abbrev cc3_stg3_1 : Ref sig .tc := ⟨.vmem, 97, rfl⟩
abbrev cc3_stg4_0 : Ref sig .tc := ⟨.vmem, 98, rfl⟩
abbrev cc3_stg4_1 : Ref sig .tc := ⟨.vmem, 99, rfl⟩
abbrev cc3_stg5_0 : Ref sig .tc := ⟨.vmem, 100, rfl⟩
abbrev cc3_stg5_1 : Ref sig .tc := ⟨.vmem, 101, rfl⟩
abbrev cc3_stg6_0 : Ref sig .tc := ⟨.vmem, 102, rfl⟩
abbrev cc3_stg6_1 : Ref sig .tc := ⟨.vmem, 103, rfl⟩
abbrev cc3_stg7_0 : Ref sig .tc := ⟨.vmem, 104, rfl⟩
abbrev cc3_stg7_1 : Ref sig .tc := ⟨.vmem, 105, rfl⟩
abbrev cc3_stg8_0 : Ref sig .tc := ⟨.vmem, 106, rfl⟩
abbrev cc3_stg8_1 : Ref sig .tc := ⟨.vmem, 107, rfl⟩
abbrev cc3_stg9_0 : Ref sig .tc := ⟨.vmem, 108, rfl⟩
abbrev cc3_stg9_1 : Ref sig .tc := ⟨.vmem, 109, rfl⟩
abbrev cc3_stg10_0 : Ref sig .tc := ⟨.vmem, 110, rfl⟩
abbrev cc3_stg10_1 : Ref sig .tc := ⟨.vmem, 111, rfl⟩
abbrev cc3_stg11_0 : Ref sig .tc := ⟨.vmem, 112, rfl⟩
abbrev cc3_stg11_1 : Ref sig .tc := ⟨.vmem, 113, rfl⟩
abbrev cc3_stg12_0 : Ref sig .tc := ⟨.vmem, 114, rfl⟩
abbrev cc3_stg12_1 : Ref sig .tc := ⟨.vmem, 115, rfl⟩
abbrev cc3_stg13_0 : Ref sig .tc := ⟨.vmem, 116, rfl⟩
abbrev cc3_stg13_1 : Ref sig .tc := ⟨.vmem, 117, rfl⟩
abbrev cc3_stg14_0 : Ref sig .tc := ⟨.vmem, 118, rfl⟩
abbrev cc3_stg14_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem5_1 : DmaSem sig := 41
abbrev cc1_sem6_0 : DmaSem sig := 42
abbrev cc1_sem6_1 : DmaSem sig := 43
abbrev cc1_sem7_0 : DmaSem sig := 44
abbrev cc1_sem7_1 : DmaSem sig := 45
abbrev cc1_sem8_0 : DmaSem sig := 46
abbrev cc1_sem8_1 : DmaSem sig := 47
abbrev cc1_sem9_0 : DmaSem sig := 48
abbrev cc1_sem9_1 : DmaSem sig := 49
abbrev cc1_sem10_0 : DmaSem sig := 50
abbrev cc1_sem10_1 : DmaSem sig := 51
abbrev cc1_sem11_0 : DmaSem sig := 52
abbrev cc1_sem11_1 : DmaSem sig := 53
abbrev cc1_sem12_0 : DmaSem sig := 54
abbrev cc1_sem12_1 : DmaSem sig := 55
abbrev cc1_sem13_0 : DmaSem sig := 56
abbrev cc1_sem13_1 : DmaSem sig := 57
abbrev cc1_sem14_0 : DmaSem sig := 58
abbrev cc1_sem14_1 : DmaSem sig := 59
abbrev cc2_sem0_0 : DmaSem sig := 60
abbrev cc2_sem0_1 : DmaSem sig := 61
abbrev cc2_sem1_0 : DmaSem sig := 62
abbrev cc2_sem1_1 : DmaSem sig := 63
abbrev cc2_sem2_0 : DmaSem sig := 64
abbrev cc2_sem2_1 : DmaSem sig := 65
abbrev cc2_sem3_0 : DmaSem sig := 66
abbrev cc2_sem3_1 : DmaSem sig := 67
abbrev cc2_sem4_0 : DmaSem sig := 68
abbrev cc2_sem4_1 : DmaSem sig := 69
abbrev cc2_sem5_0 : DmaSem sig := 70
abbrev cc2_sem5_1 : DmaSem sig := 71
abbrev cc2_sem6_0 : DmaSem sig := 72
abbrev cc2_sem6_1 : DmaSem sig := 73
abbrev cc2_sem7_0 : DmaSem sig := 74
abbrev cc2_sem7_1 : DmaSem sig := 75
abbrev cc2_sem8_0 : DmaSem sig := 76
abbrev cc2_sem8_1 : DmaSem sig := 77
abbrev cc2_sem9_0 : DmaSem sig := 78
abbrev cc2_sem9_1 : DmaSem sig := 79
abbrev cc2_sem10_0 : DmaSem sig := 80
abbrev cc2_sem10_1 : DmaSem sig := 81
abbrev cc2_sem11_0 : DmaSem sig := 82
abbrev cc2_sem11_1 : DmaSem sig := 83
abbrev cc2_sem12_0 : DmaSem sig := 84
abbrev cc2_sem12_1 : DmaSem sig := 85
abbrev cc2_sem13_0 : DmaSem sig := 86
abbrev cc2_sem13_1 : DmaSem sig := 87
abbrev cc2_sem14_0 : DmaSem sig := 88
abbrev cc2_sem14_1 : DmaSem sig := 89
abbrev cc3_sem0_0 : DmaSem sig := 90
abbrev cc3_sem0_1 : DmaSem sig := 91
abbrev cc3_sem1_0 : DmaSem sig := 92
abbrev cc3_sem1_1 : DmaSem sig := 93
abbrev cc3_sem2_0 : DmaSem sig := 94
abbrev cc3_sem2_1 : DmaSem sig := 95
abbrev cc3_sem3_0 : DmaSem sig := 96
abbrev cc3_sem3_1 : DmaSem sig := 97
abbrev cc3_sem4_0 : DmaSem sig := 98
abbrev cc3_sem4_1 : DmaSem sig := 99
abbrev cc3_sem5_0 : DmaSem sig := 100
abbrev cc3_sem5_1 : DmaSem sig := 101
abbrev cc3_sem6_0 : DmaSem sig := 102
abbrev cc3_sem6_1 : DmaSem sig := 103
abbrev cc3_sem7_0 : DmaSem sig := 104
abbrev cc3_sem7_1 : DmaSem sig := 105
abbrev cc3_sem8_0 : DmaSem sig := 106
abbrev cc3_sem8_1 : DmaSem sig := 107
abbrev cc3_sem9_0 : DmaSem sig := 108
abbrev cc3_sem9_1 : DmaSem sig := 109
abbrev cc3_sem10_0 : DmaSem sig := 110
abbrev cc3_sem10_1 : DmaSem sig := 111
abbrev cc3_sem11_0 : DmaSem sig := 112
abbrev cc3_sem11_1 : DmaSem sig := 113
abbrev cc3_sem12_0 : DmaSem sig := 114
abbrev cc3_sem12_1 : DmaSem sig := 115
abbrev cc3_sem13_0 : DmaSem sig := 116
abbrev cc3_sem13_1 : DmaSem sig := 117
abbrev cc3_sem14_0 : DmaSem sig := 118
abbrev cc3_sem14_1 : DmaSem sig := 119

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

abbrev stage0_0 : Fin 2 → Memref sig .tc .vmem S1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x704 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x704 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x704 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨2, ![1, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

abbrev stage1_0 : Fin 2 → Memref sig .tc .vmem S1x256x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x704 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x704 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x704 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x704 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x704 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x704 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S256x704 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S256x704 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S256x704 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨2, ![1, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

abbrev stage2_0 : Fin 2 → Memref sig .tc .vmem S1x256x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x256x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x256x704 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x704 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x256x704 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S256x704 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S256x704 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S256x704 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S256x704 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S256x704 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S256x704 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S256x704 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev grid3 : Pipeline.Grid := ⟨2, ![1, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 2 → Memref sig .tc .vmem S1x256x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x256x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x256x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x256x704 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x256x704 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x256x704 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S256x704 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S256x704 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S256x704 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S256x704 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S256x704 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 2 → Memref sig .tc .vmem S256x704 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true]

abbrev stage3_14 : Fin 2 → Memref sig .tc .vmem S256x704 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]
-- ==== StepUpRefIdeal.lean ====
abbrev S8x1024x704 : Shape := ⟨3, ![8, 1024, 704]⟩
abbrev S4096x704 : Shape := ⟨2, ![4096, 704]⟩
abbrev S8x4096x704 : Shape := ⟨3, ![8, 4096, 704]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S8x4096x704, .bf16⟩
  | .hbm, ⟨8, _⟩ => ⟨S8x4096x704, .f32⟩
  | .hbm, ⟨9, _⟩ => ⟨S_, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S_, .f32⟩
  | .hbm, ⟨15, _⟩ => ⟨S4096x704, .f32⟩
  | .hbm, ⟨16, _⟩ => ⟨S4096x704, .f32⟩
  | .hbm, ⟨17, _⟩ => ⟨S4096x704, .f32⟩
  | .hbm, ⟨18, _⟩ => ⟨S_, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S_, .f32⟩
  | .hbm, ⟨30, _⟩ => ⟨S4096x704, .f32⟩
  | .hbm, ⟨31, _⟩ => ⟨S4096x704, .f32⟩
  | .hbm, ⟨32, _⟩ => ⟨S4096x704, .f32⟩
  | .hbm, ⟨33, _⟩ => ⟨S_, .f32⟩
  | .hbm, ⟨34, _⟩ => ⟨S4096x704, .f32⟩
  | .hbm, ⟨35, _⟩ => ⟨S4096x704, .f32⟩
  | .hbm, ⟨36, _⟩ => ⟨S4096x704, .f32⟩
  | .hbm, ⟨37, _⟩ => ⟨S_, .f32⟩
  | .hbm, ⟨38, _⟩ => ⟨S4096x704, .f32⟩
  | .hbm, ⟨39, _⟩ => ⟨S4096x704, .f32⟩
  | .hbm, ⟨40, _⟩ => ⟨S4096x704, .f32⟩
  | .hbm, ⟨41, _⟩ => ⟨S_, .f32⟩
  | .hbm, ⟨42, _⟩ => ⟨S4096x704, .f32⟩
  | .hbm, ⟨43, _⟩ => ⟨S4096x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== StepIn.lean ====
abbrev S8x1024x1266 : Shape := ⟨3, ![8, 1024, 1266]⟩
abbrev S4096x1266 : Shape := ⟨2, ![4096, 1266]⟩
abbrev S1x256x1266 : Shape := ⟨3, ![1, 256, 1266]⟩
abbrev S256x1266 : Shape := ⟨2, ![256, 1266]⟩

abbrev nBuf : Space → Nat
  | .hbm => 23
  | .vmem => 120
  | .smem => 0
  | _ => 0

abbrev bufTy : (tb : Table) → Fin (tcTables nBuf tb) → BufTy
  | .hbm, ⟨0, _⟩ => ⟨S8x1024x1266, .bf16⟩
  | .hbm, ⟨1, _⟩ => ⟨S8x1024x1266, .bf16⟩
  | .hbm, ⟨2, _⟩ => ⟨S8x1024x1266, .bf16⟩
  | .hbm, ⟨3, _⟩ => ⟨S8x1024x1266, .bf16⟩
  | .hbm, ⟨4, _⟩ => ⟨S4096x1266, .f32⟩
  | .hbm, ⟨5, _⟩ => ⟨S4096x1266, .f32⟩
  | .hbm, ⟨6, _⟩ => ⟨S4096x1266, .f32⟩
  | .hbm, ⟨7, _⟩ => ⟨S4096x1266, .f32⟩
  | .hbm, ⟨8, _⟩ => ⟨S4096x1266, .f32⟩
  | .hbm, ⟨9, _⟩ => ⟨S4096x1266, .f32⟩
  | .hbm, ⟨10, _⟩ => ⟨S4096x1266, .f32⟩
  | .hbm, ⟨11, _⟩ => ⟨S4096x1266, .f32⟩
  | .hbm, ⟨12, _⟩ => ⟨S4096x1266, .f32⟩
  | .hbm, ⟨13, _⟩ => ⟨S4096x1266, .f32⟩
  | .hbm, ⟨14, _⟩ => ⟨S4096x1266, .f32⟩
  | .hbm, ⟨15, _⟩ => ⟨S4096x1266, .f32⟩
  | .hbm, ⟨16, _⟩ => ⟨S4096x1266, .f32⟩
  | .hbm, ⟨17, _⟩ => ⟨S4096x1266, .f32⟩
  | .hbm, ⟨18, _⟩ => ⟨S4096x1266, .f32⟩
  | .hbm, ⟨19, _⟩ => ⟨S4096x1266, .f32⟩
  | .hbm, ⟨20, _⟩ => ⟨S4096x1266, .f32⟩
  | .hbm, ⟨21, _⟩ => ⟨S4096x1266, .f32⟩
  | .hbm, ⟨22, _⟩ => ⟨S4096x1266, .f32⟩
  | .local _ .vmem, ⟨0, _⟩ => ⟨S1x256x1266, .bf16⟩
  | .local _ .vmem, ⟨1, _⟩ => ⟨S1x256x1266, .bf16⟩
  | .local _ .vmem, ⟨2, _⟩ => ⟨S1x256x1266, .bf16⟩
  | .local _ .vmem, ⟨3, _⟩ => ⟨S1x256x1266, .bf16⟩
  | .local _ .vmem, ⟨4, _⟩ => ⟨S1x256x1266, .bf16⟩
  | .local _ .vmem, ⟨5, _⟩ => ⟨S1x256x1266, .bf16⟩
  | .local _ .vmem, ⟨6, _⟩ => ⟨S1x256x1266, .bf16⟩
  | .local _ .vmem, ⟨7, _⟩ => ⟨S1x256x1266, .bf16⟩
  | .local _ .vmem, ⟨8, _⟩ => ⟨S1x256x1266, .bf16⟩
  | .local _ .vmem, ⟨9, _⟩ => ⟨S1x256x1266, .bf16⟩
  | .local _ .vmem, ⟨10, _⟩ => ⟨S1x256x1266, .bf16⟩
  | .local _ .vmem, ⟨11, _⟩ => ⟨S1x256x1266, .bf16⟩
  | .local _ .vmem, ⟨12, _⟩ => ⟨S1x256x1266, .bf16⟩
  | .local _ .vmem, ⟨13, _⟩ => ⟨S1x256x1266, .bf16⟩
  | .local _ .vmem, ⟨14, _⟩ => ⟨S1x256x1266, .bf16⟩
  | .local _ .vmem, ⟨15, _⟩ => ⟨S1x256x1266, .bf16⟩
  | .local _ .vmem, ⟨16, _⟩ => ⟨S256x1266, .f32⟩
  | .local _ .vmem, ⟨17, _⟩ => ⟨S256x1266, .f32⟩
  | .local _ .vmem, ⟨18, _⟩ => ⟨S256x1266, .f32⟩
  | .local _ .vmem, ⟨19, _⟩ => ⟨S256x1266, .f32⟩
  | .local _ .vmem, ⟨20, _⟩ => ⟨S256x1266, .f32⟩
  | .local _ .vmem, ⟨21, _⟩ => ⟨S256x1266, .f32⟩
  | .local _ .vmem, ⟨22, _⟩ => ⟨S256x1266, .f32⟩
  | .local _ .vmem, ⟨23, _⟩ => ⟨S256x1266, .f32⟩
  | .local _ .vmem, ⟨24, _⟩ => ⟨S256x1266, .f32⟩
  | .local _ .vmem, ⟨25, _⟩ => ⟨S256x1266, .f32⟩
  | .local _ .vmem, ⟨26, _⟩ => ⟨S256x1266, .f32⟩
  | .local _ .vmem, ⟨27, _⟩ => ⟨S256x1266, .f32⟩
  | .local _ .vmem, ⟨28, _⟩ => ⟨S256x1266, .f32⟩
  | .local _ .vmem, ⟨29, _⟩ => ⟨S256x1266, .f32⟩
  | .local _ .vmem, ⟨30, _⟩ => ⟨S1x256x1266, .bf16⟩
  | .local _ .vmem, ⟨31, _⟩ => ⟨S1x256x1266, .bf16⟩
  | .local _ .vmem, ⟨32, _⟩ => ⟨S1x256x1266, .bf16⟩
  | .local _ .vmem, ⟨33, _⟩ => ⟨S1x256x1266, .bf16⟩
  | .local _ .vmem, ⟨34, _⟩ => ⟨S1x256x1266, .bf16⟩
  | .local _ .vmem, ⟨35, _⟩ => ⟨S1x256x1266, .bf16⟩
  | .local _ .vmem, ⟨36, _⟩ => ⟨S1x256x1266, .bf16⟩
  | .local _ .vmem, ⟨37, _⟩ => ⟨S1x256x1266, .bf16⟩
  | .local _ .vmem, ⟨38, _⟩ => ⟨S1x256x1266, .bf16⟩
  | .local _ .vmem, ⟨39, _⟩ => ⟨S1x256x1266, .bf16⟩
  | .local _ .vmem, ⟨40, _⟩ => ⟨S1x256x1266, .bf16⟩
  | .local _ .vmem, ⟨41, _⟩ => ⟨S1x256x1266, .bf16⟩
  | .local _ .vmem, ⟨42, _⟩ => ⟨S1x256x1266, .bf16⟩
  | .local _ .vmem, ⟨43, _⟩ => ⟨S1x256x1266, .bf16⟩
  | .local _ .vmem, ⟨44, _⟩ => ⟨S1x256x1266, .bf16⟩
  | .local _ .vmem, ⟨45, _⟩ => ⟨S1x256x1266, .bf16⟩
  | .local _ .vmem, ⟨46, _⟩ => ⟨S256x1266, .f32⟩
  | .local _ .vmem, ⟨47, _⟩ => ⟨S256x1266, .f32⟩
  | .local _ .vmem, ⟨48, _⟩ => ⟨S256x1266, .f32⟩
  | .local _ .vmem, ⟨49, _⟩ => ⟨S256x1266, .f32⟩
  | .local _ .vmem, ⟨50, _⟩ => ⟨S256x1266, .f32⟩
  | .local _ .vmem, ⟨51, _⟩ => ⟨S256x1266, .f32⟩
  | .local _ .vmem, ⟨52, _⟩ => ⟨S256x1266, .f32⟩
  | .local _ .vmem, ⟨53, _⟩ => ⟨S256x1266, .f32⟩
  | .local _ .vmem, ⟨54, _⟩ => ⟨S256x1266, .f32⟩
  | .local _ .vmem, ⟨55, _⟩ => ⟨S256x1266, .f32⟩
  | .local _ .vmem, ⟨56, _⟩ => ⟨S256x1266, .f32⟩
  | .local _ .vmem, ⟨57, _⟩ => ⟨S256x1266, .f32⟩
  | .local _ .vmem, ⟨58, _⟩ => ⟨S256x1266, .f32⟩
  | .local _ .vmem, ⟨59, _⟩ => ⟨S256x1266, .f32⟩
  | .local _ .vmem, ⟨60, _⟩ => ⟨S1x256x1266, .bf16⟩
  | .local _ .vmem, ⟨61, _⟩ => ⟨S1x256x1266, .bf16⟩
  | .local _ .vmem, ⟨62, _⟩ => ⟨S1x256x1266, .bf16⟩
  | .local _ .vmem, ⟨63, _⟩ => ⟨S1x256x1266, .bf16⟩
  | .local _ .vmem, ⟨64, _⟩ => ⟨S1x256x1266, .bf16⟩
  | .local _ .vmem, ⟨65, _⟩ => ⟨S1x256x1266, .bf16⟩
  | .local _ .vmem, ⟨66, _⟩ => ⟨S1x256x1266, .bf16⟩
  | .local _ .vmem, ⟨67, _⟩ => ⟨S1x256x1266, .bf16⟩
  | .local _ .vmem, ⟨68, _⟩ => ⟨S1x256x1266, .bf16⟩
  | .local _ .vmem, ⟨69, _⟩ => ⟨S1x256x1266, .bf16⟩
  | .local _ .vmem, ⟨70, _⟩ => ⟨S1x256x1266, .bf16⟩
  | .local _ .vmem, ⟨71, _⟩ => ⟨S1x256x1266, .bf16⟩
  | .local _ .vmem, ⟨72, _⟩ => ⟨S1x256x1266, .bf16⟩
  | .local _ .vmem, ⟨73, _⟩ => ⟨S1x256x1266, .bf16⟩
  | .local _ .vmem, ⟨74, _⟩ => ⟨S1x256x1266, .bf16⟩
  | .local _ .vmem, ⟨75, _⟩ => ⟨S1x256x1266, .bf16⟩
  | .local _ .vmem, ⟨76, _⟩ => ⟨S256x1266, .f32⟩
  | .local _ .vmem, ⟨77, _⟩ => ⟨S256x1266, .f32⟩
  | .local _ .vmem, ⟨78, _⟩ => ⟨S256x1266, .f32⟩
  | .local _ .vmem, ⟨79, _⟩ => ⟨S256x1266, .f32⟩
  | .local _ .vmem, ⟨80, _⟩ => ⟨S256x1266, .f32⟩
  | .local _ .vmem, ⟨81, _⟩ => ⟨S256x1266, .f32⟩
  | .local _ .vmem, ⟨82, _⟩ => ⟨S256x1266, .f32⟩
  | .local _ .vmem, ⟨83, _⟩ => ⟨S256x1266, .f32⟩
  | .local _ .vmem, ⟨84, _⟩ => ⟨S256x1266, .f32⟩
  | .local _ .vmem, ⟨85, _⟩ => ⟨S256x1266, .f32⟩
  | .local _ .vmem, ⟨86, _⟩ => ⟨S256x1266, .f32⟩
  | .local _ .vmem, ⟨87, _⟩ => ⟨S256x1266, .f32⟩
  | .local _ .vmem, ⟨88, _⟩ => ⟨S256x1266, .f32⟩
  | .local _ .vmem, ⟨89, _⟩ => ⟨S256x1266, .f32⟩
  | .local _ .vmem, ⟨90, _⟩ => ⟨S1x256x1266, .bf16⟩
  | .local _ .vmem, ⟨91, _⟩ => ⟨S1x256x1266, .bf16⟩
  | .local _ .vmem, ⟨92, _⟩ => ⟨S1x256x1266, .bf16⟩
  | .local _ .vmem, ⟨93, _⟩ => ⟨S1x256x1266, .bf16⟩
  | .local _ .vmem, ⟨94, _⟩ => ⟨S1x256x1266, .bf16⟩
  | .local _ .vmem, ⟨95, _⟩ => ⟨S1x256x1266, .bf16⟩
  | .local _ .vmem, ⟨96, _⟩ => ⟨S1x256x1266, .bf16⟩
  | .local _ .vmem, ⟨97, _⟩ => ⟨S1x256x1266, .bf16⟩
  | .local _ .vmem, ⟨98, _⟩ => ⟨S1x256x1266, .bf16⟩
  | .local _ .vmem, ⟨99, _⟩ => ⟨S1x256x1266, .bf16⟩
  | .local _ .vmem, ⟨100, _⟩ => ⟨S1x256x1266, .bf16⟩
  | .local _ .vmem, ⟨101, _⟩ => ⟨S1x256x1266, .bf16⟩
  | .local _ .vmem, ⟨102, _⟩ => ⟨S1x256x1266, .bf16⟩
  | .local _ .vmem, ⟨103, _⟩ => ⟨S1x256x1266, .bf16⟩
  | .local _ .vmem, ⟨104, _⟩ => ⟨S1x256x1266, .bf16⟩
  | .local _ .vmem, ⟨105, _⟩ => ⟨S1x256x1266, .bf16⟩
  | .local _ .vmem, ⟨106, _⟩ => ⟨S256x1266, .f32⟩
  | .local _ .vmem, ⟨107, _⟩ => ⟨S256x1266, .f32⟩
  | .local _ .vmem, ⟨108, _⟩ => ⟨S256x1266, .f32⟩
  | .local _ .vmem, ⟨109, _⟩ => ⟨S256x1266, .f32⟩
  | .local _ .vmem, ⟨110, _⟩ => ⟨S256x1266, .f32⟩
  | .local _ .vmem, ⟨111, _⟩ => ⟨S256x1266, .f32⟩
  | .local _ .vmem, ⟨112, _⟩ => ⟨S256x1266, .f32⟩
  | .local _ .vmem, ⟨113, _⟩ => ⟨S256x1266, .f32⟩
  | .local _ .vmem, ⟨114, _⟩ => ⟨S256x1266, .f32⟩
  | .local _ .vmem, ⟨115, _⟩ => ⟨S256x1266, .f32⟩
  | .local _ .vmem, ⟨116, _⟩ => ⟨S256x1266, .f32⟩
  | .local _ .vmem, ⟨117, _⟩ => ⟨S256x1266, .f32⟩
  | .local _ .vmem, ⟨118, _⟩ => ⟨S256x1266, .f32⟩
  | .local _ .vmem, ⟨119, _⟩ => ⟨S256x1266, .f32⟩
  | _, _ => ⟨S8x1024x1266, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg4_1 : Ref sig .tc := ⟨.vmem, 39, rfl⟩
abbrev cc1_stg5_0 : Ref sig .tc := ⟨.vmem, 40, rfl⟩
abbrev cc1_stg5_1 : Ref sig .tc := ⟨.vmem, 41, rfl⟩
abbrev cc1_stg6_0 : Ref sig .tc := ⟨.vmem, 42, rfl⟩
abbrev cc1_stg6_1 : Ref sig .tc := ⟨.vmem, 43, rfl⟩
abbrev cc1_stg7_0 : Ref sig .tc := ⟨.vmem, 44, rfl⟩
abbrev cc1_stg7_1 : Ref sig .tc := ⟨.vmem, 45, rfl⟩
abbrev cc1_stg8_0 : Ref sig .tc := ⟨.vmem, 46, rfl⟩
abbrev cc1_stg8_1 : Ref sig .tc := ⟨.vmem, 47, rfl⟩
abbrev cc1_stg9_0 : Ref sig .tc := ⟨.vmem, 48, rfl⟩
abbrev cc1_stg9_1 : Ref sig .tc := ⟨.vmem, 49, rfl⟩
abbrev cc1_stg10_0 : Ref sig .tc := ⟨.vmem, 50, rfl⟩
abbrev cc1_stg10_1 : Ref sig .tc := ⟨.vmem, 51, rfl⟩
abbrev cc1_stg11_0 : Ref sig .tc := ⟨.vmem, 52, rfl⟩
abbrev cc1_stg11_1 : Ref sig .tc := ⟨.vmem, 53, rfl⟩
abbrev cc1_stg12_0 : Ref sig .tc := ⟨.vmem, 54, rfl⟩
abbrev cc1_stg12_1 : Ref sig .tc := ⟨.vmem, 55, rfl⟩
abbrev cc1_stg13_0 : Ref sig .tc := ⟨.vmem, 56, rfl⟩
abbrev cc1_stg13_1 : Ref sig .tc := ⟨.vmem, 57, rfl⟩
abbrev cc1_stg14_0 : Ref sig .tc := ⟨.vmem, 58, rfl⟩
abbrev cc1_stg14_1 : Ref sig .tc := ⟨.vmem, 59, rfl⟩
abbrev cc2_stg0_0 : Ref sig .tc := ⟨.vmem, 60, rfl⟩
abbrev cc2_stg0_1 : Ref sig .tc := ⟨.vmem, 61, rfl⟩
abbrev cc2_stg1_0 : Ref sig .tc := ⟨.vmem, 62, rfl⟩
abbrev cc2_stg1_1 : Ref sig .tc := ⟨.vmem, 63, rfl⟩
abbrev cc2_stg2_0 : Ref sig .tc := ⟨.vmem, 64, rfl⟩
abbrev cc2_stg2_1 : Ref sig .tc := ⟨.vmem, 65, rfl⟩
abbrev cc2_stg3_0 : Ref sig .tc := ⟨.vmem, 66, rfl⟩
abbrev cc2_stg3_1 : Ref sig .tc := ⟨.vmem, 67, rfl⟩
abbrev cc2_stg4_0 : Ref sig .tc := ⟨.vmem, 68, rfl⟩
abbrev cc2_stg4_1 : Ref sig .tc := ⟨.vmem, 69, rfl⟩
abbrev cc2_stg5_0 : Ref sig .tc := ⟨.vmem, 70, rfl⟩
abbrev cc2_stg5_1 : Ref sig .tc := ⟨.vmem, 71, rfl⟩
abbrev cc2_stg6_0 : Ref sig .tc := ⟨.vmem, 72, rfl⟩
abbrev cc2_stg6_1 : Ref sig .tc := ⟨.vmem, 73, rfl⟩
abbrev cc2_stg7_0 : Ref sig .tc := ⟨.vmem, 74, rfl⟩
abbrev cc2_stg7_1 : Ref sig .tc := ⟨.vmem, 75, rfl⟩
abbrev cc2_stg8_0 : Ref sig .tc := ⟨.vmem, 76, rfl⟩
abbrev cc2_stg8_1 : Ref sig .tc := ⟨.vmem, 77, rfl⟩
abbrev cc2_stg9_0 : Ref sig .tc := ⟨.vmem, 78, rfl⟩
abbrev cc2_stg9_1 : Ref sig .tc := ⟨.vmem, 79, rfl⟩
abbrev cc2_stg10_0 : Ref sig .tc := ⟨.vmem, 80, rfl⟩
abbrev cc2_stg10_1 : Ref sig .tc := ⟨.vmem, 81, rfl⟩
abbrev cc2_stg11_0 : Ref sig .tc := ⟨.vmem, 82, rfl⟩
abbrev cc2_stg11_1 : Ref sig .tc := ⟨.vmem, 83, rfl⟩
abbrev cc2_stg12_0 : Ref sig .tc := ⟨.vmem, 84, rfl⟩
abbrev cc2_stg12_1 : Ref sig .tc := ⟨.vmem, 85, rfl⟩
abbrev cc2_stg13_0 : Ref sig .tc := ⟨.vmem, 86, rfl⟩
abbrev cc2_stg13_1 : Ref sig .tc := ⟨.vmem, 87, rfl⟩
abbrev cc2_stg14_0 : Ref sig .tc := ⟨.vmem, 88, rfl⟩
abbrev cc2_stg14_1 : Ref sig .tc := ⟨.vmem, 89, rfl⟩
abbrev cc3_stg0_0 : Ref sig .tc := ⟨.vmem, 90, rfl⟩
abbrev cc3_stg0_1 : Ref sig .tc := ⟨.vmem, 91, rfl⟩
abbrev cc3_stg1_0 : Ref sig .tc := ⟨.vmem, 92, rfl⟩
abbrev cc3_stg1_1 : Ref sig .tc := ⟨.vmem, 93, rfl⟩
abbrev cc3_stg2_0 : Ref sig .tc := ⟨.vmem, 94, rfl⟩
abbrev cc3_stg2_1 : Ref sig .tc := ⟨.vmem, 95, rfl⟩
abbrev cc3_stg3_0 : Ref sig .tc := ⟨.vmem, 96, rfl⟩
abbrev cc3_stg3_1 : Ref sig .tc := ⟨.vmem, 97, rfl⟩
abbrev cc3_stg4_0 : Ref sig .tc := ⟨.vmem, 98, rfl⟩
abbrev cc3_stg4_1 : Ref sig .tc := ⟨.vmem, 99, rfl⟩
abbrev cc3_stg5_0 : Ref sig .tc := ⟨.vmem, 100, rfl⟩
abbrev cc3_stg5_1 : Ref sig .tc := ⟨.vmem, 101, rfl⟩
abbrev cc3_stg6_0 : Ref sig .tc := ⟨.vmem, 102, rfl⟩
abbrev cc3_stg6_1 : Ref sig .tc := ⟨.vmem, 103, rfl⟩
abbrev cc3_stg7_0 : Ref sig .tc := ⟨.vmem, 104, rfl⟩
abbrev cc3_stg7_1 : Ref sig .tc := ⟨.vmem, 105, rfl⟩
abbrev cc3_stg8_0 : Ref sig .tc := ⟨.vmem, 106, rfl⟩
abbrev cc3_stg8_1 : Ref sig .tc := ⟨.vmem, 107, rfl⟩
abbrev cc3_stg9_0 : Ref sig .tc := ⟨.vmem, 108, rfl⟩
abbrev cc3_stg9_1 : Ref sig .tc := ⟨.vmem, 109, rfl⟩
abbrev cc3_stg10_0 : Ref sig .tc := ⟨.vmem, 110, rfl⟩
abbrev cc3_stg10_1 : Ref sig .tc := ⟨.vmem, 111, rfl⟩
abbrev cc3_stg11_0 : Ref sig .tc := ⟨.vmem, 112, rfl⟩
abbrev cc3_stg11_1 : Ref sig .tc := ⟨.vmem, 113, rfl⟩
abbrev cc3_stg12_0 : Ref sig .tc := ⟨.vmem, 114, rfl⟩
abbrev cc3_stg12_1 : Ref sig .tc := ⟨.vmem, 115, rfl⟩
abbrev cc3_stg13_0 : Ref sig .tc := ⟨.vmem, 116, rfl⟩
abbrev cc3_stg13_1 : Ref sig .tc := ⟨.vmem, 117, rfl⟩
abbrev cc3_stg14_0 : Ref sig .tc := ⟨.vmem, 118, rfl⟩
abbrev cc3_stg14_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem5_1 : DmaSem sig := 41
abbrev cc1_sem6_0 : DmaSem sig := 42
abbrev cc1_sem6_1 : DmaSem sig := 43
abbrev cc1_sem7_0 : DmaSem sig := 44
abbrev cc1_sem7_1 : DmaSem sig := 45
abbrev cc1_sem8_0 : DmaSem sig := 46
abbrev cc1_sem8_1 : DmaSem sig := 47
abbrev cc1_sem9_0 : DmaSem sig := 48
abbrev cc1_sem9_1 : DmaSem sig := 49
abbrev cc1_sem10_0 : DmaSem sig := 50
abbrev cc1_sem10_1 : DmaSem sig := 51
abbrev cc1_sem11_0 : DmaSem sig := 52
abbrev cc1_sem11_1 : DmaSem sig := 53
abbrev cc1_sem12_0 : DmaSem sig := 54
abbrev cc1_sem12_1 : DmaSem sig := 55
abbrev cc1_sem13_0 : DmaSem sig := 56
abbrev cc1_sem13_1 : DmaSem sig := 57
abbrev cc1_sem14_0 : DmaSem sig := 58
abbrev cc1_sem14_1 : DmaSem sig := 59
abbrev cc2_sem0_0 : DmaSem sig := 60
abbrev cc2_sem0_1 : DmaSem sig := 61
abbrev cc2_sem1_0 : DmaSem sig := 62
abbrev cc2_sem1_1 : DmaSem sig := 63
abbrev cc2_sem2_0 : DmaSem sig := 64
abbrev cc2_sem2_1 : DmaSem sig := 65
abbrev cc2_sem3_0 : DmaSem sig := 66
abbrev cc2_sem3_1 : DmaSem sig := 67
abbrev cc2_sem4_0 : DmaSem sig := 68
abbrev cc2_sem4_1 : DmaSem sig := 69
abbrev cc2_sem5_0 : DmaSem sig := 70
abbrev cc2_sem5_1 : DmaSem sig := 71
abbrev cc2_sem6_0 : DmaSem sig := 72
abbrev cc2_sem6_1 : DmaSem sig := 73
abbrev cc2_sem7_0 : DmaSem sig := 74
abbrev cc2_sem7_1 : DmaSem sig := 75
abbrev cc2_sem8_0 : DmaSem sig := 76
abbrev cc2_sem8_1 : DmaSem sig := 77
abbrev cc2_sem9_0 : DmaSem sig := 78
abbrev cc2_sem9_1 : DmaSem sig := 79
abbrev cc2_sem10_0 : DmaSem sig := 80
abbrev cc2_sem10_1 : DmaSem sig := 81
abbrev cc2_sem11_0 : DmaSem sig := 82
abbrev cc2_sem11_1 : DmaSem sig := 83
abbrev cc2_sem12_0 : DmaSem sig := 84
abbrev cc2_sem12_1 : DmaSem sig := 85
abbrev cc2_sem13_0 : DmaSem sig := 86
abbrev cc2_sem13_1 : DmaSem sig := 87
abbrev cc2_sem14_0 : DmaSem sig := 88
abbrev cc2_sem14_1 : DmaSem sig := 89
abbrev cc3_sem0_0 : DmaSem sig := 90
abbrev cc3_sem0_1 : DmaSem sig := 91
abbrev cc3_sem1_0 : DmaSem sig := 92
abbrev cc3_sem1_1 : DmaSem sig := 93
abbrev cc3_sem2_0 : DmaSem sig := 94
abbrev cc3_sem2_1 : DmaSem sig := 95
abbrev cc3_sem3_0 : DmaSem sig := 96
abbrev cc3_sem3_1 : DmaSem sig := 97
abbrev cc3_sem4_0 : DmaSem sig := 98
abbrev cc3_sem4_1 : DmaSem sig := 99
abbrev cc3_sem5_0 : DmaSem sig := 100
abbrev cc3_sem5_1 : DmaSem sig := 101
abbrev cc3_sem6_0 : DmaSem sig := 102
abbrev cc3_sem6_1 : DmaSem sig := 103
abbrev cc3_sem7_0 : DmaSem sig := 104
abbrev cc3_sem7_1 : DmaSem sig := 105
abbrev cc3_sem8_0 : DmaSem sig := 106
abbrev cc3_sem8_1 : DmaSem sig := 107
abbrev cc3_sem9_0 : DmaSem sig := 108
abbrev cc3_sem9_1 : DmaSem sig := 109
abbrev cc3_sem10_0 : DmaSem sig := 110
abbrev cc3_sem10_1 : DmaSem sig := 111
abbrev cc3_sem11_0 : DmaSem sig := 112
abbrev cc3_sem11_1 : DmaSem sig := 113
abbrev cc3_sem12_0 : DmaSem sig := 114
abbrev cc3_sem12_1 : DmaSem sig := 115
abbrev cc3_sem13_0 : DmaSem sig := 116
abbrev cc3_sem13_1 : DmaSem sig := 117
abbrev cc3_sem14_0 : DmaSem sig := 118
abbrev cc3_sem14_1 : DmaSem sig := 119

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let v1 : BitVec 32 := Scalar.addi c0_i32 arg0
  let c0_i32_0 : BitVec 32 := 0#32
  ![v0.toNat, v1.toNat]

abbrev stage0_0 : Fin 2 → Memref sig .tc .vmem S1x256x1266 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1266 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1266 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1266 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1266 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1266 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1266 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1266 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1266 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1266 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1266 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1266 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1266 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1266 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1266 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨2, ![1, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc1_transform_8 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_9 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_10 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_15 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_16 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_17 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

def cc1_transform_18 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let v1 : BitVec 32 := Scalar.addi c0_i32 arg0
  let c0_i32_0 : BitVec 32 := 0#32
  ![v0.toNat, v1.toNat]

abbrev stage1_0 : Fin 2 → Memref sig .tc .vmem S1x256x1266 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1266 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1266 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1266 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1266 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1266 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1266 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x1266 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x1266 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x1266 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x1266 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x1266 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S256x1266 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S256x1266 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S256x1266 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨2, ![1, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc2_transform_8 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_9 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_10 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_15 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_16 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_17 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc2_transform_18 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

abbrev stage2_0 : Fin 2 → Memref sig .tc .vmem S1x256x1266 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x1266 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x1266 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x1266 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x256x1266 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x256x1266 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x1266 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x256x1266 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S256x1266 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S256x1266 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S256x1266 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S256x1266 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S256x1266 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S256x1266 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S256x1266 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev grid3 : Pipeline.Grid := ⟨2, ![1, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c1_i32 : BitVec 32 := 1#32
  let c0_i32_1 : BitVec 32 := 0#32
  ![c1_i32.toNat, v0.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c2_i32 : BitVec 32 := 2#32
  let c0_i32_1 : BitVec 32 := 0#32
  ![c2_i32.toNat, v0.toNat, v1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c3_i32 : BitVec 32 := 3#32
  let c0_i32_1 : BitVec 32 := 0#32
  ![c3_i32.toNat, v0.toNat, v1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c4_i32 : BitVec 32 := 4#32
  let c0_i32_1 : BitVec 32 := 0#32
  ![c4_i32.toNat, v0.toNat, v1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c5_i32 : BitVec 32 := 5#32
  let c0_i32_1 : BitVec 32 := 0#32
  ![c5_i32.toNat, v0.toNat, v1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c6_i32 : BitVec 32 := 6#32
  let c0_i32_1 : BitVec 32 := 0#32
  ![c6_i32.toNat, v0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c7_i32 : BitVec 32 := 7#32
  let c0_i32_1 : BitVec 32 := 0#32
  ![c7_i32.toNat, v0.toNat, v1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage3_0 : Fin 2 → Memref sig .tc .vmem S1x256x1266 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x1266 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x1266 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x256x1266 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x256x1266 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x256x1266 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x256x1266 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x256x1266 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S256x1266 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S256x1266 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S256x1266 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S256x1266 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S256x1266 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 2 → Memref sig .tc .vmem S256x1266 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true]

abbrev stage3_14 : Fin 2 → Memref sig .tc .vmem S256x1266 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]
-- ==== StepInRefIdeal.lean ====
abbrev S8x1024x1266 : Shape := ⟨3, ![8, 1024, 1266]⟩
abbrev S4096x1266 : Shape := ⟨2, ![4096, 1266]⟩
abbrev S8x4096x1266 : Shape := ⟨3, ![8, 4096, 1266]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x1266, .bf16⟩
  | .hbm, ⟨1, _⟩ => ⟨S8x1024x1266, .bf16⟩
  | .hbm, ⟨2, _⟩ => ⟨S8x1024x1266, .bf16⟩
  | .hbm, ⟨3, _⟩ => ⟨S8x1024x1266, .bf16⟩
  | .hbm, ⟨4, _⟩ => ⟨S4096x1266, .f32⟩
  | .hbm, ⟨5, _⟩ => ⟨S4096x1266, .f32⟩
  | .hbm, ⟨6, _⟩ => ⟨S4096x1266, .f32⟩
  | .hbm, ⟨7, _⟩ => ⟨S8x4096x1266, .bf16⟩
  | .hbm, ⟨8, _⟩ => ⟨S8x4096x1266, .f32⟩
  | .hbm, ⟨9, _⟩ => ⟨S_, .f32⟩
  | .hbm, ⟨10, _⟩ => ⟨S4096x1266, .f32⟩
  | .hbm, ⟨11, _⟩ => ⟨S_, .f32⟩
  | .hbm, ⟨12, _⟩ => ⟨S4096x1266, .f32⟩
  | .hbm, ⟨13, _⟩ => ⟨S4096x1266, .f32⟩
  | .hbm, ⟨14, _⟩ => ⟨S_, .f32⟩
  | .hbm, ⟨15, _⟩ => ⟨S4096x1266, .f32⟩
  | .hbm, ⟨16, _⟩ => ⟨S4096x1266, .f32⟩
  | .hbm, ⟨17, _⟩ => ⟨S4096x1266, .f32⟩
  | .hbm, ⟨18, _⟩ => ⟨S_, .f32⟩
  | .hbm, ⟨19, _⟩ => ⟨S4096x1266, .f32⟩
  | .hbm, ⟨20, _⟩ => ⟨S4096x1266, .f32⟩
  | .hbm, ⟨21, _⟩ => ⟨S4096x1266, .f32⟩
  | .hbm, ⟨22, _⟩ => ⟨S_, .f32⟩
  | .hbm, ⟨23, _⟩ => ⟨S4096x1266, .f32⟩
  | .hbm, ⟨24, _⟩ => ⟨S4096x1266, .f32⟩
  | .hbm, ⟨25, _⟩ => ⟨S4096x1266, .f32⟩
  | .hbm, ⟨26, _⟩ => ⟨S_, .f32⟩
  | .hbm, ⟨27, _⟩ => ⟨S4096x1266, .f32⟩
  | .hbm, ⟨28, _⟩ => ⟨S4096x1266, .f32⟩
  | .hbm, ⟨29, _⟩ => ⟨S_, .f32⟩
  | .hbm, ⟨30, _⟩ => ⟨S4096x1266, .f32⟩
  | .hbm, ⟨31, _⟩ => ⟨S4096x1266, .f32⟩
  | .hbm, ⟨32, _⟩ => ⟨S4096x1266, .f32⟩
  | .hbm, ⟨33, _⟩ => ⟨S_, .f32⟩
  | .hbm, ⟨34, _⟩ => ⟨S4096x1266, .f32⟩
  | .hbm, ⟨35, _⟩ => ⟨S4096x1266, .f32⟩
  | .hbm, ⟨36, _⟩ => ⟨S4096x1266, .f32⟩
  | .hbm, ⟨37, _⟩ => ⟨S_, .f32⟩
  | .hbm, ⟨38, _⟩ => ⟨S4096x1266, .f32⟩
  | .hbm, ⟨39, _⟩ => ⟨S4096x1266, .f32⟩
  | .hbm, ⟨40, _⟩ => ⟨S4096x1266, .f32⟩
  | .hbm, ⟨41, _⟩ => ⟨S_, .f32⟩
  | .hbm, ⟨42, _⟩ => ⟨S4096x1266, .f32⟩
  | .hbm, ⟨43, _⟩ => ⟨S4096x1266, .f32⟩
  | _, _ => ⟨S8x1024x1266, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Proof.Body.lean ====
module

public import proofs.«01_k».proof.Proof.Gen.KernelIdeal

@[expose] public section

/-!
  One chunk of the kernel, as functions of what it loads.

  `In` holds the loaded blocks; the functions below follow the kernel's operations with the pair of heads `k` (0…7) or
  the head `h` (0…15) left as a parameter, where the kernel repeats the same lines for each.
-/

noncomputable section

namespace Cert.Ssd

open Idealize.ShloMosaic Cert.KernelIdeal Cert.KernelIdeal.Gen

/-- A 128×128 block. -/
abbrev V := FVec Ideal S128x128 .f32
/-- A column. -/
abbrev Vc := FVec Ideal S128x1 .f32
/-- A row. -/
abbrev Vr := FVec Ideal S1x128 .f32
/-- A single entry. -/
abbrev Vs := FVec Ideal S1x1 .f32

/-- The blocks one chunk loads: `X` the column blocks of the convolved rows (pairs 0…7, then `B` of both groups, then
    `C` of both groups), `raw` the step sizes, `H` the entering states, `Dy` the output's cotangent, `A`, `Bi`, `D` the
    rows of decay rates, biases and skip weights, `E` the cotangents of the states handed on. -/
structure In where
  X : Fin 12 → V
  raw : V
  H : Fin 8 → V
  Dy : Fin 8 → V
  A : Vr
  Bi : Vr
  D : Fin 8 → Vr
  E : Fin 8 → V

/-- The block of zeros. -/
def zeroV : V := broadcast S128x128 (FloatOps.ofBits (F := Ideal) FTy.f32 0x00000000#32)
/-- The column of zeros. -/
def zeroC : Vc := broadcast S128x1 (FloatOps.ofBits (F := Ideal) FTy.f32 0x00000000#32)
/-- The block of ones. -/
def oneV : V := broadcast S128x128 (FloatOps.ofBits (F := Ideal) FTy.f32 0x3F800000#32)
/-- The zero block a product starts from. -/
def accV : V := constant S128x128 FTy.f32 0x00000000#32
/-- Lane numbers of a row. -/
def laneI : IVec S1x128 32 := iota .tc S1x128 32 [1] iota_S1x128_d1_w32
/-- Row numbers of a column. -/
def rowI : IVec S128x1 32 := iota .tc S128x1 32 [0] iota_S128x1_d0_w32
/-- Row numbers of a block. -/
def rows : IVec S128x128 32 := iota .tc S128x128 32 [0] iota_S128x128_d0_w32
/-- Lane numbers of a block. -/
def cols : IVec S128x128 32 := iota .tc S128x128 32 [1] iota_S128x128_d1_w32
/-- The lower triangle. -/
def tril : IVec S128x128 1 := cmpi .sge rows cols
/-- The lower triangle as ones and zeros. -/
def trilF : V := sitofp .f32 (extui 32 tril natLt_1_32)
/-- The upper triangle as ones and zeros. -/
def triuF : V := sitofp .f32 (extui 32 (cmpi .sle rows cols) natLt_1_32)
/-- The lanes of a pair's first head. -/
def lowL : IVec S1x128 1 := cmpi .slt laneI (broadcast S1x128 64#32)
/-- The rows of a pair's first head in its state. -/
def lowR : IVec S128x1 1 := cmpi .slt rowI (broadcast S128x1 64#32)
/-- One in the last row. -/
def lastC : Vc := sitofp .f32 (extui 32 (cmpi .eq rowI (broadcast S128x1 127#32)) natLt_1_32)
/-- One in lane `h`. -/
def hotL (h : Nat) : Vr :=
  sitofp .f32 (extui 32 (cmpi .eq laneI (broadcast S1x128 (BitVec.ofNat 32 h))) natLt_1_32)
/-- One in row `h`. -/
def hotR (h : Nat) : Vc :=
  sitofp .f32 (extui 32 (cmpi .eq rowI (broadcast S128x1 (BitVec.ofNat 32 h))) natLt_1_32)
/-- Sums of the rows. -/
def sumL (v : V) : Vc :=
  shapeCast S128x1 (multiReduction .add [1] S128 v 0x00000000#32 reduces_S128x128_S128 (.inl rfl) rfl) shapeCasts_S128_S128x1
/-- Sums of the columns. -/
def sumR (v : V) : Vr :=
  shapeCast S1x128 (multiReduction .add [0] S128 v 0x00000000#32 reduces_S128x128_S128_2 (.inl rfl) rfl) shapeCasts_S128_S1x128
/-- The sum of a column. -/
def sumC (v : Vc) : Vs :=
  shapeCast S1x1 (multiReduction .add [0] S1 v 0x00000000#32 reduces_S128x1_S1 (.inl rfl) rfl) shapeCasts_S1_S1x1
/-- A column in every lane. -/
def bcC (v : Vc) : V := broadcastTo S128x128 v broadcasts_S128x1_S128x128
/-- A row in every row. -/
def bcR (v : Vr) : V := broadcastTo S128x128 v broadcasts_S1x128_S128x128
/-- The sum of a column, by the other form of the reduction. -/
def sumAll (v : Vc) : Vs :=
  broadcast S1x1 (extractAt ![0, 0, 0]
    (shapeCast S1x1x1 (multiReduction .add [1, 2] S1 (shapeCast S1x128x1 v shapeCasts_S128x1_S1x128x1) 0x00000000#32
      reduces_S1x128x1_S1 (.inl rfl) rfl) shapeCasts_S1_S1x1x1) inpos_S1x1x1_p0_0_0)
/-- One entry in every row. -/
def spread (v : Vs) : Vc :=
  broadcastTo S128x1 (shapeCast S1x1 (broadcast S1 (extractAt ![0, 0, 0]
    (shapeCast S1x1x1 (multiReduction .add [1, 2] S1 (shapeCast S1x1x1 v shapeCasts_S1x1_S1x1x1) 0x00000000#32
      reduces_S1x1x1_S1 (.inl rfl) rfl) shapeCasts_S1_S1x1x1) inpos_S1x1x1_p0_0_0)) shapeCasts_S1_S1x1)
    broadcasts_S1x1_S128x1
/-- A column put in lane `h`. -/
def putL (v : Vc) (h : Nat) : V :=
  mulf (bcC (shapeCast S128x1 (multiReduction .add [1] S128 v 0x00000000#32 reduces_S128x1_S128 (.inl rfl) rfl)
    shapeCasts_S128_S128x1)) (bcR (hotL h))
/-- A row put in row `h`. -/
def putR (v : Vr) (h : Nat) : V :=
  mulf (bcR (shapeCast S1x128 (multiReduction .add [0] S128 v 0x00000000#32 reduces_S1x128_S128 (.inl rfl) rfl)
    shapeCasts_S128_S1x128)) (bcC (hotR h))
/-- The lanes of a pair's first head, in every row. -/
def lowM : IVec S128x128 1 := broadcastTo S128x128 (shapeCast S1x128 lowL shapeCasts_S1x128_S1x128) broadcasts_S1x128_S128x128
/-- One column for the lanes of the first head, another for the second's. -/
def pick (a b : Vc) : V :=
  select lowM (bcC (shapeCast S128x1 a shapeCasts_S128x1_S128x1)) (bcC (shapeCast S128x1 b shapeCasts_S128x1_S128x1))
/-- The part of a block in the lanes of head `q` of the pair. -/
def part (q : Bool) (v : V) : V := cond q (select lowM zeroV v) (select lowM v zeroV)
/-- The part of a column in the state rows of head `q` of the pair. -/
def partR (q : Bool) (v : Vc) : Vc := cond q (select lowR zeroC v) (select lowR v zeroC)
/-- `x` times the transpose of `y`. -/
def mulT (x y : V) : V :=
  matmul dot_S128x128_S128x128_S128x128_1_1_0_0_n_n none (truncf .bf16 x bitsLt_bf16_f32) (truncf .bf16 y bitsLt_bf16_f32) accV
/-- `x` times `y`. -/
def mulN (x y : V) : V :=
  matmul dot_S128x128_S128x128_S128x128_1_0_0_1_n_n none (truncf .bf16 x bitsLt_bf16_f32) (truncf .bf16 y bitsLt_bf16_f32) accV
/-- The transpose of `x` times `y`. -/
def Tmul (x y : V) : V :=
  matmul dot_S128x128_S128x128_S128x128_0_0_1_1_n_n none (truncf .bf16 x bitsLt_bf16_f32) (truncf .bf16 y bitsLt_bf16_f32) accV
/-- `x` times `y` in full precision. -/
def mulH (x y : V) : V := matmul dot_S128x128_S128x128_S128x128_1_0_0_1_n_n (some .fp32) x y accV
/-- A block, restated. -/
def same (v : V) : V := shapeCast S128x128 v shapeCasts_S128x128_S128x128

namespace In

variable (I : In)

/-- Step sizes before the softplus, a lane a head. -/
def u : V := addf I.raw (bcR I.Bi)
/-- Step sizes. -/
def dt : V := addf (maximumf I.u zeroV) (log (addf oneV (exp (subf zeroV (absf I.u)))))
/-- Running sums of the log decays. -/
def acs : V := mulH trilF (mulf I.dt (bcR I.A))
/-- The running sums, a row a head. -/
def acsT : V := transpose S128x128 [1, 0] I.acs transposes_S128x128_p1_0_S128x128
/-- The group's `B` and `C`. -/
def B (g : Fin 2) : V := I.X ⟨8 + g.1, by omega⟩

/-- The `C` rows of a group. -/
def C (g : Fin 2) : V := I.X ⟨10 + g.1, by omega⟩
/-- Products of the rows of `C` and `B`. -/
def G (g : Fin 2) : V := mulT (I.C g) (I.B g)
/-- The head's column of running sums. -/
def col (h : Nat) : Vc := sumL (mulf I.acs (bcR (hotL h)))
/-- The head's column of step sizes. -/
def dtc (h : Nat) : Vc := sumL (mulf I.dt (bcR (hotL h)))
/-- The head's row of running sums. -/
def row (h : Nat) : Vr := sumR (mulf I.acsT (bcC (hotR h)))
/-- The head's last running sum. -/
def clast (h : Nat) : Vs := sumC (mulf (I.col h) lastC)
/-- The head's decays between rows. -/
def L (h : Nat) : V :=
  exp (select tril (subf (bcC (I.col h)) (bcR (I.row h)))
    (broadcast S128x128 (Named.named (F := Ideal) κ "mask" 0xF149F2CA#32)))
/-- The head's decay from the chunk's start. -/
def out (h : Nat) : Vc := exp (I.col h)
/-- The head's decay to the chunk's end. -/
def dec (h : Nat) : Vc := exp (subf (broadcastTo S128x1 (I.clast h) broadcasts_S1x1_S128x1) (I.col h))
/-- The head's decay over the chunk. -/
def keep (h : Nat) : Vs := exp (I.clast h)

/-- The group of a pair. -/
def grp (k : Fin 8) : Fin 2 := ⟨k.1 / 4, by omega⟩
/-- The first head and the second. -/
def hd (k : Fin 8) (q : Bool) : Nat := 2 * k.1 + cond q 1 0

/-- The pair's rows. -/
def x (k : Fin 8) : V := I.X ⟨k.1, by omega⟩
/-- The head's mixing matrix. -/
def M (k : Fin 8) (q : Bool) : V := mulf (I.G (grp k)) (I.L (hd k q))
/-- The pair's step sizes. -/
def dtS (k : Fin 8) : V := pick (I.dtc (hd k false)) (I.dtc (hd k true))
/-- Rows scaled by step sizes. -/
def xd (k : Fin 8) : V := mulf (I.x k) (I.dtS k)
/-- The pair's decay from the chunk's start. -/
def outS (k : Fin 8) : V := pick (I.out (hd k false)) (I.out (hd k true))
/-- `C` applied to the entering state. -/
def CH (k : Fin 8) : V := mulT (I.C (grp k)) (I.H k)
/-- The pair's decay to the chunk's end. -/
def decS (k : Fin 8) : V := pick (I.dec (hd k false)) (I.dec (hd k true))
/-- The pair's decay over the chunk. -/
def keepS (k : Fin 8) : Vc :=
  select lowR (broadcastTo S128x1 (shapeCast S1x1 (I.keep (hd k false)) shapeCasts_S1x1_S1x1) broadcasts_S1x1_S128x1)
    (broadcastTo S128x1 (shapeCast S1x1 (I.keep (hd k true)) shapeCasts_S1x1_S1x1) broadcasts_S1x1_S128x1)
/-- `B` applied to the cotangent of the state handed on. -/
def BE (k : Fin 8) : V := mulT (I.B (grp k)) (same (I.E k))
/-- The pair's share of the gradient of `B` through the state handed on. -/
def dB1 (k : Fin 8) : V := mulN (mulf (I.xd k) (I.decS k)) (same (I.E k))
/-- The cotangent of the head's decay over the chunk. -/
def hE (k : Fin 8) (q : Bool) : Vs := sumAll (partR q (sumL (mulf (I.H k) (same (I.E k)))))
/-- The cotangent of the logarithm of the head's decay to the end. -/
def dterm (k : Fin 8) (q : Bool) : Vc := mulf (sumL (part q (mulf (I.xd k) (I.BE k)))) (I.dec (hd k q))
/-- The cotangent of the head's last running sum. -/
def tail (k : Fin 8) (q : Bool) : Vs := addf (mulf (I.hE k q) (I.keep (hd k q))) (sumC (I.dterm k q))
/-- The output's cotangent. -/
def dy (k : Fin 8) : V := same (I.Dy k)
/-- The chunk's share of the gradient of the skip weights. -/
def dd (k : Fin 8) : Vr := sumR (mulf (I.dy k) (I.x k))
/-- The output's cotangent times the decay from the chunk's start. -/
def dyo (k : Fin 8) : V := mulf (I.outS k) (I.dy k)
/-- The pair's share of the gradient of `C` through the entering state. -/
def dC1 (k : Fin 8) : V := mulN (I.dyo k) (I.H k)
/-- The cotangent handed on to the chunk before. -/
def newE (k : Fin 8) : V := addf (mulf (same (I.E k)) (bcC (I.keepS k))) (Tmul (I.dyo k) (I.C (grp k)))
/-- The head's `dout`, times the decay. -/
def dout (k : Fin 8) (q : Bool) : Vc := mulf (sumL (part q (mulf (I.dy k) (I.CH k)))) (I.out (hd k q))
/-- The cotangent of the head's mixing matrix. -/
def dM (k : Fin 8) (q : Bool) : V := mulT (part q (I.dy k)) (I.xd k)
/-- The cotangent of the scaled rows. -/
def dxd (k : Fin 8) : V :=
  addf (addf (mulf (I.BE k) (I.decS k)) (Tmul (I.M k true) (part true (I.dy k)))) (Tmul (I.M k false) (part false (I.dy k)))
/-- The gradient of the rows. -/
def dx (k : Fin 8) : V := addf (mulf (bcR (I.D k)) (I.dy k)) (mulf (I.dxd k) (I.dtS k))
/-- The head's share of the cotangent of the step sizes through the scaled rows. -/
def ddt1 (k : Fin 8) (q : Bool) : Vc := sumL (part q (mulf (I.x k) (I.dxd k)))
/-- The head's share of the gradient of the products of rows. -/
def dGh (k : Fin 8) (q : Bool) : V := mulf (I.dM k q) (I.L (hd k q))
/-- The cotangent of the head's log decays between rows. -/
def dseg (k : Fin 8) (q : Bool) : V :=
  select tril (mulf (mulf (I.G (grp k)) (I.dM k q)) (I.L (hd k q))) zeroV
/-- The columns of it, negated and summed. -/
def dsegR (k : Fin 8) (q : Bool) : Vr := sumR (subf zeroV (I.dseg k q))
/-- The rest of the cotangent of the running sums. -/
def dcol (k : Fin 8) (q : Bool) : Vc :=
  addf (addf (addf (subf zeroC (I.dterm k q)) (I.dout k q)) (sumL (I.dseg k q))) (mulf (spread (I.tail k q)) lastC)

/-- A sum over the heads in the order 15, 14, …, 0. -/
def heads (f : Fin 8 → Bool → V) : V :=
  [(7, false), (6, true), (6, false), (5, true), (5, false), (4, true), (4, false), (3, true), (3, false), (2, true),
    (2, false), (1, true), (1, false), (0, true), (0, false)].foldl (fun a p => addf a (f p.1 p.2)) (f 7 true)
/-- A sum over a group's pairs, the last first. -/
def pairs (g : Fin 2) (f : Fin 8 → V) : V :=
  [2, 1, 0].foldl (fun a r => addf a (f ⟨(4 * g.1 + r) % 8, by omega⟩)) (f ⟨4 * g.1 + 3, by omega⟩)
/-- A sum over a group's heads, the last first. -/
def gheads (g : Fin 2) (f : Fin 8 → Bool → V) : V :=
  [(3, false), (2, true), (2, false), (1, true), (1, false), (0, true), (0, false)].foldl
    (fun a (p : Nat × Bool) => addf a (f ⟨(4 * g.1 + p.1) % 8, by omega⟩ p.2)) (f ⟨4 * g.1 + 3, by omega⟩ true)

/-- The gradient of the group's products of rows. -/
def dG (g : Fin 2) : V := gheads g I.dGh
/-- The gradient of the group's `C`. -/
def dC (g : Fin 2) : V := addf (pairs g I.dC1) (mulN (I.dG g) (I.B g))
/-- The gradient of the group's `B`. -/
def dB (g : Fin 2) : V := addf (pairs g I.dB1) (Tmul (I.dG g) (I.C g))
/-- The cotangent of the running sums, a lane a head. -/
def dacs : V :=
  addf (heads fun k q => putL (I.dcol k q) (hd k q))
    (transpose S128x128 [1, 0] (heads fun k q => putR (I.dsegR k q) (hd k q)) transposes_S128x128_p1_0_S128x128)
/-- The cotangent of the log decays. -/
def dda : V := mulH triuF I.dacs
/-- The chunk's share of the gradient of the decay rates. -/
def da : Vr := sumR (mulf I.dt I.dda)
/-- The cotangent of the step sizes before the softplus. -/
def du : V := mulf (addf (heads fun k q => putL (I.ddt1 k q) (hd k q)) (mulf I.dda (bcR I.A))) (logistic I.u)
/-- The chunk's share of the gradient of the biases. -/
def ddtb : Vr := sumR I.du

end In

end Cert.Ssd

end
-- ==== Proof.Words.lean ====
module

public import proofs.«01_k».proof.Proof.Body
public import proofs.«01_k».proof.Proof.Gen.KernelIdeal.Frame

@[expose] public section

set_option maxRecDepth 16384

/-!
  The pieces the kernel's stores leave at a point after the first, in terms of the functions of `Body.lean`: the kernel's
  operations are those functions, by unfolding.
-/

noncomputable section

namespace Cert.Ssd

open Idealize.ShloMosaic Idealize.ShloMosaic.Tactic Cert.KernelIdeal Cert.KernelIdeal.Gen

/-- A column block of the inputs lies inside. -/
theorem inb_x (k : Fin 12) : ∀ a, (![0, 128 * k.1] : Fin 2 → Nat) a + S128x128.size a ≤ S128x1536.size a := by
  decide +revert

/-- A column block of the outputs' gradient lies inside. -/
theorem inb_dy (k : Fin 8) : ∀ a, (![0, 128 * k.1] : Fin 2 → Nat) a + S128x128.size a ≤ S128x1024.size a := by
  decide +revert

/-- A pair's skip weights lie inside. -/
theorem inb_d (k : Fin 8) : ∀ a, (![0, 128 * k.1] : Fin 2 → Nat) a + S1x128.size a ≤ S1x1024.size a := by
  decide +revert

/-- A pair's state lies inside the block of states. -/
theorem inb_h (k : Fin 8) :
    ∀ a, (![0, k.1, 0, 0] : Fin 4 → Nat) a + S1x1x128x128.size a ≤ S1x8x128x128.size a := by
  decide +revert

/-- A pair's state gradient lies inside scratch. -/
theorem inb_e (k : Fin 8) : ∀ a, (![k.1, 0, 0] : Fin 3 → Nat) a + S1x128x128.size a ≤ S8x128x128.size a := by
  decide +revert

variable (c : Dev nD) (i : grid0.Coords) (arg1 : Memref sig .tc .vmem S128x1536 .f32) (harg1 : arg1.IsWhole)
  (arg2 : Memref sig .tc .vmem S128x128 .f32) (harg2 : arg2.IsWhole) (arg3 : Memref sig .tc .vmem S1x8x128x128 .f32)
  (harg3 : arg3.IsWhole) (arg4 : Memref sig .tc .vmem S128x1024 .f32) (harg4 : arg4.IsWhole)
  (arg5 : Memref sig .tc .vmem S1x128 .f32) (harg5 : arg5.IsWhole) (arg6 : Memref sig .tc .vmem S1x128 .f32)
  (harg6 : arg6.IsWhole) (arg7 : Memref sig .tc .vmem S1x1024 .f32) (harg7 : arg7.IsWhole)
  (arg9 : Memref sig .tc .vmem S128x1536 .f32) (harg9 : arg9.IsWhole) (arg10 : Memref sig .tc .vmem S128x256 .bf16)
  (harg10 : arg10.IsWhole) (arg11 : Memref sig .tc .vmem S1x128 .f32) (harg11 : arg11.IsWhole)
  (arg12 : Memref sig .tc .vmem S1x128 .f32) (harg12 : arg12.IsWhole) (arg13 : Memref sig .tc .vmem S1x1024 .f32)
  (harg13 : arg13.IsWhole) (arg14 : Memref sig .tc .vmem S8x128x128 .f32) (harg14 : arg14.IsWhole) (hB : ¬cond0_0 i) (hA : cond0_0 i)
  (x0 : Vec Ideal S128x1536 .f32) (x1 : Vec Ideal S128x128 .f32) (x2 : Vec Ideal S1x8x128x128 .f32)
  (x3 : Vec Ideal S128x1024 .f32) (x4 x5 : Vec Ideal S1x128 .f32) (x6 : Vec Ideal S1x1024 .f32)
  (xo9 xo10 : Vec Ideal S1x128 .f32) (xo11 : Vec Ideal S1x1024 .f32) (xs0 : Vec Ideal S8x128x128 .f32)

/-- The blocks a point loads from its staging buffers, the states handed on given. -/
def inOf (E : Fin 8 → V) : In where
  X k := View.readAt (Elt Ideal) arg1.view (Rect.unit (s := S128x1536) ![0, 128 * k.1] S128x128.size (inb_x k)).toLoadRect (harg1.unread x0)
  raw := View.readAt (Elt Ideal) arg2.view (Rect.unit ![0, 0] S128x128.size inb_S128x128_S128x128_0_0).toLoadRect (harg2.unread x1)
  H k := shapeCast S128x128 (View.readAt (Elt Ideal) arg3.view
    (Rect.unit (s := S1x8x128x128) ![0, k.1, 0, 0] S1x1x128x128.size (inb_h k)).toLoadRect (harg3.unread x2)) shapeCasts_S1x1x128x128_S128x128
  Dy k := View.readAt (Elt Ideal) arg4.view (Rect.unit (s := S128x1024) ![0, 128 * k.1] S128x128.size (inb_dy k)).toLoadRect (harg4.unread x3)
  A := shapeCast S1x128 (View.readAt (Elt Ideal) arg5.view
    (Rect.unit ![0, 0] S1x128.size inb_S1x128_S1x128_0_0).toLoadRect (harg5.unread x4)) shapeCasts_S1x128_S1x128
  Bi := shapeCast S1x128 (View.readAt (Elt Ideal) arg6.view
    (Rect.unit ![0, 0] S1x128.size inb_S1x128_S1x128_0_0).toLoadRect (harg6.unread x5)) shapeCasts_S1x128_S1x128
  D k := shapeCast S1x128 (View.readAt (Elt Ideal) arg7.view
    (Rect.unit (s := S1x1024) ![0, 128 * k.1] S1x128.size (inb_d k)).toLoadRect (harg7.unread x6)) shapeCasts_S1x128_S1x128
  E := E

/-- The cotangents of the states, as loaded from the scratch. -/
def scE (k : Fin 8) : V :=
  shapeCast S128x128 (View.readAt (Elt Ideal) arg14.view
    (Rect.unit (s := S8x128x128) ![k.1, 0, 0] S1x128x128.size (inb_e k)).toLoadRect (harg14.unread xs0)) shapeCasts_S1x128x128_S128x128

/-- The pieces of the gradient of the convolved rows. -/
theorem pieces_B_7 :
    (kernelRun0_B (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0).1 =
    ⟨Rect.unit ![0, 1408] S128x128.size inb_S128x1536_S128x128_0_1408, (inOf arg1 harg1 arg2 harg2 arg3 harg3 arg4 harg4 arg5 harg5 arg6 harg6 arg7 harg7 x0 x1 x2 x3 x4 x5 x6
        (scE arg14 harg14 xs0)).dC 1⟩ ::
    ⟨Rect.unit ![0, 1152] S128x128.size inb_S128x1536_S128x128_0_1152, (inOf arg1 harg1 arg2 harg2 arg3 harg3 arg4 harg4 arg5 harg5 arg6 harg6 arg7 harg7 x0 x1 x2 x3 x4 x5 x6
        (scE arg14 harg14 xs0)).dB 1⟩ ::
    ⟨Rect.unit ![0, 1280] S128x128.size inb_S128x1536_S128x128_0_1280, (inOf arg1 harg1 arg2 harg2 arg3 harg3 arg4 harg4 arg5 harg5 arg6 harg6 arg7 harg7 x0 x1 x2 x3 x4 x5 x6
        (scE arg14 harg14 xs0)).dC 0⟩ ::
    ⟨Rect.unit ![0, 1024] S128x128.size inb_S128x1536_S128x128_0_1024, (inOf arg1 harg1 arg2 harg2 arg3 harg3 arg4 harg4 arg5 harg5 arg6 harg6 arg7 harg7 x0 x1 x2 x3 x4 x5 x6
        (scE arg14 harg14 xs0)).dB 0⟩ ::
    [7, 6, 5, 4, 3, 2, 1, 0].map fun k : Fin 8 => ⟨Rect.unit ![0, 128 * k.1] S128x128.size (inb_x ⟨k.1, by omega⟩),
      (inOf arg1 harg1 arg2 harg2 arg3 harg3 arg4 harg4 arg5 harg5 arg6 harg6 arg7 harg7 x0 x1 x2 x3 x4 x5 x6
        (scE arg14 harg14 xs0)).dx k⟩ := by
  sl_kernel_rfl

/-- The pieces of the block of the projection's gradient. -/
theorem pieces_B_8 :
    (kernelRun0_B (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0).2.1 =
    [⟨Rect.unit ![0, 128] S128x128.size inb_S128x256_S128x128_0_128, broadcast S128x128 (FloatOps.ofBits (F := Ideal) FTy.bf16 0#16)⟩,
     ⟨Rect.unit ![0, 0] S128x128.size inb_S128x256_S128x128_0_0, truncf .bf16 (inOf arg1 harg1 arg2 harg2 arg3 harg3 arg4 harg4 arg5 harg5 arg6 harg6 arg7 harg7 x0 x1 x2 x3 x4 x5 x6
        (scE arg14 harg14 xs0)).du bitsLt_bf16_f32⟩] := by
  sl_kernel_rfl

/-- The piece of the sum of the decay rates' gradients. -/
theorem pieces_B_9 :
    (kernelRun0_B (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0).2.2.1 =
    [⟨Rect.unit ![0, 0] S1x128.size inb_S1x128_S1x128_0_0, addf (shapeCast S1x128 (View.readAt (Elt Ideal) arg11.view (Rect.unit ![0, 0] S1x128.size inb_S1x128_S1x128_0_0).toLoadRect (harg11.unread xo9)) shapeCasts_S1x128_S1x128) (inOf arg1 harg1 arg2 harg2 arg3 harg3 arg4 harg4 arg5 harg5 arg6 harg6 arg7 harg7 x0 x1 x2 x3 x4 x5 x6
        (scE arg14 harg14 xs0)).da⟩] := by
  sl_kernel_rfl

/-- The piece of the sum of the biases' gradients. -/
theorem pieces_B_10 :
    (kernelRun0_B (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0).2.2.2.1 =
    [⟨Rect.unit ![0, 0] S1x128.size inb_S1x128_S1x128_0_0, addf (shapeCast S1x128 (View.readAt (Elt Ideal) arg12.view (Rect.unit ![0, 0] S1x128.size inb_S1x128_S1x128_0_0).toLoadRect (harg12.unread xo10)) shapeCasts_S1x128_S1x128) (inOf arg1 harg1 arg2 harg2 arg3 harg3 arg4 harg4 arg5 harg5 arg6 harg6 arg7 harg7 x0 x1 x2 x3 x4 x5 x6
        (scE arg14 harg14 xs0)).ddtb⟩] := by
  sl_kernel_rfl

/-- The pieces of the sum of the skip weights' gradients. -/
theorem pieces_B_11 :
    (kernelRun0_B (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0).2.2.2.2.1 =
    [7, 6, 5, 4, 3, 2, 1, 0].map fun k : Fin 8 => ⟨Rect.unit ![0, 128 * k.1] S1x128.size (inb_d k),
      addf (shapeCast S1x128 (View.readAt (Elt Ideal) arg13.view (Rect.unit (s := S1x1024) ![0, 128 * k.1] S1x128.size (inb_d k)).toLoadRect (harg13.unread xo11)) shapeCasts_S1x128_S1x128)
        ((inOf arg1 harg1 arg2 harg2 arg3 harg3 arg4 harg4 arg5 harg5 arg6 harg6 arg7 harg7 x0 x1 x2 x3 x4 x5 x6
        (scE arg14 harg14 xs0)).dd k)⟩ := by
  sl_kernel_rfl

/-- The pieces of the states' cotangents, in the scratch. -/
theorem pieces_B_sc :
    (kernelRun0_B (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0).2.2.2.2.2.1 =
    [7, 6, 5, 4, 3, 2, 1, 0].map fun k : Fin 8 => ⟨Rect.unit ![k.1, 0, 0] S1x128x128.size (inb_e k),
      shapeCast S1x128x128 ((inOf arg1 harg1 arg2 harg2 arg3 harg3 arg4 harg4 arg5 harg5 arg6 harg6 arg7 harg7 x0 x1 x2 x3 x4 x5 x6
        (scE arg14 harg14 xs0)).newE k) shapeCasts_S128x128_S1x128x128⟩ := by
  sl_kernel_rfl

/-- The zeros a row of sums starts from. -/
def zeroL : List (View.Piece (Elt Ideal) S1x128 .f32) :=
  [⟨Rect.unit ![0, 0] S1x128.size inb_S1x128_S1x128_0_0,
    broadcast S1x128 (FloatOps.ofBits (F := Ideal) FTy.f32 0x00000000#32)⟩]
/-- The zeros the scratch starts from. -/
def zeroS : List (View.Piece (Elt Ideal) S8x128x128 .f32) :=
  [⟨Rect.unit ![0, 0, 0] S8x128x128.size inb_S8x128x128_S8x128x128_0_0_0,
    shapeCast S8x128x128 (broadcast S8x128x128 (FloatOps.ofBits (F := Ideal) FTy.f32 0x00000000#32))
      shapeCasts_S8x128x128_S8x128x128⟩]
/-- The cotangents of the states, as loaded from the zeroed scratch. -/
def scZ (k : Fin 8) : V :=
  shapeCast S128x128 (arg14.view.readCov (Val := Elt Ideal) zeroS
    (Rect.unit (s := S8x128x128) ![k.1, 0, 0] S1x128x128.size (inb_e k)).toLoadRect) shapeCasts_S1x128x128_S128x128
/-- The stores of the sums of the skip weights' gradients at the first point, the last first. -/
def ddL (dd : Fin 8 → Vr) : List (View.Piece (Elt Ideal) S1x1024 .f32) :=
  [0, 1, 2, 3, 4, 5, 6, 7].foldl (fun L (k : Fin 8) =>
    ⟨Rect.unit ![0, 128 * k.1] S1x128.size (inb_d k),
      addf (shapeCast S1x128 (arg13.view.readCov (Val := Elt Ideal) L
        (Rect.unit (s := S1x1024) ![0, 128 * k.1] S1x128.size (inb_d k)).toLoadRect) shapeCasts_S1x128_S1x128) (dd k)⟩ :: L)
    [⟨Rect.unit ![0, 0] S1x1024.size inb_S1x1024_S1x1024_0_0,
      broadcast S1x1024 (FloatOps.ofBits (F := Ideal) FTy.f32 0x00000000#32)⟩]

/-- The pieces of the gradient of the convolved rows, at the first point. -/
theorem pieces_A_7 :
    (kernelRun0_A (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6).1 =
    ⟨Rect.unit ![0, 1408] S128x128.size inb_S128x1536_S128x128_0_1408, (inOf arg1 harg1 arg2 harg2 arg3 harg3 arg4 harg4 arg5 harg5 arg6 harg6 arg7 harg7 x0 x1 x2 x3 x4 x5 x6
        (scZ arg14)).dC 1⟩ ::
    ⟨Rect.unit ![0, 1152] S128x128.size inb_S128x1536_S128x128_0_1152, (inOf arg1 harg1 arg2 harg2 arg3 harg3 arg4 harg4 arg5 harg5 arg6 harg6 arg7 harg7 x0 x1 x2 x3 x4 x5 x6
        (scZ arg14)).dB 1⟩ ::
    ⟨Rect.unit ![0, 1280] S128x128.size inb_S128x1536_S128x128_0_1280, (inOf arg1 harg1 arg2 harg2 arg3 harg3 arg4 harg4 arg5 harg5 arg6 harg6 arg7 harg7 x0 x1 x2 x3 x4 x5 x6
        (scZ arg14)).dC 0⟩ ::
    ⟨Rect.unit ![0, 1024] S128x128.size inb_S128x1536_S128x128_0_1024, (inOf arg1 harg1 arg2 harg2 arg3 harg3 arg4 harg4 arg5 harg5 arg6 harg6 arg7 harg7 x0 x1 x2 x3 x4 x5 x6
        (scZ arg14)).dB 0⟩ ::
    [7, 6, 5, 4, 3, 2, 1, 0].map fun k : Fin 8 => ⟨Rect.unit ![0, 128 * k.1] S128x128.size (inb_x ⟨k.1, by omega⟩),
      (inOf arg1 harg1 arg2 harg2 arg3 harg3 arg4 harg4 arg5 harg5 arg6 harg6 arg7 harg7 x0 x1 x2 x3 x4 x5 x6
        (scZ arg14)).dx k⟩ := by
  sl_kernel_rfl

/-- The pieces of the block of the projection's gradient, at the first point. -/
theorem pieces_A_8 :
    (kernelRun0_A (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6).2.1 =
    [⟨Rect.unit ![0, 128] S128x128.size inb_S128x256_S128x128_0_128, broadcast S128x128 (FloatOps.ofBits (F := Ideal) FTy.bf16 0#16)⟩,
     ⟨Rect.unit ![0, 0] S128x128.size inb_S128x256_S128x128_0_0, truncf .bf16 (inOf arg1 harg1 arg2 harg2 arg3 harg3 arg4 harg4 arg5 harg5 arg6 harg6 arg7 harg7 x0 x1 x2 x3 x4 x5 x6
        (scZ arg14)).du bitsLt_bf16_f32⟩] := by
  sl_kernel_rfl

/-- The piece of the sum of the decay rates' gradients, at the first point. -/
theorem pieces_A_9 :
    (kernelRun0_A (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6).2.2.1 =
    ⟨Rect.unit ![0, 0] S1x128.size inb_S1x128_S1x128_0_0, addf (shapeCast S1x128 (arg11.view.readCov zeroL (Val := Elt Ideal) (Rect.unit ![0, 0] S1x128.size inb_S1x128_S1x128_0_0).toLoadRect) shapeCasts_S1x128_S1x128) (inOf arg1 harg1 arg2 harg2 arg3 harg3 arg4 harg4 arg5 harg5 arg6 harg6 arg7 harg7 x0 x1 x2 x3 x4 x5 x6
        (scZ arg14)).da⟩ :: zeroL := by
  sl_kernel_rfl

/-- The piece of the sum of the biases' gradients, at the first point. -/
theorem pieces_A_10 :
    (kernelRun0_A (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6).2.2.2.1 =
    ⟨Rect.unit ![0, 0] S1x128.size inb_S1x128_S1x128_0_0, addf (shapeCast S1x128 (arg12.view.readCov zeroL (Val := Elt Ideal) (Rect.unit ![0, 0] S1x128.size inb_S1x128_S1x128_0_0).toLoadRect) shapeCasts_S1x128_S1x128) (inOf arg1 harg1 arg2 harg2 arg3 harg3 arg4 harg4 arg5 harg5 arg6 harg6 arg7 harg7 x0 x1 x2 x3 x4 x5 x6
        (scZ arg14)).ddtb⟩ :: zeroL := by
  sl_kernel_rfl

/-- The pieces of the sum of the skip weights' gradients, at the first point. -/
theorem pieces_A_11 :
    (kernelRun0_A (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6).2.2.2.2.1 =
    ddL arg13 (inOf arg1 harg1 arg2 harg2 arg3 harg3 arg4 harg4 arg5 harg5 arg6 harg6 arg7 harg7 x0 x1 x2 x3 x4 x5 x6
        (scZ arg14)).dd := by
  sl_kernel_rfl

/-- The pieces of the states' cotangents in the scratch, at the first point. -/
theorem pieces_A_sc :
    (kernelRun0_A (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6).2.2.2.2.2.1 =
    ([7, 6, 5, 4, 3, 2, 1, 0].map fun k : Fin 8 => ⟨Rect.unit ![k.1, 0, 0] S1x128x128.size (inb_e k),
      shapeCast S1x128x128 ((inOf arg1 harg1 arg2 harg2 arg3 harg3 arg4 harg4 arg5 harg5 arg6 harg6 arg7 harg7 x0 x1 x2 x3 x4 x5 x6
        (scZ arg14)).newE k) shapeCasts_S128x128_S1x128x128⟩) ++ zeroS := by
  sl_kernel_rfl

end Cert.Ssd

end
-- ==== Proof.OutVals.lean ====
module

public import proofs.«01_k».proof.Proof.Words
public import Idealize.ShloMosaic.Lib.Pointwise
public import Idealize.ShloMosaic.Lib.Pipeline.ReadBack
public import Idealize.ShloMosaic.Lib.Pipeline.Value
public import Idealize.ShloMosaic.Lib.Pipeline.ValueKit

@[expose] public section

set_option maxRecDepth 16384

/-!
  What a point leaves in each of its staging buffers, as one function of the blocks it loads.
-/

noncomputable section

namespace Cert.Ssd

open Idealize.ShloMosaic Idealize.ShloMosaic.Pointwise Cert.KernelIdeal Cert.KernelIdeal.Gen

variable (c : Dev nD) (i : grid0.Coords) (arg1 : Memref sig .tc .vmem S128x1536 .f32) (harg1 : arg1.IsWhole)
  (arg2 : Memref sig .tc .vmem S128x128 .f32) (harg2 : arg2.IsWhole) (arg3 : Memref sig .tc .vmem S1x8x128x128 .f32)
  (harg3 : arg3.IsWhole) (arg4 : Memref sig .tc .vmem S128x1024 .f32) (harg4 : arg4.IsWhole)
  (arg5 : Memref sig .tc .vmem S1x128 .f32) (harg5 : arg5.IsWhole) (arg6 : Memref sig .tc .vmem S1x128 .f32)
  (harg6 : arg6.IsWhole) (arg7 : Memref sig .tc .vmem S1x1024 .f32) (harg7 : arg7.IsWhole)
  (arg9 : Memref sig .tc .vmem S128x1536 .f32) (harg9 : arg9.IsWhole) (arg10 : Memref sig .tc .vmem S128x256 .bf16)
  (harg10 : arg10.IsWhole) (arg11 : Memref sig .tc .vmem S1x128 .f32) (harg11 : arg11.IsWhole)
  (arg12 : Memref sig .tc .vmem S1x128 .f32) (harg12 : arg12.IsWhole) (arg13 : Memref sig .tc .vmem S1x1024 .f32)
  (harg13 : arg13.IsWhole) (arg14 : Memref sig .tc .vmem S8x128x128 .f32) (harg14 : arg14.IsWhole) (hB : ¬cond0_0 i) (hA : cond0_0 i)
  (x0 : Vec Ideal S128x1536 .f32) (x1 : Vec Ideal S128x128 .f32) (x2 : Vec Ideal S1x8x128x128 .f32)
  (x3 : Vec Ideal S128x1024 .f32) (x4 x5 : Vec Ideal S1x128 .f32) (x6 : Vec Ideal S1x1024 .f32)
  (xo9 xo10 : Vec Ideal S1x128 .f32) (xo11 : Vec Ideal S1x1024 .f32) (xs0 : Vec Ideal S8x128x128 .f32)

/-- The offset of a whole matrix. -/
theorem zero2 : (![0, 0] : Fin 2 → Nat) = fun _ => 0 := by decide

/-- The loads of a point, cut out of its blocks. -/
def blockIn (x0 : Vec Ideal S128x1536 .f32) (x1 : Vec Ideal S128x128 .f32) (x2 : Vec Ideal S1x8x128x128 .f32)
    (x3 : Vec Ideal S128x1024 .f32) (x4 x5 : Vec Ideal S1x128 .f32) (x6 : Vec Ideal S1x1024 .f32) (E : Fin 8 → V) : In where
  X k := fun j : S128x128.Idx => x0 (ix2 (j 0) ⟨128 * k.1 + (j 1).1, by have := (j 1).isLt; simp at this; omega⟩)
  raw := x1
  H k := fun j : S128x128.Idx => x2 (ix4 0 k (j 0) (j 1))
  Dy k := fun j : S128x128.Idx => x3 (ix2 (j 0) ⟨128 * k.1 + (j 1).1, by have := (j 1).isLt; simp at this; omega⟩)
  A := x4
  Bi := x5
  D k := fun j : S1x128.Idx => x6 (ix2 (j 0) ⟨128 * k.1 + (j 1).1, by have := (j 1).isLt; simp at this; omega⟩)
  E := E

/-- The scratch's blocks. -/
def ofScr (xs0 : Vec Ideal S8x128x128 .f32) (k : Fin 8) : V := fun j : S128x128.Idx => xs0 (ix3 k (j 0) (j 1))

/-- A block of the states without its two unit axes. -/
theorem drop2 (v : S1x1x128x128.Idx → EReal) (a b : Fin 128) :
    shapeCast S128x128 v shapeCasts_S1x1x128x128_S128x128 (ix2 a b) = v (ix4 0 0 a b) := by
  pointwise

/-- A block of the scratch without its unit axis. -/
theorem drop1 (v : S1x128x128.Idx → EReal) (a b : Fin 128) :
    shapeCast S128x128 v shapeCasts_S1x128x128_S128x128 (ix2 a b) = v (ix3 0 a b) := by
  pointwise

/-- A load of one column block of the inputs. -/
theorem ld_x (k : Fin 12) :
    View.readAt (Elt Ideal) arg1.view (Rect.unit (s := S128x1536) ![0, 128 * k.1] S128x128.size (inb_x k)).toLoadRect (harg1.unread x0) =
      fun j : S128x128.Idx => x0 (ix2 (j 0) ⟨128 * k.1 + (j 1).1, by have := (j 1).isLt; simp at this; omega⟩) := by
  rw [View.readAt_eq_ld, Memref.IsWhole.read_unread]
  funext j
  refine View.ld_unit_apply_of _ _ _ _ _ _ ?_
  intro a
  match a with
  | 0 => exact (Nat.zero_add _).symm
  | 1 => rfl

/-- A load of one column block of the outputs' gradient. -/
theorem ld_dy (k : Fin 8) :
    View.readAt (Elt Ideal) arg4.view (Rect.unit (s := S128x1024) ![0, 128 * k.1] S128x128.size (inb_dy k)).toLoadRect (harg4.unread x3) =
      fun j : S128x128.Idx => x3 (ix2 (j 0) ⟨128 * k.1 + (j 1).1, by have := (j 1).isLt; simp at this; omega⟩) := by
  rw [View.readAt_eq_ld, Memref.IsWhole.read_unread]
  funext j
  refine View.ld_unit_apply_of _ _ _ _ _ _ ?_
  intro a
  match a with
  | 0 => exact (Nat.zero_add _).symm
  | 1 => rfl

/-- A load of one head pair's state. -/
theorem ld_h (k : Fin 8) :
    shapeCast S128x128 (View.readAt (Elt Ideal) arg3.view
      (Rect.unit (s := S1x8x128x128) ![0, k.1, 0, 0] S1x1x128x128.size (inb_h k)).toLoadRect (harg3.unread x2)) shapeCasts_S1x1x128x128_S128x128 =
      fun j : S128x128.Idx => x2 (ix4 0 k (j 0) (j 1)) := by
  rw [View.readAt_eq_ld, Memref.IsWhole.read_unread]
  funext j; idx_vars j
  refine (drop2 _ _ _).trans ?_
  refine View.ld_unit_apply_of _ _ _ _ _ _ ?_
  intro a
  match a with
  | 0 => rfl
  | 1 => rfl
  | 2 => exact (Nat.zero_add _).symm
  | 3 => exact (Nat.zero_add _).symm

/-- A load of one pair's skip weights. -/
theorem ld_d (k : Fin 8) :
    shapeCast S1x128 (View.readAt (Elt Ideal) arg7.view
      (Rect.unit (s := S1x1024) ![0, 128 * k.1] S1x128.size (inb_d k)).toLoadRect (harg7.unread x6)) shapeCasts_S1x128_S1x128 =
      fun j : S1x128.Idx => x6 (ix2 (j 0) ⟨128 * k.1 + (j 1).1, by have := (j 1).isLt; simp at this; omega⟩) := by
  rw [View.readAt_eq_ld, Memref.IsWhole.read_unread]
  refine (shapeCast_self _ _).trans ?_
  funext j
  refine View.ld_unit_apply_of _ _ _ _ _ _ ?_
  intro a
  match a with
  | 0 => exact (Nat.zero_add _).symm
  | 1 => rfl

/-- What the kernel's body reads, gathered from its blocks. -/
theorem inOf_eq (E : Fin 8 → V) : inOf arg1 harg1 arg2 harg2 arg3 harg3 arg4 harg4 arg5 harg5 arg6 harg6 arg7 harg7 x0 x1 x2 x3 x4 x5 x6 E = blockIn x0 x1 x2 x3 x4 x5 x6 E := by
  have e2 : View.readAt (Elt Ideal) arg2.view (Rect.unit ![0, 0] S128x128.size inb_S128x128_S128x128_0_0).toLoadRect (harg2.unread x1) = x1 := by
    rw [View.readAt_eq_ld, Memref.IsWhole.read_unread, View.ld_unit_zero zero2]
  have e5 : shapeCast S1x128 (View.readAt (Elt Ideal) arg5.view
    (Rect.unit ![0, 0] S1x128.size inb_S1x128_S1x128_0_0).toLoadRect (harg5.unread x4)) shapeCasts_S1x128_S1x128 = x4 := by
    rw [View.readAt_eq_ld, Memref.IsWhole.read_unread, View.ld_unit_zero zero2]
    exact shapeCast_self _ _
  have e6 : shapeCast S1x128 (View.readAt (Elt Ideal) arg6.view
    (Rect.unit ![0, 0] S1x128.size inb_S1x128_S1x128_0_0).toLoadRect (harg6.unread x5)) shapeCasts_S1x128_S1x128 = x5 := by
    rw [View.readAt_eq_ld, Memref.IsWhole.read_unread, View.ld_unit_zero zero2]
    exact shapeCast_self _ _
  unfold inOf blockIn
  rw [e2, e5, e6, funext fun k => ld_x arg1 harg1 x0 k, funext fun k => ld_dy arg4 harg4 x3 k,
    funext fun k => ld_h arg3 harg3 x2 k, funext fun k => ld_d arg7 harg7 x6 k]

/-- The carried state gradient, read from scratch. -/
theorem scE_eq : scE arg14 harg14 xs0 = ofScr xs0 := by
  funext k j; idx_vars j
  unfold scE ofScr
  rw [View.readAt_eq_ld, Memref.IsWhole.read_unread]
  refine (drop1 _ _ _).trans ?_
  refine View.ld_unit_apply_of _ _ _ _ _ _ ?_
  intro a
  match a with
  | 0 => rfl
  | 1 => exact (Nat.zero_add _).symm
  | 2 => exact (Nat.zero_add _).symm

/-- The zeros of the scratch. -/
theorem zeroS_at :
    shapeCast S8x128x128 (broadcast S8x128x128 (FloatOps.ofBits (F := Ideal) FTy.f32 0x00000000#32))
      shapeCasts_S8x128x128_S8x128x128 = fun _ => (0 : EReal) :=
  (shapeCast_self _ _).trans (funext fun _ => Ideal.ofBits_zero FTy.f32)

/-- The carried state gradient at the first point: zero. -/
theorem scZ_eq : scZ arg14 = fun _ _ => 0 := by
  funext k j; idx_vars j
  unfold scZ zeroS
  rw [zeroS_at]
  refine (drop1 _ _ _).trans ?_
  rw [View.readCov_fill _ _ _ _ _ (by decide)]

/-- The gradient of the convolved rows, of one chunk. -/
def G7 (I : In) : S128x1536.Idx → EReal := fun y =>
  if h : (y 1).1 / 128 < 8 then I.dx ⟨(y 1).1 / 128, h⟩ (ix2 (y 0) ⟨(y 1).1 % 128, Nat.mod_lt _ (by decide)⟩)
  else if h : (y 1).1 / 128 < 10 then
    I.dB ⟨(y 1).1 / 128 - 8, by omega⟩ (ix2 (y 0) ⟨(y 1).1 % 128, Nat.mod_lt _ (by decide)⟩)
  else I.dC ⟨((y 1).1 / 128 - 10) % 2, by omega⟩ (ix2 (y 0) ⟨(y 1).1 % 128, Nat.mod_lt _ (by decide)⟩)

/-- The first result's block: a pair's columns hold its inputs' gradient. -/
theorem G7_dx (I : In) (y : S128x1536.Idx) (k : Fin 8) (n : Fin 128) (h : (y 1).1 = 128 * k.1 + n.1) :
    G7 I y = I.dx k (ix2 (y 0) n) := by
  have e1 : (y 1).1 / 128 = k.1 := by omega
  have e2 : (y 1).1 % 128 = n.1 := by omega
  unfold G7
  simp only [e1, e2]
  rw [dif_pos k.2]

/-- The first result's block: a group's columns of the `B` rows' gradient. -/
theorem G7_dB (I : In) (y : S128x1536.Idx) (g : Fin 2) (n : Fin 128) (h : (y 1).1 = 1024 + 128 * g.1 + n.1) :
    G7 I y = I.dB g (ix2 (y 0) n) := by
  have e1 : (y 1).1 / 128 = 8 + g.1 := by omega
  have e2 : (y 1).1 % 128 = n.1 := by omega
  unfold G7
  simp only [e1, e2]
  rw [dif_neg (by omega), dif_pos (by omega)]
  congr 1
  exact Fin.ext (by simp)

/-- The first result's block: a group's columns of the `C` rows' gradient. -/
theorem G7_dC (I : In) (y : S128x1536.Idx) (g : Fin 2) (n : Fin 128) (h : (y 1).1 = 1280 + 128 * g.1 + n.1) :
    G7 I y = I.dC g (ix2 (y 0) n) := by
  have e1 : (y 1).1 / 128 = 10 + g.1 := by omega
  have e2 : (y 1).1 % 128 = n.1 := by omega
  unfold G7
  simp only [e1, e2]
  rw [dif_neg (by omega), dif_neg (by omega)]
  congr 1
  exact Fin.ext (by simp; omega)

/-- The pieces of the gradient of the convolved rows. -/
def L7 (I : In) : List (View.Piece (Elt Ideal) S128x1536 .f32) :=
  ⟨Rect.unit ![0, 1408] S128x128.size inb_S128x1536_S128x128_0_1408, I.dC 1⟩ ::
  ⟨Rect.unit ![0, 1152] S128x128.size inb_S128x1536_S128x128_0_1152, I.dB 1⟩ ::
  ⟨Rect.unit ![0, 1280] S128x128.size inb_S128x1536_S128x128_0_1280, I.dC 0⟩ ::
  ⟨Rect.unit ![0, 1024] S128x128.size inb_S128x1536_S128x128_0_1024, I.dB 0⟩ ::
  [7, 6, 5, 4, 3, 2, 1, 0].map fun k : Fin 8 => ⟨Rect.unit ![0, 128 * k.1] S128x128.size (inb_x ⟨k.1, by omega⟩), I.dx k⟩

/-- The place of an entry of a column block. -/
theorem emb_x (off : Nat) (inb) (x : S128x128.Idx) :
    (((Rect.unit (s := S128x1536) ![0, off] S128x128.size inb).emb x) 1).1 = off + (x 1).1 ∧
    (((Rect.unit (s := S128x1536) ![0, off] S128x128.size inb).emb x) 0) = x 0 := by
  constructor
  · exact Rect.idx_unit_val _ _ _ _ _
  · exact Fin.ext ((Rect.idx_unit_val _ _ _ _ _).trans (Nat.zero_add _))

/-- Each piece stored in the first result's block agrees with it. -/
theorem L7_pieces (I : In) : ∀ p ∈ L7 I, ∀ x : p.1.shape.Idx, p.2 x = G7 I (p.1.emb x) := by
  intro p hp
  simp only [L7, List.mem_cons, List.mem_map] at hp
  rcases hp with rfl | rfl | rfl | rfl | ⟨k, -, rfl⟩ <;> intro x
  · obtain ⟨h1, h0⟩ := emb_x _ inb_S128x1536_S128x128_0_1408 x
    rw [G7_dC I _ 1 (x 1) h1, h0]; exact congrArg _ (ix2_eta x).symm
  · obtain ⟨h1, h0⟩ := emb_x _ inb_S128x1536_S128x128_0_1152 x
    rw [G7_dB I _ 1 (x 1) h1, h0]; exact congrArg _ (ix2_eta x).symm
  · obtain ⟨h1, h0⟩ := emb_x _ inb_S128x1536_S128x128_0_1280 x
    rw [G7_dC I _ 0 (x 1) h1, h0]; exact congrArg _ (ix2_eta x).symm
  · obtain ⟨h1, h0⟩ := emb_x _ inb_S128x1536_S128x128_0_1024 x
    rw [G7_dB I _ 0 (x 1) h1, h0]; exact congrArg _ (ix2_eta x).symm
  · obtain ⟨h1, h0⟩ := emb_x _ (inb_x ⟨k.1, by omega⟩) x
    rw [G7_dx I _ k (x 1) h1, h0]; exact congrArg _ (ix2_eta x).symm

/-- What a later point leaves in the first result's block. -/
theorem out_B_7 : out0_B_7 (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0 = G7 (blockIn x0 x1 x2 x3 x4 x5 x6 (ofScr xs0)) := by
  funext y
  have hc := cover0_B_7 (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0 y
  unfold out0_B_7
  rw [View.read_writes_junk_eq_canon]
  rw [pieces_B_7, inOf_eq, scE_eq] at *
  exact View.canon_apply_of_pieces _ _ (L7_pieces _) y hc

/-- What the first point leaves in the first result's block. -/
theorem out_A_7 : out0_A_7 (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6 = G7 (blockIn x0 x1 x2 x3 x4 x5 x6 fun _ _ => 0) := by
  funext y
  have hc := cover0_A_7 (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6 y
  unfold out0_A_7
  rw [View.read_writes_junk_eq_canon]
  rw [pieces_A_7, inOf_eq, scZ_eq] at *
  exact View.canon_apply_of_pieces _ _ (L7_pieces _) y hc

/-- The block of the projection's gradient, of one chunk. -/
def G8 (I : In) : S128x256.Idx → EReal := fun y =>
  if h : (y 1).1 < 128 then I.du (ix2 (y 0) ⟨(y 1).1, h⟩) else 0

/-- The pieces of the block of the projection's gradient. -/
def L8 (I : In) : List (View.Piece (Elt Ideal) S128x256 .bf16) :=
  [⟨Rect.unit ![0, 128] S128x128.size inb_S128x256_S128x128_0_128, broadcast S128x128 (FloatOps.ofBits (F := Ideal) FTy.bf16 0#16)⟩,
   ⟨Rect.unit ![0, 0] S128x128.size inb_S128x256_S128x128_0_0, truncf .bf16 I.du bitsLt_bf16_f32⟩]

/-- Where a column block's entry lies in the block of 256 columns. -/
theorem emb_p (off : Nat) (inb) (x : S128x128.Idx) :
    (((Rect.unit (s := S128x256) ![0, off] S128x128.size inb).emb x) 1).1 = off + (x 1).1 ∧
    (((Rect.unit (s := S128x256) ![0, off] S128x128.size inb).emb x) 0) = x 0 := by
  constructor
  · exact Rect.idx_unit_val _ _ _ _ _
  · exact Fin.ext ((Rect.idx_unit_val _ _ _ _ _).trans (Nat.zero_add _))

/-- The zero half of the second result's block. -/
theorem piece_8z (I : In) (x : S128x128.Idx) :
    (0 : EReal) = G8 I ((Rect.unit (s := S128x256) ![0, 128] S128x128.size inb_S128x256_S128x128_0_128).emb x) := by
  obtain ⟨h1, h0⟩ := emb_p _ inb_S128x256_S128x128_0_128 x
  unfold G8
  rw [dif_neg (by rw [h1]; omega)]

/-- The gradient half of the second result's block. -/
theorem piece_8 (I : In) (x : S128x128.Idx) :
    I.du x = G8 I ((Rect.unit (s := S128x256) ![0, 0] S128x128.size inb_S128x256_S128x128_0_0).emb x) := by
  obtain ⟨h1, h0⟩ := emb_p _ inb_S128x256_S128x128_0_0 x
  have hx : (x 1).1 < 128 := (x 1).isLt
  unfold G8
  rw [dif_pos (by rw [h1]; omega)]
  refine congrArg _ ((ix2_eta x).symm.trans ?_)
  congr 1
  · exact h0.symm
  · exact Fin.ext (by simp only [h1]; omega)

/-- Each piece stored in the second result's block agrees with it. -/
theorem L8_pieces (I : In) : ∀ p ∈ L8 I, ∀ x : p.1.shape.Idx, p.2 x = G8 I (p.1.emb x) := by
  intro p hp
  simp only [L8, List.mem_cons, List.not_mem_nil, or_false] at hp
  rcases hp with rfl | rfl <;> intro x
  · refine Eq.trans ?_ (piece_8z I x)
    exact Ideal.ofBits_zero FTy.bf16
  · exact piece_8 I x

/-- What a later point leaves in the second result's block. -/
theorem out_B_8 : out0_B_8 (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0 = G8 (blockIn x0 x1 x2 x3 x4 x5 x6 (ofScr xs0)) := by
  funext y
  have hc := cover0_B_8 (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0 y
  unfold out0_B_8
  rw [View.read_writes_junk_eq_canon]
  rw [pieces_B_8, inOf_eq, scE_eq] at *
  exact View.canon_apply_of_pieces _ _ (L8_pieces _) y hc

/-- What the first point leaves in the second result's block. -/
theorem out_A_8 : out0_A_8 (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6 = G8 (blockIn x0 x1 x2 x3 x4 x5 x6 fun _ _ => 0) := by
  funext y
  have hc := cover0_A_8 (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6 y
  unfold out0_A_8
  rw [View.read_writes_junk_eq_canon]
  rw [pieces_A_8, inOf_eq, scZ_eq] at *
  exact View.canon_apply_of_pieces _ _ (L8_pieces _) y hc

/-- What a later point leaves in the third result's block. -/
theorem out_B_9 (n : Fin 128) : out0_B_9 (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0 (ix2 0 n) = xo9 (ix2 0 n) + (blockIn x0 x1 x2 x3 x4 x5 x6 (ofScr xs0)).da (ix2 0 n) := by
  unfold out0_B_9
  rw [View.read_writes_junk_eq_canon, pieces_B_9, inOf_eq, scE_eq, View.canon_unit_zero zero2]
  simp only [View.readAt_eq_ld, Memref.IsWhole.read_unread, View.ld_unit]
  pointwise

/-- What a later point leaves in the fourth result's block. -/
theorem out_B_10 (n : Fin 128) : out0_B_10 (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0 (ix2 0 n) = xo10 (ix2 0 n) + (blockIn x0 x1 x2 x3 x4 x5 x6 (ofScr xs0)).ddtb (ix2 0 n) := by
  unfold out0_B_10
  rw [View.read_writes_junk_eq_canon, pieces_B_10, inOf_eq, scE_eq, View.canon_unit_zero zero2]
  simp only [View.readAt_eq_ld, Memref.IsWhole.read_unread, View.ld_unit]
  pointwise

/-- What the first point leaves in the third result's block. -/
theorem out_A_9 (n : Fin 128) : out0_A_9 (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6 (ix2 0 n) = (blockIn x0 x1 x2 x3 x4 x5 x6 fun _ _ => 0).da (ix2 0 n) := by
  unfold out0_A_9
  rw [View.read_writes_junk_eq_canon, pieces_A_9, inOf_eq, scZ_eq, View.canon_cons_unit_zero zero2]
  unfold zeroL
  rw [View.readCov_fill _ _ _ _ _ (by decide)]
  simp only [View.ld_unit]
  pointwise

/-- What the first point leaves in the fourth result's block. -/
theorem out_A_10 (n : Fin 128) : out0_A_10 (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6 (ix2 0 n) = (blockIn x0 x1 x2 x3 x4 x5 x6 fun _ _ => 0).ddtb (ix2 0 n) := by
  unfold out0_A_10
  rw [View.read_writes_junk_eq_canon, pieces_A_10, inOf_eq, scZ_eq, View.canon_cons_unit_zero zero2]
  unfold zeroL
  rw [View.readCov_fill _ _ _ _ _ (by decide)]
  simp only [View.ld_unit]
  pointwise

/-- The sums of the skip weights' gradients after one chunk. -/
def G11 (I : In) (z : S1x1024.Idx → EReal) : S1x1024.Idx → EReal := fun y =>
  z y + I.dd ⟨(y 1).1 / 128, by have := (y 1).isLt; simp at this; omega⟩ (ix2 0 ⟨(y 1).1 % 128, Nat.mod_lt _ (by decide)⟩)

/-- Where a pair's lane lies in the row of skip weights. -/
theorem emb_d (k : Fin 8) (x : S1x128.Idx) :
    (((Rect.unit (s := S1x1024) ![0, 128 * k.1] S1x128.size (inb_d k)).emb x) 1).1 = 128 * k.1 + (x 1).1 :=
  Rect.idx_unit_val _ _ _ _ _

/-- The accumulated skip weights' gradient, at a pair's lane. -/
theorem G11_at (I : In) (z : S1x1024.Idx → EReal) (y : S1x1024.Idx) (k : Fin 8) (n : Fin 128)
    (h : (y 1).1 = 128 * k.1 + n.1) : G11 I z y = z y + I.dd k (ix2 0 n) := by
  have e1 : (y 1).1 / 128 = k.1 := by omega
  have e2 : (y 1).1 % 128 = n.1 := by omega
  unfold G11
  simp only [e1, e2]

/-- An index of a one-row matrix is its lane. -/
theorem row_eta (x : S1x128.Idx) : (ix2 0 (x 1) : S1x128.Idx) = x := by
  refine Eq.trans ?_ (ix2_eta x)
  congr 1
  exact Subsingleton.elim _ _

/-- Each piece stored in the row of skip weights agrees with it. -/
theorem piece_11 (I : In) (z : S1x1024.Idx → EReal) (k : Fin 8) (x : S1x128.Idx) :
    z ((Rect.unit (s := S1x1024) ![0, 128 * k.1] S1x128.size (inb_d k)).emb x) + I.dd k x =
      G11 I z ((Rect.unit (s := S1x1024) ![0, 128 * k.1] S1x128.size (inb_d k)).emb x) := by
  rw [G11_at _ _ _ k (x 1) (emb_d k x)]
  exact congrArg (fun i => _ + I.dd k i) (row_eta x).symm

/-- What a later point leaves in the fifth result's block. -/
theorem out_B_11 : out0_B_11 (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0 = G11 (blockIn x0 x1 x2 x3 x4 x5 x6 (ofScr xs0)) xo11 := by
  funext y
  have hc := cover0_B_11 (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0 y
  unfold out0_B_11
  rw [View.read_writes_junk_eq_canon]
  rw [pieces_B_11, inOf_eq, scE_eq] at *
  refine View.canon_apply_of_pieces (G11 (blockIn x0 x1 x2 x3 x4 x5 x6 (ofScr xs0)) xo11) _ ?_ y hc
  intro p hp
  simp only [List.mem_map] at hp
  obtain ⟨k, -, rfl⟩ := hp
  intro x
  refine Eq.trans ?_ (piece_11 _ _ k x)
  simp only [View.readAt_eq_ld, Memref.IsWhole.read_unread, shapeCast_self]
  rfl

/-- The scratch after one chunk. -/
def GS (I : In) : S8x128x128.Idx → EReal := fun y => I.newE (y 0) (ix2 (y 1) (y 2))

/-- Each piece stored in scratch agrees with the new state gradient. -/
theorem piece_S (I : In) (k : Fin 8) (x : S1x128x128.Idx) :
    shapeCast S1x128x128 (I.newE k) shapeCasts_S128x128_S1x128x128 x =
      GS I ((Rect.unit (s := S8x128x128) ![k.1, 0, 0] S1x128x128.size (inb_e k)).emb x) := by
  have h0 : (((Rect.unit (s := S8x128x128) ![k.1, 0, 0] S1x128x128.size (inb_e k)).emb x) 0) = k := by
    refine Fin.ext ((Rect.idx_unit_val _ _ _ _ _).trans ?_)
    have : (x 0).1 < 1 := (x 0).isLt
    show k.1 + (x 0).1 = k.1
    omega
  have h1 : (((Rect.unit (s := S8x128x128) ![k.1, 0, 0] S1x128x128.size (inb_e k)).emb x) 1) = x 1 :=
    Fin.ext ((Rect.idx_unit_val _ _ _ _ _).trans (Nat.zero_add _))
  have h2 : (((Rect.unit (s := S8x128x128) ![k.1, 0, 0] S1x128x128.size (inb_e k)).emb x) 2) = x 2 :=
    Fin.ext ((Rect.idx_unit_val _ _ _ _ _).trans (Nat.zero_add _))
  unfold GS
  rw [h0, h1, h2]
  idx_vars x
  pointwise

/-- What a later point leaves in scratch. -/
theorem out_B_S : sout0_B_0 (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0 = GS (blockIn x0 x1 x2 x3 x4 x5 x6 (ofScr xs0)) := by
  funext y
  have hc := scover0_B_0 (F := Ideal) c i arg1 harg1 arg2 harg2 arg3 harg3 arg4 harg4 arg5 harg5 arg6 harg6 arg7 harg7 arg9 harg9 arg10
      harg10 arg11 harg11 arg12 harg12 arg13 harg13 arg14 harg14 hB x0 x1 x2 x3 x4 x5 x6 xo9 xo10 xo11 xs0 y
  unfold sout0_B_0
  rw [View.read_writes_junk_eq_canon]
  rw [pieces_B_sc, inOf_eq, scE_eq] at *
  refine View.canon_apply_of_pieces _ _ ?_ y hc
  intro p hp
  simp only [List.mem_map] at hp
  obtain ⟨k, -, rfl⟩ := hp
  exact piece_S _ k

/-- The pieces stored in scratch cover it. -/
theorem mem_S (y : S8x128x128.Idx) :
    y ∈ (Rect.unit (s := S8x128x128) ![(y 0).1, 0, 0] S1x128x128.size (inb_e (y 0))).set := by
  rw [Rect.mem_set_unit]
  intro a
  match a with
  | 0 => exact ⟨le_rfl, Nat.lt_succ_self _⟩
  | 1 => exact ⟨Nat.zero_le _, (y 1).isLt⟩
  | 2 => exact ⟨Nat.zero_le _, (y 2).isLt⟩

/-- The pieces stored in the row of skip weights cover it. -/
theorem mem_D (y : S1x1024.Idx) (k : Fin 8) (h : (y 1).1 / 128 = k.1) :
    y ∈ (Rect.unit (s := S1x1024) ![0, 128 * k.1] S1x128.size (inb_d k)).set := by
  rw [Rect.mem_set_unit]
  intro a
  match a with
  | 0 => exact ⟨Nat.zero_le _, (y 0).isLt⟩
  | 1 =>
    show 128 * k.1 ≤ (y 1).1 ∧ (y 1).1 < 128 * k.1 + 128
    omega

/-- The eight pairs, from the last to the first. -/
theorem all8 (k : Fin 8) : k ∈ [7, 6, 5, 4, 3, 2, 1, 0] := by
  revert k; decide

/-- What the first point leaves in scratch. -/
theorem out_A_S : sout0_A_0 (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6 = GS (blockIn x0 x1 x2 x3 x4 x5 x6 fun _ _ => 0) := by
  funext y
  unfold sout0_A_0
  rw [View.read_writes_junk_eq_canon, pieces_A_sc, inOf_eq, scZ_eq]
  refine View.canon_append_of_pieces _ _ _ ?_ y ?_
  · intro p hp
    simp only [List.mem_map] at hp
    obtain ⟨k, -, rfl⟩ := hp
    exact piece_S _ k
  · exact ⟨_, List.mem_map.mpr ⟨y 0, all8 _, rfl⟩, mem_S y⟩

/-- The row of zeros with which the skip weights' gradient starts. -/
theorem zeroD : (broadcast S1x1024 (FloatOps.ofBits (F := Ideal) FTy.f32 0x00000000#32)) = fun _ => (0 : EReal) :=
  funext fun _ => Ideal.ofBits_zero FTy.f32

/-- At the first point the sums start from zero. -/
theorem ddL_eq (dd : Fin 8 → Vr) : ddL arg13 dd =
    ([7, 6, 5, 4, 3, 2, 1, 0].map fun k : Fin 8 =>
      (⟨Rect.unit ![0, 128 * k.1] S1x128.size (inb_d k), addf (fun _ => (0 : EReal)) (dd k)⟩ : View.Piece (Elt Ideal) S1x1024 .f32)) ++
    [⟨Rect.unit ![0, 0] S1x1024.size inb_S1x1024_S1x1024_0_0, fun _ => (0 : EReal)⟩] := by
  unfold ddL
  rw [zeroD]
  simp only [List.foldl, List.map, List.cons_append, List.nil_append]
  simp (disch := decide) only [View.readCov_skip, View.readCov_fill, shapeCast_self]
  rfl

/-- What the first point leaves in the fifth result's block. -/
theorem out_A_11 : out0_A_11 (F := Ideal) c i arg1 harg1 arg2 harg2 arg3 harg3 arg4 harg4 arg5 harg5 arg6 harg6 arg7 harg7 arg9 harg9 arg10
      harg10 arg11 harg11 arg12 harg12 arg13 harg13 arg14 harg14 hA x0 x1 x2 x3 x4 x5 x6 = G11 (blockIn x0 x1 x2 x3 x4 x5 x6 fun _ _ => 0) fun _ => 0 := by
  funext y
  unfold out0_A_11
  rw [View.read_writes_junk_eq_canon, pieces_A_11, inOf_eq, scZ_eq, ddL_eq]
  refine View.canon_append_of_pieces (Val := Elt Ideal) (e := .f32) (G11 (blockIn x0 x1 x2 x3 x4 x5 x6 fun _ _ => 0) fun _ => 0) _ _ ?_ y ?_
  · intro p hp
    simp only [List.mem_map] at hp
    obtain ⟨k, -, rfl⟩ := hp
    exact piece_11 _ (fun _ => 0) k
  · have hy : (y 1).1 < 1024 := (y 1).isLt
    exact ⟨_, List.mem_map.mpr ⟨⟨(y 1).1 / 128, by omega⟩, all8 _, rfl⟩, mem_D y _ rfl⟩

end Cert.Ssd

end
-- ==== Proof.Spec.lean ====
module

public import Idealize.ShloMosaic.PureOps.Ideal

@[expose] public section

/-!
  The backward pass of one chunk of the scan, one head at a time, in extended reals.

  A chunk has 128 rows; a head has 64 lanes `p` and 128 state columns `n`. `Head` holds what the head is computed
  from; the functions below are the steps of the forward pass and of its gradient, in the order in which both
  programs add and multiply (sums up to reordering).
-/

noncomputable section

namespace Cert.Ssd

open Idealize.ShloMosaic

/-- The data of one head in one chunk: its input rows `x`, the cotangent `dy` of its output rows, the group's `B` and `C`
    rows, the step sizes before the softplus `u`, the state `H` the chunk entered with, the cotangent `E` of the state
    it hands on, the decay rate `a` and the skip weights `d`. -/
structure Head where
  x : Fin 128 → Fin 64 → EReal
  dy : Fin 128 → Fin 64 → EReal
  B : Fin 128 → Fin 128 → EReal
  C : Fin 128 → Fin 128 → EReal
  u : Fin 128 → EReal
  H : Fin 64 → Fin 128 → EReal
  E : Fin 64 → Fin 128 → EReal
  a : EReal
  d : Fin 64 → EReal

/-- The softplus as the kernel spells it. -/
def sp (u : EReal) : EReal := max u 0 + Ideal.log (1 + Ideal.exp (0 - max u (-u)))

namespace Head

variable (h : Head)

/-- Step sizes. -/
def dt (l : Fin 128) : EReal := sp (h.u l)
/-- Running sums of the log decays. -/
def acs (l : Fin 128) : EReal := ∑ s : Fin 128, if s ≤ l then h.dt s * h.a else 0
/-- The running sum at the chunk's last row. -/
def last : EReal := h.acs 127
/-- Products of the rows of `C` and `B`. -/
def G (l s : Fin 128) : EReal := ∑ n : Fin 128, h.C l n * h.B s n
/-- The decay from row `s` to row `l`, zero above the diagonal. -/
def L (l s : Fin 128) : EReal := Ideal.exp (if s ≤ l then h.acs l - h.acs s else ⊥)
/-- Input rows scaled by the step sizes. -/
def xd (l : Fin 128) (p : Fin 64) : EReal := h.x l p * h.dt l
/-- The decay from a row to the chunk's end. -/
def dec (l : Fin 128) : EReal := Ideal.exp (h.last - h.acs l)
/-- The decay from the chunk's start to a row. -/
def out (l : Fin 128) : EReal := Ideal.exp (h.acs l)
/-- The output's cotangent times the decay from the chunk's start. -/
def dyo (l : Fin 128) (p : Fin 64) : EReal := h.dy l p * h.out l
/-- The mixing matrix within the chunk. -/
def M (l s : Fin 128) : EReal := h.G l s * h.L l s
/-- What the state's own output asks of the state. -/
def dprev (p : Fin 64) (n : Fin 128) : EReal := ∑ l : Fin 128, h.dyo l p * h.C l n
/-- The cotangent handed on to the chunk before. -/
def newE (p : Fin 64) (n : Fin 128) : EReal := h.E p n * Ideal.exp h.last + h.dprev p n
/-- `C` applied to the entering state. -/
def CH (l : Fin 128) (p : Fin 64) : EReal := ∑ n : Fin 128, h.C l n * h.H p n
/-- The cotangent of the decay from the chunk's start. -/
def dout (l : Fin 128) : EReal := ∑ p : Fin 64, h.dy l p * h.CH l p
/-- The head's share of the gradient of `C` through the entering state. -/
def dC1 (l n : Fin 128) : EReal := ∑ p : Fin 64, h.dyo l p * h.H p n
/-- `B` applied to the cotangent of the state handed on. -/
def BE (l : Fin 128) (p : Fin 64) : EReal := ∑ n : Fin 128, h.B l n * h.E p n
/-- The head's share of the gradient of `B` through the state handed on. -/
def dB1 (l n : Fin 128) : EReal := ∑ p : Fin 64, h.xd l p * h.dec l * h.E p n
/-- The cotangent of the logarithm of the decay to the chunk's end. -/
def dterm (l : Fin 128) : EReal := (∑ p : Fin 64, h.xd l p * h.BE l p) * h.dec l
/-- The cotangent of the chunk's whole decay. -/
def hE : EReal := ∑ p : Fin 64, ∑ n : Fin 128, h.H p n * h.E p n
/-- The cotangent of the mixing matrix. -/
def dM (l s : Fin 128) : EReal := ∑ p : Fin 64, h.dy l p * h.xd s p
/-- The cotangent of the scaled input rows. -/
def dxd (s : Fin 128) (p : Fin 64) : EReal := h.BE s p * h.dec s + ∑ l : Fin 128, h.M l s * h.dy l p
/-- The head's share of the cotangent of the products of the rows of `C` and `B`. -/
def dGh (l s : Fin 128) : EReal := h.dM l s * h.L l s
/-- The cotangent of the log decay from row `s` to row `l`. -/
def dseg (l s : Fin 128) : EReal := if s ≤ l then h.G l s * h.dM l s * h.L l s else 0
/-- What the last row of the running sums gets besides. -/
def tail (l : Fin 128) : EReal := if l = 127 then h.hE * Ideal.exp h.last + ∑ s : Fin 128, h.dterm s else 0
/-- The cotangent of the running sums. -/
def dacs (l : Fin 128) : EReal :=
  (-h.dterm l + h.dout l * h.out l + (∑ s : Fin 128, h.dseg l s) + h.tail l) + ∑ r : Fin 128, -h.dseg r l
/-- The cotangent of the log decays: the sums of the later rows. -/
def dda (l : Fin 128) : EReal := ∑ m : Fin 128, if l ≤ m then h.dacs m else 0
/-- The cotangent of the step sizes. -/
def ddt (l : Fin 128) : EReal := (∑ p : Fin 64, h.x l p * h.dxd l p) + h.dda l * h.a
/-- The cotangent of the step sizes before the softplus. -/
def du (l : Fin 128) : EReal := h.ddt l * Ideal.logistic (h.u l)
/-- The gradient of the input rows. -/
def dx (l : Fin 128) (p : Fin 64) : EReal := h.d p * h.dy l p + h.dxd l p * h.dt l
/-- The chunk's share of the gradient of the decay rate. -/
def da : EReal := ∑ l : Fin 128, h.dt l * h.dda l
/-- The chunk's share of the gradient of the skip weights. -/
def dd (p : Fin 64) : EReal := ∑ l : Fin 128, h.dy l p * h.x l p

end Head

/-- The gradient of the group's products of rows: the sum of its eight heads. -/
def dG (g : Fin 8 → Head) (l s : Fin 128) : EReal := ∑ e : Fin 8, (g e).dGh l s
/-- The gradient of the group's `B` rows (all eight heads hold the same `B` and `C`). -/
def dB (g : Fin 8 → Head) (s n : Fin 128) : EReal :=
  (∑ e : Fin 8, (g e).dB1 s n) + ∑ l : Fin 128, dG g l s * (g 0).C l n
/-- The gradient of the group's `C` rows. -/
def dC (g : Fin 8 → Head) (l n : Fin 128) : EReal :=
  (∑ e : Fin 8, (g e).dC1 l n) + ∑ s : Fin 128, dG g l s * (g 0).B s n

end Cert.Ssd

end
-- ==== Proof.Scalars.lean ====
module

public import proofs.«01_k».proof.Proof.Spec

@[expose] public section

/-! The softplus and its derivative: the reference's spellings are the kernel's. -/

noncomputable section

namespace Cert.Ssd

open Idealize.ShloMosaic

/-- The softplus of a real is the real softplus. -/
theorem sp_coe (r : ℝ) : sp (r : EReal) = ((max r 0 + Real.log (1 + Real.exp (-|r|)) : ℝ) : EReal) := by
  have h1 : max (r : EReal) (-(r : EReal)) = ((|r| : ℝ) : EReal) := by
    rw [← EReal.coe_neg]; exact (EReal.coe_strictMono.monotone.map_max (a := r) (b := -r)).symm
  have h2 : max (r : EReal) 0 = ((max r 0 : ℝ) : EReal) := by
    rw [← EReal.coe_zero]; exact (EReal.coe_strictMono.monotone.map_max (a := r) (b := 0)).symm
  have hp : (0 : ℝ) < 1 + Real.exp (-|r|) := by positivity
  rw [sp, h1, h2, sub_eq_add_neg, zero_add, ← EReal.coe_neg, Ideal.exp_coe, ← EReal.coe_one, ← EReal.coe_add, Ideal.log_coe, if_neg (not_le.mpr hp),
    ← EReal.coe_add]

/-- The softplus of minus infinity is zero. -/
theorem sp_bot : sp ⊥ = 0 := by
  rw [sp, EReal.neg_bot, max_eq_right bot_le, max_eq_right bot_le, show (0 : EReal) - ⊤ = ⊥ from rfl, Ideal.exp_bot, add_zero,
    ← EReal.coe_one, Ideal.log_coe, if_neg (by norm_num), Real.log_one, EReal.coe_zero, add_zero]

/-- The softplus of plus infinity is plus infinity. -/
theorem sp_top : sp ⊤ = ⊤ := by
  rw [sp, EReal.neg_top, max_eq_left bot_le, max_eq_left le_top, show (0 : EReal) - ⊤ = ⊥ from rfl, Ideal.exp_bot, add_zero,
    ← EReal.coe_one, Ideal.log_coe, if_neg (by norm_num), Real.log_one, EReal.coe_zero, add_zero]

/-- The derivative of the softplus as the reference spells it — the exponential of the argument less the softplus, each
    read as zero where it is infinite — is the logistic function. -/
theorem exp_sub_sp (u : EReal) :
    Ideal.exp ((if u = ⊤ then 0 else u) - (if sp u = ⊤ then 0 else sp u)) = Ideal.logistic u := by
  induction u with
  | bot => rw [sp_bot, if_neg (by simp), if_neg (by simp), sub_eq_add_neg, EReal.bot_add, Ideal.exp_bot, Ideal.logistic_bot]
  | top => rw [sp_top, if_pos rfl, show (0 : EReal) - 0 = 0 from sub_zero 0, Ideal.logistic_top, ← EReal.coe_zero, Ideal.exp_coe, Real.exp_zero,
      EReal.coe_one]
  | coe r =>
    rw [sp_coe, if_neg (EReal.coe_ne_top _), if_neg (EReal.coe_ne_top _), ← EReal.coe_sub, Ideal.exp_coe, Ideal.logistic_coe]
    congr 1
    have hp : (0 : ℝ) < 1 + Real.exp (-|r|) := by positivity
    rw [Real.exp_sub, Real.exp_add, Real.exp_log hp]
    rcases le_total 0 r with h | h
    · rw [max_eq_left h, abs_of_nonneg h]
      field_simp
    · rw [max_eq_right h, abs_of_nonpos h, neg_neg, Real.exp_zero, one_mul, Real.exp_neg]
      field_simp
      ring

end Cert.Ssd

end
-- ==== Proof.Prim.lean ====
module

public import proofs.«01_k».proof.Proof.Body
public import proofs.«01_k».proof.Proof.Scalars
public import Idealize.ShloMosaic.Lib.Pointwise
public import Idealize.ShloMosaic.Lib.WordCmp

@[expose] public section

/-! The operations of one chunk, each read at an index. -/

noncomputable section

namespace Cert.Ssd

open Idealize.ShloMosaic Idealize.ShloMosaic.Pointwise Cert.KernelIdeal Cert.KernelIdeal.Gen

/-- The sum over lanes. -/
theorem sumL_at (v : V) (l : Fin 128) : sumL v (ix2 l 0) = ∑ n : Fin 128, v (ix2 l n) := by
  pointwise [sumL]

/-- The sum over rows. -/
theorem sumR_at (v : V) (n : Fin 128) : sumR v (ix2 0 n) = ∑ l : Fin 128, v (ix2 l n) := by
  pointwise [sumR]

/-- The sum of a column. -/
theorem sumC_at (v : Vc) : sumC v (ix2 0 0) = ∑ l : Fin 128, v (ix2 l 0) := by
  pointwise [sumC]

/-- A column repeated over the lanes. -/
theorem bcC_at (v : Vc) (l n : Fin 128) : bcC v (ix2 l n) = v (ix2 l 0) := by
  pointwise [bcC]

/-- A row repeated over the rows. -/
theorem bcR_at (v : Vr) (l n : Fin 128) : bcR v (ix2 l n) = v (ix2 0 n) := by
  pointwise [bcR]

/-- The sum of all of a column. -/
theorem sumAll_at (v : Vc) : sumAll v (ix2 0 0) = ∑ l : Fin 128, v (ix2 l 0) := by
  pointwise [sumAll]
  simp

/-- One number repeated over the rows. -/
theorem spread_at (v : Vs) (l : Fin 128) : spread v (ix2 l 0) = v (ix2 0 0) := by
  pointwise [spread]
  simp

/-- A condition as a number. -/
theorem bit_at (p : Prop) [Decidable p] :
    (FloatOps.sitofp (F := Ideal) FTy.f32 (BitVec.setWidth 32 (BitVec.ofBool (decide p))) : EReal) = if p then 1 else 0 := by
  change (((BitVec.setWidth 32 (BitVec.ofBool (decide p))).toInt : ℝ) : EReal) = _
  by_cases h : p <;> simp [h]

/-- The comparisons of two counters below 128. -/
theorem cmp_eq (a b : Nat) (ha : a < 128) (hb : b < 128) :
    IntOp.cmpi CmpIPredicate.eq (BitVec.ofNat 32 a) (BitVec.ofNat 32 b) = BitVec.ofBool (decide (a = b)) :=
  WordCmp.cmpi_eq_ofNat (by omega) (by omega)

/-- Comparing two small indices, not less. -/
theorem cmp_ge (a b : Nat) (ha : a < 128) (hb : b < 128) :
    IntOp.cmpi CmpIPredicate.sge (BitVec.ofNat 32 a) (BitVec.ofNat 32 b) = BitVec.ofBool (decide (b ≤ a)) :=
  WordCmp.cmpi_sge_ofNat (by omega) (by omega)

/-- Comparing two small indices, not greater. -/
theorem cmp_le (a b : Nat) (ha : a < 128) (hb : b < 128) :
    IntOp.cmpi CmpIPredicate.sle (BitVec.ofNat 32 a) (BitVec.ofNat 32 b) = BitVec.ofBool (decide (a ≤ b)) :=
  WordCmp.cmpi_sle_ofNat (by omega) (by omega)

/-- Comparing two small indices, less. -/
theorem cmp_lt (a b : Nat) (ha : a < 128) (hb : b < 128) :
    IntOp.cmpi CmpIPredicate.slt (BitVec.ofNat 32 a) (BitVec.ofNat 32 b) = BitVec.ofBool (decide (a < b)) :=
  WordCmp.cmpi_slt_ofNat (by omega) (by omega)

/-- The row that is one at a head's lane. -/
theorem hotL_at (h : Nat) (hh : h < 16) (n : Fin 128) : hotL h (ix2 0 n) = if n.1 = h then 1 else 0 := by
  pointwise [hotL, laneI]
  rw [cmp_eq _ _ n.2 (by omega), bit_at]

/-- The column that is one at a head's lane. -/
theorem hotR_at (h : Nat) (hh : h < 16) (n : Fin 128) : hotR h (ix2 n 0) = if n.1 = h then 1 else 0 := by
  pointwise [hotR, rowI]
  rw [cmp_eq _ _ n.2 (by omega), bit_at]

/-- The column that is one at the last position. -/
theorem lastC_at (l : Fin 128) : lastC (ix2 l 0) = if l = 127 then 1 else 0 := by
  pointwise [lastC, rowI]
  rw [cmp_eq _ 127 l.2 (by omega), bit_at]
  simp only [Fin.ext_iff]
  rfl

/-- The lower triangle of ones. -/
theorem trilF_at (l s : Fin 128) : trilF (ix2 l s) = if s ≤ l then 1 else 0 := by
  pointwise [trilF, tril, rows, cols]
  rw [cmp_ge _ _ l.2 s.2, bit_at]
  rfl

/-- The upper triangle of ones. -/
theorem triuF_at (l s : Fin 128) : triuF (ix2 l s) = if l ≤ s then 1 else 0 := by
  pointwise [triuF, rows, cols]
  rw [cmp_le _ _ l.2 s.2, bit_at]
  rfl

/-- The lower triangle as a mask. -/
theorem tril_at (l s : Fin 128) : tril (ix2 l s) = BitVec.ofBool (decide (s ≤ l)) := by
  pointwise [tril, rows, cols]
  exact cmp_ge _ _ l.2 s.2

/-- The mask of the lower half of the lanes. -/
theorem lowM_at (l n : Fin 128) : lowM (ix2 l n) = BitVec.ofBool (decide (n.1 < 64)) := by
  pointwise [lowM, lowL, laneI]
  exact cmp_lt _ 64 n.2 (by omega)

/-- The mask of the lower half of the rows. -/
theorem lowR_at (l : Fin 128) : lowR (ix2 l 0) = BitVec.ofBool (decide (l.1 < 64)) := by
  pointwise [lowR, rowI]
  exact cmp_lt _ 64 l.2 (by omega)

/-- A choice by a condition held in a bit. -/
theorem sel_at {α : Type} (p : Prop) [Decidable p] (a b : α) :
    Scalar.select (BitVec.ofBool (decide p)) a b = if p then a else b := by
  unfold Scalar.select
  by_cases h : p <;> simp [h]

/-- The matrix of zeros. -/
theorem zeroV_at (i : S128x128.Idx) : zeroV i = 0 := by
  pointwise [zeroV]

/-- The column of zeros. -/
theorem zeroC_at (i : S128x1.Idx) : zeroC i = 0 := by
  pointwise [zeroC]

/-- A select between two columns by the half of the lanes. -/
theorem pick_at (a b : Vc) (l n : Fin 128) : pick a b (ix2 l n) = if n.1 < 64 then a (ix2 l 0) else b (ix2 l 0) := by
  pointwise [pick, bcC]
  rw [lowM_at, sel_at]

/-- A matrix with one half of its lanes kept. -/
theorem part_at (q : Bool) (v : V) (l n : Fin 128) :
    part q v (ix2 l n) = if (n.1 < 64 ↔ q = false) then v (ix2 l n) else 0 := by
  cases q <;> pointwise [part, cond_true, cond_false] <;> rw [lowM_at, sel_at, zeroV_at] <;> by_cases h : n.1 < 64 <;> simp [h]

/-- A column with one half of its rows kept. -/
theorem partR_at (q : Bool) (v : Vc) (l : Fin 128) :
    partR q v (ix2 l 0) = if (l.1 < 64 ↔ q = false) then v (ix2 l 0) else 0 := by
  cases q <;> pointwise [partR, cond_true, cond_false] <;> rw [lowR_at, sel_at, zeroC_at] <;> by_cases h : l.1 < 64 <;> simp [h]

/-- A column placed at a head's lane. -/
theorem putL_at (v : Vc) (h : Nat) (hh : h < 16) (l n : Fin 128) :
    putL v h (ix2 l n) = if n.1 = h then v (ix2 l 0) else 0 := by
  pointwise [putL, bcC, bcR]
  rw [hotL_at h hh]
  by_cases e : n.1 = h <;> simp [e]

/-- A row placed at a head's lane. -/
theorem putR_at (v : Vr) (h : Nat) (hh : h < 16) (l n : Fin 128) :
    putR v h (ix2 l n) = if l.1 = h then v (ix2 0 n) else 0 := by
  pointwise [putR, bcC, bcR]
  rw [hotR_at h hh]
  by_cases e : l.1 = h <;> simp [e]

/-- The product with the second factor transposed. -/
theorem mulT_at (x y : V) (l s : Fin 128) : mulT x y (ix2 l s) = ∑ n : Fin 128, x (ix2 l n) * y (ix2 s n) := by
  pointwise [mulT, accV]

/-- The plain product. -/
theorem mulN_at (x y : V) (l s : Fin 128) : mulN x y (ix2 l s) = ∑ n : Fin 128, x (ix2 l n) * y (ix2 n s) := by
  pointwise [mulN, accV]

/-- The product with the first factor transposed. -/
theorem Tmul_at (x y : V) (l s : Fin 128) : Tmul x y (ix2 l s) = ∑ n : Fin 128, x (ix2 n l) * y (ix2 n s) := by
  pointwise [Tmul, accV]

/-- The plain product, as the kernel takes it of sums. -/
theorem mulH_at (x y : V) (l s : Fin 128) : mulH x y (ix2 l s) = ∑ n : Fin 128, x (ix2 l n) * y (ix2 n s) := by
  pointwise [mulH, accV]

/-- A value cast to its own type is itself. -/
theorem same_at (v : V) : same v = v := by
  exact shapeCast_self _ _

/-- The lane of a pair that holds lane `p` of its head `q`. -/
def lane (q : Bool) (p : Fin 64) : Fin 128 := ⟨cond q 64 0 + p.1, by cases q <;> simp <;> omega⟩

/-- A sum over the lanes of one head of a pair. -/
theorem sum_part (q : Bool) (f : Fin 128 → EReal) :
    (∑ n : Fin 128, if (n.1 < 64 ↔ q = false) then f n else 0) = ∑ p : Fin 64, f (lane q p) := by
  have e := Fin.sum_univ_add (a := 64) (b := 64) (fun n : Fin (64 + 64) => if (n.1 < 64 ↔ q = false) then f n else (0 : EReal))
  refine Eq.trans e ?_
  cases q
  · simp [lane]
    rfl
  · simp [lane]
    rfl

/-- A sum over a pair's lanes is the sum over both heads' lanes. -/
theorem sum_lanes (f : Fin 128 → EReal) :
    (∑ n : Fin 128, f n) = (∑ p : Fin 64, f (lane false p)) + ∑ p : Fin 64, f (lane true p) := by
  have e := Fin.sum_univ_add (a := 64) (b := 64) f
  refine Eq.trans e ?_
  simp [lane]
  rfl

end Cert.Ssd

end
-- ==== Proof.HeadRead.lean ====
module

public import proofs.«01_k».proof.Proof.Prim
public import proofs.«01_k».proof.Proof.Spec

@[expose] public section

/-! What one chunk of the kernel computes, read at an index: the steps of `Spec.lean`, head by head. -/

noncomputable section

namespace Cert.Ssd

open Idealize.ShloMosaic Idealize.ShloMosaic.Pointwise Cert.KernelIdeal Cert.KernelIdeal.Gen

namespace In

/-- Fewer than sixteen heads. -/
theorem hd_lt (k : Fin 8) (q : Bool) : hd k q < 16 := by
  cases q <;> simp [hd] <;> omega

/-- The lane a head has in the blocks that hold all heads. -/
def hl (k : Fin 8) (q : Bool) : Fin 128 := ⟨hd k q, by have := hd_lt k q; omega⟩

/-- The data of head `q` of pair `k`. -/
def head (I : In) (k : Fin 8) (q : Bool) : Head where
  x l p := I.x k (ix2 l (lane q p))
  dy l p := I.Dy k (ix2 l (lane q p))
  B l n := I.B (grp k) (ix2 l n)
  C l n := I.C (grp k) (ix2 l n)
  u l := I.u (ix2 l (hl k q))
  H p n := I.H k (ix2 (lane q p) n)
  E p n := I.E k (ix2 (lane q p) n)
  a := I.A (ix2 0 (hl k q))
  d p := I.D k (ix2 0 (lane q p))

variable (I : In) (k : Fin 8) (q : Bool)

/-- The kernel's step, at an entry. -/
theorem dt_at (l n : Fin 128) : I.dt (ix2 l n) = sp (I.u (ix2 l n)) := by
  pointwise [dt, sp, zeroV, oneV]
  rfl

/-- A sum against a row that is one at a single lane. -/
theorem hot_sum (f : Fin 128 → EReal) :
    (∑ n : Fin 128, f n * if n.1 = hd k q then (1 : EReal) else 0) = f (hl k q) := by
  rw [Finset.sum_eq_single (hl k q)]
  · simp [hl]
  · intro b _ hb
    have : ¬ b.1 = hd k q := fun e => hb (Fin.ext e)
    simp [this]
  · simp

/-- The kernel's column of the step, for one head, at an entry. -/
theorem dtc_at (l : Fin 128) : I.dtc (hd k q) (ix2 l 0) = (I.head k q).dt l := by
  rw [dtc, sumL_at]
  pointwise [bcR_at, hotL_at _ (hd_lt k q), hot_sum, dt_at]
  rfl

/-- The kernel's running sum of the decays, at an entry. -/
theorem acs_at (l n : Fin 128) :
    I.acs (ix2 l n) = ∑ s : Fin 128, if s ≤ l then I.dt (ix2 s n) * I.A (ix2 0 n) else 0 := by
  rw [acs, mulH_at]
  pointwise [bcR_at, trilF_at]
  refine Finset.sum_congr rfl fun s _ => ?_
  by_cases h : s ≤ l <;> simp [h]

/-- The kernel's running sum, at a head's lane. -/
theorem acs_head (l : Fin 128) : I.acs (ix2 l (hl k q)) = (I.head k q).acs l := by
  rw [acs_at]
  simp only [dt_at]
  rfl

/-- The kernel's column of the running sum, for one head, at an entry. -/
theorem col_at (l : Fin 128) : I.col (hd k q) (ix2 l 0) = (I.head k q).acs l := by
  rw [col, sumL_at]
  pointwise [bcR_at, hotL_at _ (hd_lt k q), hot_sum, acs_head]

/-- The kernel's row of the running sum, for one head, at an entry. -/
theorem row_at (s : Fin 128) : I.row (hd k q) (ix2 0 s) = (I.head k q).acs s := by
  rw [row, sumR_at]
  pointwise [bcC_at, hotR_at _ (hd_lt k q), acsT, hot_sum, acs_head]

/-- The kernel's last entry of the running sum. -/
theorem clast_at : I.clast (hd k q) (ix2 0 0) = (I.head k q).last := by
  rw [clast, sumC_at]
  pointwise [lastC_at, col_at]
  simp [Head.last]

/-- The kernel's masked decay matrix, at an entry. -/
theorem L_at (l s : Fin 128) : I.L (hd k q) (ix2 l s) = (I.head k q).L l s := by
  pointwise [L, bcC_at, bcR_at, col_at, row_at, tril_at, sel_at]
  rfl

/-- The kernel's decay from the chunk's start, at an entry. -/
theorem out_at (l : Fin 128) : I.out (hd k q) (ix2 l 0) = (I.head k q).out l := by
  pointwise [out, col_at]
  rfl

/-- The kernel's decay up to the chunk's end, at an entry. -/
theorem dec_at (l : Fin 128) : I.dec (hd k q) (ix2 l 0) = (I.head k q).dec l := by
  pointwise [dec, col_at, clast_at]
  rfl

/-- The kernel's whole chunk's decay, at an entry. -/
theorem keep_at : I.keep (hd k q) (ix2 0 0) = Ideal.exp (I.head k q).last := by
  pointwise [keep, clast_at]

/-- The kernel's products of `C` rows with `B` rows, at an entry. -/
theorem G_at (l s : Fin 128) : I.G (grp k) (ix2 l s) = (I.head k q).G l s := by
  rw [G, mulT_at]
  rfl

/-- The kernel's matrix by which a chunk's inputs are mixed, at an entry. -/
theorem M_at (l s : Fin 128) : I.M k q (ix2 l s) = (I.head k q).M l s := by
  pointwise [M, L_at, G_at I k q]
  rfl

/-- The first head of a pair has the lower half of the lanes. -/
theorem lane_low (p : Fin 64) : (lane q p).1 < 64 ↔ q = false := by
  cases q <;> simp [lane]

/-- A value picked by halves of the lanes, at a head's lane. -/
theorem pick_lane (f : Bool → Vc) (l : Fin 128) (p : Fin 64) :
    pick (f false) (f true) (ix2 l (lane q p)) = f q (ix2 l 0) := by
  rw [pick_at]
  have := lane_low q p
  cases q <;> simp_all

/-- The kernel's step, spread over a head's lanes, at an entry. -/
theorem dtS_at (l : Fin 128) (p : Fin 64) : I.dtS k (ix2 l (lane q p)) = (I.head k q).dt l := by
  rw [dtS, pick_lane q (fun q => I.dtc (hd k q)), dtc_at]

/-- The kernel's inputs times the step, at an entry. -/
theorem xd_at (l : Fin 128) (p : Fin 64) : I.xd k (ix2 l (lane q p)) = (I.head k q).xd l p := by
  pointwise [xd, dtS_at]
  rfl

/-- The kernel's decay from the chunk's start, spread over a head's lanes, at an entry. -/
theorem outS_at (l : Fin 128) (p : Fin 64) : I.outS k (ix2 l (lane q p)) = (I.head k q).out l := by
  rw [outS, pick_lane q (fun q => I.out (hd k q)), out_at]

/-- The kernel's decay up to the chunk's end, spread over a head's lanes, at an entry. -/
theorem decS_at (l : Fin 128) (p : Fin 64) : I.decS k (ix2 l (lane q p)) = (I.head k q).dec l := by
  rw [decS, pick_lane q (fun q => I.dec (hd k q)), dec_at]

/-- The kernel's `C` rows times the state, at an entry. -/
theorem CH_at (l : Fin 128) (p : Fin 64) : I.CH k (ix2 l (lane q p)) = (I.head k q).CH l p := by
  rw [CH, mulT_at]
  rfl

/-- The kernel's whole chunk's decay, spread over a head's lanes, at an entry. -/
theorem keepS_at (p : Fin 64) : I.keepS k (ix2 (lane q p) 0) = Ideal.exp (I.head k q).last := by
  pointwise [keepS, lowR_at, sel_at, keep_at]
  have := lane_low q p
  cases q <;> simp_all

/-- The kernel's `B` rows times the state's gradient, at an entry. -/
theorem BE_at (l : Fin 128) (p : Fin 64) : I.BE k (ix2 l (lane q p)) = (I.head k q).BE l p := by
  rw [BE, mulT_at, same_at]
  rfl

/-- The kernel's part of the `B` rows' gradient that comes by the state, at an entry. -/
theorem dB1_at (l n : Fin 128) : I.dB1 k (ix2 l n) = (I.head k false).dB1 l n + (I.head k true).dB1 l n := by
  rw [dB1, mulN_at, same_at, sum_lanes]
  pointwise [xd_at, decS_at]
  rfl

/-- The kernel's gradient of the whole chunk's decay, at an entry. -/
theorem hE_at : I.hE k q (ix2 0 0) = (I.head k q).hE := by
  rw [hE, sumAll_at]
  simp only [partR_at, sumL_at, same_at]
  rw [sum_part]
  pointwise
  rfl

/-- The kernel's gradient of the decay up to the chunk's end, times that decay, at an entry. -/
theorem dterm_at (l : Fin 128) : I.dterm k q (ix2 l 0) = (I.head k q).dterm l := by
  pointwise [dterm, sumL_at, part_at, sum_part, dec_at, xd_at, BE_at]
  rfl

/-- The sum that goes to the chunk's last position. -/
theorem tail_at :
    I.tail k q (ix2 0 0) = (I.head k q).hE * Ideal.exp (I.head k q).last + ∑ s : Fin 128, (I.head k q).dterm s := by
  pointwise [tail, hE_at, keep_at, sumC_at, dterm_at]

/-- The kernel's gradient of the outputs, at an entry. -/
theorem dy_at : I.dy k = I.Dy k := same_at _

/-- The kernel's gradient of the skip weights, one head's lanes, at an entry. -/
theorem dd_at (p : Fin 64) : I.dd k (ix2 0 (lane q p)) = (I.head k q).dd p := by
  rw [dd, sumR_at, dy_at]
  pointwise
  rfl

/-- The kernel's gradient of the outputs times the decay from the chunk's start, at an entry. -/
theorem dyo_at (l : Fin 128) (p : Fin 64) : I.dyo k (ix2 l (lane q p)) = (I.head k q).dyo l p := by
  pointwise [dyo, outS_at, dy_at]
  rw [mul_comm]
  rfl

/-- The kernel's part of the `C` rows' gradient that comes by the state, at an entry. -/
theorem dC1_at (l n : Fin 128) : I.dC1 k (ix2 l n) = (I.head k false).dC1 l n + (I.head k true).dC1 l n := by
  rw [dC1, mulN_at, sum_lanes]
  simp only [dyo_at]
  rfl

/-- The kernel's state's gradient handed to the chunk before, at an entry. -/
theorem newE_at (p : Fin 64) (n : Fin 128) : I.newE k (ix2 (lane q p) n) = (I.head k q).newE p n := by
  pointwise [newE, same_at, bcC_at, keepS_at, Tmul_at, dyo_at]
  rfl

/-- The kernel's gradient of the decay from the chunk's start, times that decay, at an entry. -/
theorem dout_at (l : Fin 128) : I.dout k q (ix2 l 0) = (I.head k q).dout l * (I.head k q).out l := by
  pointwise [dout, sumL_at, part_at, sum_part, out_at, dy_at, CH_at]
  rfl

/-- The kernel's gradient of the mixing matrix, at an entry. -/
theorem dM_at (l s : Fin 128) : I.dM k q (ix2 l s) = (I.head k q).dM l s := by
  rw [dM, mulT_at]
  simp only [part_at, ite_mul, zero_mul, dy_at]
  rw [sum_part]
  simp only [xd_at]
  rfl

/-- A product with one head's lanes kept and the other's zeroed. -/
theorem Tpart_at (l : Fin 128) (p : Fin 64) (q' : Bool) :
    Tmul (I.M k q') (part q' (I.dy k)) (ix2 l (lane q p)) =
      if q = q' then ∑ r : Fin 128, (I.head k q).M r l * (I.head k q).dy r p else 0 := by
  rw [Tmul_at, dy_at]
  simp only [part_at, lane_low]
  cases q <;> cases q' <;> simp [M_at] <;> rfl

/-- The kernel's gradient of the inputs times the step, at an entry. -/
theorem dxd_at (l : Fin 128) (p : Fin 64) : I.dxd k (ix2 l (lane q p)) = (I.head k q).dxd l p := by
  pointwise [dxd, BE_at, decS_at, Tpart_at]
  cases q <;> simp <;> rfl

/-- The kernel's gradient of the inputs, at an entry. -/
theorem dx_at (l : Fin 128) (p : Fin 64) : I.dx k (ix2 l (lane q p)) = (I.head k q).dx l p := by
  pointwise [dx, dxd_at, dtS_at, bcR_at, dy_at]
  rfl

/-- The part of the step's gradient that comes by the inputs. -/
theorem ddt1_at (l : Fin 128) :
    I.ddt1 k q (ix2 l 0) = ∑ p : Fin 64, (I.head k q).x l p * (I.head k q).dxd l p := by
  pointwise [ddt1, sumL_at, part_at, sum_part, dxd_at]
  rfl

/-- The kernel's one head's part of the gradient of the products, at an entry. -/
theorem dGh_at (l s : Fin 128) : I.dGh k q (ix2 l s) = (I.head k q).dGh l s := by
  pointwise [dGh, dM_at, L_at]
  rfl

/-- The kernel's gradient of the decay matrix's exponents, at an entry. -/
theorem dseg_at (l s : Fin 128) : I.dseg k q (ix2 l s) = (I.head k q).dseg l s := by
  pointwise [dseg, dM_at, L_at, G_at I k q, tril_at, sel_at, zeroV_at]
  rfl

/-- The kernel's negated column sums of the exponents' gradient, at an entry. -/
theorem dsegR_at (s : Fin 128) : I.dsegR k q (ix2 0 s) = ∑ r : Fin 128, -(I.head k q).dseg r s := by
  pointwise [dsegR, sumR_at, dseg_at, zeroV_at]
  simp only [sub_eq_add_neg, zero_add]

/-- The column of a head's decay gradients. -/
theorem dcol_at (l : Fin 128) :
    I.dcol k q (ix2 l 0) = -(I.head k q).dterm l + (I.head k q).dout l * (I.head k q).out l
      + (∑ s : Fin 128, (I.head k q).dseg l s) + (I.head k q).tail l := by
  pointwise [dcol, sub_eq_add_neg, zero_add, dterm_at, dout_at, sumL_at, dseg_at, spread_at, tail_at, lastC_at, zeroC_at]
  unfold Head.tail
  by_cases h : l = 127 <;> simp [h]

/-! ## All heads together -/

/-- A sum over the sixteen heads, at an entry. -/
theorem heads_at (f : Fin 8 → Bool → V) (i : S128x128.Idx) :
    heads f i = ∑ k : Fin 8, (f k false i + f k true i) := by
  simp only [heads, List.foldl, Fin.sum_univ_eight]
  pointwise
  ac_rfl

/-- A sum over a group's eight heads, at an entry. -/
theorem gheads_at (g : Fin 2) (f : Fin 8 → Bool → V) (i : S128x128.Idx) :
    gheads g f i = ∑ r : Fin 4, (f ⟨4 * g.1 + r.1, by omega⟩ false i + f ⟨4 * g.1 + r.1, by omega⟩ true i) := by
  have h (r : Nat) (hr : r < 4) : (4 * g.1 + r) % 8 = 4 * g.1 + r := Nat.mod_eq_of_lt (by omega)
  simp only [gheads, List.foldl, Fin.sum_univ_four, h 0 (by omega), h 1 (by omega), h 2 (by omega), h 3 (by omega)]
  pointwise
  abel

/-- A sum over a group's four pairs, at an entry. -/
theorem pairs_at (g : Fin 2) (f : Fin 8 → V) (i : S128x128.Idx) :
    pairs g f i = ∑ r : Fin 4, f ⟨4 * g.1 + r.1, by omega⟩ i := by
  have h (r : Nat) (hr : r < 4) : (4 * g.1 + r) % 8 = 4 * g.1 + r := Nat.mod_eq_of_lt (by omega)
  simp only [pairs, List.foldl, Fin.sum_univ_four, h 0 (by omega), h 1 (by omega), h 2 (by omega), h 3 (by omega)]
  pointwise
  ac_rfl

/-- The head a lane below sixteen holds. -/
theorem hd_eq (k k' : Fin 8) (q q' : Bool) : hd k q = hd k' q' ↔ k = k' ∧ q = q' := by
  cases q <;> cases q' <;> simp [hd, Fin.ext_iff] <;> omega

/-- Of the heads' values placed at their own lanes, a head's lane holds its own. -/
theorem put_sum (f : Fin 8 → Bool → EReal) :
    (∑ j : Fin 8, ((if (hl k q).1 = hd j false then f j false else 0) + if (hl k q).1 = hd j true then f j true else 0)) =
      f k q := by
  simp only [hl, hd_eq]
  cases q <;> simp [Finset.sum_ite_eq]

/-- A lane past the heads holds zero. -/
theorem put_none (n : Fin 128) (hn : 16 ≤ n.1) (f : Fin 8 → Bool → EReal) :
    (∑ j : Fin 8, ((if n.1 = hd j false then f j false else 0) + if n.1 = hd j true then f j true else 0)) = 0 := by
  refine Finset.sum_eq_zero fun j _ => ?_
  have h1 := hd_lt j false
  have h2 := hd_lt j true
  rw [if_neg (by omega), if_neg (by omega), add_zero]

/-- The heads' columns placed at their lanes. -/
theorem headsL_at (v : Fin 8 → Bool → Vc) (l : Fin 128) :
    heads (fun k q => putL (v k q) (hd k q)) (ix2 l (hl k q)) = v k q (ix2 l 0) := by
  rw [heads_at]
  simp only [putL_at _ _ (hd_lt _ _)]
  exact put_sum k q fun k q => v k q (ix2 l 0)

/-- The heads' rows placed at their lanes. -/
theorem headsR_at (v : Fin 8 → Bool → Vr) (l : Fin 128) :
    heads (fun k q => putR (v k q) (hd k q)) (ix2 (hl k q) l) = v k q (ix2 0 l) := by
  rw [heads_at]
  simp only [putR_at _ _ (hd_lt _ _)]
  exact put_sum k q fun k q => v k q (ix2 0 l)

/-- Columns placed at the heads' lanes leave the other lanes zero. -/
theorem headsL_none (v : Fin 8 → Bool → Vc) (l n : Fin 128) (hn : 16 ≤ n.1) :
    heads (fun k q => putL (v k q) (hd k q)) (ix2 l n) = 0 := by
  rw [heads_at]
  simp only [putL_at _ _ (hd_lt _ _)]
  exact put_none n hn fun k q => v k q (ix2 l 0)

/-- Rows placed at the heads' lanes leave the other lanes zero. -/
theorem headsR_none (v : Fin 8 → Bool → Vr) (l n : Fin 128) (hn : 16 ≤ n.1) :
    heads (fun k q => putR (v k q) (hd k q)) (ix2 n l) = 0 := by
  rw [heads_at]
  simp only [putR_at _ _ (hd_lt _ _)]
  exact put_none n hn fun k q => v k q (ix2 0 l)

/-- The kernel's gradient of the running sum, at an entry. -/
theorem dacs_at (l : Fin 128) : I.dacs (ix2 l (hl k q)) = (I.head k q).dacs l := by
  pointwise [dacs, headsL_at, headsR_at, dcol_at, dsegR_at]
  rfl

/-- The kernel's gradient of the running sum: lanes past the heads hold zero. -/
theorem dacs_none (l n : Fin 128) (hn : 16 ≤ n.1) : I.dacs (ix2 l n) = 0 := by
  pointwise [dacs, headsL_none _ l n hn, headsR_none _ l n hn, add_zero]

/-- The kernel's gradient of the decays, at an entry. -/
theorem dda_at (l : Fin 128) : I.dda (ix2 l (hl k q)) = (I.head k q).dda l := by
  rw [dda, mulH_at]
  simp only [triuF_at, dacs_at, ite_mul, one_mul, zero_mul]
  rfl

/-- The kernel's gradient of the decays: lanes past the heads hold zero. -/
theorem dda_none (l n : Fin 128) (hn : 16 ≤ n.1) : I.dda (ix2 l n) = 0 := by
  rw [dda, mulH_at]
  simp [dacs_none I _ n hn]

/-- The kernel's gradient of the step before softplus, at an entry. -/
theorem du_at (l : Fin 128) : I.du (ix2 l (hl k q)) = (I.head k q).du l := by
  pointwise [du, headsL_at, ddt1_at, dda_at, bcR_at]
  rfl

/-- The kernel's gradient of the step before softplus: lanes past the heads hold zero. -/
theorem du_none (l n : Fin 128) (hn : 16 ≤ n.1) : I.du (ix2 l n) = 0 := by
  pointwise [du, headsL_none _ l n hn, dda_none I l n hn, zero_mul, add_zero]

/-- The kernel's gradient of the decay rates, at an entry. -/
theorem da_at : I.da (ix2 0 (hl k q)) = (I.head k q).da := by
  rw [da, sumR_at]
  pointwise [dda_at, dt_at]
  rfl

/-- The kernel's gradient of the decay rates: lanes past the heads hold zero. -/
theorem da_none (n : Fin 128) (hn : 16 ≤ n.1) : I.da (ix2 0 n) = 0 := by
  rw [da, sumR_at]
  pointwise [dda_none I _ n hn, mul_zero]
  simp

/-- The kernel's gradient of the step's bias, at an entry. -/
theorem ddtb_at : I.ddtb (ix2 0 (hl k q)) = ∑ l : Fin 128, (I.head k q).du l := by
  rw [ddtb, sumR_at]
  simp only [du_at]

/-- The kernel's gradient of the step's bias: lanes past the heads hold zero. -/
theorem ddtb_none (n : Fin 128) (hn : 16 ≤ n.1) : I.ddtb (ix2 0 n) = 0 := by
  rw [ddtb, sumR_at]
  simp [du_none I _ n hn]

/-! ## The groups -/

/-- The heads of a group. -/
def ghead (g : Fin 2) (e : Fin 8) : Head := I.head ⟨4 * g.1 + e.1 / 2, by omega⟩ (decide (e.1 % 2 = 1))

/-- A sum over a group's heads, taken pair by pair. -/
theorem sum_ghead (g : Fin 2) (f : Head → EReal) :
    (∑ e : Fin 8, f (I.ghead g e)) =
      ∑ r : Fin 4, (f (I.head ⟨4 * g.1 + r.1, by omega⟩ false) + f (I.head ⟨4 * g.1 + r.1, by omega⟩ true)) := by
  simp only [Fin.sum_univ_eight, Fin.sum_univ_four, add_assoc]
  rfl

/-- The group of a pair. -/
theorem grp_mk (g : Fin 2) (r : Nat) (hr : 4 * g.1 + r < 8) (h4 : r < 4) : grp ⟨4 * g.1 + r, hr⟩ = g :=
  Fin.ext (by simp only [grp]; omega)

/-- Every head of a group has the group's `B` rows. -/
theorem ghead_B (g : Fin 2) (e : Fin 8) (l n : Fin 128) : (I.ghead g e).B l n = I.B g (ix2 l n) := by
  simp only [ghead, head]
  rw [grp_mk g _ _ (by omega)]

/-- Every head of a group has the group's `C` rows. -/
theorem ghead_C (g : Fin 2) (e : Fin 8) (l n : Fin 128) : (I.ghead g e).C l n = I.C g (ix2 l n) := by
  simp only [ghead, head]
  rw [grp_mk g _ _ (by omega)]

/-- The kernel's gradient of the products of `C` rows with `B` rows, at an entry. -/
theorem dG_at (g : Fin 2) (l s : Fin 128) : I.dG g (ix2 l s) = Ssd.dG (I.ghead g) l s := by
  rw [dG, gheads_at]
  simp only [dGh_at]
  exact (sum_ghead I g fun h => h.dGh l s).symm

/-- The kernel's gradient of the `C` rows, at an entry. -/
theorem dC_at (g : Fin 2) (l n : Fin 128) : I.dC g (ix2 l n) = Ssd.dC (I.ghead g) l n := by
  pointwise [dC, pairs_at, mulN_at, dG_at, dC1_at, Ssd.dC, ghead_B]
  rw [sum_ghead I g fun h => h.dC1 l n]

/-- The kernel's gradient of the `B` rows, at an entry. -/
theorem dB_at (g : Fin 2) (l n : Fin 128) : I.dB g (ix2 l n) = Ssd.dB (I.ghead g) l n := by
  pointwise [dB, pairs_at, Tmul_at, dG_at, dB1_at, Ssd.dB, ghead_C]
  rw [sum_ghead I g fun h => h.dB1 l n]

end In

end Cert.Ssd

end
-- ==== Proof.Whole.lean ====
module

public import proofs.«01_k».proof.Proof.Spec
public import Idealize.ShloMosaic.Lib.ValueIdx

@[expose] public section

/-!
  The backward pass of the whole scan: 32 chunks of 128 rows, 2 groups of 8 heads of 64 lanes. The chunks are taken
  from the last to the first, each handing the cotangent of the state it entered with on to the one before.
-/

noncomputable section

namespace Cert.Ssd

open Idealize.ShloMosaic Idealize.ShloMosaic.ValueIdx

/-- The arguments: the convolved rows `X` (1024 input columns, then `B` and `C` of the two groups), the projection `P`
    (the step sizes are its columns from 6656), the state `St` each chunk entered with, the output's cotangent `Dy`, and
    the three rows of the layer. -/
structure Args where
  X : (⟨2, ![4096, 1536]⟩ : Shape).Idx → EReal
  P : (⟨2, ![4096, 10368]⟩ : Shape).Idx → EReal
  St : (⟨4, ![32, 8, 128, 128]⟩ : Shape).Idx → EReal
  Dy : (⟨2, ![4096, 1024]⟩ : Shape).Idx → EReal
  al : (⟨1, ![16]⟩ : Shape).Idx → EReal
  tb : (⟨1, ![16]⟩ : Shape).Idx → EReal
  ds : (⟨1, ![16]⟩ : Shape).Idx → EReal

/-- Row `l` of chunk `c`. -/
def row (c : Fin 32) (l : Fin 128) : Fin 4096 := ⟨128 * c.1 + l.1, by omega⟩

namespace Args

variable (A : Args)

/-- Head `e` of group `g` in chunk `c`, given the cotangent `E` of the state the chunk hands on. -/
def base (c : Fin 32) (g : Fin 2) (e : Fin 8) (E : Fin 64 → Fin 128 → EReal) : Head where
  x l p := A.X (ix2 (row c l) ⟨512 * g.1 + 64 * e.1 + p.1, by omega⟩)
  dy l p := A.Dy (ix2 (row c l) ⟨512 * g.1 + 64 * e.1 + p.1, by omega⟩)
  B l n := A.X (ix2 (row c l) ⟨1024 + 128 * g.1 + n.1, by omega⟩)
  C l n := A.X (ix2 (row c l) ⟨1280 + 128 * g.1 + n.1, by omega⟩)
  u l := A.P (ix2 (row c l) ⟨6656 + 8 * g.1 + e.1, by omega⟩) + A.tb (ix1 ⟨8 * g.1 + e.1, by omega⟩)
  H p n := A.St (ix4 c ⟨4 * g.1 + e.1 / 2, by omega⟩ ⟨64 * (e.1 % 2) + p.1, by omega⟩ n)
  E := E
  a := -Ideal.exp (A.al (ix1 ⟨8 * g.1 + e.1, by omega⟩))
  d _ := A.ds (ix1 ⟨8 * g.1 + e.1, by omega⟩)

/-- The chunk taken at step `t`. -/
def chunk (t : Nat) : Fin 32 := ⟨31 - t, by omega⟩

/-- The cotangent of the state handed on, before step `t`. -/
def car : Nat → Fin 2 → Fin 8 → Fin 64 → Fin 128 → EReal
  | 0, _, _ => fun _ _ => 0
  | t + 1, g, e => (A.base (chunk t) g e (car t g e)).newE

/-- Head `e` of group `g` in chunk `c`. -/
def hd (c : Fin 32) (g : Fin 2) (e : Fin 8) : Head := A.base c g e (A.car (31 - c.1) g e)

/-- The gradient of the convolved rows. -/
def dX (r : Fin 4096) (j : Fin 1536) : EReal :=
  if h : j.1 < 1024 then
    (A.hd ⟨r.1 / 128, by omega⟩ ⟨j.1 / 512, by omega⟩ ⟨j.1 % 512 / 64, by omega⟩).dx ⟨r.1 % 128, by omega⟩ ⟨j.1 % 64, by omega⟩
  else if j.1 < 1280 then
    dB (A.hd ⟨r.1 / 128, by omega⟩ ⟨j.1 / 128 % 2, by omega⟩) ⟨r.1 % 128, by omega⟩ ⟨j.1 % 128, by omega⟩
  else dC (A.hd ⟨r.1 / 128, by omega⟩ ⟨j.1 / 128 % 2, by omega⟩) ⟨r.1 % 128, by omega⟩ ⟨j.1 % 128, by omega⟩

/-- The gradient of the projection: the step sizes' columns, zeros to the end of their block, the other columns as in `Q`. -/
def dP (Q : (⟨2, ![4096, 10368]⟩ : Shape).Idx → EReal) (r : Fin 4096) (j : Fin 10368) : EReal :=
  if h : 6656 ≤ j.1 ∧ j.1 < 6672 then
    (A.hd ⟨r.1 / 128, by omega⟩ ⟨(j.1 - 6656) / 8, by omega⟩ ⟨(j.1 - 6656) % 8, by omega⟩).du ⟨r.1 % 128, by omega⟩
  else if 6656 ≤ j.1 ∧ j.1 < 6912 then 0 else Q (ix2 r j)

/-- The gradient of the decay rates, zeros after the 16 heads. -/
def dA (j : Fin 128) : EReal :=
  if h : j.1 < 16 then ∑ c : Fin 32, (A.hd c ⟨j.1 / 8, by omega⟩ ⟨j.1 % 8, by omega⟩).da else 0

/-- The gradient of the step sizes' biases, zeros after the 16 heads. -/
def dT (j : Fin 128) : EReal :=
  if h : j.1 < 16 then ∑ c : Fin 32, ∑ l : Fin 128, (A.hd c ⟨j.1 / 8, by omega⟩ ⟨j.1 % 8, by omega⟩).du l else 0

/-- The gradient of the skip weights. -/
def dD (j : Fin 1024) : EReal :=
  ∑ c : Fin 32, (A.hd c ⟨j.1 / 512, by omega⟩ ⟨j.1 % 512 / 64, by omega⟩).dd ⟨j.1 % 64, by omega⟩

end Args

end Cert.Ssd

end
-- ==== Proof.Blocks.lean ====
module

public import proofs.«01_k».proof.Proof.OutVals
public import proofs.«01_k».proof.Proof.HeadRead
public import proofs.«01_k».proof.Proof.Whole
public import Idealize.ShloMosaic.Lib.StableHlo.ReadAt

@[expose] public section

set_option maxRecDepth 16384

/-!
  The blocks the points load, in terms of the arguments.
-/

noncomputable section

namespace Cert.Ssd

open Idealize.ShloMosaic Idealize.ShloMosaic.TcCoe Idealize.ShloMosaic.Pointwise Idealize.SL.Sem Cert.KernelIdeal Cert.KernelIdeal.Gen
open Idealize.ShloMosaic.Pipeline (Dat)

variable (m : (ℓ : Loc nD τ sig) → Buf (Elt Ideal) ℓ) (c : Dev nD)

/-- The arguments a device is launched with. -/
def argsOf : Args where
  X := m ((c : Thread nD τ).loc main_arg0)
  P := m ((c : Thread nD τ).loc main_arg1)
  St := m ((c : Thread nD τ).loc main_arg2)
  Dy := m ((c : Thread nD τ).loc main_arg3)
  al := m ((c : Thread nD τ).loc main_arg4)
  tb := m ((c : Thread nD τ).loc main_arg5)
  ds := m ((c : Thread nD τ).loc main_arg6)

/-- The decay rates, as the region finds them. -/
theorem V_a (h : Fin 16) : KernelIdeal.Gen.V m c main_v3 (ix2 0 ⟨h.1, by omega⟩) = -Ideal.exp ((argsOf m c).al (ix1 h)) := by
  unfold KernelIdeal.Gen.V
  after_reads_at
  rfl

/-- The step sizes' biases, as the region finds them. -/
theorem V_b (h : Fin 16) : KernelIdeal.Gen.V m c main_v5 (ix2 0 ⟨h.1, by omega⟩) = (argsOf m c).tb (ix1 h) := by
  unfold KernelIdeal.Gen.V
  after_reads_at
  rfl

/-- The skip weights, as the region finds them. -/
theorem V_d (h : Fin 16) (p : Fin 64) : KernelIdeal.Gen.V m c main_v8 (ix2 0 ⟨64 * h.1 + p.1, by omega⟩) = (argsOf m c).ds (ix1 h) := by
  unfold KernelIdeal.Gen.V
  after_reads_at
  have e : (64 * h.1 + p.1) / 64 = h.1 := by omega
  simp only [e]
  rfl

/-- The block indices of the moving windows. -/
theorem idx_all : ∀ t : Fin cfg0.N,
    (win0_0.index t 0 = 31 - t.1 ∧ win0_0.index t 1 = 0) ∧ (win0_1.index t 0 = 31 - t.1 ∧ win0_1.index t 1 = 52) ∧
    (win0_2.index t 0 = 31 - t.1 ∧ win0_2.index t 1 = 0 ∧ win0_2.index t 2 = 0 ∧ win0_2.index t 3 = 0) ∧
    (win0_3.index t 0 = 31 - t.1 ∧ win0_3.index t 1 = 0) ∧
    (win0_7.index t 0 = 31 - t.1 ∧ win0_7.index t 1 = 0) ∧ (win0_8.index t 0 = 31 - t.1 ∧ win0_8.index t 1 = 26) :=
  (by decide +kernel : ∀ t : Fin grid0.N,
    (win0_0.index t 0 = 31 - t.1 ∧ win0_0.index t 1 = 0) ∧ (win0_1.index t 0 = 31 - t.1 ∧ win0_1.index t 1 = 52) ∧
    (win0_2.index t 0 = 31 - t.1 ∧ win0_2.index t 1 = 0 ∧ win0_2.index t 2 = 0 ∧ win0_2.index t 3 = 0) ∧
    (win0_3.index t 0 = 31 - t.1 ∧ win0_3.index t 1 = 0) ∧
    (win0_7.index t 0 = 31 - t.1 ∧ win0_7.index t 1 = 0) ∧ (win0_8.index t 0 = 31 - t.1 ∧ win0_8.index t 1 = 26))

variable (t : Fin cfg0.N)

/-- The block of the scan's inputs that a point reads. -/
theorem blk_x (l : Fin 128) (j : Fin 1536) :
    (iblk m c 0 t : S128x1536.Idx → EReal) (ix2 l j) = (argsOf m c).X (ix2 (row (Args.chunk t.1) l) j) := by
  have hi := (idx_all t).1
  unfold iblk
  rw [View.read_apply]
  refine (congrFun (V_main_arg0 m c) _).trans ?_
  refine congrArg (m ((c : Thread nD τ).loc main_arg0)) ?_
  funext a
  apply Fin.ext
  match a with
  | ⟨0, _⟩ => show win0_0.index t 0 * 128 + 1 * l.val = 128 * (31 - t.val) + l.val; rw [hi.1]; omega
  | ⟨1, _⟩ => show win0_0.index t 1 * 1536 + 1 * j.val = j.val; rw [hi.2]; omega

/-- The block of the projection's step columns that a point reads. -/
theorem blk_u (l n : Fin 128) :
    (iblk m c 1 t : S128x128.Idx → EReal) (ix2 l n) = (argsOf m c).P (ix2 (row (Args.chunk t.1) l) ⟨6656 + n.1, by omega⟩) := by
  have hi := (idx_all t).2.1
  unfold iblk
  rw [View.read_apply]
  refine (congrFun (V_main_arg1 m c) _).trans ?_
  refine congrArg (m ((c : Thread nD τ).loc main_arg1)) ?_
  funext a
  apply Fin.ext
  match a with
  | ⟨0, _⟩ => show win0_1.index t 0 * 128 + 1 * l.val = 128 * (31 - t.val) + l.val; rw [hi.1]; omega
  | ⟨1, _⟩ => show win0_1.index t 1 * 128 + 1 * n.val = 6656 + n.val; rw [hi.2]; omega

/-- The block of states that a point reads. -/
theorem blk_h (k : Fin 8) (r n : Fin 128) :
    (iblk m c 2 t : S1x8x128x128.Idx → EReal) (ix4 0 k r n) = (argsOf m c).St (ix4 (Args.chunk t.1) k r n) := by
  have hi := (idx_all t).2.2.1
  unfold iblk
  rw [View.read_apply]
  refine (congrFun (V_main_arg2 m c) _).trans ?_
  refine congrArg (m ((c : Thread nD τ).loc main_arg2)) ?_
  funext a
  apply Fin.ext
  match a with
  | ⟨0, _⟩ => show win0_2.index t 0 * 1 + 1 * 0 = 31 - t.val; rw [hi.1]; omega
  | ⟨1, _⟩ => show win0_2.index t 1 * 8 + 1 * k.val = k.val; rw [hi.2.1]; omega
  | ⟨2, _⟩ => show win0_2.index t 2 * 128 + 1 * r.val = r.val; rw [hi.2.2.1]; omega
  | ⟨3, _⟩ => show win0_2.index t 3 * 128 + 1 * n.val = n.val; rw [hi.2.2.2]; omega

/-- The block of the outputs' gradient that a point reads. -/
theorem blk_dy (l : Fin 128) (j : Fin 1024) :
    (iblk m c 3 t : S128x1024.Idx → EReal) (ix2 l j) = (argsOf m c).Dy (ix2 (row (Args.chunk t.1) l) j) := by
  have hi := (idx_all t).2.2.2.1
  unfold iblk
  rw [View.read_apply]
  refine (congrFun (V_main_arg3 m c) _).trans ?_
  refine congrArg (m ((c : Thread nD τ).loc main_arg3)) ?_
  funext a
  apply Fin.ext
  match a with
  | ⟨0, _⟩ => show win0_3.index t 0 * 128 + 1 * l.val = 128 * (31 - t.val) + l.val; rw [hi.1]; omega
  | ⟨1, _⟩ => show win0_3.index t 1 * 1024 + 1 * j.val = j.val; rw [hi.2]; omega

/-- The block indices of the windows that stay. -/
theorem idx_rest : ∀ t : Fin cfg0.N, ∀ a : Fin 2,
    win0_4.index t a = 0 ∧ win0_5.index t a = 0 ∧ win0_6.index t a = 0 ∧ win0_9.index t a = 0 ∧ win0_10.index t a = 0 ∧ win0_11.index t a = 0 :=
  (by decide +kernel : ∀ t : Fin grid0.N, ∀ a : Fin 2,
    win0_4.index t a = 0 ∧ win0_5.index t a = 0 ∧ win0_6.index t a = 0 ∧ win0_9.index t a = 0 ∧ win0_10.index t a = 0 ∧ win0_11.index t a = 0)

/-- Every point reads the whole row of decay rates. -/
theorem blk_a : (iblk m c 4 t : S1x128.Idx → EReal) = KernelIdeal.Gen.V m c main_v3 := by
  funext y
  unfold iblk
  rw [View.read_apply]
  refine congrArg (KernelIdeal.Gen.V m c main_v3) ?_
  funext a
  apply Fin.ext
  match a with
  | ⟨0, _⟩ => show win0_4.index t 0 * 1 + 1 * (y 0).val = (y 0).val; rw [(idx_rest t 0).1]; omega
  | ⟨1, _⟩ => show win0_4.index t 1 * 128 + 1 * (y 1).val = (y 1).val; rw [(idx_rest t 1).1]; omega

/-- Every point reads the whole row of the step's bias. -/
theorem blk_b : (iblk m c 5 t : S1x128.Idx → EReal) = KernelIdeal.Gen.V m c main_v5 := by
  funext y
  unfold iblk
  rw [View.read_apply]
  refine congrArg (KernelIdeal.Gen.V m c main_v5) ?_
  funext a
  apply Fin.ext
  match a with
  | ⟨0, _⟩ => show win0_5.index t 0 * 1 + 1 * (y 0).val = (y 0).val; rw [(idx_rest t 0).2.1]; omega
  | ⟨1, _⟩ => show win0_5.index t 1 * 128 + 1 * (y 1).val = (y 1).val; rw [(idx_rest t 1).2.1]; omega

/-- Every point reads the whole row of skip weights. -/
theorem blk_d : (iblk m c 6 t : S1x1024.Idx → EReal) = KernelIdeal.Gen.V m c main_v8 := by
  funext y
  unfold iblk
  rw [View.read_apply]
  refine congrArg (KernelIdeal.Gen.V m c main_v8) ?_
  funext a
  apply Fin.ext
  match a with
  | ⟨0, _⟩ => show win0_6.index t 0 * 1 + 1 * (y 0).val = (y 0).val; rw [(idx_rest t 0).2.2.1]; omega
  | ⟨1, _⟩ => show win0_6.index t 1 * 1024 + 1 * (y 1).val = (y 1).val; rw [(idx_rest t 1).2.2.1]; omega

end Cert.Ssd

end
-- ==== Proof.Points.lean ====
module

public import proofs.«01_k».proof.Proof.Blocks

@[expose] public section

set_option maxRecDepth 16384

/-!
  What the points leave, chunk by chunk.
-/

noncomputable section

namespace Cert.Ssd

open Idealize.ShloMosaic Idealize.ShloMosaic.TcCoe Idealize.ShloMosaic.Pointwise Idealize.SL.Sem Cert.KernelIdeal Cert.KernelIdeal.Gen

variable (m : (ℓ : Loc nD τ sig) → Buf (Elt Ideal) ℓ) (c : Dev nD) (t : Fin cfg0.N)

/-- The loads of point `t`, given the cotangent of the state its chunk hands on. -/
def blkIn (E : Fin 8 → V) : In :=
  blockIn (iblk m c 0 t) (iblk m c 1 t) (iblk m c 2 t) (iblk m c 3 t) (iblk m c 4 t) (iblk m c 5 t) (iblk m c 6 t) E

/-- The first lane of a head in its pair. -/
theorem cond_lane (e : Fin 8) : cond (decide (e.1 % 2 = 1)) 64 0 = 64 * (e.1 % 2) := by revert e; decide

/-- A head's lane, as a number. -/
theorem lane_val (e : Fin 8) (p : Fin 64) : (lane (decide (e.1 % 2 = 1)) p).1 = 64 * (e.1 % 2) + p.1 := by
  show cond (decide (e.1 % 2 = 1)) 64 0 + p.1 = _
  rw [cond_lane]

/-- A head's number from its group and its place there. -/
theorem hd_ge (g : Fin 2) (e : Fin 8) : In.hd ⟨4 * g.1 + e.1 / 2, by omega⟩ (decide (e.1 % 2 = 1)) = 8 * g.1 + e.1 := by
  revert g e; decide

/-- Two heads of equal data are equal. -/
theorem Head.ext' {a b : Head} (h1 : a.x = b.x) (h2 : a.dy = b.dy) (h3 : a.B = b.B) (h4 : a.C = b.C) (h5 : a.u = b.u) (h6 : a.H = b.H)
    (h7 : a.E = b.E) (h8 : a.a = b.a) (h9 : a.d = b.d) : a = b := by
  cases a; cases b; simp only at h1 h2 h3 h4 h5 h6 h7 h8 h9; subst h1; subst h2; subst h3; subst h4; subst h5; subst h6; subst h7; subst h8; subst h9; rfl

/-- The step before softplus is the projection's column plus the bias. -/
theorem u_at (J : In) (l n : Fin 128) : J.u (ix2 l n) = J.raw (ix2 l n) + J.Bi (ix2 0 n) := by
  unfold In.u
  pointwise [bcR]

/-- The heads of a point are the heads of its chunk. -/
theorem ghead_blk (E : Fin 8 → V) (g : Fin 2) (e : Fin 8) :
    (blkIn m c t E).ghead g e = (argsOf m c).base (Args.chunk t.1) g e
      fun p n => E ⟨4 * g.1 + e.1 / 2, by omega⟩ (ix2 (lane (decide (e.1 % 2 = 1)) p) n) := by
  have hl := hd_ge g e
  have hcol (p : Fin 64) : 128 * (4 * g.1 + e.1 / 2) + (lane (decide (e.1 % 2 = 1)) p).1 = 512 * g.1 + 64 * e.1 + p.1 := by
    rw [lane_val]; omega
  apply Head.ext'
  · funext l p
    refine (blk_x m c t l _).trans ?_
    refine congrArg (fun j => (argsOf m c).X (ix2 _ j)) (Fin.ext ?_)
    exact hcol p
  · funext l p
    refine (blk_dy m c t l _).trans ?_
    refine congrArg (fun j => (argsOf m c).Dy (ix2 _ j)) (Fin.ext ?_)
    exact hcol p
  · funext l n
    refine (In.ghead_B _ g e l n).trans ((blk_x m c t l _).trans ?_)
    refine congrArg (fun j => (argsOf m c).X (ix2 _ j)) (Fin.ext ?_)
    show 128 * (8 + g.1) + n.1 = 1024 + 128 * g.1 + n.1
    omega
  · funext l n
    refine (In.ghead_C _ g e l n).trans ((blk_x m c t l _).trans ?_)
    refine congrArg (fun j => (argsOf m c).X (ix2 _ j)) (Fin.ext ?_)
    show 128 * (10 + g.1) + n.1 = 1280 + 128 * g.1 + n.1
    omega
  · funext l
    show (blkIn m c t E).u (ix2 l (In.hl _ _)) = _
    have e2 : In.hl ⟨4 * g.1 + e.1 / 2, by omega⟩ (decide (e.1 % 2 = 1)) = ⟨8 * g.1 + e.1, by omega⟩ := Fin.ext hl
    rw [u_at, e2]
    refine (congrArg₂ (fun a b : EReal => a + b) (blk_u m c t l _)
      ((congrFun (blk_b m c t) _).trans (V_b m c ⟨8 * g.1 + e.1, by omega⟩))).trans ?_
    refine congrArg (fun j => (argsOf m c).P (ix2 _ j) + (argsOf m c).tb _) (Fin.ext ?_)
    show 6656 + (8 * g.1 + e.1) = 6656 + 8 * g.1 + e.1
    omega
  · funext p n
    refine (blk_h m c t _ _ n).trans ?_
    refine congrArg (fun j => (argsOf m c).St (ix4 _ _ j n)) (Fin.ext ?_)
    exact lane_val e p
  · rfl
  · show (iblk m c 4 t : S1x128.Idx → EReal) (ix2 0 (In.hl _ _)) = _
    have e2 : In.hl ⟨4 * g.1 + e.1 / 2, by omega⟩ (decide (e.1 % 2 = 1)) = ⟨8 * g.1 + e.1, by omega⟩ := Fin.ext hl
    rw [e2, blk_a, V_a m c ⟨8 * g.1 + e.1, by omega⟩]
    rfl
  · funext p
    show (iblk m c 6 t : S1x1024.Idx → EReal) (ix2 0 ⟨128 * (4 * g.1 + e.1 / 2) + (lane (decide (e.1 % 2 = 1)) p).1, _⟩) = _
    have e2 : (⟨128 * (4 * g.1 + e.1 / 2) + (lane (decide (e.1 % 2 = 1)) p).1, by have := hcol p; omega⟩ : Fin 1024) = ⟨64 * (8 * g.1 + e.1) + p.1, by omega⟩ :=
      Fin.ext ((hcol p).trans (by show _ = 64 * (8 * g.1 + e.1) + p.1; omega))
    rw [e2, blk_d, V_d m c ⟨8 * g.1 + e.1, by omega⟩ p]
    rfl

/-- The carried cotangents before point `t`, pair by pair. -/
def carE (t : Nat) (k : Fin 8) : V := fun j : S128x128.Idx =>
  (argsOf m c).car t ⟨k.1 / 4, by omega⟩ ⟨2 * (k.1 % 4) + (j 0).1 / 64, by have : (j 0).1 < 128 := (j 0).isLt; omega⟩
    ⟨(j 0).1 % 64, by omega⟩ (j 1)

/-- The first point starts from no carried gradient. -/
theorem carE_zero : carE m c 0 = fun _ _ => 0 := rfl

/-- The loads of point `t`, over the carried cotangents. -/
def I : In := blkIn m c t (carE m c t.1)

/-- A head read from a point's blocks is the head of that chunk. -/
theorem ghead_I (g : Fin 2) (e : Fin 8) :
    (I m c t).ghead g e = (argsOf m c).base (Args.chunk t.1) g e ((argsOf m c).car t.1 g e) := by
  unfold I
  rw [ghead_blk]
  congr 1
  funext p n
  show (argsOf m c).car t.1 _ _ _ n = _
  have h := lane_val e p
  congr 1
  · exact Fin.ext (by show (4 * g.1 + e.1 / 2) / 4 = g.1; omega)
  · exact Fin.ext (by show 2 * ((4 * g.1 + e.1 / 2) % 4) + (lane (decide (e.1 % 2 = 1)) p).1 / 64 = e.1; rw [h]; omega)
  · exact Fin.ext (by show (lane (decide (e.1 % 2 = 1)) p).1 % 64 = p.1; rw [h]; omega)

/-- The pair of a head. -/
def pr (g : Fin 2) (e : Fin 8) : Fin 8 := ⟨4 * g.1 + e.1 / 2, by omega⟩

/-- The group, the head and its lane, of a pair and a lane of the pair. -/
theorem pair_of (k : Fin 8) (n : Fin 128) (g : Fin 2) (e : Fin 8) (p : Fin 64) (hg : g.1 = k.1 / 4) (he : e.1 = 2 * (k.1 % 4) + n.1 / 64)
    (hp : p.1 = n.1 % 64) : k = pr g e ∧ n = lane (decide (e.1 % 2 = 1)) p :=
  ⟨Fin.ext (by show k.1 = 4 * g.1 + e.1 / 2; omega), Fin.ext (by rw [lane_val]; omega)⟩

variable (J : In) (g : Fin 2) (e : Fin 8) (p : Fin 64)

/-- The new state gradient, at an entry of its pair. -/
theorem newE_of (k : Fin 8) (r n : Fin 128) (hg : g.1 = k.1 / 4) (he : e.1 = 2 * (k.1 % 4) + r.1 / 64) (hp : p.1 = r.1 % 64) :
    J.newE k (ix2 r n) = (J.ghead g e).newE p n := by
  obtain ⟨rfl, rfl⟩ := pair_of k r g e p hg he hp
  exact In.newE_at ..

/-- The inputs' gradient, at a lane of its pair. -/
theorem dx_of (k : Fin 8) (l n : Fin 128) (hg : g.1 = k.1 / 4) (he : e.1 = 2 * (k.1 % 4) + n.1 / 64) (hp : p.1 = n.1 % 64) :
    J.dx k (ix2 l n) = (J.ghead g e).dx l p := by
  obtain ⟨rfl, rfl⟩ := pair_of k n g e p hg he hp
  exact In.dx_at ..

/-- The skip weights' gradient, at a lane of its pair. -/
theorem dd_of (k : Fin 8) (n : Fin 128) (hg : g.1 = k.1 / 4) (he : e.1 = 2 * (k.1 % 4) + n.1 / 64) (hp : p.1 = n.1 % 64) :
    J.dd k (ix2 0 n) = (J.ghead g e).dd p := by
  obtain ⟨rfl, rfl⟩ := pair_of k n g e p hg he hp
  exact In.dd_at ..

/-- The lane of a head. -/
theorem hl_of (n : Fin 128) (hn : n.1 = 8 * g.1 + e.1) :
    n = In.hl ⟨4 * g.1 + e.1 / 2, by omega⟩ (decide (e.1 % 2 = 1)) := Fin.ext (hn.trans (hd_ge g e).symm)

/-- The step's gradient, at a head's lane. -/
theorem du_of (l n : Fin 128) (hn : n.1 = 8 * g.1 + e.1) : J.du (ix2 l n) = (J.ghead g e).du l := by
  rw [hl_of g e n hn]; exact In.du_at ..

/-- The decay rate's gradient, at a head's lane. -/
theorem da_of (n : Fin 128) (hn : n.1 = 8 * g.1 + e.1) : J.da (ix2 0 n) = (J.ghead g e).da := by
  rw [hl_of g e n hn]; exact In.da_at ..

/-- The bias's gradient, at a head's lane. -/
theorem ddtb_of (n : Fin 128) (hn : n.1 = 8 * g.1 + e.1) : J.ddtb (ix2 0 n) = ∑ l : Fin 128, (J.ghead g e).du l := by
  rw [hl_of g e n hn]; exact In.ddtb_at ..

/-- The scratch after a point. -/
theorem ofScr_GS : ofScr (GS (I m c t)) = carE m c (t.1 + 1) := by
  funext k j
  obtain ⟨r, n, rfl⟩ : ∃ r n : Fin 128, j = ix2 r n := ⟨j 0, j 1, (ix2_eta j).symm⟩
  refine (newE_of (I m c t) ⟨k.1 / 4, by omega⟩ ⟨2 * (k.1 % 4) + r.1 / 64, by omega⟩ ⟨r.1 % 64, by omega⟩ k r n rfl rfl rfl).trans ?_
  rw [ghead_I]
  rfl

/-- A sum over the points up to `n`. -/
def upTo (f : Fin cfg0.N → EReal) (n : Nat) (h : n < cfg0.N) : EReal := ∑ i : Fin (n + 1), f ⟨i.1, by omega⟩

/-- A running sum at the first point. -/
theorem upTo_zero (f : Fin cfg0.N → EReal) (h : 0 < cfg0.N) : upTo f 0 h = f ⟨0, h⟩ := by
  unfold upTo; simp

/-- A running sum at the next point. -/
theorem upTo_succ (f : Fin cfg0.N → EReal) (n : Nat) (h : n + 1 < cfg0.N) :
    upTo f (n + 1) h = upTo f n (by omega) + f ⟨n + 1, h⟩ := by
  unfold upTo; rw [Fin.sum_univ_castSucc]; rfl

/-- Pairs' lanes of the skip weights' gradient. -/
def ddAt (J : In) (y : S1x1024.Idx) : EReal :=
  J.dd ⟨(y 1).1 / 128, by have : (y 1).1 < 1024 := (y 1).isLt; omega⟩ (ix2 0 ⟨(y 1).1 % 128, Nat.mod_lt _ (by decide)⟩)

/-- What the buffers hold after each point. -/
theorem outs_eq : ∀ (n : Nat) (h : n < cfg0.N),
    (outsAt0 m c n h).1 = G7 (I m c ⟨n, h⟩) ∧ (outsAt0 m c n h).2.1 = G8 (I m c ⟨n, h⟩) ∧
    (∀ j : Fin 128, (outsAt0 m c n h).2.2.1 (ix2 0 j) = upTo (fun t => (I m c t).da (ix2 0 j)) n h) ∧
    (∀ j : Fin 128, (outsAt0 m c n h).2.2.2.1 (ix2 0 j) = upTo (fun t => (I m c t).ddtb (ix2 0 j)) n h) ∧
    (∀ y : S1x1024.Idx, (outsAt0 m c n h).2.2.2.2.1 y = upTo (fun t => ddAt (I m c t) y) n h) ∧
    ofScr (outsAt0 m c n h).2.2.2.2.2 = carE m c (n + 1)
  | 0, h => by
    rw [outsAt0_A m c ⟨0, h⟩ rfl]
    dsimp only
    refine ⟨?_, ?_, fun j => ?_, fun j => ?_, fun y => ?_, ?_⟩
    · rw [out_A_7]; rfl
    · rw [out_A_8]; rfl
    · rw [out_A_9, upTo_zero]; rfl
    · rw [out_A_10, upTo_zero]; rfl
    · rw [out_A_11, upTo_zero]
      exact zero_add _
    · rw [out_A_S]
      exact ofScr_GS m c ⟨0, h⟩
  | n + 1, h => by
    have hN : cfg0.N = 32 := N_0
    obtain ⟨-, -, h9, h10, h11, hS⟩ := outs_eq n (by omega)
    rw [outsAt0_B m c ⟨n + 1, h⟩ (by dsimp only; omega)]
    dsimp only
    have hI : blockIn (iblk m c 0 ⟨n + 1, h⟩) (iblk m c 1 ⟨n + 1, h⟩) (iblk m c 2 ⟨n + 1, h⟩) (iblk m c 3 ⟨n + 1, h⟩)
        (iblk m c 4 ⟨n + 1, h⟩) (iblk m c 5 ⟨n + 1, h⟩) (iblk m c 6 ⟨n + 1, h⟩)
        (ofScr (outsAt0 m c (n + 1 - 1) (by omega)).2.2.2.2.2) = I m c ⟨n + 1, h⟩ :=
      congrArg (blkIn m c ⟨n + 1, h⟩) hS
    refine ⟨?_, ?_, fun j => ?_, fun j => ?_, fun y => ?_, ?_⟩
    · rw [out_B_7, hI]
    · rw [out_B_8, hI]
    · rw [out_B_9, hI, upTo_succ, ← h9]; rfl
    · rw [out_B_10, hI, upTo_succ, ← h10]; rfl
    · rw [out_B_11, hI, upTo_succ, ← h11]; rfl
    · rw [out_B_S, hI]
      exact ofScr_GS m c ⟨n + 1, h⟩

end Cert.Ssd

end
-- ==== Proof.Arrays.lean ====
module

public import proofs.«01_k».proof.Proof.Points
public import proofs.«01_k».proof.Proof.Gen.KernelIdeal.Value
public import Idealize.ShloMosaic.Lib.Pipeline.ValueKit

@[expose] public section

set_option maxRecDepth 16384

/-!
  The arrays the launch ends with.
-/

noncomputable section

namespace Cert.Ssd

open Idealize.ShloMosaic Idealize.ShloMosaic.TcCoe Idealize.ShloMosaic.Pointwise Idealize.SL.Sem Cert.KernelIdeal Cert.KernelIdeal.Gen
open Cert.KernelIdeal.Value

variable (m : (ℓ : Loc nD τ sig) → Buf (Elt Ideal) ℓ) (c : Dev nD) (t : Fin cfg0.N)

/-- The head of the point that takes a row's chunk. -/
theorem ghead_of (r : Nat) (hr : r < 32) (ht : t.1 = 31 - r) (g : Fin 2) (e : Fin 8) :
    (I m c t).ghead g e = (argsOf m c).hd ⟨r, hr⟩ g e := by
  rw [ghead_I, ht]
  unfold Args.hd
  congr 1
  exact Fin.ext (by show 31 - (31 - r) = r; omega)

/-- The first result, at an entry: the gradient of the scan's inputs. -/
theorem arr7 (r : Fin 4096) (j : Fin 1536) :
    ((dats m 0 c).arrAt 7 cfg0.N : S4096x1536.Idx → EReal) (ix2 r j) = (argsOf m c).dX r j := by
  have hN : cfg0.N = 32 := N_0
  let t : Fin cfg0.N := ⟨31 - r.1 / 128, by omega⟩
  have hi := (idx_all t).2.2.2.2.1
  have hb := congrFun ((blocks7 m c t (flush0_7 t)).trans (flushed7 m c t)) (ix2 ⟨r.1 % 128, by omega⟩ j : S128x1536.Idx)
  rw [View.read_apply] at hb
  have he : ((cfg0.win 7).blk t).view.emb (ix2 ⟨r.1 % 128, by omega⟩ j : S128x1536.Idx) = (ix2 r j : S4096x1536.Idx) := by
    funext a
    apply Fin.ext
    match a with
    | ⟨0, _⟩ => show win0_7.index t 0 * 128 + 1 * (r.1 % 128) = r.1; rw [hi.1]; show (31 - (31 - r.1 / 128)) * 128 + 1 * (r.1 % 128) = r.1; omega
    | ⟨1, _⟩ => show win0_7.index t 1 * 1536 + 1 * j.1 = j.1; rw [hi.2]; omega
  refine (congrArg ((dats m 0 c).arrAt 7 cfg0.N) he.symm).trans (hb.trans ?_)
  show (outsAt0 m c t.1 t.2).1 (ix2 ⟨r.1 % 128, by omega⟩ j) = _
  rw [(outs_eq m c t.1 t.2).1]
  unfold Args.dX
  have hG (g : Fin 2) : (I m c t).ghead g = (argsOf m c).hd ⟨r.1 / 128, by omega⟩ g :=
    funext fun e => ghead_of m c t (r.1 / 128) (by omega) rfl g e
  by_cases h : j.1 < 1024
  · rw [dif_pos h, G7_dx _ _ ⟨j.1 / 128, by omega⟩ ⟨j.1 % 128, by omega⟩ (by show j.1 = 128 * (j.1 / 128) + j.1 % 128; omega),
      ← ghead_of m c t (r.1 / 128) (by omega) rfl]
    exact dx_of (I m c t) _ _ _ _ _ _ (by show j.1 / 512 = j.1 / 128 / 4; omega)
      (by show j.1 % 512 / 64 = 2 * (j.1 / 128 % 4) + j.1 % 128 / 64; omega) (by show j.1 % 64 = j.1 % 128 % 64; omega)
  · rw [dif_neg h]
    by_cases h2 : j.1 < 1280
    · rw [if_pos h2, G7_dB _ _ ⟨j.1 / 128 % 2, by omega⟩ ⟨j.1 % 128, by omega⟩
        (by show j.1 = 1024 + 128 * (j.1 / 128 % 2) + j.1 % 128; omega), ← hG]
      exact In.dB_at ..
    · rw [if_neg h2, G7_dC _ _ ⟨j.1 / 128 % 2, by omega⟩ ⟨j.1 % 128, by omega⟩
        (by show j.1 = 1280 + 128 * (j.1 / 128 % 2) + j.1 % 128; omega), ← hG]
      exact In.dC_at ..

/-- The gradient columns hold the step's gradient in their first half. -/
theorem G8_lo (J : In) (l : Fin 128) (n : Fin 256) (h : n.1 < 128) : G8 J (ix2 l n) = J.du (ix2 l ⟨n.1, h⟩) := dif_pos h

/-- The gradient columns hold zeros in their second half. -/
theorem G8_hi (J : In) (l : Fin 128) (n : Fin 256) (h : ¬ n.1 < 128) : G8 J (ix2 l n) = 0 := dif_neg h

/-- The second window's blocks are whole. -/
theorem xsize8 : ∀ t : Fin cfg0.N, ∀ a : Fin 2, win0_8.xsize (grid0.coords t) a = ![128, 256] a :=
  (by decide +kernel : ∀ t : Fin grid0.N, ∀ a : Fin 2, win0_8.xsize (grid0.coords t) a = ![128, 256] a)

/-- The second result, at an entry: the projection's gradient with the step's columns written. -/
theorem arr8 (r : Fin 4096) (j : Fin 10368) :
    ((dats m 0 c).arrAt 8 cfg0.N : S4096x10368.Idx → EReal) (ix2 r j) = (argsOf m c).dP (m ((c : Thread nD τ).loc main_arg7)) r j := by
  have hN : cfg0.N = 32 := N_0
  unfold Args.dP
  by_cases h : 6656 ≤ j.1 ∧ j.1 < 6912
  · let t : Fin cfg0.N := ⟨31 - r.1 / 128, by omega⟩
    have hi := (idx_all t).2.2.2.2.2
    let y : ((cfg0.win 8).xblock (cfg0.grid.coords t)).Idx := fun a => match a with
      | ⟨0, _⟩ => ⟨r.1 % 128, by show _ < win0_8.xsize (grid0.coords t) 0; rw [xsize8 t 0]; show _ < 128; omega⟩
      | ⟨1, _⟩ => ⟨j.1 - 6656, by show _ < win0_8.xsize (grid0.coords t) 1; rw [xsize8 t 1]; show _ < 256; omega⟩
    have hb := congrFun ((blocks8 m c t (flush0_8 t)).trans (flushed8 m c t)) y
    rw [View.read_apply] at hb
    have he : ((cfg0.win 8).blk t).view.emb y = (ix2 r j : S4096x10368.Idx) := by
      funext a
      apply Fin.ext
      match a with
      | ⟨0, _⟩ => show win0_8.index t 0 * 128 + 1 * (r.1 % 128) = r.1; rw [hi.1]; show (31 - (31 - r.1 / 128)) * 128 + 1 * (r.1 % 128) = r.1; omega
      | ⟨1, _⟩ => show win0_8.index t 1 * 256 + 1 * (j.1 - 6656) = j.1; rw [hi.2]; omega
    refine (congrArg ((dats m 0 c).arrAt 8 cfg0.N) he.symm).trans (hb.trans ?_)
    have hy (v : S128x256.Idx → EReal) : (cfg0.win 8).cut (grid0.coords t) v y = v (ix2 ⟨r.1 % 128, by omega⟩ ⟨j.1 - 6656, by omega⟩) :=
      congrArg v (funext fun a => Fin.ext (match a with | ⟨0, _⟩ => rfl | ⟨1, _⟩ => rfl))
    refine (hy _).trans ?_
    rw [(outs_eq m c t.1 t.2).2.1]
    by_cases h16 : j.1 < 6672
    · rw [dif_pos ⟨h.1, h16⟩, G8_lo _ _ _ (by show j.1 - 6656 < 128; omega), ← ghead_of m c t (r.1 / 128) (by omega) rfl]
      exact du_of (I m c t) _ _ _ _ (by show j.1 - 6656 = 8 * ((j.1 - 6656) / 8) + (j.1 - 6656) % 8; omega)
    · rw [dif_neg (show ¬(6656 ≤ j.1 ∧ j.1 < 6672) from fun h' => h16 h'.2), if_pos h]
      by_cases h128 : j.1 - 6656 < 128
      · refine (G8_lo _ _ ⟨j.1 - 6656, by omega⟩ h128).trans ?_
        exact In.du_none _ _ _ (by show 16 ≤ j.1 - 6656; omega)
      · exact G8_hi _ _ ⟨j.1 - 6656, by omega⟩ h128
  · rw [dif_neg (show ¬(6656 ≤ j.1 ∧ j.1 < 6672) from fun h' => h ⟨h'.1, by omega⟩), if_neg h]
    refine (entry8 m c (ix2 r j : S4096x10368.Idx) fun t _ hm => h ?_).trans ?_
    · have hi := (idx_all t).2.2.2.2.2
      have hm' : (ix2 r j : S4096x10368.Idx) ∈ ((View.whole main_v9_1).slice (win0_8.rect t)).set := hm
      rw [View.set_slice_whole, Rect.mem_set_unit] at hm'
      have h1 : win0_8.index t 1 * 256 ≤ j.1 ∧ j.1 < win0_8.index t 1 * 256 + win0_8.xsize (grid0.coords t) 1 := hm' 1
      rw [hi.2, xsize8 t 1] at h1
      have h2 : j.1 < 26 * 256 + 256 := h1.2
      omega
    · show KernelIdeal.Gen.V m c main_v9_1 (ix2 r j) = m ((c : Thread nD τ).loc main_arg7) (ix2 r j)
      unfold KernelIdeal.Gen.V
      after_reads_at
      rfl

/-- The sum over the points is the sum over the chunks. -/
theorem upTo_all (f : Fin cfg0.N → EReal) (h : 31 < cfg0.N) (g : Fin 32 → EReal) (hf : ∀ (r : Fin 32) (h : 31 - r.1 < cfg0.N), f ⟨31 - r.1, h⟩ = g r) :
    upTo f 31 h = ∑ r : Fin 32, g r := by
  have hN : cfg0.N = 32 := N_0
  unfold upTo
  rw [← Equiv.sum_comp Fin.revPerm g]
  refine Finset.sum_congr rfl fun i _ => ?_
  rw [← hf (Fin.revPerm i) (by omega)]
  congr 1
  exact Fin.ext (by show i.1 = 31 - (Fin.rev i).1; rw [Fin.val_rev]; omega)

/-- The last point. -/
def last31 : Fin cfg0.N := ⟨31, by rw [show cfg0.N = 32 from N_0]; decide⟩

/-- The third result, at an entry: the gradient of the decay rates. -/
theorem arr9 (j : Fin 128) : ((dats m 0 c).arrAt 9 cfg0.N : S1x128.Idx → EReal) (ix2 0 j) = (argsOf m c).dA j := by
  refine ((dats m 0 c).arrAt_emb_eq_after_last 9 last31 (by decide +kernel) (ix2 0 j : S1x128.Idx)).trans ?_
  rw [after0_9]
  refine ((outs_eq m c 31 last31.2).2.2.1 j).trans ?_
  unfold Args.dA
  by_cases h : j.1 < 16
  · rw [dif_pos h]
    refine upTo_all _ _ _ fun r hr => ?_
    rw [← ghead_of m c ⟨31 - r.1, hr⟩ r.1 r.2 rfl]
    exact da_of (I m c _) _ _ _ (by show j.1 = 8 * (j.1 / 8) + j.1 % 8; omega)
  · rw [dif_neg h]
    exact (upTo_all _ _ (fun _ => 0) fun r hr => In.da_none _ _ (by omega)).trans Finset.sum_const_zero

/-- The fourth result, at an entry: the gradient of the step's bias. -/
theorem arr10 (j : Fin 128) : ((dats m 0 c).arrAt 10 cfg0.N : S1x128.Idx → EReal) (ix2 0 j) = (argsOf m c).dT j := by
  refine ((dats m 0 c).arrAt_emb_eq_after_last 10 last31 (by decide +kernel) (ix2 0 j : S1x128.Idx)).trans ?_
  rw [after0_10]
  refine ((outs_eq m c 31 last31.2).2.2.2.1 j).trans ?_
  unfold Args.dT
  by_cases h : j.1 < 16
  · rw [dif_pos h]
    refine upTo_all _ _ _ fun r hr => ?_
    rw [← ghead_of m c ⟨31 - r.1, hr⟩ r.1 r.2 rfl]
    exact ddtb_of (I m c _) _ _ _ (by show j.1 = 8 * (j.1 / 8) + j.1 % 8; omega)
  · rw [dif_neg h]
    exact (upTo_all _ _ (fun _ => 0) fun r hr => In.ddtb_none _ _ (by omega)).trans Finset.sum_const_zero

/-- The fifth result, at an entry: the gradient of the skip weights. -/
theorem arr11 (j : Fin 1024) : ((dats m 0 c).arrAt 11 cfg0.N : S1x1024.Idx → EReal) (ix2 0 j) = (argsOf m c).dD j := by
  refine ((dats m 0 c).arrAt_emb_eq_after_last 11 last31 (by decide +kernel) (ix2 0 j : S1x1024.Idx)).trans ?_
  rw [after0_11]
  refine ((outs_eq m c 31 last31.2).2.2.2.2.1 (ix2 0 j)).trans ?_
  unfold Args.dD
  refine upTo_all _ _ _ fun r hr => ?_
  rw [← ghead_of m c ⟨31 - r.1, hr⟩ r.1 r.2 rfl]
  exact dd_of (I m c _) _ _ _ _ _ (by show j.1 / 512 = j.1 / 128 / 4; omega)
    (by show j.1 % 512 / 64 = 2 * (j.1 / 128 % 4) + j.1 % 128 / 64; omega) (by show j.1 % 64 = j.1 % 128 % 64; omega)

end Cert.Ssd

end
-- ==== Proof.Windows.lean ====
module

public import Idealize.ShloMosaic.Lib.Pointwise

@[expose] public section

/-! Running sums and sums over two axes, as the reference's operations compute them. -/

noncomputable section

namespace Cert.Ssd

open Idealize.ShloMosaic Idealize.ShloMosaic.Pointwise

/-- A left fold of additions is the start plus the sum. -/
theorem foldl_add {n : ℕ} (f : Fin n → EReal) (v : EReal) :
    (List.finRange n).foldl (fun r k => r + f k) v = v + ∑ k, f k := by
  rw [Fin.sum_univ_def]
  generalize List.finRange n = L
  induction L generalizing v with
  | nil => simp
  | cons a L ih => rw [List.foldl_cons, ih, List.map_cons, List.sum_cons, add_assoc]

/-- The sum over the indices of a window of 128 along the last of four axes. -/
theorem sum_window (f : (⟨4, ![1, 1, 1, 128]⟩ : Shape).Idx → EReal) :
    ∑ w, f w = ∑ k : Fin 128, f (ix4 0 0 0 k) := by
  refine Finset.sum_nbij' (fun w => w 3) (fun k => ix4 0 0 0 k) ?_ ?_ ?_ ?_ ?_
  · exact fun _ _ => Finset.mem_univ _
  · exact fun _ _ => Finset.mem_univ _
  · intro w _
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  · intro k _; rfl
  · intro w _
    congr 1
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A window sum of 128 along the last axis, `q` zeros below. -/
theorem window_sum (q q' : ℕ) (x : (⟨4, ![32, 2, 8, 128]⟩ : Shape).Idx → EReal) (h)
    (c : Fin 32) (g : Fin 2) (e : Fin 8) (l : Fin 128) :
    Ideal.hostReduceWindowAdd (t := ⟨4, ![32, 2, 8, 128]⟩) ![1, 1, 1, 128] ![1, 1, 1, 1] ![0, 0, 0, q] ![0, 0, 0, q'] h x 0 (ix4 c g e l)
      = ∑ k : Fin 128, if hk : q ≤ l.1 + k.1 ∧ l.1 + k.1 - q < 128 then x (ix4 c g e ⟨l.1 + k.1 - q, hk.2⟩) else 0 := by
  unfold Ideal.hostReduceWindowAdd Host.reduceWindow
  dsimp only
  rw [foldl_add, zero_add]
  refine (Finset.sum_congr rfl fun _ _ => dite_congr rfl (fun _ => rfl) (fun _ => rfl)).trans ((Equiv.sum_comp (Shape.rowMajor ⟨4, ![1, 1, 1, 128]⟩).symm (fun w =>
    if hin : ∀ a : Fin 4, ![0, 0, 0, q] a ≤ (ix4 c g e l a).1 * ![1, 1, 1, 1] a + (w a).1
        ∧ (ix4 c g e l a).1 * ![1, 1, 1, 1] a + (w a).1 - ![0, 0, 0, q] a < ![32, 2, 8, 128] a then
      x (fun a => ⟨(ix4 c g e l a).1 * ![1, 1, 1, 1] a + (w a).1 - ![0, 0, 0, q] a, (hin a).2⟩) else 0)).trans ?_)
  rw [sum_window]
  refine Finset.sum_congr rfl fun k _ => ?_
  by_cases hk : q ≤ l.1 + k.1 ∧ l.1 + k.1 - q < 128
  · rw [dif_pos hk, dif_pos]
    · congr 1
      funext a
      match a with
      | ⟨0, _⟩ => exact Fin.ext (by show c.1 * 1 + 0 - 0 = c.1; omega)
      | ⟨1, _⟩ => exact Fin.ext (by show g.1 * 1 + 0 - 0 = g.1; omega)
      | ⟨2, _⟩ => exact Fin.ext (by show e.1 * 1 + 0 - 0 = e.1; omega)
      | ⟨3, _⟩ => exact Fin.ext (by show l.1 * 1 + k.1 - q = l.1 + k.1 - q; omega)
    · intro a
      match a with
      | ⟨0, _⟩ => show 0 ≤ c.1 * 1 + 0 ∧ c.1 * 1 + 0 - 0 < 32; omega
      | ⟨1, _⟩ => show 0 ≤ g.1 * 1 + 0 ∧ g.1 * 1 + 0 - 0 < 2; omega
      | ⟨2, _⟩ => show 0 ≤ e.1 * 1 + 0 ∧ e.1 * 1 + 0 - 0 < 8; omega
      | ⟨3, _⟩ => show q ≤ l.1 * 1 + k.1 ∧ l.1 * 1 + k.1 - q < 128; omega
  · rw [dif_neg hk, dif_neg]
    intro hin
    have h3 : q ≤ l.1 * 1 + k.1 ∧ l.1 * 1 + k.1 - q < 128 := hin 3
    exact hk (by omega)

/-- The forward running sum, `127` zeros below: the sum of the rows up to `l`. -/
theorem window_prefix (l : Fin 128) (f : Fin 128 → EReal) :
    (∑ k : Fin 128, if hk : 127 ≤ l.1 + k.1 ∧ l.1 + k.1 - 127 < 128 then f ⟨l.1 + k.1 - 127, hk.2⟩ else 0)
      = ∑ s : Fin 128, if s ≤ l then f s else 0 := by
  rw [← Finset.sum_filter_of_ne (p := fun k : Fin 128 => 127 ≤ l.1 + k.1), ← Finset.sum_filter (fun s => s ≤ l)]
  · refine Finset.sum_bij' (fun k hk => ⟨l.1 + k.1 - 127, by omega⟩) (fun s hs => ⟨s.1 + 127 - l.1, by
      have := (Finset.mem_filter.1 hs).2; have : s.1 ≤ l.1 := this; omega⟩) ?_ ?_ ?_ ?_ ?_
    · intro k hk; exact Finset.mem_filter.2 ⟨Finset.mem_univ _, by show l.1 + k.1 - 127 ≤ l.1; omega⟩
    · intro s hs
      have h : s.1 ≤ l.1 := (Finset.mem_filter.1 hs).2
      exact Finset.mem_filter.2 ⟨Finset.mem_univ _, by show 127 ≤ l.1 + (s.1 + 127 - l.1); omega⟩
    · intro k hk
      have h : 127 ≤ l.1 + k.1 := (Finset.mem_filter.1 hk).2
      exact Fin.ext (by show l.1 + k.1 - 127 + 127 - l.1 = k.1; omega)
    · intro s hs
      have h : s.1 ≤ l.1 := (Finset.mem_filter.1 hs).2
      exact Fin.ext (by show l.1 + (s.1 + 127 - l.1) - 127 = s.1; omega)
    · intro k hk
      have h : 127 ≤ l.1 + k.1 := (Finset.mem_filter.1 hk).2
      rw [dif_pos ⟨h, by omega⟩]
  · intro k _ hk
    by_contra hn
    exact hk (dif_neg fun h => hn h.1)

/-- The backward running sum, no zeros below: the sum of the rows from `l`. -/
theorem window_suffix (l : Fin 128) (f : Fin 128 → EReal) :
    (∑ k : Fin 128, if hk : 0 ≤ l.1 + k.1 ∧ l.1 + k.1 - 0 < 128 then f ⟨l.1 + k.1 - 0, hk.2⟩ else 0)
      = ∑ s : Fin 128, if l ≤ s then f s else 0 := by
  rw [← Finset.sum_filter_of_ne (p := fun k : Fin 128 => l.1 + k.1 < 128), ← Finset.sum_filter (fun s => l ≤ s)]
  · refine Finset.sum_bij' (fun k hk => ⟨l.1 + k.1, (Finset.mem_filter.1 hk).2⟩) (fun s hs => ⟨s.1 - l.1, by omega⟩) ?_ ?_ ?_ ?_ ?_
    · intro k hk; exact Finset.mem_filter.2 ⟨Finset.mem_univ _, by show l.1 ≤ l.1 + k.1; omega⟩
    · intro s hs
      have h : l.1 ≤ s.1 := (Finset.mem_filter.1 hs).2
      exact Finset.mem_filter.2 ⟨Finset.mem_univ _, by show l.1 + (s.1 - l.1) < 128; omega⟩
    · intro k hk
      exact Fin.ext (by show l.1 + k.1 - l.1 = k.1; omega)
    · intro s hs
      have h : l.1 ≤ s.1 := (Finset.mem_filter.1 hs).2
      exact Fin.ext (by show l.1 + (s.1 - l.1) = s.1; omega)
    · intro k hk
      have h : l.1 + k.1 < 128 := (Finset.mem_filter.1 hk).2
      rw [dif_pos ⟨Nat.zero_le _, by omega⟩]
      rfl
  · intro k _ hk
    by_contra hn
    exact hk (dif_neg fun h => hn (by omega))

/-- A sum over the last two of five axes. -/
theorem reduce_last_two {P N : ℕ} (h : (⟨5, ![32, 2, 8, P, N]⟩ : Shape).ReducesTo [3, 4] ⟨3, ![32, 2, 8]⟩)
    (x : (⟨5, ![32, 2, 8, P, N]⟩ : Shape).Idx → EReal) (c : Fin 32) (g : Fin 2) (e : Fin 8) :
    Ideal.hostReduceAdd h x 0 (ix3 c g e) = ∑ p : Fin P, ∑ n : Fin N, x (ix5 c g e p n) := by
  have hd : ∀ i : (⟨5, ![32, 2, 8, P, N]⟩ : Shape).Idx, h.drop i = ix3 (i 0) (i 1) (i 2) := by
    intro i
    funext a
    match a with
    | ⟨0, _⟩ => rfl
    | ⟨1, _⟩ => rfl
    | ⟨2, _⟩ => rfl
  unfold Ideal.hostReduceAdd
  rw [zero_add, ← Finset.sum_product']
  refine Finset.sum_bij' (fun i _ => ((i 3 : Fin P), (i 4 : Fin N))) (fun q _ => ix5 c g e q.1 q.2) ?_ ?_ ?_ ?_ ?_
  · simp
  · intro q _
    exact Finset.mem_filter.2 ⟨Finset.mem_univ _, hd _⟩
  · intro i hi
    have hh := (hd i).symm.trans (Finset.mem_filter.1 hi).2
    funext a
    match a with
    | ⟨0, _⟩ => exact (congrFun hh 0).symm
    | ⟨1, _⟩ => exact (congrFun hh 1).symm
    | ⟨2, _⟩ => exact (congrFun hh 2).symm
    | ⟨3, _⟩ => rfl
    | ⟨4, _⟩ => rfl
  · intro q _; rfl
  · intro i hi
    have hh := (hd i).symm.trans (Finset.mem_filter.1 hi).2
    congr 1
    funext a
    match a with
    | ⟨0, _⟩ => exact congrFun hh 0
    | ⟨1, _⟩ => exact congrFun hh 1
    | ⟨2, _⟩ => exact congrFun hh 2
    | ⟨3, _⟩ => rfl
    | ⟨4, _⟩ => rfl

end Cert.Ssd
end
-- ==== Proof.Forward.lean ====
module

public import proofs.«01_k».proof.Proof.Whole
public import proofs.«01_k».proof.Proof.Scalars
public import proofs.«01_k».proof.Proof.Windows
public import proofs.«01_k».proof.Proof.Gen.ReferenceIdeal.Read
public import Idealize.ShloMosaic.Lib.Pointwise

@[expose] public section

/-!
  The reference's forward values, read in the terms of Spec.lean: chunk `c`, group `g`, head `e`.
-/

noncomputable section

namespace Cert.Ssd

open Idealize.ShloMosaic Idealize.ShloMosaic.Pointwise
open Cert.ReferenceIdeal Cert.ReferenceIdeal.Gen Cert.ReferenceIdeal.Read

/-- The column of head `e` of group `g` among the 16 heads. -/
def hcol (g : Fin 2) (e : Fin 8) : Fin 16 := ⟨8 * g.1 + e.1, by omega⟩

/-- Equal coordinates read the same element of a matrix. -/
theorem at2 {a b : ℕ} {α : Type} (v : (⟨2, ![a, b]⟩ : Shape).Idx → α) {i i' : Fin a} {j j' : Fin b} (hi : i.1 = i'.1) (hj : j.1 = j'.1) :
    v (ix2 i j) = v (ix2 i' j') := by rw [Fin.ext hi, Fin.ext hj]

/-- Equal coordinates read the same element of a four-axis array. -/
theorem at4 {a b c d : ℕ} {α : Type} (v : (⟨4, ![a, b, c, d]⟩ : Shape).Idx → α) {i i' : Fin a} {j j' : Fin b} {k k' : Fin c}
    {m m' : Fin d} (hi : i.1 = i'.1) (hj : j.1 = j'.1) (hk : k.1 = k'.1) (hm : m.1 = m'.1) :
    v (ix4 i j k m) = v (ix4 i' j' k' m') := by rw [Fin.ext hi, Fin.ext hj, Fin.ext hk, Fin.ext hm]

variable (A : Args) (c : Fin 32) (l : Fin 128) (g : Fin 2) (e : Fin 8)

/-- The reference's inputs. -/
theorem ref_x (p : Fin 64) : val_main_v11 (F := Ideal) A.X (ix5 c l g e p) = (A.hd c g e).x l p := by
  pointwise [val_main_v11, val_main_v6]
  exact at2 A.X (by simp only [row]; omega) (by dsimp only; omega)

/-- The reference's step before softplus. -/
theorem ref_u : val_main_v9 (F := Ideal) A.P A.tb (ix2 (row c l) (hcol g e)) = (A.hd c g e).u l := by
  pointwise [val_main_v9, val_main_v8, val_main_v7, val_main_v0]
  exact congrArg (· + A.tb (ix1 (hcol g e))) (at2 A.P rfl (by simp only [hcol]; omega))

/-- The reference's `C` rows. -/
theorem ref_C (n : Fin 128) : val_main_v25 (F := Ideal) A.X (ix4 c l g n) = (A.hd c g e).C l n := by
  pointwise [val_main_v25, val_main_v24]
  exact at2 A.X (by simp only [row]; omega) (by dsimp only; omega)

/-- The reference's `B` rows. -/
theorem ref_B (n : Fin 128) : val_main_v23 (F := Ideal) A.X (ix4 c l g n) = (A.hd c g e).B l n := by
  pointwise [val_main_v23, val_main_v22]
  exact at2 A.X (by simp only [row]; omega) (by dsimp only; omega)

/-- The reference's state a chunk starts from. -/
theorem ref_H (p : Fin 64) (n : Fin 128) : val_main_v5 (F := Ideal) A.St (ix5 c g e p n) = (A.hd c g e).H p n := by
  pointwise [val_main_v5]
  exact at4 A.St rfl (by dsimp only; omega) (by dsimp only; omega) rfl

/-- The reference's gradient of the outputs. -/
theorem ref_dy (p : Fin 64) : val_main_v222 (F := Ideal) A.Dy (ix5 c l g e p) = (A.hd c g e).dy l p := by
  pointwise [val_main_v222, val_main_v214]
  exact at2 A.Dy (by simp only [row]; omega) (by dsimp only; omega)

/-- The reference's products of `C` rows with `B` rows. -/
theorem ref_G (s : Fin 128) : val_main_v35 (F := Ideal) A.X (ix4 c g l s) = (A.hd c g e).G l s := by
  pointwise [val_main_v35]
  exact Finset.sum_congr rfl fun n _ => by rw [ref_C A c l g e, ref_B A c s g e]

/-- The softplus of the reference is the kernel's. -/
theorem ref_sp (i : S4096x16.Idx) : val_main_v10_0 (F := Ideal) A.P A.tb i = sp (val_main_v9 (F := Ideal) A.P A.tb i) := by
  generalize h : val_main_v9 (F := Ideal) A.P A.tb = u
  pointwise [val_main_v10_0, h, val_main_call0_v4, val_main_call0_v3, val_main_call0_v2, val_main_call0_v1, val_main_call0_v0,
    val_main_call0_cst, val_main_call0_v5, val_main_call0_v6, val_main_call0_v7, val_main_call0_v8, val_main_call0_v9,
    val_main_call0_v10, val_main_call0_v11]
  rw [if_neg (fun h => h rfl), sp, zero_sub]
  rfl

/-- The derivative of the softplus, as the reference computes it, is the logistic function. -/
theorem ref_lg (i : S4096x16.Idx) : val_main_v10_1 (F := Ideal) A.P A.tb i = Ideal.logistic (val_main_v9 (F := Ideal) A.P A.tb i) := by
  have h2 := ref_sp A
  revert h2
  generalize h : val_main_v9 (F := Ideal) A.P A.tb = u
  generalize h' : val_main_v10_0 (F := Ideal) A.P A.tb = w
  intro h2
  pointwise [val_main_v10_1, h, h', val_main_call0_v21, val_main_call0_v20, val_main_call0_v19, val_main_call0_v18,
    val_main_call0_v17, val_main_call0_cst_2, val_main_call0_cst_3, val_main_call0_v16, val_main_call0_v15, val_main_call0_v14,
    val_main_call0_v13, val_main_call0_cst_0, val_main_call0_cst_1]
  have ht : Ideal.ofBits FTy.f32 2139095040#32 = ⊤ := by simp [Ideal.ofBits, Ideal.ieee]
  rw [ht, h2]
  exact exp_sub_sp _

/-- The reference's step, as the softplus saves it for its gradient. -/
theorem ref_dt2 : val_main_v10_0 (F := Ideal) A.P A.tb (ix2 (row c l) (hcol g e)) = (A.hd c g e).dt l := by
  rw [ref_sp, ref_u]; rfl

/-- The reference's step. -/
theorem ref_dt : val_main_v12 (F := Ideal) A.P A.tb (ix4 c l g e) = (A.hd c g e).dt l := by
  pointwise [val_main_v12]
  exact (at2 (val_main_v10_0 (F := Ideal) A.P A.tb) (by simp only [row]; omega) (by simp only [hcol]; omega)).trans (ref_dt2 A c l g e)

/-- The reference's inputs times the step. -/
theorem ref_xd (p : Fin 64) : val_main_v15 (F := Ideal) A.X A.P A.tb (ix5 c l g e p) = (A.hd c g e).xd l p := by
  pointwise [val_main_v15, val_main_v14, val_main_v13]
  rw [ref_x, ref_dt]; rfl

/-- The reference's decay rate. -/
theorem ref_a : val_main_v2 (F := Ideal) A.al (ix1 (hcol g e)) = (A.hd c g e).a := by
  pointwise [val_main_v2, val_main_v1]
  rfl

/-- The reference's step times the decay rate. -/
theorem ref_adt : val_main_v20 (F := Ideal) A.P A.al A.tb (ix4 c g e l) = (A.hd c g e).dt l * (A.hd c g e).a := by
  pointwise [val_main_v20, val_main_v19, val_main_v18, val_main_v17, val_main_v16]
  rw [← ref_dt2 A c l g e, ← ref_a A c g e]
  exact congrArg₂ (· * ·) (at2 (val_main_v10_0 (F := Ideal) A.P A.tb) (by simp only [row]; omega) (by simp only [hcol]; omega))
    (congrArg (fun i => val_main_v2 (F := Ideal) A.al (ix1 i)) (Fin.ext (by simp only [hcol]; omega)))

/-- The reference's running sum of the decays. -/
theorem ref_acs : val_main_v21 (F := Ideal) A.P A.al A.tb (ix4 c g e l) = (A.hd c g e).acs l := by
  have h0 : val_main_call1_call0_v0 (F := Ideal) (Shape.Idx.first h_S_) = 0 := by
    pointwise [val_main_call1_call0_v0, val_main_call1_call0_cst]
  unfold val_main_v21 Host.reduceWindowAdd
  rw [h0, Ideal.hostReduceWindowAdd_def]
  refine (window_sum 127 0 _ _ c g e l).trans ((window_prefix l (fun s => val_main_v20 (F := Ideal) A.P A.al A.tb (ix4 c g e s))).trans ?_)
  simp only [ref_adt]
  rfl

/-- The reference's mask of positions not later than a row's. -/
theorem ref_tri (s : Fin 128) : val_main_v33_1 (F := Ideal) (ix5 c g e l s) = if s ≤ l then 1#1 else 0#1 := by
  pointwise [val_main_v33_1, val_main_v27, val_main_call2_v4, val_main_call2_v3, val_main_call2_v2, val_main_call2_v1,
    val_main_call2_v0, val_main_call2_c, val_main_call2_v5, val_main_call2_c_0, val_main_v26, val_main_c]
  have h : ∀ l s : Fin 128, Scalar.select (IntOp.cmpi CmpIPredicate.sge (IntOp.addi (BitVec.ofNat 32 l.1) 0#32) (BitVec.ofNat 32 s.1)) 1#1 0#1 =
    if s ≤ l then 1#1 else 0#1 := by decide +kernel
  exact h l s

/-- The reference's masked decay matrix. -/
theorem ref_L (s : Fin 128) : val_main_v34 (F := Ideal) A.P A.al A.tb (ix5 c g e l s) = (A.hd c g e).L l s := by
  have ht := ref_tri c l g e s
  pointwise [val_main_v34, val_main_v33_0, val_main_v32, val_main_v31, val_main_v30, val_main_v29, val_main_v28, val_main_call3_v2,
    val_main_call3_v0, val_main_cst]
  rw [ht, ref_acs, ref_acs]
  have hb : constant (F := Ideal) S_ FTy.f32 4286578688#32 ix0 = (⊥ : EReal) := by
    show Ideal.ofBits FTy.f32 4286578688#32 = ⊥
    simp [Ideal.ofBits, Ideal.ieee]
  by_cases h : s ≤ l
  · simp [h, Head.L, Scalar.select]
  · simp [h, Head.L, Scalar.select, hb]

/-- The reference's matrix by which a chunk's inputs are mixed. -/
theorem ref_M (s : Fin 128) : val_main_v38 (F := Ideal) A.X A.P A.al A.tb (ix5 c g e l s) = (A.hd c g e).M l s := by
  pointwise [val_main_v38, val_main_v37, val_main_v36]
  rw [ref_G A c l g e, ref_L]; rfl

/-- The reference's decay up to the chunk's end. -/
theorem ref_dec : val_main_v44 (F := Ideal) A.P A.al A.tb (ix4 c g e l) = (A.hd c g e).dec l := by
  pointwise [val_main_v44, val_main_v43, val_main_v42, val_main_v41]
  rw [ref_acs, ref_acs]; rfl

/-- The reference's inputs times the step and the decay up to the chunk's end. -/
theorem ref_decx (p : Fin 64) : val_main_v50 (F := Ideal) A.X A.P A.al A.tb (ix5 c l g e p) = (A.hd c g e).dec l * (A.hd c g e).xd l p := by
  pointwise [val_main_v50, val_main_v49, val_main_v48, val_main_v47]
  rw [ref_dec, ref_xd]

/-- The reference's `B` rows, repeated for each head. -/
theorem ref_Bh (n : Fin 128) : val_main_v46 (F := Ideal) A.X (ix5 c l g e n) = (A.hd c g e).B l n := by
  pointwise [val_main_v46, val_main_v45]
  exact ref_B A c l g e n

/-- The reference's `C` rows, repeated for each head. -/
theorem ref_Ch (n : Fin 128) : val_main_v62 (F := Ideal) A.X (ix5 c l g e n) = (A.hd c g e).C l n := by
  pointwise [val_main_v62, val_main_v61]
  exact ref_C A c l g e n

/-- The reference's `C` rows, repeated for each head, as the pulled-back product has them. -/
theorem ref_Ch' (n : Fin 128) : val_main_v74 (F := Ideal) A.X (ix5 c l g e n) = (A.hd c g e).C l n := by
  pointwise [val_main_v74, val_main_v73]
  exact ref_C A c l g e n

/-- The reference's whole chunk's decay. -/
theorem ref_elast (i : Fin 1) : val_main_v53 (F := Ideal) A.P A.al A.tb (ix4 c g e i) = Ideal.exp (A.hd c g e).last := by
  pointwise [val_main_v53, val_main_v52]
  rw [ref_acs]; rfl

/-- The reference's decay from the chunk's start. -/
theorem ref_out : val_main_v58 (F := Ideal) A.P A.al A.tb (ix4 c g e l) = (A.hd c g e).out l := by
  pointwise [val_main_v58]
  rw [ref_acs]; rfl

/-- The reference's decay from the chunk's start, with an axis of one lane. -/
theorem ref_out1 (i : Fin 1) : val_main_v60 (F := Ideal) A.P A.al A.tb (ix5 c l g e i) = (A.hd c g e).out l := by
  pointwise [val_main_v60, val_main_v59]
  exact ref_out A c l g e

/-- The reference's `C` rows times the state. -/
theorem ref_CH (p : Fin 64) : val_main_v64 (F := Ideal) A.X A.St (ix5 c l g e p) = (A.hd c g e).CH l p := by
  pointwise [val_main_v64, val_main_v63]
  exact Finset.sum_congr rfl fun n _ => by rw [ref_Ch, ref_H, mul_comm]

/-- The reference's gradient of the outputs times the decay from the chunk's start. -/
theorem ref_dyo (p : Fin 64) : val_main_v81 (F := Ideal) A.P A.Dy A.al A.tb (ix5 c l g e p) = (A.hd c g e).dyo l p := by
  rw [Head.dyo, ← ref_dy, ← ref_out1 A c l g e 0]
  pointwise [val_main_v81, val_main_v80, val_main_v79, val_main_v222, val_main_v214]

/-- The reference's gradient that a chunk's own outputs ask of the state. -/
theorem ref_dprev (p : Fin 64) (n : Fin 128) : val_main_v83 (F := Ideal) A.X A.P A.Dy A.al A.tb (ix5 c g e p n) = (A.hd c g e).dprev p n := by
  pointwise [val_main_v83, val_main_v82]
  exact Finset.sum_congr rfl fun l _ => by rw [ref_Ch', ref_dyo]

/-- The reference's whole chunk's decay. -/
theorem ref_keep (p : Fin 64) (n : Fin 128) : val_main_v85 (F := Ideal) A.P A.al A.tb (ix5 c g e p n) = Ideal.exp (A.hd c g e).last := by
  pointwise [val_main_v85, val_main_v84]
  exact ref_elast A c g e 0

end Cert.Ssd

end
-- ==== Proof.Carry.lean ====
module

public import proofs.«01_k».proof.Proof.Forward

@[expose] public section

/-!
  The cotangent of the state between the chunks: the reference takes the chunks from the last to the first and joins
  the 32 cotangents into one array.
-/

noncomputable section

namespace Cert.Ssd

open Idealize.ShloMosaic Idealize.ShloMosaic.Pointwise
open Cert.ReferenceIdeal Cert.ReferenceIdeal.Gen Cert.ReferenceIdeal.Read

variable (A : Args)

/-- One chunk of an array of 32. -/
theorem slices_chunk (t : ℕ) : S32x2x8x64x128.Slices ![31 - t, 0, 0, 0, 0] S1x2x8x64x128 := by
  refine ⟨rfl, fun a => ?_⟩
  match a with
  | ⟨0, _⟩ => show 31 - t + 1 ≤ 32; omega
  | ⟨1, _⟩ => show 0 + 2 ≤ 2; omega
  | ⟨2, _⟩ => show 0 + 8 ≤ 8; omega
  | ⟨3, _⟩ => show 0 + 64 ≤ 64; omega
  | ⟨4, _⟩ => show 0 + 128 ≤ 128; omega

/-- The cotangent before step `t`, as the reference computes it. -/
def carZ : ℕ → S1x2x8x64x128.Idx → EReal
  | 0 => val_main_v86 (F := Ideal)
  | t + 1 => addf (F := Ideal) (φ := .f32) (mulf (F := Ideal) (φ := .f32) (carZ t) (extractStridedSlice S1x2x8x64x128 ![31 - t, 0, 0, 0, 0] (val_main_v85 (F := Ideal) A.P A.al A.tb) (slices_chunk t)))
      (extractStridedSlice S1x2x8x64x128 ![31 - t, 0, 0, 0, 0] (val_main_v83 (F := Ideal) A.X A.P A.Dy A.al A.tb) (slices_chunk t))

/-- The carried gradient of the reference, any number of steps back from the last chunk. -/
theorem carZ_eq (g : Fin 2) (e : Fin 8) (p : Fin 64) (n : Fin 128) :
    ∀ t : ℕ, t ≤ 31 → carZ A t (ix5 0 g e p n) = A.car t g e p n
  | 0, _ => by
    show val_main_v86 (F := Ideal) (ix5 0 g e p n) = 0
    pointwise [val_main_v86, val_main_cst_0]
  | t + 1, ht => by
    have hs : ∀ v : S32x2x8x64x128.Idx → EReal, extractStridedSlice S1x2x8x64x128 ![31 - t, 0, 0, 0, 0] v (slices_chunk t) (ix5 0 g e p n)
        = v (ix5 (Args.chunk t) g e p n) := by
      intro v
      refine congrArg v (funext fun a => ?_)
      match a with
      | ⟨0, _⟩ => exact Fin.ext (by show 31 - t + 0 = 31 - t; omega)
      | ⟨1, _⟩ => exact Fin.ext (by show 0 + g.1 = g.1; omega)
      | ⟨2, _⟩ => exact Fin.ext (by show 0 + e.1 = e.1; omega)
      | ⟨3, _⟩ => exact Fin.ext (by show 0 + p.1 = p.1; omega)
      | ⟨4, _⟩ => exact Fin.ext (by show 0 + n.1 = n.1; omega)
    have h := carZ_eq g e p n t (by omega)
    show carZ A t (ix5 0 g e p n) * extractStridedSlice _ _ _ _ _ + extractStridedSlice _ _ _ _ _ = _
    rw [hs, hs, h, ref_keep, ref_dprev]
    rfl

/-- The later sixteen chunks of the joined array (the earlier ones in the order of the chunks). -/
theorem late_eq : val_main_v212 (F := Ideal) A.X A.P A.Dy A.al A.tb = concatenate S16x2x8x64x128 0
    (List.ofFn fun i : Fin 16 => (⟨S1x2x8x64x128, carZ A (15 - i.1)⟩ : (s : Shape) × (s.Idx → EReal)))
    concatenates_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S16x2x8x64x128_d0 := rfl

/-- The stack of the first sixteen chunks' carried gradients. -/
theorem early_eq : val_main_v211 (F := Ideal) A.X A.P A.Dy A.al A.tb = concatenate S16x2x8x64x128 0
    (List.ofFn fun i : Fin 16 => (⟨S1x2x8x64x128, carZ A (31 - i.1)⟩ : (s : Shape) × (s.Idx → EReal)))
    concatenates_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S16x2x8x64x128_d0 := rfl

/-- Sixteen chunks joined, read at one of them. -/
theorem join_apply (f : Fin 16 → (S1x2x8x64x128.Idx → EReal)) (h) (k : Fin 16) (g : Fin 2) (e : Fin 8) (p : Fin 64) (n : Fin 128) :
    concatenate S16x2x8x64x128 0 (List.ofFn fun i : Fin 16 => (⟨S1x2x8x64x128, f i⟩ : (s : Shape) × (s.Idx → EReal))) h (ix5 k g e p n)
      = f k (ix5 0 g e p n) := by
  refine concatenate_ofFn_unit_apply (0 : Fin S16x2x8x64x128.rank) f h rfl rfl _ k rfl (ix5 0 g e p n) fun b hb => ?_
  match b with
  | ⟨0, _⟩ => exact absurd rfl hb
  | ⟨1, _⟩ => rfl
  | ⟨2, _⟩ => rfl
  | ⟨3, _⟩ => rfl
  | ⟨4, _⟩ => rfl

/-- The cotangent of the state that chunk `c` hands on. -/
theorem ref_E (c : Fin 32) (g : Fin 2) (e : Fin 8) (p : Fin 64) (n : Fin 128) : val_main_v213 (F := Ideal) A.X A.P A.Dy A.al A.tb (ix5 c g e p n) = (A.hd c g e).E p n := by
  show _ = A.car (31 - c.1) g e p n
  rw [← carZ_eq A g e p n (31 - c.1) (by omega)]
  pointwise [val_main_v213]
  by_cases h : c.1 < 16
  · rw [dif_pos h]
    exact (congrFun (early_eq A) _).trans (join_apply (fun i => carZ A (31 - i.1)) _ ⟨c.1, h⟩ g e p n)
  · rw [dif_neg h]
    refine (congrFun (late_eq A) _).trans ((join_apply (fun i => carZ A (15 - i.1)) _ ⟨c.1 - 16, by omega⟩ g e p n).trans ?_)
    exact congrArg (fun t => carZ A t (ix5 0 g e p n)) (by show 15 - (c.1 - 16) = 31 - c.1; omega)

end Cert.Ssd

end
-- ==== Proof.Backward.lean ====
module

public import proofs.«01_k».proof.Proof.Carry

@[expose] public section

/-!
  The reference's backward values, read in the terms of Spec.lean: chunk `c`, group `g`, head `e`.
-/

noncomputable section

namespace Cert.Ssd

open Idealize.ShloMosaic Idealize.ShloMosaic.Pointwise
open Cert.ReferenceIdeal Cert.ReferenceIdeal.Gen Cert.ReferenceIdeal.Read

variable (A : Args) (c : Fin 32) (l : Fin 128) (g : Fin 2) (e : Fin 8)

/-- A row's chunk. -/
theorem row_div (h) : (⟨(row c l).1 / 128, h⟩ : Fin 32) = c := Fin.ext (by simp only [row]; omega)

/-- A row's position in its chunk. -/
theorem row_mod (h) : (⟨(row c l).1 % 128, h⟩ : Fin 128) = l := Fin.ext (by simp only [row]; omega)

/-- A head's group. -/
theorem hcol_div (h) : (⟨(hcol g e).1 / 8, h⟩ : Fin 2) = g := Fin.ext (by simp only [hcol]; omega)

/-- A head's number in its group. -/
theorem hcol_mod (h) : (⟨(hcol g e).1 % 8, h⟩ : Fin 8) = e := Fin.ext (by simp only [hcol]; omega)

/-- The reference's gradient of the decay from the chunk's start, times that decay. -/
theorem ref_dout : val_main_v237 (F := Ideal) A.X A.P A.St A.Dy A.al A.tb (ix4 c g e l) = (A.hd c g e).dout l * (A.hd c g e).out l := by
  pointwise [val_main_v237, val_main_v236, val_main_v235, val_main_v225, val_main_v224, val_main_v223, val_main_cst_3, val_main_cst_6]
  rw [Fin.sum_univ_one]
  rw [ref_out]
  simp only [ref_CH, ref_dy, mul_comm ((A.hd c g e).CH l _)]
  rfl

/-- The reference's part of the `C` rows' gradient that comes by the state. -/
theorem ref_dC1 (n : Fin 128) : val_main_v230 (F := Ideal) A.P A.St A.Dy A.al A.tb (ix5 c l g e n) = (A.hd c g e).dC1 l n := by
  pointwise [val_main_v230, val_main_v229, val_main_v228, val_main_v227, val_main_v226]
  exact Finset.sum_congr rfl fun p _ => by rw [ref_dy, ref_out1, ref_H]; rfl

/-- The part that comes by the state, summed over a group's heads. -/
theorem ref_sdC1 (n : Fin 128) : val_main_v234 (F := Ideal) A.P A.St A.Dy A.al A.tb (ix4 c l g n) = ∑ e : Fin 8, (A.hd c g e).dC1 l n := by
  pointwise [val_main_v234, val_main_v233, val_main_v232, val_main_cst_4, val_main_cst_5]
  rw [Fin.sum_univ_one]
  simp only [ref_dC1]

/-- The reference's gradient of the whole chunk's decay. -/
theorem ref_hE : val_main_v239 (F := Ideal) A.X A.P A.St A.Dy A.al A.tb (ix3 c g e) = (A.hd c g e).hE := by
  have h0 : val_main_cst_7 (F := Ideal) (Shape.Idx.first h_S_) = 0 := by pointwise [val_main_cst_7]
  unfold val_main_v239 Host.reduceAdd
  rw [h0, Ideal.hostReduceAdd_def]
  refine (reduce_last_two _ _ c g e).trans (Finset.sum_congr rfl fun p _ => Finset.sum_congr rfl fun n _ => ?_)
  pointwise [val_main_v238]
  rw [ref_H, ref_E]

/-- The reference's gradient of the whole chunk's decay, in another layout. -/
theorem ref_hE' : val_main_v244 (F := Ideal) A.X A.P A.St A.Dy A.al A.tb (ix3 c g e) = (A.hd c g e).hE := by
  have h0 : val_main_cst_8 (F := Ideal) (Shape.Idx.first h_S_) = 0 := by pointwise [val_main_cst_8]
  unfold val_main_v244 Host.reduceAdd
  rw [h0, Ideal.hostReduceAdd_def]
  refine (reduce_last_two _ _ c g e).trans ?_
  rw [Fin.sum_univ_one, Fin.sum_univ_one]
  pointwise [val_main_v240]
  exact ref_hE A c g e

/-- The reference's gradient of the whole chunk's decay, placed at the chunk's last position. -/
theorem ref_pad1 : val_main_v247 (F := Ideal) A.X A.P A.St A.Dy A.al A.tb (ix4 c g e l) = if l = 127 then (A.hd c g e).hE * Ideal.exp (A.hd c g e).last else 0 := by
  pointwise [val_main_v247, val_main_v246, val_main_v245, val_main_cst_9]
  by_cases h : l = 127
  · subst h
    rw [dif_pos (by decide), if_pos rfl, ref_hE', ref_elast]
  · rw [dif_neg (fun hh => h (Fin.ext (by show l.1 = 127; omega))), if_neg h]

/-- The reference's part of the `B` rows' gradient that comes by the state. -/
theorem ref_dB1 (n : Fin 128) : val_main_v250 (F := Ideal) A.X A.P A.Dy A.al A.tb (ix5 c l g e n) = (A.hd c g e).dB1 l n := by
  pointwise [val_main_v250, val_main_v249]
  exact Finset.sum_congr rfl fun p _ => by rw [ref_E, ref_decx, mul_comm, mul_comm ((A.hd c g e).dec l)]

/-- The part that comes by the state, summed over a group's heads. -/
theorem ref_sdB1 (n : Fin 128) : val_main_v262 (F := Ideal) A.X A.P A.Dy A.al A.tb (ix4 c l g n) = ∑ e : Fin 8, (A.hd c g e).dB1 l n := by
  pointwise [val_main_v262, val_main_v261, val_main_v260, val_main_cst_10, val_main_cst_12, val_main_cst_13]
  rw [Fin.sum_univ_one]
  simp only [ref_dB1]

/-- The reference's `B` rows times the state's gradient. -/
theorem ref_BE (p : Fin 64) : val_main_v252 (F := Ideal) A.X A.P A.Dy A.al A.tb (ix5 c l g e p) = (A.hd c g e).BE l p := by
  pointwise [val_main_v252, val_main_v251]
  exact Finset.sum_congr rfl fun n _ => by rw [ref_E, ref_Bh, mul_comm]

/-- The reference's gradient of the decay up to the chunk's end, times that decay. -/
theorem ref_dterm : val_main_v263 (F := Ideal) A.X A.P A.Dy A.al A.tb (ix4 c g e l) = (A.hd c g e).dterm l := by
  pointwise [val_main_v263, val_main_v259, val_main_v258, val_main_v257, val_main_v256, val_main_v255, val_main_cst_10, val_main_cst_11]
  rw [Fin.sum_univ_one]
  rw [ref_dec]
  simp only [ref_BE, ref_xd, mul_comm ((A.hd c g e).BE l _)]
  rfl

/-- The reference's gradients of the decays up to the chunk's end, summed at its last position. -/
theorem ref_pad2 : val_main_v268 (F := Ideal) A.X A.P A.Dy A.al A.tb (ix4 c g e l) = if l = 127 then ∑ s : Fin 128, (A.hd c g e).dterm s else 0 := by
  pointwise [val_main_v268, val_main_v265, val_main_v264, val_main_cst_14, val_main_cst_15]
  by_cases h : l = 127
  · subst h
    rw [dif_pos (by decide), if_pos rfl]
    simp only [ref_dterm]
  · rw [dif_neg (fun hh => h (Fin.ext (by show l.1 = 127; omega))), if_neg h]

/-- The reference's gradient of the mixing matrix. -/
theorem ref_dM (s : Fin 128) : val_main_v271 (F := Ideal) A.X A.P A.Dy A.tb (ix5 c g e l s) = (A.hd c g e).dM l s := by
  pointwise [val_main_v271, val_main_v270]
  exact Finset.sum_congr rfl fun p _ => by rw [ref_dy, ref_xd]

/-- The reference's gradient of the inputs times the step. -/
theorem ref_dxd (p : Fin 64) : val_main_v274 (F := Ideal) A.X A.P A.Dy A.al A.tb (ix5 c l g e p) = (A.hd c g e).dxd l p := by
  pointwise [val_main_v274, val_main_v273, val_main_v272, val_main_v270, val_main_v254, val_main_v253, val_main_v48, val_main_v47]
  rw [ref_dec, ref_BE, mul_comm ((A.hd c g e).dec l)]
  exact congrArg (_ + ·) (Finset.sum_congr rfl fun r _ => by rw [ref_dy, ref_M, mul_comm])

/-- The reference's gradient of the products of `C` rows with `B` rows. -/
theorem ref_dG (s : Fin 128) : val_main_v280 (F := Ideal) A.X A.P A.Dy A.al A.tb (ix4 c g l s) = dG (A.hd c g) l s := by
  pointwise [val_main_v280, val_main_v279, val_main_v278, val_main_v277, val_main_cst_16, val_main_cst_17]
  rw [Fin.sum_univ_one]
  simp only [ref_dM, ref_L]
  rfl

/-- The reference's gradient of the `B` rows. -/
theorem ref_dB (n : Fin 128) : val_main_v283 (F := Ideal) A.X A.P A.Dy A.al A.tb (ix4 c l g n) = dB (A.hd c g) l n := by
  pointwise [val_main_v283, val_main_v282, val_main_v281]
  rw [ref_sdB1]
  exact congrArg (_ + ·) (Finset.sum_congr rfl fun r _ => by rw [ref_dG, ref_C A c r g 0])

/-- The reference's gradient of the `C` rows. -/
theorem ref_dC (n : Fin 128) : val_main_v286 (F := Ideal) A.X A.P A.St A.Dy A.al A.tb (ix4 c l g n) = dC (A.hd c g) l n := by
  pointwise [val_main_v286, val_main_v285, val_main_v284]
  rw [ref_sdC1]
  exact congrArg (_ + ·) (Finset.sum_congr rfl fun r _ => by rw [ref_dG, ref_B A c r g 0])

/-- The reference's gradient of the decay matrix's exponents. -/
theorem ref_dseg (s : Fin 128) : val_main_v288 (F := Ideal) A.X A.P A.Dy A.al A.tb (ix5 c g e l s) = (A.hd c g e).dseg l s := by
  have ht := ref_tri c l g e s
  pointwise [val_main_v288, val_main_v287, val_main_v276, val_main_v275, val_main_v36, val_main_call4_v0, val_main_call4_cst]
  rw [ht, ref_G A c l g e, ref_dM, ref_L]
  by_cases h : s ≤ l
  · simp [h, Head.dseg, Scalar.select]
  · simp [h, Head.dseg, Scalar.select]

/-- The reference's row sums of the exponents' gradient. -/
theorem ref_rows : val_main_v296 (F := Ideal) A.X A.P A.Dy A.al A.tb (ix4 c g e l) = ∑ s : Fin 128, (A.hd c g e).dseg l s := by
  pointwise [val_main_v296, val_main_v290, val_main_v289, val_main_cst_18, val_main_cst_21]
  rw [Fin.sum_univ_one]
  simp only [ref_dseg]

/-- The reference's negated column sums of the exponents' gradient. -/
theorem ref_cols : val_main_v294 (F := Ideal) A.X A.P A.Dy A.al A.tb (ix4 c g e l) = ∑ r : Fin 128, -(A.hd c g e).dseg r l := by
  pointwise [val_main_v294, val_main_v293, val_main_v292, val_main_v291, val_main_cst_19, val_main_cst_20]
  rw [Fin.sum_univ_one]
  simp only [ref_dseg]

/-- The reference's gradient of the running sum. -/
theorem ref_dacs : val_main_v297 (F := Ideal) A.X A.P A.St A.Dy A.al A.tb (ix4 c g e l) = (A.hd c g e).dacs l := by
  pointwise [val_main_v297, val_main_v295, val_main_v269, val_main_v267, val_main_v266, val_main_v248]
  rw [ref_rows, ref_cols, ref_pad1, ref_pad2, ref_dterm, ref_dout]
  unfold Head.dacs Head.tail
  have h1 : ∀ a b c d s r : EReal, a + b + c + d + s + r = c + a + r + (b + d) + s := by intros; abel
  by_cases h : l = 127
  · rw [if_pos h, if_pos h, if_pos h]; exact h1 _ _ _ _ _ _
  · rw [if_neg h, if_neg h, if_neg h]; exact (h1 _ 0 _ 0 _ _).trans (by rw [add_zero (0 : EReal)])

/-- The reference's gradient of the decays, heads apart. -/
theorem ref_dda4 : val_main_v303 (F := Ideal) A.X A.P A.St A.Dy A.al A.tb (ix4 c g e l) = (A.hd c g e).dda l := by
  have h0 : val_main_call5_call0_v0 (F := Ideal) (Shape.Idx.first h_S_) = 0 := by
    pointwise [val_main_call5_call0_v0, val_main_call5_call0_cst]
  unfold val_main_v303 Host.reduceWindowAdd
  rw [h0, Ideal.hostReduceWindowAdd_def]
  refine (window_sum 0 127 _ _ c g e l).trans ((window_suffix l (fun s => val_main_v297 (F := Ideal) A.X A.P A.St A.Dy A.al A.tb (ix4 c g e s))).trans ?_)
  simp only [ref_dacs]
  rfl

/-- The reference's gradient of the decays. -/
theorem ref_dda : val_main_v305 (F := Ideal) A.X A.P A.St A.Dy A.al A.tb (ix2 (row c l) (hcol g e)) = (A.hd c g e).dda l := by
  rw [← ref_dda4]
  pointwise [val_main_v305, val_main_v304]
  exact at4 (val_main_v303 (F := Ideal) A.X A.P A.St A.Dy A.al A.tb) (by simp only [row]; omega) (by simp only [hcol]; omega) (by simp only [hcol]; omega) (by simp only [row]; omega)

/-- The reference's gradient of the step. -/
theorem ref_ddt : val_main_v319 (F := Ideal) A.X A.P A.St A.Dy A.al A.tb (ix2 (row c l) (hcol g e)) = (A.hd c g e).ddt l := by
  rw [Head.ddt, ← ref_dda, ← ref_a A c g e, add_comm]
  have h : val_main_v318 (F := Ideal) A.X A.P A.Dy A.al A.tb (ix2 (row c l) (hcol g e)) = ∑ p : Fin 64, (A.hd c g e).x l p * (A.hd c g e).dxd l p := by
    simp only [← ref_dxd, ← ref_x]
    pointwise [val_main_v318, val_main_v317, val_main_v314, val_main_v313, val_main_v312, val_main_cst_26, val_main_cst_27]
    rw [Fin.sum_univ_one]
    simp only [row_div, row_mod, hcol_div, hcol_mod]
  rw [← h]
  pointwise [val_main_v319, val_main_v310, val_main_v309, val_main_v16]

/-- The reference's gradient of the step before softplus. -/
theorem ref_du : val_main_v322 (F := Ideal) A.X A.P A.St A.Dy A.al A.tb (ix2 (row c l) (hcol g e)) = (A.hd c g e).du l := by
  rw [Head.du, ← ref_ddt, ← ref_u A c l g e, ← ref_lg]
  pointwise [val_main_v322]

end Cert.Ssd

end
-- ==== Proof.Results.lean ====
module

public import proofs.«01_k».proof.Proof.Backward

@[expose] public section

/-!
  The reference's five results, read in the terms of Whole.lean.
-/

noncomputable section

namespace Cert.Ssd

open Idealize.ShloMosaic Idealize.ShloMosaic.Pointwise
open Cert.ReferenceIdeal Cert.ReferenceIdeal.Gen Cert.ReferenceIdeal.Read

/-- A sum over all rows is a sum over the chunks of the sums over their rows. -/
theorem sum_rows (f : Fin 4096 → EReal) : ∑ r, f r = ∑ c : Fin 32, ∑ l : Fin 128, f (row c l) := by
  rw [← Finset.sum_product', ← Equiv.sum_comp (finProdFinEquiv (m := 32) (n := 128)) f]
  refine Finset.sum_congr rfl fun q _ => congrArg f (Fin.ext ?_)
  show q.2.1 + 128 * q.1.1 = 128 * q.1.1 + q.2.1
  omega

/-- A row is its chunk's row at its position. -/
theorem row_split (r : Fin 4096) (h h') : row ⟨r.1 / 128, h⟩ ⟨r.1 % 128, h'⟩ = r := Fin.ext (by simp only [row]; omega)

variable (A : Args) (c : Fin 32) (l : Fin 128) (g : Fin 2) (e : Fin 8)

/-- The word zero, read as a number. -/
theorem sitofp_zero : FloatOps.sitofp (F := Ideal) FTy.f32 0#32 = (0 : EReal) := by
  show (((0#32 : BitVec 32).toInt : ℝ) : EReal) = 0
  simp

/-- The column of lane `p` of head `e` of group `g`. -/
def xcol (g : Fin 2) (e : Fin 8) (p : Fin 64) : Fin 1024 := ⟨512 * g.1 + 64 * e.1 + p.1, by omega⟩

/-- A column's group. -/
theorem xcol_div (p : Fin 64) (h) : (⟨(xcol g e p).1 / 512, h⟩ : Fin 2) = g := Fin.ext (by simp only [xcol]; omega)

/-- A column's head in its group. -/
theorem xcol_mod (p : Fin 64) (h) : (⟨(xcol g e p).1 / 64 % 8, h⟩ : Fin 8) = e := Fin.ext (by simp only [xcol]; omega)

/-- A column's lane in its head. -/
theorem xcol_lane (p : Fin 64) (h) : (⟨(xcol g e p).1 % 64, h⟩ : Fin 64) = p := Fin.ext (by simp only [xcol]; omega)

/-- The reference's gradient of the inputs. -/
theorem ref_dx (p : Fin 64) : val_main_v321 (F := Ideal) A.X A.P A.Dy A.al A.tb A.ds (ix2 (row c l) (xcol g e p)) = (A.hd c g e).dx l p := by
  rw [Head.dx, ← ref_dxd, ← ref_dt]
  pointwise [val_main_v321, val_main_v217, val_main_v216, val_main_v215, val_main_v214, val_main_v69, val_main_v4, val_main_v3,
    val_main_v320, val_main_v316, val_main_v315, val_main_v13]
  simp only [row_div, row_mod, xcol_div, xcol_mod, xcol_lane]
  refine congrArg (· + _) (congrArg (· * _) (congrArg (fun i => A.ds (ix1 i)) (Fin.ext ?_)))
  show (xcol g e p).1 / 64 = 8 * g.1 + e.1
  simp only [xcol]; omega

/-- The reference's gradient of the skip weights, one head's lanes. -/
theorem ref_dd (p : Fin 64) : val_main_v337 (F := Ideal) A.X A.Dy (ix2 0 (xcol g e p)) = ∑ c : Fin 32, (A.hd c g e).dd p := by
  pointwise [val_main_v337, val_main_v221, val_main_v220, val_main_v219, val_main_v218, val_main_v215, val_main_v214, val_main_v6, val_main_cst_1,
    val_main_cst_2]
  rw [Fin.sum_univ_one, sum_rows]
  rfl

/-- The reference's gradient of the skip weights. -/
theorem ref_dD (j : Fin 1024) : val_main_v337 (F := Ideal) A.X A.Dy (ix2 0 j) = A.dD j := by
  have hj : j = xcol ⟨j.1 / 512, by omega⟩ ⟨j.1 % 512 / 64, by omega⟩ ⟨j.1 % 64, by omega⟩ := Fin.ext (by simp only [xcol]; omega)
  exact (congrArg (fun i => val_main_v337 (F := Ideal) A.X A.Dy (ix2 0 i)) hj).trans (ref_dd A _ _ _)

/-- The reference's gradient of the decay rates. -/
theorem ref_da (j : Fin 128) : val_main_v334 (F := Ideal) A.X A.P A.St A.Dy A.al A.tb (ix2 0 j) = A.dA j := by
  pointwise [val_main_v334, val_main_v333, val_main_call8_v0, val_main_c_32, val_main_v311, val_main_v308, val_main_v307, val_main_v306, val_main_cst_24,
    val_main_cst_25]
  unfold Args.dA
  by_cases h : j.1 < 16
  · rw [dif_pos h, dif_pos h, Fin.sum_univ_one, sum_rows]
    refine Finset.sum_congr rfl fun c _ => Finset.sum_congr rfl fun l _ => ?_
    have hj : (⟨j.1, h⟩ : Fin 16) = hcol ⟨j.1 / 8, by omega⟩ ⟨j.1 % 8, by omega⟩ := Fin.ext (by simp only [hcol]; omega)
    rw [hj, ref_dt2, ref_dda]
  · rw [dif_neg h, dif_neg h]
    exact sitofp_zero

/-- The reference's gradient of the step's bias. -/
theorem ref_ddtb (j : Fin 128) : val_main_v336 (F := Ideal) A.X A.P A.St A.Dy A.al A.tb (ix2 0 j) = A.dT j := by
  pointwise [val_main_v336, val_main_v335, val_main_call9_v0, val_main_c_33, val_main_v325, val_main_v324, val_main_v323, val_main_cst_28,
    val_main_cst_29]
  unfold Args.dT
  by_cases h : j.1 < 16
  · rw [dif_pos h, dif_pos h, Fin.sum_univ_one, sum_rows]
    refine Finset.sum_congr rfl fun c _ => Finset.sum_congr rfl fun l _ => ?_
    have hj : (⟨j.1, h⟩ : Fin 16) = hcol ⟨j.1 / 8, by omega⟩ ⟨j.1 % 8, by omega⟩ := Fin.ext (by simp only [hcol]; omega)
    rw [hj, ref_du]
  · rw [dif_neg h, dif_neg h]
    exact sitofp_zero

/-- The reference's gradient of the scan's inputs, all columns. -/
theorem ref_dX (r : Fin 4096) (j : Fin 1536) : val_main_v327 (F := Ideal) A.X A.P A.St A.Dy A.al A.tb A.ds (ix2 r j) = A.dX r j := by
  pointwise [val_main_v327, val_main_v326, val_main_v302, val_main_v301, val_main_v300, val_main_v299, val_main_v298, val_main_cst_22,
    val_main_cst_23, val_main_cst_30]
  unfold Args.dX
  by_cases h : j.1 < 1024
  · rw [dif_pos h, dif_pos h, dif_neg (by omega), dif_neg (by omega), add_zero, zero_add, ← ref_dx, row_split]
    exact congrArg (fun i => val_main_v321 (F := Ideal) A.X A.P A.Dy A.al A.tb A.ds (ix2 r i)) (Fin.ext (by simp only [xcol]; omega))
  · rw [dif_neg h, dif_neg h, add_zero]
    by_cases h2 : j.1 < 1280
    · rw [dif_neg (by omega), dif_pos (by omega), if_pos h2, zero_add, ref_dB]
      exact congrArg₂ (fun g n => dB (A.hd _ g) _ n) (Fin.ext (by show (j.1 - 1024) / 128 = j.1 / 128 % 2; omega))
        (Fin.ext (by show (j.1 - 1024) % 128 = j.1 % 128; omega))
    · rw [dif_pos (by omega), dif_neg (by omega), if_neg h2, add_zero, ref_dC]
      exact congrArg₂ (fun g n => dC (A.hd _ g) _ n) (Fin.ext (by show (j.1 - 1280) / 128 = j.1 / 128 % 2; omega))
        (Fin.ext (by show (j.1 - 1280) % 128 = j.1 % 128; omega))

/-- The reference's gradient of the projection's columns. -/
theorem ref_dP (Q : (⟨2, ![4096, 10368]⟩ : Shape).Idx → EReal) (r : Fin 4096) (j : Fin 10368) : val_main_v332 (F := Ideal) A.X A.P A.St A.Dy A.al A.tb Q (ix2 r j) = A.dP Q r j := by
  pointwise [val_main_v332, val_main_v331, val_main_v330, val_main_v329, val_main_v328, val_main_call7_v0, val_main_c_31]
  unfold Args.dP
  by_cases h : j.1 < 6656
  · have n1 : ¬(6656 ≤ j.1 ∧ j.1 < 6672) := by omega
    have n2 : ¬(6656 ≤ j.1 ∧ j.1 < 6912) := by omega
    rw [dif_pos h, dif_neg n1, if_neg n2]
    rfl
  · rw [dif_neg h]
    by_cases h1 : j.1 - 6656 < 256
    · rw [dif_pos h1]
      have p2 : 6656 ≤ j.1 ∧ j.1 < 6912 := by omega
      by_cases h2 : j.1 - 6656 < 16
      · have p1 : 6656 ≤ j.1 ∧ j.1 < 6672 := by omega
        rw [dif_pos h2]
        refine Eq.trans ?_ (dif_pos p1).symm
        refine Eq.trans ?_ (ref_du A _ _ _ _)
        exact congrArg₂ (fun r i => val_main_v322 (F := Ideal) A.X A.P A.St A.Dy A.al A.tb (ix2 r i)) (row_split r _ _).symm (Fin.ext (by simp only [hcol]; omega))
      · have n1 : ¬(6656 ≤ j.1 ∧ j.1 < 6672) := by omega
        rw [dif_neg h2, dif_neg n1, if_pos p2]
        exact sitofp_zero
    · have n1 : ¬(6656 ≤ j.1 ∧ j.1 < 6672) := by omega
      have n2 : ¬(6656 ≤ j.1 ∧ j.1 < 6912) := by omega
      rw [dif_neg h1, dif_neg n1, if_neg n2]
      have hj : 6912 + (j.1 - 6656 - 256) = j.1 := by omega
      exact at2 Q rfl hj

end Cert.Ssd

end
-- ==== Proof.Products.lean ====
module

public import Idealize.ShloMosaic.Lib.Pointwise
public import Idealize.ShloMosaic.Lib.Pipeline.ReadBack
public import Idealize.ShloMosaic.Lib.Pipeline.ValueKit

@[expose] public section

noncomputable section

/-! # What the tiled matrix products share

Each product walks a grid of blocks. A point multiplies a block of one factor with a block of the other, and where the
contracted axis is taken in two or three equal parts the partial sums are added up from point to point. Here is what
every one of them uses: a whole buffer read back or stored, an entry of a block, and the sum put together from its parts. -/

namespace Cert.Prod

open Idealize.ShloMosaic Idealize.ShloMosaic.TcCoe

/-- The offset of a whole block. -/
theorem zero2 : (![0, 0] : Fin 2 → Nat) = fun _ => 0 := by decide

/-- Reading a whole buffer that holds a block gives the block. -/
theorem read_whole {sig : RefSig} {S : Shape} {e : EltTy} (M : Memref sig .tc .vmem S e) (h : M.IsWhole) {off : Fin S.rank → Nat}
    (hz : off = fun _ => 0) (inb : ∀ a, off a + S.size a ≤ S.size a) (x : Vec Ideal S e) :
    View.readAt (Elt Ideal) M.view (Rect.unit off S.size inb).toLoadRect (h.unread x) = x := by
  rw [View.readAt_eq_ld, Memref.IsWhole.read_unread, View.ld_unit_zero hz]

/-- A buffer into which one whole block was stored holds that block. -/
theorem stored {sig : RefSig} {κ} {sp} {S : Shape} {e : EltTy} (v : View sig κ sp S e)
    {L : List (View.Piece (Elt Ideal) S e)} {off : Fin S.rank → Nat} (hz : off = fun _ => 0)
    (inb : ∀ a, off a + S.size a ≤ S.size a) (x : Vec Ideal S e) (p : L = [⟨Rect.unit off S.size inb, x⟩]) :
    v.read (Elt Ideal) (v.writes (Elt Ideal) v.junk L) = x := by
  rw [View.read_writes_junk_eq_canon, p, View.canon_unit_zero hz]

/-- Where an entry of a block lies in the array: `e` embeds the block with index `(p, q)`. -/
theorem at_block {a b A B : ℕ} (e : (⟨2, ![a, b]⟩ : Shape).Idx → (⟨2, ![A, B]⟩ : Shape).Idx)
    {p q : ℕ} (r : Fin a) (k : Fin b) (R : Fin A) (K : Fin B) (h0 : (e (ix2 r k) 0).val = p * a + 1 * r.val)
    (h1 : (e (ix2 r k) 1).val = q * b + 1 * k.val) (hR : R.1 = a * p + r.1) (hK : K.1 = b * q + k.1) : e (ix2 r k) = ix2 R K := by
  funext i
  apply Fin.ext
  match i with
  | ⟨0, _⟩ => exact h0.trans (by rw [Nat.mul_comm p a, Nat.one_mul]; exact hR.symm)
  | ⟨1, _⟩ => exact h1.trans (by rw [Nat.mul_comm q b, Nat.one_mul]; exact hK.symm)

/-- Two matrices with the same entries are the same. -/
theorem mat_ext {a b : ℕ} {f g : (⟨2, ![a, b]⟩ : Shape).Idx → EReal}
    (h : ∀ r j, f (ix2 r j) = g (ix2 r j)) : f = g := by
  funext i
  exact (congrArg f (ValueIdx.eq_ix2 i)).trans ((h _ _).trans (congrArg g (ValueIdx.eq_ix2 i)).symm)

/-- The blocks of two factors that the points of a grid of `n` points read: the first factor is `M × K` in blocks `tm × tk`, the
second `K × N` in blocks `tk × tn`; `row`, `part` and `col` number the blocks that a point takes. -/
structure Tiles (n M K N tm tk tn : ℕ) where
  /-- The first factor. -/
  a : Fin M → Fin K → EReal
  /-- The second factor. -/
  b : Fin K → Fin N → EReal
  /-- The block of the first factor at a point. -/
  ablk : Fin n → Fin tm → Fin tk → EReal
  /-- The block of the second factor at a point. -/
  bblk : Fin n → Fin tk → Fin tn → EReal
  /-- Which row block a point takes. -/
  row : ℕ → ℕ
  /-- Which part of the contracted axis a point takes. -/
  part : ℕ → ℕ
  /-- Which column block a point takes. -/
  col : ℕ → ℕ
  /-- An entry of the first factor's block. -/
  ha : ∀ t r k R L, R.1 = tm * row t.1 + r.1 → L.1 = tk * part t.1 + k.1 → ablk t r k = a R L
  /-- An entry of the second factor's block. -/
  hb : ∀ t k j L J, L.1 = tk * part t.1 + k.1 → J.1 = tn * col t.1 + j.1 → bblk t k j = b L J

namespace Tiles

variable {n M K N tm tk tn : ℕ} (T : Tiles n M K N tm tk tn)

/-- The product of a point's two blocks, at an entry. -/
def dot (t : Fin n) (r : Fin tm) (j : Fin tn) : EReal := ∑ k, T.ablk t r k * T.bblk t k j

/-- The product of the two factors, at an entry. -/
def full (R : Fin M) (J : Fin N) : EReal := ∑ k, T.a R k * T.b k J

/-- A point's product is the part of the whole sum that it takes. -/
theorem dot_eq (t : Fin n) (r : Fin tm) (j : Fin tn) (R : Fin M) (J : Fin N) (hR : R.1 = tm * T.row t.1 + r.1)
    (hJ : J.1 = tn * T.col t.1 + j.1) (g : Fin tk → Fin K) (hg : ∀ k, (g k).1 = tk * T.part t.1 + k.1) :
    T.dot t r j = ∑ k, T.a R (g k) * T.b (g k) J :=
  Finset.sum_congr rfl fun k _ => congrArg₂ (· * ·) (T.ha t r k R (g k) hR (hg k)) (T.hb t k j (g k) J (hg k) hJ)

/-- A point that takes the whole contracted axis gives the product's entry. -/
theorem one (h : K = tk) (t : Fin n) (r : Fin tm) (j : Fin tn) (R : Fin M) (J : Fin N) (hR : R.1 = tm * T.row t.1 + r.1)
    (hJ : J.1 = tn * T.col t.1 + j.1) (hp : T.part t.1 = 0) : T.dot t r j = T.full R J := by
  subst h
  exact T.dot_eq t r j R J hR hJ id fun k => by rw [hp]; simp

/-- Two points that take a half of the contracted axis each give the product's entry. -/
theorem two (h : K = tk + tk) (q : ℕ) (t0 t1 : Fin n) (e0 : t0.1 = 2 * q) (e1 : t1.1 = 2 * q + 1) (r : Fin tm) (j : Fin tn) (R : Fin M)
    (J : Fin N) (hp : ∀ i, T.part i = i % 2) (hR : R.1 = tm * T.row t1.1 + r.1) (hJ : J.1 = tn * T.col t1.1 + j.1)
    (hrow : T.row t0.1 = T.row t1.1) (hcol : T.col t0.1 = T.col t1.1) : T.dot t0 r j + T.dot t1 r j = T.full R J := by
  subst h
  have p0 : T.part t0.1 = 0 := (hp _).trans (by omega)
  have p1 : T.part t1.1 = 1 := (hp _).trans (by omega)
  rw [T.dot_eq t0 r j R J (hrow ▸ hR) (hcol ▸ hJ) (Fin.castAdd tk) (fun k => by rw [p0]; simp),
    T.dot_eq t1 r j R J hR hJ (Fin.natAdd tk) (fun k => by rw [p1]; simp; omega)]
  unfold full
  rw [Fin.sum_univ_add]

/-- Three points that take a third of the contracted axis each give the product's entry. -/
theorem three (h : K = tk + tk + tk) (q : ℕ) (t0 t1 t2 : Fin n) (e0 : t0.1 = 3 * q) (e1 : t1.1 = 3 * q + 1) (e2 : t2.1 = 3 * q + 2)
    (r : Fin tm) (j : Fin tn) (R : Fin M) (J : Fin N) (hp : ∀ i, T.part i = i % 3) (hR : R.1 = tm * T.row t2.1 + r.1)
    (hJ : J.1 = tn * T.col t2.1 + j.1) (hrow : T.row t0.1 = T.row t2.1 ∧ T.row t1.1 = T.row t2.1)
    (hcol : T.col t0.1 = T.col t2.1 ∧ T.col t1.1 = T.col t2.1) : T.dot t0 r j + T.dot t1 r j + T.dot t2 r j = T.full R J := by
  subst h
  have p0 : T.part t0.1 = 0 := (hp _).trans (by omega)
  have p1 : T.part t1.1 = 1 := (hp _).trans (by omega)
  have p2 : T.part t2.1 = 2 := (hp _).trans (by omega)
  rw [T.dot_eq t0 r j R J (hrow.1 ▸ hR) (hcol.1 ▸ hJ) (Fin.castAdd tk ∘ Fin.castAdd tk) (fun k => by rw [p0]; simp),
    T.dot_eq t1 r j R J (hrow.2 ▸ hR) (hcol.2 ▸ hJ) (Fin.castAdd tk ∘ Fin.natAdd tk) (fun k => by rw [p1]; simp; omega),
    T.dot_eq t2 r j R J hR hJ (Fin.natAdd (tk + tk)) (fun k => by rw [p2]; simp; omega)]
  unfold full
  rw [Fin.sum_univ_add, Fin.sum_univ_add]
  rfl

end Tiles

end Cert.Prod

end
-- ==== Proof.InputGrad.lean ====
module

public import proofs.«01_k».proof.Proof.Products
public import proofs.«01_k».proof.Proof.Gen.InXIdeal.Value
public import proofs.«01_k».proof.Proof.Gen.InXRefIdeal.Read

@[expose] public section

set_option maxRecDepth 16384

noncomputable section

/-! # The gradient of the input projection's argument

`d u = d proj · w_inᵀ`, four row blocks, the 10368 columns in three steps. -/

namespace Cert.InX

open Idealize.ShloMosaic Idealize.ShloMosaic.TcCoe Idealize.ShloMosaic.Pointwise Idealize.SL.Sem Cert.Prod
open Cert.InXIdeal Cert.InXIdeal.Gen Cert.InXIdeal.Value

section Step

variable (c : Dev nD) (i : grid0.Coords) (arg3 arg4 : Memref sig .tc .vmem S1024x3456 .bf16) (harg3 : arg3.IsWhole)
  (harg4 : arg4.IsWhole) (arg5 arg6 : Memref sig .tc .vmem S1024x1024 .f32) (harg5 : arg5.IsWhole) (harg6 : arg6.IsWhole)
  (x0 x1 : Vec Ideal S1024x3456 .bf16) (xs : Vec Ideal S1024x1024 .f32) (r j : Fin 1024)

/-- The product of two blocks, at an entry. -/
theorem pay_at : k0_pay1 (F := Ideal) x0 x1 (ix2 r j) = ∑ k : Fin 3456, x0 (ix2 r k) * x1 (ix2 j k) := by
  pointwise [k0_pay1]

/-- What the first step leaves in the accumulator. -/
theorem first (h0 : cond0_0 i) (h1 : ¬cond0_1 i) (h2 : ¬cond0_2 i) :
    sout0_A_0 (F := Ideal) c i arg3 harg3 arg4 harg4 arg5 harg5 arg6 harg6 h0 h1 h2 x0 x1 (ix2 r j) = ∑ k : Fin 3456, x0 (ix2 r k) * x1 (ix2 j k) := by
  refine (congrFun (stored VS0_0 zero2 inb_S1024x1024_S1024x1024_0_0 (k0_pay2
    (View.readAt (Elt Ideal) arg3.view (Rect.unit ![0, 0] S1024x3456.size inb_S1024x3456_S1024x3456_0_0).toLoadRect (harg3.unread x0))
    (View.readAt (Elt Ideal) arg4.view (Rect.unit ![0, 0] S1024x3456.size inb_S1024x3456_S1024x3456_0_0).toLoadRect (harg4.unread x1)))
    (by sl_kernel_rfl)) _).trans ?_
  rw [read_whole arg3 harg3 zero2, read_whole arg4 harg4 zero2]
  pointwise [k0_pay2]
  exact pay_at x0 x1 r j

/-- What a middle step leaves in the accumulator. -/
theorem next (h0 : ¬cond0_0 i) (h1 : cond0_1 i) (h2 : ¬cond0_2 i) :
    sout0_B_0 (F := Ideal) c i arg3 harg3 arg4 harg4 arg5 harg5 arg6 harg6 h0 h1 h2 x0 x1 xs (ix2 r j) =
      xs (ix2 r j) + ∑ k : Fin 3456, x0 (ix2 r k) * x1 (ix2 j k) := by
  refine (congrFun (stored VS0_0 zero2 inb_S1024x1024_S1024x1024_0_0 (k0_pay3
    (View.readAt (Elt Ideal) arg3.view (Rect.unit ![0, 0] S1024x3456.size inb_S1024x3456_S1024x3456_0_0).toLoadRect (harg3.unread x0))
    (View.readAt (Elt Ideal) arg4.view (Rect.unit ![0, 0] S1024x3456.size inb_S1024x3456_S1024x3456_0_0).toLoadRect (harg4.unread x1))
    (View.readAt (Elt Ideal) arg6.view (Rect.unit ![0, 0] S1024x1024.size inb_S1024x1024_S1024x1024_0_0).toLoadRect (harg6.unread xs)))
    (by sl_kernel_rfl)) _).trans ?_
  rw [read_whole arg3 harg3 zero2, read_whole arg4 harg4 zero2, read_whole arg6 harg6 zero2]
  pointwise [k0_pay3]
  exact congrArg (xs (ix2 r j) + ·) (pay_at x0 x1 r j)

/-- What the last step stores in the block of the result. -/
theorem last (h0 : ¬cond0_0 i) (h1 : ¬cond0_1 i) (h2 : cond0_2 i) :
    out0_C_2 (F := Ideal) c i arg3 harg3 arg4 harg4 arg5 harg5 arg6 harg6 h0 h1 h2 x0 x1 xs (ix2 r j) =
      xs (ix2 r j) + ∑ k : Fin 3456, x0 (ix2 r k) * x1 (ix2 j k) := by
  refine (congrFun (stored VO0_2 zero2 inb_S1024x1024_S1024x1024_0_0 (k0_pay4
    (View.readAt (Elt Ideal) arg3.view (Rect.unit ![0, 0] S1024x3456.size inb_S1024x3456_S1024x3456_0_0).toLoadRect (harg3.unread x0))
    (View.readAt (Elt Ideal) arg4.view (Rect.unit ![0, 0] S1024x3456.size inb_S1024x3456_S1024x3456_0_0).toLoadRect (harg4.unread x1))
    (View.readAt (Elt Ideal) arg6.view (Rect.unit ![0, 0] S1024x1024.size inb_S1024x1024_S1024x1024_0_0).toLoadRect (harg6.unread xs)))
    (by sl_kernel_rfl)) _).trans ?_
  rw [read_whole arg3 harg3 zero2, read_whole arg4 harg4 zero2, read_whole arg6 harg6 zero2]
  pointwise [k0_pay4]
  exact congrArg (xs (ix2 r j) + ·) (pay_at x0 x1 r j)

end Step

variable (m : (ℓ : Loc nD τ sig) → Buf (Elt Ideal) ℓ) (c : Dev nD)

/-- Which blocks of the operands a grid point reads. -/
theorem idx : ∀ t : Fin cfg0.N, (win0_0.index t 0 = t.1 / 3 ∧ win0_0.index t 1 = t.1 % 3) ∧
    (win0_1.index t 0 = 0 ∧ win0_1.index t 1 = t.1 % 3) :=
  (by decide +kernel : ∀ t : Fin grid0.N, _)

/-- The blocks that the grid points read. -/
def tiles : Tiles cfg0.N 4096 10368 1024 1024 3456 1024 where
  a R K := (m ((c : Thread nD τ).loc main_arg0) : S4096x10368.Idx → EReal) (ix2 R K)
  b K J := (m ((c : Thread nD τ).loc main_arg1) : S1024x10368.Idx → EReal) (ix2 J K)
  ablk t r k := (iblk m c 0 t : S1024x3456.Idx → EReal) (ix2 r k)
  bblk t k j := (iblk m c 1 t : S1024x3456.Idx → EReal) (ix2 j k)
  row t := t / 3
  part t := t % 3
  col _ := 0
  ha t r k R K hR hK := by
    have hi := (idx t).1
    refine (congrFun (V_main_arg0 m c) _).trans (congrArg (m ((c : Thread nD τ).loc main_arg0))
      (at_block ((cfg0.win 0).blk t).view.emb r k R K (congrArg (· * 1024 + 1 * r.1) hi.1) (congrArg (· * 3456 + 1 * k.1) hi.2) hR hK))
  hb t k j K J hK hJ := by
    have hi := (idx t).2
    refine (congrFun (V_main_arg1 m c) _).trans (congrArg (m ((c : Thread nD τ).loc main_arg1))
      (at_block ((cfg0.win 1).blk t).view.emb j k J K (congrArg (· * 1024 + 1 * j.1) hi.1) (congrArg (· * 3456 + 1 * k.1) hi.2) hJ hK))

/-- The accumulator after a row block's first step. -/
theorem acc_first (t : Fin cfg0.N) (h : t.1 % 3 = 0) (r j : Fin 1024) :
    (outsAt0 (F := Ideal) m c t.1 t.isLt).2 (ix2 r j) = (tiles m c).dot t r j := by
  rw [outsAt0_A m c t h (by omega) (by omega)]
  dsimp only
  have e := first c (grid0.coords t) (ms0_0 t) (ms0_1 t) (hs0_0 t) (hs0_1 t) (ms0_2 t) scM0_0 (hs0_2 t) (Memref.isWhole_whole _)
    (iblk m c 0 t) (iblk m c 1 t) r j ((hcond0_0 t).mpr h) (fun e => absurd ((hcond0_1 t).mp e) (by omega))
    (fun e => absurd ((hcond0_2 t).mp e) (by omega))
  exact e

/-- The accumulator after its second step. -/
theorem acc_next (t : Fin cfg0.N) (h : t.1 % 3 = 1) (r j : Fin 1024) : (outsAt0 (F := Ideal) m c t.1 t.isLt).2 (ix2 r j) =
    (outsAt0 (F := Ideal) m c (t.1 - 1) (Nat.lt_of_le_of_lt (Nat.sub_le _ _) t.isLt)).2 (ix2 r j) + (tiles m c).dot t r j := by
  rw [outsAt0_B m c t (by omega) h (by omega)]
  dsimp only
  have e := next c (grid0.coords t) (ms0_0 t) (ms0_1 t) (hs0_0 t) (hs0_1 t) (ms0_2 t) scM0_0 (hs0_2 t) (Memref.isWhole_whole _)
    (iblk m c 0 t) (iblk m c 1 t) (outsAt0 (F := Ideal) m c (t.1 - 1) (Nat.lt_of_le_of_lt (Nat.sub_le _ _) t.isLt)).2 r j
    (fun e => absurd ((hcond0_0 t).mp e) (by omega)) ((hcond0_1 t).mpr h) (fun e => absurd ((hcond0_2 t).mp e) (by omega))
  exact e

/-- The block of the result after its last step. -/
theorem out_last (t : Fin cfg0.N) (h : t.1 % 3 = 2) (r j : Fin 1024) : (outsAt0 (F := Ideal) m c t.1 t.isLt).1 (ix2 r j) =
    (outsAt0 (F := Ideal) m c (t.1 - 1) (Nat.lt_of_le_of_lt (Nat.sub_le _ _) t.isLt)).2 (ix2 r j) + (tiles m c).dot t r j := by
  rw [outsAt0_C m c t (by omega) (by omega) h]
  dsimp only
  have e := last c (grid0.coords t) (ms0_0 t) (ms0_1 t) (hs0_0 t) (hs0_1 t) (ms0_2 t) scM0_0 (hs0_2 t) (Memref.isWhole_whole _)
    (iblk m c 0 t) (iblk m c 1 t) (outsAt0 (F := Ideal) m c (t.1 - 1) (Nat.lt_of_le_of_lt (Nat.sub_le _ _) t.isLt)).2 r j
    (fun e => absurd ((hcond0_0 t).mp e) (by omega)) (fun e => absurd ((hcond0_1 t).mp e) (by omega)) ((hcond0_2 t).mpr h)
  exact e

/-- The array the run leaves, at an entry. -/
theorem whole (R : Fin 4096) (J : Fin 1024) : (G2 (F := Ideal) m c : S4096x1024.Idx → EReal) (ix2 R J) = (tiles m c).full R J := by
  have hR := R.isLt
  have hJ := J.isLt
  have hp : pt2Of (ix2 R J) = 3 * (R.1 / 1024) + 2 := by
    show 3 * (1 * (R.1 / 1024 - 0) + 1 * (J.1 / 1024 - 0)) + 2 = _
    omega
  have hN : 3 * (R.1 / 1024) + 2 < cfg0.N := lt_of_lt_of_eq (by omega) N_0.symm
  have hl : loc2Of (ix2 R J) = ix2 (⟨R.1 % 1024, Nat.mod_lt _ (by decide)⟩ : Fin 1024) (⟨J.1 % 1024, Nat.mod_lt _ (by decide)⟩ : Fin 1024) :=
    funext fun a => match a with
      | ⟨0, _⟩ => rfl
      | ⟨1, _⟩ => rfl
  unfold G2
  rw [dif_pos (lt_of_eq_of_lt hp hN), hl, fold0_congr m c _ _ (3 * (R.1 / 1024) + 2) (by omega) hp, ← outsAt0_sweep m c _ hN]
  refine (out_last m c ⟨3 * (R.1 / 1024) + 2, hN⟩ (by dsimp only; omega) _ _).trans
    ((congrArg (· + _) ((acc_next m c ⟨3 * (R.1 / 1024) + 1, by omega⟩ (by dsimp only; omega) _ _).trans
      (congrArg (· + _) (acc_first m c ⟨3 * (R.1 / 1024), by omega⟩ (by dsimp only; omega) _ _)))).trans ?_)
  exact (tiles m c).three rfl (R.1 / 1024) _ _ _ rfl rfl rfl _ _ R J (fun _ => rfl)
    (by show R.1 = 1024 * ((3 * (R.1 / 1024) + 2) / 3) + R.1 % 1024; omega) (by show J.1 = 1024 * 0 + J.1 % 1024; omega)
    ⟨by show 3 * (R.1 / 1024) / 3 = (3 * (R.1 / 1024) + 2) / 3; omega, by show (3 * (R.1 / 1024) + 1) / 3 = (3 * (R.1 / 1024) + 2) / 3; omega⟩
    ⟨rfl, rfl⟩

/-- The reference's result, at an entry. -/
theorem ref_at (x0 : (⟨2, ![4096, 10368]⟩ : Shape).Idx → EReal) (x1 : (⟨2, ![1024, 10368]⟩ : Shape).Idx → EReal) (R : Fin 4096) (J : Fin 1024) :
    InXRefIdeal.Read.val_main_v4 (F := Ideal) x0 x1 (ix2 R J) = ∑ k : Fin 10368, x0 (ix2 R k) * x1 (ix2 J k) := by
  pointwise [InXRefIdeal.Read.val_main_v4, InXRefIdeal.Read.val_main_v3, InXRefIdeal.Read.val_main_v1]

end Cert.InX

end
-- ==== Proof.InputWeight.lean ====
module

public import proofs.«01_k».proof.Proof.Products
public import proofs.«01_k».proof.Proof.Gen.InWIdeal.Value
public import proofs.«01_k».proof.Proof.Gen.InWRefIdeal.Read

@[expose] public section

set_option maxRecDepth 16384

noncomputable section

/-! # The gradient of the input projection's weights

`d w_in = uᵀ · d proj`, nine column blocks, the 4096 positions in two steps. -/

namespace Cert.InW

open Idealize.ShloMosaic Idealize.ShloMosaic.TcCoe Idealize.ShloMosaic.Pointwise Idealize.SL.Sem Cert.Prod
open Cert.InWIdeal Cert.InWIdeal.Gen Cert.InWIdeal.Value

section Step

variable (c : Dev nD) (i : grid0.Coords) (arg3 : Memref sig .tc .vmem S2048x1024 .bf16) (harg3 : arg3.IsWhole)
  (arg4 : Memref sig .tc .vmem S2048x1152 .bf16) (harg4 : arg4.IsWhole) (arg5 : Memref sig .tc .vmem S1024x1152 .bf16) (harg5 : arg5.IsWhole)
  (arg6 : Memref sig .tc .vmem S1024x1152 .f32) (harg6 : arg6.IsWhole)
  (x0 : Vec Ideal S2048x1024 .bf16) (x1 : Vec Ideal S2048x1152 .bf16) (xs : Vec Ideal S1024x1152 .f32) (r : Fin 1024) (j : Fin 1152)

/-- The product of two blocks, at an entry. -/
theorem pay_at : k0_pay1 (F := Ideal) x0 x1 (ix2 r j) = ∑ k : Fin 2048, x0 (ix2 k r) * x1 (ix2 k j) := by
  pointwise [k0_pay1]

/-- What the first step leaves in the accumulator. -/
theorem first (h0 : cond0_0 i) (h1 : ¬cond0_1 i) (h2 : ¬cond0_2 i) :
    sout0_A_0 (F := Ideal) c i arg3 harg3 arg4 harg4 arg5 harg5 arg6 harg6 h0 h1 h2 x0 x1 (ix2 r j) = ∑ k : Fin 2048, x0 (ix2 k r) * x1 (ix2 k j) := by
  refine (congrFun (stored VS0_0 zero2 inb_S1024x1152_S1024x1152_0_0 (k0_pay2
    (View.readAt (Elt Ideal) arg3.view (Rect.unit ![0, 0] S2048x1024.size inb_S2048x1024_S2048x1024_0_0).toLoadRect (harg3.unread x0))
    (View.readAt (Elt Ideal) arg4.view (Rect.unit ![0, 0] S2048x1152.size inb_S2048x1152_S2048x1152_0_0).toLoadRect (harg4.unread x1)))
    (by sl_kernel_rfl)) _).trans ?_
  rw [read_whole arg3 harg3 zero2, read_whole arg4 harg4 zero2]
  pointwise [k0_pay2]
  exact pay_at x0 x1 r j

/-- What the second step stores in the block of the result. -/
theorem last (h0 : ¬cond0_0 i) (h1 : ¬cond0_1 i) (h2 : cond0_2 i) :
    out0_B_2 (F := Ideal) c i arg3 harg3 arg4 harg4 arg5 harg5 arg6 harg6 h0 h1 h2 x0 x1 xs (ix2 r j) =
      xs (ix2 r j) + ∑ k : Fin 2048, x0 (ix2 k r) * x1 (ix2 k j) := by
  refine (congrFun (stored VO0_2 zero2 inb_S1024x1152_S1024x1152_0_0 (k0_pay4
    (View.readAt (Elt Ideal) arg3.view (Rect.unit ![0, 0] S2048x1024.size inb_S2048x1024_S2048x1024_0_0).toLoadRect (harg3.unread x0))
    (View.readAt (Elt Ideal) arg4.view (Rect.unit ![0, 0] S2048x1152.size inb_S2048x1152_S2048x1152_0_0).toLoadRect (harg4.unread x1))
    (View.readAt (Elt Ideal) arg6.view (Rect.unit ![0, 0] S1024x1152.size inb_S1024x1152_S1024x1152_0_0).toLoadRect (harg6.unread xs)))
    (by sl_kernel_rfl)) _).trans ?_
  rw [read_whole arg3 harg3 zero2, read_whole arg4 harg4 zero2, read_whole arg6 harg6 zero2]
  pointwise [k0_pay4]
  exact congrArg (xs (ix2 r j) + ·) (pay_at x0 x1 r j)

end Step

variable (m : (ℓ : Loc nD τ sig) → Buf (Elt Ideal) ℓ) (c : Dev nD)

/-- Which blocks of the operands a grid point reads. -/
theorem idx : ∀ t : Fin cfg0.N, (win0_0.index t 0 = t.1 % 2 ∧ win0_0.index t 1 = 0) ∧
    (win0_1.index t 0 = t.1 % 2 ∧ win0_1.index t 1 = t.1 / 2) :=
  (by decide +kernel : ∀ t : Fin grid0.N, _)

/-- The blocks that the grid points read. -/
def tiles : Tiles cfg0.N 1024 4096 10368 1024 2048 1152 where
  a R K := (m ((c : Thread nD τ).loc main_arg0) : S4096x1024.Idx → EReal) (ix2 K R)
  b K J := (m ((c : Thread nD τ).loc main_arg1) : S4096x10368.Idx → EReal) (ix2 K J)
  ablk t r k := (iblk m c 0 t : S2048x1024.Idx → EReal) (ix2 k r)
  bblk t k j := (iblk m c 1 t : S2048x1152.Idx → EReal) (ix2 k j)
  row _ := 0
  part t := t % 2
  col t := t / 2
  ha t r k R K hR hK := by
    have hi := (idx t).1
    refine (congrFun (V_main_arg0 m c) _).trans (congrArg (m ((c : Thread nD τ).loc main_arg0))
      (at_block ((cfg0.win 0).blk t).view.emb k r K R (congrArg (· * 2048 + 1 * k.1) hi.1) (congrArg (· * 1024 + 1 * r.1) hi.2) hK hR))
  hb t k j K J hK hJ := by
    have hi := (idx t).2
    refine (congrFun (V_main_arg1 m c) _).trans (congrArg (m ((c : Thread nD τ).loc main_arg1))
      (at_block ((cfg0.win 1).blk t).view.emb k j K J (congrArg (· * 2048 + 1 * k.1) hi.1) (congrArg (· * 1152 + 1 * j.1) hi.2) hK hJ))

/-- The accumulator after a block's first step. -/
theorem acc_first (t : Fin cfg0.N) (h : t.1 % 2 = 0) (r : Fin 1024) (j : Fin 1152) :
    (outsAt0 (F := Ideal) m c t.1 t.isLt).2 (ix2 r j) = (tiles m c).dot t r j := by
  rw [outsAt0_A m c t h (by omega)]
  dsimp only
  have e := first c (grid0.coords t) (ms0_0 t) (hs0_0 t) (ms0_1 t) (hs0_1 t) (ms0_2 t) (hs0_2 t) scM0_0 (Memref.isWhole_whole _)
    (iblk m c 0 t) (iblk m c 1 t) r j ((hcond0_0 t).mpr h) (hcond0_1 t) (fun e => absurd ((hcond0_2 t).mp e) (by omega))
  exact e

/-- The block of the result after its second step. -/
theorem out_last (t : Fin cfg0.N) (h : t.1 % 2 = 1) (r : Fin 1024) (j : Fin 1152) : (outsAt0 (F := Ideal) m c t.1 t.isLt).1 (ix2 r j) =
    (outsAt0 (F := Ideal) m c (t.1 - 1) (Nat.lt_of_le_of_lt (Nat.sub_le _ _) t.isLt)).2 (ix2 r j) + (tiles m c).dot t r j := by
  rw [outsAt0_B m c t (by omega) h]
  dsimp only
  have e := last c (grid0.coords t) (ms0_0 t) (hs0_0 t) (ms0_1 t) (hs0_1 t) (ms0_2 t) (hs0_2 t) scM0_0 (Memref.isWhole_whole _)
    (iblk m c 0 t) (iblk m c 1 t) (outsAt0 (F := Ideal) m c (t.1 - 1) (Nat.lt_of_le_of_lt (Nat.sub_le _ _) t.isLt)).2 r j
    (fun e => absurd ((hcond0_0 t).mp e) (by omega)) (hcond0_1 t) ((hcond0_2 t).mpr h)
  exact e

/-- The array the run leaves, at an entry. -/
theorem whole (R : Fin 1024) (J : Fin 10368) : (G2 (F := Ideal) m c : S1024x10368.Idx → EReal) (ix2 R J) = (tiles m c).full R J := by
  have hR := R.isLt
  have hJ := J.isLt
  have hp : pt2Of (ix2 R J) = 2 * (J.1 / 1152) + 1 := by
    show 2 * (9 * (R.1 / 1024 - 0) + 1 * (J.1 / 1152 - 0)) + 1 = _
    omega
  have hN : 2 * (J.1 / 1152) + 1 < cfg0.N := lt_of_lt_of_eq (by omega) N_0.symm
  have hl : loc2Of (ix2 R J) = ix2 (⟨R.1 % 1024, Nat.mod_lt _ (by decide)⟩ : Fin 1024) (⟨J.1 % 1152, Nat.mod_lt _ (by decide)⟩ : Fin 1152) :=
    funext fun a => match a with
      | ⟨0, _⟩ => rfl
      | ⟨1, _⟩ => rfl
  unfold G2
  rw [dif_pos (lt_of_eq_of_lt hp hN), hl, fold0_congr m c _ _ (2 * (J.1 / 1152) + 1) (by omega) hp, ← outsAt0_sweep m c _ hN]
  refine (out_last m c ⟨2 * (J.1 / 1152) + 1, hN⟩ (by dsimp only; omega) _ _).trans
    ((congrArg (· + _) (acc_first m c ⟨2 * (J.1 / 1152), by omega⟩ (by dsimp only; omega) _ _)).trans ?_)
  exact (tiles m c).two rfl (J.1 / 1152) _ _ rfl rfl _ _ R J (fun _ => rfl) (by show R.1 = 1024 * 0 + R.1 % 1024; omega)
    (by show J.1 = 1152 * ((2 * (J.1 / 1152) + 1) / 2) + J.1 % 1152; omega) rfl (by show 2 * (J.1 / 1152) / 2 = (2 * (J.1 / 1152) + 1) / 2; omega)

/-- The reference's result, at an entry. -/
theorem ref_at (x0 : S4096x1024.Idx → EReal) (x1 : S4096x10368.Idx → EReal) (R : Fin 1024) (J : Fin 10368) :
    InWRefIdeal.Read.val_main_v6 (F := Ideal) x0 x1 (ix2 R J) = ∑ k : Fin 4096, x0 (ix2 k R) * x1 (ix2 k J) := by
  pointwise [InWRefIdeal.Read.val_main_v6, InWRefIdeal.Read.val_main_v5, InWRefIdeal.Read.val_main_v4, InWRefIdeal.Read.val_main_v3, InWRefIdeal.Read.val_main_v1]
  exact Finset.sum_congr rfl fun k _ => mul_comm _ _

end Cert.InW

end
-- ==== Proof.UpGrad.lean ====
module

public import proofs.«01_k».proof.Proof.Products
public import proofs.«01_k».proof.Proof.Gen.UpXIdeal.Value
public import proofs.«01_k».proof.Proof.Gen.UpXRefIdeal.Read

@[expose] public section

set_option maxRecDepth 16384

noncomputable section

/-! # The gradient of the up projection's argument

`d u₂ = d up · w_upᵀ`, four row blocks, the 5632 columns in two steps. -/

namespace Cert.UpX

open Idealize.ShloMosaic Idealize.ShloMosaic.TcCoe Idealize.ShloMosaic.Pointwise Idealize.SL.Sem Cert.Prod
open Cert.UpXIdeal Cert.UpXIdeal.Gen Cert.UpXIdeal.Value

section Step

variable (c : Dev nD) (i : grid0.Coords) (arg3 : Memref sig .tc .vmem S1024x2816 .bf16) (harg3 : arg3.IsWhole)
  (arg4 : Memref sig .tc .vmem S1024x2816 .bf16) (harg4 : arg4.IsWhole) (arg5 : Memref sig .tc .vmem S1024x1024 .f32) (harg5 : arg5.IsWhole)
  (arg6 : Memref sig .tc .vmem S1024x1024 .f32) (harg6 : arg6.IsWhole)
  (x0 : Vec Ideal S1024x2816 .bf16) (x1 : Vec Ideal S1024x2816 .bf16) (xs : Vec Ideal S1024x1024 .f32) (r : Fin 1024) (j : Fin 1024)

/-- The product of two blocks, at an entry. -/
theorem pay_at : k0_pay1 (F := Ideal) x0 x1 (ix2 r j) = ∑ k : Fin 2816, x0 (ix2 r k) * x1 (ix2 j k) := by
  pointwise [k0_pay1]

/-- What the first step leaves in the accumulator. -/
theorem first (h0 : cond0_0 i) (h1 : ¬cond0_1 i) (h2 : ¬cond0_2 i) :
    sout0_A_0 (F := Ideal) c i arg3 harg3 arg4 harg4 arg5 harg5 arg6 harg6 h0 h1 h2 x0 x1 (ix2 r j) = ∑ k : Fin 2816, x0 (ix2 r k) * x1 (ix2 j k) := by
  refine (congrFun (stored VS0_0 zero2 inb_S1024x1024_S1024x1024_0_0 (k0_pay2
    (View.readAt (Elt Ideal) arg3.view (Rect.unit ![0, 0] S1024x2816.size inb_S1024x2816_S1024x2816_0_0).toLoadRect (harg3.unread x0))
    (View.readAt (Elt Ideal) arg4.view (Rect.unit ![0, 0] S1024x2816.size inb_S1024x2816_S1024x2816_0_0).toLoadRect (harg4.unread x1)))
    (by sl_kernel_rfl)) _).trans ?_
  rw [read_whole arg3 harg3 zero2, read_whole arg4 harg4 zero2]
  pointwise [k0_pay2]
  exact pay_at x0 x1 r j

/-- What the second step stores in the block of the result. -/
theorem last (h0 : ¬cond0_0 i) (h1 : ¬cond0_1 i) (h2 : cond0_2 i) :
    out0_B_2 (F := Ideal) c i arg3 harg3 arg4 harg4 arg5 harg5 arg6 harg6 h0 h1 h2 x0 x1 xs (ix2 r j) =
      xs (ix2 r j) + ∑ k : Fin 2816, x0 (ix2 r k) * x1 (ix2 j k) := by
  refine (congrFun (stored VO0_2 zero2 inb_S1024x1024_S1024x1024_0_0 (k0_pay4
    (View.readAt (Elt Ideal) arg3.view (Rect.unit ![0, 0] S1024x2816.size inb_S1024x2816_S1024x2816_0_0).toLoadRect (harg3.unread x0))
    (View.readAt (Elt Ideal) arg4.view (Rect.unit ![0, 0] S1024x2816.size inb_S1024x2816_S1024x2816_0_0).toLoadRect (harg4.unread x1))
    (View.readAt (Elt Ideal) arg6.view (Rect.unit ![0, 0] S1024x1024.size inb_S1024x1024_S1024x1024_0_0).toLoadRect (harg6.unread xs)))
    (by sl_kernel_rfl)) _).trans ?_
  rw [read_whole arg3 harg3 zero2, read_whole arg4 harg4 zero2, read_whole arg6 harg6 zero2]
  pointwise [k0_pay4]
  exact congrArg (xs (ix2 r j) + ·) (pay_at x0 x1 r j)

end Step

variable (m : (ℓ : Loc nD τ sig) → Buf (Elt Ideal) ℓ) (c : Dev nD)

/-- Which blocks of the operands a grid point reads. -/
theorem idx : ∀ t : Fin cfg0.N, (win0_0.index t 0 = t.1 / 2 ∧ win0_0.index t 1 = t.1 % 2) ∧
    (win0_1.index t 0 = 0 ∧ win0_1.index t 1 = t.1 % 2) :=
  (by decide +kernel : ∀ t : Fin grid0.N, _)

/-- The blocks that the grid points read. -/
def tiles : Tiles cfg0.N 4096 5632 1024 1024 2816 1024 where
  a R K := (m ((c : Thread nD τ).loc main_arg0) : S4096x5632.Idx → EReal) (ix2 R K)
  b K J := (m ((c : Thread nD τ).loc main_arg1) : S1024x5632.Idx → EReal) (ix2 J K)
  ablk t r k := (iblk m c 0 t : S1024x2816.Idx → EReal) (ix2 r k)
  bblk t k j := (iblk m c 1 t : S1024x2816.Idx → EReal) (ix2 j k)
  row t := t / 2
  part t := t % 2
  col _ := 0
  ha t r k R K hR hK := by
    have hi := (idx t).1
    refine (congrFun (V_main_arg0 m c) _).trans (congrArg (m ((c : Thread nD τ).loc main_arg0))
      (at_block ((cfg0.win 0).blk t).view.emb r k R K (congrArg (· * 1024 + 1 * r.1) hi.1) (congrArg (· * 2816 + 1 * k.1) hi.2) hR hK))
  hb t k j K J hK hJ := by
    have hi := (idx t).2
    refine (congrFun (V_main_arg1 m c) _).trans (congrArg (m ((c : Thread nD τ).loc main_arg1))
      (at_block ((cfg0.win 1).blk t).view.emb j k J K (congrArg (· * 1024 + 1 * j.1) hi.1) (congrArg (· * 2816 + 1 * k.1) hi.2) hJ hK))

/-- The accumulator after a block's first step. -/
theorem acc_first (t : Fin cfg0.N) (h : t.1 % 2 = 0) (r : Fin 1024) (j : Fin 1024) :
    (outsAt0 (F := Ideal) m c t.1 t.isLt).2 (ix2 r j) = (tiles m c).dot t r j := by
  rw [outsAt0_A m c t h (by omega)]
  dsimp only
  have e := first c (grid0.coords t) (ms0_0 t) (hs0_0 t) (ms0_1 t) (hs0_1 t) (ms0_2 t) (hs0_2 t) scM0_0 (Memref.isWhole_whole _)
    (iblk m c 0 t) (iblk m c 1 t) r j ((hcond0_0 t).mpr h) (hcond0_1 t) (fun e => absurd ((hcond0_2 t).mp e) (by omega))
  exact e

/-- The block of the result after its second step. -/
theorem out_last (t : Fin cfg0.N) (h : t.1 % 2 = 1) (r : Fin 1024) (j : Fin 1024) : (outsAt0 (F := Ideal) m c t.1 t.isLt).1 (ix2 r j) =
    (outsAt0 (F := Ideal) m c (t.1 - 1) (Nat.lt_of_le_of_lt (Nat.sub_le _ _) t.isLt)).2 (ix2 r j) + (tiles m c).dot t r j := by
  rw [outsAt0_B m c t (by omega) h]
  dsimp only
  have e := last c (grid0.coords t) (ms0_0 t) (hs0_0 t) (ms0_1 t) (hs0_1 t) (ms0_2 t) (hs0_2 t) scM0_0 (Memref.isWhole_whole _)
    (iblk m c 0 t) (iblk m c 1 t) (outsAt0 (F := Ideal) m c (t.1 - 1) (Nat.lt_of_le_of_lt (Nat.sub_le _ _) t.isLt)).2 r j
    (fun e => absurd ((hcond0_0 t).mp e) (by omega)) (hcond0_1 t) ((hcond0_2 t).mpr h)
  exact e

/-- The array the run leaves, at an entry. -/
theorem whole (R : Fin 4096) (J : Fin 1024) : (G2 (F := Ideal) m c : S4096x1024.Idx → EReal) (ix2 R J) = (tiles m c).full R J := by
  have hR := R.isLt
  have hJ := J.isLt
  have hp : pt2Of (ix2 R J) = 2 * (R.1 / 1024) + 1 := by
    show 2 * (1 * (R.1 / 1024 - 0) + 1 * (J.1 / 1024 - 0)) + 1 = _
    omega
  have hN : 2 * (R.1 / 1024) + 1 < cfg0.N := lt_of_lt_of_eq (by omega) N_0.symm
  have hl : loc2Of (ix2 R J) = ix2 (⟨R.1 % 1024, Nat.mod_lt _ (by decide)⟩ : Fin 1024) (⟨J.1 % 1024, Nat.mod_lt _ (by decide)⟩ : Fin 1024) :=
    funext fun a => match a with
      | ⟨0, _⟩ => rfl
      | ⟨1, _⟩ => rfl
  unfold G2
  rw [dif_pos (lt_of_eq_of_lt hp hN), hl, fold0_congr m c _ _ (2 * (R.1 / 1024) + 1) (by omega) hp, ← outsAt0_sweep m c _ hN]
  refine (out_last m c ⟨2 * (R.1 / 1024) + 1, hN⟩ (by dsimp only; omega) _ _).trans
    ((congrArg (· + _) (acc_first m c ⟨2 * (R.1 / 1024), by omega⟩ (by dsimp only; omega) _ _)).trans ?_)
  exact (tiles m c).two rfl (R.1 / 1024) _ _ rfl rfl _ _ R J (fun _ => rfl)
    (by show R.1 = 1024 * ((2 * (R.1 / 1024) + 1) / 2) + R.1 % 1024; omega) (by show J.1 = 1024 * 0 + J.1 % 1024; omega)
    (by show 2 * (R.1 / 1024) / 2 = (2 * (R.1 / 1024) + 1) / 2; omega) rfl

/-- The reference's result, at an entry. -/
theorem ref_at (x0 : S4096x5632.Idx → EReal) (x1 : S1024x5632.Idx → EReal) (R : Fin 4096) (J : Fin 1024) :
    UpXRefIdeal.Read.val_main_v4 (F := Ideal) x0 x1 (ix2 R J) = ∑ k : Fin 5632, x0 (ix2 R k) * x1 (ix2 J k) := by
  pointwise [UpXRefIdeal.Read.val_main_v4, UpXRefIdeal.Read.val_main_v3, UpXRefIdeal.Read.val_main_v1]

end Cert.UpX

end
-- ==== Proof.UpWeight.lean ====
module

public import proofs.«01_k».proof.Proof.Products
public import proofs.«01_k».proof.Proof.Gen.UpWIdeal.Value
public import proofs.«01_k».proof.Proof.Gen.UpWRefIdeal.Read

@[expose] public section

set_option maxRecDepth 16384

noncomputable section

/-! # The gradient of the up projection's weights

`d w_up = u₂ᵀ · d up`, four column blocks, the 4096 positions in two steps. -/

namespace Cert.UpW

open Idealize.ShloMosaic Idealize.ShloMosaic.TcCoe Idealize.ShloMosaic.Pointwise Idealize.SL.Sem Cert.Prod
open Cert.UpWIdeal Cert.UpWIdeal.Gen Cert.UpWIdeal.Value

section Step

variable (c : Dev nD) (i : grid0.Coords) (arg3 : Memref sig .tc .vmem S2048x1024 .bf16) (harg3 : arg3.IsWhole)
  (arg4 : Memref sig .tc .vmem S2048x1408 .bf16) (harg4 : arg4.IsWhole) (arg5 : Memref sig .tc .vmem S1024x1408 .bf16) (harg5 : arg5.IsWhole)
  (arg6 : Memref sig .tc .vmem S1024x1408 .f32) (harg6 : arg6.IsWhole)
  (x0 : Vec Ideal S2048x1024 .bf16) (x1 : Vec Ideal S2048x1408 .bf16) (xs : Vec Ideal S1024x1408 .f32) (r : Fin 1024) (j : Fin 1408)

/-- The product of two blocks, at an entry. -/
theorem pay_at : k0_pay1 (F := Ideal) x0 x1 (ix2 r j) = ∑ k : Fin 2048, x0 (ix2 k r) * x1 (ix2 k j) := by
  pointwise [k0_pay1]

/-- What the first step leaves in the accumulator. -/
theorem first (h0 : cond0_0 i) (h1 : ¬cond0_1 i) (h2 : ¬cond0_2 i) :
    sout0_A_0 (F := Ideal) c i arg3 harg3 arg4 harg4 arg5 harg5 arg6 harg6 h0 h1 h2 x0 x1 (ix2 r j) = ∑ k : Fin 2048, x0 (ix2 k r) * x1 (ix2 k j) := by
  refine (congrFun (stored VS0_0 zero2 inb_S1024x1408_S1024x1408_0_0 (k0_pay2
    (View.readAt (Elt Ideal) arg3.view (Rect.unit ![0, 0] S2048x1024.size inb_S2048x1024_S2048x1024_0_0).toLoadRect (harg3.unread x0))
    (View.readAt (Elt Ideal) arg4.view (Rect.unit ![0, 0] S2048x1408.size inb_S2048x1408_S2048x1408_0_0).toLoadRect (harg4.unread x1)))
    (by sl_kernel_rfl)) _).trans ?_
  rw [read_whole arg3 harg3 zero2, read_whole arg4 harg4 zero2]
  pointwise [k0_pay2]
  exact pay_at x0 x1 r j

/-- What the second step stores in the block of the result. -/
theorem last (h0 : ¬cond0_0 i) (h1 : ¬cond0_1 i) (h2 : cond0_2 i) :
    out0_B_2 (F := Ideal) c i arg3 harg3 arg4 harg4 arg5 harg5 arg6 harg6 h0 h1 h2 x0 x1 xs (ix2 r j) =
      xs (ix2 r j) + ∑ k : Fin 2048, x0 (ix2 k r) * x1 (ix2 k j) := by
  refine (congrFun (stored VO0_2 zero2 inb_S1024x1408_S1024x1408_0_0 (k0_pay4
    (View.readAt (Elt Ideal) arg3.view (Rect.unit ![0, 0] S2048x1024.size inb_S2048x1024_S2048x1024_0_0).toLoadRect (harg3.unread x0))
    (View.readAt (Elt Ideal) arg4.view (Rect.unit ![0, 0] S2048x1408.size inb_S2048x1408_S2048x1408_0_0).toLoadRect (harg4.unread x1))
    (View.readAt (Elt Ideal) arg6.view (Rect.unit ![0, 0] S1024x1408.size inb_S1024x1408_S1024x1408_0_0).toLoadRect (harg6.unread xs)))
    (by sl_kernel_rfl)) _).trans ?_
  rw [read_whole arg3 harg3 zero2, read_whole arg4 harg4 zero2, read_whole arg6 harg6 zero2]
  pointwise [k0_pay4]
  exact congrArg (xs (ix2 r j) + ·) (pay_at x0 x1 r j)

end Step

variable (m : (ℓ : Loc nD τ sig) → Buf (Elt Ideal) ℓ) (c : Dev nD)

/-- Which blocks of the operands a grid point reads. -/
theorem idx : ∀ t : Fin cfg0.N, (win0_0.index t 0 = t.1 % 2 ∧ win0_0.index t 1 = 0) ∧
    (win0_1.index t 0 = t.1 % 2 ∧ win0_1.index t 1 = t.1 / 2) :=
  (by decide +kernel : ∀ t : Fin grid0.N, _)

/-- The blocks that the grid points read. -/
def tiles : Tiles cfg0.N 1024 4096 5632 1024 2048 1408 where
  a R K := (m ((c : Thread nD τ).loc main_arg0) : S4096x1024.Idx → EReal) (ix2 K R)
  b K J := (m ((c : Thread nD τ).loc main_arg1) : S4096x5632.Idx → EReal) (ix2 K J)
  ablk t r k := (iblk m c 0 t : S2048x1024.Idx → EReal) (ix2 k r)
  bblk t k j := (iblk m c 1 t : S2048x1408.Idx → EReal) (ix2 k j)
  row _ := 0
  part t := t % 2
  col t := t / 2
  ha t r k R K hR hK := by
    have hi := (idx t).1
    refine (congrFun (V_main_arg0 m c) _).trans (congrArg (m ((c : Thread nD τ).loc main_arg0))
      (at_block ((cfg0.win 0).blk t).view.emb k r K R (congrArg (· * 2048 + 1 * k.1) hi.1) (congrArg (· * 1024 + 1 * r.1) hi.2) hK hR))
  hb t k j K J hK hJ := by
    have hi := (idx t).2
    refine (congrFun (V_main_arg1 m c) _).trans (congrArg (m ((c : Thread nD τ).loc main_arg1))
      (at_block ((cfg0.win 1).blk t).view.emb k j K J (congrArg (· * 2048 + 1 * k.1) hi.1) (congrArg (· * 1408 + 1 * j.1) hi.2) hK hJ))

/-- The accumulator after a block's first step. -/
theorem acc_first (t : Fin cfg0.N) (h : t.1 % 2 = 0) (r : Fin 1024) (j : Fin 1408) :
    (outsAt0 (F := Ideal) m c t.1 t.isLt).2 (ix2 r j) = (tiles m c).dot t r j := by
  rw [outsAt0_A m c t h (by omega)]
  dsimp only
  have e := first c (grid0.coords t) (ms0_0 t) (hs0_0 t) (ms0_1 t) (hs0_1 t) (ms0_2 t) (hs0_2 t) scM0_0 (Memref.isWhole_whole _)
    (iblk m c 0 t) (iblk m c 1 t) r j ((hcond0_0 t).mpr h) (hcond0_1 t) (fun e => absurd ((hcond0_2 t).mp e) (by omega))
  exact e

/-- The block of the result after its second step. -/
theorem out_last (t : Fin cfg0.N) (h : t.1 % 2 = 1) (r : Fin 1024) (j : Fin 1408) : (outsAt0 (F := Ideal) m c t.1 t.isLt).1 (ix2 r j) =
    (outsAt0 (F := Ideal) m c (t.1 - 1) (Nat.lt_of_le_of_lt (Nat.sub_le _ _) t.isLt)).2 (ix2 r j) + (tiles m c).dot t r j := by
  rw [outsAt0_B m c t (by omega) h]
  dsimp only
  have e := last c (grid0.coords t) (ms0_0 t) (hs0_0 t) (ms0_1 t) (hs0_1 t) (ms0_2 t) (hs0_2 t) scM0_0 (Memref.isWhole_whole _)
    (iblk m c 0 t) (iblk m c 1 t) (outsAt0 (F := Ideal) m c (t.1 - 1) (Nat.lt_of_le_of_lt (Nat.sub_le _ _) t.isLt)).2 r j
    (fun e => absurd ((hcond0_0 t).mp e) (by omega)) (hcond0_1 t) ((hcond0_2 t).mpr h)
  exact e

/-- The array the run leaves, at an entry. -/
theorem whole (R : Fin 1024) (J : Fin 5632) : (G2 (F := Ideal) m c : S1024x5632.Idx → EReal) (ix2 R J) = (tiles m c).full R J := by
  have hR := R.isLt
  have hJ := J.isLt
  have hp : pt2Of (ix2 R J) = 2 * (J.1 / 1408) + 1 := by
    show 2 * (4 * (R.1 / 1024 - 0) + 1 * (J.1 / 1408 - 0)) + 1 = _
    omega
  have hN : 2 * (J.1 / 1408) + 1 < cfg0.N := lt_of_lt_of_eq (by omega) N_0.symm
  have hl : loc2Of (ix2 R J) = ix2 (⟨R.1 % 1024, Nat.mod_lt _ (by decide)⟩ : Fin 1024) (⟨J.1 % 1408, Nat.mod_lt _ (by decide)⟩ : Fin 1408) :=
    funext fun a => match a with
      | ⟨0, _⟩ => rfl
      | ⟨1, _⟩ => rfl
  unfold G2
  rw [dif_pos (lt_of_eq_of_lt hp hN), hl, fold0_congr m c _ _ (2 * (J.1 / 1408) + 1) (by omega) hp, ← outsAt0_sweep m c _ hN]
  refine (out_last m c ⟨2 * (J.1 / 1408) + 1, hN⟩ (by dsimp only; omega) _ _).trans
    ((congrArg (· + _) (acc_first m c ⟨2 * (J.1 / 1408), by omega⟩ (by dsimp only; omega) _ _)).trans ?_)
  exact (tiles m c).two rfl (J.1 / 1408) _ _ rfl rfl _ _ R J (fun _ => rfl) (by show R.1 = 1024 * 0 + R.1 % 1024; omega)
    (by show J.1 = 1408 * ((2 * (J.1 / 1408) + 1) / 2) + J.1 % 1408; omega) rfl (by show 2 * (J.1 / 1408) / 2 = (2 * (J.1 / 1408) + 1) / 2; omega)

/-- The reference's result, at an entry. -/
theorem ref_at (x0 : S4096x1024.Idx → EReal) (x1 : S4096x5632.Idx → EReal) (R : Fin 1024) (J : Fin 5632) :
    UpWRefIdeal.Read.val_main_v6 (F := Ideal) x0 x1 (ix2 R J) = ∑ k : Fin 4096, x0 (ix2 k R) * x1 (ix2 k J) := by
  pointwise [UpWRefIdeal.Read.val_main_v6, UpWRefIdeal.Read.val_main_v5, UpWRefIdeal.Read.val_main_v4, UpWRefIdeal.Read.val_main_v3, UpWRefIdeal.Read.val_main_v1]
  exact Finset.sum_congr rfl fun k _ => mul_comm _ _

end Cert.UpW

end
-- ==== Proof.DownGrad.lean ====
module

public import proofs.«01_k».proof.Proof.Products
public import proofs.«01_k».proof.Proof.Gen.DownXIdeal.Value
public import proofs.«01_k».proof.Proof.Gen.DownXRefIdeal.Read

@[expose] public section

set_option maxRecDepth 16384

noncomputable section

/-! # The gradient of the down projection's argument

`d act = d x · w_downᵀ`, two column blocks by four row blocks, each in one step. -/

namespace Cert.DownX

open Idealize.ShloMosaic Idealize.ShloMosaic.TcCoe Idealize.ShloMosaic.Pointwise Idealize.SL.Sem Cert.Prod
open Cert.DownXIdeal Cert.DownXIdeal.Gen Cert.DownXIdeal.Value

/-- What a grid point stores in its block of the result. -/
theorem out_at (x0 : Vec Ideal S1024x1024 .f32) (x1 : Vec Ideal S1408x1024 .bf16) (r : Fin 1024) (j : Fin 1408) :
    out0_2 (F := Ideal) x0 x1 (ix2 r j) = ∑ k : Fin 1024, x0 (ix2 r k) * x1 (ix2 j k)  := by
  unfold out0_2
  rw [View.canon_unit_zero zero2, View.ld_unit_zero zero2, View.ld_unit_zero zero2]
  pointwise [k0_pay1]

variable (m : (ℓ : Loc nD τ sig) → Buf (Elt Ideal) ℓ) (c : Dev nD)

/-- Which blocks a grid point reads, and which it writes. -/
theorem idx : ∀ t : Fin cfg0.N, (win0_0.index t 0 = t.1 % 4 ∧ win0_0.index t 1 = 0) ∧ (win0_1.index t 0 = t.1 / 4 ∧ win0_1.index t 1 = 0) ∧
    (win0_2.index t 0 = t.1 % 4 ∧ win0_2.index t 1 = t.1 / 4) :=
  (by decide +kernel : ∀ t : Fin grid0.N, _)

/-- The blocks that the grid points read. -/
def tiles : Tiles cfg0.N 4096 1024 2816 1024 1024 1408 where
  a R K := (m ((c : Thread nD τ).loc main_arg0) : S4096x1024.Idx → EReal) (ix2 R K)
  b K J := (m ((c : Thread nD τ).loc main_arg1) : S2816x1024.Idx → EReal) (ix2 J K)
  ablk t r k := (iblk m c 0 t : S1024x1024.Idx → EReal) (ix2 r k)
  bblk t k j := (iblk m c 1 t : S1408x1024.Idx → EReal) (ix2 j k)
  row t := t % 4
  part _ := 0
  col t := t / 4
  ha t r k R K hR hK := by
    have hi := (idx t).1
    refine (congrFun (V_main_arg0 m c) _).trans (congrArg (m ((c : Thread nD τ).loc main_arg0))
      (at_block ((cfg0.win 0).blk t).view.emb r k R K (congrArg (· * 1024 + 1 * r.1) hi.1) (congrArg (· * 1024 + 1 * k.1) hi.2) hR hK))
  hb t k j K J hK hJ := by
    have hi := (idx t).2.1
    refine (congrFun (V_main_arg1 m c) _).trans (congrArg (m ((c : Thread nD τ).loc main_arg1))
      (at_block ((cfg0.win 1).blk t).view.emb j k J K (congrArg (· * 1408 + 1 * j.1) hi.1) (congrArg (· * 1024 + 1 * k.1) hi.2) hJ hK))

/-- The array the run leaves, at an entry. -/
theorem whole (R : Fin 4096) (J : Fin 2816) : ((dats (F := Ideal) m 0 c).arrAt 2 cfg0.N : S4096x2816.Idx → EReal) (ix2 R J) =
    (tiles m c).full R J := by
  have hR := R.isLt
  have hJ := J.isLt
  obtain ⟨t, ht⟩ : ∃ t : Fin cfg0.N, t.1 = 4 * (J.1 / 1408) + R.1 / 1024 := ⟨⟨_, lt_of_lt_of_eq (by omega) N_0.symm⟩, rfl⟩
  have hi := (idx t).2.2
  have er : R.1 = 1024 * (t.1 % 4) + R.1 % 1024 := by omega
  have ej : J.1 = 1408 * (t.1 / 4) + J.1 % 1408 := by omega
  have hb := congrFun ((blocks2 m c t (flush0_2 t)).trans (flushed2 m c t)) (ix2 ⟨R.1 % 1024, by omega⟩ ⟨J.1 % 1408, by omega⟩ : S1024x1408.Idx)
  rw [View.read_apply, at_block ((cfg0.win 2).blk t).view.emb ⟨R.1 % 1024, by omega⟩ ⟨J.1 % 1408, by omega⟩ R J
    (congrArg (· * 1024 + 1 * (R.1 % 1024)) hi.1) (congrArg (· * 1408 + 1 * (J.1 % 1408)) hi.2) er ej] at hb
  exact hb.trans ((out_at (iblk m c 0 t) (iblk m c 1 t) ⟨R.1 % 1024, by omega⟩ ⟨J.1 % 1408, by omega⟩).trans
    ((tiles m c).one rfl t _ _ R J er ej rfl))

/-- The reference's result, at an entry. -/
theorem ref_at (x0 : S4096x1024.Idx → EReal) (x1 : S2816x1024.Idx → EReal) (R : Fin 4096) (J : Fin 2816) :
    DownXRefIdeal.Read.val_main_v4 (F := Ideal) x0 x1 (ix2 R J) = ∑ k : Fin 1024, x0 (ix2 R k) * x1 (ix2 J k) := by
  pointwise [DownXRefIdeal.Read.val_main_v4, DownXRefIdeal.Read.val_main_v3, DownXRefIdeal.Read.val_main_v1]

end Cert.DownX

end
-- ==== Proof.DownWeight.lean ====
module

public import proofs.«01_k».proof.Proof.Products
public import proofs.«01_k».proof.Proof.Gen.DownWIdeal.Value
public import proofs.«01_k».proof.Proof.Gen.DownWRefIdeal.Read

@[expose] public section

set_option maxRecDepth 16384

noncomputable section

/-! # The gradient of the down projection's weights

`d w_down = actᵀ · d x`, two row blocks, the 4096 positions in two steps. -/

namespace Cert.DownW

open Idealize.ShloMosaic Idealize.ShloMosaic.TcCoe Idealize.ShloMosaic.Pointwise Idealize.SL.Sem Cert.Prod
open Cert.DownWIdeal Cert.DownWIdeal.Gen Cert.DownWIdeal.Value

section Step

variable (c : Dev nD) (i : grid0.Coords) (arg3 : Memref sig .tc .vmem S2048x1408 .bf16) (harg3 : arg3.IsWhole)
  (arg4 : Memref sig .tc .vmem S2048x1024 .f32) (harg4 : arg4.IsWhole) (arg5 : Memref sig .tc .vmem S1408x1024 .bf16) (harg5 : arg5.IsWhole)
  (arg6 : Memref sig .tc .vmem S1408x1024 .f32) (harg6 : arg6.IsWhole)
  (x0 : Vec Ideal S2048x1408 .bf16) (x1 : Vec Ideal S2048x1024 .f32) (xs : Vec Ideal S1408x1024 .f32) (r : Fin 1408) (j : Fin 1024)

/-- The product of two blocks, at an entry. -/
theorem pay_at : k0_pay1 (F := Ideal) x0 x1 (ix2 r j) = ∑ k : Fin 2048, x0 (ix2 k r) * x1 (ix2 k j) := by
  pointwise [k0_pay1]

/-- What the first step leaves in the accumulator. -/
theorem first (h0 : cond0_0 i) (h1 : ¬cond0_1 i) (h2 : ¬cond0_2 i) :
    sout0_A_0 (F := Ideal) c i arg3 harg3 arg4 harg4 arg5 harg5 arg6 harg6 h0 h1 h2 x0 x1 (ix2 r j) = ∑ k : Fin 2048, x0 (ix2 k r) * x1 (ix2 k j) := by
  refine (congrFun (stored VS0_0 zero2 inb_S1408x1024_S1408x1024_0_0 (k0_pay2
    (View.readAt (Elt Ideal) arg3.view (Rect.unit ![0, 0] S2048x1408.size inb_S2048x1408_S2048x1408_0_0).toLoadRect (harg3.unread x0))
    (View.readAt (Elt Ideal) arg4.view (Rect.unit ![0, 0] S2048x1024.size inb_S2048x1024_S2048x1024_0_0).toLoadRect (harg4.unread x1)))
    (by sl_kernel_rfl)) _).trans ?_
  rw [read_whole arg3 harg3 zero2, read_whole arg4 harg4 zero2]
  pointwise [k0_pay2]
  exact pay_at x0 x1 r j

/-- What the second step stores in the block of the result. -/
theorem last (h0 : ¬cond0_0 i) (h1 : ¬cond0_1 i) (h2 : cond0_2 i) :
    out0_B_2 (F := Ideal) c i arg3 harg3 arg4 harg4 arg5 harg5 arg6 harg6 h0 h1 h2 x0 x1 xs (ix2 r j) =
      xs (ix2 r j) + ∑ k : Fin 2048, x0 (ix2 k r) * x1 (ix2 k j) := by
  refine (congrFun (stored VO0_2 zero2 inb_S1408x1024_S1408x1024_0_0 (k0_pay4
    (View.readAt (Elt Ideal) arg3.view (Rect.unit ![0, 0] S2048x1408.size inb_S2048x1408_S2048x1408_0_0).toLoadRect (harg3.unread x0))
    (View.readAt (Elt Ideal) arg4.view (Rect.unit ![0, 0] S2048x1024.size inb_S2048x1024_S2048x1024_0_0).toLoadRect (harg4.unread x1))
    (View.readAt (Elt Ideal) arg6.view (Rect.unit ![0, 0] S1408x1024.size inb_S1408x1024_S1408x1024_0_0).toLoadRect (harg6.unread xs)))
    (by sl_kernel_rfl)) _).trans ?_
  rw [read_whole arg3 harg3 zero2, read_whole arg4 harg4 zero2, read_whole arg6 harg6 zero2]
  pointwise [k0_pay4]
  exact congrArg (xs (ix2 r j) + ·) (pay_at x0 x1 r j)

end Step

variable (m : (ℓ : Loc nD τ sig) → Buf (Elt Ideal) ℓ) (c : Dev nD)

/-- Which blocks of the operands a grid point reads. -/
theorem idx : ∀ t : Fin cfg0.N, (win0_0.index t 0 = t.1 % 2 ∧ win0_0.index t 1 = t.1 / 2) ∧
    (win0_1.index t 0 = t.1 % 2 ∧ win0_1.index t 1 = 0) :=
  (by decide +kernel : ∀ t : Fin grid0.N, _)

/-- The blocks that the grid points read. -/
def tiles : Tiles cfg0.N 2816 4096 1024 1408 2048 1024 where
  a R K := (m ((c : Thread nD τ).loc main_arg0) : S4096x2816.Idx → EReal) (ix2 K R)
  b K J := (m ((c : Thread nD τ).loc main_arg1) : S4096x1024.Idx → EReal) (ix2 K J)
  ablk t r k := (iblk m c 0 t : S2048x1408.Idx → EReal) (ix2 k r)
  bblk t k j := (iblk m c 1 t : S2048x1024.Idx → EReal) (ix2 k j)
  row t := t / 2
  part t := t % 2
  col _ := 0
  ha t r k R K hR hK := by
    have hi := (idx t).1
    refine (congrFun (V_main_arg0 m c) _).trans (congrArg (m ((c : Thread nD τ).loc main_arg0))
      (at_block ((cfg0.win 0).blk t).view.emb k r K R (congrArg (· * 2048 + 1 * k.1) hi.1) (congrArg (· * 1408 + 1 * r.1) hi.2) hK hR))
  hb t k j K J hK hJ := by
    have hi := (idx t).2
    refine (congrFun (V_main_arg1 m c) _).trans (congrArg (m ((c : Thread nD τ).loc main_arg1))
      (at_block ((cfg0.win 1).blk t).view.emb k j K J (congrArg (· * 2048 + 1 * k.1) hi.1) (congrArg (· * 1024 + 1 * j.1) hi.2) hK hJ))

/-- The accumulator after a block's first step. -/
theorem acc_first (t : Fin cfg0.N) (h : t.1 % 2 = 0) (r : Fin 1408) (j : Fin 1024) :
    (outsAt0 (F := Ideal) m c t.1 t.isLt).2 (ix2 r j) = (tiles m c).dot t r j := by
  rw [outsAt0_A m c t h (by omega)]
  dsimp only
  have e := first c (grid0.coords t) (ms0_0 t) (hs0_0 t) (ms0_1 t) (hs0_1 t) (ms0_2 t) (hs0_2 t) scM0_0 (Memref.isWhole_whole _)
    (iblk m c 0 t) (iblk m c 1 t) r j ((hcond0_0 t).mpr h) (hcond0_1 t) (fun e => absurd ((hcond0_2 t).mp e) (by omega))
  exact e

/-- The block of the result after its second step. -/
theorem out_last (t : Fin cfg0.N) (h : t.1 % 2 = 1) (r : Fin 1408) (j : Fin 1024) : (outsAt0 (F := Ideal) m c t.1 t.isLt).1 (ix2 r j) =
    (outsAt0 (F := Ideal) m c (t.1 - 1) (Nat.lt_of_le_of_lt (Nat.sub_le _ _) t.isLt)).2 (ix2 r j) + (tiles m c).dot t r j := by
  rw [outsAt0_B m c t (by omega) h]
  dsimp only
  have e := last c (grid0.coords t) (ms0_0 t) (hs0_0 t) (ms0_1 t) (hs0_1 t) (ms0_2 t) (hs0_2 t) scM0_0 (Memref.isWhole_whole _)
    (iblk m c 0 t) (iblk m c 1 t) (outsAt0 (F := Ideal) m c (t.1 - 1) (Nat.lt_of_le_of_lt (Nat.sub_le _ _) t.isLt)).2 r j
    (fun e => absurd ((hcond0_0 t).mp e) (by omega)) (hcond0_1 t) ((hcond0_2 t).mpr h)
  exact e

/-- The array the run leaves, at an entry. -/
theorem whole (R : Fin 2816) (J : Fin 1024) : (G2 (F := Ideal) m c : S2816x1024.Idx → EReal) (ix2 R J) = (tiles m c).full R J := by
  have hR := R.isLt
  have hJ := J.isLt
  have hp : pt2Of (ix2 R J) = 2 * (R.1 / 1408) + 1 := by
    show 2 * (1 * (R.1 / 1408 - 0) + 1 * (J.1 / 1024 - 0)) + 1 = _
    omega
  have hN : 2 * (R.1 / 1408) + 1 < cfg0.N := lt_of_lt_of_eq (by omega) N_0.symm
  have hl : loc2Of (ix2 R J) = ix2 (⟨R.1 % 1408, Nat.mod_lt _ (by decide)⟩ : Fin 1408) (⟨J.1 % 1024, Nat.mod_lt _ (by decide)⟩ : Fin 1024) :=
    funext fun a => match a with
      | ⟨0, _⟩ => rfl
      | ⟨1, _⟩ => rfl
  unfold G2
  rw [dif_pos (lt_of_eq_of_lt hp hN), hl, fold0_congr m c _ _ (2 * (R.1 / 1408) + 1) (by omega) hp, ← outsAt0_sweep m c _ hN]
  refine (out_last m c ⟨2 * (R.1 / 1408) + 1, hN⟩ (by dsimp only; omega) _ _).trans
    ((congrArg (· + _) (acc_first m c ⟨2 * (R.1 / 1408), by omega⟩ (by dsimp only; omega) _ _)).trans ?_)
  exact (tiles m c).two rfl (R.1 / 1408) _ _ rfl rfl _ _ R J (fun _ => rfl)
    (by show R.1 = 1408 * ((2 * (R.1 / 1408) + 1) / 2) + R.1 % 1408; omega) (by show J.1 = 1024 * 0 + J.1 % 1024; omega)
    (by show 2 * (R.1 / 1408) / 2 = (2 * (R.1 / 1408) + 1) / 2; omega) rfl

/-- The reference's result, at an entry. -/
theorem ref_at (x0 : S4096x2816.Idx → EReal) (x1 : S4096x1024.Idx → EReal) (R : Fin 2816) (J : Fin 1024) :
    DownWRefIdeal.Read.val_main_v5 (F := Ideal) x0 x1 (ix2 R J) = ∑ k : Fin 4096, x0 (ix2 k R) * x1 (ix2 k J) := by
  pointwise [DownWRefIdeal.Read.val_main_v5, DownWRefIdeal.Read.val_main_v4, DownWRefIdeal.Read.val_main_v3, DownWRefIdeal.Read.val_main_v1]
  exact Finset.sum_congr rfl fun k _ => mul_comm _ _

end Cert.DownW

end
-- ==== Proof.InputForward.lean ====
module

public import proofs.«01_k».proof.Proof.Products
public import proofs.«01_k».proof.Proof.Gen.InIdeal.Value
public import proofs.«01_k».proof.Proof.Gen.InRefIdeal.Read

@[expose] public section

set_option maxRecDepth 16384

noncomputable section

/-! # The input projection

`proj = u · w_in`, four row blocks by nine column blocks, each in one step. -/

namespace Cert.In

open Idealize.ShloMosaic Idealize.ShloMosaic.TcCoe Idealize.ShloMosaic.Pointwise Idealize.SL.Sem Cert.Prod
open Cert.InIdeal Cert.InIdeal.Gen Cert.InIdeal.Value

/-- What a grid point stores in its block of the result. -/
theorem out_at (x0 : Vec Ideal S1024x1024 .bf16) (x1 : Vec Ideal S1024x1152 .bf16) (r : Fin 1024) (j : Fin 1152) :
    out0_2 (F := Ideal) x0 x1 (ix2 r j) = ∑ k : Fin 1024, x0 (ix2 r k) * x1 (ix2 k j)  := by
  unfold out0_2
  rw [View.canon_unit_zero zero2, View.ld_unit_zero zero2, View.ld_unit_zero zero2]
  pointwise [k0_pay1]

variable (m : (ℓ : Loc nD τ sig) → Buf (Elt Ideal) ℓ) (c : Dev nD)

/-- Which blocks a grid point reads, and which it writes. -/
theorem idx : ∀ t : Fin cfg0.N, (win0_0.index t 0 = t.1 / 9 ∧ win0_0.index t 1 = 0) ∧ (win0_1.index t 0 = 0 ∧ win0_1.index t 1 = t.1 % 9) ∧
    (win0_2.index t 0 = t.1 / 9 ∧ win0_2.index t 1 = t.1 % 9) :=
  (by decide +kernel : ∀ t : Fin grid0.N, _)

/-- The blocks that the grid points read. -/
def tiles : Tiles cfg0.N 4096 1024 10368 1024 1024 1152 where
  a R K := (m ((c : Thread nD τ).loc main_arg0) : S4096x1024.Idx → EReal) (ix2 R K)
  b K J := (m ((c : Thread nD τ).loc main_arg1) : S1024x10368.Idx → EReal) (ix2 K J)
  ablk t r k := (iblk m c 0 t : S1024x1024.Idx → EReal) (ix2 r k)
  bblk t k j := (iblk m c 1 t : S1024x1152.Idx → EReal) (ix2 k j)
  row t := t / 9
  part _ := 0
  col t := t % 9
  ha t r k R K hR hK := by
    have hi := (idx t).1
    refine (congrFun (V_main_arg0 m c) _).trans (congrArg (m ((c : Thread nD τ).loc main_arg0))
      (at_block ((cfg0.win 0).blk t).view.emb r k R K (congrArg (· * 1024 + 1 * r.1) hi.1) (congrArg (· * 1024 + 1 * k.1) hi.2) hR hK))
  hb t k j K J hK hJ := by
    have hi := (idx t).2.1
    refine (congrFun (V_main_arg1 m c) _).trans (congrArg (m ((c : Thread nD τ).loc main_arg1))
      (at_block ((cfg0.win 1).blk t).view.emb k j K J (congrArg (· * 1024 + 1 * k.1) hi.1) (congrArg (· * 1152 + 1 * j.1) hi.2) hK hJ))

/-- The array the run leaves, at an entry. -/
theorem whole (R : Fin 4096) (J : Fin 10368) : ((dats (F := Ideal) m 0 c).arrAt 2 cfg0.N : S4096x10368.Idx → EReal) (ix2 R J) =
    (tiles m c).full R J := by
  have hR := R.isLt
  have hJ := J.isLt
  obtain ⟨t, ht⟩ : ∃ t : Fin cfg0.N, t.1 = 9 * (R.1 / 1024) + J.1 / 1152 := ⟨⟨_, lt_of_lt_of_eq (by omega) N_0.symm⟩, rfl⟩
  have hi := (idx t).2.2
  have er : R.1 = 1024 * (t.1 / 9) + R.1 % 1024 := by omega
  have ej : J.1 = 1152 * (t.1 % 9) + J.1 % 1152 := by omega
  have hb := congrFun ((blocks2 m c t (flush0_2 t)).trans (flushed2 m c t)) (ix2 ⟨R.1 % 1024, by omega⟩ ⟨J.1 % 1152, by omega⟩ : S1024x1152.Idx)
  rw [View.read_apply, at_block ((cfg0.win 2).blk t).view.emb ⟨R.1 % 1024, by omega⟩ ⟨J.1 % 1152, by omega⟩ R J
    (congrArg (· * 1024 + 1 * (R.1 % 1024)) hi.1) (congrArg (· * 1152 + 1 * (J.1 % 1152)) hi.2) er ej] at hb
  exact hb.trans ((out_at (iblk m c 0 t) (iblk m c 1 t) ⟨R.1 % 1024, by omega⟩ ⟨J.1 % 1152, by omega⟩).trans
    ((tiles m c).one rfl t _ _ R J er ej rfl))

/-- The reference's result, at an entry. -/
theorem ref_at (x0 : S4096x1024.Idx → EReal) (x1 : S1024x10368.Idx → EReal) (R : Fin 4096) (J : Fin 10368) :
    InRefIdeal.Read.val_main_v2 (F := Ideal) x0 x1 (ix2 R J) = ∑ k : Fin 1024, x0 (ix2 R k) * x1 (ix2 k J) := by
  pointwise [InRefIdeal.Read.val_main_v2, InRefIdeal.Read.val_main_v1, InRefIdeal.Read.val_main_v0]

end Cert.In

end
-- ==== Proof.UpForward.lean ====
module

public import proofs.«01_k».proof.Proof.Products
public import proofs.«01_k».proof.Proof.Gen.UpIdeal.Value
public import proofs.«01_k».proof.Proof.Gen.UpRefIdeal.Read

@[expose] public section

set_option maxRecDepth 16384

noncomputable section

/-! # The up projection

`up = u₂ · w_up`, four row blocks by four column blocks, each in one step. -/

namespace Cert.Up

open Idealize.ShloMosaic Idealize.ShloMosaic.TcCoe Idealize.ShloMosaic.Pointwise Idealize.SL.Sem Cert.Prod
open Cert.UpIdeal Cert.UpIdeal.Gen Cert.UpIdeal.Value

/-- What a grid point stores in its block of the result. -/
theorem out_at (x0 : Vec Ideal S1024x1024 .bf16) (x1 : Vec Ideal S1024x1408 .bf16) (r : Fin 1024) (j : Fin 1408) :
    out0_2 (F := Ideal) x0 x1 (ix2 r j) = ∑ k : Fin 1024, x0 (ix2 r k) * x1 (ix2 k j)  := by
  unfold out0_2
  rw [View.canon_unit_zero zero2, View.ld_unit_zero zero2, View.ld_unit_zero zero2]
  pointwise [k0_pay1]

variable (m : (ℓ : Loc nD τ sig) → Buf (Elt Ideal) ℓ) (c : Dev nD)

/-- Which blocks a grid point reads, and which it writes. -/
theorem idx : ∀ t : Fin cfg0.N, (win0_0.index t 0 = t.1 % 4 ∧ win0_0.index t 1 = 0) ∧ (win0_1.index t 0 = 0 ∧ win0_1.index t 1 = t.1 / 4) ∧
    (win0_2.index t 0 = t.1 % 4 ∧ win0_2.index t 1 = t.1 / 4) :=
  (by decide +kernel : ∀ t : Fin grid0.N, _)

/-- The blocks that the grid points read. -/
def tiles : Tiles cfg0.N 4096 1024 5632 1024 1024 1408 where
  a R K := (m ((c : Thread nD τ).loc main_arg0) : S4096x1024.Idx → EReal) (ix2 R K)
  b K J := (m ((c : Thread nD τ).loc main_arg1) : S1024x5632.Idx → EReal) (ix2 K J)
  ablk t r k := (iblk m c 0 t : S1024x1024.Idx → EReal) (ix2 r k)
  bblk t k j := (iblk m c 1 t : S1024x1408.Idx → EReal) (ix2 k j)
  row t := t % 4
  part _ := 0
  col t := t / 4
  ha t r k R K hR hK := by
    have hi := (idx t).1
    refine (congrFun (V_main_arg0 m c) _).trans (congrArg (m ((c : Thread nD τ).loc main_arg0))
      (at_block ((cfg0.win 0).blk t).view.emb r k R K (congrArg (· * 1024 + 1 * r.1) hi.1) (congrArg (· * 1024 + 1 * k.1) hi.2) hR hK))
  hb t k j K J hK hJ := by
    have hi := (idx t).2.1
    refine (congrFun (V_main_arg1 m c) _).trans (congrArg (m ((c : Thread nD τ).loc main_arg1))
      (at_block ((cfg0.win 1).blk t).view.emb k j K J (congrArg (· * 1024 + 1 * k.1) hi.1) (congrArg (· * 1408 + 1 * j.1) hi.2) hK hJ))

/-- The array the run leaves, at an entry. -/
theorem whole (R : Fin 4096) (J : Fin 5632) : ((dats (F := Ideal) m 0 c).arrAt 2 cfg0.N : S4096x5632.Idx → EReal) (ix2 R J) =
    (tiles m c).full R J := by
  have hR := R.isLt
  have hJ := J.isLt
  obtain ⟨t, ht⟩ : ∃ t : Fin cfg0.N, t.1 = 4 * (J.1 / 1408) + R.1 / 1024 := ⟨⟨_, lt_of_lt_of_eq (by omega) N_0.symm⟩, rfl⟩
  have hi := (idx t).2.2
  have er : R.1 = 1024 * (t.1 % 4) + R.1 % 1024 := by omega
  have ej : J.1 = 1408 * (t.1 / 4) + J.1 % 1408 := by omega
  have hb := congrFun ((blocks2 m c t (flush0_2 t)).trans (flushed2 m c t)) (ix2 ⟨R.1 % 1024, by omega⟩ ⟨J.1 % 1408, by omega⟩ : S1024x1408.Idx)
  rw [View.read_apply, at_block ((cfg0.win 2).blk t).view.emb ⟨R.1 % 1024, by omega⟩ ⟨J.1 % 1408, by omega⟩ R J
    (congrArg (· * 1024 + 1 * (R.1 % 1024)) hi.1) (congrArg (· * 1408 + 1 * (J.1 % 1408)) hi.2) er ej] at hb
  exact hb.trans ((out_at (iblk m c 0 t) (iblk m c 1 t) ⟨R.1 % 1024, by omega⟩ ⟨J.1 % 1408, by omega⟩).trans
    ((tiles m c).one rfl t _ _ R J er ej rfl))

/-- The reference's result, at an entry. -/
theorem ref_at (x0 : S4096x1024.Idx → EReal) (x1 : S1024x5632.Idx → EReal) (R : Fin 4096) (J : Fin 5632) :
    UpRefIdeal.Read.val_main_v3 (F := Ideal) x0 x1 (ix2 R J) = ∑ k : Fin 1024, x0 (ix2 R k) * x1 (ix2 k J) := by
  pointwise [UpRefIdeal.Read.val_main_v3, UpRefIdeal.Read.val_main_v2, UpRefIdeal.Read.val_main_v1, UpRefIdeal.Read.val_main_v0]

end Cert.Up

end
-- ==== Proof.DownForward.lean ====
module

public import proofs.«01_k».proof.Proof.Products
public import proofs.«01_k».proof.Proof.Gen.DownIdeal.Value
public import proofs.«01_k».proof.Proof.Gen.DownRefIdeal.Read

@[expose] public section

set_option maxRecDepth 16384

noncomputable section

/-! # The down projection

`x + act · w_down`, four row blocks, each in one step. -/

namespace Cert.Down

open Idealize.ShloMosaic Idealize.ShloMosaic.TcCoe Idealize.ShloMosaic.Pointwise Idealize.SL.Sem Cert.Prod
open Cert.DownIdeal Cert.DownIdeal.Gen Cert.DownIdeal.Value

/-- What a grid point stores in its block of the result. -/
theorem out_at (x0 : Vec Ideal S1024x2816 .bf16) (x1 : Vec Ideal S2816x1024 .bf16) (x2 : Vec Ideal S1024x1024 .f32) (r : Fin 1024) (j : Fin 1024) :
    out0_3 (F := Ideal) x0 x1 x2 (ix2 r j) = (∑ k : Fin 2816, x0 (ix2 r k) * x1 (ix2 k j)) + x2 (ix2 r j) := by
  unfold out0_3
  rw [View.canon_unit_zero zero2, View.ld_unit_zero zero2, View.ld_unit_zero zero2, View.ld_unit_zero zero2]
  pointwise [k0_pay1]

variable (m : (ℓ : Loc nD τ sig) → Buf (Elt Ideal) ℓ) (c : Dev nD)

/-- Which blocks a grid point reads, and which it writes. -/
theorem idx : ∀ t : Fin cfg0.N, (win0_0.index t 0 = t.1 ∧ win0_0.index t 1 = 0) ∧ (win0_1.index t 0 = 0 ∧ win0_1.index t 1 = 0) ∧
    (win0_2.index t 0 = t.1 ∧ win0_2.index t 1 = 0) ∧ (win0_3.index t 0 = t.1 ∧ win0_3.index t 1 = 0) :=
  (by decide +kernel : ∀ t : Fin grid0.N, _)

/-- The blocks that the grid points read. -/
def tiles : Tiles cfg0.N 4096 2816 1024 1024 2816 1024 where
  a R K := (m ((c : Thread nD τ).loc main_arg0) : S4096x2816.Idx → EReal) (ix2 R K)
  b K J := (m ((c : Thread nD τ).loc main_arg1) : S2816x1024.Idx → EReal) (ix2 K J)
  ablk t r k := (iblk m c 0 t : S1024x2816.Idx → EReal) (ix2 r k)
  bblk t k j := (iblk m c 1 t : S2816x1024.Idx → EReal) (ix2 k j)
  row t := t
  part _ := 0
  col _ := 0
  ha t r k R K hR hK := by
    have hi := (idx t).1
    refine (congrFun (V_main_arg0 m c) _).trans (congrArg (m ((c : Thread nD τ).loc main_arg0))
      (at_block ((cfg0.win 0).blk t).view.emb r k R K (congrArg (· * 1024 + 1 * r.1) hi.1) (congrArg (· * 2816 + 1 * k.1) hi.2) hR hK))
  hb t k j K J hK hJ := by
    have hi := (idx t).2.1
    refine (congrFun (V_main_arg1 m c) _).trans (congrArg (m ((c : Thread nD τ).loc main_arg1))
      (at_block ((cfg0.win 1).blk t).view.emb k j K J (congrArg (· * 2816 + 1 * k.1) hi.1) (congrArg (· * 1024 + 1 * j.1) hi.2) hK hJ))

/-- An entry of the added array's block. -/
theorem res_at (t : Fin cfg0.N) (r j : Fin 1024) (R : Fin 4096) (J : Fin 1024) (hR : R.1 = 1024 * t.1 + r.1) (hJ : J.1 = 1024 * 0 + j.1) :
    (iblk m c 2 t : S1024x1024.Idx → EReal) (ix2 r j) = (m ((c : Thread nD τ).loc main_arg2) : S4096x1024.Idx → EReal) (ix2 R J) := by
  have hi := (idx t).2.2.1
  exact (congrFun (V_main_arg2 m c) _).trans (congrArg (m ((c : Thread nD τ).loc main_arg2))
    (at_block ((cfg0.win 2).blk t).view.emb r j R J (congrArg (· * 1024 + 1 * r.1) hi.1) (congrArg (· * 1024 + 1 * j.1) hi.2) hR hJ))

/-- The array the run leaves, at an entry. -/
theorem whole (R : Fin 4096) (J : Fin 1024) : ((dats (F := Ideal) m 0 c).arrAt 3 cfg0.N : S4096x1024.Idx → EReal) (ix2 R J) =
    (tiles m c).full R J + (m ((c : Thread nD τ).loc main_arg2) : S4096x1024.Idx → EReal) (ix2 R J) := by
  have hR := R.isLt
  have hJ := J.isLt
  obtain ⟨t, ht⟩ : ∃ t : Fin cfg0.N, t.1 = R.1 / 1024 := ⟨⟨_, lt_of_lt_of_eq (by omega) N_0.symm⟩, rfl⟩
  have hi := (idx t).2.2.2
  have er : R.1 = 1024 * (t.1) + R.1 % 1024 := by omega
  have ej : J.1 = 1024 * (0) + J.1 % 1024 := by omega
  have hb := congrFun ((blocks3 m c t (flush0_3 t)).trans (flushed3 m c t)) (ix2 ⟨R.1 % 1024, by omega⟩ ⟨J.1 % 1024, by omega⟩ : S1024x1024.Idx)
  rw [View.read_apply, at_block ((cfg0.win 3).blk t).view.emb ⟨R.1 % 1024, by omega⟩ ⟨J.1 % 1024, by omega⟩ R J
    (congrArg (· * 1024 + 1 * (R.1 % 1024)) hi.1) (congrArg (· * 1024 + 1 * (J.1 % 1024)) hi.2) er ej] at hb
  exact hb.trans ((out_at (iblk m c 0 t) (iblk m c 1 t) (iblk m c 2 t) ⟨R.1 % 1024, by omega⟩ ⟨J.1 % 1024, by omega⟩).trans
    (congrArg₂ (· + ·) ((tiles m c).one rfl t _ _ R J er ej rfl) (res_at m c t _ _ R J er ej)))

/-- The reference's result, at an entry. -/
theorem ref_at (x0 : S4096x2816.Idx → EReal) (x1 : S2816x1024.Idx → EReal) (x2 : S4096x1024.Idx → EReal) (R : Fin 4096) (J : Fin 1024) :
    DownRefIdeal.Read.val_main_v3 (F := Ideal) x0 x1 x2 (ix2 R J) = x2 (ix2 R J) + ∑ k : Fin 2816, x0 (ix2 R k) * x1 (ix2 k J) := by
  pointwise [DownRefIdeal.Read.val_main_v3, DownRefIdeal.Read.val_main_v2, DownRefIdeal.Read.val_main_v1, DownRefIdeal.Read.val_main_v0]

end Cert.Down

end
-- ==== Proof.ProductClaims.lean ====
module

public import proofs.«01_k».proof.Defs
public import proofs.«01_k».proof.Proof.Gen.InX.Frame
public import proofs.«01_k».proof.Proof.Gen.InXIdeal.Frame
public import proofs.«01_k».proof.Proof.Gen.InXRefIdeal.Run
public import proofs.«01_k».proof.Proof.InputGrad
public import proofs.«01_k».proof.Proof.Gen.InW.Frame
public import proofs.«01_k».proof.Proof.Gen.InWIdeal.Frame
public import proofs.«01_k».proof.Proof.Gen.InWRefIdeal.Run
public import proofs.«01_k».proof.Proof.InputWeight
public import proofs.«01_k».proof.Proof.Gen.UpX.Frame
public import proofs.«01_k».proof.Proof.Gen.UpXIdeal.Frame
public import proofs.«01_k».proof.Proof.Gen.UpXRefIdeal.Run
public import proofs.«01_k».proof.Proof.UpGrad
public import proofs.«01_k».proof.Proof.Gen.UpW.Frame
public import proofs.«01_k».proof.Proof.Gen.UpWIdeal.Frame
public import proofs.«01_k».proof.Proof.Gen.UpWRefIdeal.Run
public import proofs.«01_k».proof.Proof.UpWeight
public import proofs.«01_k».proof.Proof.Gen.DownX.Frame
public import proofs.«01_k».proof.Proof.Gen.DownXIdeal.Frame
public import proofs.«01_k».proof.Proof.Gen.DownXRefIdeal.Run
public import proofs.«01_k».proof.Proof.DownGrad
public import proofs.«01_k».proof.Proof.Gen.DownW.Frame
public import proofs.«01_k».proof.Proof.Gen.DownWIdeal.Frame
public import proofs.«01_k».proof.Proof.Gen.DownWRefIdeal.Run
public import proofs.«01_k».proof.Proof.DownWeight
public import proofs.«01_k».proof.Proof.Gen.In.Frame
public import proofs.«01_k».proof.Proof.Gen.InIdeal.Frame
public import proofs.«01_k».proof.Proof.Gen.InRefIdeal.Run
public import proofs.«01_k».proof.Proof.InputForward
public import proofs.«01_k».proof.Proof.Gen.Up.Frame
public import proofs.«01_k».proof.Proof.Gen.UpIdeal.Frame
public import proofs.«01_k».proof.Proof.Gen.UpRefIdeal.Run
public import proofs.«01_k».proof.Proof.UpForward
public import proofs.«01_k».proof.Proof.Gen.Down.Frame
public import proofs.«01_k».proof.Proof.Gen.DownIdeal.Frame
public import proofs.«01_k».proof.Proof.Gen.DownRefIdeal.Run
public import proofs.«01_k».proof.Proof.DownForward
public import Idealize.ShloMosaic.Adequacy
public import Idealize.ShloMosaic.Init

@[expose] public section

noncomputable section

/-! # What is claimed of the weight products

Each call leaves, on every device, the array that its reference leaves: the two have the same entries (`whole` of the call's
module, and `ref_at`). -/

namespace Cert.Proof

open Idealize.ShloMosaic Idealize.ShloMosaic.Pointwise Idealize.ShloMosaic.TcCoe Idealize.ShloMosaic.StableHlo Idealize.SL.Sem
open Cert.Prod

/-- The kernel of the gradient of the input projection's argument leaves the reference's result. -/
theorem algebraic_InX : Cert.algebraic_InXIdeal_InXRefIdeal := by
  intro m g m' g' _ hargs
  refine ⟨fun c => InXIdeal.Value.G2 m c, InXIdeal.Value.run m g, ?_⟩
  refine (θ_run _ _ _).mono (fun r h c => ?_) (InXRefIdeal.Value.run (F := Ideal) m' g')
  obtain ⟨h0, h1⟩ := h c
  obtain ⟨a0, a1⟩ := hargs c
  refine ⟨h0.trans ((InXRefIdeal.Read.val_main_v4_eq _ _).trans ?_), h1⟩
  rw [a0, a1]
  exact mat_ext fun r j => (InX.ref_at _ _ r j).trans (InX.whole m c r j).symm

/-- The kernel of the gradient of the input projection's weights leaves the reference's result. -/
theorem algebraic_InW : Cert.algebraic_InWIdeal_InWRefIdeal := by
  intro m g m' g' _ hargs
  refine ⟨fun c => InWIdeal.Value.G2 m c, InWIdeal.Value.run m g, ?_⟩
  refine (θ_run _ _ _).mono (fun r h c => ?_) (InWRefIdeal.Value.run (F := Ideal) m' g')
  obtain ⟨h0, h1⟩ := h c
  obtain ⟨a0, a1⟩ := hargs c
  refine ⟨h0.trans ((InWRefIdeal.Read.val_main_v6_eq _ _).trans ?_), h1⟩
  rw [a0, a1]
  exact mat_ext fun r j => (InW.ref_at _ _ r j).trans (InW.whole m c r j).symm

/-- The kernel of the gradient of the up projection's argument leaves the reference's result. -/
theorem algebraic_UpX : Cert.algebraic_UpXIdeal_UpXRefIdeal := by
  intro m g m' g' _ hargs
  refine ⟨fun c => UpXIdeal.Value.G2 m c, UpXIdeal.Value.run m g, ?_⟩
  refine (θ_run _ _ _).mono (fun r h c => ?_) (UpXRefIdeal.Value.run (F := Ideal) m' g')
  obtain ⟨h0, h1⟩ := h c
  obtain ⟨a0, a1⟩ := hargs c
  refine ⟨h0.trans ((UpXRefIdeal.Read.val_main_v4_eq _ _).trans ?_), h1⟩
  rw [a0, a1]
  exact mat_ext fun r j => (UpX.ref_at _ _ r j).trans (UpX.whole m c r j).symm

/-- The kernel of the gradient of the up projection's weights leaves the reference's result. -/
theorem algebraic_UpW : Cert.algebraic_UpWIdeal_UpWRefIdeal := by
  intro m g m' g' _ hargs
  refine ⟨fun c => UpWIdeal.Value.G2 m c, UpWIdeal.Value.run m g, ?_⟩
  refine (θ_run _ _ _).mono (fun r h c => ?_) (UpWRefIdeal.Value.run (F := Ideal) m' g')
  obtain ⟨h0, h1⟩ := h c
  obtain ⟨a0, a1⟩ := hargs c
  refine ⟨h0.trans ((UpWRefIdeal.Read.val_main_v6_eq _ _).trans ?_), h1⟩
  rw [a0, a1]
  exact mat_ext fun r j => (UpW.ref_at _ _ r j).trans (UpW.whole m c r j).symm

/-- The kernel of the gradient of the down projection's argument leaves the reference's result. -/
theorem algebraic_DownX : Cert.algebraic_DownXIdeal_DownXRefIdeal := by
  intro m g m' g' _ hargs
  refine ⟨fun c => (DownXIdeal.Gen.dats m 0 c).arrAt 2 DownXIdeal.cfg0.N, DownXIdeal.Value.run_blocks m g, ?_⟩
  refine (θ_run _ _ _).mono (fun r h c => ?_) (DownXRefIdeal.Value.run (F := Ideal) m' g')
  obtain ⟨h0, h1⟩ := h c
  obtain ⟨a0, a1⟩ := hargs c
  refine ⟨h0.trans ((DownXRefIdeal.Read.val_main_v4_eq _ _).trans ?_), h1⟩
  rw [a0, a1]
  exact mat_ext fun r j => (DownX.ref_at _ _ r j).trans (DownX.whole m c r j).symm

/-- The kernel of the gradient of the down projection's weights leaves the reference's result. -/
theorem algebraic_DownW : Cert.algebraic_DownWIdeal_DownWRefIdeal := by
  intro m g m' g' _ hargs
  refine ⟨fun c => DownWIdeal.Value.G2 m c, DownWIdeal.Value.run m g, ?_⟩
  refine (θ_run _ _ _).mono (fun r h c => ?_) (DownWRefIdeal.Value.run (F := Ideal) m' g')
  obtain ⟨h0, h1⟩ := h c
  obtain ⟨a0, a1⟩ := hargs c
  refine ⟨h0.trans ((DownWRefIdeal.Read.val_main_v5_eq _ _).trans ?_), h1⟩
  rw [a0, a1]
  exact mat_ext fun r j => (DownW.ref_at _ _ r j).trans (DownW.whole m c r j).symm

/-- The kernel of the input projection leaves the reference's result. -/
theorem algebraic_In : Cert.algebraic_InIdeal_InRefIdeal := by
  intro m g m' g' _ hargs
  refine ⟨fun c => (InIdeal.Gen.dats m 0 c).arrAt 2 InIdeal.cfg0.N, InIdeal.Value.run_blocks m g, ?_⟩
  refine (θ_run _ _ _).mono (fun r h c => ?_) (InRefIdeal.Value.run (F := Ideal) m' g')
  obtain ⟨h0, h1⟩ := h c
  obtain ⟨a0, a1⟩ := hargs c
  refine ⟨h0.trans ((InRefIdeal.Read.val_main_v2_eq _ _).trans ?_), h1⟩
  rw [a0, a1]
  exact mat_ext fun r j => (In.ref_at _ _ r j).trans (In.whole m c r j).symm

/-- The kernel of the up projection leaves the reference's result. -/
theorem algebraic_Up : Cert.algebraic_UpIdeal_UpRefIdeal := by
  intro m g m' g' _ hargs
  refine ⟨fun c => (UpIdeal.Gen.dats m 0 c).arrAt 2 UpIdeal.cfg0.N, UpIdeal.Value.run_blocks m g, ?_⟩
  refine (θ_run _ _ _).mono (fun r h c => ?_) (UpRefIdeal.Value.run (F := Ideal) m' g')
  obtain ⟨h0, h1⟩ := h c
  obtain ⟨a0, a1⟩ := hargs c
  refine ⟨h0.trans ((UpRefIdeal.Read.val_main_v3_eq _ _).trans ?_), h1⟩
  rw [a0, a1]
  exact mat_ext fun r j => (Up.ref_at _ _ r j).trans (Up.whole m c r j).symm

/-- The kernel of the down projection leaves the reference's result. -/
theorem algebraic_Down : Cert.algebraic_DownIdeal_DownRefIdeal := by
  intro m g m' g' _ hargs
  refine ⟨fun c => (DownIdeal.Gen.dats m 0 c).arrAt 3 DownIdeal.cfg0.N, DownIdeal.Value.run_blocks m g, ?_⟩
  refine (θ_run _ _ _).mono (fun r h c => ?_) (DownRefIdeal.Value.run (F := Ideal) m' g')
  obtain ⟨h0, h1⟩ := h c
  obtain ⟨a0, a1, a2⟩ := hargs c
  refine ⟨h0.trans ((DownRefIdeal.Read.val_main_v3_eq _ _ _).trans ?_), h1⟩
  rw [a0, a1, a2]
  exact mat_ext fun r j => (Down.ref_at _ _ _ r j).trans ((add_comm _ _).trans (Down.whole m c r j).symm)

end Cert.Proof

end
-- ==== Proof.Adam.lean ====
module

public import proofs.«01_k».proof.Proof.Products

@[expose] public section

noncomputable section

/-! # What the weight updates share

Every update adds the eight devices' gradients, moves the two moments towards the gradient and its square, and takes a step
against the corrected mean divided by the root of the corrected variance. Here are these formulas for one entry, with the
constants as the programs hold them; where an entry of a block lies; and how an array's entries follow from its blocks. -/

namespace Cert.Adam

open Idealize.ShloMosaic Idealize.ShloMosaic.TcCoe

/-- The offset of a whole block of one device. -/
theorem zero3 : (![0, 0, 0] : Fin 3 → Nat) = fun _ => 0 := by decide

/-- The gradient: what the eight devices hold, added. -/
def grad (s : Fin 8 → EReal) : EReal := ∑ d, s d

/-- The new mean, `0.9 m + 0.1 g`. -/
def mean (g m : Ideal .f32) : Ideal .f32 :=
  FloatOps.addf (FloatOps.mulf (Scalar.ofBits .f32 0x3F666666#32) m) (FloatOps.mulf (Scalar.ofBits .f32 0x3DCCCCCD#32) g)

/-- The new variance, `0.999 v + 0.001 g²`. -/
def var (g v : Ideal .f32) : Ideal .f32 :=
  FloatOps.addf (FloatOps.mulf (Scalar.ofBits .f32 0x3F7FBE77#32) v) (FloatOps.mulf (Scalar.ofBits .f32 0x3A83126F#32) (FloatOps.mulf g g))

/-- The step, `-0.001 (m̂ / (√v̂ + 10⁻⁸) + 0.01 w)`. -/
def step (g w m v : Ideal .f32) : Ideal .f32 :=
  FloatOps.mulf (Scalar.ofBits .f32 0xBA83126F#32)
    (FloatOps.addf
      (FloatOps.divf (FloatOps.divf (mean g m) (Scalar.ofBits .f32 0x3F26BD02#32))
        (FloatOps.addf (FloatOps.sqrt (FloatOps.divf (var g v) (Scalar.ofBits .f32 0x3C231ACC#32))) (Scalar.ofBits .f32 0x322BCC77#32)))
      (FloatOps.mulf (Scalar.ofBits .f32 0x3C23D70A#32) w))

/-- Where an entry of one device's block lies in the stacked gradients: `e` embeds the block with index `(d, p, 0)`. -/
theorem at_slot {a A b : ℕ} (e : (⟨3, ![1, a, b]⟩ : Shape).Idx → (⟨3, ![8, A, b]⟩ : Shape).Idx) {x p y q : ℕ} (d : Fin 8) (r : Fin a)
    (j : Fin b) (R : Fin A) (h0 : (e (ix3 0 r j) 0).val = x * 1 + 1 * 0) (h1 : (e (ix3 0 r j) 1).val = p * a + 1 * r.val)
    (h2 : (e (ix3 0 r j) 2).val = y * b + 1 * j.val) (h : x = d.1 ∧ p = q ∧ y = 0) (hR : R.1 = a * q + r.1) :
    e (ix3 0 r j) = ix3 d R j := by
  obtain ⟨rfl, rfl, rfl⟩ := h
  funext i
  apply Fin.ext
  match i with
  | ⟨0, _⟩ => exact h0.trans (by simp [ix3])
  | ⟨1, _⟩ => exact h1.trans (by rw [Nat.mul_comm p a, Nat.one_mul]; exact hR.symm)
  | ⟨2, _⟩ => exact h2.trans (by simp [ix3])

/-- Where an entry of a block of whole rows lies in the array: `e` embeds the block with index `(p, 0)`. -/
theorem at_rows {a A b : ℕ} (e : (⟨2, ![a, b]⟩ : Shape).Idx → (⟨2, ![A, b]⟩ : Shape).Idx) {p y q : ℕ} (r : Fin a) (j : Fin b)
    (R : Fin A) (h0 : (e (ix2 r j) 0).val = p * a + 1 * r.val) (h1 : (e (ix2 r j) 1).val = y * b + 1 * j.val) (h : p = q ∧ y = 0)
    (hR : R.1 = a * q + r.1) : e (ix2 r j) = ix2 R j := by
  obtain ⟨rfl, rfl⟩ := h
  exact Prod.at_block e r j R j h0 h1 hR (by rw [Nat.mul_zero, Nat.zero_add])

end Cert.Adam

end
-- ==== Proof.AdamSmall.lean ====
module

public import proofs.«01_k».proof.Proof.Adam
public import proofs.«01_k».proof.Proof.Gen.SmallIdeal.Value
public import proofs.«01_k».proof.Proof.Gen.SmallRefIdeal.Read

@[expose] public section

set_option maxRecDepth 16384

noncomputable section

/-! # The update of the replicated weights

The twelve replicated weights, packed into one array of 464 rows of 128, in two blocks of 232 rows. -/

namespace Cert.Small

open Idealize.ShloMosaic Idealize.ShloMosaic.TcCoe Idealize.ShloMosaic.Pointwise Idealize.SL.Sem Cert.Prod Cert.Adam
open Cert.SmallIdeal Cert.SmallIdeal.Gen Cert.SmallIdeal.Value

/-- The sum of the eight devices' blocks, at an entry. -/
theorem sum_at (x : Fin 8 → Vec Ideal S1x232x128 .f32) (r : Fin 232) (j : Fin 128) :
    k0_pay4 (F := Ideal) (x 0) (x 1) (x 2) (x 3) (x 4) (x 5) (x 6) (x 7) (ix2 r j) = grad fun d => x d (ix3 0 r j) := by
  unfold grad
  rw [Fin.sum_univ_eight]
  pointwise [k0_pay4]

variable (m : (ℓ : Loc nD τ sig) → Buf (Elt Ideal) ℓ) (c : Dev nD)

/-- Which blocks a grid point reads and writes: its rows, of each device's gradient, the weight and the moments. -/
theorem idx : ∀ t : Fin cfg0.N,
    (win0_0.index t 0 = 0 ∧ win0_0.index t 1 = t.1 ∧ win0_0.index t 2 = 0) ∧
    (win0_1.index t 0 = 1 ∧ win0_1.index t 1 = t.1 ∧ win0_1.index t 2 = 0) ∧
    (win0_2.index t 0 = 2 ∧ win0_2.index t 1 = t.1 ∧ win0_2.index t 2 = 0) ∧
    (win0_3.index t 0 = 3 ∧ win0_3.index t 1 = t.1 ∧ win0_3.index t 2 = 0) ∧
    (win0_4.index t 0 = 4 ∧ win0_4.index t 1 = t.1 ∧ win0_4.index t 2 = 0) ∧
    (win0_5.index t 0 = 5 ∧ win0_5.index t 1 = t.1 ∧ win0_5.index t 2 = 0) ∧
    (win0_6.index t 0 = 6 ∧ win0_6.index t 1 = t.1 ∧ win0_6.index t 2 = 0) ∧
    (win0_7.index t 0 = 7 ∧ win0_7.index t 1 = t.1 ∧ win0_7.index t 2 = 0) ∧
    (win0_8.index t 0 = t.1 ∧ win0_8.index t 1 = 0) ∧
    (win0_9.index t 0 = t.1 ∧ win0_9.index t 1 = 0) ∧
    (win0_10.index t 0 = t.1 ∧ win0_10.index t 1 = 0) ∧
    (win0_11.index t 0 = t.1 ∧ win0_11.index t 1 = 0) ∧
    (win0_12.index t 0 = t.1 ∧ win0_12.index t 1 = 0) ∧
    (win0_13.index t 0 = t.1 ∧ win0_13.index t 1 = 0) ∧
    (win0_14.index t 0 = t.1 ∧ win0_14.index t 1 = 0) :=
  (by decide +kernel : ∀ t : Fin grid0.N, _)

/-- The eight devices' blocks at a grid point. -/
def slots (t : Fin cfg0.N) : Fin 8 → Vec Ideal S1x232x128 .f32 :=
  ![iblk m c 0 t, iblk m c 1 t, iblk m c 2 t, iblk m c 3 t, iblk m c 4 t, iblk m c 5 t, iblk m c 6 t, iblk m c 7 t]

/-- An entry of a device's block. -/
theorem slot_at (t : Fin cfg0.N) (d : Fin 8) (r : Fin 232) (j : Fin 128) (R : Fin 464) (hR : R.1 = 232 * t.1 + r.1) :
    slots m c t d (ix3 0 r j) = (m ((c : Thread nD τ).loc main_arg0) : S8x464x128.Idx → EReal) (ix3 d R j) := by
  obtain ⟨i0, i1, i2, i3, i4, i5, i6, i7, -⟩ := idx t
  refine (?_ : _ = V m c main_arg0 (ix3 d R j)).trans (congrFun (V_main_arg0 m c) _)
  match d with
  | 0 => exact congrArg (V m c main_arg0) (at_slot ((cfg0.win 0).blk t).view.emb 0 r j R rfl rfl rfl i0 hR)
  | 1 => exact congrArg (V m c main_arg0) (at_slot ((cfg0.win 1).blk t).view.emb 1 r j R rfl rfl rfl i1 hR)
  | 2 => exact congrArg (V m c main_arg0) (at_slot ((cfg0.win 2).blk t).view.emb 2 r j R rfl rfl rfl i2 hR)
  | 3 => exact congrArg (V m c main_arg0) (at_slot ((cfg0.win 3).blk t).view.emb 3 r j R rfl rfl rfl i3 hR)
  | 4 => exact congrArg (V m c main_arg0) (at_slot ((cfg0.win 4).blk t).view.emb 4 r j R rfl rfl rfl i4 hR)
  | 5 => exact congrArg (V m c main_arg0) (at_slot ((cfg0.win 5).blk t).view.emb 5 r j R rfl rfl rfl i5 hR)
  | 6 => exact congrArg (V m c main_arg0) (at_slot ((cfg0.win 6).blk t).view.emb 6 r j R rfl rfl rfl i6 hR)
  | 7 => exact congrArg (V m c main_arg0) (at_slot ((cfg0.win 7).blk t).view.emb 7 r j R rfl rfl rfl i7 hR)

/-- What the kernel adds up at a grid point is the gradient. -/
theorem sum_whole (t : Fin cfg0.N) (r : Fin 232) (j : Fin 128) (R : Fin 464) (hR : R.1 = 232 * t.1 + r.1) :
    k0_pay6 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r j) =
    grad fun d => (m ((c : Thread nD τ).loc main_arg0) : S8x464x128.Idx → EReal) (ix3 d R j) := by
  unfold k0_pay6
  rw [View.ld_unit_zero zero3, View.ld_unit_zero zero3, View.ld_unit_zero zero3, View.ld_unit_zero zero3, View.ld_unit_zero zero3,
    View.ld_unit_zero zero3, View.ld_unit_zero zero3, View.ld_unit_zero zero3]
  exact (sum_at (slots m c t) r j).trans (congrArg grad (funext fun d => slot_at m c t d r j R hR))

/-- The four arrays that the run leaves, at an entry: the gradient, the step, the new mean and the new variance. -/
theorem whole (R : Fin 464) (J : Fin 128) (g w mu nu : EReal)
    (hg : g = grad fun d => (m ((c : Thread nD τ).loc main_arg0) : S8x464x128.Idx → EReal) (ix3 d R J))
    (hw : w = (m ((c : Thread nD τ).loc main_arg1) : S464x128.Idx → EReal) (ix2 R J))
    (hm : mu = (m ((c : Thread nD τ).loc main_arg2) : S464x128.Idx → EReal) (ix2 R J))
    (hv : nu = (m ((c : Thread nD τ).loc main_arg3) : S464x128.Idx → EReal) (ix2 R J)) :
    ((dats (F := Ideal) m 0 c).arrAt 11 cfg0.N : S464x128.Idx → EReal) (ix2 R J) = g ∧
    ((dats (F := Ideal) m 0 c).arrAt 12 cfg0.N : S464x128.Idx → EReal) (ix2 R J) = step g w mu nu ∧
    ((dats (F := Ideal) m 0 c).arrAt 13 cfg0.N : S464x128.Idx → EReal) (ix2 R J) = mean g mu ∧
    ((dats (F := Ideal) m 0 c).arrAt 14 cfg0.N : S464x128.Idx → EReal) (ix2 R J) = var g nu := by
  have hlt := R.isLt
  obtain ⟨t, ht⟩ : ∃ t : Fin cfg0.N, t.1 = R.1 / 232 := ⟨⟨_, lt_of_lt_of_eq (by omega) N_0.symm⟩, rfl⟩
  obtain ⟨r, hr⟩ : ∃ r : Fin 232, r.1 = R.1 % 232 := ⟨⟨R.1 % 232, by omega⟩, rfl⟩
  have hR : R.1 = 232 * t.1 + r.1 := by omega
  obtain ⟨-, -, -, -, -, -, -, -, i8, i9, i10, i11, i12, i13, i14⟩ := idx t
  have eg := (sum_whole m c t r J R hR).trans hg.symm
  have ew : (iblk m c 8 t : S232x128.Idx → EReal) (ix2 r J) = w := ((congrFun (V_main_arg1 m c) _).trans
    (congrArg (m ((c : Thread nD τ).loc main_arg1)) (at_rows ((cfg0.win 8).blk t).view.emb r J R rfl rfl i8 hR))).trans hw.symm
  have em : (iblk m c 9 t : S232x128.Idx → EReal) (ix2 r J) = mu := ((congrFun (V_main_arg2 m c) _).trans
    (congrArg (m ((c : Thread nD τ).loc main_arg2)) (at_rows ((cfg0.win 9).blk t).view.emb r J R rfl rfl i9 hR))).trans hm.symm
  have ev : (iblk m c 10 t : S232x128.Idx → EReal) (ix2 r J) = nu := ((congrFun (V_main_arg3 m c) _).trans
    (congrArg (m ((c : Thread nD τ).loc main_arg3)) (at_rows ((cfg0.win 10).blk t).view.emb r J R rfl rfl i10 hR))).trans hv.symm
  have hb := congrFun ((blocks11 m c t (flush0_11 t)).trans (flushed11 m c t)) (ix2 r J : S232x128.Idx)
  have hs := congrFun ((blocks12 m c t (flush0_12 t)).trans (flushed12 m c t)) (ix2 r J : S232x128.Idx)
  have hu := congrFun ((blocks13 m c t (flush0_13 t)).trans (flushed13 m c t)) (ix2 r J : S232x128.Idx)
  have hn := congrFun ((blocks14 m c t (flush0_14 t)).trans (flushed14 m c t)) (ix2 r J : S232x128.Idx)
  rw [View.read_apply, at_rows ((cfg0.win 11).blk t).view.emb r J R rfl rfl i11 hR] at hb
  rw [View.read_apply, at_rows ((cfg0.win 12).blk t).view.emb r J R rfl rfl i12 hR] at hs
  rw [View.read_apply, at_rows ((cfg0.win 13).blk t).view.emb r J R rfl rfl i13 hR] at hu
  rw [View.read_apply, at_rows ((cfg0.win 14).blk t).view.emb r J R rfl rfl i14 hR] at hn
  unfold out0_11 at hb
  unfold out0_12 k0_pay7 at hs
  unfold out0_13 k0_pay7 at hu
  unfold out0_14 at hn
  rw [View.canon_unit_zero zero2] at hb
  rw [View.canon_unit_zero zero2, View.ld_unit_zero zero2, View.ld_unit_zero zero2, View.ld_unit_zero zero2] at hs
  rw [View.canon_unit_zero zero2, View.ld_unit_zero zero2] at hu
  rw [View.canon_unit_zero zero2, View.ld_unit_zero zero2] at hn
  subst eg ew em ev
  exact ⟨hb, hs, hu, hn⟩

/-- The reference's four results, at an entry. -/
theorem ref_at (x0 : S8x464x128.Idx → EReal) (x1 x2 x3 : S464x128.Idx → EReal) (R : Fin 464) (J : Fin 128) (g : EReal)
    (hg : g = grad fun d => x0 (ix3 d R J)) :
    SmallRefIdeal.Read.val_main_v0 (F := Ideal) x0 (ix2 R J) = g ∧
    SmallRefIdeal.Read.val_main_v24 (F := Ideal) x0 x1 x2 x3 (ix2 R J) = step g (x1 (ix2 R J)) (x2 (ix2 R J)) (x3 (ix2 R J)) ∧
    SmallRefIdeal.Read.val_main_v5 (F := Ideal) x0 x2 (ix2 R J) = mean g (x2 (ix2 R J)) ∧
    SmallRefIdeal.Read.val_main_v11 (F := Ideal) x0 x3 (ix2 R J) = var g (x3 (ix2 R J)) := by
  have e : SmallRefIdeal.Read.val_main_v0 (F := Ideal) x0 (ix2 R J) = g := by
    rw [hg]
    unfold grad
    pointwise [SmallRefIdeal.Read.val_main_v0, SmallRefIdeal.Read.val_main_cst]
  subst e
  exact ⟨rfl, rfl, rfl, rfl⟩

end Cert.Small

end
-- ==== Proof.AdamScanConv.lean ====
module

public import proofs.«01_k».proof.Proof.Adam
public import proofs.«01_k».proof.Proof.Gen.ScanConvIdeal.Value
public import proofs.«01_k».proof.Proof.Gen.ScanConvRefIdeal.Read

@[expose] public section

set_option maxRecDepth 16384

noncomputable section

/-! # The update of the scan's convolution weights

The device's columns of all layers' weights, 16 rows of 192, in one block. -/

namespace Cert.ScanConv

open Idealize.ShloMosaic Idealize.ShloMosaic.TcCoe Idealize.ShloMosaic.Pointwise Idealize.SL.Sem Cert.Prod Cert.Adam
open Cert.ScanConvIdeal Cert.ScanConvIdeal.Gen Cert.ScanConvIdeal.Value

/-- The sum of the eight devices' blocks, at an entry. -/
theorem sum_at (x : Fin 8 → Vec Ideal S1x16x192 .bf16) (r : Fin 16) (j : Fin 192) :
    k0_pay1 (F := Ideal) (k0_pay5 (x 5)) (k0_pay6 (x 6)) (k0_pay7 (x 7)) (k0_pay8 (x 0) (x 1) (x 2) (x 3) (x 4)) (ix2 r j) = grad fun d => x d (ix3 0 r j) := by
  unfold grad
  rw [Fin.sum_univ_eight]
  pointwise [k0_pay1, k0_pay5, k0_pay6, k0_pay7, k0_pay8]

variable (m : (ℓ : Loc nD τ sig) → Buf (Elt Ideal) ℓ) (c : Dev nD)

/-- Which blocks a grid point reads and writes: its rows, of each device's gradient, the weight and the moments. -/
theorem idx : ∀ t : Fin cfg0.N,
    (win0_0.index t 0 = 0 ∧ win0_0.index t 1 = t.1 ∧ win0_0.index t 2 = 0) ∧
    (win0_1.index t 0 = 1 ∧ win0_1.index t 1 = t.1 ∧ win0_1.index t 2 = 0) ∧
    (win0_2.index t 0 = 2 ∧ win0_2.index t 1 = t.1 ∧ win0_2.index t 2 = 0) ∧
    (win0_3.index t 0 = 3 ∧ win0_3.index t 1 = t.1 ∧ win0_3.index t 2 = 0) ∧
    (win0_4.index t 0 = 4 ∧ win0_4.index t 1 = t.1 ∧ win0_4.index t 2 = 0) ∧
    (win0_5.index t 0 = 5 ∧ win0_5.index t 1 = t.1 ∧ win0_5.index t 2 = 0) ∧
    (win0_6.index t 0 = 6 ∧ win0_6.index t 1 = t.1 ∧ win0_6.index t 2 = 0) ∧
    (win0_7.index t 0 = 7 ∧ win0_7.index t 1 = t.1 ∧ win0_7.index t 2 = 0) ∧
    (win0_8.index t 0 = t.1 ∧ win0_8.index t 1 = 0) ∧
    (win0_9.index t 0 = t.1 ∧ win0_9.index t 1 = 0) ∧
    (win0_10.index t 0 = t.1 ∧ win0_10.index t 1 = 0) ∧
    (win0_11.index t 0 = t.1 ∧ win0_11.index t 1 = 0) ∧
    (win0_12.index t 0 = t.1 ∧ win0_12.index t 1 = 0) ∧
    (win0_13.index t 0 = t.1 ∧ win0_13.index t 1 = 0) ∧
    (win0_14.index t 0 = t.1 ∧ win0_14.index t 1 = 0) :=
  (by decide +kernel : ∀ t : Fin grid0.N, _)

/-- The eight devices' blocks at a grid point. -/
def slots (t : Fin cfg0.N) : Fin 8 → Vec Ideal S1x16x192 .bf16 :=
  ![iblk m c 0 t, iblk m c 1 t, iblk m c 2 t, iblk m c 3 t, iblk m c 4 t, iblk m c 5 t, iblk m c 6 t, iblk m c 7 t]

/-- An entry of a device's block. -/
theorem slot_at (t : Fin cfg0.N) (d : Fin 8) (r : Fin 16) (j : Fin 192) (R : Fin 16) (hR : R.1 = 16 * t.1 + r.1) :
    slots m c t d (ix3 0 r j) = (m ((c : Thread nD τ).loc main_arg0) : S8x16x192.Idx → EReal) (ix3 d R j) := by
  obtain ⟨i0, i1, i2, i3, i4, i5, i6, i7, -⟩ := idx t
  refine (?_ : _ = V m c main_arg0 (ix3 d R j)).trans (congrFun (V_main_arg0 m c) _)
  match d with
  | 0 => exact congrArg (V m c main_arg0) (at_slot ((cfg0.win 0).blk t).view.emb 0 r j R rfl rfl rfl i0 hR)
  | 1 => exact congrArg (V m c main_arg0) (at_slot ((cfg0.win 1).blk t).view.emb 1 r j R rfl rfl rfl i1 hR)
  | 2 => exact congrArg (V m c main_arg0) (at_slot ((cfg0.win 2).blk t).view.emb 2 r j R rfl rfl rfl i2 hR)
  | 3 => exact congrArg (V m c main_arg0) (at_slot ((cfg0.win 3).blk t).view.emb 3 r j R rfl rfl rfl i3 hR)
  | 4 => exact congrArg (V m c main_arg0) (at_slot ((cfg0.win 4).blk t).view.emb 4 r j R rfl rfl rfl i4 hR)
  | 5 => exact congrArg (V m c main_arg0) (at_slot ((cfg0.win 5).blk t).view.emb 5 r j R rfl rfl rfl i5 hR)
  | 6 => exact congrArg (V m c main_arg0) (at_slot ((cfg0.win 6).blk t).view.emb 6 r j R rfl rfl rfl i6 hR)
  | 7 => exact congrArg (V m c main_arg0) (at_slot ((cfg0.win 7).blk t).view.emb 7 r j R rfl rfl rfl i7 hR)

/-- What the kernel adds up at a grid point is the gradient. -/
theorem sum_whole (t : Fin cfg0.N) (r : Fin 16) (j : Fin 192) (R : Fin 16) (hR : R.1 = 16 * t.1 + r.1) :
    k0_pay1 (F := Ideal)
      (k0_pay9 (iblk m c 0 t) (iblk m c 1 t) (iblk m c 2 t) (iblk m c 3 t) (iblk m c 4 t) (iblk m c 5 t)
        (iblk m c 6 t) (iblk m c 7 t) (iblk m c 8 t) (iblk m c 9 t) (iblk m c 10 t))
      (k0_pay10 (iblk m c 0 t) (iblk m c 1 t) (iblk m c 2 t) (iblk m c 3 t) (iblk m c 4 t) (iblk m c 5 t)
        (iblk m c 6 t) (iblk m c 7 t) (iblk m c 8 t) (iblk m c 9 t) (iblk m c 10 t))
      (k0_pay11 (iblk m c 0 t) (iblk m c 1 t) (iblk m c 2 t) (iblk m c 3 t) (iblk m c 4 t) (iblk m c 5 t)
        (iblk m c 6 t) (iblk m c 7 t) (iblk m c 8 t) (iblk m c 9 t) (iblk m c 10 t))
      (k0_pay12 (iblk m c 0 t) (iblk m c 1 t) (iblk m c 2 t) (iblk m c 3 t) (iblk m c 4 t) (iblk m c 5 t)
        (iblk m c 6 t) (iblk m c 7 t) (iblk m c 8 t) (iblk m c 9 t) (iblk m c 10 t)) (ix2 r j) =
    grad fun d => (m ((c : Thread nD τ).loc main_arg0) : S8x16x192.Idx → EReal) (ix3 d R j) := by
  unfold k0_pay9 k0_pay10 k0_pay11 k0_pay12
  rw [View.ld_unit_zero zero3, View.ld_unit_zero zero3, View.ld_unit_zero zero3, View.ld_unit_zero zero3, View.ld_unit_zero zero3,
    View.ld_unit_zero zero3, View.ld_unit_zero zero3, View.ld_unit_zero zero3]
  exact (sum_at (slots m c t) r j).trans (congrArg grad (funext fun d => slot_at m c t d r j R hR))

/-- The four arrays that the run leaves, at an entry: the gradient, the step, the new mean and the new variance. -/
theorem whole (R : Fin 16) (J : Fin 192) (g w mu nu : EReal)
    (hg : g = grad fun d => (m ((c : Thread nD τ).loc main_arg0) : S8x16x192.Idx → EReal) (ix3 d R J))
    (hw : w = (m ((c : Thread nD τ).loc main_arg1) : S16x192.Idx → EReal) (ix2 R J))
    (hm : mu = (m ((c : Thread nD τ).loc main_arg2) : S16x192.Idx → EReal) (ix2 R J))
    (hv : nu = (m ((c : Thread nD τ).loc main_arg3) : S16x192.Idx → EReal) (ix2 R J)) :
    ((dats (F := Ideal) m 0 c).arrAt 11 cfg0.N : S16x192.Idx → EReal) (ix2 R J) = g ∧
    ((dats (F := Ideal) m 0 c).arrAt 12 cfg0.N : S16x192.Idx → EReal) (ix2 R J) = step g w mu nu ∧
    ((dats (F := Ideal) m 0 c).arrAt 13 cfg0.N : S16x192.Idx → EReal) (ix2 R J) = mean g mu ∧
    ((dats (F := Ideal) m 0 c).arrAt 14 cfg0.N : S16x192.Idx → EReal) (ix2 R J) = var g nu := by
  have hlt := R.isLt
  obtain ⟨t, ht⟩ : ∃ t : Fin cfg0.N, t.1 = R.1 / 16 := ⟨⟨_, lt_of_lt_of_eq (by omega) N_0.symm⟩, rfl⟩
  obtain ⟨r, hr⟩ : ∃ r : Fin 16, r.1 = R.1 % 16 := ⟨⟨R.1 % 16, by omega⟩, rfl⟩
  have hR : R.1 = 16 * t.1 + r.1 := by omega
  obtain ⟨-, -, -, -, -, -, -, -, i8, i9, i10, i11, i12, i13, i14⟩ := idx t
  have eg := (sum_whole m c t r J R hR).trans hg.symm
  have ew : (iblk m c 8 t : S16x192.Idx → EReal) (ix2 r J) = w := ((congrFun (V_main_arg1 m c) _).trans
    (congrArg (m ((c : Thread nD τ).loc main_arg1)) (at_rows ((cfg0.win 8).blk t).view.emb r J R rfl rfl i8 hR))).trans hw.symm
  have em : (iblk m c 9 t : S16x192.Idx → EReal) (ix2 r J) = mu := ((congrFun (V_main_arg2 m c) _).trans
    (congrArg (m ((c : Thread nD τ).loc main_arg2)) (at_rows ((cfg0.win 9).blk t).view.emb r J R rfl rfl i9 hR))).trans hm.symm
  have ev : (iblk m c 10 t : S16x192.Idx → EReal) (ix2 r J) = nu := ((congrFun (V_main_arg3 m c) _).trans
    (congrArg (m ((c : Thread nD τ).loc main_arg3)) (at_rows ((cfg0.win 10).blk t).view.emb r J R rfl rfl i10 hR))).trans hv.symm
  have hb := congrFun ((blocks11 m c t (flush0_11 t)).trans (flushed11 m c t)) (ix2 r J : S16x192.Idx)
  have hs := congrFun ((blocks12 m c t (flush0_12 t)).trans (flushed12 m c t)) (ix2 r J : S16x192.Idx)
  have hu := congrFun ((blocks13 m c t (flush0_13 t)).trans (flushed13 m c t)) (ix2 r J : S16x192.Idx)
  have hn := congrFun ((blocks14 m c t (flush0_14 t)).trans (flushed14 m c t)) (ix2 r J : S16x192.Idx)
  rw [View.read_apply, at_rows ((cfg0.win 11).blk t).view.emb r J R rfl rfl i11 hR] at hb
  rw [View.read_apply, at_rows ((cfg0.win 12).blk t).view.emb r J R rfl rfl i12 hR] at hs
  rw [View.read_apply, at_rows ((cfg0.win 13).blk t).view.emb r J R rfl rfl i13 hR] at hu
  rw [View.read_apply, at_rows ((cfg0.win 14).blk t).view.emb r J R rfl rfl i14 hR] at hn
  unfold out0_11 at hb
  unfold out0_12 at hs
  unfold out0_13 at hu
  unfold out0_14 at hn
  rw [View.canon_unit_zero zero2] at hb
  rw [View.canon_unit_zero zero2, View.ld_unit_zero zero2, View.ld_unit_zero zero2, View.ld_unit_zero zero2] at hs
  rw [View.canon_unit_zero zero2, View.ld_unit_zero zero2] at hu
  rw [View.canon_unit_zero zero2, View.ld_unit_zero zero2] at hn
  subst eg ew em ev
  exact ⟨hb, hs, hu, hn⟩

/-- The reference's four results, at an entry. -/
theorem ref_at (x0 : S8x16x192.Idx → EReal) (x1 x2 x3 : S16x192.Idx → EReal) (R : Fin 16) (J : Fin 192) (g : EReal)
    (hg : g = grad fun d => x0 (ix3 d R J)) :
    ScanConvRefIdeal.Read.val_main_v1 (F := Ideal) x0 (ix2 R J) = g ∧
    ScanConvRefIdeal.Read.val_main_v25 (F := Ideal) x0 x1 x2 x3 (ix2 R J) = step g (x1 (ix2 R J)) (x2 (ix2 R J)) (x3 (ix2 R J)) ∧
    ScanConvRefIdeal.Read.val_main_v6 (F := Ideal) x0 x2 (ix2 R J) = mean g (x2 (ix2 R J)) ∧
    ScanConvRefIdeal.Read.val_main_v12 (F := Ideal) x0 x3 (ix2 R J) = var g (x3 (ix2 R J)) := by
  have e : ScanConvRefIdeal.Read.val_main_v1 (F := Ideal) x0 (ix2 R J) = g := by
    rw [hg]
    unfold grad
    pointwise [ScanConvRefIdeal.Read.val_main_v1, ScanConvRefIdeal.Read.val_main_v0, ScanConvRefIdeal.Read.val_main_cst]
  subst e
  exact ⟨rfl, rfl, rfl, rfl⟩

end Cert.ScanConv

end
-- ==== Proof.AdamFfnConv.lean ====
module

public import proofs.«01_k».proof.Proof.Adam
public import proofs.«01_k».proof.Proof.Gen.FfnConvIdeal.Value
public import proofs.«01_k».proof.Proof.Gen.FfnConvRefIdeal.Read

@[expose] public section

set_option maxRecDepth 16384

noncomputable section

/-! # The update of the convolution weights between the projections

The device's columns of all layers' weights, 12 rows of 704, in one block. -/

namespace Cert.FfnConv

open Idealize.ShloMosaic Idealize.ShloMosaic.TcCoe Idealize.ShloMosaic.Pointwise Idealize.SL.Sem Cert.Prod Cert.Adam
open Cert.FfnConvIdeal Cert.FfnConvIdeal.Gen Cert.FfnConvIdeal.Value

/-- The sum of the eight devices' blocks, at an entry. -/
theorem sum_at (x : Fin 8 → Vec Ideal S1x12x704 .bf16) (r : Fin 12) (j : Fin 704) :
    k0_pay1 (F := Ideal) (k0_pay5 (x 5)) (k0_pay6 (x 6)) (k0_pay7 (x 7)) (k0_pay8 (x 0) (x 1) (x 2) (x 3) (x 4)) (ix2 r j) = grad fun d => x d (ix3 0 r j) := by
  unfold grad
  rw [Fin.sum_univ_eight]
  pointwise [k0_pay1, k0_pay5, k0_pay6, k0_pay7, k0_pay8]

variable (m : (ℓ : Loc nD τ sig) → Buf (Elt Ideal) ℓ) (c : Dev nD)

/-- Which blocks a grid point reads and writes: its rows, of each device's gradient, the weight and the moments. -/
theorem idx : ∀ t : Fin cfg0.N,
    (win0_0.index t 0 = 0 ∧ win0_0.index t 1 = t.1 ∧ win0_0.index t 2 = 0) ∧
    (win0_1.index t 0 = 1 ∧ win0_1.index t 1 = t.1 ∧ win0_1.index t 2 = 0) ∧
    (win0_2.index t 0 = 2 ∧ win0_2.index t 1 = t.1 ∧ win0_2.index t 2 = 0) ∧
    (win0_3.index t 0 = 3 ∧ win0_3.index t 1 = t.1 ∧ win0_3.index t 2 = 0) ∧
    (win0_4.index t 0 = 4 ∧ win0_4.index t 1 = t.1 ∧ win0_4.index t 2 = 0) ∧
    (win0_5.index t 0 = 5 ∧ win0_5.index t 1 = t.1 ∧ win0_5.index t 2 = 0) ∧
    (win0_6.index t 0 = 6 ∧ win0_6.index t 1 = t.1 ∧ win0_6.index t 2 = 0) ∧
    (win0_7.index t 0 = 7 ∧ win0_7.index t 1 = t.1 ∧ win0_7.index t 2 = 0) ∧
    (win0_8.index t 0 = t.1 ∧ win0_8.index t 1 = 0) ∧
    (win0_9.index t 0 = t.1 ∧ win0_9.index t 1 = 0) ∧
    (win0_10.index t 0 = t.1 ∧ win0_10.index t 1 = 0) ∧
    (win0_11.index t 0 = t.1 ∧ win0_11.index t 1 = 0) ∧
    (win0_12.index t 0 = t.1 ∧ win0_12.index t 1 = 0) ∧
    (win0_13.index t 0 = t.1 ∧ win0_13.index t 1 = 0) ∧
    (win0_14.index t 0 = t.1 ∧ win0_14.index t 1 = 0) :=
  (by decide +kernel : ∀ t : Fin grid0.N, _)

/-- The eight devices' blocks at a grid point. -/
def slots (t : Fin cfg0.N) : Fin 8 → Vec Ideal S1x12x704 .bf16 :=
  ![iblk m c 0 t, iblk m c 1 t, iblk m c 2 t, iblk m c 3 t, iblk m c 4 t, iblk m c 5 t, iblk m c 6 t, iblk m c 7 t]

/-- An entry of a device's block. -/
theorem slot_at (t : Fin cfg0.N) (d : Fin 8) (r : Fin 12) (j : Fin 704) (R : Fin 12) (hR : R.1 = 12 * t.1 + r.1) :
    slots m c t d (ix3 0 r j) = (m ((c : Thread nD τ).loc main_arg0) : S8x12x704.Idx → EReal) (ix3 d R j) := by
  obtain ⟨i0, i1, i2, i3, i4, i5, i6, i7, -⟩ := idx t
  refine (?_ : _ = V m c main_arg0 (ix3 d R j)).trans (congrFun (V_main_arg0 m c) _)
  match d with
  | 0 => exact congrArg (V m c main_arg0) (at_slot ((cfg0.win 0).blk t).view.emb 0 r j R rfl rfl rfl i0 hR)
  | 1 => exact congrArg (V m c main_arg0) (at_slot ((cfg0.win 1).blk t).view.emb 1 r j R rfl rfl rfl i1 hR)
  | 2 => exact congrArg (V m c main_arg0) (at_slot ((cfg0.win 2).blk t).view.emb 2 r j R rfl rfl rfl i2 hR)
  | 3 => exact congrArg (V m c main_arg0) (at_slot ((cfg0.win 3).blk t).view.emb 3 r j R rfl rfl rfl i3 hR)
  | 4 => exact congrArg (V m c main_arg0) (at_slot ((cfg0.win 4).blk t).view.emb 4 r j R rfl rfl rfl i4 hR)
  | 5 => exact congrArg (V m c main_arg0) (at_slot ((cfg0.win 5).blk t).view.emb 5 r j R rfl rfl rfl i5 hR)
  | 6 => exact congrArg (V m c main_arg0) (at_slot ((cfg0.win 6).blk t).view.emb 6 r j R rfl rfl rfl i6 hR)
  | 7 => exact congrArg (V m c main_arg0) (at_slot ((cfg0.win 7).blk t).view.emb 7 r j R rfl rfl rfl i7 hR)

/-- What the kernel adds up at a grid point is the gradient. -/
theorem sum_whole (t : Fin cfg0.N) (r : Fin 12) (j : Fin 704) (R : Fin 12) (hR : R.1 = 12 * t.1 + r.1) :
    k0_pay1 (F := Ideal)
      (k0_pay9 (iblk m c 0 t) (iblk m c 1 t) (iblk m c 2 t) (iblk m c 3 t) (iblk m c 4 t) (iblk m c 5 t)
        (iblk m c 6 t) (iblk m c 7 t) (iblk m c 8 t) (iblk m c 9 t) (iblk m c 10 t))
      (k0_pay10 (iblk m c 0 t) (iblk m c 1 t) (iblk m c 2 t) (iblk m c 3 t) (iblk m c 4 t) (iblk m c 5 t)
        (iblk m c 6 t) (iblk m c 7 t) (iblk m c 8 t) (iblk m c 9 t) (iblk m c 10 t))
      (k0_pay11 (iblk m c 0 t) (iblk m c 1 t) (iblk m c 2 t) (iblk m c 3 t) (iblk m c 4 t) (iblk m c 5 t)
        (iblk m c 6 t) (iblk m c 7 t) (iblk m c 8 t) (iblk m c 9 t) (iblk m c 10 t))
      (k0_pay12 (iblk m c 0 t) (iblk m c 1 t) (iblk m c 2 t) (iblk m c 3 t) (iblk m c 4 t) (iblk m c 5 t)
        (iblk m c 6 t) (iblk m c 7 t) (iblk m c 8 t) (iblk m c 9 t) (iblk m c 10 t)) (ix2 r j) =
    grad fun d => (m ((c : Thread nD τ).loc main_arg0) : S8x12x704.Idx → EReal) (ix3 d R j) := by
  unfold k0_pay9 k0_pay10 k0_pay11 k0_pay12
  rw [View.ld_unit_zero zero3, View.ld_unit_zero zero3, View.ld_unit_zero zero3, View.ld_unit_zero zero3, View.ld_unit_zero zero3,
    View.ld_unit_zero zero3, View.ld_unit_zero zero3, View.ld_unit_zero zero3]
  exact (sum_at (slots m c t) r j).trans (congrArg grad (funext fun d => slot_at m c t d r j R hR))

/-- The four arrays that the run leaves, at an entry: the gradient, the step, the new mean and the new variance. -/
theorem whole (R : Fin 12) (J : Fin 704) (g w mu nu : EReal)
    (hg : g = grad fun d => (m ((c : Thread nD τ).loc main_arg0) : S8x12x704.Idx → EReal) (ix3 d R J))
    (hw : w = (m ((c : Thread nD τ).loc main_arg1) : S12x704.Idx → EReal) (ix2 R J))
    (hm : mu = (m ((c : Thread nD τ).loc main_arg2) : S12x704.Idx → EReal) (ix2 R J))
    (hv : nu = (m ((c : Thread nD τ).loc main_arg3) : S12x704.Idx → EReal) (ix2 R J)) :
    ((dats (F := Ideal) m 0 c).arrAt 11 cfg0.N : S12x704.Idx → EReal) (ix2 R J) = g ∧
    ((dats (F := Ideal) m 0 c).arrAt 12 cfg0.N : S12x704.Idx → EReal) (ix2 R J) = step g w mu nu ∧
    ((dats (F := Ideal) m 0 c).arrAt 13 cfg0.N : S12x704.Idx → EReal) (ix2 R J) = mean g mu ∧
    ((dats (F := Ideal) m 0 c).arrAt 14 cfg0.N : S12x704.Idx → EReal) (ix2 R J) = var g nu := by
  have hlt := R.isLt
  obtain ⟨t, ht⟩ : ∃ t : Fin cfg0.N, t.1 = R.1 / 12 := ⟨⟨_, lt_of_lt_of_eq (by omega) N_0.symm⟩, rfl⟩
  obtain ⟨r, hr⟩ : ∃ r : Fin 12, r.1 = R.1 % 12 := ⟨⟨R.1 % 12, by omega⟩, rfl⟩
  have hR : R.1 = 12 * t.1 + r.1 := by omega
  obtain ⟨-, -, -, -, -, -, -, -, i8, i9, i10, i11, i12, i13, i14⟩ := idx t
  have eg := (sum_whole m c t r J R hR).trans hg.symm
  have ew : (iblk m c 8 t : S12x704.Idx → EReal) (ix2 r J) = w := ((congrFun (V_main_arg1 m c) _).trans
    (congrArg (m ((c : Thread nD τ).loc main_arg1)) (at_rows ((cfg0.win 8).blk t).view.emb r J R rfl rfl i8 hR))).trans hw.symm
  have em : (iblk m c 9 t : S12x704.Idx → EReal) (ix2 r J) = mu := ((congrFun (V_main_arg2 m c) _).trans
    (congrArg (m ((c : Thread nD τ).loc main_arg2)) (at_rows ((cfg0.win 9).blk t).view.emb r J R rfl rfl i9 hR))).trans hm.symm
  have ev : (iblk m c 10 t : S12x704.Idx → EReal) (ix2 r J) = nu := ((congrFun (V_main_arg3 m c) _).trans
    (congrArg (m ((c : Thread nD τ).loc main_arg3)) (at_rows ((cfg0.win 10).blk t).view.emb r J R rfl rfl i10 hR))).trans hv.symm
  have hb := congrFun ((blocks11 m c t (flush0_11 t)).trans (flushed11 m c t)) (ix2 r J : S12x704.Idx)
  have hs := congrFun ((blocks12 m c t (flush0_12 t)).trans (flushed12 m c t)) (ix2 r J : S12x704.Idx)
  have hu := congrFun ((blocks13 m c t (flush0_13 t)).trans (flushed13 m c t)) (ix2 r J : S12x704.Idx)
  have hn := congrFun ((blocks14 m c t (flush0_14 t)).trans (flushed14 m c t)) (ix2 r J : S12x704.Idx)
  rw [View.read_apply, at_rows ((cfg0.win 11).blk t).view.emb r J R rfl rfl i11 hR] at hb
  rw [View.read_apply, at_rows ((cfg0.win 12).blk t).view.emb r J R rfl rfl i12 hR] at hs
  rw [View.read_apply, at_rows ((cfg0.win 13).blk t).view.emb r J R rfl rfl i13 hR] at hu
  rw [View.read_apply, at_rows ((cfg0.win 14).blk t).view.emb r J R rfl rfl i14 hR] at hn
  unfold out0_11 at hb
  unfold out0_12 at hs
  unfold out0_13 at hu
  unfold out0_14 at hn
  rw [View.canon_unit_zero zero2] at hb
  rw [View.canon_unit_zero zero2, View.ld_unit_zero zero2, View.ld_unit_zero zero2, View.ld_unit_zero zero2] at hs
  rw [View.canon_unit_zero zero2, View.ld_unit_zero zero2] at hu
  rw [View.canon_unit_zero zero2, View.ld_unit_zero zero2] at hn
  subst eg ew em ev
  exact ⟨hb, hs, hu, hn⟩

/-- The reference's four results, at an entry. -/
theorem ref_at (x0 : S8x12x704.Idx → EReal) (x1 x2 x3 : S12x704.Idx → EReal) (R : Fin 12) (J : Fin 704) (g : EReal)
    (hg : g = grad fun d => x0 (ix3 d R J)) :
    FfnConvRefIdeal.Read.val_main_v1 (F := Ideal) x0 (ix2 R J) = g ∧
    FfnConvRefIdeal.Read.val_main_v25 (F := Ideal) x0 x1 x2 x3 (ix2 R J) = step g (x1 (ix2 R J)) (x2 (ix2 R J)) (x3 (ix2 R J)) ∧
    FfnConvRefIdeal.Read.val_main_v6 (F := Ideal) x0 x2 (ix2 R J) = mean g (x2 (ix2 R J)) ∧
    FfnConvRefIdeal.Read.val_main_v12 (F := Ideal) x0 x3 (ix2 R J) = var g (x3 (ix2 R J)) := by
  have e : FfnConvRefIdeal.Read.val_main_v1 (F := Ideal) x0 (ix2 R J) = g := by
    rw [hg]
    unfold grad
    pointwise [FfnConvRefIdeal.Read.val_main_v1, FfnConvRefIdeal.Read.val_main_v0, FfnConvRefIdeal.Read.val_main_cst]
  subst e
  exact ⟨rfl, rfl, rfl, rfl⟩

end Cert.FfnConv

end
-- ==== Proof.AdamClaims.lean ====
module

public import proofs.«01_k».proof.Defs
public import proofs.«01_k».proof.Proof.Gen.Small.Frame
public import proofs.«01_k».proof.Proof.Gen.SmallIdeal.Frame
public import proofs.«01_k».proof.Proof.Gen.SmallRefIdeal.Run
public import proofs.«01_k».proof.Proof.AdamSmall
public import proofs.«01_k».proof.Proof.Gen.ScanConv.Frame
public import proofs.«01_k».proof.Proof.Gen.ScanConvIdeal.Frame
public import proofs.«01_k».proof.Proof.Gen.ScanConvRefIdeal.Run
public import proofs.«01_k».proof.Proof.AdamScanConv
public import proofs.«01_k».proof.Proof.Gen.FfnConv.Frame
public import proofs.«01_k».proof.Proof.Gen.FfnConvIdeal.Frame
public import proofs.«01_k».proof.Proof.Gen.FfnConvRefIdeal.Run
public import proofs.«01_k».proof.Proof.AdamFfnConv
public import Idealize.ShloMosaic.Adequacy
public import Idealize.ShloMosaic.Init

@[expose] public section

noncomputable section

/-! # What is claimed of the weight updates

Each call leaves, on every device, the four arrays that its reference leaves: the gradient, the step and the two moments have the
same entries (`whole` of the call's module, and `ref_at`). -/

namespace Cert.Proof

open Idealize.ShloMosaic Idealize.ShloMosaic.Pointwise Idealize.ShloMosaic.TcCoe Idealize.ShloMosaic.StableHlo Idealize.SL.Sem
open Cert.Prod

/-- The update of the replicated weights leaves the reference's four results. -/
theorem algebraic_Small : Cert.algebraic_SmallIdeal_SmallRefIdeal := by
  intro m g m' g' _ hargs
  refine ⟨fun c => (SmallIdeal.Gen.dats m 0 c).arrAt 11 SmallIdeal.cfg0.N, fun c => (SmallIdeal.Gen.dats m 0 c).arrAt 12 SmallIdeal.cfg0.N,
    fun c => (SmallIdeal.Gen.dats m 0 c).arrAt 13 SmallIdeal.cfg0.N, fun c => (SmallIdeal.Gen.dats m 0 c).arrAt 14 SmallIdeal.cfg0.N,
    SmallIdeal.Value.run_blocks m g, ?_⟩
  refine (θ_run _ _ _).mono (fun r h c => ?_) (SmallRefIdeal.Value.run (F := Ideal) m' g')
  obtain ⟨h0, h1, h2, h3, h4⟩ := h c
  obtain ⟨a0, a1, a2, a3⟩ := hargs c
  have k := fun R J => Small.whole m c R J _ _ _ _ rfl rfl rfl rfl
  have q := fun R J => Small.ref_at (m ((c.tc : Thread _ _).loc SmallIdeal.main_arg0)) (m ((c.tc : Thread _ _).loc SmallIdeal.main_arg1))
    (m ((c.tc : Thread _ _).loc SmallIdeal.main_arg2)) (m ((c.tc : Thread _ _).loc SmallIdeal.main_arg3)) R J _ rfl
  refine ⟨h0.trans ((SmallRefIdeal.Read.val_main_v0_eq _).trans ?_), h1.trans ((SmallRefIdeal.Read.val_main_v24_eq _ _ _ _).trans ?_),
    h2.trans ((SmallRefIdeal.Read.val_main_v5_eq _ _).trans ?_), h3.trans ((SmallRefIdeal.Read.val_main_v11_eq _ _).trans ?_), h4⟩
  · rw [a0]; exact mat_ext fun R J => (q R J).1.trans (k R J).1.symm
  · rw [a0, a1, a2, a3]; exact mat_ext fun R J => (q R J).2.1.trans (k R J).2.1.symm
  · rw [a0, a2]; exact mat_ext fun R J => (q R J).2.2.1.trans (k R J).2.2.1.symm
  · rw [a0, a3]; exact mat_ext fun R J => (q R J).2.2.2.trans (k R J).2.2.2.symm

/-- The update of the scan's convolution weights leaves the reference's four results. -/
theorem algebraic_ScanConv : Cert.algebraic_ScanConvIdeal_ScanConvRefIdeal := by
  intro m g m' g' _ hargs
  refine ⟨fun c => (ScanConvIdeal.Gen.dats m 0 c).arrAt 11 ScanConvIdeal.cfg0.N, fun c => (ScanConvIdeal.Gen.dats m 0 c).arrAt 12 ScanConvIdeal.cfg0.N,
    fun c => (ScanConvIdeal.Gen.dats m 0 c).arrAt 13 ScanConvIdeal.cfg0.N, fun c => (ScanConvIdeal.Gen.dats m 0 c).arrAt 14 ScanConvIdeal.cfg0.N,
    ScanConvIdeal.Value.run_blocks m g, ?_⟩
  refine (θ_run _ _ _).mono (fun r h c => ?_) (ScanConvRefIdeal.Value.run (F := Ideal) m' g')
  obtain ⟨h0, h1, h2, h3, h4⟩ := h c
  obtain ⟨a0, a1, a2, a3⟩ := hargs c
  have k := fun R J => ScanConv.whole m c R J _ _ _ _ rfl rfl rfl rfl
  have q := fun R J => ScanConv.ref_at (m ((c.tc : Thread _ _).loc ScanConvIdeal.main_arg0)) (m ((c.tc : Thread _ _).loc ScanConvIdeal.main_arg1))
    (m ((c.tc : Thread _ _).loc ScanConvIdeal.main_arg2)) (m ((c.tc : Thread _ _).loc ScanConvIdeal.main_arg3)) R J _ rfl
  refine ⟨h0.trans ((ScanConvRefIdeal.Read.val_main_v1_eq _).trans ?_), h1.trans ((ScanConvRefIdeal.Read.val_main_v25_eq _ _ _ _).trans ?_),
    h2.trans ((ScanConvRefIdeal.Read.val_main_v6_eq _ _).trans ?_), h3.trans ((ScanConvRefIdeal.Read.val_main_v12_eq _ _).trans ?_), h4⟩
  · rw [a0]; exact mat_ext fun R J => (q R J).1.trans (k R J).1.symm
  · rw [a0, a1, a2, a3]; exact mat_ext fun R J => (q R J).2.1.trans (k R J).2.1.symm
  · rw [a0, a2]; exact mat_ext fun R J => (q R J).2.2.1.trans (k R J).2.2.1.symm
  · rw [a0, a3]; exact mat_ext fun R J => (q R J).2.2.2.trans (k R J).2.2.2.symm

/-- The update of the convolution weights between the projections leaves the reference's four results. -/
theorem algebraic_FfnConv : Cert.algebraic_FfnConvIdeal_FfnConvRefIdeal := by
  intro m g m' g' _ hargs
  refine ⟨fun c => (FfnConvIdeal.Gen.dats m 0 c).arrAt 11 FfnConvIdeal.cfg0.N, fun c => (FfnConvIdeal.Gen.dats m 0 c).arrAt 12 FfnConvIdeal.cfg0.N,
    fun c => (FfnConvIdeal.Gen.dats m 0 c).arrAt 13 FfnConvIdeal.cfg0.N, fun c => (FfnConvIdeal.Gen.dats m 0 c).arrAt 14 FfnConvIdeal.cfg0.N,
    FfnConvIdeal.Value.run_blocks m g, ?_⟩
  refine (θ_run _ _ _).mono (fun r h c => ?_) (FfnConvRefIdeal.Value.run (F := Ideal) m' g')
  obtain ⟨h0, h1, h2, h3, h4⟩ := h c
  obtain ⟨a0, a1, a2, a3⟩ := hargs c
  have k := fun R J => FfnConv.whole m c R J _ _ _ _ rfl rfl rfl rfl
  have q := fun R J => FfnConv.ref_at (m ((c.tc : Thread _ _).loc FfnConvIdeal.main_arg0)) (m ((c.tc : Thread _ _).loc FfnConvIdeal.main_arg1))
    (m ((c.tc : Thread _ _).loc FfnConvIdeal.main_arg2)) (m ((c.tc : Thread _ _).loc FfnConvIdeal.main_arg3)) R J _ rfl
  refine ⟨h0.trans ((FfnConvRefIdeal.Read.val_main_v1_eq _).trans ?_), h1.trans ((FfnConvRefIdeal.Read.val_main_v25_eq _ _ _ _).trans ?_),
    h2.trans ((FfnConvRefIdeal.Read.val_main_v6_eq _ _).trans ?_), h3.trans ((FfnConvRefIdeal.Read.val_main_v12_eq _ _).trans ?_), h4⟩
  · rw [a0]; exact mat_ext fun R J => (q R J).1.trans (k R J).1.symm
  · rw [a0, a1, a2, a3]; exact mat_ext fun R J => (q R J).2.1.trans (k R J).2.1.symm
  · rw [a0, a2]; exact mat_ext fun R J => (q R J).2.2.1.trans (k R J).2.2.1.symm
  · rw [a0, a3]; exact mat_ext fun R J => (q R J).2.2.2.trans (k R J).2.2.2.symm

end Cert.Proof

end
-- ==== Proof.Chain.lean ====
module

public import proofs.«01_k».proof.Proof.Adam
public import Idealize.ShloMosaic.Lib.Pipeline.Cells

@[expose] public section

set_option maxRecDepth 16384

noncomputable section

/-! # What the updates that go layer by layer share

A weight of four layers is updated by four calls, the last layer's first. A call writes its layer's rows of the four results and
leaves the other rows as the call before it wrote them. Here is one call as a statement about rows, and the four of them together. -/

namespace Cert.Adam

open Idealize.ShloMosaic Idealize.ShloMosaic.TcCoe Idealize.ShloMosaic.Pipeline Cert.Prod

/-- The four results of an entry: the gradient, the step, the new mean and the new variance. -/
def upd (g w m v : EReal) : Fin 4 → EReal := ![g, step g w m v, mean g m, var g v]

/-- What a load of a staged block of one device's gradients reads. -/
def load3 {sig : RefSig} {a b : ℕ} {e : EltTy} (M : Memref sig .tc .vmem ⟨3, ![1, a, b]⟩ e) (h : M.IsWhole)
    (inb : ∀ i, (![0, 0, 0] : Fin 3 → ℕ) i + (![1, a, b] : Fin 3 → ℕ) i ≤ (![1, a, b] : Fin 3 → ℕ) i) (x : Vec Ideal ⟨3, ![1, a, b]⟩ e) :
    Vec Ideal ⟨3, ![1, a, b]⟩ e :=
  View.readAt (Elt Ideal) M.view (Rect.unit (s := ⟨3, ![1, a, b]⟩) ![0, 0, 0] ![1, a, b] inb).toLoadRect (h.unread x)

/-- It is the block. -/
theorem load3_eq {sig : RefSig} {a b : ℕ} {e : EltTy} (M : Memref sig .tc .vmem ⟨3, ![1, a, b]⟩ e) (h : M.IsWhole)
    (inb : ∀ i, (![0, 0, 0] : Fin 3 → ℕ) i + (![1, a, b] : Fin 3 → ℕ) i ≤ (![1, a, b] : Fin 3 → ℕ) i) (x : Vec Ideal ⟨3, ![1, a, b]⟩ e) :
    load3 M h inb x = x :=
  read_whole M h zero3 inb x

/-- What a load of a staged block of rows reads. -/
def load2 {sig : RefSig} {a b : ℕ} {e : EltTy} (M : Memref sig .tc .vmem ⟨2, ![a, b]⟩ e) (h : M.IsWhole)
    (inb : ∀ i, (![0, 0] : Fin 2 → ℕ) i + (![a, b] : Fin 2 → ℕ) i ≤ (![a, b] : Fin 2 → ℕ) i) (x : Vec Ideal ⟨2, ![a, b]⟩ e) :
    Vec Ideal ⟨2, ![a, b]⟩ e :=
  View.readAt (Elt Ideal) M.view (Rect.unit (s := ⟨2, ![a, b]⟩) ![0, 0] ![a, b] inb).toLoadRect (h.unread x)

/-- It is the block. -/
theorem load2_eq {sig : RefSig} {a b : ℕ} {e : EltTy} (M : Memref sig .tc .vmem ⟨2, ![a, b]⟩ e) (h : M.IsWhole)
    (inb : ∀ i, (![0, 0] : Fin 2 → ℕ) i + (![a, b] : Fin 2 → ℕ) i ≤ (![a, b] : Fin 2 → ℕ) i) (x : Vec Ideal ⟨2, ![a, b]⟩ e) :
    load2 M h inb x = x :=
  read_whole M h zero2 inb x

/-- A block index on three axes from its list. -/
theorem of3 {f : Fin 3 → ℕ} {x p y : ℕ} (h : List.ofFn f = [x, p, y]) : f 0 = x ∧ f 1 = p ∧ f 2 = y := by
  simpa [List.ofFn_succ] using h

/-- A block index on two axes from its list. -/
theorem of2 {f : Fin 2 → ℕ} {p y : ℕ} (h : List.ofFn f = [p, y]) : f 0 = p ∧ f 1 = y := by
  simpa [List.ofFn_succ] using h

/-- Points of different block indices, from the list of a block's index. -/
theorem apart {n : ℕ} {f : Fin n → Fin 2 → ℕ} {k : ℕ} (h : ∀ t, List.ofFn (f t) = [k + t.1, 0]) (t t' : Fin n) (e : f t = f t') : t = t' := by
  have h' := congrArg List.ofFn e
  rw [h, h] at h'
  exact Fin.ext (by simpa using h')

section Written

variable {nD : Nat} {τ : Topo} {sig : RefSig} {Val : EltTy → Type}
variable {Ix : Type} [DecidableEq Ix] {Name : Type} [DecidableEq Name] {U : Type} [Idealize.SL.RA.URA U] {Lvl : Type}
variable {Λ₀ : Idealize.SL.Sem.Labels} {cfg : Cfg sig Λ₀} {c : Dev nD} (dat : Dat τ Val Ix Name U Lvl cfg c)

/-- An output whose points write different blocks: the array left, read through a point's block, is what the point wrote. -/
theorem written (w : Fin cfg.W) (ho : (cfg.win w).isOut = true) (hf : ∀ t : Fin cfg.N, (cfg.win w).flush t = true)
    (hi : ∀ t t' : Fin cfg.N, (cfg.win w).index t = (cfg.win w).index t' → t = t') (t : Fin cfg.N) :
    ((cfg.win w).blk t).view.read Val (dat.arrAt w cfg.N) = dat.flushed w t :=
  dat.read_blk_arrAt_eq_flushed w (fun t t' _ _ hne => (cfg.win w).disjoint_blk (fun h => hne (hi t t' h)) ((cfg.win w).kind_out ho))
    cfg.N t t.isLt (hf t)

/-- An entry in no point's block is as it was. -/
theorem unwritten (w : Fin cfg.W) (i : ((cfg.win w).arr.view.loc (c.tc : Thread nD τ)).2.ty.Idx)
    (h : ∀ (t : Fin cfg.N) (y : ((cfg.win w).xblock (cfg.grid.coords t)).Idx), ((cfg.win w).blk t).view.emb y ≠ i) :
    dat.arrAt w cfg.N i = dat.A w i :=
  dat.arrAt_apply_of_forall_not_mem w cfg.N i fun t _ _ hm => by
    obtain ⟨y, hy⟩ := View.exists_emb_of_mem_set _ hm
    exact h t y hy

end Written

/-- An array of `A` rows. -/
abbrev Mat (A b : ℕ) : Type := (⟨2, ![A, b]⟩ : Shape).Idx → EReal

/-- One call: rows `lo` to `hi` of the four results are new, the others as before. -/
structure Pass {A b : ℕ} (lo hi : ℕ) (new : Fin A → Fin b → Fin 4 → EReal) (before after : Fin 4 → Mat A b) : Prop where
  /-- The rows of the call's layer. -/
  rows : ∀ q R J, lo ≤ R.1 → R.1 < hi → after q (ix2 R J) = new R J q
  /-- The other rows. -/
  rest : ∀ q R J, R.1 < lo ∨ hi ≤ R.1 → after q (ix2 R J) = before q (ix2 R J)

/-- One result of a call: point `t` of `n` writes `blk t`, `a` rows, as block `first + t`; entries in no block are as before. -/
structure Wrote {n a A b : ℕ} (first : ℕ) (blk : Fin n → Mat a b) (before after : Mat A b) : Prop where
  /-- An entry of a block. -/
  hit : ∀ t r j (R : Fin A), R.1 = a * (first + t.1) + r.1 → after (ix2 R j) = blk t (ix2 r j)
  /-- An entry of a row that no block has. -/
  miss : ∀ (R : Fin A) J, (∀ (t : Fin n) (r : Fin a), R.1 ≠ a * (first + t.1) + r.1) → after (ix2 R J) = before (ix2 R J)

/-- One result of a call from where its blocks lie. -/
theorem Wrote.of {n a A b first : ℕ} {blk : Fin n → Mat a b} {before after : Mat A b}
    (e : Fin n → (⟨2, ![a, b]⟩ : Shape).Idx → (⟨2, ![A, b]⟩ : Shape).Idx) {p y : Fin n → ℕ}
    (h0 : ∀ t r j, (e t (ix2 r j) 0).val = p t * a + 1 * r.val) (h1 : ∀ t r j, (e t (ix2 r j) 1).val = y t * b + 1 * j.val)
    (hp : ∀ t, p t = first + t.1 ∧ y t = 0) (hin : ∀ t y, after (e t y) = blk t y)
    (hout : ∀ i, (∀ t y, e t y ≠ i) → after i = before i) : Wrote first blk before after where
  hit t r j R hR := by
    rw [← at_rows (e t) r j R (h0 t r j) (h1 t r j) (hp t) hR]
    exact hin t _
  miss R J h := hout _ fun t y hy => by
    obtain ⟨r, j, rfl⟩ : ∃ r j, y = ix2 r j := ⟨_, _, ValueIdx.eq_ix2 y⟩
    refine h t r ?_
    have k := h0 t r j
    rw [hy, (hp t).1, Nat.mul_comm, Nat.one_mul] at k
    exact k

/-- A call from what it wrote of each result. -/
theorem Pass.of_wrote {n a A b first lo hi : ℕ} {new : Fin A → Fin b → Fin 4 → EReal} {before after : Fin 4 → Mat A b}
    {blk : Fin 4 → Fin n → Mat a b} (ha : 0 < a) (hlo : lo = a * first) (hhi : hi = a * (first + n))
    (hw : ∀ q, Wrote first (blk q) (before q) (after q))
    (hnew : ∀ q t r j (R : Fin A), R.1 = a * (first + t.1) + r.1 → blk q t (ix2 r j) = new R j q) :
    Pass lo hi new before after where
  rows q R J h h' := by
    subst hlo hhi
    have hle := (Nat.le_div_iff_mul_le ha).mpr ((Nat.mul_comm _ _).trans_le h)
    have h1 : R.1 / a - first < n := by
      have := (Nat.div_lt_iff_lt_mul ha).mpr (lt_of_lt_of_eq h' (Nat.mul_comm _ _))
      omega
    have hR : R.1 = a * (first + (R.1 / a - first)) + R.1 % a := by
      rw [Nat.add_sub_cancel' hle, Nat.div_add_mod]
    rw [(hw q).hit ⟨_, h1⟩ ⟨R.1 % a, Nat.mod_lt _ ha⟩ J R hR]
    exact hnew q ⟨_, h1⟩ ⟨R.1 % a, Nat.mod_lt _ ha⟩ J R hR
  rest q R J h := by
    subst hlo hhi
    refine (hw q).miss R J fun t r hR => ?_
    have hr := r.isLt
    have ht := t.isLt
    have hb : a * (first + t.1) + a ≤ a * (first + n) := by
      rw [← Nat.mul_succ]
      exact Nat.mul_le_mul_left a (by omega)
    have hb' : a * first ≤ a * (first + t.1) := Nat.mul_le_mul_left a (by omega)
    omega

/-- Results from equal gradients, weights and moments. -/
theorem upd_congr {g g' w w' m m' v v' : EReal} (hg : g = g') (hw : w = w') (hm : m = m') (hv : v = v') (q : Fin 4) :
    upd g w m v q = upd g' w' m' v' q := by
  rw [hg, hw, hm, hv]

/-- What the entries of a layer become, from the layer's gradients on the eight devices and what the weight and the moments hold. -/
def New {A b r : ℕ} (new : Fin A → Fin b → Fin 4 → EReal) (layer : ℕ) (s : (⟨3, ![8, r, b]⟩ : Shape).Idx → EReal) (w m v : Mat A b) : Prop :=
  ∀ (R : Fin A) (Q : Fin r) J q, R.1 = r * layer + Q.1 →
    new R J q = upd (grad fun d => s (ix3 d Q J)) (w (ix2 R J)) (m (ix2 R J)) (v (ix2 R J)) q

/-- A call from where its blocks lie and from what a point does with an entry of them. -/
theorem Pass.of_call {n a A b r first layer : ℕ} {new : Fin A → Fin b → Fin 4 → EReal} {before after : Fin 4 → Mat A b}
    {s : (⟨3, ![8, r, b]⟩ : Shape).Idx → EReal} {w m v : Mat A b} {sb : Fin n → Fin 8 → (⟨3, ![1, a, b]⟩ : Shape).Idx → EReal}
    {wb mb vb : Fin n → Mat a b} {blk : Fin n → Fin 4 → Mat a b} (ha : 0 < a) (hr : r = a * n) (hf : first = n * layer)
    (hw : ∀ q, Wrote first (blk · q) (before q) (after q))
    (hp : ∀ t q i j, blk t q (ix2 i j) = upd (grad fun d => sb t d (ix3 0 i j)) (wb t (ix2 i j)) (mb t (ix2 i j)) (vb t (ix2 i j)) q)
    (hs : ∀ t d i j Q, Q.1 = a * t.1 + i.1 → sb t d (ix3 0 i j) = s (ix3 d Q j))
    (h0 : ∀ t i j R, R.1 = a * (first + t.1) + i.1 → wb t (ix2 i j) = w (ix2 R j))
    (h1 : ∀ t i j R, R.1 = a * (first + t.1) + i.1 → mb t (ix2 i j) = m (ix2 R j))
    (h2 : ∀ t i j R, R.1 = a * (first + t.1) + i.1 → vb t (ix2 i j) = v (ix2 R j))
    (hn : New new layer s w m v) : Pass (layer * r) ((layer + 1) * r) new before after := by
  subst hr hf
  refine .of_wrote (first := n * layer) ha (by ring) (by ring) hw fun q t i j R hR => ?_
  have ht : a * t.1 + i.1 < a * n := by
    have := Nat.mul_le_mul_left a (Nat.succ_le_of_lt t.isLt)
    rw [Nat.mul_succ] at this
    omega
  refine (hp t q i j).trans (.trans ?_ (hn R ⟨_, ht⟩ j q (by rw [hR]; ring)).symm)
  exact upd_congr (congrArg grad (funext fun d => hs t d i j ⟨_, ht⟩ rfl)) (h0 t i j R hR) (h1 t i j R hR) (h2 t i j R hR) q

/-- The four calls together write every row. -/
theorem chain {A b r : ℕ} {new : Fin A → Fin b → Fin 4 → EReal} {x0 x1 x2 x3 x4 : Fin 4 → Mat A b} (hA : A = 4 * r)
    (p3 : Pass (3 * r) (4 * r) new x0 x1) (p2 : Pass (2 * r) (3 * r) new x1 x2) (p1 : Pass r (2 * r) new x2 x3)
    (p0 : Pass 0 r new x3 x4) (q : Fin 4) (R : Fin A) (J : Fin b) : x4 q (ix2 R J) = new R J q := by
  have hR := R.isLt
  by_cases h0 : R.1 < r
  · exact p0.rows q R J (Nat.zero_le _) h0
  rw [p0.rest q R J (.inr (by omega))]
  by_cases h1 : R.1 < 2 * r
  · exact p1.rows q R J (by omega) h1
  rw [p1.rest q R J (.inr (by omega))]
  by_cases h2 : R.1 < 3 * r
  · exact p2.rows q R J (by omega) h2
  rw [p2.rest q R J (.inr (by omega))]
  exact p3.rows q R J (by omega) (by omega)

/-- Four layers' gradients joined: row `r k + Q` is row `Q` of layer `k`. -/
theorem joined {r A b : ℕ} (x0 x1 x2 x3 : (⟨3, ![8, r, b]⟩ : Shape).Idx → EReal)
    (h : Shape.Concatenates [⟨3, ![8, r, b]⟩, ⟨3, ![8, r, b]⟩, ⟨3, ![8, r, b]⟩, ⟨3, ![8, r, b]⟩] ⟨3, ![8, A, b]⟩ 1) (k : Fin 4) (d : Fin 8)
    (Q : Fin r) (J : Fin b) (R : Fin A) (hR : R.1 = r * k.1 + Q.1) :
    concatenate ⟨3, ![8, A, b]⟩ 1 [⟨⟨3, ![8, r, b]⟩, x0⟩, ⟨⟨3, ![8, r, b]⟩, x1⟩, ⟨⟨3, ![8, r, b]⟩, x2⟩, ⟨⟨3, ![8, r, b]⟩, x3⟩] h (ix3 d R J) =
      (![x0, x1, x2, x3] : Fin 4 → _) k (ix3 d Q J) := by
  have hQ := Q.isLt
  have same : ∀ (x : (⟨3, ![8, r, b]⟩ : Shape).Idx → EReal) (i : (⟨3, ![8, r, b]⟩ : Shape).Idx),
      (i 0).val = d.val → (i 1).val = Q.val → (i 2).val = J.val → x i = x (ix3 d Q J) := by
    intro x i h0 h1 h2
    refine congrArg x (funext fun t => Fin.ext ?_)
    match t with
    | 0 => exact h0
    | 1 => exact h1
    | 2 => exact h2
  match k with
  | 0 =>
    replace hR : R.1 = r * 0 + Q.1 := hR
    pointwise []
    rw [dif_pos (by omega)]
    exact same _ _ rfl (show R.1 = Q.1 by omega) rfl
  | 1 =>
    replace hR : R.1 = r * 1 + Q.1 := hR
    pointwise []
    rw [dif_neg (by omega), dif_pos (by omega)]
    exact same _ _ rfl (show R.1 - r = Q.1 by omega) rfl
  | 2 =>
    replace hR : R.1 = r * 2 + Q.1 := hR
    pointwise []
    rw [dif_neg (by omega), dif_neg (by omega), dif_pos (by omega)]
    exact same _ _ rfl (show R.1 - r - r = Q.1 by omega) rfl
  | 3 =>
    replace hR : R.1 = r * 3 + Q.1 := hR
    pointwise []
    rw [dif_neg (by omega), dif_neg (by omega), dif_neg (by omega)]
    exact same _ _ rfl (show R.1 - r - r - r = Q.1 by omega) rfl

end Cert.Adam

end
-- ==== Proof.Runs.lean ====
module

public import Idealize.ShloMosaic.Lib.Pipeline.Kit
public import Idealize.ShloMosaic.Lib.Pipeline.Regions
public import proofs.«01_k».proof.Proof.Adam

@[expose] public section

noncomputable section

/-! # How several calls in a row run -/

namespace Cert.Adam

open Idealize.ShloMosaic Idealize.ShloMosaic.TcCoe Idealize.ShloMosaic.Rounds Idealize.ShloMosaic.Pipeline
open Idealize.SL Idealize.SL.RA Idealize.SL.BI Idealize.SL.BI.BIBase Idealize.SL.BI.Laws Idealize.SL.ProofMode Idealize.SL.Sem
open scoped Idealize.SL.BI

variable {nD : ℕ} {τ : Topo} {sig : RefSig} {Λ₀ : Labels} {P : Type} [Fintype P] [DecidableEq P]

set_option backward.isDefEq.respectTransparency.types false in
/-- Calls with host operations between them, each core on its own: if the pieces follow one another from the launch contents to the
contents `W`, every run ends, with every array as `W` has it. -/
theorem runs (pcs : P → PCfg sig Λ₀ (Elt Ideal)) (a : (p : P) → (pcs p).Adm)
    (dats : (p : P) → (c : Dev nD) → Dat τ (Elt Ideal) Unit ℕ (URounds (GSem nD τ sig) Unit) ℕ (pin pcs a p) c)
    (inj : Function.Injective (cellOf (nD := nD) (τ := τ) (pin pcs a)))
    (defs₀ : Defs nD τ sig (Elt Ideal) Λ₀) (m : (ℓ : Loc nD τ sig) → Buf (Elt Ideal) ℓ) (ρ : Dev nD → PrngReg)
    (main : Dev nD → Prog (TpuEff nD τ sig (Elt Ideal) (Sig Λ₀ P fun p => (pcs p).Adm) .tc) PUnit)
    (segs : List (Seg pcs a dats () defs₀ Variants.none (fun _ => ∅) (fun _ _ => 0)))
    (hmain : ∀ c, main c = Seg.run segs) (hnd : (Seg.pipes segs).Nodup) (W0 W : Dev nD → Valuation τ sig (Elt Ideal))
    (hW0 : ∀ c (b : Ref sig .tc), W0 c (Proc.devRef .tc b) = m ((c : Thread nD τ).loc b))
    (hch : Seg.Chains (fun c => iprop(StableHlo.held (c : Thread nD τ) (ucRefs τ sig) (W0 c)
        ∗ (∃ r, prngReg c r) ∗ ∃ W', owes (c : Thread nD τ) (0 : CellTallies nD τ sig Unit) W')) segs
      (fun c => iprop((StableHlo.held (c : Thread nD τ) (ucRefs τ sig) (W c) ∗ ∃ r, prngReg c r)
        ∗ ∃ W', owes (c : Thread nD τ) (0 : CellTallies nD τ sig Unit) W'))) :
    θ_run (Pipeline.defs pcs defs₀) (onTc main) ⟨m, fun _ => 0, ρ⟩ fun r => ∀ c : Dev nD, ∀ b ∈ ucRefs τ sig, r.2.mem ((c : Thread nD τ).1, b) = W c b := by
  refine θ_run_regions_kit pcs a dats () inj emb₁ defs₀ Variants.none (fun _ => ∅) (fun _ _ => 0) m ρ main segs
    (fun c Q => by rw [hmain c]) hnd (O₀ := 0) (hL := fun _ _ => rfl) (G := fun _ => iprop(emp))
    (u₀ := initOf (cells (pin pcs a) inj) (launchToks (pin pcs a) inj)) (hu₀ := ?_)
    (T₀ := fun c => iprop(StableHlo.held (c : Thread nD τ) (ucRefs τ sig) (W0 c)
      ∗ (∃ r, prngReg c r) ∗ ∃ W', owes (c : Thread nD τ) (0 : CellTallies nD τ sig Unit) W'))
    (Tₙ := fun c => iprop(StableHlo.held (c : Thread nD τ) (ucRefs τ sig) (W c) ∗ ∃ r, prngReg c r))
    (hch := hch) (hinit := initEach (fun _ => ∅) (fun _ _ => 0) fun c => ?_)
    (QY := fun c s => ∀ b ∈ ucRefs τ sig, s.mem ((c : Thread nD τ).1, b) = W c b)
    (hfin := fun c s' => ?_) (hQ := fun s h => h)
  · iintro H
    imodintro
    isplitl [H]
    · iapply (show (ownU (initOf (cells (pin pcs a) inj) (launchToks (pin pcs a) inj)) :
          sProp (MT nD τ sig Unit (Elt Ideal) ℕ (URounds (GSem nD τ sig) Unit) ℕ)) ⊢
        BI.own (emb₁ (initOf (cells (pin pcs a) inj) (launchToks (pin pcs a) inj))) from .rfl)
      iexact H
    iapply (show (BI.emp : sProp (MT nD τ sig Unit (Elt Ideal) ℕ (URounds (GSem nD τ sig) Unit) ℕ)) ⊢
      bigSep Finset.univ (fun _ : Dev nD => BI.emp) from by rw [BI.bigSep_emp_const])
    iempintro
  · rw [show (fun b : Ref sig .tc => m ((c : Thread nD τ).loc b)) = fun b : Ref sig .tc => W0 c (Proc.devRef .tc b) from funext fun b => (hW0 c b).symm,
      unscopedBufs_held c (W0 c)]
    iintro ⟨⟨Hh, -, Ho, -, Hp, -⟩, -⟩
    imodintro
    isplitl [Hh]; · iexact Hh
    isplitl [Hp]; · iexists _; iexact Hp
    iexists ∅
    iexact Ho
  · iintro ⟨⟨Hh, -⟩, Hs⟩
    unfold StableHlo.held
    imodintro
    iapply (pointsTo_read_all (ucRefs τ sig) (fun b => ((c : Thread nD τ).1, b)) (W c) s')
    isplitl [Hh] <;> iassumption

end Cert.Adam

end
-- ==== Proof.AdamSquare.lean ====
module

public import proofs.«01_k».proof.Proof.Chain
public import proofs.«01_k».proof.Proof.Runs
public import proofs.«01_k».proof.Proof.Gen.SquareIdeal.Frame
public import proofs.«01_k».proof.Proof.Gen.SquareRefIdeal.Read

@[expose] public section

set_option maxRecDepth 16384

noncomputable section

/-! # The update of a square weight, layer by layer

The device's rows of the four layers' weights (`w_b`, `w_c` and `w_o` have this shape), 128 rows of 1024 in each layer: four calls, each in one block. -/

namespace Cert.Adam.Square

open Idealize.ShloMosaic Idealize.ShloMosaic.TcCoe Idealize.ShloMosaic.Pointwise Idealize.ShloMosaic.Pipeline Idealize.SL.Sem
open Cert.Prod Cert.Adam Cert.SquareIdeal Cert.SquareIdeal.Gen

/-- The bounds of a whole block of one device's gradients. -/
abbrev i3 := inb_S1x128x1024_S1x128x1024_0_0_0

/-- The bounds of a whole block of rows. -/
abbrev i2 := inb_S128x1024_S128x1024_0_0

/-- What a call stores in the blocks of its four results, from the eight devices' blocks and those of the weight and the moments. -/
def pays (s : Fin 8 → Vec Ideal S1x128x1024 .bf16) (w m v : Vec Ideal S128x1024 .f32) : Fin 4 → Vec Ideal S128x1024 .f32 :=
  ![k0_pay1 (k0_pay5 (s 5)) (k0_pay6 (s 6)) (k0_pay7 (s 7)) (k0_pay8 (s 0) (s 1) (s 2) (s 3) (s 4)),
    k0_pay4 (k0_pay5 (s 5)) (k0_pay6 (s 6)) (k0_pay7 (s 7)) w m v (k0_pay8 (s 0) (s 1) (s 2) (s 3) (s 4)),
    k0_pay2 (k0_pay5 (s 5)) (k0_pay6 (s 6)) (k0_pay7 (s 7)) m (k0_pay8 (s 0) (s 1) (s 2) (s 3) (s 4)),
    k0_pay3 (k0_pay5 (s 5)) (k0_pay6 (s 6)) (k0_pay7 (s 7)) v (k0_pay8 (s 0) (s 1) (s 2) (s 3) (s 4))]

/-- What is stored, at an entry. -/
theorem pays_at (s : Fin 8 → Vec Ideal S1x128x1024 .bf16) (w m v : Vec Ideal S128x1024 .f32) (r : Fin 128) (j : Fin 1024) (q : Fin 4) :
    pays s w m v q (ix2 r j) = upd (grad fun d => s d (ix3 0 r j)) (w (ix2 r j)) (m (ix2 r j)) (v (ix2 r j)) q := by
  have e : pays s w m v 0 (ix2 r j) = grad fun d => s d (ix3 0 r j) := by
    show k0_pay1 (F := Ideal) (k0_pay5 (s 5)) (k0_pay6 (s 6)) (k0_pay7 (s 7)) (k0_pay8 (s 0) (s 1) (s 2) (s 3) (s 4)) (ix2 r j) = _
    unfold grad
    rw [Fin.sum_univ_eight]
    pointwise [k0_pay1, k0_pay5, k0_pay6, k0_pay7, k0_pay8]
  rw [← e]
  match q with
  | 0 => rfl
  | 1 => rfl
  | 2 => rfl
  | 3 => rfl

section Calls

variable (V : (c : Dev nD) → (b : Ref sig .tc) → Buf (Elt Ideal) ((c : Thread nD τ).loc b)) (c : Dev nD)

/-- Which blocks a point of the first call reads and writes. -/
theorem idx0 : ∀ (t : Fin cfg0.N) (w : Fin cfg0.W),
    List.ofFn ((cfg0.win w).index t) = if w.1 < 8 then [w.1, t.1, 0] else [3 + t.1, 0] :=
  (by decide +kernel : ∀ (t : Fin grid0.N) (w : Fin cfg0.W), _)

/-- The eight devices' blocks at a point of the first call. -/
def slots0 (t : Fin cfg0.N) : Fin 8 → Vec Ideal S1x128x1024 .bf16 :=
  ![iblk0 V c 0 t, iblk0 V c 1 t, iblk0 V c 2 t, iblk0 V c 3 t, iblk0 V c 4 t, iblk0 V c 5 t, iblk0 V c 6 t, iblk0 V c 7 t]

/-- The blocks of the four results after a point of the first call. -/
def left0 (t : Fin cfg0.N) : Fin 4 → Mat 128 1024 :=
  ![(dat0 V c).after 11 t, (dat0 V c).after 12 t, (dat0 V c).after 13 t, (dat0 V c).after 14 t]

/-- They are what the point stores. -/
theorem stored0 (t : Fin cfg0.N) (q : Fin 4) :
    left0 V c t q = pays (slots0 V c t) (iblk0 V c 8 t) (iblk0 V c 9 t) (iblk0 V c 10 t) q := by
  have h : ∀ q, left0 V c t q = pays
      ![View.ld (iblk0 V c 0 t) r0_0, View.ld (iblk0 V c 1 t) r0_0, View.ld (iblk0 V c 2 t) r0_0, View.ld (iblk0 V c 3 t) r0_0,
        View.ld (iblk0 V c 4 t) r0_0, View.ld (iblk0 V c 5 t) r0_0, View.ld (iblk0 V c 6 t) r0_0, View.ld (iblk0 V c 7 t) r0_0]
      (View.ld (iblk0 V c 8 t) r0_1) (View.ld (iblk0 V c 9 t) r0_1) (View.ld (iblk0 V c 10 t) r0_1) q := fun q => match q with
    | 0 => (after0_11 V c t).trans (.trans (by sl_kernel_rfl) (View.canon_unit_zero zero2 i2 (pays _ _ _ _ 0)))
    | 1 => (after0_12 V c t).trans (.trans (by sl_kernel_rfl) (View.canon_unit_zero zero2 i2 (pays _ _ _ _ 1)))
    | 2 => (after0_13 V c t).trans (.trans (by sl_kernel_rfl) (View.canon_unit_zero zero2 i2 (pays _ _ _ _ 2)))
    | 3 => (after0_14 V c t).trans (.trans (by sl_kernel_rfl) (View.canon_unit_zero zero2 i2 (pays _ _ _ _ 3)))
  have e3 : ∀ x : Vec Ideal S1x128x1024 .bf16, View.ld x r0_0 = x := fun x => View.ld_unit_zero zero3 i3 x
  have e2 : ∀ x : Vec Ideal S128x1024 .f32, View.ld x r0_1 = x := fun x => View.ld_unit_zero zero2 i2 x
  simp only [e3, e2] at h
  exact h q

/-- An entry of a device's block at a point of the first call. -/
theorem slot0 (t : Fin cfg0.N) (d : Fin 8) (r : Fin 128) (j : Fin 1024) (Q : Fin 128) (hQ : Q.1 = 128 * t.1 + r.1) :
    slots0 V c t d (ix3 0 r j) = (V c main_arg3 : S8x128x1024.Idx → EReal) (ix3 d Q j) :=
  match d with
  | 0 => congrArg (V c main_arg3) (at_slot ((cfg0.win 0).blk t).view.emb 0 r j Q rfl rfl rfl (of3 (idx0 t 0)) hQ)
  | 1 => congrArg (V c main_arg3) (at_slot ((cfg0.win 1).blk t).view.emb 1 r j Q rfl rfl rfl (of3 (idx0 t 1)) hQ)
  | 2 => congrArg (V c main_arg3) (at_slot ((cfg0.win 2).blk t).view.emb 2 r j Q rfl rfl rfl (of3 (idx0 t 2)) hQ)
  | 3 => congrArg (V c main_arg3) (at_slot ((cfg0.win 3).blk t).view.emb 3 r j Q rfl rfl rfl (of3 (idx0 t 3)) hQ)
  | 4 => congrArg (V c main_arg3) (at_slot ((cfg0.win 4).blk t).view.emb 4 r j Q rfl rfl rfl (of3 (idx0 t 4)) hQ)
  | 5 => congrArg (V c main_arg3) (at_slot ((cfg0.win 5).blk t).view.emb 5 r j Q rfl rfl rfl (of3 (idx0 t 5)) hQ)
  | 6 => congrArg (V c main_arg3) (at_slot ((cfg0.win 6).blk t).view.emb 6 r j Q rfl rfl rfl (of3 (idx0 t 6)) hQ)
  | 7 => congrArg (V c main_arg3) (at_slot ((cfg0.win 7).blk t).view.emb 7 r j Q rfl rfl rfl (of3 (idx0 t 7)) hQ)

/-- What the first call writes of each result. -/
theorem wrote0 (q : Fin 4) : Wrote (A := 512) 3 (fun t => left0 V c t q)
    ((![V c main_v0_0, V c main_v0_1, V c main_v0_2, V c main_v0_3] : Fin 4 → Mat 512 1024) q)
    ((![(dat0 V c).arrAt 11 cfg0.N, (dat0 V c).arrAt 12 cfg0.N, (dat0 V c).arrAt 13 cfg0.N, (dat0 V c).arrAt 14 cfg0.N] :
      Fin 4 → Mat 512 1024) q) :=
  match q with
  | 0 => .of (fun t => ((cfg0.win 11).blk t).view.emb) (fun _ _ _ => rfl) (fun _ _ _ => rfl) (fun t => of2 (idx0 t 11))
      (fun t => congrFun (written (dat0 V c) 11 rfl flush0_11 (apart (idx0 · 11)) t))
      (fun i h => (unwritten (dat0 V c) 11 i h).trans (congrFun (A_eq0 V c 11) i))
  | 1 => .of (fun t => ((cfg0.win 12).blk t).view.emb) (fun _ _ _ => rfl) (fun _ _ _ => rfl) (fun t => of2 (idx0 t 12))
      (fun t => congrFun (written (dat0 V c) 12 rfl flush0_12 (apart (idx0 · 12)) t))
      (fun i h => (unwritten (dat0 V c) 12 i h).trans (congrFun (A_eq0 V c 12) i))
  | 2 => .of (fun t => ((cfg0.win 13).blk t).view.emb) (fun _ _ _ => rfl) (fun _ _ _ => rfl) (fun t => of2 (idx0 t 13))
      (fun t => congrFun (written (dat0 V c) 13 rfl flush0_13 (apart (idx0 · 13)) t))
      (fun i h => (unwritten (dat0 V c) 13 i h).trans (congrFun (A_eq0 V c 13) i))
  | 3 => .of (fun t => ((cfg0.win 14).blk t).view.emb) (fun _ _ _ => rfl) (fun _ _ _ => rfl) (fun t => of2 (idx0 t 14))
      (fun t => congrFun (written (dat0 V c) 14 rfl flush0_14 (apart (idx0 · 14)) t))
      (fun i h => (unwritten (dat0 V c) 14 i h).trans (congrFun (A_eq0 V c 14) i))

/-- The first call writes the rows of its layer and leaves the others. -/
theorem pass0 (new : Fin 512 → Fin 1024 → Fin 4 → EReal)
    (hn : New new 3 (V c main_arg3) (V c main_arg4) (V c main_arg5) (V c main_arg6)) :
    Pass (3 * 128) (4 * 128) new ![V c main_v0_0, V c main_v0_1, V c main_v0_2, V c main_v0_3]
      ![(dat0 V c).arrAt 11 cfg0.N, (dat0 V c).arrAt 12 cfg0.N, (dat0 V c).arrAt 13 cfg0.N, (dat0 V c).arrAt 14 cfg0.N] :=
  .of_call (n := cfg0.N) (a := 128) (first := 3) (by decide) (by rw [show cfg0.N = 1 from N_0])
    (by rw [show cfg0.N = 1 from N_0]) (wrote0 V c)
    (fun t q r j => (congrFun (stored0 V c t q) _).trans (pays_at _ _ _ _ r j q)) (slot0 V c)
    (fun t r j R h => congrArg (V c main_arg4) (at_rows ((cfg0.win 8).blk t).view.emb r j R rfl rfl (of2 (idx0 t 8)) h))
    (fun t r j R h => congrArg (V c main_arg5) (at_rows ((cfg0.win 9).blk t).view.emb r j R rfl rfl (of2 (idx0 t 9)) h))
    (fun t r j R h => congrArg (V c main_arg6) (at_rows ((cfg0.win 10).blk t).view.emb r j R rfl rfl (of2 (idx0 t 10)) h)) hn

/-- Which blocks a point of the second call reads and writes. -/
theorem idx1 : ∀ (t : Fin cfg1.N) (w : Fin cfg1.W),
    List.ofFn ((cfg1.win w).index t) = if w.1 < 8 then [w.1, t.1, 0] else [2 + t.1, 0] :=
  (by decide +kernel : ∀ (t : Fin grid1.N) (w : Fin cfg1.W), _)

/-- The eight devices' blocks at a point of the second call. -/
def slots1 (t : Fin cfg1.N) : Fin 8 → Vec Ideal S1x128x1024 .bf16 :=
  ![iblk1 V c 0 t, iblk1 V c 1 t, iblk1 V c 2 t, iblk1 V c 3 t, iblk1 V c 4 t, iblk1 V c 5 t, iblk1 V c 6 t, iblk1 V c 7 t]

/-- The blocks of the four results after a point of the second call. -/
def left1 (t : Fin cfg1.N) : Fin 4 → Mat 128 1024 :=
  ![(dat1 V c).after 11 t, (dat1 V c).after 12 t, (dat1 V c).after 13 t, (dat1 V c).after 14 t]

/-- They are what the point stores. -/
theorem stored1 (t : Fin cfg1.N) (q : Fin 4) :
    left1 V c t q = pays (slots1 V c t) (iblk1 V c 8 t) (iblk1 V c 9 t) (iblk1 V c 10 t) q := by
  have h : ∀ q, left1 V c t q = pays
      ![load3 (ms1_0 t) (hs1_0 t) i3 (iblk1 V c 0 t), load3 (ms1_1 t) (hs1_1 t) i3 (iblk1 V c 1 t),
        load3 (ms1_2 t) (hs1_2 t) i3 (iblk1 V c 2 t), load3 (ms1_3 t) (hs1_3 t) i3 (iblk1 V c 3 t),
        load3 (ms1_4 t) (hs1_4 t) i3 (iblk1 V c 4 t), load3 (ms1_5 t) (hs1_5 t) i3 (iblk1 V c 5 t),
        load3 (ms1_6 t) (hs1_6 t) i3 (iblk1 V c 6 t), load3 (ms1_7 t) (hs1_7 t) i3 (iblk1 V c 7 t)]
      (load2 (ms1_8 t) (hs1_8 t) i2 (iblk1 V c 8 t)) (load2 (ms1_9 t) (hs1_9 t) i2 (iblk1 V c 9 t))
      (load2 (ms1_10 t) (hs1_10 t) i2 (iblk1 V c 10 t)) q := fun q => match q with
    | 0 => by
      refine (after1_11 V c t).trans ?_
      unfold outsAt1 out1_A_11
      dsimp only
      refine stored VO1_11 zero2 i2 (pays _ _ _ _ 0) ?_
      sl_kernel_rfl
    | 1 => by
      refine (after1_12 V c t).trans ?_
      unfold outsAt1 out1_A_12
      dsimp only
      refine stored VO1_12 zero2 i2 (pays _ _ _ _ 1) ?_
      sl_kernel_rfl
    | 2 => by
      refine (after1_13 V c t).trans ?_
      unfold outsAt1 out1_A_13
      dsimp only
      refine stored VO1_13 zero2 i2 (pays _ _ _ _ 2) ?_
      sl_kernel_rfl
    | 3 => by
      refine (after1_14 V c t).trans ?_
      unfold outsAt1 out1_A_14
      dsimp only
      refine stored VO1_14 zero2 i2 (pays _ _ _ _ 3) ?_
      sl_kernel_rfl
  simp only [load3_eq, load2_eq] at h
  exact h q

/-- An entry of a device's block at a point of the second call. -/
theorem slot1 (t : Fin cfg1.N) (d : Fin 8) (r : Fin 128) (j : Fin 1024) (Q : Fin 128) (hQ : Q.1 = 128 * t.1 + r.1) :
    slots1 V c t d (ix3 0 r j) = (V c main_arg2 : S8x128x1024.Idx → EReal) (ix3 d Q j) :=
  match d with
  | 0 => congrArg (V c main_arg2) (at_slot ((cfg1.win 0).blk t).view.emb 0 r j Q rfl rfl rfl (of3 (idx1 t 0)) hQ)
  | 1 => congrArg (V c main_arg2) (at_slot ((cfg1.win 1).blk t).view.emb 1 r j Q rfl rfl rfl (of3 (idx1 t 1)) hQ)
  | 2 => congrArg (V c main_arg2) (at_slot ((cfg1.win 2).blk t).view.emb 2 r j Q rfl rfl rfl (of3 (idx1 t 2)) hQ)
  | 3 => congrArg (V c main_arg2) (at_slot ((cfg1.win 3).blk t).view.emb 3 r j Q rfl rfl rfl (of3 (idx1 t 3)) hQ)
  | 4 => congrArg (V c main_arg2) (at_slot ((cfg1.win 4).blk t).view.emb 4 r j Q rfl rfl rfl (of3 (idx1 t 4)) hQ)
  | 5 => congrArg (V c main_arg2) (at_slot ((cfg1.win 5).blk t).view.emb 5 r j Q rfl rfl rfl (of3 (idx1 t 5)) hQ)
  | 6 => congrArg (V c main_arg2) (at_slot ((cfg1.win 6).blk t).view.emb 6 r j Q rfl rfl rfl (of3 (idx1 t 6)) hQ)
  | 7 => congrArg (V c main_arg2) (at_slot ((cfg1.win 7).blk t).view.emb 7 r j Q rfl rfl rfl (of3 (idx1 t 7)) hQ)

/-- What the second call writes of each result. -/
theorem wrote1 (q : Fin 4) : Wrote (A := 512) 2 (fun t => left1 V c t q)
    ((![V c main_v1_0, V c main_v1_1, V c main_v1_2, V c main_v1_3] : Fin 4 → Mat 512 1024) q)
    ((![(dat1 V c).arrAt 11 cfg1.N, (dat1 V c).arrAt 12 cfg1.N, (dat1 V c).arrAt 13 cfg1.N, (dat1 V c).arrAt 14 cfg1.N] :
      Fin 4 → Mat 512 1024) q) :=
  match q with
  | 0 => .of (fun t => ((cfg1.win 11).blk t).view.emb) (fun _ _ _ => rfl) (fun _ _ _ => rfl) (fun t => of2 (idx1 t 11))
      (fun t => congrFun (written (dat1 V c) 11 rfl flush1_11 (apart (idx1 · 11)) t))
      (fun i h => (unwritten (dat1 V c) 11 i h).trans (congrFun (A_eq1 V c 11) i))
  | 1 => .of (fun t => ((cfg1.win 12).blk t).view.emb) (fun _ _ _ => rfl) (fun _ _ _ => rfl) (fun t => of2 (idx1 t 12))
      (fun t => congrFun (written (dat1 V c) 12 rfl flush1_12 (apart (idx1 · 12)) t))
      (fun i h => (unwritten (dat1 V c) 12 i h).trans (congrFun (A_eq1 V c 12) i))
  | 2 => .of (fun t => ((cfg1.win 13).blk t).view.emb) (fun _ _ _ => rfl) (fun _ _ _ => rfl) (fun t => of2 (idx1 t 13))
      (fun t => congrFun (written (dat1 V c) 13 rfl flush1_13 (apart (idx1 · 13)) t))
      (fun i h => (unwritten (dat1 V c) 13 i h).trans (congrFun (A_eq1 V c 13) i))
  | 3 => .of (fun t => ((cfg1.win 14).blk t).view.emb) (fun _ _ _ => rfl) (fun _ _ _ => rfl) (fun t => of2 (idx1 t 14))
      (fun t => congrFun (written (dat1 V c) 14 rfl flush1_14 (apart (idx1 · 14)) t))
      (fun i h => (unwritten (dat1 V c) 14 i h).trans (congrFun (A_eq1 V c 14) i))

/-- The second call writes the rows of its layer and leaves the others. -/
theorem pass1 (new : Fin 512 → Fin 1024 → Fin 4 → EReal)
    (hn : New new 2 (V c main_arg2) (V c main_arg4) (V c main_arg5) (V c main_arg6)) :
    Pass (2 * 128) (3 * 128) new ![V c main_v1_0, V c main_v1_1, V c main_v1_2, V c main_v1_3]
      ![(dat1 V c).arrAt 11 cfg1.N, (dat1 V c).arrAt 12 cfg1.N, (dat1 V c).arrAt 13 cfg1.N, (dat1 V c).arrAt 14 cfg1.N] :=
  .of_call (n := cfg1.N) (a := 128) (first := 2) (by decide) (by rw [show cfg1.N = 1 from N_1])
    (by rw [show cfg1.N = 1 from N_1]) (wrote1 V c)
    (fun t q r j => (congrFun (stored1 V c t q) _).trans (pays_at _ _ _ _ r j q)) (slot1 V c)
    (fun t r j R h => congrArg (V c main_arg4) (at_rows ((cfg1.win 8).blk t).view.emb r j R rfl rfl (of2 (idx1 t 8)) h))
    (fun t r j R h => congrArg (V c main_arg5) (at_rows ((cfg1.win 9).blk t).view.emb r j R rfl rfl (of2 (idx1 t 9)) h))
    (fun t r j R h => congrArg (V c main_arg6) (at_rows ((cfg1.win 10).blk t).view.emb r j R rfl rfl (of2 (idx1 t 10)) h)) hn

/-- Which blocks a point of the third call reads and writes. -/
theorem idx2 : ∀ (t : Fin cfg2.N) (w : Fin cfg2.W),
    List.ofFn ((cfg2.win w).index t) = if w.1 < 8 then [w.1, t.1, 0] else [1 + t.1, 0] :=
  (by decide +kernel : ∀ (t : Fin grid2.N) (w : Fin cfg2.W), _)

/-- The eight devices' blocks at a point of the third call. -/
def slots2 (t : Fin cfg2.N) : Fin 8 → Vec Ideal S1x128x1024 .bf16 :=
  ![iblk2 V c 0 t, iblk2 V c 1 t, iblk2 V c 2 t, iblk2 V c 3 t, iblk2 V c 4 t, iblk2 V c 5 t, iblk2 V c 6 t, iblk2 V c 7 t]

/-- The blocks of the four results after a point of the third call. -/
def left2 (t : Fin cfg2.N) : Fin 4 → Mat 128 1024 :=
  ![(dat2 V c).after 11 t, (dat2 V c).after 12 t, (dat2 V c).after 13 t, (dat2 V c).after 14 t]

/-- They are what the point stores. -/
theorem stored2 (t : Fin cfg2.N) (q : Fin 4) :
    left2 V c t q = pays (slots2 V c t) (iblk2 V c 8 t) (iblk2 V c 9 t) (iblk2 V c 10 t) q := by
  have h : ∀ q, left2 V c t q = pays
      ![load3 (ms2_0 t) (hs2_0 t) i3 (iblk2 V c 0 t), load3 (ms2_1 t) (hs2_1 t) i3 (iblk2 V c 1 t),
        load3 (ms2_2 t) (hs2_2 t) i3 (iblk2 V c 2 t), load3 (ms2_3 t) (hs2_3 t) i3 (iblk2 V c 3 t),
        load3 (ms2_4 t) (hs2_4 t) i3 (iblk2 V c 4 t), load3 (ms2_5 t) (hs2_5 t) i3 (iblk2 V c 5 t),
        load3 (ms2_6 t) (hs2_6 t) i3 (iblk2 V c 6 t), load3 (ms2_7 t) (hs2_7 t) i3 (iblk2 V c 7 t)]
      (load2 (ms2_8 t) (hs2_8 t) i2 (iblk2 V c 8 t)) (load2 (ms2_9 t) (hs2_9 t) i2 (iblk2 V c 9 t))
      (load2 (ms2_10 t) (hs2_10 t) i2 (iblk2 V c 10 t)) q := fun q => match q with
    | 0 => by
      refine (after2_11 V c t).trans ?_
      unfold outsAt2 out2_A_11
      dsimp only
      refine stored VO2_11 zero2 i2 (pays _ _ _ _ 0) ?_
      sl_kernel_rfl
    | 1 => by
      refine (after2_12 V c t).trans ?_
      unfold outsAt2 out2_A_12
      dsimp only
      refine stored VO2_12 zero2 i2 (pays _ _ _ _ 1) ?_
      sl_kernel_rfl
    | 2 => by
      refine (after2_13 V c t).trans ?_
      unfold outsAt2 out2_A_13
      dsimp only
      refine stored VO2_13 zero2 i2 (pays _ _ _ _ 2) ?_
      sl_kernel_rfl
    | 3 => by
      refine (after2_14 V c t).trans ?_
      unfold outsAt2 out2_A_14
      dsimp only
      refine stored VO2_14 zero2 i2 (pays _ _ _ _ 3) ?_
      sl_kernel_rfl
  simp only [load3_eq, load2_eq] at h
  exact h q

/-- An entry of a device's block at a point of the third call. -/
theorem slot2 (t : Fin cfg2.N) (d : Fin 8) (r : Fin 128) (j : Fin 1024) (Q : Fin 128) (hQ : Q.1 = 128 * t.1 + r.1) :
    slots2 V c t d (ix3 0 r j) = (V c main_arg1 : S8x128x1024.Idx → EReal) (ix3 d Q j) :=
  match d with
  | 0 => congrArg (V c main_arg1) (at_slot ((cfg2.win 0).blk t).view.emb 0 r j Q rfl rfl rfl (of3 (idx2 t 0)) hQ)
  | 1 => congrArg (V c main_arg1) (at_slot ((cfg2.win 1).blk t).view.emb 1 r j Q rfl rfl rfl (of3 (idx2 t 1)) hQ)
  | 2 => congrArg (V c main_arg1) (at_slot ((cfg2.win 2).blk t).view.emb 2 r j Q rfl rfl rfl (of3 (idx2 t 2)) hQ)
  | 3 => congrArg (V c main_arg1) (at_slot ((cfg2.win 3).blk t).view.emb 3 r j Q rfl rfl rfl (of3 (idx2 t 3)) hQ)
  | 4 => congrArg (V c main_arg1) (at_slot ((cfg2.win 4).blk t).view.emb 4 r j Q rfl rfl rfl (of3 (idx2 t 4)) hQ)
  | 5 => congrArg (V c main_arg1) (at_slot ((cfg2.win 5).blk t).view.emb 5 r j Q rfl rfl rfl (of3 (idx2 t 5)) hQ)
  | 6 => congrArg (V c main_arg1) (at_slot ((cfg2.win 6).blk t).view.emb 6 r j Q rfl rfl rfl (of3 (idx2 t 6)) hQ)
  | 7 => congrArg (V c main_arg1) (at_slot ((cfg2.win 7).blk t).view.emb 7 r j Q rfl rfl rfl (of3 (idx2 t 7)) hQ)

/-- What the third call writes of each result. -/
theorem wrote2 (q : Fin 4) : Wrote (A := 512) 1 (fun t => left2 V c t q)
    ((![V c main_v2_0, V c main_v2_1, V c main_v2_2, V c main_v2_3] : Fin 4 → Mat 512 1024) q)
    ((![(dat2 V c).arrAt 11 cfg2.N, (dat2 V c).arrAt 12 cfg2.N, (dat2 V c).arrAt 13 cfg2.N, (dat2 V c).arrAt 14 cfg2.N] :
      Fin 4 → Mat 512 1024) q) :=
  match q with
  | 0 => .of (fun t => ((cfg2.win 11).blk t).view.emb) (fun _ _ _ => rfl) (fun _ _ _ => rfl) (fun t => of2 (idx2 t 11))
      (fun t => congrFun (written (dat2 V c) 11 rfl flush2_11 (apart (idx2 · 11)) t))
      (fun i h => (unwritten (dat2 V c) 11 i h).trans (congrFun (A_eq2 V c 11) i))
  | 1 => .of (fun t => ((cfg2.win 12).blk t).view.emb) (fun _ _ _ => rfl) (fun _ _ _ => rfl) (fun t => of2 (idx2 t 12))
      (fun t => congrFun (written (dat2 V c) 12 rfl flush2_12 (apart (idx2 · 12)) t))
      (fun i h => (unwritten (dat2 V c) 12 i h).trans (congrFun (A_eq2 V c 12) i))
  | 2 => .of (fun t => ((cfg2.win 13).blk t).view.emb) (fun _ _ _ => rfl) (fun _ _ _ => rfl) (fun t => of2 (idx2 t 13))
      (fun t => congrFun (written (dat2 V c) 13 rfl flush2_13 (apart (idx2 · 13)) t))
      (fun i h => (unwritten (dat2 V c) 13 i h).trans (congrFun (A_eq2 V c 13) i))
  | 3 => .of (fun t => ((cfg2.win 14).blk t).view.emb) (fun _ _ _ => rfl) (fun _ _ _ => rfl) (fun t => of2 (idx2 t 14))
      (fun t => congrFun (written (dat2 V c) 14 rfl flush2_14 (apart (idx2 · 14)) t))
      (fun i h => (unwritten (dat2 V c) 14 i h).trans (congrFun (A_eq2 V c 14) i))

/-- The third call writes the rows of its layer and leaves the others. -/
theorem pass2 (new : Fin 512 → Fin 1024 → Fin 4 → EReal)
    (hn : New new 1 (V c main_arg1) (V c main_arg4) (V c main_arg5) (V c main_arg6)) :
    Pass (1 * 128) (2 * 128) new ![V c main_v2_0, V c main_v2_1, V c main_v2_2, V c main_v2_3]
      ![(dat2 V c).arrAt 11 cfg2.N, (dat2 V c).arrAt 12 cfg2.N, (dat2 V c).arrAt 13 cfg2.N, (dat2 V c).arrAt 14 cfg2.N] :=
  .of_call (n := cfg2.N) (a := 128) (first := 1) (by decide) (by rw [show cfg2.N = 1 from N_2])
    (by rw [show cfg2.N = 1 from N_2]) (wrote2 V c)
    (fun t q r j => (congrFun (stored2 V c t q) _).trans (pays_at _ _ _ _ r j q)) (slot2 V c)
    (fun t r j R h => congrArg (V c main_arg4) (at_rows ((cfg2.win 8).blk t).view.emb r j R rfl rfl (of2 (idx2 t 8)) h))
    (fun t r j R h => congrArg (V c main_arg5) (at_rows ((cfg2.win 9).blk t).view.emb r j R rfl rfl (of2 (idx2 t 9)) h))
    (fun t r j R h => congrArg (V c main_arg6) (at_rows ((cfg2.win 10).blk t).view.emb r j R rfl rfl (of2 (idx2 t 10)) h)) hn

/-- Which blocks a point of the fourth call reads and writes. -/
theorem idx3 : ∀ (t : Fin cfg3.N) (w : Fin cfg3.W),
    List.ofFn ((cfg3.win w).index t) = if w.1 < 8 then [w.1, t.1, 0] else [0 + t.1, 0] :=
  (by decide +kernel : ∀ (t : Fin grid3.N) (w : Fin cfg3.W), _)

/-- The eight devices' blocks at a point of the fourth call. -/
def slots3 (t : Fin cfg3.N) : Fin 8 → Vec Ideal S1x128x1024 .bf16 :=
  ![iblk3 V c 0 t, iblk3 V c 1 t, iblk3 V c 2 t, iblk3 V c 3 t, iblk3 V c 4 t, iblk3 V c 5 t, iblk3 V c 6 t, iblk3 V c 7 t]

/-- The blocks of the four results after a point of the fourth call. -/
def left3 (t : Fin cfg3.N) : Fin 4 → Mat 128 1024 :=
  ![(dat3 V c).after 11 t, (dat3 V c).after 12 t, (dat3 V c).after 13 t, (dat3 V c).after 14 t]

/-- They are what the point stores. -/
theorem stored3 (t : Fin cfg3.N) (q : Fin 4) :
    left3 V c t q = pays (slots3 V c t) (iblk3 V c 8 t) (iblk3 V c 9 t) (iblk3 V c 10 t) q := by
  have h : ∀ q, left3 V c t q = pays
      ![load3 (ms3_0 t) (hs3_0 t) i3 (iblk3 V c 0 t), load3 (ms3_1 t) (hs3_1 t) i3 (iblk3 V c 1 t),
        load3 (ms3_2 t) (hs3_2 t) i3 (iblk3 V c 2 t), load3 (ms3_3 t) (hs3_3 t) i3 (iblk3 V c 3 t),
        load3 (ms3_4 t) (hs3_4 t) i3 (iblk3 V c 4 t), load3 (ms3_5 t) (hs3_5 t) i3 (iblk3 V c 5 t),
        load3 (ms3_6 t) (hs3_6 t) i3 (iblk3 V c 6 t), load3 (ms3_7 t) (hs3_7 t) i3 (iblk3 V c 7 t)]
      (load2 (ms3_8 t) (hs3_8 t) i2 (iblk3 V c 8 t)) (load2 (ms3_9 t) (hs3_9 t) i2 (iblk3 V c 9 t))
      (load2 (ms3_10 t) (hs3_10 t) i2 (iblk3 V c 10 t)) q := fun q => match q with
    | 0 => by
      refine (after3_11 V c t).trans ?_
      unfold outsAt3 out3_A_11
      dsimp only
      refine stored VO3_11 zero2 i2 (pays _ _ _ _ 0) ?_
      sl_kernel_rfl
    | 1 => by
      refine (after3_12 V c t).trans ?_
      unfold outsAt3 out3_A_12
      dsimp only
      refine stored VO3_12 zero2 i2 (pays _ _ _ _ 1) ?_
      sl_kernel_rfl
    | 2 => by
      refine (after3_13 V c t).trans ?_
      unfold outsAt3 out3_A_13
      dsimp only
      refine stored VO3_13 zero2 i2 (pays _ _ _ _ 2) ?_
      sl_kernel_rfl
    | 3 => by
      refine (after3_14 V c t).trans ?_
      unfold outsAt3 out3_A_14
      dsimp only
      refine stored VO3_14 zero2 i2 (pays _ _ _ _ 3) ?_
      sl_kernel_rfl
  simp only [load3_eq, load2_eq] at h
  exact h q

/-- An entry of a device's block at a point of the fourth call. -/
theorem slot3 (t : Fin cfg3.N) (d : Fin 8) (r : Fin 128) (j : Fin 1024) (Q : Fin 128) (hQ : Q.1 = 128 * t.1 + r.1) :
    slots3 V c t d (ix3 0 r j) = (V c main_arg0 : S8x128x1024.Idx → EReal) (ix3 d Q j) :=
  match d with
  | 0 => congrArg (V c main_arg0) (at_slot ((cfg3.win 0).blk t).view.emb 0 r j Q rfl rfl rfl (of3 (idx3 t 0)) hQ)
  | 1 => congrArg (V c main_arg0) (at_slot ((cfg3.win 1).blk t).view.emb 1 r j Q rfl rfl rfl (of3 (idx3 t 1)) hQ)
  | 2 => congrArg (V c main_arg0) (at_slot ((cfg3.win 2).blk t).view.emb 2 r j Q rfl rfl rfl (of3 (idx3 t 2)) hQ)
  | 3 => congrArg (V c main_arg0) (at_slot ((cfg3.win 3).blk t).view.emb 3 r j Q rfl rfl rfl (of3 (idx3 t 3)) hQ)
  | 4 => congrArg (V c main_arg0) (at_slot ((cfg3.win 4).blk t).view.emb 4 r j Q rfl rfl rfl (of3 (idx3 t 4)) hQ)
  | 5 => congrArg (V c main_arg0) (at_slot ((cfg3.win 5).blk t).view.emb 5 r j Q rfl rfl rfl (of3 (idx3 t 5)) hQ)
  | 6 => congrArg (V c main_arg0) (at_slot ((cfg3.win 6).blk t).view.emb 6 r j Q rfl rfl rfl (of3 (idx3 t 6)) hQ)
  | 7 => congrArg (V c main_arg0) (at_slot ((cfg3.win 7).blk t).view.emb 7 r j Q rfl rfl rfl (of3 (idx3 t 7)) hQ)

/-- What the fourth call writes of each result. -/
theorem wrote3 (q : Fin 4) : Wrote (A := 512) 0 (fun t => left3 V c t q)
    ((![V c main_v3_0, V c main_v3_1, V c main_v3_2, V c main_v3_3] : Fin 4 → Mat 512 1024) q)
    ((![(dat3 V c).arrAt 11 cfg3.N, (dat3 V c).arrAt 12 cfg3.N, (dat3 V c).arrAt 13 cfg3.N, (dat3 V c).arrAt 14 cfg3.N] :
      Fin 4 → Mat 512 1024) q) :=
  match q with
  | 0 => .of (fun t => ((cfg3.win 11).blk t).view.emb) (fun _ _ _ => rfl) (fun _ _ _ => rfl) (fun t => of2 (idx3 t 11))
      (fun t => congrFun (written (dat3 V c) 11 rfl flush3_11 (apart (idx3 · 11)) t))
      (fun i h => (unwritten (dat3 V c) 11 i h).trans (congrFun (A_eq3 V c 11) i))
  | 1 => .of (fun t => ((cfg3.win 12).blk t).view.emb) (fun _ _ _ => rfl) (fun _ _ _ => rfl) (fun t => of2 (idx3 t 12))
      (fun t => congrFun (written (dat3 V c) 12 rfl flush3_12 (apart (idx3 · 12)) t))
      (fun i h => (unwritten (dat3 V c) 12 i h).trans (congrFun (A_eq3 V c 12) i))
  | 2 => .of (fun t => ((cfg3.win 13).blk t).view.emb) (fun _ _ _ => rfl) (fun _ _ _ => rfl) (fun t => of2 (idx3 t 13))
      (fun t => congrFun (written (dat3 V c) 13 rfl flush3_13 (apart (idx3 · 13)) t))
      (fun i h => (unwritten (dat3 V c) 13 i h).trans (congrFun (A_eq3 V c 13) i))
  | 3 => .of (fun t => ((cfg3.win 14).blk t).view.emb) (fun _ _ _ => rfl) (fun _ _ _ => rfl) (fun t => of2 (idx3 t 14))
      (fun t => congrFun (written (dat3 V c) 14 rfl flush3_14 (apart (idx3 · 14)) t))
      (fun i h => (unwritten (dat3 V c) 14 i h).trans (congrFun (A_eq3 V c 14) i))

/-- The fourth call writes the rows of its layer and leaves the others. -/
theorem pass3 (new : Fin 512 → Fin 1024 → Fin 4 → EReal)
    (hn : New new 0 (V c main_arg0) (V c main_arg4) (V c main_arg5) (V c main_arg6)) :
    Pass (0 * 128) (1 * 128) new ![V c main_v3_0, V c main_v3_1, V c main_v3_2, V c main_v3_3]
      ![(dat3 V c).arrAt 11 cfg3.N, (dat3 V c).arrAt 12 cfg3.N, (dat3 V c).arrAt 13 cfg3.N, (dat3 V c).arrAt 14 cfg3.N] :=
  .of_call (n := cfg3.N) (a := 128) (first := 0) (by decide) (by rw [show cfg3.N = 1 from N_3])
    (by rw [show cfg3.N = 1 from N_3]) (wrote3 V c)
    (fun t q r j => (congrFun (stored3 V c t q) _).trans (pays_at _ _ _ _ r j q)) (slot3 V c)
    (fun t r j R h => congrArg (V c main_arg4) (at_rows ((cfg3.win 8).blk t).view.emb r j R rfl rfl (of2 (idx3 t 8)) h))
    (fun t r j R h => congrArg (V c main_arg5) (at_rows ((cfg3.win 9).blk t).view.emb r j R rfl rfl (of2 (idx3 t 9)) h))
    (fun t r j R h => congrArg (V c main_arg6) (at_rows ((cfg3.win 10).blk t).view.emb r j R rfl rfl (of2 (idx3 t 10)) h)) hn

end Calls

/-- The second call starts from the results of the one before it. -/
theorem copied1 (V : Valuation τ sig (Elt Ideal)) :
    StableHlo.after hostOps1 V (Proc.devRef .tc main_v1_0) = V (Proc.devRef .tc main_v0_0)
    ∧ StableHlo.after hostOps1 V (Proc.devRef .tc main_v1_1) = V (Proc.devRef .tc main_v0_1)
    ∧ StableHlo.after hostOps1 V (Proc.devRef .tc main_v1_2) = V (Proc.devRef .tc main_v0_2)
    ∧ StableHlo.after hostOps1 V (Proc.devRef .tc main_v1_3) = V (Proc.devRef .tc main_v0_3) :=
  ⟨rfl, rfl, rfl, rfl⟩

/-- The third call starts from the results of the one before it. -/
theorem copied2 (V : Valuation τ sig (Elt Ideal)) :
    StableHlo.after hostOps2 V (Proc.devRef .tc main_v2_0) = V (Proc.devRef .tc main_v1_0)
    ∧ StableHlo.after hostOps2 V (Proc.devRef .tc main_v2_1) = V (Proc.devRef .tc main_v1_1)
    ∧ StableHlo.after hostOps2 V (Proc.devRef .tc main_v2_2) = V (Proc.devRef .tc main_v1_2)
    ∧ StableHlo.after hostOps2 V (Proc.devRef .tc main_v2_3) = V (Proc.devRef .tc main_v1_3) :=
  ⟨rfl, rfl, rfl, rfl⟩

/-- The fourth call starts from the results of the one before it. -/
theorem copied3 (V : Valuation τ sig (Elt Ideal)) :
    StableHlo.after hostOps3 V (Proc.devRef .tc main_v3_0) = V (Proc.devRef .tc main_v2_0)
    ∧ StableHlo.after hostOps3 V (Proc.devRef .tc main_v3_1) = V (Proc.devRef .tc main_v2_1)
    ∧ StableHlo.after hostOps3 V (Proc.devRef .tc main_v3_2) = V (Proc.devRef .tc main_v2_2)
    ∧ StableHlo.after hostOps3 V (Proc.devRef .tc main_v3_3) = V (Proc.devRef .tc main_v2_3) :=
  ⟨rfl, rfl, rfl, rfl⟩

variable (m : (ℓ : Loc nD τ sig) → Buf (Elt Ideal) ℓ) (ρ : Dev nD → PrngReg) (c : Dev nD)

/-- What the last call leaves of the four results. -/
def res : Fin 4 → Mat 512 1024 :=
  ![(dat3 (V6 m ρ) c).arrAt 11 cfg3.N, (dat3 (V6 m ρ) c).arrAt 12 cfg3.N, (dat3 (V6 m ρ) c).arrAt 13 cfg3.N, (dat3 (V6 m ρ) c).arrAt 14 cfg3.N]

/-- The four calls update every row of the weight. -/
theorem whole (new : Fin 512 → Fin 1024 → Fin 4 → EReal)
    (h3 : New new 3 (m (c.tc.loc main_arg3)) (m (c.tc.loc main_arg4)) (m (c.tc.loc main_arg5)) (m (c.tc.loc main_arg6)))
    (h2 : New new 2 (m (c.tc.loc main_arg2)) (m (c.tc.loc main_arg4)) (m (c.tc.loc main_arg5)) (m (c.tc.loc main_arg6)))
    (h1 : New new 1 (m (c.tc.loc main_arg1)) (m (c.tc.loc main_arg4)) (m (c.tc.loc main_arg5)) (m (c.tc.loc main_arg6)))
    (h0 : New new 0 (m (c.tc.loc main_arg0)) (m (c.tc.loc main_arg4)) (m (c.tc.loc main_arg5)) (m (c.tc.loc main_arg6)))
    (q : Fin 4) (R : Fin 512) (J : Fin 1024) : res m ρ c q (ix2 R J) = new R J q := by
  have p0 := pass0 (V0 m ρ) c new h3
  have p1 := pass1 (V2 m ρ) c new (by
    rw [show V2 m ρ c main_arg2 = _ from W2_args m ρ c main_arg2 (by decide), show V2 m ρ c main_arg4 = _ from W2_args m ρ c main_arg4 (by decide),
      show V2 m ρ c main_arg5 = _ from W2_args m ρ c main_arg5 (by decide), show V2 m ρ c main_arg6 = _ from W2_args m ρ c main_arg6 (by decide)]
    exact h2)
  obtain ⟨c0, c1, c2, c3⟩ := copied1 (W1 m ρ c)
  rw [show V2 m ρ c main_v1_0 = _ from c0.trans (W1_arr m ρ c 11), show V2 m ρ c main_v1_1 = _ from c1.trans (W1_arr m ρ c 12),
    show V2 m ρ c main_v1_2 = _ from c2.trans (W1_arr m ρ c 13), show V2 m ρ c main_v1_3 = _ from c3.trans (W1_arr m ρ c 14)] at p1
  have p2 := pass2 (V4 m ρ) c new (by
    rw [show V4 m ρ c main_arg1 = _ from W4_args m ρ c main_arg1 (by decide), show V4 m ρ c main_arg4 = _ from W4_args m ρ c main_arg4 (by decide),
      show V4 m ρ c main_arg5 = _ from W4_args m ρ c main_arg5 (by decide), show V4 m ρ c main_arg6 = _ from W4_args m ρ c main_arg6 (by decide)]
    exact h1)
  obtain ⟨c0, c1, c2, c3⟩ := copied2 (W3 m ρ c)
  rw [show V4 m ρ c main_v2_0 = _ from c0.trans (W3_arr m ρ c 11), show V4 m ρ c main_v2_1 = _ from c1.trans (W3_arr m ρ c 12),
    show V4 m ρ c main_v2_2 = _ from c2.trans (W3_arr m ρ c 13), show V4 m ρ c main_v2_3 = _ from c3.trans (W3_arr m ρ c 14)] at p2
  have p3 := pass3 (V6 m ρ) c new (by
    rw [show V6 m ρ c main_arg0 = _ from W6_args m ρ c main_arg0 (by decide), show V6 m ρ c main_arg4 = _ from W6_args m ρ c main_arg4 (by decide),
      show V6 m ρ c main_arg5 = _ from W6_args m ρ c main_arg5 (by decide), show V6 m ρ c main_arg6 = _ from W6_args m ρ c main_arg6 (by decide)]
    exact h0)
  obtain ⟨c0, c1, c2, c3⟩ := copied3 (W5 m ρ c)
  rw [show V6 m ρ c main_v3_0 = _ from c0.trans (W5_arr m ρ c 11), show V6 m ρ c main_v3_1 = _ from c1.trans (W5_arr m ρ c 12),
    show V6 m ρ c main_v3_2 = _ from c2.trans (W5_arr m ρ c 13), show V6 m ρ c main_v3_3 = _ from c3.trans (W5_arr m ρ c 14)] at p3
  exact chain rfl p0 p1 p2 p3 q R J

/-- What the reference leaves of the four results. -/
def ref (s : Fin 4 → S8x128x1024.Idx → EReal) (w m v : S512x1024.Idx → EReal) : Fin 4 → Mat 512 1024 :=
  ![SquareRefIdeal.Read.val_main_v2 (F := Ideal) (s 0) (s 1) (s 2) (s 3), SquareRefIdeal.Read.val_main_v26 (F := Ideal) (s 0) (s 1) (s 2) (s 3) w m v,
    SquareRefIdeal.Read.val_main_v7 (F := Ideal) (s 0) (s 1) (s 2) (s 3) m, SquareRefIdeal.Read.val_main_v13 (F := Ideal) (s 0) (s 1) (s 2) (s 3) v]

/-- The reference's four results at the entries of a layer. -/
theorem ref_at (s : Fin 4 → S8x128x1024.Idx → EReal) (w m v : S512x1024.Idx → EReal) (k : Fin 4) :
    New (fun R J q => ref s w m v q (ix2 R J)) k.1 (s k) w m v := by
  intro R Q J q hR
  have e : SquareRefIdeal.Read.val_main_v2 (F := Ideal) (s 0) (s 1) (s 2) (s 3) (ix2 R J) = grad fun d => s k (ix3 d Q J) := by
    have h : ∀ d, SquareRefIdeal.Read.val_main_v0 (F := Ideal) (s 0) (s 1) (s 2) (s 3) (ix3 d R J) = s k (ix3 d Q J) := fun d =>
      (joined (s 0) (s 1) (s 2) (s 3) _ k d Q J R hR).trans (match k with | 0 => rfl | 1 => rfl | 2 => rfl | 3 => rfl)
    rw [← funext h]
    unfold grad
    pointwise [SquareRefIdeal.Read.val_main_v2, SquareRefIdeal.Read.val_main_v1, SquareRefIdeal.Read.val_main_cst]
  rw [← e]
  match q with
  | 0 => rfl
  | 1 => rfl
  | 2 => rfl
  | 3 => rfl

/-- The four calls leave what the reference leaves. -/
theorem same (q : Fin 4) : ref ![m (c.tc.loc main_arg0), m (c.tc.loc main_arg1), m (c.tc.loc main_arg2), m (c.tc.loc main_arg3)]
    (m (c.tc.loc main_arg4)) (m (c.tc.loc main_arg5)) (m (c.tc.loc main_arg6)) q = res m ρ c q :=
  mat_ext fun R J => (whole m ρ c (fun R J q => ref _ _ _ _ q (ix2 R J)) (ref_at _ _ _ _ 3) (ref_at _ _ _ _ 2) (ref_at _ _ _ _ 1) (ref_at _ _ _ _ 0) q R J).symm

/-- The four calls run to an end, with every array as the last of them leaves it. -/
theorem ran : θ_run defs (onTc (τ := τ) (main (F := Ideal))) ⟨m, fun _ => 0, ρ⟩ fun r =>
    ∀ c : Dev nD, ∀ b ∈ ucRefs τ sig, r.2.mem ((c : Thread nD τ).1, b) = W7 m ρ c b :=
  runs pcfgs adm (pdats m ρ) cellOf_inj defs₀ m ρ main (segs m ρ) (main_run m ρ)
    (by simp only [segs, Seg.pipes_host, Seg.pipes_region, Seg.pipes_nil]; decide) (W0 m ρ) (W7 m ρ) (fun _ _ => rfl)
    ⟨fun _ => .rfl, fun _ => .rfl, fun _ => .rfl, fun _ => .rfl, fun _ => .rfl, fun _ => .rfl, fun _ => .rfl, fun _ => .rfl⟩

/-- The four calls run to an end and leave the arguments as they were. -/
theorem ends : θ_run defs (onTc (τ := τ) (main (F := Ideal))) ⟨m, fun _ => 0, ρ⟩ fun r => ∀ c : Dev nD,
    r.2.mem (c.tc.loc main_v3_0) = res m ρ c 0 ∧ r.2.mem (c.tc.loc main_v3_1) = res m ρ c 1
    ∧ r.2.mem (c.tc.loc main_v3_2) = res m ρ c 2 ∧ r.2.mem (c.tc.loc main_v3_3) = res m ρ c 3
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) :=
  (θ_run _ _ _).mono (fun r h c =>
    ⟨(h c _ (mem_uc main_v3_0 (by decide))).trans (W7_arr m ρ c 11), (h c _ (mem_uc main_v3_1 (by decide))).trans (W7_arr m ρ c 12),
     (h c _ (mem_uc main_v3_2 (by decide))).trans (W7_arr m ρ c 13), (h c _ (mem_uc main_v3_3 (by decide))).trans (W7_arr m ρ c 14),
     (h c _ (mem_uc main_arg0 (by decide))).trans (W7_main_arg0 m ρ c), (h c _ (mem_uc main_arg1 (by decide))).trans (W7_main_arg1 m ρ c),
     (h c _ (mem_uc main_arg2 (by decide))).trans (W7_main_arg2 m ρ c), (h c _ (mem_uc main_arg3 (by decide))).trans (W7_main_arg3 m ρ c),
     (h c _ (mem_uc main_arg4 (by decide))).trans (W7_main_arg4 m ρ c), (h c _ (mem_uc main_arg5 (by decide))).trans (W7_main_arg5 m ρ c),
     (h c _ (mem_uc main_arg6 (by decide))).trans (W7_main_arg6 m ρ c)⟩) (ran m ρ)

end Cert.Adam.Square

end
-- ==== Proof.AdamPool.lean ====
module

public import proofs.«01_k».proof.Proof.Chain
public import proofs.«01_k».proof.Proof.Runs
public import proofs.«01_k».proof.Proof.Gen.PoolIdeal.Frame
public import proofs.«01_k».proof.Proof.Gen.PoolRefIdeal.Read

@[expose] public section

set_option maxRecDepth 16384

noncomputable section

/-! # The update of the pooling's weight, layer by layer

The device's part of the four layers' `pool_w`, 128 rows of 256 in each layer: four calls, each in one block. -/

namespace Cert.Adam.Pool

open Idealize.ShloMosaic Idealize.ShloMosaic.TcCoe Idealize.ShloMosaic.Pointwise Idealize.ShloMosaic.Pipeline Idealize.SL.Sem
open Cert.Prod Cert.Adam Cert.PoolIdeal Cert.PoolIdeal.Gen

/-- The bounds of a whole block of one device's gradients. -/
abbrev i3 := inb_S1x128x256_S1x128x256_0_0_0

/-- The bounds of a whole block of rows. -/
abbrev i2 := inb_S128x256_S128x256_0_0

/-- What a call stores in the blocks of its four results, from the eight devices' blocks and those of the weight and the moments. -/
def pays (s : Fin 8 → Vec Ideal S1x128x256 .bf16) (w m v : Vec Ideal S128x256 .f32) : Fin 4 → Vec Ideal S128x256 .f32 :=
  ![k0_pay1 (k0_pay5 (s 5)) (k0_pay6 (s 6)) (k0_pay7 (s 7)) (k0_pay8 (s 0) (s 1) (s 2) (s 3) (s 4)),
    k0_pay4 (k0_pay5 (s 5)) (k0_pay6 (s 6)) (k0_pay7 (s 7)) w m v (k0_pay8 (s 0) (s 1) (s 2) (s 3) (s 4)),
    k0_pay2 (k0_pay5 (s 5)) (k0_pay6 (s 6)) (k0_pay7 (s 7)) m (k0_pay8 (s 0) (s 1) (s 2) (s 3) (s 4)),
    k0_pay3 (k0_pay5 (s 5)) (k0_pay6 (s 6)) (k0_pay7 (s 7)) v (k0_pay8 (s 0) (s 1) (s 2) (s 3) (s 4))]

/-- What is stored, at an entry. -/
theorem pays_at (s : Fin 8 → Vec Ideal S1x128x256 .bf16) (w m v : Vec Ideal S128x256 .f32) (r : Fin 128) (j : Fin 256) (q : Fin 4) :
    pays s w m v q (ix2 r j) = upd (grad fun d => s d (ix3 0 r j)) (w (ix2 r j)) (m (ix2 r j)) (v (ix2 r j)) q := by
  have e : pays s w m v 0 (ix2 r j) = grad fun d => s d (ix3 0 r j) := by
    show k0_pay1 (F := Ideal) (k0_pay5 (s 5)) (k0_pay6 (s 6)) (k0_pay7 (s 7)) (k0_pay8 (s 0) (s 1) (s 2) (s 3) (s 4)) (ix2 r j) = _
    unfold grad
    rw [Fin.sum_univ_eight]
    pointwise [k0_pay1, k0_pay5, k0_pay6, k0_pay7, k0_pay8]
  rw [← e]
  match q with
  | 0 => rfl
  | 1 => rfl
  | 2 => rfl
  | 3 => rfl

section Calls

variable (V : (c : Dev nD) → (b : Ref sig .tc) → Buf (Elt Ideal) ((c : Thread nD τ).loc b)) (c : Dev nD)

/-- Which blocks a point of the first call reads and writes. -/
theorem idx0 : ∀ (t : Fin cfg0.N) (w : Fin cfg0.W),
    List.ofFn ((cfg0.win w).index t) = if w.1 < 8 then [w.1, t.1, 0] else [3 + t.1, 0] :=
  (by decide +kernel : ∀ (t : Fin grid0.N) (w : Fin cfg0.W), _)

/-- The eight devices' blocks at a point of the first call. -/
def slots0 (t : Fin cfg0.N) : Fin 8 → Vec Ideal S1x128x256 .bf16 :=
  ![iblk0 V c 0 t, iblk0 V c 1 t, iblk0 V c 2 t, iblk0 V c 3 t, iblk0 V c 4 t, iblk0 V c 5 t, iblk0 V c 6 t, iblk0 V c 7 t]

/-- The blocks of the four results after a point of the first call. -/
def left0 (t : Fin cfg0.N) : Fin 4 → Mat 128 256 :=
  ![(dat0 V c).after 11 t, (dat0 V c).after 12 t, (dat0 V c).after 13 t, (dat0 V c).after 14 t]

/-- They are what the point stores. -/
theorem stored0 (t : Fin cfg0.N) (q : Fin 4) :
    left0 V c t q = pays (slots0 V c t) (iblk0 V c 8 t) (iblk0 V c 9 t) (iblk0 V c 10 t) q := by
  have h : ∀ q, left0 V c t q = pays
      ![View.ld (iblk0 V c 0 t) r0_0, View.ld (iblk0 V c 1 t) r0_0, View.ld (iblk0 V c 2 t) r0_0, View.ld (iblk0 V c 3 t) r0_0,
        View.ld (iblk0 V c 4 t) r0_0, View.ld (iblk0 V c 5 t) r0_0, View.ld (iblk0 V c 6 t) r0_0, View.ld (iblk0 V c 7 t) r0_0]
      (View.ld (iblk0 V c 8 t) r0_1) (View.ld (iblk0 V c 9 t) r0_1) (View.ld (iblk0 V c 10 t) r0_1) q := fun q => match q with
    | 0 => (after0_11 V c t).trans (.trans (by sl_kernel_rfl) (View.canon_unit_zero zero2 i2 (pays _ _ _ _ 0)))
    | 1 => (after0_12 V c t).trans (.trans (by sl_kernel_rfl) (View.canon_unit_zero zero2 i2 (pays _ _ _ _ 1)))
    | 2 => (after0_13 V c t).trans (.trans (by sl_kernel_rfl) (View.canon_unit_zero zero2 i2 (pays _ _ _ _ 2)))
    | 3 => (after0_14 V c t).trans (.trans (by sl_kernel_rfl) (View.canon_unit_zero zero2 i2 (pays _ _ _ _ 3)))
  have e3 : ∀ x : Vec Ideal S1x128x256 .bf16, View.ld x r0_0 = x := fun x => View.ld_unit_zero zero3 i3 x
  have e2 : ∀ x : Vec Ideal S128x256 .f32, View.ld x r0_1 = x := fun x => View.ld_unit_zero zero2 i2 x
  simp only [e3, e2] at h
  exact h q

/-- An entry of a device's block at a point of the first call. -/
theorem slot0 (t : Fin cfg0.N) (d : Fin 8) (r : Fin 128) (j : Fin 256) (Q : Fin 128) (hQ : Q.1 = 128 * t.1 + r.1) :
    slots0 V c t d (ix3 0 r j) = (V c main_arg3 : S8x128x256.Idx → EReal) (ix3 d Q j) :=
  match d with
  | 0 => congrArg (V c main_arg3) (at_slot ((cfg0.win 0).blk t).view.emb 0 r j Q rfl rfl rfl (of3 (idx0 t 0)) hQ)
  | 1 => congrArg (V c main_arg3) (at_slot ((cfg0.win 1).blk t).view.emb 1 r j Q rfl rfl rfl (of3 (idx0 t 1)) hQ)
  | 2 => congrArg (V c main_arg3) (at_slot ((cfg0.win 2).blk t).view.emb 2 r j Q rfl rfl rfl (of3 (idx0 t 2)) hQ)
  | 3 => congrArg (V c main_arg3) (at_slot ((cfg0.win 3).blk t).view.emb 3 r j Q rfl rfl rfl (of3 (idx0 t 3)) hQ)
  | 4 => congrArg (V c main_arg3) (at_slot ((cfg0.win 4).blk t).view.emb 4 r j Q rfl rfl rfl (of3 (idx0 t 4)) hQ)
  | 5 => congrArg (V c main_arg3) (at_slot ((cfg0.win 5).blk t).view.emb 5 r j Q rfl rfl rfl (of3 (idx0 t 5)) hQ)
  | 6 => congrArg (V c main_arg3) (at_slot ((cfg0.win 6).blk t).view.emb 6 r j Q rfl rfl rfl (of3 (idx0 t 6)) hQ)
  | 7 => congrArg (V c main_arg3) (at_slot ((cfg0.win 7).blk t).view.emb 7 r j Q rfl rfl rfl (of3 (idx0 t 7)) hQ)

/-- What the first call writes of each result. -/
theorem wrote0 (q : Fin 4) : Wrote (A := 512) 3 (fun t => left0 V c t q)
    ((![V c main_v0_0, V c main_v0_1, V c main_v0_2, V c main_v0_3] : Fin 4 → Mat 512 256) q)
    ((![(dat0 V c).arrAt 11 cfg0.N, (dat0 V c).arrAt 12 cfg0.N, (dat0 V c).arrAt 13 cfg0.N, (dat0 V c).arrAt 14 cfg0.N] :
      Fin 4 → Mat 512 256) q) :=
  match q with
  | 0 => .of (fun t => ((cfg0.win 11).blk t).view.emb) (fun _ _ _ => rfl) (fun _ _ _ => rfl) (fun t => of2 (idx0 t 11))
      (fun t => congrFun (written (dat0 V c) 11 rfl flush0_11 (apart (idx0 · 11)) t))
      (fun i h => (unwritten (dat0 V c) 11 i h).trans (congrFun (A_eq0 V c 11) i))
  | 1 => .of (fun t => ((cfg0.win 12).blk t).view.emb) (fun _ _ _ => rfl) (fun _ _ _ => rfl) (fun t => of2 (idx0 t 12))
      (fun t => congrFun (written (dat0 V c) 12 rfl flush0_12 (apart (idx0 · 12)) t))
      (fun i h => (unwritten (dat0 V c) 12 i h).trans (congrFun (A_eq0 V c 12) i))
  | 2 => .of (fun t => ((cfg0.win 13).blk t).view.emb) (fun _ _ _ => rfl) (fun _ _ _ => rfl) (fun t => of2 (idx0 t 13))
      (fun t => congrFun (written (dat0 V c) 13 rfl flush0_13 (apart (idx0 · 13)) t))
      (fun i h => (unwritten (dat0 V c) 13 i h).trans (congrFun (A_eq0 V c 13) i))
  | 3 => .of (fun t => ((cfg0.win 14).blk t).view.emb) (fun _ _ _ => rfl) (fun _ _ _ => rfl) (fun t => of2 (idx0 t 14))
      (fun t => congrFun (written (dat0 V c) 14 rfl flush0_14 (apart (idx0 · 14)) t))
      (fun i h => (unwritten (dat0 V c) 14 i h).trans (congrFun (A_eq0 V c 14) i))

/-- The first call writes the rows of its layer and leaves the others. -/
theorem pass0 (new : Fin 512 → Fin 256 → Fin 4 → EReal)
    (hn : New new 3 (V c main_arg3) (V c main_arg4) (V c main_arg5) (V c main_arg6)) :
    Pass (3 * 128) (4 * 128) new ![V c main_v0_0, V c main_v0_1, V c main_v0_2, V c main_v0_3]
      ![(dat0 V c).arrAt 11 cfg0.N, (dat0 V c).arrAt 12 cfg0.N, (dat0 V c).arrAt 13 cfg0.N, (dat0 V c).arrAt 14 cfg0.N] :=
  .of_call (n := cfg0.N) (a := 128) (first := 3) (by decide) (by rw [show cfg0.N = 1 from N_0])
    (by rw [show cfg0.N = 1 from N_0]) (wrote0 V c)
    (fun t q r j => (congrFun (stored0 V c t q) _).trans (pays_at _ _ _ _ r j q)) (slot0 V c)
    (fun t r j R h => congrArg (V c main_arg4) (at_rows ((cfg0.win 8).blk t).view.emb r j R rfl rfl (of2 (idx0 t 8)) h))
    (fun t r j R h => congrArg (V c main_arg5) (at_rows ((cfg0.win 9).blk t).view.emb r j R rfl rfl (of2 (idx0 t 9)) h))
    (fun t r j R h => congrArg (V c main_arg6) (at_rows ((cfg0.win 10).blk t).view.emb r j R rfl rfl (of2 (idx0 t 10)) h)) hn

/-- Which blocks a point of the second call reads and writes. -/
theorem idx1 : ∀ (t : Fin cfg1.N) (w : Fin cfg1.W),
    List.ofFn ((cfg1.win w).index t) = if w.1 < 8 then [w.1, t.1, 0] else [2 + t.1, 0] :=
  (by decide +kernel : ∀ (t : Fin grid1.N) (w : Fin cfg1.W), _)

/-- The eight devices' blocks at a point of the second call. -/
def slots1 (t : Fin cfg1.N) : Fin 8 → Vec Ideal S1x128x256 .bf16 :=
  ![iblk1 V c 0 t, iblk1 V c 1 t, iblk1 V c 2 t, iblk1 V c 3 t, iblk1 V c 4 t, iblk1 V c 5 t, iblk1 V c 6 t, iblk1 V c 7 t]

/-- The blocks of the four results after a point of the second call. -/
def left1 (t : Fin cfg1.N) : Fin 4 → Mat 128 256 :=
  ![(dat1 V c).after 11 t, (dat1 V c).after 12 t, (dat1 V c).after 13 t, (dat1 V c).after 14 t]

/-- They are what the point stores. -/
theorem stored1 (t : Fin cfg1.N) (q : Fin 4) :
    left1 V c t q = pays (slots1 V c t) (iblk1 V c 8 t) (iblk1 V c 9 t) (iblk1 V c 10 t) q := by
  have h : ∀ q, left1 V c t q = pays
      ![load3 (ms1_0 t) (hs1_0 t) i3 (iblk1 V c 0 t), load3 (ms1_1 t) (hs1_1 t) i3 (iblk1 V c 1 t),
        load3 (ms1_2 t) (hs1_2 t) i3 (iblk1 V c 2 t), load3 (ms1_3 t) (hs1_3 t) i3 (iblk1 V c 3 t),
        load3 (ms1_4 t) (hs1_4 t) i3 (iblk1 V c 4 t), load3 (ms1_5 t) (hs1_5 t) i3 (iblk1 V c 5 t),
        load3 (ms1_6 t) (hs1_6 t) i3 (iblk1 V c 6 t), load3 (ms1_7 t) (hs1_7 t) i3 (iblk1 V c 7 t)]
      (load2 (ms1_8 t) (hs1_8 t) i2 (iblk1 V c 8 t)) (load2 (ms1_9 t) (hs1_9 t) i2 (iblk1 V c 9 t))
      (load2 (ms1_10 t) (hs1_10 t) i2 (iblk1 V c 10 t)) q := fun q => match q with
    | 0 => by
      refine (after1_11 V c t).trans ?_
      unfold outsAt1 out1_A_11
      dsimp only
      refine stored VO1_11 zero2 i2 (pays _ _ _ _ 0) ?_
      sl_kernel_rfl
    | 1 => by
      refine (after1_12 V c t).trans ?_
      unfold outsAt1 out1_A_12
      dsimp only
      refine stored VO1_12 zero2 i2 (pays _ _ _ _ 1) ?_
      sl_kernel_rfl
    | 2 => by
      refine (after1_13 V c t).trans ?_
      unfold outsAt1 out1_A_13
      dsimp only
      refine stored VO1_13 zero2 i2 (pays _ _ _ _ 2) ?_
      sl_kernel_rfl
    | 3 => by
      refine (after1_14 V c t).trans ?_
      unfold outsAt1 out1_A_14
      dsimp only
      refine stored VO1_14 zero2 i2 (pays _ _ _ _ 3) ?_
      sl_kernel_rfl
  simp only [load3_eq, load2_eq] at h
  exact h q

/-- An entry of a device's block at a point of the second call. -/
theorem slot1 (t : Fin cfg1.N) (d : Fin 8) (r : Fin 128) (j : Fin 256) (Q : Fin 128) (hQ : Q.1 = 128 * t.1 + r.1) :
    slots1 V c t d (ix3 0 r j) = (V c main_arg2 : S8x128x256.Idx → EReal) (ix3 d Q j) :=
  match d with
  | 0 => congrArg (V c main_arg2) (at_slot ((cfg1.win 0).blk t).view.emb 0 r j Q rfl rfl rfl (of3 (idx1 t 0)) hQ)
  | 1 => congrArg (V c main_arg2) (at_slot ((cfg1.win 1).blk t).view.emb 1 r j Q rfl rfl rfl (of3 (idx1 t 1)) hQ)
  | 2 => congrArg (V c main_arg2) (at_slot ((cfg1.win 2).blk t).view.emb 2 r j Q rfl rfl rfl (of3 (idx1 t 2)) hQ)
  | 3 => congrArg (V c main_arg2) (at_slot ((cfg1.win 3).blk t).view.emb 3 r j Q rfl rfl rfl (of3 (idx1 t 3)) hQ)
  | 4 => congrArg (V c main_arg2) (at_slot ((cfg1.win 4).blk t).view.emb 4 r j Q rfl rfl rfl (of3 (idx1 t 4)) hQ)
  | 5 => congrArg (V c main_arg2) (at_slot ((cfg1.win 5).blk t).view.emb 5 r j Q rfl rfl rfl (of3 (idx1 t 5)) hQ)
  | 6 => congrArg (V c main_arg2) (at_slot ((cfg1.win 6).blk t).view.emb 6 r j Q rfl rfl rfl (of3 (idx1 t 6)) hQ)
  | 7 => congrArg (V c main_arg2) (at_slot ((cfg1.win 7).blk t).view.emb 7 r j Q rfl rfl rfl (of3 (idx1 t 7)) hQ)

/-- What the second call writes of each result. -/
theorem wrote1 (q : Fin 4) : Wrote (A := 512) 2 (fun t => left1 V c t q)
    ((![V c main_v1_0, V c main_v1_1, V c main_v1_2, V c main_v1_3] : Fin 4 → Mat 512 256) q)
    ((![(dat1 V c).arrAt 11 cfg1.N, (dat1 V c).arrAt 12 cfg1.N, (dat1 V c).arrAt 13 cfg1.N, (dat1 V c).arrAt 14 cfg1.N] :
      Fin 4 → Mat 512 256) q) :=
  match q with
  | 0 => .of (fun t => ((cfg1.win 11).blk t).view.emb) (fun _ _ _ => rfl) (fun _ _ _ => rfl) (fun t => of2 (idx1 t 11))
      (fun t => congrFun (written (dat1 V c) 11 rfl flush1_11 (apart (idx1 · 11)) t))
      (fun i h => (unwritten (dat1 V c) 11 i h).trans (congrFun (A_eq1 V c 11) i))
  | 1 => .of (fun t => ((cfg1.win 12).blk t).view.emb) (fun _ _ _ => rfl) (fun _ _ _ => rfl) (fun t => of2 (idx1 t 12))
      (fun t => congrFun (written (dat1 V c) 12 rfl flush1_12 (apart (idx1 · 12)) t))
      (fun i h => (unwritten (dat1 V c) 12 i h).trans (congrFun (A_eq1 V c 12) i))
  | 2 => .of (fun t => ((cfg1.win 13).blk t).view.emb) (fun _ _ _ => rfl) (fun _ _ _ => rfl) (fun t => of2 (idx1 t 13))
      (fun t => congrFun (written (dat1 V c) 13 rfl flush1_13 (apart (idx1 · 13)) t))
      (fun i h => (unwritten (dat1 V c) 13 i h).trans (congrFun (A_eq1 V c 13) i))
  | 3 => .of (fun t => ((cfg1.win 14).blk t).view.emb) (fun _ _ _ => rfl) (fun _ _ _ => rfl) (fun t => of2 (idx1 t 14))
      (fun t => congrFun (written (dat1 V c) 14 rfl flush1_14 (apart (idx1 · 14)) t))
      (fun i h => (unwritten (dat1 V c) 14 i h).trans (congrFun (A_eq1 V c 14) i))

/-- The second call writes the rows of its layer and leaves the others. -/
theorem pass1 (new : Fin 512 → Fin 256 → Fin 4 → EReal)
    (hn : New new 2 (V c main_arg2) (V c main_arg4) (V c main_arg5) (V c main_arg6)) :
    Pass (2 * 128) (3 * 128) new ![V c main_v1_0, V c main_v1_1, V c main_v1_2, V c main_v1_3]
      ![(dat1 V c).arrAt 11 cfg1.N, (dat1 V c).arrAt 12 cfg1.N, (dat1 V c).arrAt 13 cfg1.N, (dat1 V c).arrAt 14 cfg1.N] :=
  .of_call (n := cfg1.N) (a := 128) (first := 2) (by decide) (by rw [show cfg1.N = 1 from N_1])
    (by rw [show cfg1.N = 1 from N_1]) (wrote1 V c)
    (fun t q r j => (congrFun (stored1 V c t q) _).trans (pays_at _ _ _ _ r j q)) (slot1 V c)
    (fun t r j R h => congrArg (V c main_arg4) (at_rows ((cfg1.win 8).blk t).view.emb r j R rfl rfl (of2 (idx1 t 8)) h))
    (fun t r j R h => congrArg (V c main_arg5) (at_rows ((cfg1.win 9).blk t).view.emb r j R rfl rfl (of2 (idx1 t 9)) h))
    (fun t r j R h => congrArg (V c main_arg6) (at_rows ((cfg1.win 10).blk t).view.emb r j R rfl rfl (of2 (idx1 t 10)) h)) hn

/-- Which blocks a point of the third call reads and writes. -/
theorem idx2 : ∀ (t : Fin cfg2.N) (w : Fin cfg2.W),
    List.ofFn ((cfg2.win w).index t) = if w.1 < 8 then [w.1, t.1, 0] else [1 + t.1, 0] :=
  (by decide +kernel : ∀ (t : Fin grid2.N) (w : Fin cfg2.W), _)

/-- The eight devices' blocks at a point of the third call. -/
def slots2 (t : Fin cfg2.N) : Fin 8 → Vec Ideal S1x128x256 .bf16 :=
  ![iblk2 V c 0 t, iblk2 V c 1 t, iblk2 V c 2 t, iblk2 V c 3 t, iblk2 V c 4 t, iblk2 V c 5 t, iblk2 V c 6 t, iblk2 V c 7 t]

/-- The blocks of the four results after a point of the third call. -/
def left2 (t : Fin cfg2.N) : Fin 4 → Mat 128 256 :=
  ![(dat2 V c).after 11 t, (dat2 V c).after 12 t, (dat2 V c).after 13 t, (dat2 V c).after 14 t]

/-- They are what the point stores. -/
theorem stored2 (t : Fin cfg2.N) (q : Fin 4) :
    left2 V c t q = pays (slots2 V c t) (iblk2 V c 8 t) (iblk2 V c 9 t) (iblk2 V c 10 t) q := by
  have h : ∀ q, left2 V c t q = pays
      ![load3 (ms2_0 t) (hs2_0 t) i3 (iblk2 V c 0 t), load3 (ms2_1 t) (hs2_1 t) i3 (iblk2 V c 1 t),
        load3 (ms2_2 t) (hs2_2 t) i3 (iblk2 V c 2 t), load3 (ms2_3 t) (hs2_3 t) i3 (iblk2 V c 3 t),
        load3 (ms2_4 t) (hs2_4 t) i3 (iblk2 V c 4 t), load3 (ms2_5 t) (hs2_5 t) i3 (iblk2 V c 5 t),
        load3 (ms2_6 t) (hs2_6 t) i3 (iblk2 V c 6 t), load3 (ms2_7 t) (hs2_7 t) i3 (iblk2 V c 7 t)]
      (load2 (ms2_8 t) (hs2_8 t) i2 (iblk2 V c 8 t)) (load2 (ms2_9 t) (hs2_9 t) i2 (iblk2 V c 9 t))
      (load2 (ms2_10 t) (hs2_10 t) i2 (iblk2 V c 10 t)) q := fun q => match q with
    | 0 => by
      refine (after2_11 V c t).trans ?_
      unfold outsAt2 out2_A_11
      dsimp only
      refine stored VO2_11 zero2 i2 (pays _ _ _ _ 0) ?_
      sl_kernel_rfl
    | 1 => by
      refine (after2_12 V c t).trans ?_
      unfold outsAt2 out2_A_12
      dsimp only
      refine stored VO2_12 zero2 i2 (pays _ _ _ _ 1) ?_
      sl_kernel_rfl
    | 2 => by
      refine (after2_13 V c t).trans ?_
      unfold outsAt2 out2_A_13
      dsimp only
      refine stored VO2_13 zero2 i2 (pays _ _ _ _ 2) ?_
      sl_kernel_rfl
    | 3 => by
      refine (after2_14 V c t).trans ?_
      unfold outsAt2 out2_A_14
      dsimp only
      refine stored VO2_14 zero2 i2 (pays _ _ _ _ 3) ?_
      sl_kernel_rfl
  simp only [load3_eq, load2_eq] at h
  exact h q

/-- An entry of a device's block at a point of the third call. -/
theorem slot2 (t : Fin cfg2.N) (d : Fin 8) (r : Fin 128) (j : Fin 256) (Q : Fin 128) (hQ : Q.1 = 128 * t.1 + r.1) :
    slots2 V c t d (ix3 0 r j) = (V c main_arg1 : S8x128x256.Idx → EReal) (ix3 d Q j) :=
  match d with
  | 0 => congrArg (V c main_arg1) (at_slot ((cfg2.win 0).blk t).view.emb 0 r j Q rfl rfl rfl (of3 (idx2 t 0)) hQ)
  | 1 => congrArg (V c main_arg1) (at_slot ((cfg2.win 1).blk t).view.emb 1 r j Q rfl rfl rfl (of3 (idx2 t 1)) hQ)
  | 2 => congrArg (V c main_arg1) (at_slot ((cfg2.win 2).blk t).view.emb 2 r j Q rfl rfl rfl (of3 (idx2 t 2)) hQ)
  | 3 => congrArg (V c main_arg1) (at_slot ((cfg2.win 3).blk t).view.emb 3 r j Q rfl rfl rfl (of3 (idx2 t 3)) hQ)
  | 4 => congrArg (V c main_arg1) (at_slot ((cfg2.win 4).blk t).view.emb 4 r j Q rfl rfl rfl (of3 (idx2 t 4)) hQ)
  | 5 => congrArg (V c main_arg1) (at_slot ((cfg2.win 5).blk t).view.emb 5 r j Q rfl rfl rfl (of3 (idx2 t 5)) hQ)
  | 6 => congrArg (V c main_arg1) (at_slot ((cfg2.win 6).blk t).view.emb 6 r j Q rfl rfl rfl (of3 (idx2 t 6)) hQ)
  | 7 => congrArg (V c main_arg1) (at_slot ((cfg2.win 7).blk t).view.emb 7 r j Q rfl rfl rfl (of3 (idx2 t 7)) hQ)

/-- What the third call writes of each result. -/
theorem wrote2 (q : Fin 4) : Wrote (A := 512) 1 (fun t => left2 V c t q)
    ((![V c main_v2_0, V c main_v2_1, V c main_v2_2, V c main_v2_3] : Fin 4 → Mat 512 256) q)
    ((![(dat2 V c).arrAt 11 cfg2.N, (dat2 V c).arrAt 12 cfg2.N, (dat2 V c).arrAt 13 cfg2.N, (dat2 V c).arrAt 14 cfg2.N] :
      Fin 4 → Mat 512 256) q) :=
  match q with
  | 0 => .of (fun t => ((cfg2.win 11).blk t).view.emb) (fun _ _ _ => rfl) (fun _ _ _ => rfl) (fun t => of2 (idx2 t 11))
      (fun t => congrFun (written (dat2 V c) 11 rfl flush2_11 (apart (idx2 · 11)) t))
      (fun i h => (unwritten (dat2 V c) 11 i h).trans (congrFun (A_eq2 V c 11) i))
  | 1 => .of (fun t => ((cfg2.win 12).blk t).view.emb) (fun _ _ _ => rfl) (fun _ _ _ => rfl) (fun t => of2 (idx2 t 12))
      (fun t => congrFun (written (dat2 V c) 12 rfl flush2_12 (apart (idx2 · 12)) t))
      (fun i h => (unwritten (dat2 V c) 12 i h).trans (congrFun (A_eq2 V c 12) i))
  | 2 => .of (fun t => ((cfg2.win 13).blk t).view.emb) (fun _ _ _ => rfl) (fun _ _ _ => rfl) (fun t => of2 (idx2 t 13))
      (fun t => congrFun (written (dat2 V c) 13 rfl flush2_13 (apart (idx2 · 13)) t))
      (fun i h => (unwritten (dat2 V c) 13 i h).trans (congrFun (A_eq2 V c 13) i))
  | 3 => .of (fun t => ((cfg2.win 14).blk t).view.emb) (fun _ _ _ => rfl) (fun _ _ _ => rfl) (fun t => of2 (idx2 t 14))
      (fun t => congrFun (written (dat2 V c) 14 rfl flush2_14 (apart (idx2 · 14)) t))
      (fun i h => (unwritten (dat2 V c) 14 i h).trans (congrFun (A_eq2 V c 14) i))

/-- The third call writes the rows of its layer and leaves the others. -/
theorem pass2 (new : Fin 512 → Fin 256 → Fin 4 → EReal)
    (hn : New new 1 (V c main_arg1) (V c main_arg4) (V c main_arg5) (V c main_arg6)) :
    Pass (1 * 128) (2 * 128) new ![V c main_v2_0, V c main_v2_1, V c main_v2_2, V c main_v2_3]
      ![(dat2 V c).arrAt 11 cfg2.N, (dat2 V c).arrAt 12 cfg2.N, (dat2 V c).arrAt 13 cfg2.N, (dat2 V c).arrAt 14 cfg2.N] :=
  .of_call (n := cfg2.N) (a := 128) (first := 1) (by decide) (by rw [show cfg2.N = 1 from N_2])
    (by rw [show cfg2.N = 1 from N_2]) (wrote2 V c)
    (fun t q r j => (congrFun (stored2 V c t q) _).trans (pays_at _ _ _ _ r j q)) (slot2 V c)
    (fun t r j R h => congrArg (V c main_arg4) (at_rows ((cfg2.win 8).blk t).view.emb r j R rfl rfl (of2 (idx2 t 8)) h))
    (fun t r j R h => congrArg (V c main_arg5) (at_rows ((cfg2.win 9).blk t).view.emb r j R rfl rfl (of2 (idx2 t 9)) h))
    (fun t r j R h => congrArg (V c main_arg6) (at_rows ((cfg2.win 10).blk t).view.emb r j R rfl rfl (of2 (idx2 t 10)) h)) hn

/-- Which blocks a point of the fourth call reads and writes. -/
theorem idx3 : ∀ (t : Fin cfg3.N) (w : Fin cfg3.W),
    List.ofFn ((cfg3.win w).index t) = if w.1 < 8 then [w.1, t.1, 0] else [0 + t.1, 0] :=
  (by decide +kernel : ∀ (t : Fin grid3.N) (w : Fin cfg3.W), _)

/-- The eight devices' blocks at a point of the fourth call. -/
def slots3 (t : Fin cfg3.N) : Fin 8 → Vec Ideal S1x128x256 .bf16 :=
  ![iblk3 V c 0 t, iblk3 V c 1 t, iblk3 V c 2 t, iblk3 V c 3 t, iblk3 V c 4 t, iblk3 V c 5 t, iblk3 V c 6 t, iblk3 V c 7 t]

/-- The blocks of the four results after a point of the fourth call. -/
def left3 (t : Fin cfg3.N) : Fin 4 → Mat 128 256 :=
  ![(dat3 V c).after 11 t, (dat3 V c).after 12 t, (dat3 V c).after 13 t, (dat3 V c).after 14 t]

/-- They are what the point stores. -/
theorem stored3 (t : Fin cfg3.N) (q : Fin 4) :
    left3 V c t q = pays (slots3 V c t) (iblk3 V c 8 t) (iblk3 V c 9 t) (iblk3 V c 10 t) q := by
  have h : ∀ q, left3 V c t q = pays
      ![load3 (ms3_0 t) (hs3_0 t) i3 (iblk3 V c 0 t), load3 (ms3_1 t) (hs3_1 t) i3 (iblk3 V c 1 t),
        load3 (ms3_2 t) (hs3_2 t) i3 (iblk3 V c 2 t), load3 (ms3_3 t) (hs3_3 t) i3 (iblk3 V c 3 t),
        load3 (ms3_4 t) (hs3_4 t) i3 (iblk3 V c 4 t), load3 (ms3_5 t) (hs3_5 t) i3 (iblk3 V c 5 t),
        load3 (ms3_6 t) (hs3_6 t) i3 (iblk3 V c 6 t), load3 (ms3_7 t) (hs3_7 t) i3 (iblk3 V c 7 t)]
      (load2 (ms3_8 t) (hs3_8 t) i2 (iblk3 V c 8 t)) (load2 (ms3_9 t) (hs3_9 t) i2 (iblk3 V c 9 t))
      (load2 (ms3_10 t) (hs3_10 t) i2 (iblk3 V c 10 t)) q := fun q => match q with
    | 0 => by
      refine (after3_11 V c t).trans ?_
      unfold outsAt3 out3_A_11
      dsimp only
      refine stored VO3_11 zero2 i2 (pays _ _ _ _ 0) ?_
      sl_kernel_rfl
    | 1 => by
      refine (after3_12 V c t).trans ?_
      unfold outsAt3 out3_A_12
      dsimp only
      refine stored VO3_12 zero2 i2 (pays _ _ _ _ 1) ?_
      sl_kernel_rfl
    | 2 => by
      refine (after3_13 V c t).trans ?_
      unfold outsAt3 out3_A_13
      dsimp only
      refine stored VO3_13 zero2 i2 (pays _ _ _ _ 2) ?_
      sl_kernel_rfl
    | 3 => by
      refine (after3_14 V c t).trans ?_
      unfold outsAt3 out3_A_14
      dsimp only
      refine stored VO3_14 zero2 i2 (pays _ _ _ _ 3) ?_
      sl_kernel_rfl
  simp only [load3_eq, load2_eq] at h
  exact h q

/-- An entry of a device's block at a point of the fourth call. -/
theorem slot3 (t : Fin cfg3.N) (d : Fin 8) (r : Fin 128) (j : Fin 256) (Q : Fin 128) (hQ : Q.1 = 128 * t.1 + r.1) :
    slots3 V c t d (ix3 0 r j) = (V c main_arg0 : S8x128x256.Idx → EReal) (ix3 d Q j) :=
  match d with
  | 0 => congrArg (V c main_arg0) (at_slot ((cfg3.win 0).blk t).view.emb 0 r j Q rfl rfl rfl (of3 (idx3 t 0)) hQ)
  | 1 => congrArg (V c main_arg0) (at_slot ((cfg3.win 1).blk t).view.emb 1 r j Q rfl rfl rfl (of3 (idx3 t 1)) hQ)
  | 2 => congrArg (V c main_arg0) (at_slot ((cfg3.win 2).blk t).view.emb 2 r j Q rfl rfl rfl (of3 (idx3 t 2)) hQ)
  | 3 => congrArg (V c main_arg0) (at_slot ((cfg3.win 3).blk t).view.emb 3 r j Q rfl rfl rfl (of3 (idx3 t 3)) hQ)
  | 4 => congrArg (V c main_arg0) (at_slot ((cfg3.win 4).blk t).view.emb 4 r j Q rfl rfl rfl (of3 (idx3 t 4)) hQ)
  | 5 => congrArg (V c main_arg0) (at_slot ((cfg3.win 5).blk t).view.emb 5 r j Q rfl rfl rfl (of3 (idx3 t 5)) hQ)
  | 6 => congrArg (V c main_arg0) (at_slot ((cfg3.win 6).blk t).view.emb 6 r j Q rfl rfl rfl (of3 (idx3 t 6)) hQ)
  | 7 => congrArg (V c main_arg0) (at_slot ((cfg3.win 7).blk t).view.emb 7 r j Q rfl rfl rfl (of3 (idx3 t 7)) hQ)

/-- What the fourth call writes of each result. -/
theorem wrote3 (q : Fin 4) : Wrote (A := 512) 0 (fun t => left3 V c t q)
    ((![V c main_v3_0, V c main_v3_1, V c main_v3_2, V c main_v3_3] : Fin 4 → Mat 512 256) q)
    ((![(dat3 V c).arrAt 11 cfg3.N, (dat3 V c).arrAt 12 cfg3.N, (dat3 V c).arrAt 13 cfg3.N, (dat3 V c).arrAt 14 cfg3.N] :
      Fin 4 → Mat 512 256) q) :=
  match q with
  | 0 => .of (fun t => ((cfg3.win 11).blk t).view.emb) (fun _ _ _ => rfl) (fun _ _ _ => rfl) (fun t => of2 (idx3 t 11))
      (fun t => congrFun (written (dat3 V c) 11 rfl flush3_11 (apart (idx3 · 11)) t))
      (fun i h => (unwritten (dat3 V c) 11 i h).trans (congrFun (A_eq3 V c 11) i))
  | 1 => .of (fun t => ((cfg3.win 12).blk t).view.emb) (fun _ _ _ => rfl) (fun _ _ _ => rfl) (fun t => of2 (idx3 t 12))
      (fun t => congrFun (written (dat3 V c) 12 rfl flush3_12 (apart (idx3 · 12)) t))
      (fun i h => (unwritten (dat3 V c) 12 i h).trans (congrFun (A_eq3 V c 12) i))
  | 2 => .of (fun t => ((cfg3.win 13).blk t).view.emb) (fun _ _ _ => rfl) (fun _ _ _ => rfl) (fun t => of2 (idx3 t 13))
      (fun t => congrFun (written (dat3 V c) 13 rfl flush3_13 (apart (idx3 · 13)) t))
      (fun i h => (unwritten (dat3 V c) 13 i h).trans (congrFun (A_eq3 V c 13) i))
  | 3 => .of (fun t => ((cfg3.win 14).blk t).view.emb) (fun _ _ _ => rfl) (fun _ _ _ => rfl) (fun t => of2 (idx3 t 14))
      (fun t => congrFun (written (dat3 V c) 14 rfl flush3_14 (apart (idx3 · 14)) t))
      (fun i h => (unwritten (dat3 V c) 14 i h).trans (congrFun (A_eq3 V c 14) i))

/-- The fourth call writes the rows of its layer and leaves the others. -/
theorem pass3 (new : Fin 512 → Fin 256 → Fin 4 → EReal)
    (hn : New new 0 (V c main_arg0) (V c main_arg4) (V c main_arg5) (V c main_arg6)) :
    Pass (0 * 128) (1 * 128) new ![V c main_v3_0, V c main_v3_1, V c main_v3_2, V c main_v3_3]
      ![(dat3 V c).arrAt 11 cfg3.N, (dat3 V c).arrAt 12 cfg3.N, (dat3 V c).arrAt 13 cfg3.N, (dat3 V c).arrAt 14 cfg3.N] :=
  .of_call (n := cfg3.N) (a := 128) (first := 0) (by decide) (by rw [show cfg3.N = 1 from N_3])
    (by rw [show cfg3.N = 1 from N_3]) (wrote3 V c)
    (fun t q r j => (congrFun (stored3 V c t q) _).trans (pays_at _ _ _ _ r j q)) (slot3 V c)
    (fun t r j R h => congrArg (V c main_arg4) (at_rows ((cfg3.win 8).blk t).view.emb r j R rfl rfl (of2 (idx3 t 8)) h))
    (fun t r j R h => congrArg (V c main_arg5) (at_rows ((cfg3.win 9).blk t).view.emb r j R rfl rfl (of2 (idx3 t 9)) h))
    (fun t r j R h => congrArg (V c main_arg6) (at_rows ((cfg3.win 10).blk t).view.emb r j R rfl rfl (of2 (idx3 t 10)) h)) hn

end Calls

/-- The second call starts from the results of the one before it. -/
theorem copied1 (V : Valuation τ sig (Elt Ideal)) :
    StableHlo.after hostOps1 V (Proc.devRef .tc main_v1_0) = V (Proc.devRef .tc main_v0_0)
    ∧ StableHlo.after hostOps1 V (Proc.devRef .tc main_v1_1) = V (Proc.devRef .tc main_v0_1)
    ∧ StableHlo.after hostOps1 V (Proc.devRef .tc main_v1_2) = V (Proc.devRef .tc main_v0_2)
    ∧ StableHlo.after hostOps1 V (Proc.devRef .tc main_v1_3) = V (Proc.devRef .tc main_v0_3) :=
  ⟨rfl, rfl, rfl, rfl⟩

/-- The third call starts from the results of the one before it. -/
theorem copied2 (V : Valuation τ sig (Elt Ideal)) :
    StableHlo.after hostOps2 V (Proc.devRef .tc main_v2_0) = V (Proc.devRef .tc main_v1_0)
    ∧ StableHlo.after hostOps2 V (Proc.devRef .tc main_v2_1) = V (Proc.devRef .tc main_v1_1)
    ∧ StableHlo.after hostOps2 V (Proc.devRef .tc main_v2_2) = V (Proc.devRef .tc main_v1_2)
    ∧ StableHlo.after hostOps2 V (Proc.devRef .tc main_v2_3) = V (Proc.devRef .tc main_v1_3) :=
  ⟨rfl, rfl, rfl, rfl⟩

/-- The fourth call starts from the results of the one before it. -/
theorem copied3 (V : Valuation τ sig (Elt Ideal)) :
    StableHlo.after hostOps3 V (Proc.devRef .tc main_v3_0) = V (Proc.devRef .tc main_v2_0)
    ∧ StableHlo.after hostOps3 V (Proc.devRef .tc main_v3_1) = V (Proc.devRef .tc main_v2_1)
    ∧ StableHlo.after hostOps3 V (Proc.devRef .tc main_v3_2) = V (Proc.devRef .tc main_v2_2)
    ∧ StableHlo.after hostOps3 V (Proc.devRef .tc main_v3_3) = V (Proc.devRef .tc main_v2_3) :=
  ⟨rfl, rfl, rfl, rfl⟩

variable (m : (ℓ : Loc nD τ sig) → Buf (Elt Ideal) ℓ) (ρ : Dev nD → PrngReg) (c : Dev nD)

/-- What the last call leaves of the four results. -/
def res : Fin 4 → Mat 512 256 :=
  ![(dat3 (V6 m ρ) c).arrAt 11 cfg3.N, (dat3 (V6 m ρ) c).arrAt 12 cfg3.N, (dat3 (V6 m ρ) c).arrAt 13 cfg3.N, (dat3 (V6 m ρ) c).arrAt 14 cfg3.N]

/-- The four calls update every row of the weight. -/
theorem whole (new : Fin 512 → Fin 256 → Fin 4 → EReal)
    (h3 : New new 3 (m (c.tc.loc main_arg3)) (m (c.tc.loc main_arg4)) (m (c.tc.loc main_arg5)) (m (c.tc.loc main_arg6)))
    (h2 : New new 2 (m (c.tc.loc main_arg2)) (m (c.tc.loc main_arg4)) (m (c.tc.loc main_arg5)) (m (c.tc.loc main_arg6)))
    (h1 : New new 1 (m (c.tc.loc main_arg1)) (m (c.tc.loc main_arg4)) (m (c.tc.loc main_arg5)) (m (c.tc.loc main_arg6)))
    (h0 : New new 0 (m (c.tc.loc main_arg0)) (m (c.tc.loc main_arg4)) (m (c.tc.loc main_arg5)) (m (c.tc.loc main_arg6)))
    (q : Fin 4) (R : Fin 512) (J : Fin 256) : res m ρ c q (ix2 R J) = new R J q := by
  have p0 := pass0 (V0 m ρ) c new h3
  have p1 := pass1 (V2 m ρ) c new (by
    rw [show V2 m ρ c main_arg2 = _ from W2_args m ρ c main_arg2 (by decide), show V2 m ρ c main_arg4 = _ from W2_args m ρ c main_arg4 (by decide),
      show V2 m ρ c main_arg5 = _ from W2_args m ρ c main_arg5 (by decide), show V2 m ρ c main_arg6 = _ from W2_args m ρ c main_arg6 (by decide)]
    exact h2)
  obtain ⟨c0, c1, c2, c3⟩ := copied1 (W1 m ρ c)
  rw [show V2 m ρ c main_v1_0 = _ from c0.trans (W1_arr m ρ c 11), show V2 m ρ c main_v1_1 = _ from c1.trans (W1_arr m ρ c 12),
    show V2 m ρ c main_v1_2 = _ from c2.trans (W1_arr m ρ c 13), show V2 m ρ c main_v1_3 = _ from c3.trans (W1_arr m ρ c 14)] at p1
  have p2 := pass2 (V4 m ρ) c new (by
    rw [show V4 m ρ c main_arg1 = _ from W4_args m ρ c main_arg1 (by decide), show V4 m ρ c main_arg4 = _ from W4_args m ρ c main_arg4 (by decide),
      show V4 m ρ c main_arg5 = _ from W4_args m ρ c main_arg5 (by decide), show V4 m ρ c main_arg6 = _ from W4_args m ρ c main_arg6 (by decide)]
    exact h1)
  obtain ⟨c0, c1, c2, c3⟩ := copied2 (W3 m ρ c)
  rw [show V4 m ρ c main_v2_0 = _ from c0.trans (W3_arr m ρ c 11), show V4 m ρ c main_v2_1 = _ from c1.trans (W3_arr m ρ c 12),
    show V4 m ρ c main_v2_2 = _ from c2.trans (W3_arr m ρ c 13), show V4 m ρ c main_v2_3 = _ from c3.trans (W3_arr m ρ c 14)] at p2
  have p3 := pass3 (V6 m ρ) c new (by
    rw [show V6 m ρ c main_arg0 = _ from W6_args m ρ c main_arg0 (by decide), show V6 m ρ c main_arg4 = _ from W6_args m ρ c main_arg4 (by decide),
      show V6 m ρ c main_arg5 = _ from W6_args m ρ c main_arg5 (by decide), show V6 m ρ c main_arg6 = _ from W6_args m ρ c main_arg6 (by decide)]
    exact h0)
  obtain ⟨c0, c1, c2, c3⟩ := copied3 (W5 m ρ c)
  rw [show V6 m ρ c main_v3_0 = _ from c0.trans (W5_arr m ρ c 11), show V6 m ρ c main_v3_1 = _ from c1.trans (W5_arr m ρ c 12),
    show V6 m ρ c main_v3_2 = _ from c2.trans (W5_arr m ρ c 13), show V6 m ρ c main_v3_3 = _ from c3.trans (W5_arr m ρ c 14)] at p3
  exact chain rfl p0 p1 p2 p3 q R J

/-- What the reference leaves of the four results. -/
def ref (s : Fin 4 → S8x128x256.Idx → EReal) (w m v : S512x256.Idx → EReal) : Fin 4 → Mat 512 256 :=
  ![PoolRefIdeal.Read.val_main_v2 (F := Ideal) (s 0) (s 1) (s 2) (s 3), PoolRefIdeal.Read.val_main_v26 (F := Ideal) (s 0) (s 1) (s 2) (s 3) w m v,
    PoolRefIdeal.Read.val_main_v7 (F := Ideal) (s 0) (s 1) (s 2) (s 3) m, PoolRefIdeal.Read.val_main_v13 (F := Ideal) (s 0) (s 1) (s 2) (s 3) v]

/-- The reference's four results at the entries of a layer. -/
theorem ref_at (s : Fin 4 → S8x128x256.Idx → EReal) (w m v : S512x256.Idx → EReal) (k : Fin 4) :
    New (fun R J q => ref s w m v q (ix2 R J)) k.1 (s k) w m v := by
  intro R Q J q hR
  have e : PoolRefIdeal.Read.val_main_v2 (F := Ideal) (s 0) (s 1) (s 2) (s 3) (ix2 R J) = grad fun d => s k (ix3 d Q J) := by
    have h : ∀ d, PoolRefIdeal.Read.val_main_v0 (F := Ideal) (s 0) (s 1) (s 2) (s 3) (ix3 d R J) = s k (ix3 d Q J) := fun d =>
      (joined (s 0) (s 1) (s 2) (s 3) _ k d Q J R hR).trans (match k with | 0 => rfl | 1 => rfl | 2 => rfl | 3 => rfl)
    rw [← funext h]
    unfold grad
    pointwise [PoolRefIdeal.Read.val_main_v2, PoolRefIdeal.Read.val_main_v1, PoolRefIdeal.Read.val_main_cst]
  rw [← e]
  match q with
  | 0 => rfl
  | 1 => rfl
  | 2 => rfl
  | 3 => rfl

/-- The four calls leave what the reference leaves. -/
theorem same (q : Fin 4) : ref ![m (c.tc.loc main_arg0), m (c.tc.loc main_arg1), m (c.tc.loc main_arg2), m (c.tc.loc main_arg3)]
    (m (c.tc.loc main_arg4)) (m (c.tc.loc main_arg5)) (m (c.tc.loc main_arg6)) q = res m ρ c q :=
  mat_ext fun R J => (whole m ρ c (fun R J q => ref _ _ _ _ q (ix2 R J)) (ref_at _ _ _ _ 3) (ref_at _ _ _ _ 2) (ref_at _ _ _ _ 1) (ref_at _ _ _ _ 0) q R J).symm

/-- The four calls run to an end, with every array as the last of them leaves it. -/
theorem ran : θ_run defs (onTc (τ := τ) (main (F := Ideal))) ⟨m, fun _ => 0, ρ⟩ fun r =>
    ∀ c : Dev nD, ∀ b ∈ ucRefs τ sig, r.2.mem ((c : Thread nD τ).1, b) = W7 m ρ c b :=
  runs pcfgs adm (pdats m ρ) cellOf_inj defs₀ m ρ main (segs m ρ) (main_run m ρ)
    (by simp only [segs, Seg.pipes_host, Seg.pipes_region, Seg.pipes_nil]; decide) (W0 m ρ) (W7 m ρ) (fun _ _ => rfl)
    ⟨fun _ => .rfl, fun _ => .rfl, fun _ => .rfl, fun _ => .rfl, fun _ => .rfl, fun _ => .rfl, fun _ => .rfl, fun _ => .rfl⟩

/-- The four calls run to an end and leave the arguments as they were. -/
theorem ends : θ_run defs (onTc (τ := τ) (main (F := Ideal))) ⟨m, fun _ => 0, ρ⟩ fun r => ∀ c : Dev nD,
    r.2.mem (c.tc.loc main_v3_0) = res m ρ c 0 ∧ r.2.mem (c.tc.loc main_v3_1) = res m ρ c 1
    ∧ r.2.mem (c.tc.loc main_v3_2) = res m ρ c 2 ∧ r.2.mem (c.tc.loc main_v3_3) = res m ρ c 3
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) :=
  (θ_run _ _ _).mono (fun r h c =>
    ⟨(h c _ (mem_uc main_v3_0 (by decide))).trans (W7_arr m ρ c 11), (h c _ (mem_uc main_v3_1 (by decide))).trans (W7_arr m ρ c 12),
     (h c _ (mem_uc main_v3_2 (by decide))).trans (W7_arr m ρ c 13), (h c _ (mem_uc main_v3_3 (by decide))).trans (W7_arr m ρ c 14),
     (h c _ (mem_uc main_arg0 (by decide))).trans (W7_main_arg0 m ρ c), (h c _ (mem_uc main_arg1 (by decide))).trans (W7_main_arg1 m ρ c),
     (h c _ (mem_uc main_arg2 (by decide))).trans (W7_main_arg2 m ρ c), (h c _ (mem_uc main_arg3 (by decide))).trans (W7_main_arg3 m ρ c),
     (h c _ (mem_uc main_arg4 (by decide))).trans (W7_main_arg4 m ρ c), (h c _ (mem_uc main_arg5 (by decide))).trans (W7_main_arg5 m ρ c),
     (h c _ (mem_uc main_arg6 (by decide))).trans (W7_main_arg6 m ρ c)⟩) (ran m ρ)

end Cert.Adam.Pool

end
-- ==== Proof.AdamMix.lean ====
module

public import proofs.«01_k».proof.Proof.Chain
public import proofs.«01_k».proof.Proof.Runs
public import proofs.«01_k».proof.Proof.Gen.MixIdeal.Frame
public import proofs.«01_k».proof.Proof.Gen.MixRefIdeal.Read

@[expose] public section

set_option maxRecDepth 16384

noncomputable section

/-! # The update of the attention's output weight, layer by layer

The device's columns of the four layers' `w_a`, 384 rows of 128 in each layer: four calls, each in two blocks of 192 rows. -/

namespace Cert.Adam.Mix

open Idealize.ShloMosaic Idealize.ShloMosaic.TcCoe Idealize.ShloMosaic.Pointwise Idealize.ShloMosaic.Pipeline Idealize.SL.Sem
open Cert.Prod Cert.Adam Cert.MixIdeal Cert.MixIdeal.Gen

/-- The bounds of a whole block of one device's gradients. -/
abbrev i3 := inb_S1x192x128_S1x192x128_0_0_0

/-- The bounds of a whole block of rows. -/
abbrev i2 := inb_S192x128_S192x128_0_0

/-- What a call stores in the blocks of its four results, from the eight devices' blocks and those of the weight and the moments. -/
def pays (s : Fin 8 → Vec Ideal S1x192x128 .bf16) (w m v : Vec Ideal S192x128 .f32) : Fin 4 → Vec Ideal S192x128 .f32 :=
  ![k0_pay1 (k0_pay5 (s 5)) (k0_pay6 (s 6)) (k0_pay7 (s 7)) (k0_pay8 (s 0) (s 1) (s 2) (s 3) (s 4)),
    k0_pay4 (k0_pay5 (s 5)) (k0_pay6 (s 6)) (k0_pay7 (s 7)) w m v (k0_pay8 (s 0) (s 1) (s 2) (s 3) (s 4)),
    k0_pay2 (k0_pay5 (s 5)) (k0_pay6 (s 6)) (k0_pay7 (s 7)) m (k0_pay8 (s 0) (s 1) (s 2) (s 3) (s 4)),
    k0_pay3 (k0_pay5 (s 5)) (k0_pay6 (s 6)) (k0_pay7 (s 7)) v (k0_pay8 (s 0) (s 1) (s 2) (s 3) (s 4))]

/-- What is stored, at an entry. -/
theorem pays_at (s : Fin 8 → Vec Ideal S1x192x128 .bf16) (w m v : Vec Ideal S192x128 .f32) (r : Fin 192) (j : Fin 128) (q : Fin 4) :
    pays s w m v q (ix2 r j) = upd (grad fun d => s d (ix3 0 r j)) (w (ix2 r j)) (m (ix2 r j)) (v (ix2 r j)) q := by
  have e : pays s w m v 0 (ix2 r j) = grad fun d => s d (ix3 0 r j) := by
    show k0_pay1 (F := Ideal) (k0_pay5 (s 5)) (k0_pay6 (s 6)) (k0_pay7 (s 7)) (k0_pay8 (s 0) (s 1) (s 2) (s 3) (s 4)) (ix2 r j) = _
    unfold grad
    rw [Fin.sum_univ_eight]
    pointwise [k0_pay1, k0_pay5, k0_pay6, k0_pay7, k0_pay8]
  rw [← e]
  match q with
  | 0 => rfl
  | 1 => rfl
  | 2 => rfl
  | 3 => rfl

section Calls

variable (V : (c : Dev nD) → (b : Ref sig .tc) → Buf (Elt Ideal) ((c : Thread nD τ).loc b)) (c : Dev nD)

/-- Which blocks a point of the first call reads and writes. -/
theorem idx0 : ∀ (t : Fin cfg0.N) (w : Fin cfg0.W),
    List.ofFn ((cfg0.win w).index t) = if w.1 < 8 then [w.1, t.1, 0] else [6 + t.1, 0] :=
  (by decide +kernel : ∀ (t : Fin grid0.N) (w : Fin cfg0.W), _)

/-- The eight devices' blocks at a point of the first call. -/
def slots0 (t : Fin cfg0.N) : Fin 8 → Vec Ideal S1x192x128 .bf16 :=
  ![iblk0 V c 0 t, iblk0 V c 1 t, iblk0 V c 2 t, iblk0 V c 3 t, iblk0 V c 4 t, iblk0 V c 5 t, iblk0 V c 6 t, iblk0 V c 7 t]

/-- The blocks of the four results after a point of the first call. -/
def left0 (t : Fin cfg0.N) : Fin 4 → Mat 192 128 :=
  ![(dat0 V c).after 11 t, (dat0 V c).after 12 t, (dat0 V c).after 13 t, (dat0 V c).after 14 t]

/-- They are what the point stores. -/
theorem stored0 (t : Fin cfg0.N) (q : Fin 4) :
    left0 V c t q = pays (slots0 V c t) (iblk0 V c 8 t) (iblk0 V c 9 t) (iblk0 V c 10 t) q := by
  have h : ∀ q, left0 V c t q = pays
      ![View.ld (iblk0 V c 0 t) r0_0, View.ld (iblk0 V c 1 t) r0_0, View.ld (iblk0 V c 2 t) r0_0, View.ld (iblk0 V c 3 t) r0_0,
        View.ld (iblk0 V c 4 t) r0_0, View.ld (iblk0 V c 5 t) r0_0, View.ld (iblk0 V c 6 t) r0_0, View.ld (iblk0 V c 7 t) r0_0]
      (View.ld (iblk0 V c 8 t) r0_1) (View.ld (iblk0 V c 9 t) r0_1) (View.ld (iblk0 V c 10 t) r0_1) q := fun q => match q with
    | 0 => (after0_11 V c t).trans (.trans (by sl_kernel_rfl) (View.canon_unit_zero zero2 i2 (pays _ _ _ _ 0)))
    | 1 => (after0_12 V c t).trans (.trans (by sl_kernel_rfl) (View.canon_unit_zero zero2 i2 (pays _ _ _ _ 1)))
    | 2 => (after0_13 V c t).trans (.trans (by sl_kernel_rfl) (View.canon_unit_zero zero2 i2 (pays _ _ _ _ 2)))
    | 3 => (after0_14 V c t).trans (.trans (by sl_kernel_rfl) (View.canon_unit_zero zero2 i2 (pays _ _ _ _ 3)))
  have e3 : ∀ x : Vec Ideal S1x192x128 .bf16, View.ld x r0_0 = x := fun x => View.ld_unit_zero zero3 i3 x
  have e2 : ∀ x : Vec Ideal S192x128 .f32, View.ld x r0_1 = x := fun x => View.ld_unit_zero zero2 i2 x
  simp only [e3, e2] at h
  exact h q

/-- An entry of a device's block at a point of the first call. -/
theorem slot0 (t : Fin cfg0.N) (d : Fin 8) (r : Fin 192) (j : Fin 128) (Q : Fin 384) (hQ : Q.1 = 192 * t.1 + r.1) :
    slots0 V c t d (ix3 0 r j) = (V c main_arg3 : S8x384x128.Idx → EReal) (ix3 d Q j) :=
  match d with
  | 0 => congrArg (V c main_arg3) (at_slot ((cfg0.win 0).blk t).view.emb 0 r j Q rfl rfl rfl (of3 (idx0 t 0)) hQ)
  | 1 => congrArg (V c main_arg3) (at_slot ((cfg0.win 1).blk t).view.emb 1 r j Q rfl rfl rfl (of3 (idx0 t 1)) hQ)
  | 2 => congrArg (V c main_arg3) (at_slot ((cfg0.win 2).blk t).view.emb 2 r j Q rfl rfl rfl (of3 (idx0 t 2)) hQ)
  | 3 => congrArg (V c main_arg3) (at_slot ((cfg0.win 3).blk t).view.emb 3 r j Q rfl rfl rfl (of3 (idx0 t 3)) hQ)
  | 4 => congrArg (V c main_arg3) (at_slot ((cfg0.win 4).blk t).view.emb 4 r j Q rfl rfl rfl (of3 (idx0 t 4)) hQ)
  | 5 => congrArg (V c main_arg3) (at_slot ((cfg0.win 5).blk t).view.emb 5 r j Q rfl rfl rfl (of3 (idx0 t 5)) hQ)
  | 6 => congrArg (V c main_arg3) (at_slot ((cfg0.win 6).blk t).view.emb 6 r j Q rfl rfl rfl (of3 (idx0 t 6)) hQ)
  | 7 => congrArg (V c main_arg3) (at_slot ((cfg0.win 7).blk t).view.emb 7 r j Q rfl rfl rfl (of3 (idx0 t 7)) hQ)

/-- What the first call writes of each result. -/
theorem wrote0 (q : Fin 4) : Wrote (A := 1536) 6 (fun t => left0 V c t q)
    ((![V c main_v0_0, V c main_v0_1, V c main_v0_2, V c main_v0_3] : Fin 4 → Mat 1536 128) q)
    ((![(dat0 V c).arrAt 11 cfg0.N, (dat0 V c).arrAt 12 cfg0.N, (dat0 V c).arrAt 13 cfg0.N, (dat0 V c).arrAt 14 cfg0.N] :
      Fin 4 → Mat 1536 128) q) :=
  match q with
  | 0 => .of (fun t => ((cfg0.win 11).blk t).view.emb) (fun _ _ _ => rfl) (fun _ _ _ => rfl) (fun t => of2 (idx0 t 11))
      (fun t => congrFun (written (dat0 V c) 11 rfl flush0_11 (apart (idx0 · 11)) t))
      (fun i h => (unwritten (dat0 V c) 11 i h).trans (congrFun (A_eq0 V c 11) i))
  | 1 => .of (fun t => ((cfg0.win 12).blk t).view.emb) (fun _ _ _ => rfl) (fun _ _ _ => rfl) (fun t => of2 (idx0 t 12))
      (fun t => congrFun (written (dat0 V c) 12 rfl flush0_12 (apart (idx0 · 12)) t))
      (fun i h => (unwritten (dat0 V c) 12 i h).trans (congrFun (A_eq0 V c 12) i))
  | 2 => .of (fun t => ((cfg0.win 13).blk t).view.emb) (fun _ _ _ => rfl) (fun _ _ _ => rfl) (fun t => of2 (idx0 t 13))
      (fun t => congrFun (written (dat0 V c) 13 rfl flush0_13 (apart (idx0 · 13)) t))
      (fun i h => (unwritten (dat0 V c) 13 i h).trans (congrFun (A_eq0 V c 13) i))
  | 3 => .of (fun t => ((cfg0.win 14).blk t).view.emb) (fun _ _ _ => rfl) (fun _ _ _ => rfl) (fun t => of2 (idx0 t 14))
      (fun t => congrFun (written (dat0 V c) 14 rfl flush0_14 (apart (idx0 · 14)) t))
      (fun i h => (unwritten (dat0 V c) 14 i h).trans (congrFun (A_eq0 V c 14) i))

/-- The first call writes the rows of its layer and leaves the others. -/
theorem pass0 (new : Fin 1536 → Fin 128 → Fin 4 → EReal)
    (hn : New new 3 (V c main_arg3) (V c main_arg4) (V c main_arg5) (V c main_arg6)) :
    Pass (3 * 384) (4 * 384) new ![V c main_v0_0, V c main_v0_1, V c main_v0_2, V c main_v0_3]
      ![(dat0 V c).arrAt 11 cfg0.N, (dat0 V c).arrAt 12 cfg0.N, (dat0 V c).arrAt 13 cfg0.N, (dat0 V c).arrAt 14 cfg0.N] :=
  .of_call (n := cfg0.N) (a := 192) (first := 6) (by decide) (by rw [show cfg0.N = 2 from N_0])
    (by rw [show cfg0.N = 2 from N_0]) (wrote0 V c)
    (fun t q r j => (congrFun (stored0 V c t q) _).trans (pays_at _ _ _ _ r j q)) (slot0 V c)
    (fun t r j R h => congrArg (V c main_arg4) (at_rows ((cfg0.win 8).blk t).view.emb r j R rfl rfl (of2 (idx0 t 8)) h))
    (fun t r j R h => congrArg (V c main_arg5) (at_rows ((cfg0.win 9).blk t).view.emb r j R rfl rfl (of2 (idx0 t 9)) h))
    (fun t r j R h => congrArg (V c main_arg6) (at_rows ((cfg0.win 10).blk t).view.emb r j R rfl rfl (of2 (idx0 t 10)) h)) hn

/-- Which blocks a point of the second call reads and writes. -/
theorem idx1 : ∀ (t : Fin cfg1.N) (w : Fin cfg1.W),
    List.ofFn ((cfg1.win w).index t) = if w.1 < 8 then [w.1, t.1, 0] else [4 + t.1, 0] :=
  (by decide +kernel : ∀ (t : Fin grid1.N) (w : Fin cfg1.W), _)

/-- The eight devices' blocks at a point of the second call. -/
def slots1 (t : Fin cfg1.N) : Fin 8 → Vec Ideal S1x192x128 .bf16 :=
  ![iblk1 V c 0 t, iblk1 V c 1 t, iblk1 V c 2 t, iblk1 V c 3 t, iblk1 V c 4 t, iblk1 V c 5 t, iblk1 V c 6 t, iblk1 V c 7 t]

/-- The blocks of the four results after a point of the second call. -/
def left1 (t : Fin cfg1.N) : Fin 4 → Mat 192 128 :=
  ![(dat1 V c).after 11 t, (dat1 V c).after 12 t, (dat1 V c).after 13 t, (dat1 V c).after 14 t]

/-- They are what the point stores. -/
theorem stored1 (t : Fin cfg1.N) (q : Fin 4) :
    left1 V c t q = pays (slots1 V c t) (iblk1 V c 8 t) (iblk1 V c 9 t) (iblk1 V c 10 t) q := by
  have h : ∀ q, left1 V c t q = pays
      ![load3 (ms1_0 t) (hs1_0 t) i3 (iblk1 V c 0 t), load3 (ms1_1 t) (hs1_1 t) i3 (iblk1 V c 1 t),
        load3 (ms1_2 t) (hs1_2 t) i3 (iblk1 V c 2 t), load3 (ms1_3 t) (hs1_3 t) i3 (iblk1 V c 3 t),
        load3 (ms1_4 t) (hs1_4 t) i3 (iblk1 V c 4 t), load3 (ms1_5 t) (hs1_5 t) i3 (iblk1 V c 5 t),
        load3 (ms1_6 t) (hs1_6 t) i3 (iblk1 V c 6 t), load3 (ms1_7 t) (hs1_7 t) i3 (iblk1 V c 7 t)]
      (load2 (ms1_8 t) (hs1_8 t) i2 (iblk1 V c 8 t)) (load2 (ms1_9 t) (hs1_9 t) i2 (iblk1 V c 9 t))
      (load2 (ms1_10 t) (hs1_10 t) i2 (iblk1 V c 10 t)) q := fun q => match q with
    | 0 => by
      refine (after1_11 V c t).trans ?_
      unfold outsAt1 out1_A_11
      dsimp only
      refine stored VO1_11 zero2 i2 (pays _ _ _ _ 0) ?_
      sl_kernel_rfl
    | 1 => by
      refine (after1_12 V c t).trans ?_
      unfold outsAt1 out1_A_12
      dsimp only
      refine stored VO1_12 zero2 i2 (pays _ _ _ _ 1) ?_
      sl_kernel_rfl
    | 2 => by
      refine (after1_13 V c t).trans ?_
      unfold outsAt1 out1_A_13
      dsimp only
      refine stored VO1_13 zero2 i2 (pays _ _ _ _ 2) ?_
      sl_kernel_rfl
    | 3 => by
      refine (after1_14 V c t).trans ?_
      unfold outsAt1 out1_A_14
      dsimp only
      refine stored VO1_14 zero2 i2 (pays _ _ _ _ 3) ?_
      sl_kernel_rfl
  simp only [load3_eq, load2_eq] at h
  exact h q

/-- An entry of a device's block at a point of the second call. -/
theorem slot1 (t : Fin cfg1.N) (d : Fin 8) (r : Fin 192) (j : Fin 128) (Q : Fin 384) (hQ : Q.1 = 192 * t.1 + r.1) :
    slots1 V c t d (ix3 0 r j) = (V c main_arg2 : S8x384x128.Idx → EReal) (ix3 d Q j) :=
  match d with
  | 0 => congrArg (V c main_arg2) (at_slot ((cfg1.win 0).blk t).view.emb 0 r j Q rfl rfl rfl (of3 (idx1 t 0)) hQ)
  | 1 => congrArg (V c main_arg2) (at_slot ((cfg1.win 1).blk t).view.emb 1 r j Q rfl rfl rfl (of3 (idx1 t 1)) hQ)
  | 2 => congrArg (V c main_arg2) (at_slot ((cfg1.win 2).blk t).view.emb 2 r j Q rfl rfl rfl (of3 (idx1 t 2)) hQ)
  | 3 => congrArg (V c main_arg2) (at_slot ((cfg1.win 3).blk t).view.emb 3 r j Q rfl rfl rfl (of3 (idx1 t 3)) hQ)
  | 4 => congrArg (V c main_arg2) (at_slot ((cfg1.win 4).blk t).view.emb 4 r j Q rfl rfl rfl (of3 (idx1 t 4)) hQ)
  | 5 => congrArg (V c main_arg2) (at_slot ((cfg1.win 5).blk t).view.emb 5 r j Q rfl rfl rfl (of3 (idx1 t 5)) hQ)
  | 6 => congrArg (V c main_arg2) (at_slot ((cfg1.win 6).blk t).view.emb 6 r j Q rfl rfl rfl (of3 (idx1 t 6)) hQ)
  | 7 => congrArg (V c main_arg2) (at_slot ((cfg1.win 7).blk t).view.emb 7 r j Q rfl rfl rfl (of3 (idx1 t 7)) hQ)

/-- What the second call writes of each result. -/
theorem wrote1 (q : Fin 4) : Wrote (A := 1536) 4 (fun t => left1 V c t q)
    ((![V c main_v1_0, V c main_v1_1, V c main_v1_2, V c main_v1_3] : Fin 4 → Mat 1536 128) q)
    ((![(dat1 V c).arrAt 11 cfg1.N, (dat1 V c).arrAt 12 cfg1.N, (dat1 V c).arrAt 13 cfg1.N, (dat1 V c).arrAt 14 cfg1.N] :
      Fin 4 → Mat 1536 128) q) :=
  match q with
  | 0 => .of (fun t => ((cfg1.win 11).blk t).view.emb) (fun _ _ _ => rfl) (fun _ _ _ => rfl) (fun t => of2 (idx1 t 11))
      (fun t => congrFun (written (dat1 V c) 11 rfl flush1_11 (apart (idx1 · 11)) t))
      (fun i h => (unwritten (dat1 V c) 11 i h).trans (congrFun (A_eq1 V c 11) i))
  | 1 => .of (fun t => ((cfg1.win 12).blk t).view.emb) (fun _ _ _ => rfl) (fun _ _ _ => rfl) (fun t => of2 (idx1 t 12))
      (fun t => congrFun (written (dat1 V c) 12 rfl flush1_12 (apart (idx1 · 12)) t))
      (fun i h => (unwritten (dat1 V c) 12 i h).trans (congrFun (A_eq1 V c 12) i))
  | 2 => .of (fun t => ((cfg1.win 13).blk t).view.emb) (fun _ _ _ => rfl) (fun _ _ _ => rfl) (fun t => of2 (idx1 t 13))
      (fun t => congrFun (written (dat1 V c) 13 rfl flush1_13 (apart (idx1 · 13)) t))
      (fun i h => (unwritten (dat1 V c) 13 i h).trans (congrFun (A_eq1 V c 13) i))
  | 3 => .of (fun t => ((cfg1.win 14).blk t).view.emb) (fun _ _ _ => rfl) (fun _ _ _ => rfl) (fun t => of2 (idx1 t 14))
      (fun t => congrFun (written (dat1 V c) 14 rfl flush1_14 (apart (idx1 · 14)) t))
      (fun i h => (unwritten (dat1 V c) 14 i h).trans (congrFun (A_eq1 V c 14) i))

/-- The second call writes the rows of its layer and leaves the others. -/
theorem pass1 (new : Fin 1536 → Fin 128 → Fin 4 → EReal)
    (hn : New new 2 (V c main_arg2) (V c main_arg4) (V c main_arg5) (V c main_arg6)) :
    Pass (2 * 384) (3 * 384) new ![V c main_v1_0, V c main_v1_1, V c main_v1_2, V c main_v1_3]
      ![(dat1 V c).arrAt 11 cfg1.N, (dat1 V c).arrAt 12 cfg1.N, (dat1 V c).arrAt 13 cfg1.N, (dat1 V c).arrAt 14 cfg1.N] :=
  .of_call (n := cfg1.N) (a := 192) (first := 4) (by decide) (by rw [show cfg1.N = 2 from N_1])
    (by rw [show cfg1.N = 2 from N_1]) (wrote1 V c)
    (fun t q r j => (congrFun (stored1 V c t q) _).trans (pays_at _ _ _ _ r j q)) (slot1 V c)
    (fun t r j R h => congrArg (V c main_arg4) (at_rows ((cfg1.win 8).blk t).view.emb r j R rfl rfl (of2 (idx1 t 8)) h))
    (fun t r j R h => congrArg (V c main_arg5) (at_rows ((cfg1.win 9).blk t).view.emb r j R rfl rfl (of2 (idx1 t 9)) h))
    (fun t r j R h => congrArg (V c main_arg6) (at_rows ((cfg1.win 10).blk t).view.emb r j R rfl rfl (of2 (idx1 t 10)) h)) hn

/-- Which blocks a point of the third call reads and writes. -/
theorem idx2 : ∀ (t : Fin cfg2.N) (w : Fin cfg2.W),
    List.ofFn ((cfg2.win w).index t) = if w.1 < 8 then [w.1, t.1, 0] else [2 + t.1, 0] :=
  (by decide +kernel : ∀ (t : Fin grid2.N) (w : Fin cfg2.W), _)

/-- The eight devices' blocks at a point of the third call. -/
def slots2 (t : Fin cfg2.N) : Fin 8 → Vec Ideal S1x192x128 .bf16 :=
  ![iblk2 V c 0 t, iblk2 V c 1 t, iblk2 V c 2 t, iblk2 V c 3 t, iblk2 V c 4 t, iblk2 V c 5 t, iblk2 V c 6 t, iblk2 V c 7 t]

/-- The blocks of the four results after a point of the third call. -/
def left2 (t : Fin cfg2.N) : Fin 4 → Mat 192 128 :=
  ![(dat2 V c).after 11 t, (dat2 V c).after 12 t, (dat2 V c).after 13 t, (dat2 V c).after 14 t]

/-- They are what the point stores. -/
theorem stored2 (t : Fin cfg2.N) (q : Fin 4) :
    left2 V c t q = pays (slots2 V c t) (iblk2 V c 8 t) (iblk2 V c 9 t) (iblk2 V c 10 t) q := by
  have h : ∀ q, left2 V c t q = pays
      ![load3 (ms2_0 t) (hs2_0 t) i3 (iblk2 V c 0 t), load3 (ms2_1 t) (hs2_1 t) i3 (iblk2 V c 1 t),
        load3 (ms2_2 t) (hs2_2 t) i3 (iblk2 V c 2 t), load3 (ms2_3 t) (hs2_3 t) i3 (iblk2 V c 3 t),
        load3 (ms2_4 t) (hs2_4 t) i3 (iblk2 V c 4 t), load3 (ms2_5 t) (hs2_5 t) i3 (iblk2 V c 5 t),
        load3 (ms2_6 t) (hs2_6 t) i3 (iblk2 V c 6 t), load3 (ms2_7 t) (hs2_7 t) i3 (iblk2 V c 7 t)]
      (load2 (ms2_8 t) (hs2_8 t) i2 (iblk2 V c 8 t)) (load2 (ms2_9 t) (hs2_9 t) i2 (iblk2 V c 9 t))
      (load2 (ms2_10 t) (hs2_10 t) i2 (iblk2 V c 10 t)) q := fun q => match q with
    | 0 => by
      refine (after2_11 V c t).trans ?_
      unfold outsAt2 out2_A_11
      dsimp only
      refine stored VO2_11 zero2 i2 (pays _ _ _ _ 0) ?_
      sl_kernel_rfl
    | 1 => by
      refine (after2_12 V c t).trans ?_
      unfold outsAt2 out2_A_12
      dsimp only
      refine stored VO2_12 zero2 i2 (pays _ _ _ _ 1) ?_
      sl_kernel_rfl
    | 2 => by
      refine (after2_13 V c t).trans ?_
      unfold outsAt2 out2_A_13
      dsimp only
      refine stored VO2_13 zero2 i2 (pays _ _ _ _ 2) ?_
      sl_kernel_rfl
    | 3 => by
      refine (after2_14 V c t).trans ?_
      unfold outsAt2 out2_A_14
      dsimp only
      refine stored VO2_14 zero2 i2 (pays _ _ _ _ 3) ?_
      sl_kernel_rfl
  simp only [load3_eq, load2_eq] at h
  exact h q

/-- An entry of a device's block at a point of the third call. -/
theorem slot2 (t : Fin cfg2.N) (d : Fin 8) (r : Fin 192) (j : Fin 128) (Q : Fin 384) (hQ : Q.1 = 192 * t.1 + r.1) :
    slots2 V c t d (ix3 0 r j) = (V c main_arg1 : S8x384x128.Idx → EReal) (ix3 d Q j) :=
  match d with
  | 0 => congrArg (V c main_arg1) (at_slot ((cfg2.win 0).blk t).view.emb 0 r j Q rfl rfl rfl (of3 (idx2 t 0)) hQ)
  | 1 => congrArg (V c main_arg1) (at_slot ((cfg2.win 1).blk t).view.emb 1 r j Q rfl rfl rfl (of3 (idx2 t 1)) hQ)
  | 2 => congrArg (V c main_arg1) (at_slot ((cfg2.win 2).blk t).view.emb 2 r j Q rfl rfl rfl (of3 (idx2 t 2)) hQ)
  | 3 => congrArg (V c main_arg1) (at_slot ((cfg2.win 3).blk t).view.emb 3 r j Q rfl rfl rfl (of3 (idx2 t 3)) hQ)
  | 4 => congrArg (V c main_arg1) (at_slot ((cfg2.win 4).blk t).view.emb 4 r j Q rfl rfl rfl (of3 (idx2 t 4)) hQ)
  | 5 => congrArg (V c main_arg1) (at_slot ((cfg2.win 5).blk t).view.emb 5 r j Q rfl rfl rfl (of3 (idx2 t 5)) hQ)
  | 6 => congrArg (V c main_arg1) (at_slot ((cfg2.win 6).blk t).view.emb 6 r j Q rfl rfl rfl (of3 (idx2 t 6)) hQ)
  | 7 => congrArg (V c main_arg1) (at_slot ((cfg2.win 7).blk t).view.emb 7 r j Q rfl rfl rfl (of3 (idx2 t 7)) hQ)

/-- What the third call writes of each result. -/
theorem wrote2 (q : Fin 4) : Wrote (A := 1536) 2 (fun t => left2 V c t q)
    ((![V c main_v2_0, V c main_v2_1, V c main_v2_2, V c main_v2_3] : Fin 4 → Mat 1536 128) q)
    ((![(dat2 V c).arrAt 11 cfg2.N, (dat2 V c).arrAt 12 cfg2.N, (dat2 V c).arrAt 13 cfg2.N, (dat2 V c).arrAt 14 cfg2.N] :
      Fin 4 → Mat 1536 128) q) :=
  match q with
  | 0 => .of (fun t => ((cfg2.win 11).blk t).view.emb) (fun _ _ _ => rfl) (fun _ _ _ => rfl) (fun t => of2 (idx2 t 11))
      (fun t => congrFun (written (dat2 V c) 11 rfl flush2_11 (apart (idx2 · 11)) t))
      (fun i h => (unwritten (dat2 V c) 11 i h).trans (congrFun (A_eq2 V c 11) i))
  | 1 => .of (fun t => ((cfg2.win 12).blk t).view.emb) (fun _ _ _ => rfl) (fun _ _ _ => rfl) (fun t => of2 (idx2 t 12))
      (fun t => congrFun (written (dat2 V c) 12 rfl flush2_12 (apart (idx2 · 12)) t))
      (fun i h => (unwritten (dat2 V c) 12 i h).trans (congrFun (A_eq2 V c 12) i))
  | 2 => .of (fun t => ((cfg2.win 13).blk t).view.emb) (fun _ _ _ => rfl) (fun _ _ _ => rfl) (fun t => of2 (idx2 t 13))
      (fun t => congrFun (written (dat2 V c) 13 rfl flush2_13 (apart (idx2 · 13)) t))
      (fun i h => (unwritten (dat2 V c) 13 i h).trans (congrFun (A_eq2 V c 13) i))
  | 3 => .of (fun t => ((cfg2.win 14).blk t).view.emb) (fun _ _ _ => rfl) (fun _ _ _ => rfl) (fun t => of2 (idx2 t 14))
      (fun t => congrFun (written (dat2 V c) 14 rfl flush2_14 (apart (idx2 · 14)) t))
      (fun i h => (unwritten (dat2 V c) 14 i h).trans (congrFun (A_eq2 V c 14) i))

/-- The third call writes the rows of its layer and leaves the others. -/
theorem pass2 (new : Fin 1536 → Fin 128 → Fin 4 → EReal)
    (hn : New new 1 (V c main_arg1) (V c main_arg4) (V c main_arg5) (V c main_arg6)) :
    Pass (1 * 384) (2 * 384) new ![V c main_v2_0, V c main_v2_1, V c main_v2_2, V c main_v2_3]
      ![(dat2 V c).arrAt 11 cfg2.N, (dat2 V c).arrAt 12 cfg2.N, (dat2 V c).arrAt 13 cfg2.N, (dat2 V c).arrAt 14 cfg2.N] :=
  .of_call (n := cfg2.N) (a := 192) (first := 2) (by decide) (by rw [show cfg2.N = 2 from N_2])
    (by rw [show cfg2.N = 2 from N_2]) (wrote2 V c)
    (fun t q r j => (congrFun (stored2 V c t q) _).trans (pays_at _ _ _ _ r j q)) (slot2 V c)
    (fun t r j R h => congrArg (V c main_arg4) (at_rows ((cfg2.win 8).blk t).view.emb r j R rfl rfl (of2 (idx2 t 8)) h))
    (fun t r j R h => congrArg (V c main_arg5) (at_rows ((cfg2.win 9).blk t).view.emb r j R rfl rfl (of2 (idx2 t 9)) h))
    (fun t r j R h => congrArg (V c main_arg6) (at_rows ((cfg2.win 10).blk t).view.emb r j R rfl rfl (of2 (idx2 t 10)) h)) hn

/-- Which blocks a point of the fourth call reads and writes. -/
theorem idx3 : ∀ (t : Fin cfg3.N) (w : Fin cfg3.W),
    List.ofFn ((cfg3.win w).index t) = if w.1 < 8 then [w.1, t.1, 0] else [0 + t.1, 0] :=
  (by decide +kernel : ∀ (t : Fin grid3.N) (w : Fin cfg3.W), _)

/-- The eight devices' blocks at a point of the fourth call. -/
def slots3 (t : Fin cfg3.N) : Fin 8 → Vec Ideal S1x192x128 .bf16 :=
  ![iblk3 V c 0 t, iblk3 V c 1 t, iblk3 V c 2 t, iblk3 V c 3 t, iblk3 V c 4 t, iblk3 V c 5 t, iblk3 V c 6 t, iblk3 V c 7 t]

/-- The blocks of the four results after a point of the fourth call. -/
def left3 (t : Fin cfg3.N) : Fin 4 → Mat 192 128 :=
  ![(dat3 V c).after 11 t, (dat3 V c).after 12 t, (dat3 V c).after 13 t, (dat3 V c).after 14 t]

/-- They are what the point stores. -/
theorem stored3 (t : Fin cfg3.N) (q : Fin 4) :
    left3 V c t q = pays (slots3 V c t) (iblk3 V c 8 t) (iblk3 V c 9 t) (iblk3 V c 10 t) q := by
  have h : ∀ q, left3 V c t q = pays
      ![load3 (ms3_0 t) (hs3_0 t) i3 (iblk3 V c 0 t), load3 (ms3_1 t) (hs3_1 t) i3 (iblk3 V c 1 t),
        load3 (ms3_2 t) (hs3_2 t) i3 (iblk3 V c 2 t), load3 (ms3_3 t) (hs3_3 t) i3 (iblk3 V c 3 t),
        load3 (ms3_4 t) (hs3_4 t) i3 (iblk3 V c 4 t), load3 (ms3_5 t) (hs3_5 t) i3 (iblk3 V c 5 t),
        load3 (ms3_6 t) (hs3_6 t) i3 (iblk3 V c 6 t), load3 (ms3_7 t) (hs3_7 t) i3 (iblk3 V c 7 t)]
      (load2 (ms3_8 t) (hs3_8 t) i2 (iblk3 V c 8 t)) (load2 (ms3_9 t) (hs3_9 t) i2 (iblk3 V c 9 t))
      (load2 (ms3_10 t) (hs3_10 t) i2 (iblk3 V c 10 t)) q := fun q => match q with
    | 0 => by
      refine (after3_11 V c t).trans ?_
      unfold outsAt3 out3_A_11
      dsimp only
      refine stored VO3_11 zero2 i2 (pays _ _ _ _ 0) ?_
      sl_kernel_rfl
    | 1 => by
      refine (after3_12 V c t).trans ?_
      unfold outsAt3 out3_A_12
      dsimp only
      refine stored VO3_12 zero2 i2 (pays _ _ _ _ 1) ?_
      sl_kernel_rfl
    | 2 => by
      refine (after3_13 V c t).trans ?_
      unfold outsAt3 out3_A_13
      dsimp only
      refine stored VO3_13 zero2 i2 (pays _ _ _ _ 2) ?_
      sl_kernel_rfl
    | 3 => by
      refine (after3_14 V c t).trans ?_
      unfold outsAt3 out3_A_14
      dsimp only
      refine stored VO3_14 zero2 i2 (pays _ _ _ _ 3) ?_
      sl_kernel_rfl
  simp only [load3_eq, load2_eq] at h
  exact h q

/-- An entry of a device's block at a point of the fourth call. -/
theorem slot3 (t : Fin cfg3.N) (d : Fin 8) (r : Fin 192) (j : Fin 128) (Q : Fin 384) (hQ : Q.1 = 192 * t.1 + r.1) :
    slots3 V c t d (ix3 0 r j) = (V c main_arg0 : S8x384x128.Idx → EReal) (ix3 d Q j) :=
  match d with
  | 0 => congrArg (V c main_arg0) (at_slot ((cfg3.win 0).blk t).view.emb 0 r j Q rfl rfl rfl (of3 (idx3 t 0)) hQ)
  | 1 => congrArg (V c main_arg0) (at_slot ((cfg3.win 1).blk t).view.emb 1 r j Q rfl rfl rfl (of3 (idx3 t 1)) hQ)
  | 2 => congrArg (V c main_arg0) (at_slot ((cfg3.win 2).blk t).view.emb 2 r j Q rfl rfl rfl (of3 (idx3 t 2)) hQ)
  | 3 => congrArg (V c main_arg0) (at_slot ((cfg3.win 3).blk t).view.emb 3 r j Q rfl rfl rfl (of3 (idx3 t 3)) hQ)
  | 4 => congrArg (V c main_arg0) (at_slot ((cfg3.win 4).blk t).view.emb 4 r j Q rfl rfl rfl (of3 (idx3 t 4)) hQ)
  | 5 => congrArg (V c main_arg0) (at_slot ((cfg3.win 5).blk t).view.emb 5 r j Q rfl rfl rfl (of3 (idx3 t 5)) hQ)
  | 6 => congrArg (V c main_arg0) (at_slot ((cfg3.win 6).blk t).view.emb 6 r j Q rfl rfl rfl (of3 (idx3 t 6)) hQ)
  | 7 => congrArg (V c main_arg0) (at_slot ((cfg3.win 7).blk t).view.emb 7 r j Q rfl rfl rfl (of3 (idx3 t 7)) hQ)

/-- What the fourth call writes of each result. -/
theorem wrote3 (q : Fin 4) : Wrote (A := 1536) 0 (fun t => left3 V c t q)
    ((![V c main_v3_0, V c main_v3_1, V c main_v3_2, V c main_v3_3] : Fin 4 → Mat 1536 128) q)
    ((![(dat3 V c).arrAt 11 cfg3.N, (dat3 V c).arrAt 12 cfg3.N, (dat3 V c).arrAt 13 cfg3.N, (dat3 V c).arrAt 14 cfg3.N] :
      Fin 4 → Mat 1536 128) q) :=
  match q with
  | 0 => .of (fun t => ((cfg3.win 11).blk t).view.emb) (fun _ _ _ => rfl) (fun _ _ _ => rfl) (fun t => of2 (idx3 t 11))
      (fun t => congrFun (written (dat3 V c) 11 rfl flush3_11 (apart (idx3 · 11)) t))
      (fun i h => (unwritten (dat3 V c) 11 i h).trans (congrFun (A_eq3 V c 11) i))
  | 1 => .of (fun t => ((cfg3.win 12).blk t).view.emb) (fun _ _ _ => rfl) (fun _ _ _ => rfl) (fun t => of2 (idx3 t 12))
      (fun t => congrFun (written (dat3 V c) 12 rfl flush3_12 (apart (idx3 · 12)) t))
      (fun i h => (unwritten (dat3 V c) 12 i h).trans (congrFun (A_eq3 V c 12) i))
  | 2 => .of (fun t => ((cfg3.win 13).blk t).view.emb) (fun _ _ _ => rfl) (fun _ _ _ => rfl) (fun t => of2 (idx3 t 13))
      (fun t => congrFun (written (dat3 V c) 13 rfl flush3_13 (apart (idx3 · 13)) t))
      (fun i h => (unwritten (dat3 V c) 13 i h).trans (congrFun (A_eq3 V c 13) i))
  | 3 => .of (fun t => ((cfg3.win 14).blk t).view.emb) (fun _ _ _ => rfl) (fun _ _ _ => rfl) (fun t => of2 (idx3 t 14))
      (fun t => congrFun (written (dat3 V c) 14 rfl flush3_14 (apart (idx3 · 14)) t))
      (fun i h => (unwritten (dat3 V c) 14 i h).trans (congrFun (A_eq3 V c 14) i))

/-- The fourth call writes the rows of its layer and leaves the others. -/
theorem pass3 (new : Fin 1536 → Fin 128 → Fin 4 → EReal)
    (hn : New new 0 (V c main_arg0) (V c main_arg4) (V c main_arg5) (V c main_arg6)) :
    Pass (0 * 384) (1 * 384) new ![V c main_v3_0, V c main_v3_1, V c main_v3_2, V c main_v3_3]
      ![(dat3 V c).arrAt 11 cfg3.N, (dat3 V c).arrAt 12 cfg3.N, (dat3 V c).arrAt 13 cfg3.N, (dat3 V c).arrAt 14 cfg3.N] :=
  .of_call (n := cfg3.N) (a := 192) (first := 0) (by decide) (by rw [show cfg3.N = 2 from N_3])
    (by rw [show cfg3.N = 2 from N_3]) (wrote3 V c)
    (fun t q r j => (congrFun (stored3 V c t q) _).trans (pays_at _ _ _ _ r j q)) (slot3 V c)
    (fun t r j R h => congrArg (V c main_arg4) (at_rows ((cfg3.win 8).blk t).view.emb r j R rfl rfl (of2 (idx3 t 8)) h))
    (fun t r j R h => congrArg (V c main_arg5) (at_rows ((cfg3.win 9).blk t).view.emb r j R rfl rfl (of2 (idx3 t 9)) h))
    (fun t r j R h => congrArg (V c main_arg6) (at_rows ((cfg3.win 10).blk t).view.emb r j R rfl rfl (of2 (idx3 t 10)) h)) hn

end Calls

/-- The second call starts from the results of the one before it. -/
theorem copied1 (V : Valuation τ sig (Elt Ideal)) :
    StableHlo.after hostOps1 V (Proc.devRef .tc main_v1_0) = V (Proc.devRef .tc main_v0_0)
    ∧ StableHlo.after hostOps1 V (Proc.devRef .tc main_v1_1) = V (Proc.devRef .tc main_v0_1)
    ∧ StableHlo.after hostOps1 V (Proc.devRef .tc main_v1_2) = V (Proc.devRef .tc main_v0_2)
    ∧ StableHlo.after hostOps1 V (Proc.devRef .tc main_v1_3) = V (Proc.devRef .tc main_v0_3) :=
  ⟨rfl, rfl, rfl, rfl⟩

/-- The third call starts from the results of the one before it. -/
theorem copied2 (V : Valuation τ sig (Elt Ideal)) :
    StableHlo.after hostOps2 V (Proc.devRef .tc main_v2_0) = V (Proc.devRef .tc main_v1_0)
    ∧ StableHlo.after hostOps2 V (Proc.devRef .tc main_v2_1) = V (Proc.devRef .tc main_v1_1)
    ∧ StableHlo.after hostOps2 V (Proc.devRef .tc main_v2_2) = V (Proc.devRef .tc main_v1_2)
    ∧ StableHlo.after hostOps2 V (Proc.devRef .tc main_v2_3) = V (Proc.devRef .tc main_v1_3) :=
  ⟨rfl, rfl, rfl, rfl⟩

/-- The fourth call starts from the results of the one before it. -/
theorem copied3 (V : Valuation τ sig (Elt Ideal)) :
    StableHlo.after hostOps3 V (Proc.devRef .tc main_v3_0) = V (Proc.devRef .tc main_v2_0)
    ∧ StableHlo.after hostOps3 V (Proc.devRef .tc main_v3_1) = V (Proc.devRef .tc main_v2_1)
    ∧ StableHlo.after hostOps3 V (Proc.devRef .tc main_v3_2) = V (Proc.devRef .tc main_v2_2)
    ∧ StableHlo.after hostOps3 V (Proc.devRef .tc main_v3_3) = V (Proc.devRef .tc main_v2_3) :=
  ⟨rfl, rfl, rfl, rfl⟩

variable (m : (ℓ : Loc nD τ sig) → Buf (Elt Ideal) ℓ) (ρ : Dev nD → PrngReg) (c : Dev nD)

/-- What the last call leaves of the four results. -/
def res : Fin 4 → Mat 1536 128 :=
  ![(dat3 (V6 m ρ) c).arrAt 11 cfg3.N, (dat3 (V6 m ρ) c).arrAt 12 cfg3.N, (dat3 (V6 m ρ) c).arrAt 13 cfg3.N, (dat3 (V6 m ρ) c).arrAt 14 cfg3.N]

/-- The four calls update every row of the weight. -/
theorem whole (new : Fin 1536 → Fin 128 → Fin 4 → EReal)
    (h3 : New new 3 (m (c.tc.loc main_arg3)) (m (c.tc.loc main_arg4)) (m (c.tc.loc main_arg5)) (m (c.tc.loc main_arg6)))
    (h2 : New new 2 (m (c.tc.loc main_arg2)) (m (c.tc.loc main_arg4)) (m (c.tc.loc main_arg5)) (m (c.tc.loc main_arg6)))
    (h1 : New new 1 (m (c.tc.loc main_arg1)) (m (c.tc.loc main_arg4)) (m (c.tc.loc main_arg5)) (m (c.tc.loc main_arg6)))
    (h0 : New new 0 (m (c.tc.loc main_arg0)) (m (c.tc.loc main_arg4)) (m (c.tc.loc main_arg5)) (m (c.tc.loc main_arg6)))
    (q : Fin 4) (R : Fin 1536) (J : Fin 128) : res m ρ c q (ix2 R J) = new R J q := by
  have p0 := pass0 (V0 m ρ) c new h3
  have p1 := pass1 (V2 m ρ) c new (by
    rw [show V2 m ρ c main_arg2 = _ from W2_args m ρ c main_arg2 (by decide), show V2 m ρ c main_arg4 = _ from W2_args m ρ c main_arg4 (by decide),
      show V2 m ρ c main_arg5 = _ from W2_args m ρ c main_arg5 (by decide), show V2 m ρ c main_arg6 = _ from W2_args m ρ c main_arg6 (by decide)]
    exact h2)
  obtain ⟨c0, c1, c2, c3⟩ := copied1 (W1 m ρ c)
  rw [show V2 m ρ c main_v1_0 = _ from c0.trans (W1_arr m ρ c 11), show V2 m ρ c main_v1_1 = _ from c1.trans (W1_arr m ρ c 12),
    show V2 m ρ c main_v1_2 = _ from c2.trans (W1_arr m ρ c 13), show V2 m ρ c main_v1_3 = _ from c3.trans (W1_arr m ρ c 14)] at p1
  have p2 := pass2 (V4 m ρ) c new (by
    rw [show V4 m ρ c main_arg1 = _ from W4_args m ρ c main_arg1 (by decide), show V4 m ρ c main_arg4 = _ from W4_args m ρ c main_arg4 (by decide),
      show V4 m ρ c main_arg5 = _ from W4_args m ρ c main_arg5 (by decide), show V4 m ρ c main_arg6 = _ from W4_args m ρ c main_arg6 (by decide)]
    exact h1)
  obtain ⟨c0, c1, c2, c3⟩ := copied2 (W3 m ρ c)
  rw [show V4 m ρ c main_v2_0 = _ from c0.trans (W3_arr m ρ c 11), show V4 m ρ c main_v2_1 = _ from c1.trans (W3_arr m ρ c 12),
    show V4 m ρ c main_v2_2 = _ from c2.trans (W3_arr m ρ c 13), show V4 m ρ c main_v2_3 = _ from c3.trans (W3_arr m ρ c 14)] at p2
  have p3 := pass3 (V6 m ρ) c new (by
    rw [show V6 m ρ c main_arg0 = _ from W6_args m ρ c main_arg0 (by decide), show V6 m ρ c main_arg4 = _ from W6_args m ρ c main_arg4 (by decide),
      show V6 m ρ c main_arg5 = _ from W6_args m ρ c main_arg5 (by decide), show V6 m ρ c main_arg6 = _ from W6_args m ρ c main_arg6 (by decide)]
    exact h0)
  obtain ⟨c0, c1, c2, c3⟩ := copied3 (W5 m ρ c)
  rw [show V6 m ρ c main_v3_0 = _ from c0.trans (W5_arr m ρ c 11), show V6 m ρ c main_v3_1 = _ from c1.trans (W5_arr m ρ c 12),
    show V6 m ρ c main_v3_2 = _ from c2.trans (W5_arr m ρ c 13), show V6 m ρ c main_v3_3 = _ from c3.trans (W5_arr m ρ c 14)] at p3
  exact chain rfl p0 p1 p2 p3 q R J

/-- What the reference leaves of the four results. -/
def ref (s : Fin 4 → S8x384x128.Idx → EReal) (w m v : S1536x128.Idx → EReal) : Fin 4 → Mat 1536 128 :=
  ![MixRefIdeal.Read.val_main_v2 (F := Ideal) (s 0) (s 1) (s 2) (s 3), MixRefIdeal.Read.val_main_v26 (F := Ideal) (s 0) (s 1) (s 2) (s 3) w m v,
    MixRefIdeal.Read.val_main_v7 (F := Ideal) (s 0) (s 1) (s 2) (s 3) m, MixRefIdeal.Read.val_main_v13 (F := Ideal) (s 0) (s 1) (s 2) (s 3) v]

/-- The reference's four results at the entries of a layer. -/
theorem ref_at (s : Fin 4 → S8x384x128.Idx → EReal) (w m v : S1536x128.Idx → EReal) (k : Fin 4) :
    New (fun R J q => ref s w m v q (ix2 R J)) k.1 (s k) w m v := by
  intro R Q J q hR
  have e : MixRefIdeal.Read.val_main_v2 (F := Ideal) (s 0) (s 1) (s 2) (s 3) (ix2 R J) = grad fun d => s k (ix3 d Q J) := by
    have h : ∀ d, MixRefIdeal.Read.val_main_v0 (F := Ideal) (s 0) (s 1) (s 2) (s 3) (ix3 d R J) = s k (ix3 d Q J) := fun d =>
      (joined (s 0) (s 1) (s 2) (s 3) _ k d Q J R hR).trans (match k with | 0 => rfl | 1 => rfl | 2 => rfl | 3 => rfl)
    rw [← funext h]
    unfold grad
    pointwise [MixRefIdeal.Read.val_main_v2, MixRefIdeal.Read.val_main_v1, MixRefIdeal.Read.val_main_cst]
  rw [← e]
  match q with
  | 0 => rfl
  | 1 => rfl
  | 2 => rfl
  | 3 => rfl

/-- The four calls leave what the reference leaves. -/
theorem same (q : Fin 4) : ref ![m (c.tc.loc main_arg0), m (c.tc.loc main_arg1), m (c.tc.loc main_arg2), m (c.tc.loc main_arg3)]
    (m (c.tc.loc main_arg4)) (m (c.tc.loc main_arg5)) (m (c.tc.loc main_arg6)) q = res m ρ c q :=
  mat_ext fun R J => (whole m ρ c (fun R J q => ref _ _ _ _ q (ix2 R J)) (ref_at _ _ _ _ 3) (ref_at _ _ _ _ 2) (ref_at _ _ _ _ 1) (ref_at _ _ _ _ 0) q R J).symm

/-- The four calls run to an end, with every array as the last of them leaves it. -/
theorem ran : θ_run defs (onTc (τ := τ) (main (F := Ideal))) ⟨m, fun _ => 0, ρ⟩ fun r =>
    ∀ c : Dev nD, ∀ b ∈ ucRefs τ sig, r.2.mem ((c : Thread nD τ).1, b) = W7 m ρ c b :=
  runs pcfgs adm (pdats m ρ) cellOf_inj defs₀ m ρ main (segs m ρ) (main_run m ρ)
    (by simp only [segs, Seg.pipes_host, Seg.pipes_region, Seg.pipes_nil]; decide) (W0 m ρ) (W7 m ρ) (fun _ _ => rfl)
    ⟨fun _ => .rfl, fun _ => .rfl, fun _ => .rfl, fun _ => .rfl, fun _ => .rfl, fun _ => .rfl, fun _ => .rfl, fun _ => .rfl⟩

/-- The four calls run to an end and leave the arguments as they were. -/
theorem ends : θ_run defs (onTc (τ := τ) (main (F := Ideal))) ⟨m, fun _ => 0, ρ⟩ fun r => ∀ c : Dev nD,
    r.2.mem (c.tc.loc main_v3_0) = res m ρ c 0 ∧ r.2.mem (c.tc.loc main_v3_1) = res m ρ c 1
    ∧ r.2.mem (c.tc.loc main_v3_2) = res m ρ c 2 ∧ r.2.mem (c.tc.loc main_v3_3) = res m ρ c 3
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) :=
  (θ_run _ _ _).mono (fun r h c =>
    ⟨(h c _ (mem_uc main_v3_0 (by decide))).trans (W7_arr m ρ c 11), (h c _ (mem_uc main_v3_1 (by decide))).trans (W7_arr m ρ c 12),
     (h c _ (mem_uc main_v3_2 (by decide))).trans (W7_arr m ρ c 13), (h c _ (mem_uc main_v3_3 (by decide))).trans (W7_arr m ρ c 14),
     (h c _ (mem_uc main_arg0 (by decide))).trans (W7_main_arg0 m ρ c), (h c _ (mem_uc main_arg1 (by decide))).trans (W7_main_arg1 m ρ c),
     (h c _ (mem_uc main_arg2 (by decide))).trans (W7_main_arg2 m ρ c), (h c _ (mem_uc main_arg3 (by decide))).trans (W7_main_arg3 m ρ c),
     (h c _ (mem_uc main_arg4 (by decide))).trans (W7_main_arg4 m ρ c), (h c _ (mem_uc main_arg5 (by decide))).trans (W7_main_arg5 m ρ c),
     (h c _ (mem_uc main_arg6 (by decide))).trans (W7_main_arg6 m ρ c)⟩) (ran m ρ)

end Cert.Adam.Mix

end
-- ==== Proof.AdamStepDown.lean ====
module

public import proofs.«01_k».proof.Proof.Chain
public import proofs.«01_k».proof.Proof.Runs
public import proofs.«01_k».proof.Proof.Gen.StepDownIdeal.Frame
public import proofs.«01_k».proof.Proof.Gen.StepDownRefIdeal.Read

@[expose] public section

set_option maxRecDepth 16384

noncomputable section

/-! # The update of the lower projection's weight, layer by layer

The device's rows of the four layers' `ffn_w_down`, 352 rows of 1024 in each layer: four calls, each in two blocks of 176 rows. -/

namespace Cert.Adam.StepDown

open Idealize.ShloMosaic Idealize.ShloMosaic.TcCoe Idealize.ShloMosaic.Pointwise Idealize.ShloMosaic.Pipeline Idealize.SL.Sem
open Cert.Prod Cert.Adam Cert.StepDownIdeal Cert.StepDownIdeal.Gen

/-- The bounds of a whole block of one device's gradients. -/
abbrev i3 := inb_S1x176x1024_S1x176x1024_0_0_0

/-- The bounds of a whole block of rows. -/
abbrev i2 := inb_S176x1024_S176x1024_0_0

/-- What a call stores in the blocks of its four results, from the eight devices' blocks and those of the weight and the moments. -/
def pays (s : Fin 8 → Vec Ideal S1x176x1024 .bf16) (w m v : Vec Ideal S176x1024 .f32) : Fin 4 → Vec Ideal S176x1024 .f32 :=
  ![k0_pay1 (k0_pay5 (s 5)) (k0_pay6 (s 6)) (k0_pay7 (s 7)) (k0_pay8 (s 0) (s 1) (s 2) (s 3) (s 4)),
    k0_pay4 (k0_pay5 (s 5)) (k0_pay6 (s 6)) (k0_pay7 (s 7)) w m v (k0_pay8 (s 0) (s 1) (s 2) (s 3) (s 4)),
    k0_pay2 (k0_pay5 (s 5)) (k0_pay6 (s 6)) (k0_pay7 (s 7)) m (k0_pay8 (s 0) (s 1) (s 2) (s 3) (s 4)),
    k0_pay3 (k0_pay5 (s 5)) (k0_pay6 (s 6)) (k0_pay7 (s 7)) v (k0_pay8 (s 0) (s 1) (s 2) (s 3) (s 4))]

/-- What is stored, at an entry. -/
theorem pays_at (s : Fin 8 → Vec Ideal S1x176x1024 .bf16) (w m v : Vec Ideal S176x1024 .f32) (r : Fin 176) (j : Fin 1024) (q : Fin 4) :
    pays s w m v q (ix2 r j) = upd (grad fun d => s d (ix3 0 r j)) (w (ix2 r j)) (m (ix2 r j)) (v (ix2 r j)) q := by
  have e : pays s w m v 0 (ix2 r j) = grad fun d => s d (ix3 0 r j) := by
    show k0_pay1 (F := Ideal) (k0_pay5 (s 5)) (k0_pay6 (s 6)) (k0_pay7 (s 7)) (k0_pay8 (s 0) (s 1) (s 2) (s 3) (s 4)) (ix2 r j) = _
    unfold grad
    rw [Fin.sum_univ_eight]
    pointwise [k0_pay1, k0_pay5, k0_pay6, k0_pay7, k0_pay8]
  rw [← e]
  match q with
  | 0 => rfl
  | 1 => rfl
  | 2 => rfl
  | 3 => rfl

section Calls

variable (V : (c : Dev nD) → (b : Ref sig .tc) → Buf (Elt Ideal) ((c : Thread nD τ).loc b)) (c : Dev nD)

/-- Which blocks a point of the first call reads and writes. -/
theorem idx0 : ∀ (t : Fin cfg0.N) (w : Fin cfg0.W),
    List.ofFn ((cfg0.win w).index t) = if w.1 < 8 then [w.1, t.1, 0] else [6 + t.1, 0] :=
  (by decide +kernel : ∀ (t : Fin grid0.N) (w : Fin cfg0.W), _)

/-- The eight devices' blocks at a point of the first call. -/
def slots0 (t : Fin cfg0.N) : Fin 8 → Vec Ideal S1x176x1024 .bf16 :=
  ![iblk0 V c 0 t, iblk0 V c 1 t, iblk0 V c 2 t, iblk0 V c 3 t, iblk0 V c 4 t, iblk0 V c 5 t, iblk0 V c 6 t, iblk0 V c 7 t]

/-- The blocks of the four results after a point of the first call. -/
def left0 (t : Fin cfg0.N) : Fin 4 → Mat 176 1024 :=
  ![(dat0 V c).after 11 t, (dat0 V c).after 12 t, (dat0 V c).after 13 t, (dat0 V c).after 14 t]

/-- They are what the point stores. -/
theorem stored0 (t : Fin cfg0.N) (q : Fin 4) :
    left0 V c t q = pays (slots0 V c t) (iblk0 V c 8 t) (iblk0 V c 9 t) (iblk0 V c 10 t) q := by
  have h : ∀ q, left0 V c t q = pays
      ![View.ld (iblk0 V c 0 t) r0_0, View.ld (iblk0 V c 1 t) r0_0, View.ld (iblk0 V c 2 t) r0_0, View.ld (iblk0 V c 3 t) r0_0,
        View.ld (iblk0 V c 4 t) r0_0, View.ld (iblk0 V c 5 t) r0_0, View.ld (iblk0 V c 6 t) r0_0, View.ld (iblk0 V c 7 t) r0_0]
      (View.ld (iblk0 V c 8 t) r0_1) (View.ld (iblk0 V c 9 t) r0_1) (View.ld (iblk0 V c 10 t) r0_1) q := fun q => match q with
    | 0 => (after0_11 V c t).trans (.trans (by sl_kernel_rfl) (View.canon_unit_zero zero2 i2 (pays _ _ _ _ 0)))
    | 1 => (after0_12 V c t).trans (.trans (by sl_kernel_rfl) (View.canon_unit_zero zero2 i2 (pays _ _ _ _ 1)))
    | 2 => (after0_13 V c t).trans (.trans (by sl_kernel_rfl) (View.canon_unit_zero zero2 i2 (pays _ _ _ _ 2)))
    | 3 => (after0_14 V c t).trans (.trans (by sl_kernel_rfl) (View.canon_unit_zero zero2 i2 (pays _ _ _ _ 3)))
  have e3 : ∀ x : Vec Ideal S1x176x1024 .bf16, View.ld x r0_0 = x := fun x => View.ld_unit_zero zero3 i3 x
  have e2 : ∀ x : Vec Ideal S176x1024 .f32, View.ld x r0_1 = x := fun x => View.ld_unit_zero zero2 i2 x
  simp only [e3, e2] at h
  exact h q

/-- An entry of a device's block at a point of the first call. -/
theorem slot0 (t : Fin cfg0.N) (d : Fin 8) (r : Fin 176) (j : Fin 1024) (Q : Fin 352) (hQ : Q.1 = 176 * t.1 + r.1) :
    slots0 V c t d (ix3 0 r j) = (V c main_arg3 : S8x352x1024.Idx → EReal) (ix3 d Q j) :=
  match d with
  | 0 => congrArg (V c main_arg3) (at_slot ((cfg0.win 0).blk t).view.emb 0 r j Q rfl rfl rfl (of3 (idx0 t 0)) hQ)
  | 1 => congrArg (V c main_arg3) (at_slot ((cfg0.win 1).blk t).view.emb 1 r j Q rfl rfl rfl (of3 (idx0 t 1)) hQ)
  | 2 => congrArg (V c main_arg3) (at_slot ((cfg0.win 2).blk t).view.emb 2 r j Q rfl rfl rfl (of3 (idx0 t 2)) hQ)
  | 3 => congrArg (V c main_arg3) (at_slot ((cfg0.win 3).blk t).view.emb 3 r j Q rfl rfl rfl (of3 (idx0 t 3)) hQ)
  | 4 => congrArg (V c main_arg3) (at_slot ((cfg0.win 4).blk t).view.emb 4 r j Q rfl rfl rfl (of3 (idx0 t 4)) hQ)
  | 5 => congrArg (V c main_arg3) (at_slot ((cfg0.win 5).blk t).view.emb 5 r j Q rfl rfl rfl (of3 (idx0 t 5)) hQ)
  | 6 => congrArg (V c main_arg3) (at_slot ((cfg0.win 6).blk t).view.emb 6 r j Q rfl rfl rfl (of3 (idx0 t 6)) hQ)
  | 7 => congrArg (V c main_arg3) (at_slot ((cfg0.win 7).blk t).view.emb 7 r j Q rfl rfl rfl (of3 (idx0 t 7)) hQ)

/-- What the first call writes of each result. -/
theorem wrote0 (q : Fin 4) : Wrote (A := 1408) 6 (fun t => left0 V c t q)
    ((![V c main_v0_0, V c main_v0_1, V c main_v0_2, V c main_v0_3] : Fin 4 → Mat 1408 1024) q)
    ((![(dat0 V c).arrAt 11 cfg0.N, (dat0 V c).arrAt 12 cfg0.N, (dat0 V c).arrAt 13 cfg0.N, (dat0 V c).arrAt 14 cfg0.N] :
      Fin 4 → Mat 1408 1024) q) :=
  match q with
  | 0 => .of (fun t => ((cfg0.win 11).blk t).view.emb) (fun _ _ _ => rfl) (fun _ _ _ => rfl) (fun t => of2 (idx0 t 11))
      (fun t => congrFun (written (dat0 V c) 11 rfl flush0_11 (apart (idx0 · 11)) t))
      (fun i h => (unwritten (dat0 V c) 11 i h).trans (congrFun (A_eq0 V c 11) i))
  | 1 => .of (fun t => ((cfg0.win 12).blk t).view.emb) (fun _ _ _ => rfl) (fun _ _ _ => rfl) (fun t => of2 (idx0 t 12))
      (fun t => congrFun (written (dat0 V c) 12 rfl flush0_12 (apart (idx0 · 12)) t))
      (fun i h => (unwritten (dat0 V c) 12 i h).trans (congrFun (A_eq0 V c 12) i))
  | 2 => .of (fun t => ((cfg0.win 13).blk t).view.emb) (fun _ _ _ => rfl) (fun _ _ _ => rfl) (fun t => of2 (idx0 t 13))
      (fun t => congrFun (written (dat0 V c) 13 rfl flush0_13 (apart (idx0 · 13)) t))
      (fun i h => (unwritten (dat0 V c) 13 i h).trans (congrFun (A_eq0 V c 13) i))
  | 3 => .of (fun t => ((cfg0.win 14).blk t).view.emb) (fun _ _ _ => rfl) (fun _ _ _ => rfl) (fun t => of2 (idx0 t 14))
      (fun t => congrFun (written (dat0 V c) 14 rfl flush0_14 (apart (idx0 · 14)) t))
      (fun i h => (unwritten (dat0 V c) 14 i h).trans (congrFun (A_eq0 V c 14) i))

/-- The first call writes the rows of its layer and leaves the others. -/
theorem pass0 (new : Fin 1408 → Fin 1024 → Fin 4 → EReal)
    (hn : New new 3 (V c main_arg3) (V c main_arg4) (V c main_arg5) (V c main_arg6)) :
    Pass (3 * 352) (4 * 352) new ![V c main_v0_0, V c main_v0_1, V c main_v0_2, V c main_v0_3]
      ![(dat0 V c).arrAt 11 cfg0.N, (dat0 V c).arrAt 12 cfg0.N, (dat0 V c).arrAt 13 cfg0.N, (dat0 V c).arrAt 14 cfg0.N] :=
  .of_call (n := cfg0.N) (a := 176) (first := 6) (by decide) (by rw [show cfg0.N = 2 from N_0])
    (by rw [show cfg0.N = 2 from N_0]) (wrote0 V c)
    (fun t q r j => (congrFun (stored0 V c t q) _).trans (pays_at _ _ _ _ r j q)) (slot0 V c)
    (fun t r j R h => congrArg (V c main_arg4) (at_rows ((cfg0.win 8).blk t).view.emb r j R rfl rfl (of2 (idx0 t 8)) h))
    (fun t r j R h => congrArg (V c main_arg5) (at_rows ((cfg0.win 9).blk t).view.emb r j R rfl rfl (of2 (idx0 t 9)) h))
    (fun t r j R h => congrArg (V c main_arg6) (at_rows ((cfg0.win 10).blk t).view.emb r j R rfl rfl (of2 (idx0 t 10)) h)) hn

/-- Which blocks a point of the second call reads and writes. -/
theorem idx1 : ∀ (t : Fin cfg1.N) (w : Fin cfg1.W),
    List.ofFn ((cfg1.win w).index t) = if w.1 < 8 then [w.1, t.1, 0] else [4 + t.1, 0] :=
  (by decide +kernel : ∀ (t : Fin grid1.N) (w : Fin cfg1.W), _)

/-- The eight devices' blocks at a point of the second call. -/
def slots1 (t : Fin cfg1.N) : Fin 8 → Vec Ideal S1x176x1024 .bf16 :=
  ![iblk1 V c 0 t, iblk1 V c 1 t, iblk1 V c 2 t, iblk1 V c 3 t, iblk1 V c 4 t, iblk1 V c 5 t, iblk1 V c 6 t, iblk1 V c 7 t]

/-- The blocks of the four results after a point of the second call. -/
def left1 (t : Fin cfg1.N) : Fin 4 → Mat 176 1024 :=
  ![(dat1 V c).after 11 t, (dat1 V c).after 12 t, (dat1 V c).after 13 t, (dat1 V c).after 14 t]

/-- They are what the point stores. -/
theorem stored1 (t : Fin cfg1.N) (q : Fin 4) :
    left1 V c t q = pays (slots1 V c t) (iblk1 V c 8 t) (iblk1 V c 9 t) (iblk1 V c 10 t) q := by
  have h : ∀ q, left1 V c t q = pays
      ![load3 (ms1_0 t) (hs1_0 t) i3 (iblk1 V c 0 t), load3 (ms1_1 t) (hs1_1 t) i3 (iblk1 V c 1 t),
        load3 (ms1_2 t) (hs1_2 t) i3 (iblk1 V c 2 t), load3 (ms1_3 t) (hs1_3 t) i3 (iblk1 V c 3 t),
        load3 (ms1_4 t) (hs1_4 t) i3 (iblk1 V c 4 t), load3 (ms1_5 t) (hs1_5 t) i3 (iblk1 V c 5 t),
        load3 (ms1_6 t) (hs1_6 t) i3 (iblk1 V c 6 t), load3 (ms1_7 t) (hs1_7 t) i3 (iblk1 V c 7 t)]
      (load2 (ms1_8 t) (hs1_8 t) i2 (iblk1 V c 8 t)) (load2 (ms1_9 t) (hs1_9 t) i2 (iblk1 V c 9 t))
      (load2 (ms1_10 t) (hs1_10 t) i2 (iblk1 V c 10 t)) q := fun q => match q with
    | 0 => by
      refine (after1_11 V c t).trans ?_
      unfold outsAt1 out1_A_11
      dsimp only
      refine stored VO1_11 zero2 i2 (pays _ _ _ _ 0) ?_
      sl_kernel_rfl
    | 1 => by
      refine (after1_12 V c t).trans ?_
      unfold outsAt1 out1_A_12
      dsimp only
      refine stored VO1_12 zero2 i2 (pays _ _ _ _ 1) ?_
      sl_kernel_rfl
    | 2 => by
      refine (after1_13 V c t).trans ?_
      unfold outsAt1 out1_A_13
      dsimp only
      refine stored VO1_13 zero2 i2 (pays _ _ _ _ 2) ?_
      sl_kernel_rfl
    | 3 => by
      refine (after1_14 V c t).trans ?_
      unfold outsAt1 out1_A_14
      dsimp only
      refine stored VO1_14 zero2 i2 (pays _ _ _ _ 3) ?_
      sl_kernel_rfl
  simp only [load3_eq, load2_eq] at h
  exact h q

/-- An entry of a device's block at a point of the second call. -/
theorem slot1 (t : Fin cfg1.N) (d : Fin 8) (r : Fin 176) (j : Fin 1024) (Q : Fin 352) (hQ : Q.1 = 176 * t.1 + r.1) :
    slots1 V c t d (ix3 0 r j) = (V c main_arg2 : S8x352x1024.Idx → EReal) (ix3 d Q j) :=
  match d with
  | 0 => congrArg (V c main_arg2) (at_slot ((cfg1.win 0).blk t).view.emb 0 r j Q rfl rfl rfl (of3 (idx1 t 0)) hQ)
  | 1 => congrArg (V c main_arg2) (at_slot ((cfg1.win 1).blk t).view.emb 1 r j Q rfl rfl rfl (of3 (idx1 t 1)) hQ)
  | 2 => congrArg (V c main_arg2) (at_slot ((cfg1.win 2).blk t).view.emb 2 r j Q rfl rfl rfl (of3 (idx1 t 2)) hQ)
  | 3 => congrArg (V c main_arg2) (at_slot ((cfg1.win 3).blk t).view.emb 3 r j Q rfl rfl rfl (of3 (idx1 t 3)) hQ)
  | 4 => congrArg (V c main_arg2) (at_slot ((cfg1.win 4).blk t).view.emb 4 r j Q rfl rfl rfl (of3 (idx1 t 4)) hQ)
  | 5 => congrArg (V c main_arg2) (at_slot ((cfg1.win 5).blk t).view.emb 5 r j Q rfl rfl rfl (of3 (idx1 t 5)) hQ)
  | 6 => congrArg (V c main_arg2) (at_slot ((cfg1.win 6).blk t).view.emb 6 r j Q rfl rfl rfl (of3 (idx1 t 6)) hQ)
  | 7 => congrArg (V c main_arg2) (at_slot ((cfg1.win 7).blk t).view.emb 7 r j Q rfl rfl rfl (of3 (idx1 t 7)) hQ)

/-- What the second call writes of each result. -/
theorem wrote1 (q : Fin 4) : Wrote (A := 1408) 4 (fun t => left1 V c t q)
    ((![V c main_v1_0, V c main_v1_1, V c main_v1_2, V c main_v1_3] : Fin 4 → Mat 1408 1024) q)
    ((![(dat1 V c).arrAt 11 cfg1.N, (dat1 V c).arrAt 12 cfg1.N, (dat1 V c).arrAt 13 cfg1.N, (dat1 V c).arrAt 14 cfg1.N] :
      Fin 4 → Mat 1408 1024) q) :=
  match q with
  | 0 => .of (fun t => ((cfg1.win 11).blk t).view.emb) (fun _ _ _ => rfl) (fun _ _ _ => rfl) (fun t => of2 (idx1 t 11))
      (fun t => congrFun (written (dat1 V c) 11 rfl flush1_11 (apart (idx1 · 11)) t))
      (fun i h => (unwritten (dat1 V c) 11 i h).trans (congrFun (A_eq1 V c 11) i))
  | 1 => .of (fun t => ((cfg1.win 12).blk t).view.emb) (fun _ _ _ => rfl) (fun _ _ _ => rfl) (fun t => of2 (idx1 t 12))
      (fun t => congrFun (written (dat1 V c) 12 rfl flush1_12 (apart (idx1 · 12)) t))
      (fun i h => (unwritten (dat1 V c) 12 i h).trans (congrFun (A_eq1 V c 12) i))
  | 2 => .of (fun t => ((cfg1.win 13).blk t).view.emb) (fun _ _ _ => rfl) (fun _ _ _ => rfl) (fun t => of2 (idx1 t 13))
      (fun t => congrFun (written (dat1 V c) 13 rfl flush1_13 (apart (idx1 · 13)) t))
      (fun i h => (unwritten (dat1 V c) 13 i h).trans (congrFun (A_eq1 V c 13) i))
  | 3 => .of (fun t => ((cfg1.win 14).blk t).view.emb) (fun _ _ _ => rfl) (fun _ _ _ => rfl) (fun t => of2 (idx1 t 14))
      (fun t => congrFun (written (dat1 V c) 14 rfl flush1_14 (apart (idx1 · 14)) t))
      (fun i h => (unwritten (dat1 V c) 14 i h).trans (congrFun (A_eq1 V c 14) i))

/-- The second call writes the rows of its layer and leaves the others. -/
theorem pass1 (new : Fin 1408 → Fin 1024 → Fin 4 → EReal)
    (hn : New new 2 (V c main_arg2) (V c main_arg4) (V c main_arg5) (V c main_arg6)) :
    Pass (2 * 352) (3 * 352) new ![V c main_v1_0, V c main_v1_1, V c main_v1_2, V c main_v1_3]
      ![(dat1 V c).arrAt 11 cfg1.N, (dat1 V c).arrAt 12 cfg1.N, (dat1 V c).arrAt 13 cfg1.N, (dat1 V c).arrAt 14 cfg1.N] :=
  .of_call (n := cfg1.N) (a := 176) (first := 4) (by decide) (by rw [show cfg1.N = 2 from N_1])
    (by rw [show cfg1.N = 2 from N_1]) (wrote1 V c)
    (fun t q r j => (congrFun (stored1 V c t q) _).trans (pays_at _ _ _ _ r j q)) (slot1 V c)
    (fun t r j R h => congrArg (V c main_arg4) (at_rows ((cfg1.win 8).blk t).view.emb r j R rfl rfl (of2 (idx1 t 8)) h))
    (fun t r j R h => congrArg (V c main_arg5) (at_rows ((cfg1.win 9).blk t).view.emb r j R rfl rfl (of2 (idx1 t 9)) h))
    (fun t r j R h => congrArg (V c main_arg6) (at_rows ((cfg1.win 10).blk t).view.emb r j R rfl rfl (of2 (idx1 t 10)) h)) hn

/-- Which blocks a point of the third call reads and writes. -/
theorem idx2 : ∀ (t : Fin cfg2.N) (w : Fin cfg2.W),
    List.ofFn ((cfg2.win w).index t) = if w.1 < 8 then [w.1, t.1, 0] else [2 + t.1, 0] :=
  (by decide +kernel : ∀ (t : Fin grid2.N) (w : Fin cfg2.W), _)

/-- The eight devices' blocks at a point of the third call. -/
def slots2 (t : Fin cfg2.N) : Fin 8 → Vec Ideal S1x176x1024 .bf16 :=
  ![iblk2 V c 0 t, iblk2 V c 1 t, iblk2 V c 2 t, iblk2 V c 3 t, iblk2 V c 4 t, iblk2 V c 5 t, iblk2 V c 6 t, iblk2 V c 7 t]

/-- The blocks of the four results after a point of the third call. -/
def left2 (t : Fin cfg2.N) : Fin 4 → Mat 176 1024 :=
  ![(dat2 V c).after 11 t, (dat2 V c).after 12 t, (dat2 V c).after 13 t, (dat2 V c).after 14 t]

/-- They are what the point stores. -/
theorem stored2 (t : Fin cfg2.N) (q : Fin 4) :
    left2 V c t q = pays (slots2 V c t) (iblk2 V c 8 t) (iblk2 V c 9 t) (iblk2 V c 10 t) q := by
  have h : ∀ q, left2 V c t q = pays
      ![load3 (ms2_0 t) (hs2_0 t) i3 (iblk2 V c 0 t), load3 (ms2_1 t) (hs2_1 t) i3 (iblk2 V c 1 t),
        load3 (ms2_2 t) (hs2_2 t) i3 (iblk2 V c 2 t), load3 (ms2_3 t) (hs2_3 t) i3 (iblk2 V c 3 t),
        load3 (ms2_4 t) (hs2_4 t) i3 (iblk2 V c 4 t), load3 (ms2_5 t) (hs2_5 t) i3 (iblk2 V c 5 t),
        load3 (ms2_6 t) (hs2_6 t) i3 (iblk2 V c 6 t), load3 (ms2_7 t) (hs2_7 t) i3 (iblk2 V c 7 t)]
      (load2 (ms2_8 t) (hs2_8 t) i2 (iblk2 V c 8 t)) (load2 (ms2_9 t) (hs2_9 t) i2 (iblk2 V c 9 t))
      (load2 (ms2_10 t) (hs2_10 t) i2 (iblk2 V c 10 t)) q := fun q => match q with
    | 0 => by
      refine (after2_11 V c t).trans ?_
      unfold outsAt2 out2_A_11
      dsimp only
      refine stored VO2_11 zero2 i2 (pays _ _ _ _ 0) ?_
      sl_kernel_rfl
    | 1 => by
      refine (after2_12 V c t).trans ?_
      unfold outsAt2 out2_A_12
      dsimp only
      refine stored VO2_12 zero2 i2 (pays _ _ _ _ 1) ?_
      sl_kernel_rfl
    | 2 => by
      refine (after2_13 V c t).trans ?_
      unfold outsAt2 out2_A_13
      dsimp only
      refine stored VO2_13 zero2 i2 (pays _ _ _ _ 2) ?_
      sl_kernel_rfl
    | 3 => by
      refine (after2_14 V c t).trans ?_
      unfold outsAt2 out2_A_14
      dsimp only
      refine stored VO2_14 zero2 i2 (pays _ _ _ _ 3) ?_
      sl_kernel_rfl
  simp only [load3_eq, load2_eq] at h
  exact h q

/-- An entry of a device's block at a point of the third call. -/
theorem slot2 (t : Fin cfg2.N) (d : Fin 8) (r : Fin 176) (j : Fin 1024) (Q : Fin 352) (hQ : Q.1 = 176 * t.1 + r.1) :
    slots2 V c t d (ix3 0 r j) = (V c main_arg1 : S8x352x1024.Idx → EReal) (ix3 d Q j) :=
  match d with
  | 0 => congrArg (V c main_arg1) (at_slot ((cfg2.win 0).blk t).view.emb 0 r j Q rfl rfl rfl (of3 (idx2 t 0)) hQ)
  | 1 => congrArg (V c main_arg1) (at_slot ((cfg2.win 1).blk t).view.emb 1 r j Q rfl rfl rfl (of3 (idx2 t 1)) hQ)
  | 2 => congrArg (V c main_arg1) (at_slot ((cfg2.win 2).blk t).view.emb 2 r j Q rfl rfl rfl (of3 (idx2 t 2)) hQ)
  | 3 => congrArg (V c main_arg1) (at_slot ((cfg2.win 3).blk t).view.emb 3 r j Q rfl rfl rfl (of3 (idx2 t 3)) hQ)
  | 4 => congrArg (V c main_arg1) (at_slot ((cfg2.win 4).blk t).view.emb 4 r j Q rfl rfl rfl (of3 (idx2 t 4)) hQ)
  | 5 => congrArg (V c main_arg1) (at_slot ((cfg2.win 5).blk t).view.emb 5 r j Q rfl rfl rfl (of3 (idx2 t 5)) hQ)
  | 6 => congrArg (V c main_arg1) (at_slot ((cfg2.win 6).blk t).view.emb 6 r j Q rfl rfl rfl (of3 (idx2 t 6)) hQ)
  | 7 => congrArg (V c main_arg1) (at_slot ((cfg2.win 7).blk t).view.emb 7 r j Q rfl rfl rfl (of3 (idx2 t 7)) hQ)

/-- What the third call writes of each result. -/
theorem wrote2 (q : Fin 4) : Wrote (A := 1408) 2 (fun t => left2 V c t q)
    ((![V c main_v2_0, V c main_v2_1, V c main_v2_2, V c main_v2_3] : Fin 4 → Mat 1408 1024) q)
    ((![(dat2 V c).arrAt 11 cfg2.N, (dat2 V c).arrAt 12 cfg2.N, (dat2 V c).arrAt 13 cfg2.N, (dat2 V c).arrAt 14 cfg2.N] :
      Fin 4 → Mat 1408 1024) q) :=
  match q with
  | 0 => .of (fun t => ((cfg2.win 11).blk t).view.emb) (fun _ _ _ => rfl) (fun _ _ _ => rfl) (fun t => of2 (idx2 t 11))
      (fun t => congrFun (written (dat2 V c) 11 rfl flush2_11 (apart (idx2 · 11)) t))
      (fun i h => (unwritten (dat2 V c) 11 i h).trans (congrFun (A_eq2 V c 11) i))
  | 1 => .of (fun t => ((cfg2.win 12).blk t).view.emb) (fun _ _ _ => rfl) (fun _ _ _ => rfl) (fun t => of2 (idx2 t 12))
      (fun t => congrFun (written (dat2 V c) 12 rfl flush2_12 (apart (idx2 · 12)) t))
      (fun i h => (unwritten (dat2 V c) 12 i h).trans (congrFun (A_eq2 V c 12) i))
  | 2 => .of (fun t => ((cfg2.win 13).blk t).view.emb) (fun _ _ _ => rfl) (fun _ _ _ => rfl) (fun t => of2 (idx2 t 13))
      (fun t => congrFun (written (dat2 V c) 13 rfl flush2_13 (apart (idx2 · 13)) t))
      (fun i h => (unwritten (dat2 V c) 13 i h).trans (congrFun (A_eq2 V c 13) i))
  | 3 => .of (fun t => ((cfg2.win 14).blk t).view.emb) (fun _ _ _ => rfl) (fun _ _ _ => rfl) (fun t => of2 (idx2 t 14))
      (fun t => congrFun (written (dat2 V c) 14 rfl flush2_14 (apart (idx2 · 14)) t))
      (fun i h => (unwritten (dat2 V c) 14 i h).trans (congrFun (A_eq2 V c 14) i))

/-- The third call writes the rows of its layer and leaves the others. -/
theorem pass2 (new : Fin 1408 → Fin 1024 → Fin 4 → EReal)
    (hn : New new 1 (V c main_arg1) (V c main_arg4) (V c main_arg5) (V c main_arg6)) :
    Pass (1 * 352) (2 * 352) new ![V c main_v2_0, V c main_v2_1, V c main_v2_2, V c main_v2_3]
      ![(dat2 V c).arrAt 11 cfg2.N, (dat2 V c).arrAt 12 cfg2.N, (dat2 V c).arrAt 13 cfg2.N, (dat2 V c).arrAt 14 cfg2.N] :=
  .of_call (n := cfg2.N) (a := 176) (first := 2) (by decide) (by rw [show cfg2.N = 2 from N_2])
    (by rw [show cfg2.N = 2 from N_2]) (wrote2 V c)
    (fun t q r j => (congrFun (stored2 V c t q) _).trans (pays_at _ _ _ _ r j q)) (slot2 V c)
    (fun t r j R h => congrArg (V c main_arg4) (at_rows ((cfg2.win 8).blk t).view.emb r j R rfl rfl (of2 (idx2 t 8)) h))
    (fun t r j R h => congrArg (V c main_arg5) (at_rows ((cfg2.win 9).blk t).view.emb r j R rfl rfl (of2 (idx2 t 9)) h))
    (fun t r j R h => congrArg (V c main_arg6) (at_rows ((cfg2.win 10).blk t).view.emb r j R rfl rfl (of2 (idx2 t 10)) h)) hn

/-- Which blocks a point of the fourth call reads and writes. -/
theorem idx3 : ∀ (t : Fin cfg3.N) (w : Fin cfg3.W),
    List.ofFn ((cfg3.win w).index t) = if w.1 < 8 then [w.1, t.1, 0] else [0 + t.1, 0] :=
  (by decide +kernel : ∀ (t : Fin grid3.N) (w : Fin cfg3.W), _)

/-- The eight devices' blocks at a point of the fourth call. -/
def slots3 (t : Fin cfg3.N) : Fin 8 → Vec Ideal S1x176x1024 .bf16 :=
  ![iblk3 V c 0 t, iblk3 V c 1 t, iblk3 V c 2 t, iblk3 V c 3 t, iblk3 V c 4 t, iblk3 V c 5 t, iblk3 V c 6 t, iblk3 V c 7 t]

/-- The blocks of the four results after a point of the fourth call. -/
def left3 (t : Fin cfg3.N) : Fin 4 → Mat 176 1024 :=
  ![(dat3 V c).after 11 t, (dat3 V c).after 12 t, (dat3 V c).after 13 t, (dat3 V c).after 14 t]

/-- They are what the point stores. -/
theorem stored3 (t : Fin cfg3.N) (q : Fin 4) :
    left3 V c t q = pays (slots3 V c t) (iblk3 V c 8 t) (iblk3 V c 9 t) (iblk3 V c 10 t) q := by
  have h : ∀ q, left3 V c t q = pays
      ![load3 (ms3_0 t) (hs3_0 t) i3 (iblk3 V c 0 t), load3 (ms3_1 t) (hs3_1 t) i3 (iblk3 V c 1 t),
        load3 (ms3_2 t) (hs3_2 t) i3 (iblk3 V c 2 t), load3 (ms3_3 t) (hs3_3 t) i3 (iblk3 V c 3 t),
        load3 (ms3_4 t) (hs3_4 t) i3 (iblk3 V c 4 t), load3 (ms3_5 t) (hs3_5 t) i3 (iblk3 V c 5 t),
        load3 (ms3_6 t) (hs3_6 t) i3 (iblk3 V c 6 t), load3 (ms3_7 t) (hs3_7 t) i3 (iblk3 V c 7 t)]
      (load2 (ms3_8 t) (hs3_8 t) i2 (iblk3 V c 8 t)) (load2 (ms3_9 t) (hs3_9 t) i2 (iblk3 V c 9 t))
      (load2 (ms3_10 t) (hs3_10 t) i2 (iblk3 V c 10 t)) q := fun q => match q with
    | 0 => by
      refine (after3_11 V c t).trans ?_
      unfold outsAt3 out3_A_11
      dsimp only
      refine stored VO3_11 zero2 i2 (pays _ _ _ _ 0) ?_
      sl_kernel_rfl
    | 1 => by
      refine (after3_12 V c t).trans ?_
      unfold outsAt3 out3_A_12
      dsimp only
      refine stored VO3_12 zero2 i2 (pays _ _ _ _ 1) ?_
      sl_kernel_rfl
    | 2 => by
      refine (after3_13 V c t).trans ?_
      unfold outsAt3 out3_A_13
      dsimp only
      refine stored VO3_13 zero2 i2 (pays _ _ _ _ 2) ?_
      sl_kernel_rfl
    | 3 => by
      refine (after3_14 V c t).trans ?_
      unfold outsAt3 out3_A_14
      dsimp only
      refine stored VO3_14 zero2 i2 (pays _ _ _ _ 3) ?_
      sl_kernel_rfl
  simp only [load3_eq, load2_eq] at h
  exact h q

/-- An entry of a device's block at a point of the fourth call. -/
theorem slot3 (t : Fin cfg3.N) (d : Fin 8) (r : Fin 176) (j : Fin 1024) (Q : Fin 352) (hQ : Q.1 = 176 * t.1 + r.1) :
    slots3 V c t d (ix3 0 r j) = (V c main_arg0 : S8x352x1024.Idx → EReal) (ix3 d Q j) :=
  match d with
  | 0 => congrArg (V c main_arg0) (at_slot ((cfg3.win 0).blk t).view.emb 0 r j Q rfl rfl rfl (of3 (idx3 t 0)) hQ)
  | 1 => congrArg (V c main_arg0) (at_slot ((cfg3.win 1).blk t).view.emb 1 r j Q rfl rfl rfl (of3 (idx3 t 1)) hQ)
  | 2 => congrArg (V c main_arg0) (at_slot ((cfg3.win 2).blk t).view.emb 2 r j Q rfl rfl rfl (of3 (idx3 t 2)) hQ)
  | 3 => congrArg (V c main_arg0) (at_slot ((cfg3.win 3).blk t).view.emb 3 r j Q rfl rfl rfl (of3 (idx3 t 3)) hQ)
  | 4 => congrArg (V c main_arg0) (at_slot ((cfg3.win 4).blk t).view.emb 4 r j Q rfl rfl rfl (of3 (idx3 t 4)) hQ)
  | 5 => congrArg (V c main_arg0) (at_slot ((cfg3.win 5).blk t).view.emb 5 r j Q rfl rfl rfl (of3 (idx3 t 5)) hQ)
  | 6 => congrArg (V c main_arg0) (at_slot ((cfg3.win 6).blk t).view.emb 6 r j Q rfl rfl rfl (of3 (idx3 t 6)) hQ)
  | 7 => congrArg (V c main_arg0) (at_slot ((cfg3.win 7).blk t).view.emb 7 r j Q rfl rfl rfl (of3 (idx3 t 7)) hQ)

/-- What the fourth call writes of each result. -/
theorem wrote3 (q : Fin 4) : Wrote (A := 1408) 0 (fun t => left3 V c t q)
    ((![V c main_v3_0, V c main_v3_1, V c main_v3_2, V c main_v3_3] : Fin 4 → Mat 1408 1024) q)
    ((![(dat3 V c).arrAt 11 cfg3.N, (dat3 V c).arrAt 12 cfg3.N, (dat3 V c).arrAt 13 cfg3.N, (dat3 V c).arrAt 14 cfg3.N] :
      Fin 4 → Mat 1408 1024) q) :=
  match q with
  | 0 => .of (fun t => ((cfg3.win 11).blk t).view.emb) (fun _ _ _ => rfl) (fun _ _ _ => rfl) (fun t => of2 (idx3 t 11))
      (fun t => congrFun (written (dat3 V c) 11 rfl flush3_11 (apart (idx3 · 11)) t))
      (fun i h => (unwritten (dat3 V c) 11 i h).trans (congrFun (A_eq3 V c 11) i))
  | 1 => .of (fun t => ((cfg3.win 12).blk t).view.emb) (fun _ _ _ => rfl) (fun _ _ _ => rfl) (fun t => of2 (idx3 t 12))
      (fun t => congrFun (written (dat3 V c) 12 rfl flush3_12 (apart (idx3 · 12)) t))
      (fun i h => (unwritten (dat3 V c) 12 i h).trans (congrFun (A_eq3 V c 12) i))
  | 2 => .of (fun t => ((cfg3.win 13).blk t).view.emb) (fun _ _ _ => rfl) (fun _ _ _ => rfl) (fun t => of2 (idx3 t 13))
      (fun t => congrFun (written (dat3 V c) 13 rfl flush3_13 (apart (idx3 · 13)) t))
      (fun i h => (unwritten (dat3 V c) 13 i h).trans (congrFun (A_eq3 V c 13) i))
  | 3 => .of (fun t => ((cfg3.win 14).blk t).view.emb) (fun _ _ _ => rfl) (fun _ _ _ => rfl) (fun t => of2 (idx3 t 14))
      (fun t => congrFun (written (dat3 V c) 14 rfl flush3_14 (apart (idx3 · 14)) t))
      (fun i h => (unwritten (dat3 V c) 14 i h).trans (congrFun (A_eq3 V c 14) i))

/-- The fourth call writes the rows of its layer and leaves the others. -/
theorem pass3 (new : Fin 1408 → Fin 1024 → Fin 4 → EReal)
    (hn : New new 0 (V c main_arg0) (V c main_arg4) (V c main_arg5) (V c main_arg6)) :
    Pass (0 * 352) (1 * 352) new ![V c main_v3_0, V c main_v3_1, V c main_v3_2, V c main_v3_3]
      ![(dat3 V c).arrAt 11 cfg3.N, (dat3 V c).arrAt 12 cfg3.N, (dat3 V c).arrAt 13 cfg3.N, (dat3 V c).arrAt 14 cfg3.N] :=
  .of_call (n := cfg3.N) (a := 176) (first := 0) (by decide) (by rw [show cfg3.N = 2 from N_3])
    (by rw [show cfg3.N = 2 from N_3]) (wrote3 V c)
    (fun t q r j => (congrFun (stored3 V c t q) _).trans (pays_at _ _ _ _ r j q)) (slot3 V c)
    (fun t r j R h => congrArg (V c main_arg4) (at_rows ((cfg3.win 8).blk t).view.emb r j R rfl rfl (of2 (idx3 t 8)) h))
    (fun t r j R h => congrArg (V c main_arg5) (at_rows ((cfg3.win 9).blk t).view.emb r j R rfl rfl (of2 (idx3 t 9)) h))
    (fun t r j R h => congrArg (V c main_arg6) (at_rows ((cfg3.win 10).blk t).view.emb r j R rfl rfl (of2 (idx3 t 10)) h)) hn

end Calls

/-- The second call starts from the results of the one before it. -/
theorem copied1 (V : Valuation τ sig (Elt Ideal)) :
    StableHlo.after hostOps1 V (Proc.devRef .tc main_v1_0) = V (Proc.devRef .tc main_v0_0)
    ∧ StableHlo.after hostOps1 V (Proc.devRef .tc main_v1_1) = V (Proc.devRef .tc main_v0_1)
    ∧ StableHlo.after hostOps1 V (Proc.devRef .tc main_v1_2) = V (Proc.devRef .tc main_v0_2)
    ∧ StableHlo.after hostOps1 V (Proc.devRef .tc main_v1_3) = V (Proc.devRef .tc main_v0_3) :=
  ⟨rfl, rfl, rfl, rfl⟩

/-- The third call starts from the results of the one before it. -/
theorem copied2 (V : Valuation τ sig (Elt Ideal)) :
    StableHlo.after hostOps2 V (Proc.devRef .tc main_v2_0) = V (Proc.devRef .tc main_v1_0)
    ∧ StableHlo.after hostOps2 V (Proc.devRef .tc main_v2_1) = V (Proc.devRef .tc main_v1_1)
    ∧ StableHlo.after hostOps2 V (Proc.devRef .tc main_v2_2) = V (Proc.devRef .tc main_v1_2)
    ∧ StableHlo.after hostOps2 V (Proc.devRef .tc main_v2_3) = V (Proc.devRef .tc main_v1_3) :=
  ⟨rfl, rfl, rfl, rfl⟩

/-- The fourth call starts from the results of the one before it. -/
theorem copied3 (V : Valuation τ sig (Elt Ideal)) :
    StableHlo.after hostOps3 V (Proc.devRef .tc main_v3_0) = V (Proc.devRef .tc main_v2_0)
    ∧ StableHlo.after hostOps3 V (Proc.devRef .tc main_v3_1) = V (Proc.devRef .tc main_v2_1)
    ∧ StableHlo.after hostOps3 V (Proc.devRef .tc main_v3_2) = V (Proc.devRef .tc main_v2_2)
    ∧ StableHlo.after hostOps3 V (Proc.devRef .tc main_v3_3) = V (Proc.devRef .tc main_v2_3) :=
  ⟨rfl, rfl, rfl, rfl⟩

variable (m : (ℓ : Loc nD τ sig) → Buf (Elt Ideal) ℓ) (ρ : Dev nD → PrngReg) (c : Dev nD)

/-- What the last call leaves of the four results. -/
def res : Fin 4 → Mat 1408 1024 :=
  ![(dat3 (V6 m ρ) c).arrAt 11 cfg3.N, (dat3 (V6 m ρ) c).arrAt 12 cfg3.N, (dat3 (V6 m ρ) c).arrAt 13 cfg3.N, (dat3 (V6 m ρ) c).arrAt 14 cfg3.N]

/-- The four calls update every row of the weight. -/
theorem whole (new : Fin 1408 → Fin 1024 → Fin 4 → EReal)
    (h3 : New new 3 (m (c.tc.loc main_arg3)) (m (c.tc.loc main_arg4)) (m (c.tc.loc main_arg5)) (m (c.tc.loc main_arg6)))
    (h2 : New new 2 (m (c.tc.loc main_arg2)) (m (c.tc.loc main_arg4)) (m (c.tc.loc main_arg5)) (m (c.tc.loc main_arg6)))
    (h1 : New new 1 (m (c.tc.loc main_arg1)) (m (c.tc.loc main_arg4)) (m (c.tc.loc main_arg5)) (m (c.tc.loc main_arg6)))
    (h0 : New new 0 (m (c.tc.loc main_arg0)) (m (c.tc.loc main_arg4)) (m (c.tc.loc main_arg5)) (m (c.tc.loc main_arg6)))
    (q : Fin 4) (R : Fin 1408) (J : Fin 1024) : res m ρ c q (ix2 R J) = new R J q := by
  have p0 := pass0 (V0 m ρ) c new h3
  have p1 := pass1 (V2 m ρ) c new (by
    rw [show V2 m ρ c main_arg2 = _ from W2_args m ρ c main_arg2 (by decide), show V2 m ρ c main_arg4 = _ from W2_args m ρ c main_arg4 (by decide),
      show V2 m ρ c main_arg5 = _ from W2_args m ρ c main_arg5 (by decide), show V2 m ρ c main_arg6 = _ from W2_args m ρ c main_arg6 (by decide)]
    exact h2)
  obtain ⟨c0, c1, c2, c3⟩ := copied1 (W1 m ρ c)
  rw [show V2 m ρ c main_v1_0 = _ from c0.trans (W1_arr m ρ c 11), show V2 m ρ c main_v1_1 = _ from c1.trans (W1_arr m ρ c 12),
    show V2 m ρ c main_v1_2 = _ from c2.trans (W1_arr m ρ c 13), show V2 m ρ c main_v1_3 = _ from c3.trans (W1_arr m ρ c 14)] at p1
  have p2 := pass2 (V4 m ρ) c new (by
    rw [show V4 m ρ c main_arg1 = _ from W4_args m ρ c main_arg1 (by decide), show V4 m ρ c main_arg4 = _ from W4_args m ρ c main_arg4 (by decide),
      show V4 m ρ c main_arg5 = _ from W4_args m ρ c main_arg5 (by decide), show V4 m ρ c main_arg6 = _ from W4_args m ρ c main_arg6 (by decide)]
    exact h1)
  obtain ⟨c0, c1, c2, c3⟩ := copied2 (W3 m ρ c)
  rw [show V4 m ρ c main_v2_0 = _ from c0.trans (W3_arr m ρ c 11), show V4 m ρ c main_v2_1 = _ from c1.trans (W3_arr m ρ c 12),
    show V4 m ρ c main_v2_2 = _ from c2.trans (W3_arr m ρ c 13), show V4 m ρ c main_v2_3 = _ from c3.trans (W3_arr m ρ c 14)] at p2
  have p3 := pass3 (V6 m ρ) c new (by
    rw [show V6 m ρ c main_arg0 = _ from W6_args m ρ c main_arg0 (by decide), show V6 m ρ c main_arg4 = _ from W6_args m ρ c main_arg4 (by decide),
      show V6 m ρ c main_arg5 = _ from W6_args m ρ c main_arg5 (by decide), show V6 m ρ c main_arg6 = _ from W6_args m ρ c main_arg6 (by decide)]
    exact h0)
  obtain ⟨c0, c1, c2, c3⟩ := copied3 (W5 m ρ c)
  rw [show V6 m ρ c main_v3_0 = _ from c0.trans (W5_arr m ρ c 11), show V6 m ρ c main_v3_1 = _ from c1.trans (W5_arr m ρ c 12),
    show V6 m ρ c main_v3_2 = _ from c2.trans (W5_arr m ρ c 13), show V6 m ρ c main_v3_3 = _ from c3.trans (W5_arr m ρ c 14)] at p3
  exact chain rfl p0 p1 p2 p3 q R J

/-- What the reference leaves of the four results. -/
def ref (s : Fin 4 → S8x352x1024.Idx → EReal) (w m v : S1408x1024.Idx → EReal) : Fin 4 → Mat 1408 1024 :=
  ![StepDownRefIdeal.Read.val_main_v2 (F := Ideal) (s 0) (s 1) (s 2) (s 3), StepDownRefIdeal.Read.val_main_v26 (F := Ideal) (s 0) (s 1) (s 2) (s 3) w m v,
    StepDownRefIdeal.Read.val_main_v7 (F := Ideal) (s 0) (s 1) (s 2) (s 3) m, StepDownRefIdeal.Read.val_main_v13 (F := Ideal) (s 0) (s 1) (s 2) (s 3) v]

/-- The reference's four results at the entries of a layer. -/
theorem ref_at (s : Fin 4 → S8x352x1024.Idx → EReal) (w m v : S1408x1024.Idx → EReal) (k : Fin 4) :
    New (fun R J q => ref s w m v q (ix2 R J)) k.1 (s k) w m v := by
  intro R Q J q hR
  have e : StepDownRefIdeal.Read.val_main_v2 (F := Ideal) (s 0) (s 1) (s 2) (s 3) (ix2 R J) = grad fun d => s k (ix3 d Q J) := by
    have h : ∀ d, StepDownRefIdeal.Read.val_main_v0 (F := Ideal) (s 0) (s 1) (s 2) (s 3) (ix3 d R J) = s k (ix3 d Q J) := fun d =>
      (joined (s 0) (s 1) (s 2) (s 3) _ k d Q J R hR).trans (match k with | 0 => rfl | 1 => rfl | 2 => rfl | 3 => rfl)
    rw [← funext h]
    unfold grad
    pointwise [StepDownRefIdeal.Read.val_main_v2, StepDownRefIdeal.Read.val_main_v1, StepDownRefIdeal.Read.val_main_cst]
  rw [← e]
  match q with
  | 0 => rfl
  | 1 => rfl
  | 2 => rfl
  | 3 => rfl

/-- The four calls leave what the reference leaves. -/
theorem same (q : Fin 4) : ref ![m (c.tc.loc main_arg0), m (c.tc.loc main_arg1), m (c.tc.loc main_arg2), m (c.tc.loc main_arg3)]
    (m (c.tc.loc main_arg4)) (m (c.tc.loc main_arg5)) (m (c.tc.loc main_arg6)) q = res m ρ c q :=
  mat_ext fun R J => (whole m ρ c (fun R J q => ref _ _ _ _ q (ix2 R J)) (ref_at _ _ _ _ 3) (ref_at _ _ _ _ 2) (ref_at _ _ _ _ 1) (ref_at _ _ _ _ 0) q R J).symm

/-- The four calls run to an end, with every array as the last of them leaves it. -/
theorem ran : θ_run defs (onTc (τ := τ) (main (F := Ideal))) ⟨m, fun _ => 0, ρ⟩ fun r =>
    ∀ c : Dev nD, ∀ b ∈ ucRefs τ sig, r.2.mem ((c : Thread nD τ).1, b) = W7 m ρ c b :=
  runs pcfgs adm (pdats m ρ) cellOf_inj defs₀ m ρ main (segs m ρ) (main_run m ρ)
    (by simp only [segs, Seg.pipes_host, Seg.pipes_region, Seg.pipes_nil]; decide) (W0 m ρ) (W7 m ρ) (fun _ _ => rfl)
    ⟨fun _ => .rfl, fun _ => .rfl, fun _ => .rfl, fun _ => .rfl, fun _ => .rfl, fun _ => .rfl, fun _ => .rfl, fun _ => .rfl⟩

/-- The four calls run to an end and leave the arguments as they were. -/
theorem ends : θ_run defs (onTc (τ := τ) (main (F := Ideal))) ⟨m, fun _ => 0, ρ⟩ fun r => ∀ c : Dev nD,
    r.2.mem (c.tc.loc main_v3_0) = res m ρ c 0 ∧ r.2.mem (c.tc.loc main_v3_1) = res m ρ c 1
    ∧ r.2.mem (c.tc.loc main_v3_2) = res m ρ c 2 ∧ r.2.mem (c.tc.loc main_v3_3) = res m ρ c 3
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) :=
  (θ_run _ _ _).mono (fun r h c =>
    ⟨(h c _ (mem_uc main_v3_0 (by decide))).trans (W7_arr m ρ c 11), (h c _ (mem_uc main_v3_1 (by decide))).trans (W7_arr m ρ c 12),
     (h c _ (mem_uc main_v3_2 (by decide))).trans (W7_arr m ρ c 13), (h c _ (mem_uc main_v3_3 (by decide))).trans (W7_arr m ρ c 14),
     (h c _ (mem_uc main_arg0 (by decide))).trans (W7_main_arg0 m ρ c), (h c _ (mem_uc main_arg1 (by decide))).trans (W7_main_arg1 m ρ c),
     (h c _ (mem_uc main_arg2 (by decide))).trans (W7_main_arg2 m ρ c), (h c _ (mem_uc main_arg3 (by decide))).trans (W7_main_arg3 m ρ c),
     (h c _ (mem_uc main_arg4 (by decide))).trans (W7_main_arg4 m ρ c), (h c _ (mem_uc main_arg5 (by decide))).trans (W7_main_arg5 m ρ c),
     (h c _ (mem_uc main_arg6 (by decide))).trans (W7_main_arg6 m ρ c)⟩) (ran m ρ)

end Cert.Adam.StepDown

end
-- ==== Proof.AdamStepUp.lean ====
module

public import proofs.«01_k».proof.Proof.Chain
public import proofs.«01_k».proof.Proof.Runs
public import proofs.«01_k».proof.Proof.Gen.StepUpIdeal.Frame
public import proofs.«01_k».proof.Proof.Gen.StepUpRefIdeal.Read

@[expose] public section

set_option maxRecDepth 16384

noncomputable section

/-! # The update of the upper projection's weight, layer by layer

The device's columns of the four layers' `ffn_w_up`, 1024 rows of 704 in each layer: four calls, each in four blocks of 256 rows. -/

namespace Cert.Adam.StepUp

open Idealize.ShloMosaic Idealize.ShloMosaic.TcCoe Idealize.ShloMosaic.Pointwise Idealize.ShloMosaic.Pipeline Idealize.SL.Sem
open Cert.Prod Cert.Adam Cert.StepUpIdeal Cert.StepUpIdeal.Gen

/-- The bounds of a whole block of one device's gradients. -/
abbrev i3 := inb_S1x256x704_S1x256x704_0_0_0

/-- The bounds of a whole block of rows. -/
abbrev i2 := inb_S256x704_S256x704_0_0

/-- What a call stores in the blocks of its four results, from the eight devices' blocks and those of the weight and the moments. -/
def pays (s : Fin 8 → Vec Ideal S1x256x704 .bf16) (w m v : Vec Ideal S256x704 .f32) : Fin 4 → Vec Ideal S256x704 .f32 :=
  ![k0_pay1 (k0_pay5 (s 5)) (k0_pay6 (s 6)) (k0_pay7 (s 7)) (k0_pay8 (s 0) (s 1) (s 2) (s 3) (s 4)),
    k0_pay4 (k0_pay5 (s 5)) (k0_pay6 (s 6)) (k0_pay7 (s 7)) w m v (k0_pay8 (s 0) (s 1) (s 2) (s 3) (s 4)),
    k0_pay2 (k0_pay5 (s 5)) (k0_pay6 (s 6)) (k0_pay7 (s 7)) m (k0_pay8 (s 0) (s 1) (s 2) (s 3) (s 4)),
    k0_pay3 (k0_pay5 (s 5)) (k0_pay6 (s 6)) (k0_pay7 (s 7)) v (k0_pay8 (s 0) (s 1) (s 2) (s 3) (s 4))]

/-- What is stored, at an entry. -/
theorem pays_at (s : Fin 8 → Vec Ideal S1x256x704 .bf16) (w m v : Vec Ideal S256x704 .f32) (r : Fin 256) (j : Fin 704) (q : Fin 4) :
    pays s w m v q (ix2 r j) = upd (grad fun d => s d (ix3 0 r j)) (w (ix2 r j)) (m (ix2 r j)) (v (ix2 r j)) q := by
  have e : pays s w m v 0 (ix2 r j) = grad fun d => s d (ix3 0 r j) := by
    show k0_pay1 (F := Ideal) (k0_pay5 (s 5)) (k0_pay6 (s 6)) (k0_pay7 (s 7)) (k0_pay8 (s 0) (s 1) (s 2) (s 3) (s 4)) (ix2 r j) = _
    unfold grad
    rw [Fin.sum_univ_eight]
    pointwise [k0_pay1, k0_pay5, k0_pay6, k0_pay7, k0_pay8]
  rw [← e]
  match q with
  | 0 => rfl
  | 1 => rfl
  | 2 => rfl
  | 3 => rfl

section Calls

variable (V : (c : Dev nD) → (b : Ref sig .tc) → Buf (Elt Ideal) ((c : Thread nD τ).loc b)) (c : Dev nD)

/-- Which blocks a point of the first call reads and writes. -/
theorem idx0 : ∀ (t : Fin cfg0.N) (w : Fin cfg0.W),
    List.ofFn ((cfg0.win w).index t) = if w.1 < 8 then [w.1, t.1, 0] else [12 + t.1, 0] :=
  (by decide +kernel : ∀ (t : Fin grid0.N) (w : Fin cfg0.W), _)

/-- The eight devices' blocks at a point of the first call. -/
def slots0 (t : Fin cfg0.N) : Fin 8 → Vec Ideal S1x256x704 .bf16 :=
  ![iblk0 V c 0 t, iblk0 V c 1 t, iblk0 V c 2 t, iblk0 V c 3 t, iblk0 V c 4 t, iblk0 V c 5 t, iblk0 V c 6 t, iblk0 V c 7 t]

/-- The blocks of the four results after a point of the first call. -/
def left0 (t : Fin cfg0.N) : Fin 4 → Mat 256 704 :=
  ![(dat0 V c).after 11 t, (dat0 V c).after 12 t, (dat0 V c).after 13 t, (dat0 V c).after 14 t]

/-- They are what the point stores. -/
theorem stored0 (t : Fin cfg0.N) (q : Fin 4) :
    left0 V c t q = pays (slots0 V c t) (iblk0 V c 8 t) (iblk0 V c 9 t) (iblk0 V c 10 t) q := by
  have h : ∀ q, left0 V c t q = pays
      ![View.ld (iblk0 V c 0 t) r0_0, View.ld (iblk0 V c 1 t) r0_0, View.ld (iblk0 V c 2 t) r0_0, View.ld (iblk0 V c 3 t) r0_0,
        View.ld (iblk0 V c 4 t) r0_0, View.ld (iblk0 V c 5 t) r0_0, View.ld (iblk0 V c 6 t) r0_0, View.ld (iblk0 V c 7 t) r0_0]
      (View.ld (iblk0 V c 8 t) r0_1) (View.ld (iblk0 V c 9 t) r0_1) (View.ld (iblk0 V c 10 t) r0_1) q := fun q => match q with
    | 0 => (after0_11 V c t).trans (.trans (by sl_kernel_rfl) (View.canon_unit_zero zero2 i2 (pays _ _ _ _ 0)))
    | 1 => (after0_12 V c t).trans (.trans (by sl_kernel_rfl) (View.canon_unit_zero zero2 i2 (pays _ _ _ _ 1)))
    | 2 => (after0_13 V c t).trans (.trans (by sl_kernel_rfl) (View.canon_unit_zero zero2 i2 (pays _ _ _ _ 2)))
    | 3 => (after0_14 V c t).trans (.trans (by sl_kernel_rfl) (View.canon_unit_zero zero2 i2 (pays _ _ _ _ 3)))
  have e3 : ∀ x : Vec Ideal S1x256x704 .bf16, View.ld x r0_0 = x := fun x => View.ld_unit_zero zero3 i3 x
  have e2 : ∀ x : Vec Ideal S256x704 .f32, View.ld x r0_1 = x := fun x => View.ld_unit_zero zero2 i2 x
  simp only [e3, e2] at h
  exact h q

/-- An entry of a device's block at a point of the first call. -/
theorem slot0 (t : Fin cfg0.N) (d : Fin 8) (r : Fin 256) (j : Fin 704) (Q : Fin 1024) (hQ : Q.1 = 256 * t.1 + r.1) :
    slots0 V c t d (ix3 0 r j) = (V c main_arg3 : S8x1024x704.Idx → EReal) (ix3 d Q j) :=
  match d with
  | 0 => congrArg (V c main_arg3) (at_slot ((cfg0.win 0).blk t).view.emb 0 r j Q rfl rfl rfl (of3 (idx0 t 0)) hQ)
  | 1 => congrArg (V c main_arg3) (at_slot ((cfg0.win 1).blk t).view.emb 1 r j Q rfl rfl rfl (of3 (idx0 t 1)) hQ)
  | 2 => congrArg (V c main_arg3) (at_slot ((cfg0.win 2).blk t).view.emb 2 r j Q rfl rfl rfl (of3 (idx0 t 2)) hQ)
  | 3 => congrArg (V c main_arg3) (at_slot ((cfg0.win 3).blk t).view.emb 3 r j Q rfl rfl rfl (of3 (idx0 t 3)) hQ)
  | 4 => congrArg (V c main_arg3) (at_slot ((cfg0.win 4).blk t).view.emb 4 r j Q rfl rfl rfl (of3 (idx0 t 4)) hQ)
  | 5 => congrArg (V c main_arg3) (at_slot ((cfg0.win 5).blk t).view.emb 5 r j Q rfl rfl rfl (of3 (idx0 t 5)) hQ)
  | 6 => congrArg (V c main_arg3) (at_slot ((cfg0.win 6).blk t).view.emb 6 r j Q rfl rfl rfl (of3 (idx0 t 6)) hQ)
  | 7 => congrArg (V c main_arg3) (at_slot ((cfg0.win 7).blk t).view.emb 7 r j Q rfl rfl rfl (of3 (idx0 t 7)) hQ)

/-- What the first call writes of each result. -/
theorem wrote0 (q : Fin 4) : Wrote (A := 4096) 12 (fun t => left0 V c t q)
    ((![V c main_v0_0, V c main_v0_1, V c main_v0_2, V c main_v0_3] : Fin 4 → Mat 4096 704) q)
    ((![(dat0 V c).arrAt 11 cfg0.N, (dat0 V c).arrAt 12 cfg0.N, (dat0 V c).arrAt 13 cfg0.N, (dat0 V c).arrAt 14 cfg0.N] :
      Fin 4 → Mat 4096 704) q) :=
  match q with
  | 0 => .of (fun t => ((cfg0.win 11).blk t).view.emb) (fun _ _ _ => rfl) (fun _ _ _ => rfl) (fun t => of2 (idx0 t 11))
      (fun t => congrFun (written (dat0 V c) 11 rfl flush0_11 (apart (idx0 · 11)) t))
      (fun i h => (unwritten (dat0 V c) 11 i h).trans (congrFun (A_eq0 V c 11) i))
  | 1 => .of (fun t => ((cfg0.win 12).blk t).view.emb) (fun _ _ _ => rfl) (fun _ _ _ => rfl) (fun t => of2 (idx0 t 12))
      (fun t => congrFun (written (dat0 V c) 12 rfl flush0_12 (apart (idx0 · 12)) t))
      (fun i h => (unwritten (dat0 V c) 12 i h).trans (congrFun (A_eq0 V c 12) i))
  | 2 => .of (fun t => ((cfg0.win 13).blk t).view.emb) (fun _ _ _ => rfl) (fun _ _ _ => rfl) (fun t => of2 (idx0 t 13))
      (fun t => congrFun (written (dat0 V c) 13 rfl flush0_13 (apart (idx0 · 13)) t))
      (fun i h => (unwritten (dat0 V c) 13 i h).trans (congrFun (A_eq0 V c 13) i))
  | 3 => .of (fun t => ((cfg0.win 14).blk t).view.emb) (fun _ _ _ => rfl) (fun _ _ _ => rfl) (fun t => of2 (idx0 t 14))
      (fun t => congrFun (written (dat0 V c) 14 rfl flush0_14 (apart (idx0 · 14)) t))
      (fun i h => (unwritten (dat0 V c) 14 i h).trans (congrFun (A_eq0 V c 14) i))

/-- The first call writes the rows of its layer and leaves the others. -/
theorem pass0 (new : Fin 4096 → Fin 704 → Fin 4 → EReal)
    (hn : New new 3 (V c main_arg3) (V c main_arg4) (V c main_arg5) (V c main_arg6)) :
    Pass (3 * 1024) (4 * 1024) new ![V c main_v0_0, V c main_v0_1, V c main_v0_2, V c main_v0_3]
      ![(dat0 V c).arrAt 11 cfg0.N, (dat0 V c).arrAt 12 cfg0.N, (dat0 V c).arrAt 13 cfg0.N, (dat0 V c).arrAt 14 cfg0.N] :=
  .of_call (n := cfg0.N) (a := 256) (first := 12) (by decide) (by rw [show cfg0.N = 4 from N_0])
    (by rw [show cfg0.N = 4 from N_0]) (wrote0 V c)
    (fun t q r j => (congrFun (stored0 V c t q) _).trans (pays_at _ _ _ _ r j q)) (slot0 V c)
    (fun t r j R h => congrArg (V c main_arg4) (at_rows ((cfg0.win 8).blk t).view.emb r j R rfl rfl (of2 (idx0 t 8)) h))
    (fun t r j R h => congrArg (V c main_arg5) (at_rows ((cfg0.win 9).blk t).view.emb r j R rfl rfl (of2 (idx0 t 9)) h))
    (fun t r j R h => congrArg (V c main_arg6) (at_rows ((cfg0.win 10).blk t).view.emb r j R rfl rfl (of2 (idx0 t 10)) h)) hn

/-- Which blocks a point of the second call reads and writes. -/
theorem idx1 : ∀ (t : Fin cfg1.N) (w : Fin cfg1.W),
    List.ofFn ((cfg1.win w).index t) = if w.1 < 8 then [w.1, t.1, 0] else [8 + t.1, 0] :=
  (by decide +kernel : ∀ (t : Fin grid1.N) (w : Fin cfg1.W), _)

/-- The eight devices' blocks at a point of the second call. -/
def slots1 (t : Fin cfg1.N) : Fin 8 → Vec Ideal S1x256x704 .bf16 :=
  ![iblk1 V c 0 t, iblk1 V c 1 t, iblk1 V c 2 t, iblk1 V c 3 t, iblk1 V c 4 t, iblk1 V c 5 t, iblk1 V c 6 t, iblk1 V c 7 t]

/-- The blocks of the four results after a point of the second call. -/
def left1 (t : Fin cfg1.N) : Fin 4 → Mat 256 704 :=
  ![(dat1 V c).after 11 t, (dat1 V c).after 12 t, (dat1 V c).after 13 t, (dat1 V c).after 14 t]

/-- They are what the point stores. -/
theorem stored1 (t : Fin cfg1.N) (q : Fin 4) :
    left1 V c t q = pays (slots1 V c t) (iblk1 V c 8 t) (iblk1 V c 9 t) (iblk1 V c 10 t) q := by
  have h : ∀ q, left1 V c t q = pays
      ![load3 (ms1_0 t) (hs1_0 t) i3 (iblk1 V c 0 t), load3 (ms1_1 t) (hs1_1 t) i3 (iblk1 V c 1 t),
        load3 (ms1_2 t) (hs1_2 t) i3 (iblk1 V c 2 t), load3 (ms1_3 t) (hs1_3 t) i3 (iblk1 V c 3 t),
        load3 (ms1_4 t) (hs1_4 t) i3 (iblk1 V c 4 t), load3 (ms1_5 t) (hs1_5 t) i3 (iblk1 V c 5 t),
        load3 (ms1_6 t) (hs1_6 t) i3 (iblk1 V c 6 t), load3 (ms1_7 t) (hs1_7 t) i3 (iblk1 V c 7 t)]
      (load2 (ms1_8 t) (hs1_8 t) i2 (iblk1 V c 8 t)) (load2 (ms1_9 t) (hs1_9 t) i2 (iblk1 V c 9 t))
      (load2 (ms1_10 t) (hs1_10 t) i2 (iblk1 V c 10 t)) q := fun q => match q with
    | 0 => by
      refine (after1_11 V c t).trans ?_
      unfold outsAt1 out1_A_11
      dsimp only
      refine stored VO1_11 zero2 i2 (pays _ _ _ _ 0) ?_
      sl_kernel_rfl
    | 1 => by
      refine (after1_12 V c t).trans ?_
      unfold outsAt1 out1_A_12
      dsimp only
      refine stored VO1_12 zero2 i2 (pays _ _ _ _ 1) ?_
      sl_kernel_rfl
    | 2 => by
      refine (after1_13 V c t).trans ?_
      unfold outsAt1 out1_A_13
      dsimp only
      refine stored VO1_13 zero2 i2 (pays _ _ _ _ 2) ?_
      sl_kernel_rfl
    | 3 => by
      refine (after1_14 V c t).trans ?_
      unfold outsAt1 out1_A_14
      dsimp only
      refine stored VO1_14 zero2 i2 (pays _ _ _ _ 3) ?_
      sl_kernel_rfl
  simp only [load3_eq, load2_eq] at h
  exact h q

/-- An entry of a device's block at a point of the second call. -/
theorem slot1 (t : Fin cfg1.N) (d : Fin 8) (r : Fin 256) (j : Fin 704) (Q : Fin 1024) (hQ : Q.1 = 256 * t.1 + r.1) :
    slots1 V c t d (ix3 0 r j) = (V c main_arg2 : S8x1024x704.Idx → EReal) (ix3 d Q j) :=
  match d with
  | 0 => congrArg (V c main_arg2) (at_slot ((cfg1.win 0).blk t).view.emb 0 r j Q rfl rfl rfl (of3 (idx1 t 0)) hQ)
  | 1 => congrArg (V c main_arg2) (at_slot ((cfg1.win 1).blk t).view.emb 1 r j Q rfl rfl rfl (of3 (idx1 t 1)) hQ)
  | 2 => congrArg (V c main_arg2) (at_slot ((cfg1.win 2).blk t).view.emb 2 r j Q rfl rfl rfl (of3 (idx1 t 2)) hQ)
  | 3 => congrArg (V c main_arg2) (at_slot ((cfg1.win 3).blk t).view.emb 3 r j Q rfl rfl rfl (of3 (idx1 t 3)) hQ)
  | 4 => congrArg (V c main_arg2) (at_slot ((cfg1.win 4).blk t).view.emb 4 r j Q rfl rfl rfl (of3 (idx1 t 4)) hQ)
  | 5 => congrArg (V c main_arg2) (at_slot ((cfg1.win 5).blk t).view.emb 5 r j Q rfl rfl rfl (of3 (idx1 t 5)) hQ)
  | 6 => congrArg (V c main_arg2) (at_slot ((cfg1.win 6).blk t).view.emb 6 r j Q rfl rfl rfl (of3 (idx1 t 6)) hQ)
  | 7 => congrArg (V c main_arg2) (at_slot ((cfg1.win 7).blk t).view.emb 7 r j Q rfl rfl rfl (of3 (idx1 t 7)) hQ)

/-- What the second call writes of each result. -/
theorem wrote1 (q : Fin 4) : Wrote (A := 4096) 8 (fun t => left1 V c t q)
    ((![V c main_v1_0, V c main_v1_1, V c main_v1_2, V c main_v1_3] : Fin 4 → Mat 4096 704) q)
    ((![(dat1 V c).arrAt 11 cfg1.N, (dat1 V c).arrAt 12 cfg1.N, (dat1 V c).arrAt 13 cfg1.N, (dat1 V c).arrAt 14 cfg1.N] :
      Fin 4 → Mat 4096 704) q) :=
  match q with
  | 0 => .of (fun t => ((cfg1.win 11).blk t).view.emb) (fun _ _ _ => rfl) (fun _ _ _ => rfl) (fun t => of2 (idx1 t 11))
      (fun t => congrFun (written (dat1 V c) 11 rfl flush1_11 (apart (idx1 · 11)) t))
      (fun i h => (unwritten (dat1 V c) 11 i h).trans (congrFun (A_eq1 V c 11) i))
  | 1 => .of (fun t => ((cfg1.win 12).blk t).view.emb) (fun _ _ _ => rfl) (fun _ _ _ => rfl) (fun t => of2 (idx1 t 12))
      (fun t => congrFun (written (dat1 V c) 12 rfl flush1_12 (apart (idx1 · 12)) t))
      (fun i h => (unwritten (dat1 V c) 12 i h).trans (congrFun (A_eq1 V c 12) i))
  | 2 => .of (fun t => ((cfg1.win 13).blk t).view.emb) (fun _ _ _ => rfl) (fun _ _ _ => rfl) (fun t => of2 (idx1 t 13))
      (fun t => congrFun (written (dat1 V c) 13 rfl flush1_13 (apart (idx1 · 13)) t))
      (fun i h => (unwritten (dat1 V c) 13 i h).trans (congrFun (A_eq1 V c 13) i))
  | 3 => .of (fun t => ((cfg1.win 14).blk t).view.emb) (fun _ _ _ => rfl) (fun _ _ _ => rfl) (fun t => of2 (idx1 t 14))
      (fun t => congrFun (written (dat1 V c) 14 rfl flush1_14 (apart (idx1 · 14)) t))
      (fun i h => (unwritten (dat1 V c) 14 i h).trans (congrFun (A_eq1 V c 14) i))

/-- The second call writes the rows of its layer and leaves the others. -/
theorem pass1 (new : Fin 4096 → Fin 704 → Fin 4 → EReal)
    (hn : New new 2 (V c main_arg2) (V c main_arg4) (V c main_arg5) (V c main_arg6)) :
    Pass (2 * 1024) (3 * 1024) new ![V c main_v1_0, V c main_v1_1, V c main_v1_2, V c main_v1_3]
      ![(dat1 V c).arrAt 11 cfg1.N, (dat1 V c).arrAt 12 cfg1.N, (dat1 V c).arrAt 13 cfg1.N, (dat1 V c).arrAt 14 cfg1.N] :=
  .of_call (n := cfg1.N) (a := 256) (first := 8) (by decide) (by rw [show cfg1.N = 4 from N_1])
    (by rw [show cfg1.N = 4 from N_1]) (wrote1 V c)
    (fun t q r j => (congrFun (stored1 V c t q) _).trans (pays_at _ _ _ _ r j q)) (slot1 V c)
    (fun t r j R h => congrArg (V c main_arg4) (at_rows ((cfg1.win 8).blk t).view.emb r j R rfl rfl (of2 (idx1 t 8)) h))
    (fun t r j R h => congrArg (V c main_arg5) (at_rows ((cfg1.win 9).blk t).view.emb r j R rfl rfl (of2 (idx1 t 9)) h))
    (fun t r j R h => congrArg (V c main_arg6) (at_rows ((cfg1.win 10).blk t).view.emb r j R rfl rfl (of2 (idx1 t 10)) h)) hn

/-- Which blocks a point of the third call reads and writes. -/
theorem idx2 : ∀ (t : Fin cfg2.N) (w : Fin cfg2.W),
    List.ofFn ((cfg2.win w).index t) = if w.1 < 8 then [w.1, t.1, 0] else [4 + t.1, 0] :=
  (by decide +kernel : ∀ (t : Fin grid2.N) (w : Fin cfg2.W), _)

/-- The eight devices' blocks at a point of the third call. -/
def slots2 (t : Fin cfg2.N) : Fin 8 → Vec Ideal S1x256x704 .bf16 :=
  ![iblk2 V c 0 t, iblk2 V c 1 t, iblk2 V c 2 t, iblk2 V c 3 t, iblk2 V c 4 t, iblk2 V c 5 t, iblk2 V c 6 t, iblk2 V c 7 t]

/-- The blocks of the four results after a point of the third call. -/
def left2 (t : Fin cfg2.N) : Fin 4 → Mat 256 704 :=
  ![(dat2 V c).after 11 t, (dat2 V c).after 12 t, (dat2 V c).after 13 t, (dat2 V c).after 14 t]

/-- They are what the point stores. -/
theorem stored2 (t : Fin cfg2.N) (q : Fin 4) :
    left2 V c t q = pays (slots2 V c t) (iblk2 V c 8 t) (iblk2 V c 9 t) (iblk2 V c 10 t) q := by
  have h : ∀ q, left2 V c t q = pays
      ![load3 (ms2_0 t) (hs2_0 t) i3 (iblk2 V c 0 t), load3 (ms2_1 t) (hs2_1 t) i3 (iblk2 V c 1 t),
        load3 (ms2_2 t) (hs2_2 t) i3 (iblk2 V c 2 t), load3 (ms2_3 t) (hs2_3 t) i3 (iblk2 V c 3 t),
        load3 (ms2_4 t) (hs2_4 t) i3 (iblk2 V c 4 t), load3 (ms2_5 t) (hs2_5 t) i3 (iblk2 V c 5 t),
        load3 (ms2_6 t) (hs2_6 t) i3 (iblk2 V c 6 t), load3 (ms2_7 t) (hs2_7 t) i3 (iblk2 V c 7 t)]
      (load2 (ms2_8 t) (hs2_8 t) i2 (iblk2 V c 8 t)) (load2 (ms2_9 t) (hs2_9 t) i2 (iblk2 V c 9 t))
      (load2 (ms2_10 t) (hs2_10 t) i2 (iblk2 V c 10 t)) q := fun q => match q with
    | 0 => by
      refine (after2_11 V c t).trans ?_
      unfold outsAt2 out2_A_11
      dsimp only
      refine stored VO2_11 zero2 i2 (pays _ _ _ _ 0) ?_
      sl_kernel_rfl
    | 1 => by
      refine (after2_12 V c t).trans ?_
      unfold outsAt2 out2_A_12
      dsimp only
      refine stored VO2_12 zero2 i2 (pays _ _ _ _ 1) ?_
      sl_kernel_rfl
    | 2 => by
      refine (after2_13 V c t).trans ?_
      unfold outsAt2 out2_A_13
      dsimp only
      refine stored VO2_13 zero2 i2 (pays _ _ _ _ 2) ?_
      sl_kernel_rfl
    | 3 => by
      refine (after2_14 V c t).trans ?_
      unfold outsAt2 out2_A_14
      dsimp only
      refine stored VO2_14 zero2 i2 (pays _ _ _ _ 3) ?_
      sl_kernel_rfl
  simp only [load3_eq, load2_eq] at h
  exact h q

/-- An entry of a device's block at a point of the third call. -/
theorem slot2 (t : Fin cfg2.N) (d : Fin 8) (r : Fin 256) (j : Fin 704) (Q : Fin 1024) (hQ : Q.1 = 256 * t.1 + r.1) :
    slots2 V c t d (ix3 0 r j) = (V c main_arg1 : S8x1024x704.Idx → EReal) (ix3 d Q j) :=
  match d with
  | 0 => congrArg (V c main_arg1) (at_slot ((cfg2.win 0).blk t).view.emb 0 r j Q rfl rfl rfl (of3 (idx2 t 0)) hQ)
  | 1 => congrArg (V c main_arg1) (at_slot ((cfg2.win 1).blk t).view.emb 1 r j Q rfl rfl rfl (of3 (idx2 t 1)) hQ)
  | 2 => congrArg (V c main_arg1) (at_slot ((cfg2.win 2).blk t).view.emb 2 r j Q rfl rfl rfl (of3 (idx2 t 2)) hQ)
  | 3 => congrArg (V c main_arg1) (at_slot ((cfg2.win 3).blk t).view.emb 3 r j Q rfl rfl rfl (of3 (idx2 t 3)) hQ)
  | 4 => congrArg (V c main_arg1) (at_slot ((cfg2.win 4).blk t).view.emb 4 r j Q rfl rfl rfl (of3 (idx2 t 4)) hQ)
  | 5 => congrArg (V c main_arg1) (at_slot ((cfg2.win 5).blk t).view.emb 5 r j Q rfl rfl rfl (of3 (idx2 t 5)) hQ)
  | 6 => congrArg (V c main_arg1) (at_slot ((cfg2.win 6).blk t).view.emb 6 r j Q rfl rfl rfl (of3 (idx2 t 6)) hQ)
  | 7 => congrArg (V c main_arg1) (at_slot ((cfg2.win 7).blk t).view.emb 7 r j Q rfl rfl rfl (of3 (idx2 t 7)) hQ)

/-- What the third call writes of each result. -/
theorem wrote2 (q : Fin 4) : Wrote (A := 4096) 4 (fun t => left2 V c t q)
    ((![V c main_v2_0, V c main_v2_1, V c main_v2_2, V c main_v2_3] : Fin 4 → Mat 4096 704) q)
    ((![(dat2 V c).arrAt 11 cfg2.N, (dat2 V c).arrAt 12 cfg2.N, (dat2 V c).arrAt 13 cfg2.N, (dat2 V c).arrAt 14 cfg2.N] :
      Fin 4 → Mat 4096 704) q) :=
  match q with
  | 0 => .of (fun t => ((cfg2.win 11).blk t).view.emb) (fun _ _ _ => rfl) (fun _ _ _ => rfl) (fun t => of2 (idx2 t 11))
      (fun t => congrFun (written (dat2 V c) 11 rfl flush2_11 (apart (idx2 · 11)) t))
      (fun i h => (unwritten (dat2 V c) 11 i h).trans (congrFun (A_eq2 V c 11) i))
  | 1 => .of (fun t => ((cfg2.win 12).blk t).view.emb) (fun _ _ _ => rfl) (fun _ _ _ => rfl) (fun t => of2 (idx2 t 12))
      (fun t => congrFun (written (dat2 V c) 12 rfl flush2_12 (apart (idx2 · 12)) t))
      (fun i h => (unwritten (dat2 V c) 12 i h).trans (congrFun (A_eq2 V c 12) i))
  | 2 => .of (fun t => ((cfg2.win 13).blk t).view.emb) (fun _ _ _ => rfl) (fun _ _ _ => rfl) (fun t => of2 (idx2 t 13))
      (fun t => congrFun (written (dat2 V c) 13 rfl flush2_13 (apart (idx2 · 13)) t))
      (fun i h => (unwritten (dat2 V c) 13 i h).trans (congrFun (A_eq2 V c 13) i))
  | 3 => .of (fun t => ((cfg2.win 14).blk t).view.emb) (fun _ _ _ => rfl) (fun _ _ _ => rfl) (fun t => of2 (idx2 t 14))
      (fun t => congrFun (written (dat2 V c) 14 rfl flush2_14 (apart (idx2 · 14)) t))
      (fun i h => (unwritten (dat2 V c) 14 i h).trans (congrFun (A_eq2 V c 14) i))

/-- The third call writes the rows of its layer and leaves the others. -/
theorem pass2 (new : Fin 4096 → Fin 704 → Fin 4 → EReal)
    (hn : New new 1 (V c main_arg1) (V c main_arg4) (V c main_arg5) (V c main_arg6)) :
    Pass (1 * 1024) (2 * 1024) new ![V c main_v2_0, V c main_v2_1, V c main_v2_2, V c main_v2_3]
      ![(dat2 V c).arrAt 11 cfg2.N, (dat2 V c).arrAt 12 cfg2.N, (dat2 V c).arrAt 13 cfg2.N, (dat2 V c).arrAt 14 cfg2.N] :=
  .of_call (n := cfg2.N) (a := 256) (first := 4) (by decide) (by rw [show cfg2.N = 4 from N_2])
    (by rw [show cfg2.N = 4 from N_2]) (wrote2 V c)
    (fun t q r j => (congrFun (stored2 V c t q) _).trans (pays_at _ _ _ _ r j q)) (slot2 V c)
    (fun t r j R h => congrArg (V c main_arg4) (at_rows ((cfg2.win 8).blk t).view.emb r j R rfl rfl (of2 (idx2 t 8)) h))
    (fun t r j R h => congrArg (V c main_arg5) (at_rows ((cfg2.win 9).blk t).view.emb r j R rfl rfl (of2 (idx2 t 9)) h))
    (fun t r j R h => congrArg (V c main_arg6) (at_rows ((cfg2.win 10).blk t).view.emb r j R rfl rfl (of2 (idx2 t 10)) h)) hn

/-- Which blocks a point of the fourth call reads and writes. -/
theorem idx3 : ∀ (t : Fin cfg3.N) (w : Fin cfg3.W),
    List.ofFn ((cfg3.win w).index t) = if w.1 < 8 then [w.1, t.1, 0] else [0 + t.1, 0] :=
  (by decide +kernel : ∀ (t : Fin grid3.N) (w : Fin cfg3.W), _)

/-- The eight devices' blocks at a point of the fourth call. -/
def slots3 (t : Fin cfg3.N) : Fin 8 → Vec Ideal S1x256x704 .bf16 :=
  ![iblk3 V c 0 t, iblk3 V c 1 t, iblk3 V c 2 t, iblk3 V c 3 t, iblk3 V c 4 t, iblk3 V c 5 t, iblk3 V c 6 t, iblk3 V c 7 t]

/-- The blocks of the four results after a point of the fourth call. -/
def left3 (t : Fin cfg3.N) : Fin 4 → Mat 256 704 :=
  ![(dat3 V c).after 11 t, (dat3 V c).after 12 t, (dat3 V c).after 13 t, (dat3 V c).after 14 t]

/-- They are what the point stores. -/
theorem stored3 (t : Fin cfg3.N) (q : Fin 4) :
    left3 V c t q = pays (slots3 V c t) (iblk3 V c 8 t) (iblk3 V c 9 t) (iblk3 V c 10 t) q := by
  have h : ∀ q, left3 V c t q = pays
      ![load3 (ms3_0 t) (hs3_0 t) i3 (iblk3 V c 0 t), load3 (ms3_1 t) (hs3_1 t) i3 (iblk3 V c 1 t),
        load3 (ms3_2 t) (hs3_2 t) i3 (iblk3 V c 2 t), load3 (ms3_3 t) (hs3_3 t) i3 (iblk3 V c 3 t),
        load3 (ms3_4 t) (hs3_4 t) i3 (iblk3 V c 4 t), load3 (ms3_5 t) (hs3_5 t) i3 (iblk3 V c 5 t),
        load3 (ms3_6 t) (hs3_6 t) i3 (iblk3 V c 6 t), load3 (ms3_7 t) (hs3_7 t) i3 (iblk3 V c 7 t)]
      (load2 (ms3_8 t) (hs3_8 t) i2 (iblk3 V c 8 t)) (load2 (ms3_9 t) (hs3_9 t) i2 (iblk3 V c 9 t))
      (load2 (ms3_10 t) (hs3_10 t) i2 (iblk3 V c 10 t)) q := fun q => match q with
    | 0 => by
      refine (after3_11 V c t).trans ?_
      unfold outsAt3 out3_A_11
      dsimp only
      refine stored VO3_11 zero2 i2 (pays _ _ _ _ 0) ?_
      sl_kernel_rfl
    | 1 => by
      refine (after3_12 V c t).trans ?_
      unfold outsAt3 out3_A_12
      dsimp only
      refine stored VO3_12 zero2 i2 (pays _ _ _ _ 1) ?_
      sl_kernel_rfl
    | 2 => by
      refine (after3_13 V c t).trans ?_
      unfold outsAt3 out3_A_13
      dsimp only
      refine stored VO3_13 zero2 i2 (pays _ _ _ _ 2) ?_
      sl_kernel_rfl
    | 3 => by
      refine (after3_14 V c t).trans ?_
      unfold outsAt3 out3_A_14
      dsimp only
      refine stored VO3_14 zero2 i2 (pays _ _ _ _ 3) ?_
      sl_kernel_rfl
  simp only [load3_eq, load2_eq] at h
  exact h q

/-- An entry of a device's block at a point of the fourth call. -/
theorem slot3 (t : Fin cfg3.N) (d : Fin 8) (r : Fin 256) (j : Fin 704) (Q : Fin 1024) (hQ : Q.1 = 256 * t.1 + r.1) :
    slots3 V c t d (ix3 0 r j) = (V c main_arg0 : S8x1024x704.Idx → EReal) (ix3 d Q j) :=
  match d with
  | 0 => congrArg (V c main_arg0) (at_slot ((cfg3.win 0).blk t).view.emb 0 r j Q rfl rfl rfl (of3 (idx3 t 0)) hQ)
  | 1 => congrArg (V c main_arg0) (at_slot ((cfg3.win 1).blk t).view.emb 1 r j Q rfl rfl rfl (of3 (idx3 t 1)) hQ)
  | 2 => congrArg (V c main_arg0) (at_slot ((cfg3.win 2).blk t).view.emb 2 r j Q rfl rfl rfl (of3 (idx3 t 2)) hQ)
  | 3 => congrArg (V c main_arg0) (at_slot ((cfg3.win 3).blk t).view.emb 3 r j Q rfl rfl rfl (of3 (idx3 t 3)) hQ)
  | 4 => congrArg (V c main_arg0) (at_slot ((cfg3.win 4).blk t).view.emb 4 r j Q rfl rfl rfl (of3 (idx3 t 4)) hQ)
  | 5 => congrArg (V c main_arg0) (at_slot ((cfg3.win 5).blk t).view.emb 5 r j Q rfl rfl rfl (of3 (idx3 t 5)) hQ)
  | 6 => congrArg (V c main_arg0) (at_slot ((cfg3.win 6).blk t).view.emb 6 r j Q rfl rfl rfl (of3 (idx3 t 6)) hQ)
  | 7 => congrArg (V c main_arg0) (at_slot ((cfg3.win 7).blk t).view.emb 7 r j Q rfl rfl rfl (of3 (idx3 t 7)) hQ)

/-- What the fourth call writes of each result. -/
theorem wrote3 (q : Fin 4) : Wrote (A := 4096) 0 (fun t => left3 V c t q)
    ((![V c main_v3_0, V c main_v3_1, V c main_v3_2, V c main_v3_3] : Fin 4 → Mat 4096 704) q)
    ((![(dat3 V c).arrAt 11 cfg3.N, (dat3 V c).arrAt 12 cfg3.N, (dat3 V c).arrAt 13 cfg3.N, (dat3 V c).arrAt 14 cfg3.N] :
      Fin 4 → Mat 4096 704) q) :=
  match q with
  | 0 => .of (fun t => ((cfg3.win 11).blk t).view.emb) (fun _ _ _ => rfl) (fun _ _ _ => rfl) (fun t => of2 (idx3 t 11))
      (fun t => congrFun (written (dat3 V c) 11 rfl flush3_11 (apart (idx3 · 11)) t))
      (fun i h => (unwritten (dat3 V c) 11 i h).trans (congrFun (A_eq3 V c 11) i))
  | 1 => .of (fun t => ((cfg3.win 12).blk t).view.emb) (fun _ _ _ => rfl) (fun _ _ _ => rfl) (fun t => of2 (idx3 t 12))
      (fun t => congrFun (written (dat3 V c) 12 rfl flush3_12 (apart (idx3 · 12)) t))
      (fun i h => (unwritten (dat3 V c) 12 i h).trans (congrFun (A_eq3 V c 12) i))
  | 2 => .of (fun t => ((cfg3.win 13).blk t).view.emb) (fun _ _ _ => rfl) (fun _ _ _ => rfl) (fun t => of2 (idx3 t 13))
      (fun t => congrFun (written (dat3 V c) 13 rfl flush3_13 (apart (idx3 · 13)) t))
      (fun i h => (unwritten (dat3 V c) 13 i h).trans (congrFun (A_eq3 V c 13) i))
  | 3 => .of (fun t => ((cfg3.win 14).blk t).view.emb) (fun _ _ _ => rfl) (fun _ _ _ => rfl) (fun t => of2 (idx3 t 14))
      (fun t => congrFun (written (dat3 V c) 14 rfl flush3_14 (apart (idx3 · 14)) t))
      (fun i h => (unwritten (dat3 V c) 14 i h).trans (congrFun (A_eq3 V c 14) i))

/-- The fourth call writes the rows of its layer and leaves the others. -/
theorem pass3 (new : Fin 4096 → Fin 704 → Fin 4 → EReal)
    (hn : New new 0 (V c main_arg0) (V c main_arg4) (V c main_arg5) (V c main_arg6)) :
    Pass (0 * 1024) (1 * 1024) new ![V c main_v3_0, V c main_v3_1, V c main_v3_2, V c main_v3_3]
      ![(dat3 V c).arrAt 11 cfg3.N, (dat3 V c).arrAt 12 cfg3.N, (dat3 V c).arrAt 13 cfg3.N, (dat3 V c).arrAt 14 cfg3.N] :=
  .of_call (n := cfg3.N) (a := 256) (first := 0) (by decide) (by rw [show cfg3.N = 4 from N_3])
    (by rw [show cfg3.N = 4 from N_3]) (wrote3 V c)
    (fun t q r j => (congrFun (stored3 V c t q) _).trans (pays_at _ _ _ _ r j q)) (slot3 V c)
    (fun t r j R h => congrArg (V c main_arg4) (at_rows ((cfg3.win 8).blk t).view.emb r j R rfl rfl (of2 (idx3 t 8)) h))
    (fun t r j R h => congrArg (V c main_arg5) (at_rows ((cfg3.win 9).blk t).view.emb r j R rfl rfl (of2 (idx3 t 9)) h))
    (fun t r j R h => congrArg (V c main_arg6) (at_rows ((cfg3.win 10).blk t).view.emb r j R rfl rfl (of2 (idx3 t 10)) h)) hn

end Calls

/-- The second call starts from the results of the one before it. -/
theorem copied1 (V : Valuation τ sig (Elt Ideal)) :
    StableHlo.after hostOps1 V (Proc.devRef .tc main_v1_0) = V (Proc.devRef .tc main_v0_0)
    ∧ StableHlo.after hostOps1 V (Proc.devRef .tc main_v1_1) = V (Proc.devRef .tc main_v0_1)
    ∧ StableHlo.after hostOps1 V (Proc.devRef .tc main_v1_2) = V (Proc.devRef .tc main_v0_2)
    ∧ StableHlo.after hostOps1 V (Proc.devRef .tc main_v1_3) = V (Proc.devRef .tc main_v0_3) :=
  ⟨rfl, rfl, rfl, rfl⟩

/-- The third call starts from the results of the one before it. -/
theorem copied2 (V : Valuation τ sig (Elt Ideal)) :
    StableHlo.after hostOps2 V (Proc.devRef .tc main_v2_0) = V (Proc.devRef .tc main_v1_0)
    ∧ StableHlo.after hostOps2 V (Proc.devRef .tc main_v2_1) = V (Proc.devRef .tc main_v1_1)
    ∧ StableHlo.after hostOps2 V (Proc.devRef .tc main_v2_2) = V (Proc.devRef .tc main_v1_2)
    ∧ StableHlo.after hostOps2 V (Proc.devRef .tc main_v2_3) = V (Proc.devRef .tc main_v1_3) :=
  ⟨rfl, rfl, rfl, rfl⟩

/-- The fourth call starts from the results of the one before it. -/
theorem copied3 (V : Valuation τ sig (Elt Ideal)) :
    StableHlo.after hostOps3 V (Proc.devRef .tc main_v3_0) = V (Proc.devRef .tc main_v2_0)
    ∧ StableHlo.after hostOps3 V (Proc.devRef .tc main_v3_1) = V (Proc.devRef .tc main_v2_1)
    ∧ StableHlo.after hostOps3 V (Proc.devRef .tc main_v3_2) = V (Proc.devRef .tc main_v2_2)
    ∧ StableHlo.after hostOps3 V (Proc.devRef .tc main_v3_3) = V (Proc.devRef .tc main_v2_3) :=
  ⟨rfl, rfl, rfl, rfl⟩

variable (m : (ℓ : Loc nD τ sig) → Buf (Elt Ideal) ℓ) (ρ : Dev nD → PrngReg) (c : Dev nD)

/-- What the last call leaves of the four results. -/
def res : Fin 4 → Mat 4096 704 :=
  ![(dat3 (V6 m ρ) c).arrAt 11 cfg3.N, (dat3 (V6 m ρ) c).arrAt 12 cfg3.N, (dat3 (V6 m ρ) c).arrAt 13 cfg3.N, (dat3 (V6 m ρ) c).arrAt 14 cfg3.N]

/-- The four calls update every row of the weight. -/
theorem whole (new : Fin 4096 → Fin 704 → Fin 4 → EReal)
    (h3 : New new 3 (m (c.tc.loc main_arg3)) (m (c.tc.loc main_arg4)) (m (c.tc.loc main_arg5)) (m (c.tc.loc main_arg6)))
    (h2 : New new 2 (m (c.tc.loc main_arg2)) (m (c.tc.loc main_arg4)) (m (c.tc.loc main_arg5)) (m (c.tc.loc main_arg6)))
    (h1 : New new 1 (m (c.tc.loc main_arg1)) (m (c.tc.loc main_arg4)) (m (c.tc.loc main_arg5)) (m (c.tc.loc main_arg6)))
    (h0 : New new 0 (m (c.tc.loc main_arg0)) (m (c.tc.loc main_arg4)) (m (c.tc.loc main_arg5)) (m (c.tc.loc main_arg6)))
    (q : Fin 4) (R : Fin 4096) (J : Fin 704) : res m ρ c q (ix2 R J) = new R J q := by
  have p0 := pass0 (V0 m ρ) c new h3
  have p1 := pass1 (V2 m ρ) c new (by
    rw [show V2 m ρ c main_arg2 = _ from W2_args m ρ c main_arg2 (by decide), show V2 m ρ c main_arg4 = _ from W2_args m ρ c main_arg4 (by decide),
      show V2 m ρ c main_arg5 = _ from W2_args m ρ c main_arg5 (by decide), show V2 m ρ c main_arg6 = _ from W2_args m ρ c main_arg6 (by decide)]
    exact h2)
  obtain ⟨c0, c1, c2, c3⟩ := copied1 (W1 m ρ c)
  rw [show V2 m ρ c main_v1_0 = _ from c0.trans (W1_arr m ρ c 11), show V2 m ρ c main_v1_1 = _ from c1.trans (W1_arr m ρ c 12),
    show V2 m ρ c main_v1_2 = _ from c2.trans (W1_arr m ρ c 13), show V2 m ρ c main_v1_3 = _ from c3.trans (W1_arr m ρ c 14)] at p1
  have p2 := pass2 (V4 m ρ) c new (by
    rw [show V4 m ρ c main_arg1 = _ from W4_args m ρ c main_arg1 (by decide), show V4 m ρ c main_arg4 = _ from W4_args m ρ c main_arg4 (by decide),
      show V4 m ρ c main_arg5 = _ from W4_args m ρ c main_arg5 (by decide), show V4 m ρ c main_arg6 = _ from W4_args m ρ c main_arg6 (by decide)]
    exact h1)
  obtain ⟨c0, c1, c2, c3⟩ := copied2 (W3 m ρ c)
  rw [show V4 m ρ c main_v2_0 = _ from c0.trans (W3_arr m ρ c 11), show V4 m ρ c main_v2_1 = _ from c1.trans (W3_arr m ρ c 12),
    show V4 m ρ c main_v2_2 = _ from c2.trans (W3_arr m ρ c 13), show V4 m ρ c main_v2_3 = _ from c3.trans (W3_arr m ρ c 14)] at p2
  have p3 := pass3 (V6 m ρ) c new (by
    rw [show V6 m ρ c main_arg0 = _ from W6_args m ρ c main_arg0 (by decide), show V6 m ρ c main_arg4 = _ from W6_args m ρ c main_arg4 (by decide),
      show V6 m ρ c main_arg5 = _ from W6_args m ρ c main_arg5 (by decide), show V6 m ρ c main_arg6 = _ from W6_args m ρ c main_arg6 (by decide)]
    exact h0)
  obtain ⟨c0, c1, c2, c3⟩ := copied3 (W5 m ρ c)
  rw [show V6 m ρ c main_v3_0 = _ from c0.trans (W5_arr m ρ c 11), show V6 m ρ c main_v3_1 = _ from c1.trans (W5_arr m ρ c 12),
    show V6 m ρ c main_v3_2 = _ from c2.trans (W5_arr m ρ c 13), show V6 m ρ c main_v3_3 = _ from c3.trans (W5_arr m ρ c 14)] at p3
  exact chain rfl p0 p1 p2 p3 q R J

/-- What the reference leaves of the four results. -/
def ref (s : Fin 4 → S8x1024x704.Idx → EReal) (w m v : S4096x704.Idx → EReal) : Fin 4 → Mat 4096 704 :=
  ![StepUpRefIdeal.Read.val_main_v2 (F := Ideal) (s 0) (s 1) (s 2) (s 3), StepUpRefIdeal.Read.val_main_v26 (F := Ideal) (s 0) (s 1) (s 2) (s 3) w m v,
    StepUpRefIdeal.Read.val_main_v7 (F := Ideal) (s 0) (s 1) (s 2) (s 3) m, StepUpRefIdeal.Read.val_main_v13 (F := Ideal) (s 0) (s 1) (s 2) (s 3) v]

/-- The reference's four results at the entries of a layer. -/
theorem ref_at (s : Fin 4 → S8x1024x704.Idx → EReal) (w m v : S4096x704.Idx → EReal) (k : Fin 4) :
    New (fun R J q => ref s w m v q (ix2 R J)) k.1 (s k) w m v := by
  intro R Q J q hR
  have e : StepUpRefIdeal.Read.val_main_v2 (F := Ideal) (s 0) (s 1) (s 2) (s 3) (ix2 R J) = grad fun d => s k (ix3 d Q J) := by
    have h : ∀ d, StepUpRefIdeal.Read.val_main_v0 (F := Ideal) (s 0) (s 1) (s 2) (s 3) (ix3 d R J) = s k (ix3 d Q J) := fun d =>
      (joined (s 0) (s 1) (s 2) (s 3) _ k d Q J R hR).trans (match k with | 0 => rfl | 1 => rfl | 2 => rfl | 3 => rfl)
    rw [← funext h]
    unfold grad
    pointwise [StepUpRefIdeal.Read.val_main_v2, StepUpRefIdeal.Read.val_main_v1, StepUpRefIdeal.Read.val_main_cst]
  rw [← e]
  match q with
  | 0 => rfl
  | 1 => rfl
  | 2 => rfl
  | 3 => rfl

/-- The four calls leave what the reference leaves. -/
theorem same (q : Fin 4) : ref ![m (c.tc.loc main_arg0), m (c.tc.loc main_arg1), m (c.tc.loc main_arg2), m (c.tc.loc main_arg3)]
    (m (c.tc.loc main_arg4)) (m (c.tc.loc main_arg5)) (m (c.tc.loc main_arg6)) q = res m ρ c q :=
  mat_ext fun R J => (whole m ρ c (fun R J q => ref _ _ _ _ q (ix2 R J)) (ref_at _ _ _ _ 3) (ref_at _ _ _ _ 2) (ref_at _ _ _ _ 1) (ref_at _ _ _ _ 0) q R J).symm

/-- The four calls run to an end, with every array as the last of them leaves it. -/
theorem ran : θ_run defs (onTc (τ := τ) (main (F := Ideal))) ⟨m, fun _ => 0, ρ⟩ fun r =>
    ∀ c : Dev nD, ∀ b ∈ ucRefs τ sig, r.2.mem ((c : Thread nD τ).1, b) = W7 m ρ c b :=
  runs pcfgs adm (pdats m ρ) cellOf_inj defs₀ m ρ main (segs m ρ) (main_run m ρ)
    (by simp only [segs, Seg.pipes_host, Seg.pipes_region, Seg.pipes_nil]; decide) (W0 m ρ) (W7 m ρ) (fun _ _ => rfl)
    ⟨fun _ => .rfl, fun _ => .rfl, fun _ => .rfl, fun _ => .rfl, fun _ => .rfl, fun _ => .rfl, fun _ => .rfl, fun _ => .rfl⟩

/-- The four calls run to an end and leave the arguments as they were. -/
theorem ends : θ_run defs (onTc (τ := τ) (main (F := Ideal))) ⟨m, fun _ => 0, ρ⟩ fun r => ∀ c : Dev nD,
    r.2.mem (c.tc.loc main_v3_0) = res m ρ c 0 ∧ r.2.mem (c.tc.loc main_v3_1) = res m ρ c 1
    ∧ r.2.mem (c.tc.loc main_v3_2) = res m ρ c 2 ∧ r.2.mem (c.tc.loc main_v3_3) = res m ρ c 3
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) :=
  (θ_run _ _ _).mono (fun r h c =>
    ⟨(h c _ (mem_uc main_v3_0 (by decide))).trans (W7_arr m ρ c 11), (h c _ (mem_uc main_v3_1 (by decide))).trans (W7_arr m ρ c 12),
     (h c _ (mem_uc main_v3_2 (by decide))).trans (W7_arr m ρ c 13), (h c _ (mem_uc main_v3_3 (by decide))).trans (W7_arr m ρ c 14),
     (h c _ (mem_uc main_arg0 (by decide))).trans (W7_main_arg0 m ρ c), (h c _ (mem_uc main_arg1 (by decide))).trans (W7_main_arg1 m ρ c),
     (h c _ (mem_uc main_arg2 (by decide))).trans (W7_main_arg2 m ρ c), (h c _ (mem_uc main_arg3 (by decide))).trans (W7_main_arg3 m ρ c),
     (h c _ (mem_uc main_arg4 (by decide))).trans (W7_main_arg4 m ρ c), (h c _ (mem_uc main_arg5 (by decide))).trans (W7_main_arg5 m ρ c),
     (h c _ (mem_uc main_arg6 (by decide))).trans (W7_main_arg6 m ρ c)⟩) (ran m ρ)

end Cert.Adam.StepUp

end
-- ==== Proof.AdamStepIn.lean ====
module

public import proofs.«01_k».proof.Proof.Chain
public import proofs.«01_k».proof.Proof.Runs
public import proofs.«01_k».proof.Proof.Gen.StepInIdeal.Frame
public import proofs.«01_k».proof.Proof.Gen.StepInRefIdeal.Read

@[expose] public section

set_option maxRecDepth 16384

noncomputable section

/-! # The update of the input projection's weight, layer by layer

The device's columns of the four layers' `w_in`, 1024 rows of 1266 in each layer: four calls, each in four blocks of 256 rows. -/

namespace Cert.Adam.StepIn

open Idealize.ShloMosaic Idealize.ShloMosaic.TcCoe Idealize.ShloMosaic.Pointwise Idealize.ShloMosaic.Pipeline Idealize.SL.Sem
open Cert.Prod Cert.Adam Cert.StepInIdeal Cert.StepInIdeal.Gen

/-- The bounds of a whole block of one device's gradients. -/
abbrev i3 := inb_S1x256x1266_S1x256x1266_0_0_0

/-- The bounds of a whole block of rows. -/
abbrev i2 := inb_S256x1266_S256x1266_0_0

/-- What a call stores in the blocks of its four results, from the eight devices' blocks and those of the weight and the moments. -/
def pays (s : Fin 8 → Vec Ideal S1x256x1266 .bf16) (w m v : Vec Ideal S256x1266 .f32) : Fin 4 → Vec Ideal S256x1266 .f32 :=
  ![k0_pay1 (k0_pay5 (s 5)) (k0_pay6 (s 6)) (k0_pay7 (s 7)) (k0_pay8 (s 0) (s 1) (s 2) (s 3) (s 4)),
    k0_pay4 (k0_pay5 (s 5)) (k0_pay6 (s 6)) (k0_pay7 (s 7)) w m v (k0_pay8 (s 0) (s 1) (s 2) (s 3) (s 4)),
    k0_pay2 (k0_pay5 (s 5)) (k0_pay6 (s 6)) (k0_pay7 (s 7)) m (k0_pay8 (s 0) (s 1) (s 2) (s 3) (s 4)),
    k0_pay3 (k0_pay5 (s 5)) (k0_pay6 (s 6)) (k0_pay7 (s 7)) v (k0_pay8 (s 0) (s 1) (s 2) (s 3) (s 4))]

/-- What is stored, at an entry. -/
theorem pays_at (s : Fin 8 → Vec Ideal S1x256x1266 .bf16) (w m v : Vec Ideal S256x1266 .f32) (r : Fin 256) (j : Fin 1266) (q : Fin 4) :
    pays s w m v q (ix2 r j) = upd (grad fun d => s d (ix3 0 r j)) (w (ix2 r j)) (m (ix2 r j)) (v (ix2 r j)) q := by
  have e : pays s w m v 0 (ix2 r j) = grad fun d => s d (ix3 0 r j) := by
    show k0_pay1 (F := Ideal) (k0_pay5 (s 5)) (k0_pay6 (s 6)) (k0_pay7 (s 7)) (k0_pay8 (s 0) (s 1) (s 2) (s 3) (s 4)) (ix2 r j) = _
    unfold grad
    rw [Fin.sum_univ_eight]
    pointwise [k0_pay1, k0_pay5, k0_pay6, k0_pay7, k0_pay8]
  rw [← e]
  match q with
  | 0 => rfl
  | 1 => rfl
  | 2 => rfl
  | 3 => rfl

section Calls

variable (V : (c : Dev nD) → (b : Ref sig .tc) → Buf (Elt Ideal) ((c : Thread nD τ).loc b)) (c : Dev nD)

/-- Which blocks a point of the first call reads and writes. -/
theorem idx0 : ∀ (t : Fin cfg0.N) (w : Fin cfg0.W),
    List.ofFn ((cfg0.win w).index t) = if w.1 < 8 then [w.1, t.1, 0] else [12 + t.1, 0] :=
  (by decide +kernel : ∀ (t : Fin grid0.N) (w : Fin cfg0.W), _)

/-- The eight devices' blocks at a point of the first call. -/
def slots0 (t : Fin cfg0.N) : Fin 8 → Vec Ideal S1x256x1266 .bf16 :=
  ![iblk0 V c 0 t, iblk0 V c 1 t, iblk0 V c 2 t, iblk0 V c 3 t, iblk0 V c 4 t, iblk0 V c 5 t, iblk0 V c 6 t, iblk0 V c 7 t]

/-- The blocks of the four results after a point of the first call. -/
def left0 (t : Fin cfg0.N) : Fin 4 → Mat 256 1266 :=
  ![(dat0 V c).after 11 t, (dat0 V c).after 12 t, (dat0 V c).after 13 t, (dat0 V c).after 14 t]

/-- They are what the point stores. -/
theorem stored0 (t : Fin cfg0.N) (q : Fin 4) :
    left0 V c t q = pays (slots0 V c t) (iblk0 V c 8 t) (iblk0 V c 9 t) (iblk0 V c 10 t) q := by
  have h : ∀ q, left0 V c t q = pays
      ![View.ld (iblk0 V c 0 t) r0_0, View.ld (iblk0 V c 1 t) r0_0, View.ld (iblk0 V c 2 t) r0_0, View.ld (iblk0 V c 3 t) r0_0,
        View.ld (iblk0 V c 4 t) r0_0, View.ld (iblk0 V c 5 t) r0_0, View.ld (iblk0 V c 6 t) r0_0, View.ld (iblk0 V c 7 t) r0_0]
      (View.ld (iblk0 V c 8 t) r0_1) (View.ld (iblk0 V c 9 t) r0_1) (View.ld (iblk0 V c 10 t) r0_1) q := fun q => match q with
    | 0 => (after0_11 V c t).trans (.trans (by sl_kernel_rfl) (View.canon_unit_zero zero2 i2 (pays _ _ _ _ 0)))
    | 1 => (after0_12 V c t).trans (.trans (by sl_kernel_rfl) (View.canon_unit_zero zero2 i2 (pays _ _ _ _ 1)))
    | 2 => (after0_13 V c t).trans (.trans (by sl_kernel_rfl) (View.canon_unit_zero zero2 i2 (pays _ _ _ _ 2)))
    | 3 => (after0_14 V c t).trans (.trans (by sl_kernel_rfl) (View.canon_unit_zero zero2 i2 (pays _ _ _ _ 3)))
  have e3 : ∀ x : Vec Ideal S1x256x1266 .bf16, View.ld x r0_0 = x := fun x => View.ld_unit_zero zero3 i3 x
  have e2 : ∀ x : Vec Ideal S256x1266 .f32, View.ld x r0_1 = x := fun x => View.ld_unit_zero zero2 i2 x
  simp only [e3, e2] at h
  exact h q

/-- An entry of a device's block at a point of the first call. -/
theorem slot0 (t : Fin cfg0.N) (d : Fin 8) (r : Fin 256) (j : Fin 1266) (Q : Fin 1024) (hQ : Q.1 = 256 * t.1 + r.1) :
    slots0 V c t d (ix3 0 r j) = (V c main_arg3 : S8x1024x1266.Idx → EReal) (ix3 d Q j) :=
  match d with
  | 0 => congrArg (V c main_arg3) (at_slot ((cfg0.win 0).blk t).view.emb 0 r j Q rfl rfl rfl (of3 (idx0 t 0)) hQ)
  | 1 => congrArg (V c main_arg3) (at_slot ((cfg0.win 1).blk t).view.emb 1 r j Q rfl rfl rfl (of3 (idx0 t 1)) hQ)
  | 2 => congrArg (V c main_arg3) (at_slot ((cfg0.win 2).blk t).view.emb 2 r j Q rfl rfl rfl (of3 (idx0 t 2)) hQ)
  | 3 => congrArg (V c main_arg3) (at_slot ((cfg0.win 3).blk t).view.emb 3 r j Q rfl rfl rfl (of3 (idx0 t 3)) hQ)
  | 4 => congrArg (V c main_arg3) (at_slot ((cfg0.win 4).blk t).view.emb 4 r j Q rfl rfl rfl (of3 (idx0 t 4)) hQ)
  | 5 => congrArg (V c main_arg3) (at_slot ((cfg0.win 5).blk t).view.emb 5 r j Q rfl rfl rfl (of3 (idx0 t 5)) hQ)
  | 6 => congrArg (V c main_arg3) (at_slot ((cfg0.win 6).blk t).view.emb 6 r j Q rfl rfl rfl (of3 (idx0 t 6)) hQ)
  | 7 => congrArg (V c main_arg3) (at_slot ((cfg0.win 7).blk t).view.emb 7 r j Q rfl rfl rfl (of3 (idx0 t 7)) hQ)

/-- What the first call writes of each result. -/
theorem wrote0 (q : Fin 4) : Wrote (A := 4096) 12 (fun t => left0 V c t q)
    ((![V c main_v0_0, V c main_v0_1, V c main_v0_2, V c main_v0_3] : Fin 4 → Mat 4096 1266) q)
    ((![(dat0 V c).arrAt 11 cfg0.N, (dat0 V c).arrAt 12 cfg0.N, (dat0 V c).arrAt 13 cfg0.N, (dat0 V c).arrAt 14 cfg0.N] :
      Fin 4 → Mat 4096 1266) q) :=
  match q with
  | 0 => .of (fun t => ((cfg0.win 11).blk t).view.emb) (fun _ _ _ => rfl) (fun _ _ _ => rfl) (fun t => of2 (idx0 t 11))
      (fun t => congrFun (written (dat0 V c) 11 rfl flush0_11 (apart (idx0 · 11)) t))
      (fun i h => (unwritten (dat0 V c) 11 i h).trans (congrFun (A_eq0 V c 11) i))
  | 1 => .of (fun t => ((cfg0.win 12).blk t).view.emb) (fun _ _ _ => rfl) (fun _ _ _ => rfl) (fun t => of2 (idx0 t 12))
      (fun t => congrFun (written (dat0 V c) 12 rfl flush0_12 (apart (idx0 · 12)) t))
      (fun i h => (unwritten (dat0 V c) 12 i h).trans (congrFun (A_eq0 V c 12) i))
  | 2 => .of (fun t => ((cfg0.win 13).blk t).view.emb) (fun _ _ _ => rfl) (fun _ _ _ => rfl) (fun t => of2 (idx0 t 13))
      (fun t => congrFun (written (dat0 V c) 13 rfl flush0_13 (apart (idx0 · 13)) t))
      (fun i h => (unwritten (dat0 V c) 13 i h).trans (congrFun (A_eq0 V c 13) i))
  | 3 => .of (fun t => ((cfg0.win 14).blk t).view.emb) (fun _ _ _ => rfl) (fun _ _ _ => rfl) (fun t => of2 (idx0 t 14))
      (fun t => congrFun (written (dat0 V c) 14 rfl flush0_14 (apart (idx0 · 14)) t))
      (fun i h => (unwritten (dat0 V c) 14 i h).trans (congrFun (A_eq0 V c 14) i))

/-- The first call writes the rows of its layer and leaves the others. -/
theorem pass0 (new : Fin 4096 → Fin 1266 → Fin 4 → EReal)
    (hn : New new 3 (V c main_arg3) (V c main_arg4) (V c main_arg5) (V c main_arg6)) :
    Pass (3 * 1024) (4 * 1024) new ![V c main_v0_0, V c main_v0_1, V c main_v0_2, V c main_v0_3]
      ![(dat0 V c).arrAt 11 cfg0.N, (dat0 V c).arrAt 12 cfg0.N, (dat0 V c).arrAt 13 cfg0.N, (dat0 V c).arrAt 14 cfg0.N] :=
  .of_call (n := cfg0.N) (a := 256) (first := 12) (by decide) (by rw [show cfg0.N = 4 from N_0])
    (by rw [show cfg0.N = 4 from N_0]) (wrote0 V c)
    (fun t q r j => (congrFun (stored0 V c t q) _).trans (pays_at _ _ _ _ r j q)) (slot0 V c)
    (fun t r j R h => congrArg (V c main_arg4) (at_rows ((cfg0.win 8).blk t).view.emb r j R rfl rfl (of2 (idx0 t 8)) h))
    (fun t r j R h => congrArg (V c main_arg5) (at_rows ((cfg0.win 9).blk t).view.emb r j R rfl rfl (of2 (idx0 t 9)) h))
    (fun t r j R h => congrArg (V c main_arg6) (at_rows ((cfg0.win 10).blk t).view.emb r j R rfl rfl (of2 (idx0 t 10)) h)) hn

/-- Which blocks a point of the second call reads and writes. -/
theorem idx1 : ∀ (t : Fin cfg1.N) (w : Fin cfg1.W),
    List.ofFn ((cfg1.win w).index t) = if w.1 < 8 then [w.1, t.1, 0] else [8 + t.1, 0] :=
  (by decide +kernel : ∀ (t : Fin grid1.N) (w : Fin cfg1.W), _)

/-- The eight devices' blocks at a point of the second call. -/
def slots1 (t : Fin cfg1.N) : Fin 8 → Vec Ideal S1x256x1266 .bf16 :=
  ![iblk1 V c 0 t, iblk1 V c 1 t, iblk1 V c 2 t, iblk1 V c 3 t, iblk1 V c 4 t, iblk1 V c 5 t, iblk1 V c 6 t, iblk1 V c 7 t]

/-- The blocks of the four results after a point of the second call. -/
def left1 (t : Fin cfg1.N) : Fin 4 → Mat 256 1266 :=
  ![(dat1 V c).after 11 t, (dat1 V c).after 12 t, (dat1 V c).after 13 t, (dat1 V c).after 14 t]

/-- They are what the point stores. -/
theorem stored1 (t : Fin cfg1.N) (q : Fin 4) :
    left1 V c t q = pays (slots1 V c t) (iblk1 V c 8 t) (iblk1 V c 9 t) (iblk1 V c 10 t) q := by
  have h : ∀ q, left1 V c t q = pays
      ![load3 (ms1_0 t) (hs1_0 t) i3 (iblk1 V c 0 t), load3 (ms1_1 t) (hs1_1 t) i3 (iblk1 V c 1 t),
        load3 (ms1_2 t) (hs1_2 t) i3 (iblk1 V c 2 t), load3 (ms1_3 t) (hs1_3 t) i3 (iblk1 V c 3 t),
        load3 (ms1_4 t) (hs1_4 t) i3 (iblk1 V c 4 t), load3 (ms1_5 t) (hs1_5 t) i3 (iblk1 V c 5 t),
        load3 (ms1_6 t) (hs1_6 t) i3 (iblk1 V c 6 t), load3 (ms1_7 t) (hs1_7 t) i3 (iblk1 V c 7 t)]
      (load2 (ms1_8 t) (hs1_8 t) i2 (iblk1 V c 8 t)) (load2 (ms1_9 t) (hs1_9 t) i2 (iblk1 V c 9 t))
      (load2 (ms1_10 t) (hs1_10 t) i2 (iblk1 V c 10 t)) q := fun q => match q with
    | 0 => by
      refine (after1_11 V c t).trans ?_
      unfold outsAt1 out1_A_11
      dsimp only
      refine stored VO1_11 zero2 i2 (pays _ _ _ _ 0) ?_
      sl_kernel_rfl
    | 1 => by
      refine (after1_12 V c t).trans ?_
      unfold outsAt1 out1_A_12
      dsimp only
      refine stored VO1_12 zero2 i2 (pays _ _ _ _ 1) ?_
      sl_kernel_rfl
    | 2 => by
      refine (after1_13 V c t).trans ?_
      unfold outsAt1 out1_A_13
      dsimp only
      refine stored VO1_13 zero2 i2 (pays _ _ _ _ 2) ?_
      sl_kernel_rfl
    | 3 => by
      refine (after1_14 V c t).trans ?_
      unfold outsAt1 out1_A_14
      dsimp only
      refine stored VO1_14 zero2 i2 (pays _ _ _ _ 3) ?_
      sl_kernel_rfl
  simp only [load3_eq, load2_eq] at h
  exact h q

/-- An entry of a device's block at a point of the second call. -/
theorem slot1 (t : Fin cfg1.N) (d : Fin 8) (r : Fin 256) (j : Fin 1266) (Q : Fin 1024) (hQ : Q.1 = 256 * t.1 + r.1) :
    slots1 V c t d (ix3 0 r j) = (V c main_arg2 : S8x1024x1266.Idx → EReal) (ix3 d Q j) :=
  match d with
  | 0 => congrArg (V c main_arg2) (at_slot ((cfg1.win 0).blk t).view.emb 0 r j Q rfl rfl rfl (of3 (idx1 t 0)) hQ)
  | 1 => congrArg (V c main_arg2) (at_slot ((cfg1.win 1).blk t).view.emb 1 r j Q rfl rfl rfl (of3 (idx1 t 1)) hQ)
  | 2 => congrArg (V c main_arg2) (at_slot ((cfg1.win 2).blk t).view.emb 2 r j Q rfl rfl rfl (of3 (idx1 t 2)) hQ)
  | 3 => congrArg (V c main_arg2) (at_slot ((cfg1.win 3).blk t).view.emb 3 r j Q rfl rfl rfl (of3 (idx1 t 3)) hQ)
  | 4 => congrArg (V c main_arg2) (at_slot ((cfg1.win 4).blk t).view.emb 4 r j Q rfl rfl rfl (of3 (idx1 t 4)) hQ)
  | 5 => congrArg (V c main_arg2) (at_slot ((cfg1.win 5).blk t).view.emb 5 r j Q rfl rfl rfl (of3 (idx1 t 5)) hQ)
  | 6 => congrArg (V c main_arg2) (at_slot ((cfg1.win 6).blk t).view.emb 6 r j Q rfl rfl rfl (of3 (idx1 t 6)) hQ)
  | 7 => congrArg (V c main_arg2) (at_slot ((cfg1.win 7).blk t).view.emb 7 r j Q rfl rfl rfl (of3 (idx1 t 7)) hQ)

/-- What the second call writes of each result. -/
theorem wrote1 (q : Fin 4) : Wrote (A := 4096) 8 (fun t => left1 V c t q)
    ((![V c main_v1_0, V c main_v1_1, V c main_v1_2, V c main_v1_3] : Fin 4 → Mat 4096 1266) q)
    ((![(dat1 V c).arrAt 11 cfg1.N, (dat1 V c).arrAt 12 cfg1.N, (dat1 V c).arrAt 13 cfg1.N, (dat1 V c).arrAt 14 cfg1.N] :
      Fin 4 → Mat 4096 1266) q) :=
  match q with
  | 0 => .of (fun t => ((cfg1.win 11).blk t).view.emb) (fun _ _ _ => rfl) (fun _ _ _ => rfl) (fun t => of2 (idx1 t 11))
      (fun t => congrFun (written (dat1 V c) 11 rfl flush1_11 (apart (idx1 · 11)) t))
      (fun i h => (unwritten (dat1 V c) 11 i h).trans (congrFun (A_eq1 V c 11) i))
  | 1 => .of (fun t => ((cfg1.win 12).blk t).view.emb) (fun _ _ _ => rfl) (fun _ _ _ => rfl) (fun t => of2 (idx1 t 12))
      (fun t => congrFun (written (dat1 V c) 12 rfl flush1_12 (apart (idx1 · 12)) t))
      (fun i h => (unwritten (dat1 V c) 12 i h).trans (congrFun (A_eq1 V c 12) i))
  | 2 => .of (fun t => ((cfg1.win 13).blk t).view.emb) (fun _ _ _ => rfl) (fun _ _ _ => rfl) (fun t => of2 (idx1 t 13))
      (fun t => congrFun (written (dat1 V c) 13 rfl flush1_13 (apart (idx1 · 13)) t))
      (fun i h => (unwritten (dat1 V c) 13 i h).trans (congrFun (A_eq1 V c 13) i))
  | 3 => .of (fun t => ((cfg1.win 14).blk t).view.emb) (fun _ _ _ => rfl) (fun _ _ _ => rfl) (fun t => of2 (idx1 t 14))
      (fun t => congrFun (written (dat1 V c) 14 rfl flush1_14 (apart (idx1 · 14)) t))
      (fun i h => (unwritten (dat1 V c) 14 i h).trans (congrFun (A_eq1 V c 14) i))

/-- The second call writes the rows of its layer and leaves the others. -/
theorem pass1 (new : Fin 4096 → Fin 1266 → Fin 4 → EReal)
    (hn : New new 2 (V c main_arg2) (V c main_arg4) (V c main_arg5) (V c main_arg6)) :
    Pass (2 * 1024) (3 * 1024) new ![V c main_v1_0, V c main_v1_1, V c main_v1_2, V c main_v1_3]
      ![(dat1 V c).arrAt 11 cfg1.N, (dat1 V c).arrAt 12 cfg1.N, (dat1 V c).arrAt 13 cfg1.N, (dat1 V c).arrAt 14 cfg1.N] :=
  .of_call (n := cfg1.N) (a := 256) (first := 8) (by decide) (by rw [show cfg1.N = 4 from N_1])
    (by rw [show cfg1.N = 4 from N_1]) (wrote1 V c)
    (fun t q r j => (congrFun (stored1 V c t q) _).trans (pays_at _ _ _ _ r j q)) (slot1 V c)
    (fun t r j R h => congrArg (V c main_arg4) (at_rows ((cfg1.win 8).blk t).view.emb r j R rfl rfl (of2 (idx1 t 8)) h))
    (fun t r j R h => congrArg (V c main_arg5) (at_rows ((cfg1.win 9).blk t).view.emb r j R rfl rfl (of2 (idx1 t 9)) h))
    (fun t r j R h => congrArg (V c main_arg6) (at_rows ((cfg1.win 10).blk t).view.emb r j R rfl rfl (of2 (idx1 t 10)) h)) hn

/-- Which blocks a point of the third call reads and writes. -/
theorem idx2 : ∀ (t : Fin cfg2.N) (w : Fin cfg2.W),
    List.ofFn ((cfg2.win w).index t) = if w.1 < 8 then [w.1, t.1, 0] else [4 + t.1, 0] :=
  (by decide +kernel : ∀ (t : Fin grid2.N) (w : Fin cfg2.W), _)

/-- The eight devices' blocks at a point of the third call. -/
def slots2 (t : Fin cfg2.N) : Fin 8 → Vec Ideal S1x256x1266 .bf16 :=
  ![iblk2 V c 0 t, iblk2 V c 1 t, iblk2 V c 2 t, iblk2 V c 3 t, iblk2 V c 4 t, iblk2 V c 5 t, iblk2 V c 6 t, iblk2 V c 7 t]

/-- The blocks of the four results after a point of the third call. -/
def left2 (t : Fin cfg2.N) : Fin 4 → Mat 256 1266 :=
  ![(dat2 V c).after 11 t, (dat2 V c).after 12 t, (dat2 V c).after 13 t, (dat2 V c).after 14 t]

/-- They are what the point stores. -/
theorem stored2 (t : Fin cfg2.N) (q : Fin 4) :
    left2 V c t q = pays (slots2 V c t) (iblk2 V c 8 t) (iblk2 V c 9 t) (iblk2 V c 10 t) q := by
  have h : ∀ q, left2 V c t q = pays
      ![load3 (ms2_0 t) (hs2_0 t) i3 (iblk2 V c 0 t), load3 (ms2_1 t) (hs2_1 t) i3 (iblk2 V c 1 t),
        load3 (ms2_2 t) (hs2_2 t) i3 (iblk2 V c 2 t), load3 (ms2_3 t) (hs2_3 t) i3 (iblk2 V c 3 t),
        load3 (ms2_4 t) (hs2_4 t) i3 (iblk2 V c 4 t), load3 (ms2_5 t) (hs2_5 t) i3 (iblk2 V c 5 t),
        load3 (ms2_6 t) (hs2_6 t) i3 (iblk2 V c 6 t), load3 (ms2_7 t) (hs2_7 t) i3 (iblk2 V c 7 t)]
      (load2 (ms2_8 t) (hs2_8 t) i2 (iblk2 V c 8 t)) (load2 (ms2_9 t) (hs2_9 t) i2 (iblk2 V c 9 t))
      (load2 (ms2_10 t) (hs2_10 t) i2 (iblk2 V c 10 t)) q := fun q => match q with
    | 0 => by
      refine (after2_11 V c t).trans ?_
      unfold outsAt2 out2_A_11
      dsimp only
      refine stored VO2_11 zero2 i2 (pays _ _ _ _ 0) ?_
      sl_kernel_rfl
    | 1 => by
      refine (after2_12 V c t).trans ?_
      unfold outsAt2 out2_A_12
      dsimp only
      refine stored VO2_12 zero2 i2 (pays _ _ _ _ 1) ?_
      sl_kernel_rfl
    | 2 => by
      refine (after2_13 V c t).trans ?_
      unfold outsAt2 out2_A_13
      dsimp only
      refine stored VO2_13 zero2 i2 (pays _ _ _ _ 2) ?_
      sl_kernel_rfl
    | 3 => by
      refine (after2_14 V c t).trans ?_
      unfold outsAt2 out2_A_14
      dsimp only
      refine stored VO2_14 zero2 i2 (pays _ _ _ _ 3) ?_
      sl_kernel_rfl
  simp only [load3_eq, load2_eq] at h
  exact h q

/-- An entry of a device's block at a point of the third call. -/
theorem slot2 (t : Fin cfg2.N) (d : Fin 8) (r : Fin 256) (j : Fin 1266) (Q : Fin 1024) (hQ : Q.1 = 256 * t.1 + r.1) :
    slots2 V c t d (ix3 0 r j) = (V c main_arg1 : S8x1024x1266.Idx → EReal) (ix3 d Q j) :=
  match d with
  | 0 => congrArg (V c main_arg1) (at_slot ((cfg2.win 0).blk t).view.emb 0 r j Q rfl rfl rfl (of3 (idx2 t 0)) hQ)
  | 1 => congrArg (V c main_arg1) (at_slot ((cfg2.win 1).blk t).view.emb 1 r j Q rfl rfl rfl (of3 (idx2 t 1)) hQ)
  | 2 => congrArg (V c main_arg1) (at_slot ((cfg2.win 2).blk t).view.emb 2 r j Q rfl rfl rfl (of3 (idx2 t 2)) hQ)
  | 3 => congrArg (V c main_arg1) (at_slot ((cfg2.win 3).blk t).view.emb 3 r j Q rfl rfl rfl (of3 (idx2 t 3)) hQ)
  | 4 => congrArg (V c main_arg1) (at_slot ((cfg2.win 4).blk t).view.emb 4 r j Q rfl rfl rfl (of3 (idx2 t 4)) hQ)
  | 5 => congrArg (V c main_arg1) (at_slot ((cfg2.win 5).blk t).view.emb 5 r j Q rfl rfl rfl (of3 (idx2 t 5)) hQ)
  | 6 => congrArg (V c main_arg1) (at_slot ((cfg2.win 6).blk t).view.emb 6 r j Q rfl rfl rfl (of3 (idx2 t 6)) hQ)
  | 7 => congrArg (V c main_arg1) (at_slot ((cfg2.win 7).blk t).view.emb 7 r j Q rfl rfl rfl (of3 (idx2 t 7)) hQ)

/-- What the third call writes of each result. -/
theorem wrote2 (q : Fin 4) : Wrote (A := 4096) 4 (fun t => left2 V c t q)
    ((![V c main_v2_0, V c main_v2_1, V c main_v2_2, V c main_v2_3] : Fin 4 → Mat 4096 1266) q)
    ((![(dat2 V c).arrAt 11 cfg2.N, (dat2 V c).arrAt 12 cfg2.N, (dat2 V c).arrAt 13 cfg2.N, (dat2 V c).arrAt 14 cfg2.N] :
      Fin 4 → Mat 4096 1266) q) :=
  match q with
  | 0 => .of (fun t => ((cfg2.win 11).blk t).view.emb) (fun _ _ _ => rfl) (fun _ _ _ => rfl) (fun t => of2 (idx2 t 11))
      (fun t => congrFun (written (dat2 V c) 11 rfl flush2_11 (apart (idx2 · 11)) t))
      (fun i h => (unwritten (dat2 V c) 11 i h).trans (congrFun (A_eq2 V c 11) i))
  | 1 => .of (fun t => ((cfg2.win 12).blk t).view.emb) (fun _ _ _ => rfl) (fun _ _ _ => rfl) (fun t => of2 (idx2 t 12))
      (fun t => congrFun (written (dat2 V c) 12 rfl flush2_12 (apart (idx2 · 12)) t))
      (fun i h => (unwritten (dat2 V c) 12 i h).trans (congrFun (A_eq2 V c 12) i))
  | 2 => .of (fun t => ((cfg2.win 13).blk t).view.emb) (fun _ _ _ => rfl) (fun _ _ _ => rfl) (fun t => of2 (idx2 t 13))
      (fun t => congrFun (written (dat2 V c) 13 rfl flush2_13 (apart (idx2 · 13)) t))
      (fun i h => (unwritten (dat2 V c) 13 i h).trans (congrFun (A_eq2 V c 13) i))
  | 3 => .of (fun t => ((cfg2.win 14).blk t).view.emb) (fun _ _ _ => rfl) (fun _ _ _ => rfl) (fun t => of2 (idx2 t 14))
      (fun t => congrFun (written (dat2 V c) 14 rfl flush2_14 (apart (idx2 · 14)) t))
      (fun i h => (unwritten (dat2 V c) 14 i h).trans (congrFun (A_eq2 V c 14) i))

/-- The third call writes the rows of its layer and leaves the others. -/
theorem pass2 (new : Fin 4096 → Fin 1266 → Fin 4 → EReal)
    (hn : New new 1 (V c main_arg1) (V c main_arg4) (V c main_arg5) (V c main_arg6)) :
    Pass (1 * 1024) (2 * 1024) new ![V c main_v2_0, V c main_v2_1, V c main_v2_2, V c main_v2_3]
      ![(dat2 V c).arrAt 11 cfg2.N, (dat2 V c).arrAt 12 cfg2.N, (dat2 V c).arrAt 13 cfg2.N, (dat2 V c).arrAt 14 cfg2.N] :=
  .of_call (n := cfg2.N) (a := 256) (first := 4) (by decide) (by rw [show cfg2.N = 4 from N_2])
    (by rw [show cfg2.N = 4 from N_2]) (wrote2 V c)
    (fun t q r j => (congrFun (stored2 V c t q) _).trans (pays_at _ _ _ _ r j q)) (slot2 V c)
    (fun t r j R h => congrArg (V c main_arg4) (at_rows ((cfg2.win 8).blk t).view.emb r j R rfl rfl (of2 (idx2 t 8)) h))
    (fun t r j R h => congrArg (V c main_arg5) (at_rows ((cfg2.win 9).blk t).view.emb r j R rfl rfl (of2 (idx2 t 9)) h))
    (fun t r j R h => congrArg (V c main_arg6) (at_rows ((cfg2.win 10).blk t).view.emb r j R rfl rfl (of2 (idx2 t 10)) h)) hn

/-- Which blocks a point of the fourth call reads and writes. -/
theorem idx3 : ∀ (t : Fin cfg3.N) (w : Fin cfg3.W),
    List.ofFn ((cfg3.win w).index t) = if w.1 < 8 then [w.1, t.1, 0] else [0 + t.1, 0] :=
  (by decide +kernel : ∀ (t : Fin grid3.N) (w : Fin cfg3.W), _)

/-- The eight devices' blocks at a point of the fourth call. -/
def slots3 (t : Fin cfg3.N) : Fin 8 → Vec Ideal S1x256x1266 .bf16 :=
  ![iblk3 V c 0 t, iblk3 V c 1 t, iblk3 V c 2 t, iblk3 V c 3 t, iblk3 V c 4 t, iblk3 V c 5 t, iblk3 V c 6 t, iblk3 V c 7 t]

/-- The blocks of the four results after a point of the fourth call. -/
def left3 (t : Fin cfg3.N) : Fin 4 → Mat 256 1266 :=
  ![(dat3 V c).after 11 t, (dat3 V c).after 12 t, (dat3 V c).after 13 t, (dat3 V c).after 14 t]

/-- They are what the point stores. -/
theorem stored3 (t : Fin cfg3.N) (q : Fin 4) :
    left3 V c t q = pays (slots3 V c t) (iblk3 V c 8 t) (iblk3 V c 9 t) (iblk3 V c 10 t) q := by
  have h : ∀ q, left3 V c t q = pays
      ![load3 (ms3_0 t) (hs3_0 t) i3 (iblk3 V c 0 t), load3 (ms3_1 t) (hs3_1 t) i3 (iblk3 V c 1 t),
        load3 (ms3_2 t) (hs3_2 t) i3 (iblk3 V c 2 t), load3 (ms3_3 t) (hs3_3 t) i3 (iblk3 V c 3 t),
        load3 (ms3_4 t) (hs3_4 t) i3 (iblk3 V c 4 t), load3 (ms3_5 t) (hs3_5 t) i3 (iblk3 V c 5 t),
        load3 (ms3_6 t) (hs3_6 t) i3 (iblk3 V c 6 t), load3 (ms3_7 t) (hs3_7 t) i3 (iblk3 V c 7 t)]
      (load2 (ms3_8 t) (hs3_8 t) i2 (iblk3 V c 8 t)) (load2 (ms3_9 t) (hs3_9 t) i2 (iblk3 V c 9 t))
      (load2 (ms3_10 t) (hs3_10 t) i2 (iblk3 V c 10 t)) q := fun q => match q with
    | 0 => by
      refine (after3_11 V c t).trans ?_
      unfold outsAt3 out3_A_11
      dsimp only
      refine stored VO3_11 zero2 i2 (pays _ _ _ _ 0) ?_
      sl_kernel_rfl
    | 1 => by
      refine (after3_12 V c t).trans ?_
      unfold outsAt3 out3_A_12
      dsimp only
      refine stored VO3_12 zero2 i2 (pays _ _ _ _ 1) ?_
      sl_kernel_rfl
    | 2 => by
      refine (after3_13 V c t).trans ?_
      unfold outsAt3 out3_A_13
      dsimp only
      refine stored VO3_13 zero2 i2 (pays _ _ _ _ 2) ?_
      sl_kernel_rfl
    | 3 => by
      refine (after3_14 V c t).trans ?_
      unfold outsAt3 out3_A_14
      dsimp only
      refine stored VO3_14 zero2 i2 (pays _ _ _ _ 3) ?_
      sl_kernel_rfl
  simp only [load3_eq, load2_eq] at h
  exact h q

/-- An entry of a device's block at a point of the fourth call. -/
theorem slot3 (t : Fin cfg3.N) (d : Fin 8) (r : Fin 256) (j : Fin 1266) (Q : Fin 1024) (hQ : Q.1 = 256 * t.1 + r.1) :
    slots3 V c t d (ix3 0 r j) = (V c main_arg0 : S8x1024x1266.Idx → EReal) (ix3 d Q j) :=
  match d with
  | 0 => congrArg (V c main_arg0) (at_slot ((cfg3.win 0).blk t).view.emb 0 r j Q rfl rfl rfl (of3 (idx3 t 0)) hQ)
  | 1 => congrArg (V c main_arg0) (at_slot ((cfg3.win 1).blk t).view.emb 1 r j Q rfl rfl rfl (of3 (idx3 t 1)) hQ)
  | 2 => congrArg (V c main_arg0) (at_slot ((cfg3.win 2).blk t).view.emb 2 r j Q rfl rfl rfl (of3 (idx3 t 2)) hQ)
  | 3 => congrArg (V c main_arg0) (at_slot ((cfg3.win 3).blk t).view.emb 3 r j Q rfl rfl rfl (of3 (idx3 t 3)) hQ)
  | 4 => congrArg (V c main_arg0) (at_slot ((cfg3.win 4).blk t).view.emb 4 r j Q rfl rfl rfl (of3 (idx3 t 4)) hQ)
  | 5 => congrArg (V c main_arg0) (at_slot ((cfg3.win 5).blk t).view.emb 5 r j Q rfl rfl rfl (of3 (idx3 t 5)) hQ)
  | 6 => congrArg (V c main_arg0) (at_slot ((cfg3.win 6).blk t).view.emb 6 r j Q rfl rfl rfl (of3 (idx3 t 6)) hQ)
  | 7 => congrArg (V c main_arg0) (at_slot ((cfg3.win 7).blk t).view.emb 7 r j Q rfl rfl rfl (of3 (idx3 t 7)) hQ)

/-- What the fourth call writes of each result. -/
theorem wrote3 (q : Fin 4) : Wrote (A := 4096) 0 (fun t => left3 V c t q)
    ((![V c main_v3_0, V c main_v3_1, V c main_v3_2, V c main_v3_3] : Fin 4 → Mat 4096 1266) q)
    ((![(dat3 V c).arrAt 11 cfg3.N, (dat3 V c).arrAt 12 cfg3.N, (dat3 V c).arrAt 13 cfg3.N, (dat3 V c).arrAt 14 cfg3.N] :
      Fin 4 → Mat 4096 1266) q) :=
  match q with
  | 0 => .of (fun t => ((cfg3.win 11).blk t).view.emb) (fun _ _ _ => rfl) (fun _ _ _ => rfl) (fun t => of2 (idx3 t 11))
      (fun t => congrFun (written (dat3 V c) 11 rfl flush3_11 (apart (idx3 · 11)) t))
      (fun i h => (unwritten (dat3 V c) 11 i h).trans (congrFun (A_eq3 V c 11) i))
  | 1 => .of (fun t => ((cfg3.win 12).blk t).view.emb) (fun _ _ _ => rfl) (fun _ _ _ => rfl) (fun t => of2 (idx3 t 12))
      (fun t => congrFun (written (dat3 V c) 12 rfl flush3_12 (apart (idx3 · 12)) t))
      (fun i h => (unwritten (dat3 V c) 12 i h).trans (congrFun (A_eq3 V c 12) i))
  | 2 => .of (fun t => ((cfg3.win 13).blk t).view.emb) (fun _ _ _ => rfl) (fun _ _ _ => rfl) (fun t => of2 (idx3 t 13))
      (fun t => congrFun (written (dat3 V c) 13 rfl flush3_13 (apart (idx3 · 13)) t))
      (fun i h => (unwritten (dat3 V c) 13 i h).trans (congrFun (A_eq3 V c 13) i))
  | 3 => .of (fun t => ((cfg3.win 14).blk t).view.emb) (fun _ _ _ => rfl) (fun _ _ _ => rfl) (fun t => of2 (idx3 t 14))
      (fun t => congrFun (written (dat3 V c) 14 rfl flush3_14 (apart (idx3 · 14)) t))
      (fun i h => (unwritten (dat3 V c) 14 i h).trans (congrFun (A_eq3 V c 14) i))

/-- The fourth call writes the rows of its layer and leaves the others. -/
theorem pass3 (new : Fin 4096 → Fin 1266 → Fin 4 → EReal)
    (hn : New new 0 (V c main_arg0) (V c main_arg4) (V c main_arg5) (V c main_arg6)) :
    Pass (0 * 1024) (1 * 1024) new ![V c main_v3_0, V c main_v3_1, V c main_v3_2, V c main_v3_3]
      ![(dat3 V c).arrAt 11 cfg3.N, (dat3 V c).arrAt 12 cfg3.N, (dat3 V c).arrAt 13 cfg3.N, (dat3 V c).arrAt 14 cfg3.N] :=
  .of_call (n := cfg3.N) (a := 256) (first := 0) (by decide) (by rw [show cfg3.N = 4 from N_3])
    (by rw [show cfg3.N = 4 from N_3]) (wrote3 V c)
    (fun t q r j => (congrFun (stored3 V c t q) _).trans (pays_at _ _ _ _ r j q)) (slot3 V c)
    (fun t r j R h => congrArg (V c main_arg4) (at_rows ((cfg3.win 8).blk t).view.emb r j R rfl rfl (of2 (idx3 t 8)) h))
    (fun t r j R h => congrArg (V c main_arg5) (at_rows ((cfg3.win 9).blk t).view.emb r j R rfl rfl (of2 (idx3 t 9)) h))
    (fun t r j R h => congrArg (V c main_arg6) (at_rows ((cfg3.win 10).blk t).view.emb r j R rfl rfl (of2 (idx3 t 10)) h)) hn

end Calls

/-- The second call starts from the results of the one before it. -/
theorem copied1 (V : Valuation τ sig (Elt Ideal)) :
    StableHlo.after hostOps1 V (Proc.devRef .tc main_v1_0) = V (Proc.devRef .tc main_v0_0)
    ∧ StableHlo.after hostOps1 V (Proc.devRef .tc main_v1_1) = V (Proc.devRef .tc main_v0_1)
    ∧ StableHlo.after hostOps1 V (Proc.devRef .tc main_v1_2) = V (Proc.devRef .tc main_v0_2)
    ∧ StableHlo.after hostOps1 V (Proc.devRef .tc main_v1_3) = V (Proc.devRef .tc main_v0_3) :=
  ⟨rfl, rfl, rfl, rfl⟩

/-- The third call starts from the results of the one before it. -/
theorem copied2 (V : Valuation τ sig (Elt Ideal)) :
    StableHlo.after hostOps2 V (Proc.devRef .tc main_v2_0) = V (Proc.devRef .tc main_v1_0)
    ∧ StableHlo.after hostOps2 V (Proc.devRef .tc main_v2_1) = V (Proc.devRef .tc main_v1_1)
    ∧ StableHlo.after hostOps2 V (Proc.devRef .tc main_v2_2) = V (Proc.devRef .tc main_v1_2)
    ∧ StableHlo.after hostOps2 V (Proc.devRef .tc main_v2_3) = V (Proc.devRef .tc main_v1_3) :=
  ⟨rfl, rfl, rfl, rfl⟩

/-- The fourth call starts from the results of the one before it. -/
theorem copied3 (V : Valuation τ sig (Elt Ideal)) :
    StableHlo.after hostOps3 V (Proc.devRef .tc main_v3_0) = V (Proc.devRef .tc main_v2_0)
    ∧ StableHlo.after hostOps3 V (Proc.devRef .tc main_v3_1) = V (Proc.devRef .tc main_v2_1)
    ∧ StableHlo.after hostOps3 V (Proc.devRef .tc main_v3_2) = V (Proc.devRef .tc main_v2_2)
    ∧ StableHlo.after hostOps3 V (Proc.devRef .tc main_v3_3) = V (Proc.devRef .tc main_v2_3) :=
  ⟨rfl, rfl, rfl, rfl⟩

variable (m : (ℓ : Loc nD τ sig) → Buf (Elt Ideal) ℓ) (ρ : Dev nD → PrngReg) (c : Dev nD)

/-- What the last call leaves of the four results. -/
def res : Fin 4 → Mat 4096 1266 :=
  ![(dat3 (V6 m ρ) c).arrAt 11 cfg3.N, (dat3 (V6 m ρ) c).arrAt 12 cfg3.N, (dat3 (V6 m ρ) c).arrAt 13 cfg3.N, (dat3 (V6 m ρ) c).arrAt 14 cfg3.N]

/-- The four calls update every row of the weight. -/
theorem whole (new : Fin 4096 → Fin 1266 → Fin 4 → EReal)
    (h3 : New new 3 (m (c.tc.loc main_arg3)) (m (c.tc.loc main_arg4)) (m (c.tc.loc main_arg5)) (m (c.tc.loc main_arg6)))
    (h2 : New new 2 (m (c.tc.loc main_arg2)) (m (c.tc.loc main_arg4)) (m (c.tc.loc main_arg5)) (m (c.tc.loc main_arg6)))
    (h1 : New new 1 (m (c.tc.loc main_arg1)) (m (c.tc.loc main_arg4)) (m (c.tc.loc main_arg5)) (m (c.tc.loc main_arg6)))
    (h0 : New new 0 (m (c.tc.loc main_arg0)) (m (c.tc.loc main_arg4)) (m (c.tc.loc main_arg5)) (m (c.tc.loc main_arg6)))
    (q : Fin 4) (R : Fin 4096) (J : Fin 1266) : res m ρ c q (ix2 R J) = new R J q := by
  have p0 := pass0 (V0 m ρ) c new h3
  have p1 := pass1 (V2 m ρ) c new (by
    rw [show V2 m ρ c main_arg2 = _ from W2_args m ρ c main_arg2 (by decide), show V2 m ρ c main_arg4 = _ from W2_args m ρ c main_arg4 (by decide),
      show V2 m ρ c main_arg5 = _ from W2_args m ρ c main_arg5 (by decide), show V2 m ρ c main_arg6 = _ from W2_args m ρ c main_arg6 (by decide)]
    exact h2)
  obtain ⟨c0, c1, c2, c3⟩ := copied1 (W1 m ρ c)
  rw [show V2 m ρ c main_v1_0 = _ from c0.trans (W1_arr m ρ c 11), show V2 m ρ c main_v1_1 = _ from c1.trans (W1_arr m ρ c 12),
    show V2 m ρ c main_v1_2 = _ from c2.trans (W1_arr m ρ c 13), show V2 m ρ c main_v1_3 = _ from c3.trans (W1_arr m ρ c 14)] at p1
  have p2 := pass2 (V4 m ρ) c new (by
    rw [show V4 m ρ c main_arg1 = _ from W4_args m ρ c main_arg1 (by decide), show V4 m ρ c main_arg4 = _ from W4_args m ρ c main_arg4 (by decide),
      show V4 m ρ c main_arg5 = _ from W4_args m ρ c main_arg5 (by decide), show V4 m ρ c main_arg6 = _ from W4_args m ρ c main_arg6 (by decide)]
    exact h1)
  obtain ⟨c0, c1, c2, c3⟩ := copied2 (W3 m ρ c)
  rw [show V4 m ρ c main_v2_0 = _ from c0.trans (W3_arr m ρ c 11), show V4 m ρ c main_v2_1 = _ from c1.trans (W3_arr m ρ c 12),
    show V4 m ρ c main_v2_2 = _ from c2.trans (W3_arr m ρ c 13), show V4 m ρ c main_v2_3 = _ from c3.trans (W3_arr m ρ c 14)] at p2
  have p3 := pass3 (V6 m ρ) c new (by
    rw [show V6 m ρ c main_arg0 = _ from W6_args m ρ c main_arg0 (by decide), show V6 m ρ c main_arg4 = _ from W6_args m ρ c main_arg4 (by decide),
      show V6 m ρ c main_arg5 = _ from W6_args m ρ c main_arg5 (by decide), show V6 m ρ c main_arg6 = _ from W6_args m ρ c main_arg6 (by decide)]
    exact h0)
  obtain ⟨c0, c1, c2, c3⟩ := copied3 (W5 m ρ c)
  rw [show V6 m ρ c main_v3_0 = _ from c0.trans (W5_arr m ρ c 11), show V6 m ρ c main_v3_1 = _ from c1.trans (W5_arr m ρ c 12),
    show V6 m ρ c main_v3_2 = _ from c2.trans (W5_arr m ρ c 13), show V6 m ρ c main_v3_3 = _ from c3.trans (W5_arr m ρ c 14)] at p3
  exact chain rfl p0 p1 p2 p3 q R J

/-- What the reference leaves of the four results. -/
def ref (s : Fin 4 → S8x1024x1266.Idx → EReal) (w m v : S4096x1266.Idx → EReal) : Fin 4 → Mat 4096 1266 :=
  ![StepInRefIdeal.Read.val_main_v2 (F := Ideal) (s 0) (s 1) (s 2) (s 3), StepInRefIdeal.Read.val_main_v26 (F := Ideal) (s 0) (s 1) (s 2) (s 3) w m v,
    StepInRefIdeal.Read.val_main_v7 (F := Ideal) (s 0) (s 1) (s 2) (s 3) m, StepInRefIdeal.Read.val_main_v13 (F := Ideal) (s 0) (s 1) (s 2) (s 3) v]

/-- The reference's four results at the entries of a layer. -/
theorem ref_at (s : Fin 4 → S8x1024x1266.Idx → EReal) (w m v : S4096x1266.Idx → EReal) (k : Fin 4) :
    New (fun R J q => ref s w m v q (ix2 R J)) k.1 (s k) w m v := by
  intro R Q J q hR
  have e : StepInRefIdeal.Read.val_main_v2 (F := Ideal) (s 0) (s 1) (s 2) (s 3) (ix2 R J) = grad fun d => s k (ix3 d Q J) := by
    have h : ∀ d, StepInRefIdeal.Read.val_main_v0 (F := Ideal) (s 0) (s 1) (s 2) (s 3) (ix3 d R J) = s k (ix3 d Q J) := fun d =>
      (joined (s 0) (s 1) (s 2) (s 3) _ k d Q J R hR).trans (match k with | 0 => rfl | 1 => rfl | 2 => rfl | 3 => rfl)
    rw [← funext h]
    unfold grad
    pointwise [StepInRefIdeal.Read.val_main_v2, StepInRefIdeal.Read.val_main_v1, StepInRefIdeal.Read.val_main_cst]
  rw [← e]
  match q with
  | 0 => rfl
  | 1 => rfl
  | 2 => rfl
  | 3 => rfl

/-- The four calls leave what the reference leaves. -/
theorem same (q : Fin 4) : ref ![m (c.tc.loc main_arg0), m (c.tc.loc main_arg1), m (c.tc.loc main_arg2), m (c.tc.loc main_arg3)]
    (m (c.tc.loc main_arg4)) (m (c.tc.loc main_arg5)) (m (c.tc.loc main_arg6)) q = res m ρ c q :=
  mat_ext fun R J => (whole m ρ c (fun R J q => ref _ _ _ _ q (ix2 R J)) (ref_at _ _ _ _ 3) (ref_at _ _ _ _ 2) (ref_at _ _ _ _ 1) (ref_at _ _ _ _ 0) q R J).symm

/-- The four calls run to an end, with every array as the last of them leaves it. -/
theorem ran : θ_run defs (onTc (τ := τ) (main (F := Ideal))) ⟨m, fun _ => 0, ρ⟩ fun r =>
    ∀ c : Dev nD, ∀ b ∈ ucRefs τ sig, r.2.mem ((c : Thread nD τ).1, b) = W7 m ρ c b :=
  runs pcfgs adm (pdats m ρ) cellOf_inj defs₀ m ρ main (segs m ρ) (main_run m ρ)
    (by simp only [segs, Seg.pipes_host, Seg.pipes_region, Seg.pipes_nil]; decide) (W0 m ρ) (W7 m ρ) (fun _ _ => rfl)
    ⟨fun _ => .rfl, fun _ => .rfl, fun _ => .rfl, fun _ => .rfl, fun _ => .rfl, fun _ => .rfl, fun _ => .rfl, fun _ => .rfl⟩

/-- The four calls run to an end and leave the arguments as they were. -/
theorem ends : θ_run defs (onTc (τ := τ) (main (F := Ideal))) ⟨m, fun _ => 0, ρ⟩ fun r => ∀ c : Dev nD,
    r.2.mem (c.tc.loc main_v3_0) = res m ρ c 0 ∧ r.2.mem (c.tc.loc main_v3_1) = res m ρ c 1
    ∧ r.2.mem (c.tc.loc main_v3_2) = res m ρ c 2 ∧ r.2.mem (c.tc.loc main_v3_3) = res m ρ c 3
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) :=
  (θ_run _ _ _).mono (fun r h c =>
    ⟨(h c _ (mem_uc main_v3_0 (by decide))).trans (W7_arr m ρ c 11), (h c _ (mem_uc main_v3_1 (by decide))).trans (W7_arr m ρ c 12),
     (h c _ (mem_uc main_v3_2 (by decide))).trans (W7_arr m ρ c 13), (h c _ (mem_uc main_v3_3 (by decide))).trans (W7_arr m ρ c 14),
     (h c _ (mem_uc main_arg0 (by decide))).trans (W7_main_arg0 m ρ c), (h c _ (mem_uc main_arg1 (by decide))).trans (W7_main_arg1 m ρ c),
     (h c _ (mem_uc main_arg2 (by decide))).trans (W7_main_arg2 m ρ c), (h c _ (mem_uc main_arg3 (by decide))).trans (W7_main_arg3 m ρ c),
     (h c _ (mem_uc main_arg4 (by decide))).trans (W7_main_arg4 m ρ c), (h c _ (mem_uc main_arg5 (by decide))).trans (W7_main_arg5 m ρ c),
     (h c _ (mem_uc main_arg6 (by decide))).trans (W7_main_arg6 m ρ c)⟩) (ran m ρ)

end Cert.Adam.StepIn

end
-- ==== Proof.LayerClaims.lean ====
module

public import proofs.«01_k».proof.Defs
public import proofs.«01_k».proof.Proof.Gen.Square.Frame
public import proofs.«01_k».proof.Proof.Gen.SquareIdeal.Frame
public import proofs.«01_k».proof.Proof.Gen.SquareRefIdeal.Run
public import proofs.«01_k».proof.Proof.AdamSquare
public import proofs.«01_k».proof.Proof.Gen.Pool.Frame
public import proofs.«01_k».proof.Proof.Gen.PoolIdeal.Frame
public import proofs.«01_k».proof.Proof.Gen.PoolRefIdeal.Run
public import proofs.«01_k».proof.Proof.AdamPool
public import proofs.«01_k».proof.Proof.Gen.Mix.Frame
public import proofs.«01_k».proof.Proof.Gen.MixIdeal.Frame
public import proofs.«01_k».proof.Proof.Gen.MixRefIdeal.Run
public import proofs.«01_k».proof.Proof.AdamMix
public import proofs.«01_k».proof.Proof.Gen.StepDown.Frame
public import proofs.«01_k».proof.Proof.Gen.StepDownIdeal.Frame
public import proofs.«01_k».proof.Proof.Gen.StepDownRefIdeal.Run
public import proofs.«01_k».proof.Proof.AdamStepDown
public import proofs.«01_k».proof.Proof.Gen.StepUp.Frame
public import proofs.«01_k».proof.Proof.Gen.StepUpIdeal.Frame
public import proofs.«01_k».proof.Proof.Gen.StepUpRefIdeal.Run
public import proofs.«01_k».proof.Proof.AdamStepUp
public import proofs.«01_k».proof.Proof.Gen.StepIn.Frame
public import proofs.«01_k».proof.Proof.Gen.StepInIdeal.Frame
public import proofs.«01_k».proof.Proof.Gen.StepInRefIdeal.Run
public import proofs.«01_k».proof.Proof.AdamStepIn
public import Idealize.ShloMosaic.Adequacy
public import Idealize.ShloMosaic.Init

@[expose] public section

noncomputable section

/-! # What is claimed of the weight updates that go layer by layer

Each four calls leave, on every device, the four arrays that their reference leaves (`same` of the calls' module). -/

namespace Cert.Proof

open Idealize.ShloMosaic Idealize.ShloMosaic.Pointwise Idealize.ShloMosaic.TcCoe Idealize.ShloMosaic.StableHlo Idealize.SL.Sem

/-- The update of a square weight leaves the reference's four results. -/
theorem algebraic_Square : Cert.algebraic_SquareIdeal_SquareRefIdeal := by
  intro m g m' g' _ hargs
  refine ⟨fun c => Adam.Square.res m g c 0, fun c => Adam.Square.res m g c 1, fun c => Adam.Square.res m g c 2, fun c => Adam.Square.res m g c 3,
    Adam.Square.ends m g, (θ_run _ _ _).mono (fun r h c => ?_) (SquareRefIdeal.Value.run (F := Ideal) m' g')⟩
  obtain ⟨h0, h1, h2, h3, h4⟩ := h c
  obtain ⟨a0, a1, a2, a3, a4, a5, a6⟩ := hargs c
  refine ⟨h0.trans ((SquareRefIdeal.Read.val_main_v2_eq _ _ _ _).trans ?_), h1.trans ((SquareRefIdeal.Read.val_main_v26_eq _ _ _ _ _ _ _).trans ?_),
    h2.trans ((SquareRefIdeal.Read.val_main_v7_eq _ _ _ _ _).trans ?_), h3.trans ((SquareRefIdeal.Read.val_main_v13_eq _ _ _ _ _).trans ?_), h4⟩
  · rw [a0, a1, a2, a3]; exact Adam.Square.same m g c 0
  · rw [a0, a1, a2, a3, a4, a5, a6]; exact Adam.Square.same m g c 1
  · rw [a0, a1, a2, a3, a5]; exact Adam.Square.same m g c 2
  · rw [a0, a1, a2, a3, a6]; exact Adam.Square.same m g c 3

/-- The update of the pooling's weight leaves the reference's four results. -/
theorem algebraic_Pool : Cert.algebraic_PoolIdeal_PoolRefIdeal := by
  intro m g m' g' _ hargs
  refine ⟨fun c => Adam.Pool.res m g c 0, fun c => Adam.Pool.res m g c 1, fun c => Adam.Pool.res m g c 2, fun c => Adam.Pool.res m g c 3,
    Adam.Pool.ends m g, (θ_run _ _ _).mono (fun r h c => ?_) (PoolRefIdeal.Value.run (F := Ideal) m' g')⟩
  obtain ⟨h0, h1, h2, h3, h4⟩ := h c
  obtain ⟨a0, a1, a2, a3, a4, a5, a6⟩ := hargs c
  refine ⟨h0.trans ((PoolRefIdeal.Read.val_main_v2_eq _ _ _ _).trans ?_), h1.trans ((PoolRefIdeal.Read.val_main_v26_eq _ _ _ _ _ _ _).trans ?_),
    h2.trans ((PoolRefIdeal.Read.val_main_v7_eq _ _ _ _ _).trans ?_), h3.trans ((PoolRefIdeal.Read.val_main_v13_eq _ _ _ _ _).trans ?_), h4⟩
  · rw [a0, a1, a2, a3]; exact Adam.Pool.same m g c 0
  · rw [a0, a1, a2, a3, a4, a5, a6]; exact Adam.Pool.same m g c 1
  · rw [a0, a1, a2, a3, a5]; exact Adam.Pool.same m g c 2
  · rw [a0, a1, a2, a3, a6]; exact Adam.Pool.same m g c 3

/-- The update of the attention's output weight leaves the reference's four results. -/
theorem algebraic_Mix : Cert.algebraic_MixIdeal_MixRefIdeal := by
  intro m g m' g' _ hargs
  refine ⟨fun c => Adam.Mix.res m g c 0, fun c => Adam.Mix.res m g c 1, fun c => Adam.Mix.res m g c 2, fun c => Adam.Mix.res m g c 3,
    Adam.Mix.ends m g, (θ_run _ _ _).mono (fun r h c => ?_) (MixRefIdeal.Value.run (F := Ideal) m' g')⟩
  obtain ⟨h0, h1, h2, h3, h4⟩ := h c
  obtain ⟨a0, a1, a2, a3, a4, a5, a6⟩ := hargs c
  refine ⟨h0.trans ((MixRefIdeal.Read.val_main_v2_eq _ _ _ _).trans ?_), h1.trans ((MixRefIdeal.Read.val_main_v26_eq _ _ _ _ _ _ _).trans ?_),
    h2.trans ((MixRefIdeal.Read.val_main_v7_eq _ _ _ _ _).trans ?_), h3.trans ((MixRefIdeal.Read.val_main_v13_eq _ _ _ _ _).trans ?_), h4⟩
  · rw [a0, a1, a2, a3]; exact Adam.Mix.same m g c 0
  · rw [a0, a1, a2, a3, a4, a5, a6]; exact Adam.Mix.same m g c 1
  · rw [a0, a1, a2, a3, a5]; exact Adam.Mix.same m g c 2
  · rw [a0, a1, a2, a3, a6]; exact Adam.Mix.same m g c 3

/-- The update of the lower projection's weight leaves the reference's four results. -/
theorem algebraic_StepDown : Cert.algebraic_StepDownIdeal_StepDownRefIdeal := by
  intro m g m' g' _ hargs
  refine ⟨fun c => Adam.StepDown.res m g c 0, fun c => Adam.StepDown.res m g c 1, fun c => Adam.StepDown.res m g c 2, fun c => Adam.StepDown.res m g c 3,
    Adam.StepDown.ends m g, (θ_run _ _ _).mono (fun r h c => ?_) (StepDownRefIdeal.Value.run (F := Ideal) m' g')⟩
  obtain ⟨h0, h1, h2, h3, h4⟩ := h c
  obtain ⟨a0, a1, a2, a3, a4, a5, a6⟩ := hargs c
  refine ⟨h0.trans ((StepDownRefIdeal.Read.val_main_v2_eq _ _ _ _).trans ?_), h1.trans ((StepDownRefIdeal.Read.val_main_v26_eq _ _ _ _ _ _ _).trans ?_),
    h2.trans ((StepDownRefIdeal.Read.val_main_v7_eq _ _ _ _ _).trans ?_), h3.trans ((StepDownRefIdeal.Read.val_main_v13_eq _ _ _ _ _).trans ?_), h4⟩
  · rw [a0, a1, a2, a3]; exact Adam.StepDown.same m g c 0
  · rw [a0, a1, a2, a3, a4, a5, a6]; exact Adam.StepDown.same m g c 1
  · rw [a0, a1, a2, a3, a5]; exact Adam.StepDown.same m g c 2
  · rw [a0, a1, a2, a3, a6]; exact Adam.StepDown.same m g c 3

/-- The update of the upper projection's weight leaves the reference's four results. -/
theorem algebraic_StepUp : Cert.algebraic_StepUpIdeal_StepUpRefIdeal := by
  intro m g m' g' _ hargs
  refine ⟨fun c => Adam.StepUp.res m g c 0, fun c => Adam.StepUp.res m g c 1, fun c => Adam.StepUp.res m g c 2, fun c => Adam.StepUp.res m g c 3,
    Adam.StepUp.ends m g, (θ_run _ _ _).mono (fun r h c => ?_) (StepUpRefIdeal.Value.run (F := Ideal) m' g')⟩
  obtain ⟨h0, h1, h2, h3, h4⟩ := h c
  obtain ⟨a0, a1, a2, a3, a4, a5, a6⟩ := hargs c
  refine ⟨h0.trans ((StepUpRefIdeal.Read.val_main_v2_eq _ _ _ _).trans ?_), h1.trans ((StepUpRefIdeal.Read.val_main_v26_eq _ _ _ _ _ _ _).trans ?_),
    h2.trans ((StepUpRefIdeal.Read.val_main_v7_eq _ _ _ _ _).trans ?_), h3.trans ((StepUpRefIdeal.Read.val_main_v13_eq _ _ _ _ _).trans ?_), h4⟩
  · rw [a0, a1, a2, a3]; exact Adam.StepUp.same m g c 0
  · rw [a0, a1, a2, a3, a4, a5, a6]; exact Adam.StepUp.same m g c 1
  · rw [a0, a1, a2, a3, a5]; exact Adam.StepUp.same m g c 2
  · rw [a0, a1, a2, a3, a6]; exact Adam.StepUp.same m g c 3

/-- The update of the input projection's weight leaves the reference's four results. -/
theorem algebraic_StepIn : Cert.algebraic_StepInIdeal_StepInRefIdeal := by
  intro m g m' g' _ hargs
  refine ⟨fun c => Adam.StepIn.res m g c 0, fun c => Adam.StepIn.res m g c 1, fun c => Adam.StepIn.res m g c 2, fun c => Adam.StepIn.res m g c 3,
    Adam.StepIn.ends m g, (θ_run _ _ _).mono (fun r h c => ?_) (StepInRefIdeal.Value.run (F := Ideal) m' g')⟩
  obtain ⟨h0, h1, h2, h3, h4⟩ := h c
  obtain ⟨a0, a1, a2, a3, a4, a5, a6⟩ := hargs c
  refine ⟨h0.trans ((StepInRefIdeal.Read.val_main_v2_eq _ _ _ _).trans ?_), h1.trans ((StepInRefIdeal.Read.val_main_v26_eq _ _ _ _ _ _ _).trans ?_),
    h2.trans ((StepInRefIdeal.Read.val_main_v7_eq _ _ _ _ _).trans ?_), h3.trans ((StepInRefIdeal.Read.val_main_v13_eq _ _ _ _ _).trans ?_), h4⟩
  · rw [a0, a1, a2, a3]; exact Adam.StepIn.same m g c 0
  · rw [a0, a1, a2, a3, a4, a5, a6]; exact Adam.StepIn.same m g c 1
  · rw [a0, a1, a2, a3, a5]; exact Adam.StepIn.same m g c 2
  · rw [a0, a1, a2, a3, a6]; exact Adam.StepIn.same m g c 3

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Results
public import proofs.«01_k».proof.Proof.ProductClaims
public import proofs.«01_k».proof.Proof.AdamClaims
public import proofs.«01_k».proof.Proof.LayerClaims
public import Idealize.ShloMosaic.Adequacy
public import Idealize.ShloMosaic.Init

@[expose] public section

noncomputable section

namespace Cert.Proof

open Idealize.ShloMosaic Idealize.ShloMosaic.Pointwise Idealize.ShloMosaic.TcCoe Idealize.ShloMosaic.StableHlo Idealize.SL.Sem
open Cert.Ssd Cert.Prod

/-- Two one-row matrices with the same entries in that row are the same. -/
theorem row_ext {b : ℕ} {f g : (⟨2, ![1, b]⟩ : Shape).Idx → EReal}
    (h : ∀ j, f (ix2 0 j) = g (ix2 0 j)) : f = g :=
  mat_ext fun r j => by rw [Subsingleton.elim r 0]; exact h j

/-- The kernel's five results are the reference's, on every device. -/
theorem algebraic : Cert.algebraic_KernelIdeal_ReferenceIdeal := by
  intro m g m' g' _ hargs
  refine ⟨fun c => (KernelIdeal.Gen.dats m 0 c).arrAt 7 KernelIdeal.cfg0.N,
    fun c => (KernelIdeal.Gen.dats m 0 c).arrAt 8 KernelIdeal.cfg0.N,
    fun c => (KernelIdeal.Gen.dats m 0 c).arrAt 9 KernelIdeal.cfg0.N,
    fun c => (KernelIdeal.Gen.dats m 0 c).arrAt 10 KernelIdeal.cfg0.N,
    fun c => (KernelIdeal.Gen.dats m 0 c).arrAt 11 KernelIdeal.cfg0.N,
    KernelIdeal.Value.run_blocks m g, ?_⟩
  refine (θ_run _ _ _).mono (fun r h c => ?_) (ReferenceIdeal.Value.run (F := Ideal) m' g')
  obtain ⟨h0, h1, h2, h3, h4, h5⟩ := h c
  obtain ⟨a0, a1, a2, a3, a4, a5, a6, a7⟩ := hargs c
  have e0 : launchContents m' c (Proc.devRef .tc ReferenceIdeal.main_arg0) = m ((c.tc : Thread KernelIdeal.nD KernelIdeal.τ).loc KernelIdeal.main_arg0) := a0
  have e1 : launchContents m' c (Proc.devRef .tc ReferenceIdeal.main_arg1) = m ((c.tc : Thread KernelIdeal.nD KernelIdeal.τ).loc KernelIdeal.main_arg1) := a1
  have e2 : launchContents m' c (Proc.devRef .tc ReferenceIdeal.main_arg2) = m ((c.tc : Thread KernelIdeal.nD KernelIdeal.τ).loc KernelIdeal.main_arg2) := a2
  have e3 : launchContents m' c (Proc.devRef .tc ReferenceIdeal.main_arg3) = m ((c.tc : Thread KernelIdeal.nD KernelIdeal.τ).loc KernelIdeal.main_arg3) := a3
  have e4 : launchContents m' c (Proc.devRef .tc ReferenceIdeal.main_arg4) = m ((c.tc : Thread KernelIdeal.nD KernelIdeal.τ).loc KernelIdeal.main_arg4) := a4
  have e5 : launchContents m' c (Proc.devRef .tc ReferenceIdeal.main_arg5) = m ((c.tc : Thread KernelIdeal.nD KernelIdeal.τ).loc KernelIdeal.main_arg5) := a5
  have e6 : launchContents m' c (Proc.devRef .tc ReferenceIdeal.main_arg6) = m ((c.tc : Thread KernelIdeal.nD KernelIdeal.τ).loc KernelIdeal.main_arg6) := a6
  have e7 : launchContents m' c (Proc.devRef .tc ReferenceIdeal.main_arg7) = m ((c.tc : Thread KernelIdeal.nD KernelIdeal.τ).loc KernelIdeal.main_arg7) := a7
  refine ⟨h0.trans ?_, h1.trans ?_, h2.trans ?_, h3.trans ?_, h4.trans ?_, h5⟩
  · refine (ReferenceIdeal.Read.val_main_v327_eq (launchContents m' c)).trans ?_
    rw [e0, e1, e2, e3, e4, e5, e6]
    exact mat_ext fun r j => (ref_dX (argsOf m c) r j).trans (arr7 m c r j).symm
  · refine (ReferenceIdeal.Read.val_main_v332_eq (launchContents m' c)).trans ?_
    rw [e0, e1, e2, e3, e4, e5, e7]
    exact mat_ext fun r j => (ref_dP (argsOf m c) _ r j).trans (arr8 m c r j).symm
  · refine (ReferenceIdeal.Read.val_main_v334_eq (launchContents m' c)).trans ?_
    rw [e0, e1, e2, e3, e4, e5]
    exact row_ext fun j => (ref_da (argsOf m c) j).trans (arr9 m c j).symm
  · refine (ReferenceIdeal.Read.val_main_v336_eq (launchContents m' c)).trans ?_
    rw [e0, e1, e2, e3, e4, e5]
    exact row_ext fun j => (ref_ddtb (argsOf m c) j).trans (arr10 m c j).symm
  · refine (ReferenceIdeal.Read.val_main_v337_eq (launchContents m' c)).trans ?_
    rw [e0, e3]
    exact row_ext fun j => (ref_dD (argsOf m c) j).trans (arr11 m c j).symm

/-- Everything the certificate claims. -/
theorem claim : Cert.Claim := ⟨Cert.Kernel.Gen.facts, Cert.KernelIdeal.Gen.facts, Cert.ReferenceIdeal.Gen.facts,
  Cert.InX.Gen.facts, Cert.InXIdeal.Gen.facts, Cert.InXRefIdeal.Gen.facts,
  Cert.InW.Gen.facts, Cert.InWIdeal.Gen.facts, Cert.InWRefIdeal.Gen.facts,
  Cert.UpX.Gen.facts, Cert.UpXIdeal.Gen.facts, Cert.UpXRefIdeal.Gen.facts,
  Cert.UpW.Gen.facts, Cert.UpWIdeal.Gen.facts, Cert.UpWRefIdeal.Gen.facts,
  Cert.DownX.Gen.facts, Cert.DownXIdeal.Gen.facts, Cert.DownXRefIdeal.Gen.facts,
  Cert.DownW.Gen.facts, Cert.DownWIdeal.Gen.facts, Cert.DownWRefIdeal.Gen.facts,
  Cert.In.Gen.facts, Cert.InIdeal.Gen.facts, Cert.InRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Small.Gen.facts, Cert.SmallIdeal.Gen.facts, Cert.SmallRefIdeal.Gen.facts,
  Cert.ScanConv.Gen.facts, Cert.ScanConvIdeal.Gen.facts, Cert.ScanConvRefIdeal.Gen.facts,
  Cert.FfnConv.Gen.facts, Cert.FfnConvIdeal.Gen.facts, Cert.FfnConvRefIdeal.Gen.facts,
  Cert.Square.Gen.facts, Cert.SquareIdeal.Gen.facts, Cert.SquareRefIdeal.Gen.facts,
  Cert.Pool.Gen.facts, Cert.PoolIdeal.Gen.facts, Cert.PoolRefIdeal.Gen.facts,
  Cert.Mix.Gen.facts, Cert.MixIdeal.Gen.facts, Cert.MixRefIdeal.Gen.facts,
  Cert.StepDown.Gen.facts, Cert.StepDownIdeal.Gen.facts, Cert.StepDownRefIdeal.Gen.facts,
  Cert.StepUp.Gen.facts, Cert.StepUpIdeal.Gen.facts, Cert.StepUpRefIdeal.Gen.facts,
  Cert.StepIn.Gen.facts, Cert.StepInIdeal.Gen.facts, Cert.StepInRefIdeal.Gen.facts,
  fun m ρ _ => Cert.Kernel.Gen.frame m ρ, fun m ρ _ => Cert.KernelIdeal.Gen.frame m ρ,
  fun m ρ _ => (θ_run _ _ _).mono (fun r h => ⟨fun c => (h c).2.2.2.2.2, sem_eq_zero_of_no_sems (by decide) r.2⟩) (Cert.ReferenceIdeal.Value.run m ρ),
  fun m ρ _ => Cert.InX.Gen.frame m ρ, fun m ρ _ => Cert.InXIdeal.Gen.frame m ρ,
  fun m ρ _ => (θ_run _ _ _).mono (fun r h => ⟨fun c => (h c).2, sem_eq_zero_of_no_sems (by decide) r.2⟩) (Cert.InXRefIdeal.Value.run m ρ),
  fun m ρ _ => Cert.InW.Gen.frame m ρ, fun m ρ _ => Cert.InWIdeal.Gen.frame m ρ,
  fun m ρ _ => (θ_run _ _ _).mono (fun r h => ⟨fun c => (h c).2, sem_eq_zero_of_no_sems (by decide) r.2⟩) (Cert.InWRefIdeal.Value.run m ρ),
  fun m ρ _ => Cert.UpX.Gen.frame m ρ, fun m ρ _ => Cert.UpXIdeal.Gen.frame m ρ,
  fun m ρ _ => (θ_run _ _ _).mono (fun r h => ⟨fun c => (h c).2, sem_eq_zero_of_no_sems (by decide) r.2⟩) (Cert.UpXRefIdeal.Value.run m ρ),
  fun m ρ _ => Cert.UpW.Gen.frame m ρ, fun m ρ _ => Cert.UpWIdeal.Gen.frame m ρ,
  fun m ρ _ => (θ_run _ _ _).mono (fun r h => ⟨fun c => (h c).2, sem_eq_zero_of_no_sems (by decide) r.2⟩) (Cert.UpWRefIdeal.Value.run m ρ),
  fun m ρ _ => Cert.DownX.Gen.frame m ρ, fun m ρ _ => Cert.DownXIdeal.Gen.frame m ρ,
  fun m ρ _ => (θ_run _ _ _).mono (fun r h => ⟨fun c => (h c).2, sem_eq_zero_of_no_sems (by decide) r.2⟩) (Cert.DownXRefIdeal.Value.run m ρ),
  fun m ρ _ => Cert.DownW.Gen.frame m ρ, fun m ρ _ => Cert.DownWIdeal.Gen.frame m ρ,
  fun m ρ _ => (θ_run _ _ _).mono (fun r h => ⟨fun c => (h c).2, sem_eq_zero_of_no_sems (by decide) r.2⟩) (Cert.DownWRefIdeal.Value.run m ρ),
  fun m ρ _ => Cert.In.Gen.frame m ρ, fun m ρ _ => Cert.InIdeal.Gen.frame m ρ,
  fun m ρ _ => (θ_run _ _ _).mono (fun r h => ⟨fun c => (h c).2, sem_eq_zero_of_no_sems (by decide) r.2⟩) (Cert.InRefIdeal.Value.run m ρ),
  fun m ρ _ => Cert.Up.Gen.frame m ρ, fun m ρ _ => Cert.UpIdeal.Gen.frame m ρ,
  fun m ρ _ => (θ_run _ _ _).mono (fun r h => ⟨fun c => (h c).2, sem_eq_zero_of_no_sems (by decide) r.2⟩) (Cert.UpRefIdeal.Value.run m ρ),
  fun m ρ _ => Cert.Down.Gen.frame m ρ, fun m ρ _ => Cert.DownIdeal.Gen.frame m ρ,
  fun m ρ _ => (θ_run _ _ _).mono (fun r h => ⟨fun c => (h c).2, sem_eq_zero_of_no_sems (by decide) r.2⟩) (Cert.DownRefIdeal.Value.run m ρ),
  fun m ρ _ => Cert.Small.Gen.frame m ρ, fun m ρ _ => Cert.SmallIdeal.Gen.frame m ρ,
  fun m ρ _ => (θ_run _ _ _).mono (fun r h => ⟨fun c => (h c).2.2.2.2, sem_eq_zero_of_no_sems (by decide) r.2⟩) (Cert.SmallRefIdeal.Value.run m ρ),
  fun m ρ _ => Cert.ScanConv.Gen.frame m ρ, fun m ρ _ => Cert.ScanConvIdeal.Gen.frame m ρ,
  fun m ρ _ => (θ_run _ _ _).mono (fun r h => ⟨fun c => (h c).2.2.2.2, sem_eq_zero_of_no_sems (by decide) r.2⟩) (Cert.ScanConvRefIdeal.Value.run m ρ),
  fun m ρ _ => Cert.FfnConv.Gen.frame m ρ, fun m ρ _ => Cert.FfnConvIdeal.Gen.frame m ρ,
  fun m ρ _ => (θ_run _ _ _).mono (fun r h => ⟨fun c => (h c).2.2.2.2, sem_eq_zero_of_no_sems (by decide) r.2⟩) (Cert.FfnConvRefIdeal.Value.run m ρ),
  fun m ρ _ => Cert.Square.Gen.frame m ρ, fun m ρ _ => Cert.SquareIdeal.Gen.frame m ρ,
  fun m ρ _ => (θ_run _ _ _).mono (fun r h => ⟨fun c => (h c).2.2.2.2, sem_eq_zero_of_no_sems (by decide) r.2⟩) (Cert.SquareRefIdeal.Value.run m ρ),
  fun m ρ _ => Cert.Pool.Gen.frame m ρ, fun m ρ _ => Cert.PoolIdeal.Gen.frame m ρ,
  fun m ρ _ => (θ_run _ _ _).mono (fun r h => ⟨fun c => (h c).2.2.2.2, sem_eq_zero_of_no_sems (by decide) r.2⟩) (Cert.PoolRefIdeal.Value.run m ρ),
  fun m ρ _ => Cert.Mix.Gen.frame m ρ, fun m ρ _ => Cert.MixIdeal.Gen.frame m ρ,
  fun m ρ _ => (θ_run _ _ _).mono (fun r h => ⟨fun c => (h c).2.2.2.2, sem_eq_zero_of_no_sems (by decide) r.2⟩) (Cert.MixRefIdeal.Value.run m ρ),
  fun m ρ _ => Cert.StepDown.Gen.frame m ρ, fun m ρ _ => Cert.StepDownIdeal.Gen.frame m ρ,
  fun m ρ _ => (θ_run _ _ _).mono (fun r h => ⟨fun c => (h c).2.2.2.2, sem_eq_zero_of_no_sems (by decide) r.2⟩) (Cert.StepDownRefIdeal.Value.run m ρ),
  fun m ρ _ => Cert.StepUp.Gen.frame m ρ, fun m ρ _ => Cert.StepUpIdeal.Gen.frame m ρ,
  fun m ρ _ => (θ_run _ _ _).mono (fun r h => ⟨fun c => (h c).2.2.2.2, sem_eq_zero_of_no_sems (by decide) r.2⟩) (Cert.StepUpRefIdeal.Value.run m ρ),
  fun m ρ _ => Cert.StepIn.Gen.frame m ρ, fun m ρ _ => Cert.StepInIdeal.Gen.frame m ρ,
  fun m ρ _ => (θ_run _ _ _).mono (fun r h => ⟨fun c => (h c).2.2.2.2, sem_eq_zero_of_no_sems (by decide) r.2⟩) (Cert.StepInRefIdeal.Value.run m ρ),
  IdealRules.named_const.statement Cert.KernelIdeal.κ "mask" .f32 0xF149F2CA#32 ⊥ rfl,
  algebraic,
  trivial, algebraic_InX,
  trivial, algebraic_InW,
  trivial, algebraic_UpX,
  trivial, algebraic_UpW,
  trivial, algebraic_DownX,
  trivial, algebraic_DownW,
  trivial, algebraic_In,
  trivial, algebraic_Up,
  trivial, algebraic_Down,
  trivial, algebraic_Small,
  trivial, algebraic_ScanConv,
  trivial, algebraic_FfnConv,
  trivial, algebraic_Square,
  trivial, algebraic_Pool,
  trivial, algebraic_Mix,
  trivial, algebraic_StepDown,
  trivial, algebraic_StepUp,
  trivial, algebraic_StepIn⟩

end Cert.Proof

end
